-- ==== Defs.lean ====
def Pre_NormBack (m : (ℓ : Loc Cert.NormBack.nD Cert.NormBack.τ Cert.NormBack.sig) → Buf (Elt Bits) ℓ) : Prop :=
  True

def Pre_NormBackIdeal (m : (ℓ : Loc Cert.NormBackIdeal.nD Cert.NormBackIdeal.τ Cert.NormBackIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_GateBack (m : (ℓ : Loc Cert.GateBack.nD Cert.GateBack.τ Cert.GateBack.sig) → Buf (Elt Bits) ℓ) : Prop :=
  True

def Pre_GateBackIdeal (m : (ℓ : Loc Cert.GateBackIdeal.nD Cert.GateBackIdeal.τ Cert.GateBackIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_LossBack (m : (ℓ : Loc Cert.LossBack.nD Cert.LossBack.τ Cert.LossBack.sig) → Buf (Elt Bits) ℓ) : Prop :=
  True

def Pre_LossBackIdeal (m : (ℓ : Loc Cert.LossBackIdeal.nD Cert.LossBackIdeal.τ Cert.LossBackIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AttnBack (m : (ℓ : Loc Cert.AttnBack.nD Cert.AttnBack.τ Cert.AttnBack.sig) → Buf (Elt Bits) ℓ) : Prop :=
  True

def Pre_AttnBackIdeal (m : (ℓ : Loc Cert.AttnBackIdeal.nD Cert.AttnBackIdeal.τ Cert.AttnBackIdeal.sig) → Buf (Elt Ideal) ℓ) : Prop :=
  True

def Pre_AttnBackIdeal_bounded [hPre_bounded : Cert.Pre_bounded.Facts] (m : (ℓ : Loc Cert.AttnBackIdeal.nD Cert.AttnBackIdeal.τ Cert.AttnBackIdeal.sig) → Buf (Elt Ideal) ℓ) : Prop :=
  ∀ c : Dev Cert.AttnBackIdeal.nD,
    (Cert.Pre_bounded.fn (F := Ideal) (m ((c.tc : Thread Cert.AttnBackIdeal.nD Cert.AttnBackIdeal.τ).loc Cert.AttnBackIdeal.main_arg0)) (m ((c.tc : Thread Cert.AttnBackIdeal.nD Cert.AttnBackIdeal.τ).loc Cert.AttnBackIdeal.main_arg1)) (m ((c.tc : Thread Cert.AttnBackIdeal.nD Cert.AttnBackIdeal.τ).loc Cert.AttnBackIdeal.main_arg2)) (m ((c.tc : Thread Cert.AttnBackIdeal.nD Cert.AttnBackIdeal.τ).loc Cert.AttnBackIdeal.main_arg3))).1 = (fun _ => 1#1)
    ∧ (Cert.Pre_bounded.fn (F := Ideal) (m ((c.tc : Thread Cert.AttnBackIdeal.nD Cert.AttnBackIdeal.τ).loc Cert.AttnBackIdeal.main_arg0)) (m ((c.tc : Thread Cert.AttnBackIdeal.nD Cert.AttnBackIdeal.τ).loc Cert.AttnBackIdeal.main_arg1)) (m ((c.tc : Thread Cert.AttnBackIdeal.nD Cert.AttnBackIdeal.τ).loc Cert.AttnBackIdeal.main_arg2)) (m ((c.tc : Thread Cert.AttnBackIdeal.nD Cert.AttnBackIdeal.τ).loc Cert.AttnBackIdeal.main_arg3))).2.1 = (fun _ => 1#1)
    ∧ (Cert.Pre_bounded.fn (F := Ideal) (m ((c.tc : Thread Cert.AttnBackIdeal.nD Cert.AttnBackIdeal.τ).loc Cert.AttnBackIdeal.main_arg0)) (m ((c.tc : Thread Cert.AttnBackIdeal.nD Cert.AttnBackIdeal.τ).loc Cert.AttnBackIdeal.main_arg1)) (m ((c.tc : Thread Cert.AttnBackIdeal.nD Cert.AttnBackIdeal.τ).loc Cert.AttnBackIdeal.main_arg2)) (m ((c.tc : Thread Cert.AttnBackIdeal.nD Cert.AttnBackIdeal.τ).loc Cert.AttnBackIdeal.main_arg3))).2.2.1 = (fun _ => 1#1)
    ∧ (Cert.Pre_bounded.fn (F := Ideal) (m ((c.tc : Thread Cert.AttnBackIdeal.nD Cert.AttnBackIdeal.τ).loc Cert.AttnBackIdeal.main_arg0)) (m ((c.tc : Thread Cert.AttnBackIdeal.nD Cert.AttnBackIdeal.τ).loc Cert.AttnBackIdeal.main_arg1)) (m ((c.tc : Thread Cert.AttnBackIdeal.nD Cert.AttnBackIdeal.τ).loc Cert.AttnBackIdeal.main_arg2)) (m ((c.tc : Thread Cert.AttnBackIdeal.nD Cert.AttnBackIdeal.τ).loc Cert.AttnBackIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_bounded [hPre_bounded : Cert.Pre_bounded.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_bounded.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_bounded.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_bounded.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_bounded.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_CgateBack (m : (ℓ : Loc Cert.CgateBack.nD Cert.CgateBack.τ Cert.CgateBack.sig) → Buf (Elt Bits) ℓ) : Prop :=
  True

def Pre_CgateBackIdeal (m : (ℓ : Loc Cert.CgateBackIdeal.nD Cert.CgateBackIdeal.τ Cert.CgateBackIdeal.sig) → Buf (Elt Ideal) ℓ) : Prop :=
  True

def Pre_CgateRefIdeal (m : (ℓ : Loc Cert.CgateRefIdeal.nD Cert.CgateRefIdeal.τ Cert.CgateRefIdeal.sig) → Buf (Elt Ideal) ℓ) : Prop :=
  True

def Pre_SguBack (m : (ℓ : Loc Cert.SguBack.nD Cert.SguBack.τ Cert.SguBack.sig) → Buf (Elt Bits) ℓ) : Prop :=
  True

def Pre_SguBackIdeal (m : (ℓ : Loc Cert.SguBackIdeal.nD Cert.SguBackIdeal.τ Cert.SguBackIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_ConvBack (m : (ℓ : Loc Cert.ConvBack.nD Cert.ConvBack.τ Cert.ConvBack.sig) → Buf (Elt Bits) ℓ) : Prop :=
  True

def Pre_ConvBackIdeal (m : (ℓ : Loc Cert.ConvBackIdeal.nD Cert.ConvBackIdeal.τ Cert.ConvBackIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_MlaBack (m : (ℓ : Loc Cert.MlaBack.nD Cert.MlaBack.τ Cert.MlaBack.sig) → Buf (Elt Bits) ℓ) : Prop :=
  True

def Pre_MlaBackIdeal (m : (ℓ : Loc Cert.MlaBackIdeal.nD Cert.MlaBackIdeal.τ Cert.MlaBackIdeal.sig) → Buf (Elt Ideal) ℓ) : Prop :=
  True

def Pre_MlaRefIdeal (m : (ℓ : Loc Cert.MlaRefIdeal.nD Cert.MlaRefIdeal.τ Cert.MlaRefIdeal.sig) → Buf (Elt Ideal) ℓ) : Prop :=
  True

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_PleFwdRefIdeal (m : (ℓ : Loc Cert.PleFwdRefIdeal.nD Cert.PleFwdRefIdeal.τ Cert.PleFwdRefIdeal.sig) → Buf (Elt Ideal) ℓ) : Prop :=
  True

def Pre_CgateFwd (m : (ℓ : Loc Cert.CgateFwd.nD Cert.CgateFwd.τ Cert.CgateFwd.sig) → Buf (Elt Bits) ℓ) : Prop :=
  True

def Pre_CgateFwdIdeal (m : (ℓ : Loc Cert.CgateFwdIdeal.nD Cert.CgateFwdIdeal.τ Cert.CgateFwdIdeal.sig) → Buf (Elt Ideal) ℓ) : Prop :=
  True

def Pre_CgateFwdRefIdeal (m : (ℓ : Loc Cert.CgateFwdRefIdeal.nD Cert.CgateFwdRefIdeal.τ Cert.CgateFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_bounded_scores [hPre_bounded_scores : Cert.Pre_bounded_scores.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_bounded_scores.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_bounded_scores.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_bounded_scores [hPre_bounded_scores : Cert.Pre_bounded_scores.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_bounded_scores.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).1 = (fun _ => 1#1)
    ∧ (Cert.Pre_bounded_scores.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2 = (fun _ => 1#1)

def quiescent_NormBack [hNormBack : Cert.NormBack.Facts] : Prop :=
  ∀ (m : (ℓ : Loc Cert.NormBack.nD Cert.NormBack.τ Cert.NormBack.sig) → Buf (Elt Bits) ℓ) (g : Dev Cert.NormBack.nD → PrngReg), Pre_NormBack m →
    θ_run (Cert.NormBack.defs (F := Bits)) (onTc (τ := Cert.NormBack.τ) (Cert.NormBack.main (F := Bits))) ⟨m, fun _ => 0, g⟩ (fun r => (∀ c : Dev Cert.NormBack.nD,
      r.2.mem ((c.tc : Thread Cert.NormBack.nD Cert.NormBack.τ).loc Cert.NormBack.main_arg0) = m ((c.tc : Thread Cert.NormBack.nD Cert.NormBack.τ).loc Cert.NormBack.main_arg0)
      ∧ r.2.mem ((c.tc : Thread Cert.NormBack.nD Cert.NormBack.τ).loc Cert.NormBack.main_arg1) = m ((c.tc : Thread Cert.NormBack.nD Cert.NormBack.τ).loc Cert.NormBack.main_arg1)
      ∧ r.2.mem ((c.tc : Thread Cert.NormBack.nD Cert.NormBack.τ).loc Cert.NormBack.main_arg2) = m ((c.tc : Thread Cert.NormBack.nD Cert.NormBack.τ).loc Cert.NormBack.main_arg2)
      ∧ r.2.mem ((c.tc : Thread Cert.NormBack.nD Cert.NormBack.τ).loc Cert.NormBack.main_arg3) = m ((c.tc : Thread Cert.NormBack.nD Cert.NormBack.τ).loc Cert.NormBack.main_arg3))
      ∧ r.2.sem = fun _ => 0)

def quiescent_NormBackIdeal [hNormBackIdeal : Cert.NormBackIdeal.Facts] : Prop :=
  ∀ (m : (ℓ : Loc Cert.NormBackIdeal.nD Cert.NormBackIdeal.τ Cert.NormBackIdeal.sig) → Buf (Elt Ideal) ℓ) (g : Dev Cert.NormBackIdeal.nD → PrngReg), Pre_NormBackIdeal m →
    θ_run (Cert.NormBackIdeal.defs (F := Ideal)) (onTc (τ := Cert.NormBackIdeal.τ) (Cert.NormBackIdeal.main (F := Ideal))) ⟨m, fun _ => 0, g⟩ (fun r => (∀ c : Dev Cert.NormBackIdeal.nD,
      r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
      ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
      ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
      ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_GateBack [hGateBack : Cert.GateBack.Facts] : Prop :=
  ∀ (m : (ℓ : Loc Cert.GateBack.nD Cert.GateBack.τ Cert.GateBack.sig) → Buf (Elt Bits) ℓ) (g : Dev Cert.GateBack.nD → PrngReg), Pre_GateBack m →
    θ_run (Cert.GateBack.defs (F := Bits)) (onTc (τ := Cert.GateBack.τ) (Cert.GateBack.main (F := Bits))) ⟨m, fun _ => 0, g⟩ (fun r => (∀ c : Dev Cert.GateBack.nD,
      r.2.mem ((c.tc : Thread Cert.GateBack.nD Cert.GateBack.τ).loc Cert.GateBack.main_arg0) = m ((c.tc : Thread Cert.GateBack.nD Cert.GateBack.τ).loc Cert.GateBack.main_arg0)
      ∧ r.2.mem ((c.tc : Thread Cert.GateBack.nD Cert.GateBack.τ).loc Cert.GateBack.main_arg1) = m ((c.tc : Thread Cert.GateBack.nD Cert.GateBack.τ).loc Cert.GateBack.main_arg1)
      ∧ r.2.mem ((c.tc : Thread Cert.GateBack.nD Cert.GateBack.τ).loc Cert.GateBack.main_arg2) = m ((c.tc : Thread Cert.GateBack.nD Cert.GateBack.τ).loc Cert.GateBack.main_arg2)
      ∧ r.2.mem ((c.tc : Thread Cert.GateBack.nD Cert.GateBack.τ).loc Cert.GateBack.main_arg3) = m ((c.tc : Thread Cert.GateBack.nD Cert.GateBack.τ).loc Cert.GateBack.main_arg3)
      ∧ r.2.mem ((c.tc : Thread Cert.GateBack.nD Cert.GateBack.τ).loc Cert.GateBack.main_arg4) = m ((c.tc : Thread Cert.GateBack.nD Cert.GateBack.τ).loc Cert.GateBack.main_arg4)
      ∧ r.2.mem ((c.tc : Thread Cert.GateBack.nD Cert.GateBack.τ).loc Cert.GateBack.main_arg5) = m ((c.tc : Thread Cert.GateBack.nD Cert.GateBack.τ).loc Cert.GateBack.main_arg5))
      ∧ r.2.sem = fun _ => 0)

def quiescent_GateBackIdeal [hGateBackIdeal : Cert.GateBackIdeal.Facts] : Prop :=
  ∀ (m : (ℓ : Loc Cert.GateBackIdeal.nD Cert.GateBackIdeal.τ Cert.GateBackIdeal.sig) → Buf (Elt Ideal) ℓ) (g : Dev Cert.GateBackIdeal.nD → PrngReg), Pre_GateBackIdeal m →
    θ_run (Cert.GateBackIdeal.defs (F := Ideal)) (onTc (τ := Cert.GateBackIdeal.τ) (Cert.GateBackIdeal.main (F := Ideal))) ⟨m, fun _ => 0, g⟩ (fun r => (∀ c : Dev Cert.GateBackIdeal.nD,
      r.2.mem ((c.tc : Thread Cert.GateBackIdeal.nD Cert.GateBackIdeal.τ).loc Cert.GateBackIdeal.main_arg0) = m ((c.tc : Thread Cert.GateBackIdeal.nD Cert.GateBackIdeal.τ).loc Cert.GateBackIdeal.main_arg0)
      ∧ r.2.mem ((c.tc : Thread Cert.GateBackIdeal.nD Cert.GateBackIdeal.τ).loc Cert.GateBackIdeal.main_arg1) = m ((c.tc : Thread Cert.GateBackIdeal.nD Cert.GateBackIdeal.τ).loc Cert.GateBackIdeal.main_arg1)
      ∧ r.2.mem ((c.tc : Thread Cert.GateBackIdeal.nD Cert.GateBackIdeal.τ).loc Cert.GateBackIdeal.main_arg2) = m ((c.tc : Thread Cert.GateBackIdeal.nD Cert.GateBackIdeal.τ).loc Cert.GateBackIdeal.main_arg2)
      ∧ r.2.mem ((c.tc : Thread Cert.GateBackIdeal.nD Cert.GateBackIdeal.τ).loc Cert.GateBackIdeal.main_arg3) = m ((c.tc : Thread Cert.GateBackIdeal.nD Cert.GateBackIdeal.τ).loc Cert.GateBackIdeal.main_arg3)
      ∧ r.2.mem ((c.tc : Thread Cert.GateBackIdeal.nD Cert.GateBackIdeal.τ).loc Cert.GateBackIdeal.main_arg4) = m ((c.tc : Thread Cert.GateBackIdeal.nD Cert.GateBackIdeal.τ).loc Cert.GateBackIdeal.main_arg4)
      ∧ r.2.mem ((c.tc : Thread Cert.GateBackIdeal.nD Cert.GateBackIdeal.τ).loc Cert.GateBackIdeal.main_arg5) = m ((c.tc : Thread Cert.GateBackIdeal.nD Cert.GateBackIdeal.τ).loc Cert.GateBackIdeal.main_arg5))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_LossBack [hLossBack : Cert.LossBack.Facts] : Prop :=
  ∀ (m : (ℓ : Loc Cert.LossBack.nD Cert.LossBack.τ Cert.LossBack.sig) → Buf (Elt Bits) ℓ) (g : Dev Cert.LossBack.nD → PrngReg), Pre_LossBack m →
    θ_run (Cert.LossBack.defs (F := Bits)) (onTc (τ := Cert.LossBack.τ) (Cert.LossBack.main (F := Bits))) ⟨m, fun _ => 0, g⟩ (fun r => (∀ c : Dev Cert.LossBack.nD,
      r.2.mem ((c.tc : Thread Cert.LossBack.nD Cert.LossBack.τ).loc Cert.LossBack.main_arg0) = m ((c.tc : Thread Cert.LossBack.nD Cert.LossBack.τ).loc Cert.LossBack.main_arg0)
      ∧ r.2.mem ((c.tc : Thread Cert.LossBack.nD Cert.LossBack.τ).loc Cert.LossBack.main_arg1) = m ((c.tc : Thread Cert.LossBack.nD Cert.LossBack.τ).loc Cert.LossBack.main_arg1)
      ∧ r.2.mem ((c.tc : Thread Cert.LossBack.nD Cert.LossBack.τ).loc Cert.LossBack.main_arg2) = m ((c.tc : Thread Cert.LossBack.nD Cert.LossBack.τ).loc Cert.LossBack.main_arg2)
      ∧ r.2.mem ((c.tc : Thread Cert.LossBack.nD Cert.LossBack.τ).loc Cert.LossBack.main_arg3) = m ((c.tc : Thread Cert.LossBack.nD Cert.LossBack.τ).loc Cert.LossBack.main_arg3)
      ∧ r.2.mem ((c.tc : Thread Cert.LossBack.nD Cert.LossBack.τ).loc Cert.LossBack.main_arg4) = m ((c.tc : Thread Cert.LossBack.nD Cert.LossBack.τ).loc Cert.LossBack.main_arg4)
      ∧ r.2.mem ((c.tc : Thread Cert.LossBack.nD Cert.LossBack.τ).loc Cert.LossBack.main_arg5) = m ((c.tc : Thread Cert.LossBack.nD Cert.LossBack.τ).loc Cert.LossBack.main_arg5))
      ∧ r.2.sem = fun _ => 0)

def quiescent_LossBackIdeal [hLossBackIdeal : Cert.LossBackIdeal.Facts] : Prop :=
  ∀ (m : (ℓ : Loc Cert.LossBackIdeal.nD Cert.LossBackIdeal.τ Cert.LossBackIdeal.sig) → Buf (Elt Ideal) ℓ) (g : Dev Cert.LossBackIdeal.nD → PrngReg), Pre_LossBackIdeal m →
    θ_run (Cert.LossBackIdeal.defs (F := Ideal)) (onTc (τ := Cert.LossBackIdeal.τ) (Cert.LossBackIdeal.main (F := Ideal))) ⟨m, fun _ => 0, g⟩ (fun r => (∀ c : Dev Cert.LossBackIdeal.nD,
      r.2.mem ((c.tc : Thread Cert.LossBackIdeal.nD Cert.LossBackIdeal.τ).loc Cert.LossBackIdeal.main_arg0) = m ((c.tc : Thread Cert.LossBackIdeal.nD Cert.LossBackIdeal.τ).loc Cert.LossBackIdeal.main_arg0)
      ∧ r.2.mem ((c.tc : Thread Cert.LossBackIdeal.nD Cert.LossBackIdeal.τ).loc Cert.LossBackIdeal.main_arg1) = m ((c.tc : Thread Cert.LossBackIdeal.nD Cert.LossBackIdeal.τ).loc Cert.LossBackIdeal.main_arg1)
      ∧ r.2.mem ((c.tc : Thread Cert.LossBackIdeal.nD Cert.LossBackIdeal.τ).loc Cert.LossBackIdeal.main_arg2) = m ((c.tc : Thread Cert.LossBackIdeal.nD Cert.LossBackIdeal.τ).loc Cert.LossBackIdeal.main_arg2)
      ∧ r.2.mem ((c.tc : Thread Cert.LossBackIdeal.nD Cert.LossBackIdeal.τ).loc Cert.LossBackIdeal.main_arg3) = m ((c.tc : Thread Cert.LossBackIdeal.nD Cert.LossBackIdeal.τ).loc Cert.LossBackIdeal.main_arg3)
      ∧ r.2.mem ((c.tc : Thread Cert.LossBackIdeal.nD Cert.LossBackIdeal.τ).loc Cert.LossBackIdeal.main_arg4) = m ((c.tc : Thread Cert.LossBackIdeal.nD Cert.LossBackIdeal.τ).loc Cert.LossBackIdeal.main_arg4)
      ∧ r.2.mem ((c.tc : Thread Cert.LossBackIdeal.nD Cert.LossBackIdeal.τ).loc Cert.LossBackIdeal.main_arg5) = m ((c.tc : Thread Cert.LossBackIdeal.nD Cert.LossBackIdeal.τ).loc Cert.LossBackIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_AttnBack [hAttnBack : Cert.AttnBack.Facts] : Prop :=
  ∀ (m : (ℓ : Loc Cert.AttnBack.nD Cert.AttnBack.τ Cert.AttnBack.sig) → Buf (Elt Bits) ℓ) (g : Dev Cert.AttnBack.nD → PrngReg), Pre_AttnBack m →
    θ_run (Cert.AttnBack.defs (F := Bits)) (onTc (τ := Cert.AttnBack.τ) (Cert.AttnBack.main (F := Bits))) ⟨m, fun _ => 0, g⟩ (fun r => (∀ c : Dev Cert.AttnBack.nD,
      r.2.mem ((c.tc : Thread Cert.AttnBack.nD Cert.AttnBack.τ).loc Cert.AttnBack.main_arg0) = m ((c.tc : Thread Cert.AttnBack.nD Cert.AttnBack.τ).loc Cert.AttnBack.main_arg0)
      ∧ r.2.mem ((c.tc : Thread Cert.AttnBack.nD Cert.AttnBack.τ).loc Cert.AttnBack.main_arg1) = m ((c.tc : Thread Cert.AttnBack.nD Cert.AttnBack.τ).loc Cert.AttnBack.main_arg1)
      ∧ r.2.mem ((c.tc : Thread Cert.AttnBack.nD Cert.AttnBack.τ).loc Cert.AttnBack.main_arg2) = m ((c.tc : Thread Cert.AttnBack.nD Cert.AttnBack.τ).loc Cert.AttnBack.main_arg2)
      ∧ r.2.mem ((c.tc : Thread Cert.AttnBack.nD Cert.AttnBack.τ).loc Cert.AttnBack.main_arg3) = m ((c.tc : Thread Cert.AttnBack.nD Cert.AttnBack.τ).loc Cert.AttnBack.main_arg3))
      ∧ r.2.sem = fun _ => 0)

def quiescent_AttnBackIdeal [hAttnBackIdeal : Cert.AttnBackIdeal.Facts] : Prop :=
  ∀ (m : (ℓ : Loc Cert.AttnBackIdeal.nD Cert.AttnBackIdeal.τ Cert.AttnBackIdeal.sig) → Buf (Elt Ideal) ℓ) (g : Dev Cert.AttnBackIdeal.nD → PrngReg), Pre_AttnBackIdeal m →
    θ_run (Cert.AttnBackIdeal.defs (F := Ideal)) (onTc (τ := Cert.AttnBackIdeal.τ) (Cert.AttnBackIdeal.main (F := Ideal))) ⟨m, fun _ => 0, g⟩ (fun r => (∀ c : Dev Cert.AttnBackIdeal.nD,
      r.2.mem ((c.tc : Thread Cert.AttnBackIdeal.nD Cert.AttnBackIdeal.τ).loc Cert.AttnBackIdeal.main_arg0) = m ((c.tc : Thread Cert.AttnBackIdeal.nD Cert.AttnBackIdeal.τ).loc Cert.AttnBackIdeal.main_arg0)
      ∧ r.2.mem ((c.tc : Thread Cert.AttnBackIdeal.nD Cert.AttnBackIdeal.τ).loc Cert.AttnBackIdeal.main_arg1) = m ((c.tc : Thread Cert.AttnBackIdeal.nD Cert.AttnBackIdeal.τ).loc Cert.AttnBackIdeal.main_arg1)
      ∧ r.2.mem ((c.tc : Thread Cert.AttnBackIdeal.nD Cert.AttnBackIdeal.τ).loc Cert.AttnBackIdeal.main_arg2) = m ((c.tc : Thread Cert.AttnBackIdeal.nD Cert.AttnBackIdeal.τ).loc Cert.AttnBackIdeal.main_arg2)
      ∧ r.2.mem ((c.tc : Thread Cert.AttnBackIdeal.nD Cert.AttnBackIdeal.τ).loc Cert.AttnBackIdeal.main_arg3) = m ((c.tc : Thread Cert.AttnBackIdeal.nD Cert.AttnBackIdeal.τ).loc Cert.AttnBackIdeal.main_arg3))
      ∧ r.2.sem = fun _ => 0)

def quiescent_AttnBackIdeal_pre_bounded [hAttnBackIdeal : Cert.AttnBackIdeal.Facts] [hPre_bounded : Cert.Pre_bounded.Facts] : Prop :=
  ∀ (m : (ℓ : Loc Cert.AttnBackIdeal.nD Cert.AttnBackIdeal.τ Cert.AttnBackIdeal.sig) → Buf (Elt Ideal) ℓ) (g : Dev Cert.AttnBackIdeal.nD → PrngReg), Pre_AttnBackIdeal_bounded m →
    θ_run (Cert.AttnBackIdeal.defs (F := Ideal)) (onTc (τ := Cert.AttnBackIdeal.τ) (Cert.AttnBackIdeal.main (F := Ideal))) ⟨m, fun _ => 0, g⟩ (fun r => (∀ c : Dev Cert.AttnBackIdeal.nD,
      r.2.mem ((c.tc : Thread Cert.AttnBackIdeal.nD Cert.AttnBackIdeal.τ).loc Cert.AttnBackIdeal.main_arg0) = m ((c.tc : Thread Cert.AttnBackIdeal.nD Cert.AttnBackIdeal.τ).loc Cert.AttnBackIdeal.main_arg0)
      ∧ r.2.mem ((c.tc : Thread Cert.AttnBackIdeal.nD Cert.AttnBackIdeal.τ).loc Cert.AttnBackIdeal.main_arg1) = m ((c.tc : Thread Cert.AttnBackIdeal.nD Cert.AttnBackIdeal.τ).loc Cert.AttnBackIdeal.main_arg1)
      ∧ r.2.mem ((c.tc : Thread Cert.AttnBackIdeal.nD Cert.AttnBackIdeal.τ).loc Cert.AttnBackIdeal.main_arg2) = m ((c.tc : Thread Cert.AttnBackIdeal.nD Cert.AttnBackIdeal.τ).loc Cert.AttnBackIdeal.main_arg2)
      ∧ r.2.mem ((c.tc : Thread Cert.AttnBackIdeal.nD Cert.AttnBackIdeal.τ).loc Cert.AttnBackIdeal.main_arg3) = m ((c.tc : Thread Cert.AttnBackIdeal.nD Cert.AttnBackIdeal.τ).loc Cert.AttnBackIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_bounded [hAttnRefIdeal : Cert.AttnRefIdeal.Facts] [hPre_bounded : Cert.Pre_bounded.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_bounded m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_CgateBack [hCgateBack : Cert.CgateBack.Facts] : Prop :=
  ∀ (m : (ℓ : Loc Cert.CgateBack.nD Cert.CgateBack.τ Cert.CgateBack.sig) → Buf (Elt Bits) ℓ) (g : Dev Cert.CgateBack.nD → PrngReg), Pre_CgateBack m →
    θ_run (Cert.CgateBack.defs (F := Bits)) (onTc (τ := Cert.CgateBack.τ) (Cert.CgateBack.main (F := Bits))) ⟨m, fun _ => 0, g⟩ (fun r => (∀ c : Dev Cert.CgateBack.nD,
      r.2.mem ((c.tc : Thread Cert.CgateBack.nD Cert.CgateBack.τ).loc Cert.CgateBack.main_arg0) = m ((c.tc : Thread Cert.CgateBack.nD Cert.CgateBack.τ).loc Cert.CgateBack.main_arg0)
      ∧ r.2.mem ((c.tc : Thread Cert.CgateBack.nD Cert.CgateBack.τ).loc Cert.CgateBack.main_arg1) = m ((c.tc : Thread Cert.CgateBack.nD Cert.CgateBack.τ).loc Cert.CgateBack.main_arg1)
      ∧ r.2.mem ((c.tc : Thread Cert.CgateBack.nD Cert.CgateBack.τ).loc Cert.CgateBack.main_arg2) = m ((c.tc : Thread Cert.CgateBack.nD Cert.CgateBack.τ).loc Cert.CgateBack.main_arg2)
      ∧ r.2.mem ((c.tc : Thread Cert.CgateBack.nD Cert.CgateBack.τ).loc Cert.CgateBack.main_arg3) = m ((c.tc : Thread Cert.CgateBack.nD Cert.CgateBack.τ).loc Cert.CgateBack.main_arg3)
      ∧ r.2.mem ((c.tc : Thread Cert.CgateBack.nD Cert.CgateBack.τ).loc Cert.CgateBack.main_arg4) = m ((c.tc : Thread Cert.CgateBack.nD Cert.CgateBack.τ).loc Cert.CgateBack.main_arg4))
      ∧ r.2.sem = fun _ => 0)

def quiescent_CgateBackIdeal [hCgateBackIdeal : Cert.CgateBackIdeal.Facts] : Prop :=
  ∀ (m : (ℓ : Loc Cert.CgateBackIdeal.nD Cert.CgateBackIdeal.τ Cert.CgateBackIdeal.sig) → Buf (Elt Ideal) ℓ) (g : Dev Cert.CgateBackIdeal.nD → PrngReg), Pre_CgateBackIdeal m →
    θ_run (Cert.CgateBackIdeal.defs (F := Ideal)) (onTc (τ := Cert.CgateBackIdeal.τ) (Cert.CgateBackIdeal.main (F := Ideal))) ⟨m, fun _ => 0, g⟩ (fun r => (∀ c : Dev Cert.CgateBackIdeal.nD,
      r.2.mem ((c.tc : Thread Cert.CgateBackIdeal.nD Cert.CgateBackIdeal.τ).loc Cert.CgateBackIdeal.main_arg0) = m ((c.tc : Thread Cert.CgateBackIdeal.nD Cert.CgateBackIdeal.τ).loc Cert.CgateBackIdeal.main_arg0)
      ∧ r.2.mem ((c.tc : Thread Cert.CgateBackIdeal.nD Cert.CgateBackIdeal.τ).loc Cert.CgateBackIdeal.main_arg1) = m ((c.tc : Thread Cert.CgateBackIdeal.nD Cert.CgateBackIdeal.τ).loc Cert.CgateBackIdeal.main_arg1)
      ∧ r.2.mem ((c.tc : Thread Cert.CgateBackIdeal.nD Cert.CgateBackIdeal.τ).loc Cert.CgateBackIdeal.main_arg2) = m ((c.tc : Thread Cert.CgateBackIdeal.nD Cert.CgateBackIdeal.τ).loc Cert.CgateBackIdeal.main_arg2)
      ∧ r.2.mem ((c.tc : Thread Cert.CgateBackIdeal.nD Cert.CgateBackIdeal.τ).loc Cert.CgateBackIdeal.main_arg3) = m ((c.tc : Thread Cert.CgateBackIdeal.nD Cert.CgateBackIdeal.τ).loc Cert.CgateBackIdeal.main_arg3)
      ∧ r.2.mem ((c.tc : Thread Cert.CgateBackIdeal.nD Cert.CgateBackIdeal.τ).loc Cert.CgateBackIdeal.main_arg4) = m ((c.tc : Thread Cert.CgateBackIdeal.nD Cert.CgateBackIdeal.τ).loc Cert.CgateBackIdeal.main_arg4))
      ∧ r.2.sem = fun _ => 0)

def quiescent_CgateRefIdeal [hCgateRefIdeal : Cert.CgateRefIdeal.Facts] : Prop :=
  ∀ (m : (ℓ : Loc Cert.CgateRefIdeal.nD Cert.CgateRefIdeal.τ Cert.CgateRefIdeal.sig) → Buf (Elt Ideal) ℓ) (g : Dev Cert.CgateRefIdeal.nD → PrngReg), Pre_CgateRefIdeal m →
    θ_run (Cert.CgateRefIdeal.defs (F := Ideal)) (onTc (τ := Cert.CgateRefIdeal.τ) (Cert.CgateRefIdeal.main (F := Ideal))) ⟨m, fun _ => 0, g⟩ (fun r => (∀ c : Dev Cert.CgateRefIdeal.nD,
      r.2.mem ((c.tc : Thread Cert.CgateRefIdeal.nD Cert.CgateRefIdeal.τ).loc Cert.CgateRefIdeal.main_arg0) = m ((c.tc : Thread Cert.CgateRefIdeal.nD Cert.CgateRefIdeal.τ).loc Cert.CgateRefIdeal.main_arg0)
      ∧ r.2.mem ((c.tc : Thread Cert.CgateRefIdeal.nD Cert.CgateRefIdeal.τ).loc Cert.CgateRefIdeal.main_arg1) = m ((c.tc : Thread Cert.CgateRefIdeal.nD Cert.CgateRefIdeal.τ).loc Cert.CgateRefIdeal.main_arg1)
      ∧ r.2.mem ((c.tc : Thread Cert.CgateRefIdeal.nD Cert.CgateRefIdeal.τ).loc Cert.CgateRefIdeal.main_arg2) = m ((c.tc : Thread Cert.CgateRefIdeal.nD Cert.CgateRefIdeal.τ).loc Cert.CgateRefIdeal.main_arg2)
      ∧ r.2.mem ((c.tc : Thread Cert.CgateRefIdeal.nD Cert.CgateRefIdeal.τ).loc Cert.CgateRefIdeal.main_arg3) = m ((c.tc : Thread Cert.CgateRefIdeal.nD Cert.CgateRefIdeal.τ).loc Cert.CgateRefIdeal.main_arg3)
      ∧ r.2.mem ((c.tc : Thread Cert.CgateRefIdeal.nD Cert.CgateRefIdeal.τ).loc Cert.CgateRefIdeal.main_arg4) = m ((c.tc : Thread Cert.CgateRefIdeal.nD Cert.CgateRefIdeal.τ).loc Cert.CgateRefIdeal.main_arg4))
      ∧ r.2.sem = fun _ => 0)

def quiescent_SguBack [hSguBack : Cert.SguBack.Facts] : Prop :=
  ∀ (m : (ℓ : Loc Cert.SguBack.nD Cert.SguBack.τ Cert.SguBack.sig) → Buf (Elt Bits) ℓ) (g : Dev Cert.SguBack.nD → PrngReg), Pre_SguBack m →
    θ_run (Cert.SguBack.defs (F := Bits)) (onTc (τ := Cert.SguBack.τ) (Cert.SguBack.main (F := Bits))) ⟨m, fun _ => 0, g⟩ (fun r => (∀ c : Dev Cert.SguBack.nD,
      r.2.mem ((c.tc : Thread Cert.SguBack.nD Cert.SguBack.τ).loc Cert.SguBack.main_arg0) = m ((c.tc : Thread Cert.SguBack.nD Cert.SguBack.τ).loc Cert.SguBack.main_arg0)
      ∧ r.2.mem ((c.tc : Thread Cert.SguBack.nD Cert.SguBack.τ).loc Cert.SguBack.main_arg1) = m ((c.tc : Thread Cert.SguBack.nD Cert.SguBack.τ).loc Cert.SguBack.main_arg1)
      ∧ r.2.mem ((c.tc : Thread Cert.SguBack.nD Cert.SguBack.τ).loc Cert.SguBack.main_arg2) = m ((c.tc : Thread Cert.SguBack.nD Cert.SguBack.τ).loc Cert.SguBack.main_arg2)
      ∧ r.2.mem ((c.tc : Thread Cert.SguBack.nD Cert.SguBack.τ).loc Cert.SguBack.main_arg3) = m ((c.tc : Thread Cert.SguBack.nD Cert.SguBack.τ).loc Cert.SguBack.main_arg3)
      ∧ r.2.mem ((c.tc : Thread Cert.SguBack.nD Cert.SguBack.τ).loc Cert.SguBack.main_arg4) = m ((c.tc : Thread Cert.SguBack.nD Cert.SguBack.τ).loc Cert.SguBack.main_arg4)
      ∧ r.2.mem ((c.tc : Thread Cert.SguBack.nD Cert.SguBack.τ).loc Cert.SguBack.main_arg5) = m ((c.tc : Thread Cert.SguBack.nD Cert.SguBack.τ).loc Cert.SguBack.main_arg5)
      ∧ r.2.mem ((c.tc : Thread Cert.SguBack.nD Cert.SguBack.τ).loc Cert.SguBack.main_arg6) = m ((c.tc : Thread Cert.SguBack.nD Cert.SguBack.τ).loc Cert.SguBack.main_arg6))
      ∧ r.2.sem = fun _ => 0)

def quiescent_SguBackIdeal [hSguBackIdeal : Cert.SguBackIdeal.Facts] : Prop :=
  ∀ (m : (ℓ : Loc Cert.SguBackIdeal.nD Cert.SguBackIdeal.τ Cert.SguBackIdeal.sig) → Buf (Elt Ideal) ℓ) (g : Dev Cert.SguBackIdeal.nD → PrngReg), Pre_SguBackIdeal m →
    θ_run (Cert.SguBackIdeal.defs (F := Ideal)) (onTc (τ := Cert.SguBackIdeal.τ) (Cert.SguBackIdeal.main (F := Ideal))) ⟨m, fun _ => 0, g⟩ (fun r => (∀ c : Dev Cert.SguBackIdeal.nD,
      r.2.mem ((c.tc : Thread Cert.SguBackIdeal.nD Cert.SguBackIdeal.τ).loc Cert.SguBackIdeal.main_arg0) = m ((c.tc : Thread Cert.SguBackIdeal.nD Cert.SguBackIdeal.τ).loc Cert.SguBackIdeal.main_arg0)
      ∧ r.2.mem ((c.tc : Thread Cert.SguBackIdeal.nD Cert.SguBackIdeal.τ).loc Cert.SguBackIdeal.main_arg1) = m ((c.tc : Thread Cert.SguBackIdeal.nD Cert.SguBackIdeal.τ).loc Cert.SguBackIdeal.main_arg1)
      ∧ r.2.mem ((c.tc : Thread Cert.SguBackIdeal.nD Cert.SguBackIdeal.τ).loc Cert.SguBackIdeal.main_arg2) = m ((c.tc : Thread Cert.SguBackIdeal.nD Cert.SguBackIdeal.τ).loc Cert.SguBackIdeal.main_arg2)
      ∧ r.2.mem ((c.tc : Thread Cert.SguBackIdeal.nD Cert.SguBackIdeal.τ).loc Cert.SguBackIdeal.main_arg3) = m ((c.tc : Thread Cert.SguBackIdeal.nD Cert.SguBackIdeal.τ).loc Cert.SguBackIdeal.main_arg3)
      ∧ r.2.mem ((c.tc : Thread Cert.SguBackIdeal.nD Cert.SguBackIdeal.τ).loc Cert.SguBackIdeal.main_arg4) = m ((c.tc : Thread Cert.SguBackIdeal.nD Cert.SguBackIdeal.τ).loc Cert.SguBackIdeal.main_arg4)
      ∧ r.2.mem ((c.tc : Thread Cert.SguBackIdeal.nD Cert.SguBackIdeal.τ).loc Cert.SguBackIdeal.main_arg5) = m ((c.tc : Thread Cert.SguBackIdeal.nD Cert.SguBackIdeal.τ).loc Cert.SguBackIdeal.main_arg5)
      ∧ r.2.mem ((c.tc : Thread Cert.SguBackIdeal.nD Cert.SguBackIdeal.τ).loc Cert.SguBackIdeal.main_arg6) = m ((c.tc : Thread Cert.SguBackIdeal.nD Cert.SguBackIdeal.τ).loc Cert.SguBackIdeal.main_arg6))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6))
      ∧ r.2.sem = fun _ => 0)

def quiescent_ConvBack [hConvBack : Cert.ConvBack.Facts] : Prop :=
  ∀ (m : (ℓ : Loc Cert.ConvBack.nD Cert.ConvBack.τ Cert.ConvBack.sig) → Buf (Elt Bits) ℓ) (g : Dev Cert.ConvBack.nD → PrngReg), Pre_ConvBack m →
    θ_run (Cert.ConvBack.defs (F := Bits)) (onTc (τ := Cert.ConvBack.τ) (Cert.ConvBack.main (F := Bits))) ⟨m, fun _ => 0, g⟩ (fun r => (∀ c : Dev Cert.ConvBack.nD,
      r.2.mem ((c.tc : Thread Cert.ConvBack.nD Cert.ConvBack.τ).loc Cert.ConvBack.main_arg0) = m ((c.tc : Thread Cert.ConvBack.nD Cert.ConvBack.τ).loc Cert.ConvBack.main_arg0)
      ∧ r.2.mem ((c.tc : Thread Cert.ConvBack.nD Cert.ConvBack.τ).loc Cert.ConvBack.main_arg1) = m ((c.tc : Thread Cert.ConvBack.nD Cert.ConvBack.τ).loc Cert.ConvBack.main_arg1)
      ∧ r.2.mem ((c.tc : Thread Cert.ConvBack.nD Cert.ConvBack.τ).loc Cert.ConvBack.main_arg2) = m ((c.tc : Thread Cert.ConvBack.nD Cert.ConvBack.τ).loc Cert.ConvBack.main_arg2)
      ∧ r.2.mem ((c.tc : Thread Cert.ConvBack.nD Cert.ConvBack.τ).loc Cert.ConvBack.main_arg3) = m ((c.tc : Thread Cert.ConvBack.nD Cert.ConvBack.τ).loc Cert.ConvBack.main_arg3)
      ∧ r.2.mem ((c.tc : Thread Cert.ConvBack.nD Cert.ConvBack.τ).loc Cert.ConvBack.main_arg4) = m ((c.tc : Thread Cert.ConvBack.nD Cert.ConvBack.τ).loc Cert.ConvBack.main_arg4))
      ∧ r.2.sem = fun _ => 0)

def quiescent_ConvBackIdeal [hConvBackIdeal : Cert.ConvBackIdeal.Facts] : Prop :=
  ∀ (m : (ℓ : Loc Cert.ConvBackIdeal.nD Cert.ConvBackIdeal.τ Cert.ConvBackIdeal.sig) → Buf (Elt Ideal) ℓ) (g : Dev Cert.ConvBackIdeal.nD → PrngReg), Pre_ConvBackIdeal m →
    θ_run (Cert.ConvBackIdeal.defs (F := Ideal)) (onTc (τ := Cert.ConvBackIdeal.τ) (Cert.ConvBackIdeal.main (F := Ideal))) ⟨m, fun _ => 0, g⟩ (fun r => (∀ c : Dev Cert.ConvBackIdeal.nD,
      r.2.mem ((c.tc : Thread Cert.ConvBackIdeal.nD Cert.ConvBackIdeal.τ).loc Cert.ConvBackIdeal.main_arg0) = m ((c.tc : Thread Cert.ConvBackIdeal.nD Cert.ConvBackIdeal.τ).loc Cert.ConvBackIdeal.main_arg0)
      ∧ r.2.mem ((c.tc : Thread Cert.ConvBackIdeal.nD Cert.ConvBackIdeal.τ).loc Cert.ConvBackIdeal.main_arg1) = m ((c.tc : Thread Cert.ConvBackIdeal.nD Cert.ConvBackIdeal.τ).loc Cert.ConvBackIdeal.main_arg1)
      ∧ r.2.mem ((c.tc : Thread Cert.ConvBackIdeal.nD Cert.ConvBackIdeal.τ).loc Cert.ConvBackIdeal.main_arg2) = m ((c.tc : Thread Cert.ConvBackIdeal.nD Cert.ConvBackIdeal.τ).loc Cert.ConvBackIdeal.main_arg2)
      ∧ r.2.mem ((c.tc : Thread Cert.ConvBackIdeal.nD Cert.ConvBackIdeal.τ).loc Cert.ConvBackIdeal.main_arg3) = m ((c.tc : Thread Cert.ConvBackIdeal.nD Cert.ConvBackIdeal.τ).loc Cert.ConvBackIdeal.main_arg3)
      ∧ r.2.mem ((c.tc : Thread Cert.ConvBackIdeal.nD Cert.ConvBackIdeal.τ).loc Cert.ConvBackIdeal.main_arg4) = m ((c.tc : Thread Cert.ConvBackIdeal.nD Cert.ConvBackIdeal.τ).loc Cert.ConvBackIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_MlaBack [hMlaBack : Cert.MlaBack.Facts] : Prop :=
  ∀ (m : (ℓ : Loc Cert.MlaBack.nD Cert.MlaBack.τ Cert.MlaBack.sig) → Buf (Elt Bits) ℓ) (g : Dev Cert.MlaBack.nD → PrngReg), Pre_MlaBack m →
    θ_run (Cert.MlaBack.defs (F := Bits)) (onTc (τ := Cert.MlaBack.τ) (Cert.MlaBack.main (F := Bits))) ⟨m, fun _ => 0, g⟩ (fun r => (∀ c : Dev Cert.MlaBack.nD,
      r.2.mem ((c.tc : Thread Cert.MlaBack.nD Cert.MlaBack.τ).loc Cert.MlaBack.main_arg0) = m ((c.tc : Thread Cert.MlaBack.nD Cert.MlaBack.τ).loc Cert.MlaBack.main_arg0)
      ∧ r.2.mem ((c.tc : Thread Cert.MlaBack.nD Cert.MlaBack.τ).loc Cert.MlaBack.main_arg1) = m ((c.tc : Thread Cert.MlaBack.nD Cert.MlaBack.τ).loc Cert.MlaBack.main_arg1)
      ∧ r.2.mem ((c.tc : Thread Cert.MlaBack.nD Cert.MlaBack.τ).loc Cert.MlaBack.main_arg2) = m ((c.tc : Thread Cert.MlaBack.nD Cert.MlaBack.τ).loc Cert.MlaBack.main_arg2)
      ∧ r.2.mem ((c.tc : Thread Cert.MlaBack.nD Cert.MlaBack.τ).loc Cert.MlaBack.main_arg3) = m ((c.tc : Thread Cert.MlaBack.nD Cert.MlaBack.τ).loc Cert.MlaBack.main_arg3)
      ∧ r.2.mem ((c.tc : Thread Cert.MlaBack.nD Cert.MlaBack.τ).loc Cert.MlaBack.main_arg4) = m ((c.tc : Thread Cert.MlaBack.nD Cert.MlaBack.τ).loc Cert.MlaBack.main_arg4)
      ∧ r.2.mem ((c.tc : Thread Cert.MlaBack.nD Cert.MlaBack.τ).loc Cert.MlaBack.main_arg5) = m ((c.tc : Thread Cert.MlaBack.nD Cert.MlaBack.τ).loc Cert.MlaBack.main_arg5)
      ∧ r.2.mem ((c.tc : Thread Cert.MlaBack.nD Cert.MlaBack.τ).loc Cert.MlaBack.main_arg6) = m ((c.tc : Thread Cert.MlaBack.nD Cert.MlaBack.τ).loc Cert.MlaBack.main_arg6)
      ∧ r.2.mem ((c.tc : Thread Cert.MlaBack.nD Cert.MlaBack.τ).loc Cert.MlaBack.main_arg7) = m ((c.tc : Thread Cert.MlaBack.nD Cert.MlaBack.τ).loc Cert.MlaBack.main_arg7)
      ∧ r.2.mem ((c.tc : Thread Cert.MlaBack.nD Cert.MlaBack.τ).loc Cert.MlaBack.main_arg8) = m ((c.tc : Thread Cert.MlaBack.nD Cert.MlaBack.τ).loc Cert.MlaBack.main_arg8)
      ∧ r.2.mem ((c.tc : Thread Cert.MlaBack.nD Cert.MlaBack.τ).loc Cert.MlaBack.main_arg9) = m ((c.tc : Thread Cert.MlaBack.nD Cert.MlaBack.τ).loc Cert.MlaBack.main_arg9)
      ∧ r.2.mem ((c.tc : Thread Cert.MlaBack.nD Cert.MlaBack.τ).loc Cert.MlaBack.main_arg10) = m ((c.tc : Thread Cert.MlaBack.nD Cert.MlaBack.τ).loc Cert.MlaBack.main_arg10)
      ∧ r.2.mem ((c.tc : Thread Cert.MlaBack.nD Cert.MlaBack.τ).loc Cert.MlaBack.main_arg11) = m ((c.tc : Thread Cert.MlaBack.nD Cert.MlaBack.τ).loc Cert.MlaBack.main_arg11))
      ∧ r.2.sem = fun _ => 0)

def quiescent_MlaBackIdeal [hMlaBackIdeal : Cert.MlaBackIdeal.Facts] : Prop :=
  ∀ (m : (ℓ : Loc Cert.MlaBackIdeal.nD Cert.MlaBackIdeal.τ Cert.MlaBackIdeal.sig) → Buf (Elt Ideal) ℓ) (g : Dev Cert.MlaBackIdeal.nD → PrngReg), Pre_MlaBackIdeal m →
    θ_run (Cert.MlaBackIdeal.defs (F := Ideal)) (onTc (τ := Cert.MlaBackIdeal.τ) (Cert.MlaBackIdeal.main (F := Ideal))) ⟨m, fun _ => 0, g⟩ (fun r => (∀ c : Dev Cert.MlaBackIdeal.nD,
      r.2.mem ((c.tc : Thread Cert.MlaBackIdeal.nD Cert.MlaBackIdeal.τ).loc Cert.MlaBackIdeal.main_arg0) = m ((c.tc : Thread Cert.MlaBackIdeal.nD Cert.MlaBackIdeal.τ).loc Cert.MlaBackIdeal.main_arg0)
      ∧ r.2.mem ((c.tc : Thread Cert.MlaBackIdeal.nD Cert.MlaBackIdeal.τ).loc Cert.MlaBackIdeal.main_arg1) = m ((c.tc : Thread Cert.MlaBackIdeal.nD Cert.MlaBackIdeal.τ).loc Cert.MlaBackIdeal.main_arg1)
      ∧ r.2.mem ((c.tc : Thread Cert.MlaBackIdeal.nD Cert.MlaBackIdeal.τ).loc Cert.MlaBackIdeal.main_arg2) = m ((c.tc : Thread Cert.MlaBackIdeal.nD Cert.MlaBackIdeal.τ).loc Cert.MlaBackIdeal.main_arg2)
      ∧ r.2.mem ((c.tc : Thread Cert.MlaBackIdeal.nD Cert.MlaBackIdeal.τ).loc Cert.MlaBackIdeal.main_arg3) = m ((c.tc : Thread Cert.MlaBackIdeal.nD Cert.MlaBackIdeal.τ).loc Cert.MlaBackIdeal.main_arg3)
      ∧ r.2.mem ((c.tc : Thread Cert.MlaBackIdeal.nD Cert.MlaBackIdeal.τ).loc Cert.MlaBackIdeal.main_arg4) = m ((c.tc : Thread Cert.MlaBackIdeal.nD Cert.MlaBackIdeal.τ).loc Cert.MlaBackIdeal.main_arg4)
      ∧ r.2.mem ((c.tc : Thread Cert.MlaBackIdeal.nD Cert.MlaBackIdeal.τ).loc Cert.MlaBackIdeal.main_arg5) = m ((c.tc : Thread Cert.MlaBackIdeal.nD Cert.MlaBackIdeal.τ).loc Cert.MlaBackIdeal.main_arg5)
      ∧ r.2.mem ((c.tc : Thread Cert.MlaBackIdeal.nD Cert.MlaBackIdeal.τ).loc Cert.MlaBackIdeal.main_arg6) = m ((c.tc : Thread Cert.MlaBackIdeal.nD Cert.MlaBackIdeal.τ).loc Cert.MlaBackIdeal.main_arg6)
      ∧ r.2.mem ((c.tc : Thread Cert.MlaBackIdeal.nD Cert.MlaBackIdeal.τ).loc Cert.MlaBackIdeal.main_arg7) = m ((c.tc : Thread Cert.MlaBackIdeal.nD Cert.MlaBackIdeal.τ).loc Cert.MlaBackIdeal.main_arg7)
      ∧ r.2.mem ((c.tc : Thread Cert.MlaBackIdeal.nD Cert.MlaBackIdeal.τ).loc Cert.MlaBackIdeal.main_arg8) = m ((c.tc : Thread Cert.MlaBackIdeal.nD Cert.MlaBackIdeal.τ).loc Cert.MlaBackIdeal.main_arg8)
      ∧ r.2.mem ((c.tc : Thread Cert.MlaBackIdeal.nD Cert.MlaBackIdeal.τ).loc Cert.MlaBackIdeal.main_arg9) = m ((c.tc : Thread Cert.MlaBackIdeal.nD Cert.MlaBackIdeal.τ).loc Cert.MlaBackIdeal.main_arg9)
      ∧ r.2.mem ((c.tc : Thread Cert.MlaBackIdeal.nD Cert.MlaBackIdeal.τ).loc Cert.MlaBackIdeal.main_arg10) = m ((c.tc : Thread Cert.MlaBackIdeal.nD Cert.MlaBackIdeal.τ).loc Cert.MlaBackIdeal.main_arg10)
      ∧ r.2.mem ((c.tc : Thread Cert.MlaBackIdeal.nD Cert.MlaBackIdeal.τ).loc Cert.MlaBackIdeal.main_arg11) = m ((c.tc : Thread Cert.MlaBackIdeal.nD Cert.MlaBackIdeal.τ).loc Cert.MlaBackIdeal.main_arg11))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8)
      ∧ r.2.mem ((c.tc : Thread Cert.MlaRefIdeal.nD Cert.MlaRefIdeal.τ).loc Cert.MlaRefIdeal.main_arg9) = m ((c.tc : Thread Cert.MlaRefIdeal.nD Cert.MlaRefIdeal.τ).loc Cert.MlaRefIdeal.main_arg9)
      ∧ r.2.mem ((c.tc : Thread Cert.MlaRefIdeal.nD Cert.MlaRefIdeal.τ).loc Cert.MlaRefIdeal.main_arg10) = m ((c.tc : Thread Cert.MlaRefIdeal.nD Cert.MlaRefIdeal.τ).loc Cert.MlaRefIdeal.main_arg10)
      ∧ r.2.mem ((c.tc : Thread Cert.MlaRefIdeal.nD Cert.MlaRefIdeal.τ).loc Cert.MlaRefIdeal.main_arg11) = m ((c.tc : Thread Cert.MlaRefIdeal.nD Cert.MlaRefIdeal.τ).loc Cert.MlaRefIdeal.main_arg11))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1)
      ∧ r.2.mem ((c.tc : Thread Cert.PleFwd.nD Cert.PleFwd.τ).loc Cert.PleFwd.main_arg2) = m ((c.tc : Thread Cert.PleFwd.nD Cert.PleFwd.τ).loc Cert.PleFwd.main_arg2)
      ∧ r.2.mem ((c.tc : Thread Cert.PleFwd.nD Cert.PleFwd.τ).loc Cert.PleFwd.main_arg3) = m ((c.tc : Thread Cert.PleFwd.nD Cert.PleFwd.τ).loc Cert.PleFwd.main_arg3)
      ∧ r.2.mem ((c.tc : Thread Cert.PleFwd.nD Cert.PleFwd.τ).loc Cert.PleFwd.main_arg4) = m ((c.tc : Thread Cert.PleFwd.nD Cert.PleFwd.τ).loc Cert.PleFwd.main_arg4))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
      ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
      ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4))
      ∧ r.2.sem = fun _ => 0)

def quiescent_PleFwdRefIdeal [hPleFwdRefIdeal : Cert.PleFwdRefIdeal.Facts] : Prop :=
  ∀ (m : (ℓ : Loc Cert.PleFwdRefIdeal.nD Cert.PleFwdRefIdeal.τ Cert.PleFwdRefIdeal.sig) → Buf (Elt Ideal) ℓ) (g : Dev Cert.PleFwdRefIdeal.nD → PrngReg), Pre_PleFwdRefIdeal m →
    θ_run (Cert.PleFwdRefIdeal.defs (F := Ideal)) (onTc (τ := Cert.PleFwdRefIdeal.τ) (Cert.PleFwdRefIdeal.main (F := Ideal))) ⟨m, fun _ => 0, g⟩ (fun r => (∀ c : Dev Cert.PleFwdRefIdeal.nD,
      r.2.mem ((c.tc : Thread Cert.PleFwdRefIdeal.nD Cert.PleFwdRefIdeal.τ).loc Cert.PleFwdRefIdeal.main_arg0) = m ((c.tc : Thread Cert.PleFwdRefIdeal.nD Cert.PleFwdRefIdeal.τ).loc Cert.PleFwdRefIdeal.main_arg0)
      ∧ r.2.mem ((c.tc : Thread Cert.PleFwdRefIdeal.nD Cert.PleFwdRefIdeal.τ).loc Cert.PleFwdRefIdeal.main_arg1) = m ((c.tc : Thread Cert.PleFwdRefIdeal.nD Cert.PleFwdRefIdeal.τ).loc Cert.PleFwdRefIdeal.main_arg1)
      ∧ r.2.mem ((c.tc : Thread Cert.PleFwdRefIdeal.nD Cert.PleFwdRefIdeal.τ).loc Cert.PleFwdRefIdeal.main_arg2) = m ((c.tc : Thread Cert.PleFwdRefIdeal.nD Cert.PleFwdRefIdeal.τ).loc Cert.PleFwdRefIdeal.main_arg2)
      ∧ r.2.mem ((c.tc : Thread Cert.PleFwdRefIdeal.nD Cert.PleFwdRefIdeal.τ).loc Cert.PleFwdRefIdeal.main_arg3) = m ((c.tc : Thread Cert.PleFwdRefIdeal.nD Cert.PleFwdRefIdeal.τ).loc Cert.PleFwdRefIdeal.main_arg3)
      ∧ r.2.mem ((c.tc : Thread Cert.PleFwdRefIdeal.nD Cert.PleFwdRefIdeal.τ).loc Cert.PleFwdRefIdeal.main_arg4) = m ((c.tc : Thread Cert.PleFwdRefIdeal.nD Cert.PleFwdRefIdeal.τ).loc Cert.PleFwdRefIdeal.main_arg4))
      ∧ r.2.sem = fun _ => 0)

def quiescent_CgateFwd [hCgateFwd : Cert.CgateFwd.Facts] : Prop :=
  ∀ (m : (ℓ : Loc Cert.CgateFwd.nD Cert.CgateFwd.τ Cert.CgateFwd.sig) → Buf (Elt Bits) ℓ) (g : Dev Cert.CgateFwd.nD → PrngReg), Pre_CgateFwd m →
    θ_run (Cert.CgateFwd.defs (F := Bits)) (onTc (τ := Cert.CgateFwd.τ) (Cert.CgateFwd.main (F := Bits))) ⟨m, fun _ => 0, g⟩ (fun r => (∀ c : Dev Cert.CgateFwd.nD,
      r.2.mem ((c.tc : Thread Cert.CgateFwd.nD Cert.CgateFwd.τ).loc Cert.CgateFwd.main_arg0) = m ((c.tc : Thread Cert.CgateFwd.nD Cert.CgateFwd.τ).loc Cert.CgateFwd.main_arg0)
      ∧ r.2.mem ((c.tc : Thread Cert.CgateFwd.nD Cert.CgateFwd.τ).loc Cert.CgateFwd.main_arg1) = m ((c.tc : Thread Cert.CgateFwd.nD Cert.CgateFwd.τ).loc Cert.CgateFwd.main_arg1)
      ∧ r.2.mem ((c.tc : Thread Cert.CgateFwd.nD Cert.CgateFwd.τ).loc Cert.CgateFwd.main_arg2) = m ((c.tc : Thread Cert.CgateFwd.nD Cert.CgateFwd.τ).loc Cert.CgateFwd.main_arg2)
      ∧ r.2.mem ((c.tc : Thread Cert.CgateFwd.nD Cert.CgateFwd.τ).loc Cert.CgateFwd.main_arg3) = m ((c.tc : Thread Cert.CgateFwd.nD Cert.CgateFwd.τ).loc Cert.CgateFwd.main_arg3))
      ∧ r.2.sem = fun _ => 0)

def quiescent_CgateFwdIdeal [hCgateFwdIdeal : Cert.CgateFwdIdeal.Facts] : Prop :=
  ∀ (m : (ℓ : Loc Cert.CgateFwdIdeal.nD Cert.CgateFwdIdeal.τ Cert.CgateFwdIdeal.sig) → Buf (Elt Ideal) ℓ) (g : Dev Cert.CgateFwdIdeal.nD → PrngReg), Pre_CgateFwdIdeal m →
    θ_run (Cert.CgateFwdIdeal.defs (F := Ideal)) (onTc (τ := Cert.CgateFwdIdeal.τ) (Cert.CgateFwdIdeal.main (F := Ideal))) ⟨m, fun _ => 0, g⟩ (fun r => (∀ c : Dev Cert.CgateFwdIdeal.nD,
      r.2.mem ((c.tc : Thread Cert.CgateFwdIdeal.nD Cert.CgateFwdIdeal.τ).loc Cert.CgateFwdIdeal.main_arg0) = m ((c.tc : Thread Cert.CgateFwdIdeal.nD Cert.CgateFwdIdeal.τ).loc Cert.CgateFwdIdeal.main_arg0)
      ∧ r.2.mem ((c.tc : Thread Cert.CgateFwdIdeal.nD Cert.CgateFwdIdeal.τ).loc Cert.CgateFwdIdeal.main_arg1) = m ((c.tc : Thread Cert.CgateFwdIdeal.nD Cert.CgateFwdIdeal.τ).loc Cert.CgateFwdIdeal.main_arg1)
      ∧ r.2.mem ((c.tc : Thread Cert.CgateFwdIdeal.nD Cert.CgateFwdIdeal.τ).loc Cert.CgateFwdIdeal.main_arg2) = m ((c.tc : Thread Cert.CgateFwdIdeal.nD Cert.CgateFwdIdeal.τ).loc Cert.CgateFwdIdeal.main_arg2)
      ∧ r.2.mem ((c.tc : Thread Cert.CgateFwdIdeal.nD Cert.CgateFwdIdeal.τ).loc Cert.CgateFwdIdeal.main_arg3) = m ((c.tc : Thread Cert.CgateFwdIdeal.nD Cert.CgateFwdIdeal.τ).loc Cert.CgateFwdIdeal.main_arg3))
      ∧ r.2.sem = fun _ => 0)

def quiescent_CgateFwdRefIdeal [hCgateFwdRefIdeal : Cert.CgateFwdRefIdeal.Facts] : Prop :=
  ∀ (m : (ℓ : Loc Cert.CgateFwdRefIdeal.nD Cert.CgateFwdRefIdeal.τ Cert.CgateFwdRefIdeal.sig) → Buf (Elt Ideal) ℓ) (g : Dev Cert.CgateFwdRefIdeal.nD → PrngReg), Pre_CgateFwdRefIdeal m →
    θ_run (Cert.CgateFwdRefIdeal.defs (F := Ideal)) (onTc (τ := Cert.CgateFwdRefIdeal.τ) (Cert.CgateFwdRefIdeal.main (F := Ideal))) ⟨m, fun _ => 0, g⟩ (fun r => (∀ c : Dev Cert.CgateFwdRefIdeal.nD,
      r.2.mem ((c.tc : Thread Cert.CgateFwdRefIdeal.nD Cert.CgateFwdRefIdeal.τ).loc Cert.CgateFwdRefIdeal.main_arg0) = m ((c.tc : Thread Cert.CgateFwdRefIdeal.nD Cert.CgateFwdRefIdeal.τ).loc Cert.CgateFwdRefIdeal.main_arg0)
      ∧ r.2.mem ((c.tc : Thread Cert.CgateFwdRefIdeal.nD Cert.CgateFwdRefIdeal.τ).loc Cert.CgateFwdRefIdeal.main_arg1) = m ((c.tc : Thread Cert.CgateFwdRefIdeal.nD Cert.CgateFwdRefIdeal.τ).loc Cert.CgateFwdRefIdeal.main_arg1)
      ∧ r.2.mem ((c.tc : Thread Cert.CgateFwdRefIdeal.nD Cert.CgateFwdRefIdeal.τ).loc Cert.CgateFwdRefIdeal.main_arg2) = m ((c.tc : Thread Cert.CgateFwdRefIdeal.nD Cert.CgateFwdRefIdeal.τ).loc Cert.CgateFwdRefIdeal.main_arg2)
      ∧ r.2.mem ((c.tc : Thread Cert.CgateFwdRefIdeal.nD Cert.CgateFwdRefIdeal.τ).loc Cert.CgateFwdRefIdeal.main_arg3) = m ((c.tc : Thread Cert.CgateFwdRefIdeal.nD Cert.CgateFwdRefIdeal.τ).loc Cert.CgateFwdRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_bounded_scores [hAttnFwdIdeal : Cert.AttnFwdIdeal.Facts] [hPre_bounded_scores : Cert.Pre_bounded_scores.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_bounded_scores m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_bounded_scores [hAttnFwdRefIdeal : Cert.AttnFwdRefIdeal.Facts] [hPre_bounded_scores : Cert.Pre_bounded_scores.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_bounded_scores m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def preserves_NormBack_NormBackIdeal : Prop :=
  True

def algebraic_NormBackIdeal_NormRefIdeal [hNormBackIdeal : Cert.NormBackIdeal.Facts] [hNormRefIdeal : Cert.NormRefIdeal.Facts] : Prop :=
  ∀ (m : (ℓ : Loc Cert.NormBackIdeal.nD Cert.NormBackIdeal.τ Cert.NormBackIdeal.sig) → Buf (Elt Ideal) ℓ) (g : Dev Cert.NormBackIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormBackIdeal m →
    (∀ c : Dev Cert.NormBackIdeal.nD,
      m' ((c.tc : Thread Cert.NormRefIdeal.nD Cert.NormRefIdeal.τ).loc Cert.NormRefIdeal.main_arg0) = m ((c.tc : Thread Cert.NormBackIdeal.nD Cert.NormBackIdeal.τ).loc Cert.NormBackIdeal.main_arg0)
      ∧ m' ((c.tc : Thread Cert.NormRefIdeal.nD Cert.NormRefIdeal.τ).loc Cert.NormRefIdeal.main_arg1) = m ((c.tc : Thread Cert.NormBackIdeal.nD Cert.NormBackIdeal.τ).loc Cert.NormBackIdeal.main_arg1)
      ∧ m' ((c.tc : Thread Cert.NormRefIdeal.nD Cert.NormRefIdeal.τ).loc Cert.NormRefIdeal.main_arg2) = m ((c.tc : Thread Cert.NormBackIdeal.nD Cert.NormBackIdeal.τ).loc Cert.NormBackIdeal.main_arg2)
      ∧ m' ((c.tc : Thread Cert.NormRefIdeal.nD Cert.NormRefIdeal.τ).loc Cert.NormRefIdeal.main_arg3) = m ((c.tc : Thread Cert.NormBackIdeal.nD Cert.NormBackIdeal.τ).loc Cert.NormBackIdeal.main_arg3)) →
    ∃ (v0 : (c : Dev Cert.NormBackIdeal.nD) → Buf (Elt Ideal) ((c.tc : Thread Cert.NormBackIdeal.nD Cert.NormBackIdeal.τ).loc Cert.NormBackIdeal.main_v1_0)) (v1 : (c : Dev Cert.NormBackIdeal.nD) → Buf (Elt Ideal) ((c.tc : Thread Cert.NormBackIdeal.nD Cert.NormBackIdeal.τ).loc Cert.NormBackIdeal.main_v1_1)),
      θ_run (Cert.NormBackIdeal.defs (F := Ideal)) (onTc (τ := Cert.NormBackIdeal.τ) (Cert.NormBackIdeal.main (F := Ideal))) ⟨m, fun _ => 0, g⟩ (fun r => ∀ c : Dev Cert.NormBackIdeal.nD,
          r.2.mem ((c.tc : Thread Cert.NormBackIdeal.nD Cert.NormBackIdeal.τ).loc Cert.NormBackIdeal.main_v1_0) = v0 c
          ∧ r.2.mem ((c.tc : Thread Cert.NormBackIdeal.nD Cert.NormBackIdeal.τ).loc Cert.NormBackIdeal.main_v1_1) = v1 c
          ∧ r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
          ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
          ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
          ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v36) = v0 c
          ∧ r.2.mem ((c.tc : Thread Cert.NormRefIdeal.nD Cert.NormRefIdeal.τ).loc Cert.NormRefIdeal.main_v37) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_GateBack_GateBackIdeal : Prop :=
  True

def algebraic_GateBackIdeal_GateRefIdeal [hGateBackIdeal : Cert.GateBackIdeal.Facts] [hGateRefIdeal : Cert.GateRefIdeal.Facts] : Prop :=
  ∀ (m : (ℓ : Loc Cert.GateBackIdeal.nD Cert.GateBackIdeal.τ Cert.GateBackIdeal.sig) → Buf (Elt Ideal) ℓ) (g : Dev Cert.GateBackIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateBackIdeal m →
    (∀ c : Dev Cert.GateBackIdeal.nD,
      m' ((c.tc : Thread Cert.GateRefIdeal.nD Cert.GateRefIdeal.τ).loc Cert.GateRefIdeal.main_arg0) = m ((c.tc : Thread Cert.GateBackIdeal.nD Cert.GateBackIdeal.τ).loc Cert.GateBackIdeal.main_arg0)
      ∧ m' ((c.tc : Thread Cert.GateRefIdeal.nD Cert.GateRefIdeal.τ).loc Cert.GateRefIdeal.main_arg1) = m ((c.tc : Thread Cert.GateBackIdeal.nD Cert.GateBackIdeal.τ).loc Cert.GateBackIdeal.main_arg1)
      ∧ m' ((c.tc : Thread Cert.GateRefIdeal.nD Cert.GateRefIdeal.τ).loc Cert.GateRefIdeal.main_arg2) = m ((c.tc : Thread Cert.GateBackIdeal.nD Cert.GateBackIdeal.τ).loc Cert.GateBackIdeal.main_arg2)
      ∧ m' ((c.tc : Thread Cert.GateRefIdeal.nD Cert.GateRefIdeal.τ).loc Cert.GateRefIdeal.main_arg3) = m ((c.tc : Thread Cert.GateBackIdeal.nD Cert.GateBackIdeal.τ).loc Cert.GateBackIdeal.main_arg3)
      ∧ m' ((c.tc : Thread Cert.GateRefIdeal.nD Cert.GateRefIdeal.τ).loc Cert.GateRefIdeal.main_arg4) = m ((c.tc : Thread Cert.GateBackIdeal.nD Cert.GateBackIdeal.τ).loc Cert.GateBackIdeal.main_arg4)
      ∧ m' ((c.tc : Thread Cert.GateRefIdeal.nD Cert.GateRefIdeal.τ).loc Cert.GateRefIdeal.main_arg5) = m ((c.tc : Thread Cert.GateBackIdeal.nD Cert.GateBackIdeal.τ).loc Cert.GateBackIdeal.main_arg5)) →
    ∃ (v0 : (c : Dev Cert.GateBackIdeal.nD) → Buf (Elt Ideal) ((c.tc : Thread Cert.GateBackIdeal.nD Cert.GateBackIdeal.τ).loc Cert.GateBackIdeal.main_v24_0)) (v1 : (c : Dev Cert.GateBackIdeal.nD) → Buf (Elt Ideal) ((c.tc : Thread Cert.GateBackIdeal.nD Cert.GateBackIdeal.τ).loc Cert.GateBackIdeal.main_v24_1)) (v2 : (c : Dev Cert.GateBackIdeal.nD) → Buf (Elt Ideal) ((c.tc : Thread Cert.GateBackIdeal.nD Cert.GateBackIdeal.τ).loc Cert.GateBackIdeal.main_v24_2)) (v3 : (c : Dev Cert.GateBackIdeal.nD) → Buf (Elt Ideal) ((c.tc : Thread Cert.GateBackIdeal.nD Cert.GateBackIdeal.τ).loc Cert.GateBackIdeal.main_v24_3)),
      θ_run (Cert.GateBackIdeal.defs (F := Ideal)) (onTc (τ := Cert.GateBackIdeal.τ) (Cert.GateBackIdeal.main (F := Ideal))) ⟨m, fun _ => 0, g⟩ (fun r => ∀ c : Dev Cert.GateBackIdeal.nD,
          r.2.mem ((c.tc : Thread Cert.GateBackIdeal.nD Cert.GateBackIdeal.τ).loc Cert.GateBackIdeal.main_v24_0) = v0 c
          ∧ r.2.mem ((c.tc : Thread Cert.GateBackIdeal.nD Cert.GateBackIdeal.τ).loc Cert.GateBackIdeal.main_v24_1) = v1 c
          ∧ r.2.mem ((c.tc : Thread Cert.GateBackIdeal.nD Cert.GateBackIdeal.τ).loc Cert.GateBackIdeal.main_v24_2) = v2 c
          ∧ r.2.mem ((c.tc : Thread Cert.GateBackIdeal.nD Cert.GateBackIdeal.τ).loc Cert.GateBackIdeal.main_v24_3) = v3 c
          ∧ r.2.mem ((c.tc : Thread Cert.GateBackIdeal.nD Cert.GateBackIdeal.τ).loc Cert.GateBackIdeal.main_arg0) = m ((c.tc : Thread Cert.GateBackIdeal.nD Cert.GateBackIdeal.τ).loc Cert.GateBackIdeal.main_arg0)
          ∧ r.2.mem ((c.tc : Thread Cert.GateBackIdeal.nD Cert.GateBackIdeal.τ).loc Cert.GateBackIdeal.main_arg1) = m ((c.tc : Thread Cert.GateBackIdeal.nD Cert.GateBackIdeal.τ).loc Cert.GateBackIdeal.main_arg1)
          ∧ r.2.mem ((c.tc : Thread Cert.GateBackIdeal.nD Cert.GateBackIdeal.τ).loc Cert.GateBackIdeal.main_arg2) = m ((c.tc : Thread Cert.GateBackIdeal.nD Cert.GateBackIdeal.τ).loc Cert.GateBackIdeal.main_arg2)
          ∧ r.2.mem ((c.tc : Thread Cert.GateBackIdeal.nD Cert.GateBackIdeal.τ).loc Cert.GateBackIdeal.main_arg3) = m ((c.tc : Thread Cert.GateBackIdeal.nD Cert.GateBackIdeal.τ).loc Cert.GateBackIdeal.main_arg3)
          ∧ r.2.mem ((c.tc : Thread Cert.GateBackIdeal.nD Cert.GateBackIdeal.τ).loc Cert.GateBackIdeal.main_arg4) = m ((c.tc : Thread Cert.GateBackIdeal.nD Cert.GateBackIdeal.τ).loc Cert.GateBackIdeal.main_arg4)
          ∧ r.2.mem ((c.tc : Thread Cert.GateBackIdeal.nD Cert.GateBackIdeal.τ).loc Cert.GateBackIdeal.main_arg5) = m ((c.tc : Thread Cert.GateBackIdeal.nD Cert.GateBackIdeal.τ).loc Cert.GateBackIdeal.main_arg5))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v53) = v0 c
          ∧ r.2.mem ((c.tc : Thread Cert.GateRefIdeal.nD Cert.GateRefIdeal.τ).loc Cert.GateRefIdeal.main_v82) = v1 c
          ∧ r.2.mem ((c.tc : Thread Cert.GateRefIdeal.nD Cert.GateRefIdeal.τ).loc Cert.GateRefIdeal.main_v83) = v2 c
          ∧ r.2.mem ((c.tc : Thread Cert.GateRefIdeal.nD Cert.GateRefIdeal.τ).loc Cert.GateRefIdeal.main_v84) = v3 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5))

def preserves_LossBack_LossBackIdeal : Prop :=
  True

def algebraic_LossBackIdeal_LossRefIdeal [hLossBackIdeal : Cert.LossBackIdeal.Facts] [hLossRefIdeal : Cert.LossRefIdeal.Facts] : Prop :=
  ∀ (m : (ℓ : Loc Cert.LossBackIdeal.nD Cert.LossBackIdeal.τ Cert.LossBackIdeal.sig) → Buf (Elt Ideal) ℓ) (g : Dev Cert.LossBackIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossBackIdeal m →
    (∀ c : Dev Cert.LossBackIdeal.nD,
      m' ((c.tc : Thread Cert.LossRefIdeal.nD Cert.LossRefIdeal.τ).loc Cert.LossRefIdeal.main_arg0) = m ((c.tc : Thread Cert.LossBackIdeal.nD Cert.LossBackIdeal.τ).loc Cert.LossBackIdeal.main_arg0)
      ∧ m' ((c.tc : Thread Cert.LossRefIdeal.nD Cert.LossRefIdeal.τ).loc Cert.LossRefIdeal.main_arg1) = m ((c.tc : Thread Cert.LossBackIdeal.nD Cert.LossBackIdeal.τ).loc Cert.LossBackIdeal.main_arg1)
      ∧ m' ((c.tc : Thread Cert.LossRefIdeal.nD Cert.LossRefIdeal.τ).loc Cert.LossRefIdeal.main_arg2) = m ((c.tc : Thread Cert.LossBackIdeal.nD Cert.LossBackIdeal.τ).loc Cert.LossBackIdeal.main_arg2)
      ∧ m' ((c.tc : Thread Cert.LossRefIdeal.nD Cert.LossRefIdeal.τ).loc Cert.LossRefIdeal.main_arg3) = m ((c.tc : Thread Cert.LossBackIdeal.nD Cert.LossBackIdeal.τ).loc Cert.LossBackIdeal.main_arg3)
      ∧ m' ((c.tc : Thread Cert.LossRefIdeal.nD Cert.LossRefIdeal.τ).loc Cert.LossRefIdeal.main_arg4) = m ((c.tc : Thread Cert.LossBackIdeal.nD Cert.LossBackIdeal.τ).loc Cert.LossBackIdeal.main_arg4)
      ∧ m' ((c.tc : Thread Cert.LossRefIdeal.nD Cert.LossRefIdeal.τ).loc Cert.LossRefIdeal.main_arg5) = m ((c.tc : Thread Cert.LossBackIdeal.nD Cert.LossBackIdeal.τ).loc Cert.LossBackIdeal.main_arg5)) →
    ∃ (v0 : (c : Dev Cert.LossBackIdeal.nD) → Buf (Elt Ideal) ((c.tc : Thread Cert.LossBackIdeal.nD Cert.LossBackIdeal.τ).loc Cert.LossBackIdeal.main_v3_0)) (v1 : (c : Dev Cert.LossBackIdeal.nD) → Buf (Elt Ideal) ((c.tc : Thread Cert.LossBackIdeal.nD Cert.LossBackIdeal.τ).loc Cert.LossBackIdeal.main_v3_1)) (v2 : (c : Dev Cert.LossBackIdeal.nD) → Buf (Elt Ideal) ((c.tc : Thread Cert.LossBackIdeal.nD Cert.LossBackIdeal.τ).loc Cert.LossBackIdeal.main_v3_2)) (v3 : (c : Dev Cert.LossBackIdeal.nD) → Buf (Elt Ideal) ((c.tc : Thread Cert.LossBackIdeal.nD Cert.LossBackIdeal.τ).loc Cert.LossBackIdeal.main_v3_3)) (v4 : (c : Dev Cert.LossBackIdeal.nD) → Buf (Elt Ideal) ((c.tc : Thread Cert.LossBackIdeal.nD Cert.LossBackIdeal.τ).loc Cert.LossBackIdeal.main_v3_4)),
      θ_run (Cert.LossBackIdeal.defs (F := Ideal)) (onTc (τ := Cert.LossBackIdeal.τ) (Cert.LossBackIdeal.main (F := Ideal))) ⟨m, fun _ => 0, g⟩ (fun r => ∀ c : Dev Cert.LossBackIdeal.nD,
          r.2.mem ((c.tc : Thread Cert.LossBackIdeal.nD Cert.LossBackIdeal.τ).loc Cert.LossBackIdeal.main_v3_0) = v0 c
          ∧ r.2.mem ((c.tc : Thread Cert.LossBackIdeal.nD Cert.LossBackIdeal.τ).loc Cert.LossBackIdeal.main_v3_1) = v1 c
          ∧ r.2.mem ((c.tc : Thread Cert.LossBackIdeal.nD Cert.LossBackIdeal.τ).loc Cert.LossBackIdeal.main_v3_2) = v2 c
          ∧ r.2.mem ((c.tc : Thread Cert.LossBackIdeal.nD Cert.LossBackIdeal.τ).loc Cert.LossBackIdeal.main_v3_3) = v3 c
          ∧ r.2.mem ((c.tc : Thread Cert.LossBackIdeal.nD Cert.LossBackIdeal.τ).loc Cert.LossBackIdeal.main_v3_4) = v4 c
          ∧ r.2.mem ((c.tc : Thread Cert.LossBackIdeal.nD Cert.LossBackIdeal.τ).loc Cert.LossBackIdeal.main_arg0) = m ((c.tc : Thread Cert.LossBackIdeal.nD Cert.LossBackIdeal.τ).loc Cert.LossBackIdeal.main_arg0)
          ∧ r.2.mem ((c.tc : Thread Cert.LossBackIdeal.nD Cert.LossBackIdeal.τ).loc Cert.LossBackIdeal.main_arg1) = m ((c.tc : Thread Cert.LossBackIdeal.nD Cert.LossBackIdeal.τ).loc Cert.LossBackIdeal.main_arg1)
          ∧ r.2.mem ((c.tc : Thread Cert.LossBackIdeal.nD Cert.LossBackIdeal.τ).loc Cert.LossBackIdeal.main_arg2) = m ((c.tc : Thread Cert.LossBackIdeal.nD Cert.LossBackIdeal.τ).loc Cert.LossBackIdeal.main_arg2)
          ∧ r.2.mem ((c.tc : Thread Cert.LossBackIdeal.nD Cert.LossBackIdeal.τ).loc Cert.LossBackIdeal.main_arg3) = m ((c.tc : Thread Cert.LossBackIdeal.nD Cert.LossBackIdeal.τ).loc Cert.LossBackIdeal.main_arg3)
          ∧ r.2.mem ((c.tc : Thread Cert.LossBackIdeal.nD Cert.LossBackIdeal.τ).loc Cert.LossBackIdeal.main_arg4) = m ((c.tc : Thread Cert.LossBackIdeal.nD Cert.LossBackIdeal.τ).loc Cert.LossBackIdeal.main_arg4)
          ∧ r.2.mem ((c.tc : Thread Cert.LossBackIdeal.nD Cert.LossBackIdeal.τ).loc Cert.LossBackIdeal.main_arg5) = m ((c.tc : Thread Cert.LossBackIdeal.nD Cert.LossBackIdeal.τ).loc Cert.LossBackIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v37) = v0 c
          ∧ r.2.mem ((c.tc : Thread Cert.LossRefIdeal.nD Cert.LossRefIdeal.τ).loc Cert.LossRefIdeal.main_v38) = v1 c
          ∧ r.2.mem ((c.tc : Thread Cert.LossRefIdeal.nD Cert.LossRefIdeal.τ).loc Cert.LossRefIdeal.main_v39) = v2 c
          ∧ r.2.mem ((c.tc : Thread Cert.LossRefIdeal.nD Cert.LossRefIdeal.τ).loc Cert.LossRefIdeal.main_v40) = v3 c
          ∧ r.2.mem ((c.tc : Thread Cert.LossRefIdeal.nD Cert.LossRefIdeal.τ).loc Cert.LossRefIdeal.main_v41) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_AttnBack_AttnBackIdeal : Prop :=
  IdealRules.named_const.Statement Cert.AttnBackIdeal.κ "ln2" .f32 0x3F317218#32 ((Real.log 2 : ℝ) : EReal)

def algebraic_AttnBackIdeal_AttnRefIdeal_pre_bounded [hAttnBackIdeal : Cert.AttnBackIdeal.Facts] [hAttnRefIdeal : Cert.AttnRefIdeal.Facts] [hPre_bounded : Cert.Pre_bounded.Facts] : Prop :=
  ∀ (m : (ℓ : Loc Cert.AttnBackIdeal.nD Cert.AttnBackIdeal.τ Cert.AttnBackIdeal.sig) → Buf (Elt Ideal) ℓ) (g : Dev Cert.AttnBackIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBackIdeal_bounded m →
    (∀ c : Dev Cert.AttnBackIdeal.nD,
      m' ((c.tc : Thread Cert.AttnRefIdeal.nD Cert.AttnRefIdeal.τ).loc Cert.AttnRefIdeal.main_arg0) = m ((c.tc : Thread Cert.AttnBackIdeal.nD Cert.AttnBackIdeal.τ).loc Cert.AttnBackIdeal.main_arg0)
      ∧ m' ((c.tc : Thread Cert.AttnRefIdeal.nD Cert.AttnRefIdeal.τ).loc Cert.AttnRefIdeal.main_arg1) = m ((c.tc : Thread Cert.AttnBackIdeal.nD Cert.AttnBackIdeal.τ).loc Cert.AttnBackIdeal.main_arg1)
      ∧ m' ((c.tc : Thread Cert.AttnRefIdeal.nD Cert.AttnRefIdeal.τ).loc Cert.AttnRefIdeal.main_arg2) = m ((c.tc : Thread Cert.AttnBackIdeal.nD Cert.AttnBackIdeal.τ).loc Cert.AttnBackIdeal.main_arg2)
      ∧ m' ((c.tc : Thread Cert.AttnRefIdeal.nD Cert.AttnRefIdeal.τ).loc Cert.AttnRefIdeal.main_arg3) = m ((c.tc : Thread Cert.AttnBackIdeal.nD Cert.AttnBackIdeal.τ).loc Cert.AttnBackIdeal.main_arg3)) →
    ∃ (v0 : (c : Dev Cert.AttnBackIdeal.nD) → Buf (Elt Ideal) ((c.tc : Thread Cert.AttnBackIdeal.nD Cert.AttnBackIdeal.τ).loc Cert.AttnBackIdeal.main_v34_0)) (v1 : (c : Dev Cert.AttnBackIdeal.nD) → Buf (Elt Ideal) ((c.tc : Thread Cert.AttnBackIdeal.nD Cert.AttnBackIdeal.τ).loc Cert.AttnBackIdeal.main_v34_1)) (v2 : (c : Dev Cert.AttnBackIdeal.nD) → Buf (Elt Ideal) ((c.tc : Thread Cert.AttnBackIdeal.nD Cert.AttnBackIdeal.τ).loc Cert.AttnBackIdeal.main_v34_2)),
      θ_run (Cert.AttnBackIdeal.defs (F := Ideal)) (onTc (τ := Cert.AttnBackIdeal.τ) (Cert.AttnBackIdeal.main (F := Ideal))) ⟨m, fun _ => 0, g⟩ (fun r => ∀ c : Dev Cert.AttnBackIdeal.nD,
          r.2.mem ((c.tc : Thread Cert.AttnBackIdeal.nD Cert.AttnBackIdeal.τ).loc Cert.AttnBackIdeal.main_v34_0) = v0 c
          ∧ r.2.mem ((c.tc : Thread Cert.AttnBackIdeal.nD Cert.AttnBackIdeal.τ).loc Cert.AttnBackIdeal.main_v34_1) = v1 c
          ∧ r.2.mem ((c.tc : Thread Cert.AttnBackIdeal.nD Cert.AttnBackIdeal.τ).loc Cert.AttnBackIdeal.main_v34_2) = v2 c
          ∧ r.2.mem ((c.tc : Thread Cert.AttnBackIdeal.nD Cert.AttnBackIdeal.τ).loc Cert.AttnBackIdeal.main_arg0) = m ((c.tc : Thread Cert.AttnBackIdeal.nD Cert.AttnBackIdeal.τ).loc Cert.AttnBackIdeal.main_arg0)
          ∧ r.2.mem ((c.tc : Thread Cert.AttnBackIdeal.nD Cert.AttnBackIdeal.τ).loc Cert.AttnBackIdeal.main_arg1) = m ((c.tc : Thread Cert.AttnBackIdeal.nD Cert.AttnBackIdeal.τ).loc Cert.AttnBackIdeal.main_arg1)
          ∧ r.2.mem ((c.tc : Thread Cert.AttnBackIdeal.nD Cert.AttnBackIdeal.τ).loc Cert.AttnBackIdeal.main_arg2) = m ((c.tc : Thread Cert.AttnBackIdeal.nD Cert.AttnBackIdeal.τ).loc Cert.AttnBackIdeal.main_arg2)
          ∧ r.2.mem ((c.tc : Thread Cert.AttnBackIdeal.nD Cert.AttnBackIdeal.τ).loc Cert.AttnBackIdeal.main_arg3) = m ((c.tc : Thread Cert.AttnBackIdeal.nD Cert.AttnBackIdeal.τ).loc Cert.AttnBackIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v61) = v0 c
          ∧ r.2.mem ((c.tc : Thread Cert.AttnRefIdeal.nD Cert.AttnRefIdeal.τ).loc Cert.AttnRefIdeal.main_v53) = v1 c
          ∧ r.2.mem ((c.tc : Thread Cert.AttnRefIdeal.nD Cert.AttnRefIdeal.τ).loc Cert.AttnRefIdeal.main_v37) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_CgateBack_CgateBackIdeal : Prop :=
  True

def algebraic_CgateBackIdeal_CgateRefIdeal [hCgateBackIdeal : Cert.CgateBackIdeal.Facts] [hCgateRefIdeal : Cert.CgateRefIdeal.Facts] : Prop :=
  ∀ (m : (ℓ : Loc Cert.CgateBackIdeal.nD Cert.CgateBackIdeal.τ Cert.CgateBackIdeal.sig) → Buf (Elt Ideal) ℓ) (g : Dev Cert.CgateBackIdeal.nD → PrngReg)
    (m' : (ℓ : Loc Cert.CgateRefIdeal.nD Cert.CgateRefIdeal.τ Cert.CgateRefIdeal.sig) → Buf (Elt Ideal) ℓ) (g' : Dev Cert.CgateRefIdeal.nD → PrngReg), Pre_CgateBackIdeal m →
    (∀ c : Dev Cert.CgateBackIdeal.nD,
      m' ((c.tc : Thread Cert.CgateRefIdeal.nD Cert.CgateRefIdeal.τ).loc Cert.CgateRefIdeal.main_arg0) = m ((c.tc : Thread Cert.CgateBackIdeal.nD Cert.CgateBackIdeal.τ).loc Cert.CgateBackIdeal.main_arg0)
      ∧ m' ((c.tc : Thread Cert.CgateRefIdeal.nD Cert.CgateRefIdeal.τ).loc Cert.CgateRefIdeal.main_arg1) = m ((c.tc : Thread Cert.CgateBackIdeal.nD Cert.CgateBackIdeal.τ).loc Cert.CgateBackIdeal.main_arg1)
      ∧ m' ((c.tc : Thread Cert.CgateRefIdeal.nD Cert.CgateRefIdeal.τ).loc Cert.CgateRefIdeal.main_arg2) = m ((c.tc : Thread Cert.CgateBackIdeal.nD Cert.CgateBackIdeal.τ).loc Cert.CgateBackIdeal.main_arg2)
      ∧ m' ((c.tc : Thread Cert.CgateRefIdeal.nD Cert.CgateRefIdeal.τ).loc Cert.CgateRefIdeal.main_arg3) = m ((c.tc : Thread Cert.CgateBackIdeal.nD Cert.CgateBackIdeal.τ).loc Cert.CgateBackIdeal.main_arg3)
      ∧ m' ((c.tc : Thread Cert.CgateRefIdeal.nD Cert.CgateRefIdeal.τ).loc Cert.CgateRefIdeal.main_arg4) = m ((c.tc : Thread Cert.CgateBackIdeal.nD Cert.CgateBackIdeal.τ).loc Cert.CgateBackIdeal.main_arg4)) →
    ∃ (v0 : (c : Dev Cert.CgateBackIdeal.nD) → Buf (Elt Ideal) ((c.tc : Thread Cert.CgateBackIdeal.nD Cert.CgateBackIdeal.τ).loc Cert.CgateBackIdeal.main_v16_0)) (v1 : (c : Dev Cert.CgateBackIdeal.nD) → Buf (Elt Ideal) ((c.tc : Thread Cert.CgateBackIdeal.nD Cert.CgateBackIdeal.τ).loc Cert.CgateBackIdeal.main_v16_1)) (v2 : (c : Dev Cert.CgateBackIdeal.nD) → Buf (Elt Ideal) ((c.tc : Thread Cert.CgateBackIdeal.nD Cert.CgateBackIdeal.τ).loc Cert.CgateBackIdeal.main_v16_2)) (v3 : (c : Dev Cert.CgateBackIdeal.nD) → Buf (Elt Ideal) ((c.tc : Thread Cert.CgateBackIdeal.nD Cert.CgateBackIdeal.τ).loc Cert.CgateBackIdeal.main_v16_3)),
      θ_run (Cert.CgateBackIdeal.defs (F := Ideal)) (onTc (τ := Cert.CgateBackIdeal.τ) (Cert.CgateBackIdeal.main (F := Ideal))) ⟨m, fun _ => 0, g⟩ (fun r => ∀ c : Dev Cert.CgateBackIdeal.nD,
          r.2.mem ((c.tc : Thread Cert.CgateBackIdeal.nD Cert.CgateBackIdeal.τ).loc Cert.CgateBackIdeal.main_v16_0) = v0 c
          ∧ r.2.mem ((c.tc : Thread Cert.CgateBackIdeal.nD Cert.CgateBackIdeal.τ).loc Cert.CgateBackIdeal.main_v16_1) = v1 c
          ∧ r.2.mem ((c.tc : Thread Cert.CgateBackIdeal.nD Cert.CgateBackIdeal.τ).loc Cert.CgateBackIdeal.main_v16_2) = v2 c
          ∧ r.2.mem ((c.tc : Thread Cert.CgateBackIdeal.nD Cert.CgateBackIdeal.τ).loc Cert.CgateBackIdeal.main_v16_3) = v3 c
          ∧ r.2.mem ((c.tc : Thread Cert.CgateBackIdeal.nD Cert.CgateBackIdeal.τ).loc Cert.CgateBackIdeal.main_arg0) = m ((c.tc : Thread Cert.CgateBackIdeal.nD Cert.CgateBackIdeal.τ).loc Cert.CgateBackIdeal.main_arg0)
          ∧ r.2.mem ((c.tc : Thread Cert.CgateBackIdeal.nD Cert.CgateBackIdeal.τ).loc Cert.CgateBackIdeal.main_arg1) = m ((c.tc : Thread Cert.CgateBackIdeal.nD Cert.CgateBackIdeal.τ).loc Cert.CgateBackIdeal.main_arg1)
          ∧ r.2.mem ((c.tc : Thread Cert.CgateBackIdeal.nD Cert.CgateBackIdeal.τ).loc Cert.CgateBackIdeal.main_arg2) = m ((c.tc : Thread Cert.CgateBackIdeal.nD Cert.CgateBackIdeal.τ).loc Cert.CgateBackIdeal.main_arg2)
          ∧ r.2.mem ((c.tc : Thread Cert.CgateBackIdeal.nD Cert.CgateBackIdeal.τ).loc Cert.CgateBackIdeal.main_arg3) = m ((c.tc : Thread Cert.CgateBackIdeal.nD Cert.CgateBackIdeal.τ).loc Cert.CgateBackIdeal.main_arg3)
          ∧ r.2.mem ((c.tc : Thread Cert.CgateBackIdeal.nD Cert.CgateBackIdeal.τ).loc Cert.CgateBackIdeal.main_arg4) = m ((c.tc : Thread Cert.CgateBackIdeal.nD Cert.CgateBackIdeal.τ).loc Cert.CgateBackIdeal.main_arg4))
      ∧ θ_run (Cert.CgateRefIdeal.defs (F := Ideal)) (onTc (τ := Cert.CgateRefIdeal.τ) (Cert.CgateRefIdeal.main (F := Ideal))) ⟨m', fun _ => 0, g'⟩ (fun r => ∀ c : Dev Cert.CgateRefIdeal.nD,
          r.2.mem ((c.tc : Thread Cert.CgateRefIdeal.nD Cert.CgateRefIdeal.τ).loc Cert.CgateRefIdeal.main_v51) = v0 c
          ∧ r.2.mem ((c.tc : Thread Cert.CgateRefIdeal.nD Cert.CgateRefIdeal.τ).loc Cert.CgateRefIdeal.main_v52) = v1 c
          ∧ r.2.mem ((c.tc : Thread Cert.CgateRefIdeal.nD Cert.CgateRefIdeal.τ).loc Cert.CgateRefIdeal.main_v53) = v2 c
          ∧ r.2.mem ((c.tc : Thread Cert.CgateRefIdeal.nD Cert.CgateRefIdeal.τ).loc Cert.CgateRefIdeal.main_v54) = v3 c
          ∧ r.2.mem ((c.tc : Thread Cert.CgateRefIdeal.nD Cert.CgateRefIdeal.τ).loc Cert.CgateRefIdeal.main_arg0) = m' ((c.tc : Thread Cert.CgateRefIdeal.nD Cert.CgateRefIdeal.τ).loc Cert.CgateRefIdeal.main_arg0)
          ∧ r.2.mem ((c.tc : Thread Cert.CgateRefIdeal.nD Cert.CgateRefIdeal.τ).loc Cert.CgateRefIdeal.main_arg1) = m' ((c.tc : Thread Cert.CgateRefIdeal.nD Cert.CgateRefIdeal.τ).loc Cert.CgateRefIdeal.main_arg1)
          ∧ r.2.mem ((c.tc : Thread Cert.CgateRefIdeal.nD Cert.CgateRefIdeal.τ).loc Cert.CgateRefIdeal.main_arg2) = m' ((c.tc : Thread Cert.CgateRefIdeal.nD Cert.CgateRefIdeal.τ).loc Cert.CgateRefIdeal.main_arg2)
          ∧ r.2.mem ((c.tc : Thread Cert.CgateRefIdeal.nD Cert.CgateRefIdeal.τ).loc Cert.CgateRefIdeal.main_arg3) = m' ((c.tc : Thread Cert.CgateRefIdeal.nD Cert.CgateRefIdeal.τ).loc Cert.CgateRefIdeal.main_arg3)
          ∧ r.2.mem ((c.tc : Thread Cert.CgateRefIdeal.nD Cert.CgateRefIdeal.τ).loc Cert.CgateRefIdeal.main_arg4) = m' ((c.tc : Thread Cert.CgateRefIdeal.nD Cert.CgateRefIdeal.τ).loc Cert.CgateRefIdeal.main_arg4))

def preserves_SguBack_SguBackIdeal : Prop :=
  True

def algebraic_SguBackIdeal_SguRefIdeal [hSguBackIdeal : Cert.SguBackIdeal.Facts] [hSguRefIdeal : Cert.SguRefIdeal.Facts] : Prop :=
  ∀ (m : (ℓ : Loc Cert.SguBackIdeal.nD Cert.SguBackIdeal.τ Cert.SguBackIdeal.sig) → Buf (Elt Ideal) ℓ) (g : Dev Cert.SguBackIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguBackIdeal m →
    (∀ c : Dev Cert.SguBackIdeal.nD,
      m' ((c.tc : Thread Cert.SguRefIdeal.nD Cert.SguRefIdeal.τ).loc Cert.SguRefIdeal.main_arg0) = m ((c.tc : Thread Cert.SguBackIdeal.nD Cert.SguBackIdeal.τ).loc Cert.SguBackIdeal.main_arg0)
      ∧ m' ((c.tc : Thread Cert.SguRefIdeal.nD Cert.SguRefIdeal.τ).loc Cert.SguRefIdeal.main_arg1) = m ((c.tc : Thread Cert.SguBackIdeal.nD Cert.SguBackIdeal.τ).loc Cert.SguBackIdeal.main_arg1)
      ∧ m' ((c.tc : Thread Cert.SguRefIdeal.nD Cert.SguRefIdeal.τ).loc Cert.SguRefIdeal.main_arg2) = m ((c.tc : Thread Cert.SguBackIdeal.nD Cert.SguBackIdeal.τ).loc Cert.SguBackIdeal.main_arg2)
      ∧ m' ((c.tc : Thread Cert.SguRefIdeal.nD Cert.SguRefIdeal.τ).loc Cert.SguRefIdeal.main_arg3) = m ((c.tc : Thread Cert.SguBackIdeal.nD Cert.SguBackIdeal.τ).loc Cert.SguBackIdeal.main_arg3)
      ∧ m' ((c.tc : Thread Cert.SguRefIdeal.nD Cert.SguRefIdeal.τ).loc Cert.SguRefIdeal.main_arg4) = m ((c.tc : Thread Cert.SguBackIdeal.nD Cert.SguBackIdeal.τ).loc Cert.SguBackIdeal.main_arg4)
      ∧ m' ((c.tc : Thread Cert.SguRefIdeal.nD Cert.SguRefIdeal.τ).loc Cert.SguRefIdeal.main_arg5) = m ((c.tc : Thread Cert.SguBackIdeal.nD Cert.SguBackIdeal.τ).loc Cert.SguBackIdeal.main_arg5)
      ∧ m' ((c.tc : Thread Cert.SguRefIdeal.nD Cert.SguRefIdeal.τ).loc Cert.SguRefIdeal.main_arg6) = m ((c.tc : Thread Cert.SguBackIdeal.nD Cert.SguBackIdeal.τ).loc Cert.SguBackIdeal.main_arg6)) →
    ∃ (v0 : (c : Dev Cert.SguBackIdeal.nD) → Buf (Elt Ideal) ((c.tc : Thread Cert.SguBackIdeal.nD Cert.SguBackIdeal.τ).loc Cert.SguBackIdeal.main_v17_0)) (v1 : (c : Dev Cert.SguBackIdeal.nD) → Buf (Elt Ideal) ((c.tc : Thread Cert.SguBackIdeal.nD Cert.SguBackIdeal.τ).loc Cert.SguBackIdeal.main_v17_1)) (v2 : (c : Dev Cert.SguBackIdeal.nD) → Buf (Elt Ideal) ((c.tc : Thread Cert.SguBackIdeal.nD Cert.SguBackIdeal.τ).loc Cert.SguBackIdeal.main_v17_2)) (v3 : (c : Dev Cert.SguBackIdeal.nD) → Buf (Elt Ideal) ((c.tc : Thread Cert.SguBackIdeal.nD Cert.SguBackIdeal.τ).loc Cert.SguBackIdeal.main_v17_3)) (v4 : (c : Dev Cert.SguBackIdeal.nD) → Buf (Elt Ideal) ((c.tc : Thread Cert.SguBackIdeal.nD Cert.SguBackIdeal.τ).loc Cert.SguBackIdeal.main_v17_4)),
      θ_run (Cert.SguBackIdeal.defs (F := Ideal)) (onTc (τ := Cert.SguBackIdeal.τ) (Cert.SguBackIdeal.main (F := Ideal))) ⟨m, fun _ => 0, g⟩ (fun r => ∀ c : Dev Cert.SguBackIdeal.nD,
          r.2.mem ((c.tc : Thread Cert.SguBackIdeal.nD Cert.SguBackIdeal.τ).loc Cert.SguBackIdeal.main_v17_0) = v0 c
          ∧ r.2.mem ((c.tc : Thread Cert.SguBackIdeal.nD Cert.SguBackIdeal.τ).loc Cert.SguBackIdeal.main_v17_1) = v1 c
          ∧ r.2.mem ((c.tc : Thread Cert.SguBackIdeal.nD Cert.SguBackIdeal.τ).loc Cert.SguBackIdeal.main_v17_2) = v2 c
          ∧ r.2.mem ((c.tc : Thread Cert.SguBackIdeal.nD Cert.SguBackIdeal.τ).loc Cert.SguBackIdeal.main_v17_3) = v3 c
          ∧ r.2.mem ((c.tc : Thread Cert.SguBackIdeal.nD Cert.SguBackIdeal.τ).loc Cert.SguBackIdeal.main_v17_4) = v4 c
          ∧ r.2.mem ((c.tc : Thread Cert.SguBackIdeal.nD Cert.SguBackIdeal.τ).loc Cert.SguBackIdeal.main_arg0) = m ((c.tc : Thread Cert.SguBackIdeal.nD Cert.SguBackIdeal.τ).loc Cert.SguBackIdeal.main_arg0)
          ∧ r.2.mem ((c.tc : Thread Cert.SguBackIdeal.nD Cert.SguBackIdeal.τ).loc Cert.SguBackIdeal.main_arg1) = m ((c.tc : Thread Cert.SguBackIdeal.nD Cert.SguBackIdeal.τ).loc Cert.SguBackIdeal.main_arg1)
          ∧ r.2.mem ((c.tc : Thread Cert.SguBackIdeal.nD Cert.SguBackIdeal.τ).loc Cert.SguBackIdeal.main_arg2) = m ((c.tc : Thread Cert.SguBackIdeal.nD Cert.SguBackIdeal.τ).loc Cert.SguBackIdeal.main_arg2)
          ∧ r.2.mem ((c.tc : Thread Cert.SguBackIdeal.nD Cert.SguBackIdeal.τ).loc Cert.SguBackIdeal.main_arg3) = m ((c.tc : Thread Cert.SguBackIdeal.nD Cert.SguBackIdeal.τ).loc Cert.SguBackIdeal.main_arg3)
          ∧ r.2.mem ((c.tc : Thread Cert.SguBackIdeal.nD Cert.SguBackIdeal.τ).loc Cert.SguBackIdeal.main_arg4) = m ((c.tc : Thread Cert.SguBackIdeal.nD Cert.SguBackIdeal.τ).loc Cert.SguBackIdeal.main_arg4)
          ∧ r.2.mem ((c.tc : Thread Cert.SguBackIdeal.nD Cert.SguBackIdeal.τ).loc Cert.SguBackIdeal.main_arg5) = m ((c.tc : Thread Cert.SguBackIdeal.nD Cert.SguBackIdeal.τ).loc Cert.SguBackIdeal.main_arg5)
          ∧ r.2.mem ((c.tc : Thread Cert.SguBackIdeal.nD Cert.SguBackIdeal.τ).loc Cert.SguBackIdeal.main_arg6) = m ((c.tc : Thread Cert.SguBackIdeal.nD Cert.SguBackIdeal.τ).loc Cert.SguBackIdeal.main_arg6))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v109) = v0 c
          ∧ r.2.mem ((c.tc : Thread Cert.SguRefIdeal.nD Cert.SguRefIdeal.τ).loc Cert.SguRefIdeal.main_v89) = v1 c
          ∧ r.2.mem ((c.tc : Thread Cert.SguRefIdeal.nD Cert.SguRefIdeal.τ).loc Cert.SguRefIdeal.main_v80) = v2 c
          ∧ r.2.mem ((c.tc : Thread Cert.SguRefIdeal.nD Cert.SguRefIdeal.τ).loc Cert.SguRefIdeal.main_v110) = v3 c
          ∧ r.2.mem ((c.tc : Thread Cert.SguRefIdeal.nD Cert.SguRefIdeal.τ).loc Cert.SguRefIdeal.main_v111) = v4 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5)
          ∧ r.2.mem ((c.tc : Thread Cert.SguRefIdeal.nD Cert.SguRefIdeal.τ).loc Cert.SguRefIdeal.main_arg6) = m' ((c.tc : Thread Cert.SguRefIdeal.nD Cert.SguRefIdeal.τ).loc Cert.SguRefIdeal.main_arg6))

def preserves_ConvBack_ConvBackIdeal : Prop :=
  True

def algebraic_ConvBackIdeal_ConvRefIdeal_on_written [hConvBackIdeal : Cert.ConvBackIdeal.Facts] [hConvRefIdeal : Cert.ConvRefIdeal.Facts] [hOn_written : Cert.On_written.Facts] : Prop :=
  ∀ (m : (ℓ : Loc Cert.ConvBackIdeal.nD Cert.ConvBackIdeal.τ Cert.ConvBackIdeal.sig) → Buf (Elt Ideal) ℓ) (g : Dev Cert.ConvBackIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBackIdeal m →
    (∀ c : Dev Cert.ConvBackIdeal.nD,
      m' ((c.tc : Thread Cert.ConvRefIdeal.nD Cert.ConvRefIdeal.τ).loc Cert.ConvRefIdeal.main_arg0) = m ((c.tc : Thread Cert.ConvBackIdeal.nD Cert.ConvBackIdeal.τ).loc Cert.ConvBackIdeal.main_arg0)
      ∧ m' ((c.tc : Thread Cert.ConvRefIdeal.nD Cert.ConvRefIdeal.τ).loc Cert.ConvRefIdeal.main_arg1) = m ((c.tc : Thread Cert.ConvBackIdeal.nD Cert.ConvBackIdeal.τ).loc Cert.ConvBackIdeal.main_arg1)
      ∧ m' ((c.tc : Thread Cert.ConvRefIdeal.nD Cert.ConvRefIdeal.τ).loc Cert.ConvRefIdeal.main_arg2) = m ((c.tc : Thread Cert.ConvBackIdeal.nD Cert.ConvBackIdeal.τ).loc Cert.ConvBackIdeal.main_arg2)
      ∧ m' ((c.tc : Thread Cert.ConvRefIdeal.nD Cert.ConvRefIdeal.τ).loc Cert.ConvRefIdeal.main_arg3) = m ((c.tc : Thread Cert.ConvBackIdeal.nD Cert.ConvBackIdeal.τ).loc Cert.ConvBackIdeal.main_arg3)
      ∧ m' ((c.tc : Thread Cert.ConvRefIdeal.nD Cert.ConvRefIdeal.τ).loc Cert.ConvRefIdeal.main_arg4) = m ((c.tc : Thread Cert.ConvBackIdeal.nD Cert.ConvBackIdeal.τ).loc Cert.ConvBackIdeal.main_arg4)) →
    ∃ (v0 : (c : Dev Cert.ConvBackIdeal.nD) → Buf (Elt Ideal) ((c.tc : Thread Cert.ConvBackIdeal.nD Cert.ConvBackIdeal.τ).loc Cert.ConvBackIdeal.main_v17_0)) (v1 : (c : Dev Cert.ConvBackIdeal.nD) → Buf (Elt Ideal) ((c.tc : Thread Cert.ConvBackIdeal.nD Cert.ConvBackIdeal.τ).loc Cert.ConvBackIdeal.main_v17_1)) (v2 : (c : Dev Cert.ConvBackIdeal.nD) → Buf (Elt Ideal) ((c.tc : Thread Cert.ConvBackIdeal.nD Cert.ConvBackIdeal.τ).loc Cert.ConvBackIdeal.main_v17_2)) (v3 : (c : Dev Cert.ConvBackIdeal.nD) → Buf (Elt Ideal) ((c.tc : Thread Cert.ConvBackIdeal.nD Cert.ConvBackIdeal.τ).loc Cert.ConvBackIdeal.main_v17_3)),
      θ_run (Cert.ConvBackIdeal.defs (F := Ideal)) (onTc (τ := Cert.ConvBackIdeal.τ) (Cert.ConvBackIdeal.main (F := Ideal))) ⟨m, fun _ => 0, g⟩ (fun r => ∀ c : Dev Cert.ConvBackIdeal.nD,
          (∀ i : (⟨2, ![8192, 6912]⟩ : Shape).Idx, (Cert.On_written.fn (F := Ideal) (m ((c.tc : Thread Cert.ConvBackIdeal.nD Cert.ConvBackIdeal.τ).loc Cert.ConvBackIdeal.main_arg0)) (m ((c.tc : Thread Cert.ConvBackIdeal.nD Cert.ConvBackIdeal.τ).loc Cert.ConvBackIdeal.main_arg1)) (m ((c.tc : Thread Cert.ConvBackIdeal.nD Cert.ConvBackIdeal.τ).loc Cert.ConvBackIdeal.main_arg2)) (m ((c.tc : Thread Cert.ConvBackIdeal.nD Cert.ConvBackIdeal.τ).loc Cert.ConvBackIdeal.main_arg3)) (m ((c.tc : Thread Cert.ConvBackIdeal.nD Cert.ConvBackIdeal.τ).loc Cert.ConvBackIdeal.main_arg4))).1 i = 1#1 → r.2.mem ((c.tc : Thread Cert.ConvBackIdeal.nD Cert.ConvBackIdeal.τ).loc Cert.ConvBackIdeal.main_v17_0) i = v0 c i)
          ∧ (∀ i : (⟨2, ![3, 512]⟩ : Shape).Idx, (Cert.On_written.fn (F := Ideal) (m ((c.tc : Thread Cert.ConvBackIdeal.nD Cert.ConvBackIdeal.τ).loc Cert.ConvBackIdeal.main_arg0)) (m ((c.tc : Thread Cert.ConvBackIdeal.nD Cert.ConvBackIdeal.τ).loc Cert.ConvBackIdeal.main_arg1)) (m ((c.tc : Thread Cert.ConvBackIdeal.nD Cert.ConvBackIdeal.τ).loc Cert.ConvBackIdeal.main_arg2)) (m ((c.tc : Thread Cert.ConvBackIdeal.nD Cert.ConvBackIdeal.τ).loc Cert.ConvBackIdeal.main_arg3)) (m ((c.tc : Thread Cert.ConvBackIdeal.nD Cert.ConvBackIdeal.τ).loc Cert.ConvBackIdeal.main_arg4))).2.1 i = 1#1 → r.2.mem ((c.tc : Thread Cert.ConvBackIdeal.nD Cert.ConvBackIdeal.τ).loc Cert.ConvBackIdeal.main_v17_1) i = v1 c i)
          ∧ (∀ i : (⟨2, ![1, 512]⟩ : Shape).Idx, (Cert.On_written.fn (F := Ideal) (m ((c.tc : Thread Cert.ConvBackIdeal.nD Cert.ConvBackIdeal.τ).loc Cert.ConvBackIdeal.main_arg0)) (m ((c.tc : Thread Cert.ConvBackIdeal.nD Cert.ConvBackIdeal.τ).loc Cert.ConvBackIdeal.main_arg1)) (m ((c.tc : Thread Cert.ConvBackIdeal.nD Cert.ConvBackIdeal.τ).loc Cert.ConvBackIdeal.main_arg2)) (m ((c.tc : Thread Cert.ConvBackIdeal.nD Cert.ConvBackIdeal.τ).loc Cert.ConvBackIdeal.main_arg3)) (m ((c.tc : Thread Cert.ConvBackIdeal.nD Cert.ConvBackIdeal.τ).loc Cert.ConvBackIdeal.main_arg4))).2.2.1 i = 1#1 → r.2.mem ((c.tc : Thread Cert.ConvBackIdeal.nD Cert.ConvBackIdeal.τ).loc Cert.ConvBackIdeal.main_v17_2) i = v2 c i)
          ∧ (∀ i : (⟨2, ![1, 512]⟩ : Shape).Idx, (Cert.On_written.fn (F := Ideal) (m ((c.tc : Thread Cert.ConvBackIdeal.nD Cert.ConvBackIdeal.τ).loc Cert.ConvBackIdeal.main_arg0)) (m ((c.tc : Thread Cert.ConvBackIdeal.nD Cert.ConvBackIdeal.τ).loc Cert.ConvBackIdeal.main_arg1)) (m ((c.tc : Thread Cert.ConvBackIdeal.nD Cert.ConvBackIdeal.τ).loc Cert.ConvBackIdeal.main_arg2)) (m ((c.tc : Thread Cert.ConvBackIdeal.nD Cert.ConvBackIdeal.τ).loc Cert.ConvBackIdeal.main_arg3)) (m ((c.tc : Thread Cert.ConvBackIdeal.nD Cert.ConvBackIdeal.τ).loc Cert.ConvBackIdeal.main_arg4))).2.2.2 i = 1#1 → r.2.mem ((c.tc : Thread Cert.ConvBackIdeal.nD Cert.ConvBackIdeal.τ).loc Cert.ConvBackIdeal.main_v17_3) i = v3 c i)
          ∧ r.2.mem ((c.tc : Thread Cert.ConvBackIdeal.nD Cert.ConvBackIdeal.τ).loc Cert.ConvBackIdeal.main_arg0) = m ((c.tc : Thread Cert.ConvBackIdeal.nD Cert.ConvBackIdeal.τ).loc Cert.ConvBackIdeal.main_arg0)
          ∧ r.2.mem ((c.tc : Thread Cert.ConvBackIdeal.nD Cert.ConvBackIdeal.τ).loc Cert.ConvBackIdeal.main_arg1) = m ((c.tc : Thread Cert.ConvBackIdeal.nD Cert.ConvBackIdeal.τ).loc Cert.ConvBackIdeal.main_arg1)
          ∧ r.2.mem ((c.tc : Thread Cert.ConvBackIdeal.nD Cert.ConvBackIdeal.τ).loc Cert.ConvBackIdeal.main_arg2) = m ((c.tc : Thread Cert.ConvBackIdeal.nD Cert.ConvBackIdeal.τ).loc Cert.ConvBackIdeal.main_arg2)
          ∧ r.2.mem ((c.tc : Thread Cert.ConvBackIdeal.nD Cert.ConvBackIdeal.τ).loc Cert.ConvBackIdeal.main_arg3) = m ((c.tc : Thread Cert.ConvBackIdeal.nD Cert.ConvBackIdeal.τ).loc Cert.ConvBackIdeal.main_arg3)
          ∧ r.2.mem ((c.tc : Thread Cert.ConvBackIdeal.nD Cert.ConvBackIdeal.τ).loc Cert.ConvBackIdeal.main_arg4) = m ((c.tc : Thread Cert.ConvBackIdeal.nD Cert.ConvBackIdeal.τ).loc Cert.ConvBackIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          (∀ i : (⟨2, ![8192, 6912]⟩ : Shape).Idx, (Cert.On_written.fn (F := Ideal) (m ((c.tc : Thread Cert.ConvBackIdeal.nD Cert.ConvBackIdeal.τ).loc Cert.ConvBackIdeal.main_arg0)) (m ((c.tc : Thread Cert.ConvBackIdeal.nD Cert.ConvBackIdeal.τ).loc Cert.ConvBackIdeal.main_arg1)) (m ((c.tc : Thread Cert.ConvBackIdeal.nD Cert.ConvBackIdeal.τ).loc Cert.ConvBackIdeal.main_arg2)) (m ((c.tc : Thread Cert.ConvBackIdeal.nD Cert.ConvBackIdeal.τ).loc Cert.ConvBackIdeal.main_arg3)) (m ((c.tc : Thread Cert.ConvBackIdeal.nD Cert.ConvBackIdeal.τ).loc Cert.ConvBackIdeal.main_arg4))).1 i = 1#1 → r.2.mem ((c.tc : Thread Cert.ConvRefIdeal.nD Cert.ConvRefIdeal.τ).loc Cert.ConvRefIdeal.main_v121) i = v0 c i)
          ∧ (∀ i : (⟨2, ![3, 512]⟩ : Shape).Idx, (Cert.On_written.fn (F := Ideal) (m ((c.tc : Thread Cert.ConvBackIdeal.nD Cert.ConvBackIdeal.τ).loc Cert.ConvBackIdeal.main_arg0)) (m ((c.tc : Thread Cert.ConvBackIdeal.nD Cert.ConvBackIdeal.τ).loc Cert.ConvBackIdeal.main_arg1)) (m ((c.tc : Thread Cert.ConvBackIdeal.nD Cert.ConvBackIdeal.τ).loc Cert.ConvBackIdeal.main_arg2)) (m ((c.tc : Thread Cert.ConvBackIdeal.nD Cert.ConvBackIdeal.τ).loc Cert.ConvBackIdeal.main_arg3)) (m ((c.tc : Thread Cert.ConvBackIdeal.nD Cert.ConvBackIdeal.τ).loc Cert.ConvBackIdeal.main_arg4))).2.1 i = 1#1 → r.2.mem ((c.tc : Thread Cert.ConvRefIdeal.nD Cert.ConvRefIdeal.τ).loc Cert.ConvRefIdeal.main_v111) i = v1 c i)
          ∧ (∀ i : (⟨2, ![1, 512]⟩ : Shape).Idx, (Cert.On_written.fn (F := Ideal) (m ((c.tc : Thread Cert.ConvBackIdeal.nD Cert.ConvBackIdeal.τ).loc Cert.ConvBackIdeal.main_arg0)) (m ((c.tc : Thread Cert.ConvBackIdeal.nD Cert.ConvBackIdeal.τ).loc Cert.ConvBackIdeal.main_arg1)) (m ((c.tc : Thread Cert.ConvBackIdeal.nD Cert.ConvBackIdeal.τ).loc Cert.ConvBackIdeal.main_arg2)) (m ((c.tc : Thread Cert.ConvBackIdeal.nD Cert.ConvBackIdeal.τ).loc Cert.ConvBackIdeal.main_arg3)) (m ((c.tc : Thread Cert.ConvBackIdeal.nD Cert.ConvBackIdeal.τ).loc Cert.ConvBackIdeal.main_arg4))).2.2.1 i = 1#1 → r.2.mem ((c.tc : Thread Cert.ConvRefIdeal.nD Cert.ConvRefIdeal.τ).loc Cert.ConvRefIdeal.main_v122) i = v2 c i)
          ∧ (∀ i : (⟨2, ![1, 512]⟩ : Shape).Idx, (Cert.On_written.fn (F := Ideal) (m ((c.tc : Thread Cert.ConvBackIdeal.nD Cert.ConvBackIdeal.τ).loc Cert.ConvBackIdeal.main_arg0)) (m ((c.tc : Thread Cert.ConvBackIdeal.nD Cert.ConvBackIdeal.τ).loc Cert.ConvBackIdeal.main_arg1)) (m ((c.tc : Thread Cert.ConvBackIdeal.nD Cert.ConvBackIdeal.τ).loc Cert.ConvBackIdeal.main_arg2)) (m ((c.tc : Thread Cert.ConvBackIdeal.nD Cert.ConvBackIdeal.τ).loc Cert.ConvBackIdeal.main_arg3)) (m ((c.tc : Thread Cert.ConvBackIdeal.nD Cert.ConvBackIdeal.τ).loc Cert.ConvBackIdeal.main_arg4))).2.2.2 i = 1#1 → r.2.mem ((c.tc : Thread Cert.ConvRefIdeal.nD Cert.ConvRefIdeal.τ).loc Cert.ConvRefIdeal.main_v123) i = v3 c i)
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_MlaBack_MlaBackIdeal : Prop :=
  True

def algebraic_MlaBackIdeal_MlaRefIdeal [hMlaBackIdeal : Cert.MlaBackIdeal.Facts] [hMlaRefIdeal : Cert.MlaRefIdeal.Facts] : Prop :=
  ∀ (m : (ℓ : Loc Cert.MlaBackIdeal.nD Cert.MlaBackIdeal.τ Cert.MlaBackIdeal.sig) → Buf (Elt Ideal) ℓ) (g : Dev Cert.MlaBackIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaBackIdeal m →
    (∀ c : Dev Cert.MlaBackIdeal.nD,
      m' ((c.tc : Thread Cert.MlaRefIdeal.nD Cert.MlaRefIdeal.τ).loc Cert.MlaRefIdeal.main_arg0) = m ((c.tc : Thread Cert.MlaBackIdeal.nD Cert.MlaBackIdeal.τ).loc Cert.MlaBackIdeal.main_arg0)
      ∧ m' ((c.tc : Thread Cert.MlaRefIdeal.nD Cert.MlaRefIdeal.τ).loc Cert.MlaRefIdeal.main_arg1) = m ((c.tc : Thread Cert.MlaBackIdeal.nD Cert.MlaBackIdeal.τ).loc Cert.MlaBackIdeal.main_arg1)
      ∧ m' ((c.tc : Thread Cert.MlaRefIdeal.nD Cert.MlaRefIdeal.τ).loc Cert.MlaRefIdeal.main_arg2) = m ((c.tc : Thread Cert.MlaBackIdeal.nD Cert.MlaBackIdeal.τ).loc Cert.MlaBackIdeal.main_arg2)
      ∧ m' ((c.tc : Thread Cert.MlaRefIdeal.nD Cert.MlaRefIdeal.τ).loc Cert.MlaRefIdeal.main_arg3) = m ((c.tc : Thread Cert.MlaBackIdeal.nD Cert.MlaBackIdeal.τ).loc Cert.MlaBackIdeal.main_arg3)
      ∧ m' ((c.tc : Thread Cert.MlaRefIdeal.nD Cert.MlaRefIdeal.τ).loc Cert.MlaRefIdeal.main_arg4) = m ((c.tc : Thread Cert.MlaBackIdeal.nD Cert.MlaBackIdeal.τ).loc Cert.MlaBackIdeal.main_arg4)
      ∧ m' ((c.tc : Thread Cert.MlaRefIdeal.nD Cert.MlaRefIdeal.τ).loc Cert.MlaRefIdeal.main_arg5) = m ((c.tc : Thread Cert.MlaBackIdeal.nD Cert.MlaBackIdeal.τ).loc Cert.MlaBackIdeal.main_arg5)
      ∧ m' ((c.tc : Thread Cert.MlaRefIdeal.nD Cert.MlaRefIdeal.τ).loc Cert.MlaRefIdeal.main_arg6) = m ((c.tc : Thread Cert.MlaBackIdeal.nD Cert.MlaBackIdeal.τ).loc Cert.MlaBackIdeal.main_arg6)
      ∧ m' ((c.tc : Thread Cert.MlaRefIdeal.nD Cert.MlaRefIdeal.τ).loc Cert.MlaRefIdeal.main_arg7) = m ((c.tc : Thread Cert.MlaBackIdeal.nD Cert.MlaBackIdeal.τ).loc Cert.MlaBackIdeal.main_arg7)
      ∧ m' ((c.tc : Thread Cert.MlaRefIdeal.nD Cert.MlaRefIdeal.τ).loc Cert.MlaRefIdeal.main_arg8) = m ((c.tc : Thread Cert.MlaBackIdeal.nD Cert.MlaBackIdeal.τ).loc Cert.MlaBackIdeal.main_arg8)
      ∧ m' ((c.tc : Thread Cert.MlaRefIdeal.nD Cert.MlaRefIdeal.τ).loc Cert.MlaRefIdeal.main_arg9) = m ((c.tc : Thread Cert.MlaBackIdeal.nD Cert.MlaBackIdeal.τ).loc Cert.MlaBackIdeal.main_arg9)
      ∧ m' ((c.tc : Thread Cert.MlaRefIdeal.nD Cert.MlaRefIdeal.τ).loc Cert.MlaRefIdeal.main_arg10) = m ((c.tc : Thread Cert.MlaBackIdeal.nD Cert.MlaBackIdeal.τ).loc Cert.MlaBackIdeal.main_arg10)
      ∧ m' ((c.tc : Thread Cert.MlaRefIdeal.nD Cert.MlaRefIdeal.τ).loc Cert.MlaRefIdeal.main_arg11) = m ((c.tc : Thread Cert.MlaBackIdeal.nD Cert.MlaBackIdeal.τ).loc Cert.MlaBackIdeal.main_arg11)) →
    ∃ (v0 : (c : Dev Cert.MlaBackIdeal.nD) → Buf (Elt Ideal) ((c.tc : Thread Cert.MlaBackIdeal.nD Cert.MlaBackIdeal.τ).loc Cert.MlaBackIdeal.main_v47_0)) (v1 : (c : Dev Cert.MlaBackIdeal.nD) → Buf (Elt Ideal) ((c.tc : Thread Cert.MlaBackIdeal.nD Cert.MlaBackIdeal.τ).loc Cert.MlaBackIdeal.main_v47_1)) (v2 : (c : Dev Cert.MlaBackIdeal.nD) → Buf (Elt Ideal) ((c.tc : Thread Cert.MlaBackIdeal.nD Cert.MlaBackIdeal.τ).loc Cert.MlaBackIdeal.main_v47_2)) (v3 : (c : Dev Cert.MlaBackIdeal.nD) → Buf (Elt Ideal) ((c.tc : Thread Cert.MlaBackIdeal.nD Cert.MlaBackIdeal.τ).loc Cert.MlaBackIdeal.main_v47_3)) (v4 : (c : Dev Cert.MlaBackIdeal.nD) → Buf (Elt Ideal) ((c.tc : Thread Cert.MlaBackIdeal.nD Cert.MlaBackIdeal.τ).loc Cert.MlaBackIdeal.main_v47_4)) (v5 : (c : Dev Cert.MlaBackIdeal.nD) → Buf (Elt Ideal) ((c.tc : Thread Cert.MlaBackIdeal.nD Cert.MlaBackIdeal.τ).loc Cert.MlaBackIdeal.main_v47_5)) (v6 : (c : Dev Cert.MlaBackIdeal.nD) → Buf (Elt Ideal) ((c.tc : Thread Cert.MlaBackIdeal.nD Cert.MlaBackIdeal.τ).loc Cert.MlaBackIdeal.main_v47_6)),
      θ_run (Cert.MlaBackIdeal.defs (F := Ideal)) (onTc (τ := Cert.MlaBackIdeal.τ) (Cert.MlaBackIdeal.main (F := Ideal))) ⟨m, fun _ => 0, g⟩ (fun r => ∀ c : Dev Cert.MlaBackIdeal.nD,
          r.2.mem ((c.tc : Thread Cert.MlaBackIdeal.nD Cert.MlaBackIdeal.τ).loc Cert.MlaBackIdeal.main_v47_0) = v0 c
          ∧ r.2.mem ((c.tc : Thread Cert.MlaBackIdeal.nD Cert.MlaBackIdeal.τ).loc Cert.MlaBackIdeal.main_v47_1) = v1 c
          ∧ r.2.mem ((c.tc : Thread Cert.MlaBackIdeal.nD Cert.MlaBackIdeal.τ).loc Cert.MlaBackIdeal.main_v47_2) = v2 c
          ∧ r.2.mem ((c.tc : Thread Cert.MlaBackIdeal.nD Cert.MlaBackIdeal.τ).loc Cert.MlaBackIdeal.main_v47_3) = v3 c
          ∧ r.2.mem ((c.tc : Thread Cert.MlaBackIdeal.nD Cert.MlaBackIdeal.τ).loc Cert.MlaBackIdeal.main_v47_4) = v4 c
          ∧ r.2.mem ((c.tc : Thread Cert.MlaBackIdeal.nD Cert.MlaBackIdeal.τ).loc Cert.MlaBackIdeal.main_v47_5) = v5 c
          ∧ r.2.mem ((c.tc : Thread Cert.MlaBackIdeal.nD Cert.MlaBackIdeal.τ).loc Cert.MlaBackIdeal.main_v47_6) = v6 c
          ∧ r.2.mem ((c.tc : Thread Cert.MlaBackIdeal.nD Cert.MlaBackIdeal.τ).loc Cert.MlaBackIdeal.main_arg0) = m ((c.tc : Thread Cert.MlaBackIdeal.nD Cert.MlaBackIdeal.τ).loc Cert.MlaBackIdeal.main_arg0)
          ∧ r.2.mem ((c.tc : Thread Cert.MlaBackIdeal.nD Cert.MlaBackIdeal.τ).loc Cert.MlaBackIdeal.main_arg1) = m ((c.tc : Thread Cert.MlaBackIdeal.nD Cert.MlaBackIdeal.τ).loc Cert.MlaBackIdeal.main_arg1)
          ∧ r.2.mem ((c.tc : Thread Cert.MlaBackIdeal.nD Cert.MlaBackIdeal.τ).loc Cert.MlaBackIdeal.main_arg2) = m ((c.tc : Thread Cert.MlaBackIdeal.nD Cert.MlaBackIdeal.τ).loc Cert.MlaBackIdeal.main_arg2)
          ∧ r.2.mem ((c.tc : Thread Cert.MlaBackIdeal.nD Cert.MlaBackIdeal.τ).loc Cert.MlaBackIdeal.main_arg3) = m ((c.tc : Thread Cert.MlaBackIdeal.nD Cert.MlaBackIdeal.τ).loc Cert.MlaBackIdeal.main_arg3)
          ∧ r.2.mem ((c.tc : Thread Cert.MlaBackIdeal.nD Cert.MlaBackIdeal.τ).loc Cert.MlaBackIdeal.main_arg4) = m ((c.tc : Thread Cert.MlaBackIdeal.nD Cert.MlaBackIdeal.τ).loc Cert.MlaBackIdeal.main_arg4)
          ∧ r.2.mem ((c.tc : Thread Cert.MlaBackIdeal.nD Cert.MlaBackIdeal.τ).loc Cert.MlaBackIdeal.main_arg5) = m ((c.tc : Thread Cert.MlaBackIdeal.nD Cert.MlaBackIdeal.τ).loc Cert.MlaBackIdeal.main_arg5)
          ∧ r.2.mem ((c.tc : Thread Cert.MlaBackIdeal.nD Cert.MlaBackIdeal.τ).loc Cert.MlaBackIdeal.main_arg6) = m ((c.tc : Thread Cert.MlaBackIdeal.nD Cert.MlaBackIdeal.τ).loc Cert.MlaBackIdeal.main_arg6)
          ∧ r.2.mem ((c.tc : Thread Cert.MlaBackIdeal.nD Cert.MlaBackIdeal.τ).loc Cert.MlaBackIdeal.main_arg7) = m ((c.tc : Thread Cert.MlaBackIdeal.nD Cert.MlaBackIdeal.τ).loc Cert.MlaBackIdeal.main_arg7)
          ∧ r.2.mem ((c.tc : Thread Cert.MlaBackIdeal.nD Cert.MlaBackIdeal.τ).loc Cert.MlaBackIdeal.main_arg8) = m ((c.tc : Thread Cert.MlaBackIdeal.nD Cert.MlaBackIdeal.τ).loc Cert.MlaBackIdeal.main_arg8)
          ∧ r.2.mem ((c.tc : Thread Cert.MlaBackIdeal.nD Cert.MlaBackIdeal.τ).loc Cert.MlaBackIdeal.main_arg9) = m ((c.tc : Thread Cert.MlaBackIdeal.nD Cert.MlaBackIdeal.τ).loc Cert.MlaBackIdeal.main_arg9)
          ∧ r.2.mem ((c.tc : Thread Cert.MlaBackIdeal.nD Cert.MlaBackIdeal.τ).loc Cert.MlaBackIdeal.main_arg10) = m ((c.tc : Thread Cert.MlaBackIdeal.nD Cert.MlaBackIdeal.τ).loc Cert.MlaBackIdeal.main_arg10)
          ∧ r.2.mem ((c.tc : Thread Cert.MlaBackIdeal.nD Cert.MlaBackIdeal.τ).loc Cert.MlaBackIdeal.main_arg11) = m ((c.tc : Thread Cert.MlaBackIdeal.nD Cert.MlaBackIdeal.τ).loc Cert.MlaBackIdeal.main_arg11))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v305) = v0 c
          ∧ r.2.mem ((c.tc : Thread Cert.MlaRefIdeal.nD Cert.MlaRefIdeal.τ).loc Cert.MlaRefIdeal.main_v303) = v1 c
          ∧ r.2.mem ((c.tc : Thread Cert.MlaRefIdeal.nD Cert.MlaRefIdeal.τ).loc Cert.MlaRefIdeal.main_v306) = v2 c
          ∧ r.2.mem ((c.tc : Thread Cert.MlaRefIdeal.nD Cert.MlaRefIdeal.τ).loc Cert.MlaRefIdeal.main_v307) = v3 c
          ∧ r.2.mem ((c.tc : Thread Cert.MlaRefIdeal.nD Cert.MlaRefIdeal.τ).loc Cert.MlaRefIdeal.main_v308) = v4 c
          ∧ r.2.mem ((c.tc : Thread Cert.MlaRefIdeal.nD Cert.MlaRefIdeal.τ).loc Cert.MlaRefIdeal.main_v309) = v5 c
          ∧ r.2.mem ((c.tc : Thread Cert.MlaRefIdeal.nD Cert.MlaRefIdeal.τ).loc Cert.MlaRefIdeal.main_v310) = v6 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5)
          ∧ r.2.mem ((c.tc : Thread Cert.MlaRefIdeal.nD Cert.MlaRefIdeal.τ).loc Cert.MlaRefIdeal.main_arg6) = m' ((c.tc : Thread Cert.MlaRefIdeal.nD Cert.MlaRefIdeal.τ).loc Cert.MlaRefIdeal.main_arg6)
          ∧ r.2.mem ((c.tc : Thread Cert.MlaRefIdeal.nD Cert.MlaRefIdeal.τ).loc Cert.MlaRefIdeal.main_arg7) = m' ((c.tc : Thread Cert.MlaRefIdeal.nD Cert.MlaRefIdeal.τ).loc Cert.MlaRefIdeal.main_arg7)
          ∧ r.2.mem ((c.tc : Thread Cert.MlaRefIdeal.nD Cert.MlaRefIdeal.τ).loc Cert.MlaRefIdeal.main_arg8) = m' ((c.tc : Thread Cert.MlaRefIdeal.nD Cert.MlaRefIdeal.τ).loc Cert.MlaRefIdeal.main_arg8)
          ∧ r.2.mem ((c.tc : Thread Cert.MlaRefIdeal.nD Cert.MlaRefIdeal.τ).loc Cert.MlaRefIdeal.main_arg9) = m' ((c.tc : Thread Cert.MlaRefIdeal.nD Cert.MlaRefIdeal.τ).loc Cert.MlaRefIdeal.main_arg9)
          ∧ r.2.mem ((c.tc : Thread Cert.MlaRefIdeal.nD Cert.MlaRefIdeal.τ).loc Cert.MlaRefIdeal.main_arg10) = m' ((c.tc : Thread Cert.MlaRefIdeal.nD Cert.MlaRefIdeal.τ).loc Cert.MlaRefIdeal.main_arg10)
          ∧ r.2.mem ((c.tc : Thread Cert.MlaRefIdeal.nD Cert.MlaRefIdeal.τ).loc Cert.MlaRefIdeal.main_arg11) = m' ((c.tc : Thread Cert.MlaRefIdeal.nD Cert.MlaRefIdeal.τ).loc Cert.MlaRefIdeal.main_arg11))

def preserves_PleFwd_PleFwdIdeal : Prop :=
  True

def algebraic_PleFwdIdeal_PleFwdRefIdeal [hPleFwdIdeal : Cert.PleFwdIdeal.Facts] [hPleFwdRefIdeal : Cert.PleFwdRefIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.PleFwdRefIdeal.nD Cert.PleFwdRefIdeal.τ Cert.PleFwdRefIdeal.sig) → Buf (Elt Ideal) ℓ) (g' : Dev Cert.PleFwdRefIdeal.nD → PrngReg), Pre_PleFwdIdeal m →
    (∀ c : Dev Cert.PleFwdIdeal.nD,
      m' ((c.tc : Thread Cert.PleFwdRefIdeal.nD Cert.PleFwdRefIdeal.τ).loc Cert.PleFwdRefIdeal.main_arg0) = m ((c.tc : Thread Cert.PleFwdIdeal.nD Cert.PleFwdIdeal.τ).loc Cert.PleFwdIdeal.main_arg0)
      ∧ m' ((c.tc : Thread Cert.PleFwdRefIdeal.nD Cert.PleFwdRefIdeal.τ).loc Cert.PleFwdRefIdeal.main_arg1) = m ((c.tc : Thread Cert.PleFwdIdeal.nD Cert.PleFwdIdeal.τ).loc Cert.PleFwdIdeal.main_arg1)
      ∧ m' ((c.tc : Thread Cert.PleFwdRefIdeal.nD Cert.PleFwdRefIdeal.τ).loc Cert.PleFwdRefIdeal.main_arg2) = m ((c.tc : Thread Cert.PleFwdIdeal.nD Cert.PleFwdIdeal.τ).loc Cert.PleFwdIdeal.main_arg2)
      ∧ m' ((c.tc : Thread Cert.PleFwdRefIdeal.nD Cert.PleFwdRefIdeal.τ).loc Cert.PleFwdRefIdeal.main_arg3) = m ((c.tc : Thread Cert.PleFwdIdeal.nD Cert.PleFwdIdeal.τ).loc Cert.PleFwdIdeal.main_arg3)
      ∧ m' ((c.tc : Thread Cert.PleFwdRefIdeal.nD Cert.PleFwdRefIdeal.τ).loc Cert.PleFwdRefIdeal.main_arg4) = m ((c.tc : Thread Cert.PleFwdIdeal.nD Cert.PleFwdIdeal.τ).loc Cert.PleFwdIdeal.main_arg4)) →
    ∃ (v0 : (c : Dev Cert.PleFwdIdeal.nD) → Buf (Elt Ideal) ((c.tc : Thread Cert.PleFwdIdeal.nD Cert.PleFwdIdeal.τ).loc Cert.PleFwdIdeal.main_v3_0)) (v1 : (c : Dev Cert.PleFwdIdeal.nD) → Buf (Elt Ideal) ((c.tc : Thread Cert.PleFwdIdeal.nD Cert.PleFwdIdeal.τ).loc Cert.PleFwdIdeal.main_v3_1)) (v2 : (c : Dev Cert.PleFwdIdeal.nD) → Buf (Elt Ideal) ((c.tc : Thread Cert.PleFwdIdeal.nD Cert.PleFwdIdeal.τ).loc Cert.PleFwdIdeal.main_v3_2)) (v3 : (c : Dev Cert.PleFwdIdeal.nD) → Buf (Elt Ideal) ((c.tc : Thread Cert.PleFwdIdeal.nD Cert.PleFwdIdeal.τ).loc Cert.PleFwdIdeal.main_v3_3)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v3_0) = v0 c
          ∧ r.2.mem ((c.tc : Thread Cert.PleFwdIdeal.nD Cert.PleFwdIdeal.τ).loc Cert.PleFwdIdeal.main_v3_1) = v1 c
          ∧ r.2.mem ((c.tc : Thread Cert.PleFwdIdeal.nD Cert.PleFwdIdeal.τ).loc Cert.PleFwdIdeal.main_v3_2) = v2 c
          ∧ r.2.mem ((c.tc : Thread Cert.PleFwdIdeal.nD Cert.PleFwdIdeal.τ).loc Cert.PleFwdIdeal.main_v3_3) = v3 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
          ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
          ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
          ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4))
      ∧ θ_run (Cert.PleFwdRefIdeal.defs (F := Ideal)) (onTc (τ := Cert.PleFwdRefIdeal.τ) (Cert.PleFwdRefIdeal.main (F := Ideal))) ⟨m', fun _ => 0, g'⟩ (fun r => ∀ c : Dev Cert.PleFwdRefIdeal.nD,
          r.2.mem ((c.tc : Thread Cert.PleFwdRefIdeal.nD Cert.PleFwdRefIdeal.τ).loc Cert.PleFwdRefIdeal.main_v22) = v0 c
          ∧ r.2.mem ((c.tc : Thread Cert.PleFwdRefIdeal.nD Cert.PleFwdRefIdeal.τ).loc Cert.PleFwdRefIdeal.main_v23) = v1 c
          ∧ r.2.mem ((c.tc : Thread Cert.PleFwdRefIdeal.nD Cert.PleFwdRefIdeal.τ).loc Cert.PleFwdRefIdeal.main_v24) = v2 c
          ∧ r.2.mem ((c.tc : Thread Cert.PleFwdRefIdeal.nD Cert.PleFwdRefIdeal.τ).loc Cert.PleFwdRefIdeal.main_v25) = v3 c
          ∧ r.2.mem ((c.tc : Thread Cert.PleFwdRefIdeal.nD Cert.PleFwdRefIdeal.τ).loc Cert.PleFwdRefIdeal.main_arg0) = m' ((c.tc : Thread Cert.PleFwdRefIdeal.nD Cert.PleFwdRefIdeal.τ).loc Cert.PleFwdRefIdeal.main_arg0)
          ∧ r.2.mem ((c.tc : Thread Cert.PleFwdRefIdeal.nD Cert.PleFwdRefIdeal.τ).loc Cert.PleFwdRefIdeal.main_arg1) = m' ((c.tc : Thread Cert.PleFwdRefIdeal.nD Cert.PleFwdRefIdeal.τ).loc Cert.PleFwdRefIdeal.main_arg1)
          ∧ r.2.mem ((c.tc : Thread Cert.PleFwdRefIdeal.nD Cert.PleFwdRefIdeal.τ).loc Cert.PleFwdRefIdeal.main_arg2) = m' ((c.tc : Thread Cert.PleFwdRefIdeal.nD Cert.PleFwdRefIdeal.τ).loc Cert.PleFwdRefIdeal.main_arg2)
          ∧ r.2.mem ((c.tc : Thread Cert.PleFwdRefIdeal.nD Cert.PleFwdRefIdeal.τ).loc Cert.PleFwdRefIdeal.main_arg3) = m' ((c.tc : Thread Cert.PleFwdRefIdeal.nD Cert.PleFwdRefIdeal.τ).loc Cert.PleFwdRefIdeal.main_arg3)
          ∧ r.2.mem ((c.tc : Thread Cert.PleFwdRefIdeal.nD Cert.PleFwdRefIdeal.τ).loc Cert.PleFwdRefIdeal.main_arg4) = m' ((c.tc : Thread Cert.PleFwdRefIdeal.nD Cert.PleFwdRefIdeal.τ).loc Cert.PleFwdRefIdeal.main_arg4))

def preserves_CgateFwd_CgateFwdIdeal : Prop :=
  True

def algebraic_CgateFwdIdeal_CgateFwdRefIdeal [hCgateFwdIdeal : Cert.CgateFwdIdeal.Facts] [hCgateFwdRefIdeal : Cert.CgateFwdRefIdeal.Facts] : Prop :=
  ∀ (m : (ℓ : Loc Cert.CgateFwdIdeal.nD Cert.CgateFwdIdeal.τ Cert.CgateFwdIdeal.sig) → Buf (Elt Ideal) ℓ) (g : Dev Cert.CgateFwdIdeal.nD → PrngReg)
    (m' : (ℓ : Loc Cert.CgateFwdRefIdeal.nD Cert.CgateFwdRefIdeal.τ Cert.CgateFwdRefIdeal.sig) → Buf (Elt Ideal) ℓ) (g' : Dev Cert.CgateFwdRefIdeal.nD → PrngReg), Pre_CgateFwdIdeal m →
    (∀ c : Dev Cert.CgateFwdIdeal.nD,
      m' ((c.tc : Thread Cert.CgateFwdRefIdeal.nD Cert.CgateFwdRefIdeal.τ).loc Cert.CgateFwdRefIdeal.main_arg0) = m ((c.tc : Thread Cert.CgateFwdIdeal.nD Cert.CgateFwdIdeal.τ).loc Cert.CgateFwdIdeal.main_arg0)
      ∧ m' ((c.tc : Thread Cert.CgateFwdRefIdeal.nD Cert.CgateFwdRefIdeal.τ).loc Cert.CgateFwdRefIdeal.main_arg1) = m ((c.tc : Thread Cert.CgateFwdIdeal.nD Cert.CgateFwdIdeal.τ).loc Cert.CgateFwdIdeal.main_arg1)
      ∧ m' ((c.tc : Thread Cert.CgateFwdRefIdeal.nD Cert.CgateFwdRefIdeal.τ).loc Cert.CgateFwdRefIdeal.main_arg2) = m ((c.tc : Thread Cert.CgateFwdIdeal.nD Cert.CgateFwdIdeal.τ).loc Cert.CgateFwdIdeal.main_arg2)
      ∧ m' ((c.tc : Thread Cert.CgateFwdRefIdeal.nD Cert.CgateFwdRefIdeal.τ).loc Cert.CgateFwdRefIdeal.main_arg3) = m ((c.tc : Thread Cert.CgateFwdIdeal.nD Cert.CgateFwdIdeal.τ).loc Cert.CgateFwdIdeal.main_arg3)) →
    ∃ (v0 : (c : Dev Cert.CgateFwdIdeal.nD) → Buf (Elt Ideal) ((c.tc : Thread Cert.CgateFwdIdeal.nD Cert.CgateFwdIdeal.τ).loc Cert.CgateFwdIdeal.main_v16)),
      θ_run (Cert.CgateFwdIdeal.defs (F := Ideal)) (onTc (τ := Cert.CgateFwdIdeal.τ) (Cert.CgateFwdIdeal.main (F := Ideal))) ⟨m, fun _ => 0, g⟩ (fun r => ∀ c : Dev Cert.CgateFwdIdeal.nD,
          r.2.mem ((c.tc : Thread Cert.CgateFwdIdeal.nD Cert.CgateFwdIdeal.τ).loc Cert.CgateFwdIdeal.main_v16) = v0 c
          ∧ r.2.mem ((c.tc : Thread Cert.CgateFwdIdeal.nD Cert.CgateFwdIdeal.τ).loc Cert.CgateFwdIdeal.main_arg0) = m ((c.tc : Thread Cert.CgateFwdIdeal.nD Cert.CgateFwdIdeal.τ).loc Cert.CgateFwdIdeal.main_arg0)
          ∧ r.2.mem ((c.tc : Thread Cert.CgateFwdIdeal.nD Cert.CgateFwdIdeal.τ).loc Cert.CgateFwdIdeal.main_arg1) = m ((c.tc : Thread Cert.CgateFwdIdeal.nD Cert.CgateFwdIdeal.τ).loc Cert.CgateFwdIdeal.main_arg1)
          ∧ r.2.mem ((c.tc : Thread Cert.CgateFwdIdeal.nD Cert.CgateFwdIdeal.τ).loc Cert.CgateFwdIdeal.main_arg2) = m ((c.tc : Thread Cert.CgateFwdIdeal.nD Cert.CgateFwdIdeal.τ).loc Cert.CgateFwdIdeal.main_arg2)
          ∧ r.2.mem ((c.tc : Thread Cert.CgateFwdIdeal.nD Cert.CgateFwdIdeal.τ).loc Cert.CgateFwdIdeal.main_arg3) = m ((c.tc : Thread Cert.CgateFwdIdeal.nD Cert.CgateFwdIdeal.τ).loc Cert.CgateFwdIdeal.main_arg3))
      ∧ θ_run (Cert.CgateFwdRefIdeal.defs (F := Ideal)) (onTc (τ := Cert.CgateFwdRefIdeal.τ) (Cert.CgateFwdRefIdeal.main (F := Ideal))) ⟨m', fun _ => 0, g'⟩ (fun r => ∀ c : Dev Cert.CgateFwdRefIdeal.nD,
          r.2.mem ((c.tc : Thread Cert.CgateFwdRefIdeal.nD Cert.CgateFwdRefIdeal.τ).loc Cert.CgateFwdRefIdeal.main_v19) = v0 c
          ∧ r.2.mem ((c.tc : Thread Cert.CgateFwdRefIdeal.nD Cert.CgateFwdRefIdeal.τ).loc Cert.CgateFwdRefIdeal.main_arg0) = m' ((c.tc : Thread Cert.CgateFwdRefIdeal.nD Cert.CgateFwdRefIdeal.τ).loc Cert.CgateFwdRefIdeal.main_arg0)
          ∧ r.2.mem ((c.tc : Thread Cert.CgateFwdRefIdeal.nD Cert.CgateFwdRefIdeal.τ).loc Cert.CgateFwdRefIdeal.main_arg1) = m' ((c.tc : Thread Cert.CgateFwdRefIdeal.nD Cert.CgateFwdRefIdeal.τ).loc Cert.CgateFwdRefIdeal.main_arg1)
          ∧ r.2.mem ((c.tc : Thread Cert.CgateFwdRefIdeal.nD Cert.CgateFwdRefIdeal.τ).loc Cert.CgateFwdRefIdeal.main_arg2) = m' ((c.tc : Thread Cert.CgateFwdRefIdeal.nD Cert.CgateFwdRefIdeal.τ).loc Cert.CgateFwdRefIdeal.main_arg2)
          ∧ r.2.mem ((c.tc : Thread Cert.CgateFwdRefIdeal.nD Cert.CgateFwdRefIdeal.τ).loc Cert.CgateFwdRefIdeal.main_arg3) = m' ((c.tc : Thread Cert.CgateFwdRefIdeal.nD Cert.CgateFwdRefIdeal.τ).loc Cert.CgateFwdRefIdeal.main_arg3))

def preserves_AttnFwd_AttnFwdIdeal : Prop :=
  IdealRules.named_const.Statement Cert.AttnFwdIdeal.κ "inv_ln2" .f32 0x3FB8AA3B#32 (((Real.log 2)⁻¹ : ℝ) : EReal)

def algebraic_AttnFwdIdeal_AttnFwdRefIdeal_pre_bounded_scores [hAttnFwdIdeal : Cert.AttnFwdIdeal.Facts] [hAttnFwdRefIdeal : Cert.AttnFwdRefIdeal.Facts] [hPre_bounded_scores : Cert.Pre_bounded_scores.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_bounded_scores m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v9_0)) (v1 : (c : Dev Cert.AttnFwdIdeal.nD) → Buf (Elt Ideal) ((c.tc : Thread Cert.AttnFwdIdeal.nD Cert.AttnFwdIdeal.τ).loc Cert.AttnFwdIdeal.main_v9_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v9_0) = v0 c
          ∧ r.2.mem ((c.tc : Thread Cert.AttnFwdIdeal.nD Cert.AttnFwdIdeal.τ).loc Cert.AttnFwdIdeal.main_v9_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v22) = v0 c
          ∧ r.2.mem ((c.tc : Thread Cert.AttnFwdRefIdeal.nD Cert.AttnFwdRefIdeal.τ).loc Cert.AttnFwdRefIdeal.main_v23) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def Claim : Prop :=
  ∃ (hNormBack : Cert.NormBack.Facts) (hNormBackIdeal : Cert.NormBackIdeal.Facts) (hNormRefIdeal : Cert.NormRefIdeal.Facts) (hGateBack : Cert.GateBack.Facts) (hGateBackIdeal : Cert.GateBackIdeal.Facts) (hGateRefIdeal : Cert.GateRefIdeal.Facts) (hLossBack : Cert.LossBack.Facts) (hLossBackIdeal : Cert.LossBackIdeal.Facts) (hLossRefIdeal : Cert.LossRefIdeal.Facts) (hAttnBack : Cert.AttnBack.Facts) (hAttnBackIdeal : Cert.AttnBackIdeal.Facts) (hAttnRefIdeal : Cert.AttnRefIdeal.Facts) (hCgateBack : Cert.CgateBack.Facts) (hCgateBackIdeal : Cert.CgateBackIdeal.Facts) (hCgateRefIdeal : Cert.CgateRefIdeal.Facts) (hSguBack : Cert.SguBack.Facts) (hSguBackIdeal : Cert.SguBackIdeal.Facts) (hSguRefIdeal : Cert.SguRefIdeal.Facts) (hConvBack : Cert.ConvBack.Facts) (hConvBackIdeal : Cert.ConvBackIdeal.Facts) (hConvRefIdeal : Cert.ConvRefIdeal.Facts) (hMlaBack : Cert.MlaBack.Facts) (hMlaBackIdeal : Cert.MlaBackIdeal.Facts) (hMlaRefIdeal : Cert.MlaRefIdeal.Facts) (hPleFwd : Cert.PleFwd.Facts) (hPleFwdIdeal : Cert.PleFwdIdeal.Facts) (hPleFwdRefIdeal : Cert.PleFwdRefIdeal.Facts) (hCgateFwd : Cert.CgateFwd.Facts) (hCgateFwdIdeal : Cert.CgateFwdIdeal.Facts) (hCgateFwdRefIdeal : Cert.CgateFwdRefIdeal.Facts) (hAttnFwd : Cert.AttnFwd.Facts) (hAttnFwdIdeal : Cert.AttnFwdIdeal.Facts) (hAttnFwdRefIdeal : Cert.AttnFwdRefIdeal.Facts) (hPre_bounded : Cert.Pre_bounded.Facts) (hPre_bounded_scores : Cert.Pre_bounded_scores.Facts) (hOn_written : Cert.On_written.Facts),
    quiescent_NormBack (hNormBack := hNormBack)
    ∧ quiescent_NormBackIdeal (hNormBackIdeal := hNormBackIdeal)
    ∧ quiescent_NormRefIdeal (hNormRefIdeal := hNormRefIdeal)
    ∧ quiescent_GateBack (hGateBack := hGateBack)
    ∧ quiescent_GateBackIdeal (hGateBackIdeal := hGateBackIdeal)
    ∧ quiescent_GateRefIdeal (hGateRefIdeal := hGateRefIdeal)
    ∧ quiescent_LossBack (hLossBack := hLossBack)
    ∧ quiescent_LossBackIdeal (hLossBackIdeal := hLossBackIdeal)
    ∧ quiescent_LossRefIdeal (hLossRefIdeal := hLossRefIdeal)
    ∧ quiescent_AttnBack (hAttnBack := hAttnBack)
    ∧ quiescent_AttnBackIdeal (hAttnBackIdeal := hAttnBackIdeal)
    ∧ quiescent_AttnBackIdeal_pre_bounded (hAttnBackIdeal := hAttnBackIdeal) (hPre_bounded := hPre_bounded)
    ∧ quiescent_AttnRefIdeal (hAttnRefIdeal := hAttnRefIdeal)
    ∧ quiescent_AttnRefIdeal_pre_bounded (hAttnRefIdeal := hAttnRefIdeal) (hPre_bounded := hPre_bounded)
    ∧ quiescent_CgateBack (hCgateBack := hCgateBack)
    ∧ quiescent_CgateBackIdeal (hCgateBackIdeal := hCgateBackIdeal)
    ∧ quiescent_CgateRefIdeal (hCgateRefIdeal := hCgateRefIdeal)
    ∧ quiescent_SguBack (hSguBack := hSguBack)
    ∧ quiescent_SguBackIdeal (hSguBackIdeal := hSguBackIdeal)
    ∧ quiescent_SguRefIdeal (hSguRefIdeal := hSguRefIdeal)
    ∧ quiescent_ConvBack (hConvBack := hConvBack)
    ∧ quiescent_ConvBackIdeal (hConvBackIdeal := hConvBackIdeal)
    ∧ quiescent_ConvRefIdeal (hConvRefIdeal := hConvRefIdeal)
    ∧ quiescent_MlaBack (hMlaBack := hMlaBack)
    ∧ quiescent_MlaBackIdeal (hMlaBackIdeal := hMlaBackIdeal)
    ∧ quiescent_MlaRefIdeal (hMlaRefIdeal := hMlaRefIdeal)
    ∧ quiescent_PleFwd (hPleFwd := hPleFwd)
    ∧ quiescent_PleFwdIdeal (hPleFwdIdeal := hPleFwdIdeal)
    ∧ quiescent_PleFwdRefIdeal (hPleFwdRefIdeal := hPleFwdRefIdeal)
    ∧ quiescent_CgateFwd (hCgateFwd := hCgateFwd)
    ∧ quiescent_CgateFwdIdeal (hCgateFwdIdeal := hCgateFwdIdeal)
    ∧ quiescent_CgateFwdRefIdeal (hCgateFwdRefIdeal := hCgateFwdRefIdeal)
    ∧ quiescent_AttnFwd (hAttnFwd := hAttnFwd)
    ∧ quiescent_AttnFwdIdeal (hAttnFwdIdeal := hAttnFwdIdeal)
    ∧ quiescent_AttnFwdIdeal_pre_bounded_scores (hAttnFwdIdeal := hAttnFwdIdeal) (hPre_bounded_scores := hPre_bounded_scores)
    ∧ quiescent_AttnFwdRefIdeal (hAttnFwdRefIdeal := hAttnFwdRefIdeal)
    ∧ quiescent_AttnFwdRefIdeal_pre_bounded_scores (hAttnFwdRefIdeal := hAttnFwdRefIdeal) (hPre_bounded_scores := hPre_bounded_scores)
    ∧ preserves_NormBack_NormBackIdeal
    ∧ algebraic_NormBackIdeal_NormRefIdeal (hNormBackIdeal := hNormBackIdeal) (hNormRefIdeal := hNormRefIdeal)
    ∧ preserves_GateBack_GateBackIdeal
    ∧ algebraic_GateBackIdeal_GateRefIdeal (hGateBackIdeal := hGateBackIdeal) (hGateRefIdeal := hGateRefIdeal)
    ∧ preserves_LossBack_LossBackIdeal
    ∧ algebraic_LossBackIdeal_LossRefIdeal (hLossBackIdeal := hLossBackIdeal) (hLossRefIdeal := hLossRefIdeal)
    ∧ preserves_AttnBack_AttnBackIdeal
    ∧ algebraic_AttnBackIdeal_AttnRefIdeal_pre_bounded (hAttnBackIdeal := hAttnBackIdeal) (hAttnRefIdeal := hAttnRefIdeal) (hPre_bounded := hPre_bounded)
    ∧ preserves_CgateBack_CgateBackIdeal
    ∧ algebraic_CgateBackIdeal_CgateRefIdeal (hCgateBackIdeal := hCgateBackIdeal) (hCgateRefIdeal := hCgateRefIdeal)
    ∧ preserves_SguBack_SguBackIdeal
    ∧ algebraic_SguBackIdeal_SguRefIdeal (hSguBackIdeal := hSguBackIdeal) (hSguRefIdeal := hSguRefIdeal)
    ∧ preserves_ConvBack_ConvBackIdeal
    ∧ algebraic_ConvBackIdeal_ConvRefIdeal_on_written (hConvBackIdeal := hConvBackIdeal) (hConvRefIdeal := hConvRefIdeal) (hOn_written := hOn_written)
    ∧ preserves_MlaBack_MlaBackIdeal
    ∧ algebraic_MlaBackIdeal_MlaRefIdeal (hMlaBackIdeal := hMlaBackIdeal) (hMlaRefIdeal := hMlaRefIdeal)
    ∧ preserves_PleFwd_PleFwdIdeal
    ∧ algebraic_PleFwdIdeal_PleFwdRefIdeal (hPleFwdIdeal := hPleFwdIdeal) (hPleFwdRefIdeal := hPleFwdRefIdeal)
    ∧ preserves_CgateFwd_CgateFwdIdeal
    ∧ algebraic_CgateFwdIdeal_CgateFwdRefIdeal (hCgateFwdIdeal := hCgateFwdIdeal) (hCgateFwdRefIdeal := hCgateFwdRefIdeal)
    ∧ preserves_AttnFwd_AttnFwdIdeal
    ∧ algebraic_AttnFwdIdeal_AttnFwdRefIdeal_pre_bounded_scores (hAttnFwdIdeal := hAttnFwdIdeal) (hAttnFwdRefIdeal := hAttnFwdRefIdeal) (hPre_bounded_scores := hPre_bounded_scores)
-- ==== On_written.lean ====
abbrev S8192x6720 : Shape := ⟨2, ![8192, 6720]⟩
abbrev S3x512 : Shape := ⟨2, ![3, 512]⟩
abbrev S512 : Shape := ⟨1, ![512]⟩
abbrev S2048 : Shape := ⟨1, ![2048]⟩
abbrev S8192x2048 : Shape := ⟨2, ![8192, 2048]⟩
abbrev S8192x6912 : Shape := ⟨2, ![8192, 6912]⟩
abbrev S_ : Shape := ⟨0, ![]⟩
abbrev S1x512 : Shape := ⟨2, ![1, 512]⟩

class Facts : Prop where
  bcast_S_S8192x6912 : S_.BroadcastsInDim S8192x6912 (![] : Fin 0 → Fin S8192x6912.rank)
  bcast_S_S3x512 : S_.BroadcastsInDim S3x512 (![] : Fin 0 → Fin S3x512.rank)
  bcast_S_S1x512 : S_.BroadcastsInDim S1x512 (![] : Fin 0 → Fin S1x512.rank)

variable [Facts]

def fn {F : FTy → Type} [FloatOps F] (main_arg0 : FVec F S8192x6720 .f32) (main_arg1 : FVec F S3x512 .f32) (main_arg2 : FVec F S512 .f32) (main_arg3 : FVec F S2048 .f32) (main_arg4 : FVec F S8192x2048 .f32) : IVec S8192x6912 1 × IVec S3x512 1 × IVec S1x512 1 × IVec S1x512 1 :=
  let main_v0 : IVec S8192x6912 32 := iotaInDim S8192x6912 32 1
  let main_c : IVec S_ 32 := constantI S_ 32 2048#32
  let main_v1 : IVec S8192x6912 32 := broadcastInDim S8192x6912 ![] bcast_S_S8192x6912 main_c
  let main_v2 : IVec S8192x6912 1 := cmpi .slt main_v0 main_v1
  let main_v3 : IVec S3x512 32 := iotaInDim S3x512 32 0
  let main_c_0 : IVec S_ 32 := constantI S_ 32 0#32
  let main_v4 : IVec S3x512 32 := broadcastInDim S3x512 ![] bcast_S_S3x512 main_c_0
  let main_v5 : IVec S3x512 1 := cmpi .sge main_v3 main_v4
  let main_v6 : IVec S1x512 32 := iotaInDim S1x512 32 0
  let main_c_1 : IVec S_ 32 := constantI S_ 32 0#32
  let main_v7 : IVec S1x512 32 := broadcastInDim S1x512 ![] bcast_S_S1x512 main_c_1
  let main_v8 : IVec S1x512 1 := cmpi .sge main_v6 main_v7
  let main_v9 : IVec S1x512 32 := iotaInDim S1x512 32 0
  let main_c_2 : IVec S_ 32 := constantI S_ 32 0#32
  let main_v10 : IVec S1x512 32 := broadcastInDim S1x512 ![] bcast_S_S1x512 main_c_2
  let main_v11 : IVec S1x512 1 := cmpi .sge main_v9 main_v10
  (main_v2, main_v5, main_v8, main_v11)
-- ==== Pre_bounded.lean ====
abbrev S8x8192x192 : Shape := ⟨3, ![8, 8192, 192]⟩
abbrev S8x8192x128 : Shape := ⟨3, ![8, 8192, 128]⟩
abbrev S8192x1024 : Shape := ⟨2, ![8192, 1024]⟩
abbrev S_ : Shape := ⟨0, ![]⟩

class Facts : Prop where
  bcast_S_S8x8192x192 : S_.BroadcastsInDim S8x8192x192 (![] : Fin 0 → Fin S8x8192x192.rank)
  bcast_S_S8x8192x128 : S_.BroadcastsInDim S8x8192x128 (![] : Fin 0 → Fin S8x8192x128.rank)
  bcast_S_S8192x1024 : S_.BroadcastsInDim S8192x1024 (![] : Fin 0 → Fin S8192x1024.rank)

variable [Facts]

def fn {F : FTy → Type} [FloatOps F] (main_arg0 : FVec F S8x8192x192 .f32) (main_arg1 : FVec F S8x8192x192 .f32) (main_arg2 : FVec F S8x8192x128 .f32) (main_arg3 : FVec F S8192x1024 .f32) : IVec S8x8192x192 1 × IVec S8x8192x192 1 × IVec S8x8192x128 1 × IVec S8192x1024 1 :=
  let main_v0 : FVec F S8x8192x192 .f32 := Host.absf main_arg0
  let main_cst : FVec F S_ .f32 := constant S_ .f32 0x7F800000#32
  let main_v1 : FVec F S8x8192x192 .f32 := broadcastInDim S8x8192x192 ![] bcast_S_S8x8192x192 main_cst
  let main_v2 : IVec S8x8192x192 1 := cmpf .olt main_v0 main_v1
  let main_v3 : FVec F S8x8192x192 .f32 := Host.absf main_arg1
  let main_cst_0 : FVec F S_ .f32 := constant S_ .f32 0x7F800000#32
  let main_v4 : FVec F S8x8192x192 .f32 := broadcastInDim S8x8192x192 ![] bcast_S_S8x8192x192 main_cst_0
  let main_v5 : IVec S8x8192x192 1 := cmpf .olt main_v3 main_v4
  let main_v6 : FVec F S8x8192x128 .f32 := Host.absf main_arg2
  let main_cst_1 : FVec F S_ .f32 := constant S_ .f32 0x7F800000#32
  let main_v7 : FVec F S8x8192x128 .f32 := broadcastInDim S8x8192x128 ![] bcast_S_S8x8192x128 main_cst_1
  let main_v8 : IVec S8x8192x128 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_bounded_scores.lean ====
abbrev S8x8192x192 : Shape := ⟨3, ![8, 8192, 192]⟩
abbrev S8x8192x128 : Shape := ⟨3, ![8, 8192, 128]⟩
abbrev S_ : Shape := ⟨0, ![]⟩

class Facts : Prop where
  bcast_S_S8x8192x192 : S_.BroadcastsInDim S8x8192x192 (![] : Fin 0 → Fin S8x8192x192.rank)

variable [Facts]

def fn {F : FTy → Type} [FloatOps F] (main_arg0 : FVec F S8x8192x192 .f32) (main_arg1 : FVec F S8x8192x192 .f32) (main_arg2 : FVec F S8x8192x128 .f32) : IVec S8x8192x192 1 × IVec S8x8192x192 1 :=
  let main_v0 : FVec F S8x8192x192 .f32 := Host.absf main_arg0
  let main_cst : FVec F S_ .f32 := constant S_ .f32 0x7F800000#32
  let main_v1 : FVec F S8x8192x192 .f32 := broadcastInDim S8x8192x192 ![] bcast_S_S8x8192x192 main_cst
  let main_v2 : IVec S8x8192x192 1 := cmpf .olt main_v0 main_v1
  let main_v3 : FVec F S8x8192x192 .f32 := Host.absf main_arg1
  let main_cst_0 : FVec F S_ .f32 := constant S_ .f32 0x7F800000#32
  let main_v4 : FVec F S8x8192x192 .f32 := broadcastInDim S8x8192x192 ![] bcast_S_S8x8192x192 main_cst_0
  let main_v5 : IVec S8x8192x192 1 := cmpf .olt main_v3 main_v4
  (main_v2, main_v5)
-- ==== NormBack.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_16 : BitVec 32 := 0#32
  let v42 : BitVec 1 := Scalar.cmpi .ne v41 c0_i32_16
  v42

def k0_cond2 (i : grid0.Coords) : BitVec 1 :=
  let arg0 : BitVec 32 := BitVec.ofNat 32 (i 0).val
  let c0_i32 : BitVec 32 := 0#32
  let v40 : BitVec 1 := Scalar.cmpi .eq arg0 c0_i32
  let v_true : BitVec 1 := 1#1
  let v43 : BitVec 1 := Scalar.xori v40 v_true
  let v44 : BitVec 32 := Scalar.extui v43
  let c0_i32_17 : BitVec 32 := 0#32
  let v45 : BitVec 1 := Scalar.cmpi .ne v44 c0_i32_17
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== GateBack.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S512x2048 : Shape := ⟨2, ![512, 2048]⟩
abbrev S512 : Shape := ⟨1, ![512]⟩
abbrev S512x1 : Shape := ⟨2, ![512, 1]⟩

abbrev nBuf : Space → Nat
  | .hbm => 39
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x256, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S1x2048, .f32⟩
  | .hbm, ⟨7, _⟩ => ⟨S2048x2048, .bf16⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .bf16⟩
  | .hbm, ⟨34, _⟩ => ⟨S8192x2048, .bf16⟩
  | .hbm, ⟨35, _⟩ => ⟨S8192x2048, .f32⟩
  | .hbm, ⟨36, _⟩ => ⟨S1x2048, .f32⟩
  | .hbm, ⟨37, _⟩ => ⟨S8192x2048, .bf16⟩
  | .hbm, ⟨38, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev main_v24_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_26 : BitVec 32 := 0#32
  let v60 : BitVec 1 := Scalar.cmpi .ne v59 c0_i32_26
  v60

def k0_cond2 (i : grid0.Coords) : BitVec 1 :=
  let arg0 : BitVec 32 := BitVec.ofNat 32 (i 0).val
  let c0_i32 : BitVec 32 := 0#32
  let v58 : BitVec 1 := Scalar.cmpi .eq arg0 c0_i32
  let v_true : BitVec 1 := 1#1
  let v61 : BitVec 1 := Scalar.xori v58 v_true
  let v62 : BitVec 32 := Scalar.extui v61
  let c0_i32_27 : BitVec 32 := 0#32
  let v63 : BitVec 1 := Scalar.cmpi .ne v62 c0_i32_27
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GateRefIdeal.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 109
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x256, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192x1, .f32⟩
  | .hbm, ⟨83, _⟩ => ⟨S8192x2048, .f32⟩
  | .hbm, ⟨84, _⟩ => ⟨S8192x2048, .f32⟩
  | .hbm, ⟨85, _⟩ => ⟨S1x2048, .f32⟩
  | .hbm, ⟨86, _⟩ => ⟨S8192x2048, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S8192x2048, .f32⟩
  | .hbm, ⟨92, _⟩ => ⟨S_, .f32⟩
  | .hbm, ⟨93, _⟩ => ⟨S8192x2048, .f32⟩
  | .hbm, ⟨94, _⟩ => ⟨S8192x2048, .f32⟩
  | .hbm, ⟨95, _⟩ => ⟨S_, .f32⟩
  | .hbm, ⟨96, _⟩ => ⟨S8192x2048, .f32⟩
  | .hbm, ⟨97, _⟩ => ⟨S8192x2048, .f32⟩
  | .hbm, ⟨98, _⟩ => ⟨S_, .f32⟩
  | .hbm, ⟨99, _⟩ => ⟨S8192x2048, .f32⟩
  | .hbm, ⟨100, _⟩ => ⟨S8192x2048, .f32⟩
  | .hbm, ⟨101, _⟩ => ⟨S8192x2048, .f32⟩
  | .hbm, ⟨102, _⟩ => ⟨S8192x2048, .f32⟩
  | .hbm, ⟨103, _⟩ => ⟨S8192x2048, .f32⟩
  | .hbm, ⟨104, _⟩ => ⟨S8192x2048, .f32⟩
  | .hbm, ⟨105, _⟩ => ⟨S8192x2048, .f32⟩
  | .hbm, ⟨106, _⟩ => ⟨S1x2048, .f32⟩
  | .hbm, ⟨107, _⟩ => ⟨S8192x2048, .bf16⟩
  | .hbm, ⟨108, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_14 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩

abbrev nD : Nat := 1
abbrev τ : Topo := Topo.v7x

variable {F : FTy → Type} [FloatOps F]
-- ==== LossBack.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S2048 : Shape := ⟨1, ![2048]⟩
abbrev S1x2048 : Shape := ⟨2, ![1, 2048]⟩
abbrev S1x128 : Shape := ⟨2, ![1, 128]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 14
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S2048x2048, .f32⟩
  | .hbm, ⟨3, _⟩ => ⟨S256x2048, .f32⟩
  | .hbm, ⟨4, _⟩ => ⟨S2048, .f32⟩
  | .hbm, ⟨5, _⟩ => ⟨S8192x2048, .f32⟩
  | .hbm, ⟨6, _⟩ => ⟨S1x2048, .f32⟩
  | .hbm, ⟨7, _⟩ => ⟨S2048x2048, .bf16⟩
  | .hbm, ⟨8, _⟩ => ⟨S256x2048, .bf16⟩
  | .hbm, ⟨9, _⟩ => ⟨S8192x2048, .f32⟩
  | .hbm, ⟨10, _⟩ => ⟨S8192x2048, .bf16⟩
  | .hbm, ⟨11, _⟩ => ⟨S8192x2048, .bf16⟩
  | .hbm, ⟨12, _⟩ => ⟨S8192x2048, .bf16⟩
  | .hbm, ⟨13, _⟩ => ⟨S1x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x256, .f32⟩
  | .local _ .vmem, ⟨4, _⟩ => ⟨S512x256, .f32⟩
  | .local _ .vmem, ⟨5, _⟩ => ⟨S2048x2048, .bf16⟩
  | .local _ .vmem, ⟨6, _⟩ => ⟨S256x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![16, 1], ![false, false]⟩

def k0_mult1 (i : grid0.Coords) : BitVec 32 :=
  let arg1 : BitVec 32 := BitVec.ofNat 32 (i 1).val
  let c2048_i32 : BitVec 32 := 2048#32
  let v14 : BitVec 32 := Scalar.muli arg1 c2048_i32
  v14
def k0_off1 (i : grid0.Coords) : Fin 2 → Nat :=
  let c0_9 : Index := 0#32
  let arg1 : BitVec 32 := BitVec.ofNat 32 (i 1).val
  let c2048_i32 : BitVec 32 := 2048#32
  let v14 : BitVec 32 := Scalar.muli arg1 c2048_i32
  let v15 : BitVec 32 := v14
  let v16 : Index := Scalar.indexCast v15
  ![0, v16.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_22 : BitVec 32 := 0#32
  let v38 : BitVec 1 := Scalar.cmpi .eq arg0 c0_i32_22
  let arg1 : BitVec 32 := BitVec.ofNat 32 (i 1).val
  let c0_i32_23 : BitVec 32 := 0#32
  let v39 : BitVec 1 := Scalar.cmpi .eq arg1 c0_i32_23
  let v40 : BitVec 1 := Scalar.andi v38 v39
  let v41 : BitVec 32 := Scalar.extui v40
  let c0_i32_24 : BitVec 32 := 0#32
  let v42 : BitVec 1 := Scalar.cmpi .ne v41 c0_i32_24
  v42

def k0_cond3 (i : grid0.Coords) : BitVec 1 :=
  let arg0 : BitVec 32 := BitVec.ofNat 32 (i 0).val
  let c0_i32_22 : BitVec 32 := 0#32
  let v38 : BitVec 1 := Scalar.cmpi .eq arg0 c0_i32_22
  let arg1 : BitVec 32 := BitVec.ofNat 32 (i 1).val
  let c0_i32_23 : BitVec 32 := 0#32
  let v39 : BitVec 1 := Scalar.cmpi .eq arg1 c0_i32_23
  let v40 : BitVec 1 := Scalar.andi v38 v39
  let v_true : BitVec 1 := 1#1
  let v43 : BitVec 1 := Scalar.xori v40 v_true
  let v44 : BitVec 32 := Scalar.extui v43
  let c0_i32_25 : BitVec 32 := 0#32
  let v45 : BitVec 1 := Scalar.cmpi .ne v44 c0_i32_25
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== LossRefIdeal.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x128 : Shape := ⟨2, ![1, 128]⟩

abbrev nBuf : Space → Nat
  | .hbm => 61
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S2048x2048, .f32⟩
  | .hbm, ⟨3, _⟩ => ⟨S256x2048, .f32⟩
  | .hbm, ⟨4, _⟩ => ⟨S2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192x2048, .f32⟩
  | .hbm, ⟨56, _⟩ => ⟨S8192x2048, .f32⟩
  | .hbm, ⟨57, _⟩ => ⟨S8192x2048, .bf16⟩
  | .hbm, ⟨58, _⟩ => ⟨S8192x2048, .bf16⟩
  | .hbm, ⟨59, _⟩ => ⟨S8192x2048, .bf16⟩
  | .hbm, ⟨60, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_cst_9 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_cst_11 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== AttnBack.lean ====
abbrev S8x8192x192 : Shape := ⟨3, ![8, 8192, 192]⟩
abbrev S8x8192x128 : Shape := ⟨3, ![8, 8192, 128]⟩
abbrev S8192x1024 : Shape := ⟨2, ![8192, 1024]⟩
abbrev S_ : Shape := ⟨0, ![]⟩
abbrev S8x8192x8192 : Shape := ⟨3, ![8, 8192, 8192]⟩
abbrev S8x8192 : Shape := ⟨2, ![8, 8192]⟩
abbrev S8x8192x1 : Shape := ⟨3, ![8, 8192, 1]⟩
abbrev S8x2x1x4096 : Shape := ⟨4, ![8, 2, 1, 4096]⟩
abbrev S8192x8x128 : Shape := ⟨3, ![8192, 8, 128]⟩
abbrev S8x8x1024x192 : Shape := ⟨4, ![8, 8, 1024, 192]⟩
abbrev S8x8x192x1024 : Shape := ⟨4, ![8, 8, 192, 1024]⟩
abbrev S8x2x192x4096 : Shape := ⟨4, ![8, 2, 192, 4096]⟩
abbrev S1x8192x192 : Shape := ⟨3, ![1, 8192, 192]⟩
abbrev S1x1024x192 : Shape := ⟨3, ![1, 1024, 192]⟩
abbrev S1x1x192x1024 : Shape := ⟨4, ![1, 1, 192, 1024]⟩
abbrev S1x1024x128 : Shape := ⟨3, ![1, 1024, 128]⟩
abbrev S8192x128 : Shape := ⟨2, ![8192, 128]⟩
abbrev S1x2x1x4096 : Shape := ⟨4, ![1, 2, 1, 4096]⟩
abbrev S1x2x192x4096 : Shape := ⟨4, ![1, 2, 192, 4096]⟩
abbrev S1024x192 : Shape := ⟨2, ![1024, 192]⟩
abbrev S192x1024 : Shape := ⟨2, ![192, 1024]⟩
abbrev S1024x128 : Shape := ⟨2, ![1024, 128]⟩
abbrev S1x4096x192 : Shape := ⟨3, ![1, 4096, 192]⟩
abbrev S4096x192 : Shape := ⟨2, ![4096, 192]⟩
abbrev S4096x128 : Shape := ⟨2, ![4096, 128]⟩
abbrev S1024x4096 : Shape := ⟨2, ![1024, 4096]⟩
abbrev S1x1x1x4096 : Shape := ⟨4, ![1, 1, 1, 4096]⟩
abbrev S1x4096 : Shape := ⟨2, ![1, 4096]⟩
abbrev S192x4096 : Shape := ⟨2, ![192, 4096]⟩
abbrev S1x1x192x4096 : Shape := ⟨4, ![1, 1, 192, 4096]⟩

abbrev nBuf : Space → Nat
  | .hbm => 46
  | .vmem => 20
  | .smem => 0
  | _ => 0

abbrev bufTy : (tb : Table) → Fin (tcTables nBuf tb) → BufTy
  | .hbm, ⟨0, _⟩ => ⟨S8x8192x192, .f32⟩
  | .hbm, ⟨1, _⟩ => ⟨S8x8192x192, .f32⟩
  | .hbm, ⟨2, _⟩ => ⟨S8x8192x128, .f32⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x8192x192, .f32⟩
  | .hbm, ⟨9, _⟩ => ⟨S8x8192x192, .f32⟩
  | .hbm, ⟨10, _⟩ => ⟨S8x8192x8192, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S8x8192x8192, .f32⟩
  | .hbm, ⟨15, _⟩ => ⟨S8x8192x8192, .f32⟩
  | .hbm, ⟨16, _⟩ => ⟨S8x8192x8192, .f32⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S8x8192x128, .f32⟩
  | .hbm, ⟨22, _⟩ => ⟨S8x8192x1, .f32⟩
  | .hbm, ⟨23, _⟩ => ⟨S8x8192x128, .f32⟩
  | .hbm, ⟨24, _⟩ => ⟨S8x8192x128, .f32⟩
  | .hbm, ⟨25, _⟩ => ⟨S8x8192, .f32⟩
  | .hbm, ⟨26, _⟩ => ⟨S8x8192, .f32⟩
  | .hbm, ⟨27, _⟩ => ⟨S8x8192, .f32⟩
  | .hbm, ⟨28, _⟩ => ⟨S8x8192, .f32⟩
  | .hbm, ⟨29, _⟩ => ⟨S8x2x1x4096, .f32⟩
  | .hbm, ⟨30, _⟩ => ⟨S8192x8x128, .f32⟩
  | .hbm, ⟨31, _⟩ => ⟨S8x8192x128, .f32⟩
  | .hbm, ⟨32, _⟩ => ⟨S8x8192x128, .f32⟩
  | .hbm, ⟨33, _⟩ => ⟨S_, .f32⟩
  | .hbm, ⟨34, _⟩ => ⟨S8x8192, .f32⟩
  | .hbm, ⟨35, _⟩ => ⟨S8x2x1x4096, .f32⟩
  | .hbm, ⟨36, _⟩ => ⟨S8x8x1024x192, .f32⟩
  | .hbm, ⟨37, _⟩ => ⟨S8x8x192x1024, .f32⟩
  | .hbm, ⟨38, _⟩ => ⟨S8x8192x192, .bf16⟩
  | .hbm, ⟨39, _⟩ => ⟨S8x8192x192, .bf16⟩
  | .hbm, ⟨40, _⟩ => ⟨S8x8x192x1024, .bf16⟩
  | .hbm, ⟨41, _⟩ => ⟨S8x8192x128, .bf16⟩
  | .hbm, ⟨42, _⟩ => ⟨S8192x1024, .bf16⟩
  | .hbm, ⟨43, _⟩ => ⟨S8x2x192x4096, .f32⟩
  | .hbm, ⟨44, _⟩ => ⟨S8x8192x192, .f32⟩
  | .hbm, ⟨45, _⟩ => ⟨S8x8192x128, .f32⟩
  | .local _ .vmem, ⟨0, _⟩ => ⟨S1x8192x192, .bf16⟩
  | .local _ .vmem, ⟨1, _⟩ => ⟨S1x8192x192, .bf16⟩
  | .local _ .vmem, ⟨2, _⟩ => ⟨S1x1024x192, .bf16⟩
  | .local _ .vmem, ⟨3, _⟩ => ⟨S1x1024x192, .bf16⟩
  | .local _ .vmem, ⟨4, _⟩ => ⟨S1x1x192x1024, .bf16⟩
  | .local _ .vmem, ⟨5, _⟩ => ⟨S1x1x192x1024, .bf16⟩
  | .local _ .vmem, ⟨6, _⟩ => ⟨S1x1024x128, .bf16⟩
  | .local _ .vmem, ⟨7, _⟩ => ⟨S1x1024x128, .bf16⟩
  | .local _ .vmem, ⟨8, _⟩ => ⟨S8192x128, .bf16⟩
  | .local _ .vmem, ⟨9, _⟩ => ⟨S8192x128, .bf16⟩
  | .local _ .vmem, ⟨10, _⟩ => ⟨S1x2x1x4096, .f32⟩
  | .local _ .vmem, ⟨11, _⟩ => ⟨S1x2x1x4096, .f32⟩
  | .local _ .vmem, ⟨12, _⟩ => ⟨S1x2x1x4096, .f32⟩
  | .local _ .vmem, ⟨13, _⟩ => ⟨S1x2x1x4096, .f32⟩
  | .local _ .vmem, ⟨14, _⟩ => ⟨S1x2x192x4096, .f32⟩
  | .local _ .vmem, ⟨15, _⟩ => ⟨S1x2x192x4096, .f32⟩
  | .local _ .vmem, ⟨16, _⟩ => ⟨S1x1024x192, .f32⟩
  | .local _ .vmem, ⟨17, _⟩ => ⟨S1x1024x192, .f32⟩
  | .local _ .vmem, ⟨18, _⟩ => ⟨S1x1024x128, .f32⟩
  | .local _ .vmem, ⟨19, _⟩ => ⟨S1x1024x128, .f32⟩
  | _, _ => ⟨S8x8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34_0 : Ref sig .tc := ⟨.hbm, 43, rfl⟩
abbrev main_v34_1 : Ref sig .tc := ⟨.hbm, 44, rfl⟩
abbrev main_v34_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_10 : BitVec 32 := 0#32
  let c2_i32 : BitVec 32 := 2#32
  let v9 : BitVec 32 := Scalar.addi c0_i32_10 c2_i32
  let c1_i32 : BitVec 32 := 1#32
  ⟨c0_i32_10, v9, c1_i32⟩
def k0_mult1 (k0_t1 : Fin k0_t1_loop.trips) : BitVec 32 :=
  let c0_i32_10 : BitVec 32 := 0#32
  let c1_i32 : BitVec 32 := 1#32
  let arg12 : BitVec 32 := Scf.iv c0_i32_10 c1_i32 k0_t1
  let c4096_i32 : BitVec 32 := 4096#32
  let v17 : BitVec 32 := Scalar.muli arg12 c4096_i32
  v17
def k0_off1 (k0_t1 : Fin k0_t1_loop.trips) : Fin 3 → Nat :=
  let c0_18 : Index := 0#32
  let c0_i32_10 : BitVec 32 := 0#32
  let c1_i32 : BitVec 32 := 1#32
  let arg12 : BitVec 32 := Scf.iv c0_i32_10 c1_i32 k0_t1
  let c4096_i32 : BitVec 32 := 4096#32
  let v17 : BitVec 32 := Scalar.muli arg12 c4096_i32
  let v18 : BitVec 32 := v17
  let v19 : Index := Scalar.indexCast v18
  let c0_19 : Index := 0#32
  ![0, v19.toNat, 0]
def k0_off2 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c4096_i32 : BitVec 32 := 4096#32
  let v17 : BitVec 32 := Scalar.muli arg12 c4096_i32
  let v18 : BitVec 32 := v17
  let v22 : Index := Scalar.indexCast v18
  let c0_20 : Index := 0#32
  ![v22.toNat, 0]
def k0_off3 (k0_t1 : Fin k0_t1_loop.trips) : Fin 4 → Nat :=
  let c0_22 : Index := 0#32
  let c0_i32_10 : BitVec 32 := 0#32
  let c1_i32 : BitVec 32 := 1#32
  let arg12 : BitVec 32 := Scf.iv c0_i32_10 c1_i32 k0_t1
  let v26 : Index := Scalar.indexCast arg12
  let c0_23 : Index := 0#32
  let c0_24 : Index := 0#32
  ![0, v26.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v48 : BitVec 32 := Scalar.extui v0
  let c0_i32_34 : BitVec 32 := 0#32
  let v49 : BitVec 1 := Scalar.cmpi .ne v48 c0_i32_34
  v49

def k0_off4 (k0_t1 : Fin k0_t1_loop.trips) : Fin 4 → Nat :=
  let c0_i32_33 : BitVec 32 := 0#32
  let v53 : Index := Scalar.indexCast c0_i32_33
  let c0_i32_10 : BitVec 32 := 0#32
  let c1_i32 : BitVec 32 := 1#32
  let arg12 : BitVec 32 := Scf.iv c0_i32_10 c1_i32 k0_t1
  let v54 : Index := Scalar.indexCast arg12
  let c0_37 : Index := 0#32
  let c0_38 : Index := 0#32
  ![0, v54.toNat, 0, 0]
def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v50 : BitVec 1 := Scalar.xori v0 v_true
  let v51 : BitVec 32 := Scalar.extui v50
  let c0_i32_36 : BitVec 32 := 0#32
  let v52 : BitVec 1 := Scalar.cmpi .ne v51 c0_i32_36
  v52

def k0_off5 (k0_t1 : Fin k0_t1_loop.trips) : Fin 4 → Nat :=
  let c0_i32_35 : BitVec 32 := 0#32
  let v53 : Index := Scalar.indexCast c0_i32_35
  let c0_i32_10 : BitVec 32 := 0#32
  let c1_i32 : BitVec 32 := 1#32
  let arg12 : BitVec 32 := Scf.iv c0_i32_10 c1_i32 k0_t1
  let v54 : Index := Scalar.indexCast arg12
  let c0_37 : Index := 0#32
  let c0_38 : Index := 0#32
  ![0, v54.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x192x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x192x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnBackIdeal.lean ====
variable {F : FTy → Type} [FloatOps F] [Named F]
def κ : String → Option EReal := fun
  | "ln2" => some ((Real.log 2 : ℝ) : EReal)
  | _ => none
-- ==== AttnRefIdeal.lean ====
abbrev S8x8192x192 : Shape := ⟨3, ![8, 8192, 192]⟩
abbrev S8x8192x128 : Shape := ⟨3, ![8, 8192, 128]⟩
abbrev S8192x1024 : Shape := ⟨2, ![8192, 1024]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8192x8x128 : Shape := ⟨3, ![8192, 8, 128]⟩
abbrev S8x128x8192 : Shape := ⟨3, ![8, 128, 8192]⟩
abbrev S8x2x4096x192 : Shape := ⟨4, ![8, 2, 4096, 192]⟩
abbrev S8x2x192x4096 : Shape := ⟨4, ![8, 2, 192, 4096]⟩

abbrev nBuf : Space → Nat
  | .hbm => 82
  | .vmem => 0
  | .smem => 0
  | _ => 0

abbrev bufTy : (tb : Table) → Fin (tcTables nBuf tb) → BufTy
  | .hbm, ⟨0, _⟩ => ⟨S8x8192x192, .f32⟩
  | .hbm, ⟨1, _⟩ => ⟨S8x8192x192, .f32⟩
  | .hbm, ⟨2, _⟩ => ⟨S8x8192x128, .f32⟩
  | .hbm, ⟨3, _⟩ => ⟨S8192x1024, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S_, .f32⟩
  | .hbm, ⟨9, _⟩ => ⟨S8x8192, .f32⟩
  | .hbm, ⟨10, _⟩ => ⟨S8x8192x1, .f32⟩
  | .hbm, ⟨11, _⟩ => ⟨S8x8192x8192, .f32⟩
  | .hbm, ⟨12, _⟩ => ⟨S8x8192x8192, .i1⟩
  | .hbm, ⟨13, _⟩ => ⟨S8x8192x8192, .f32⟩
  | .hbm, ⟨14, _⟩ => ⟨S_, .f32⟩
  | .hbm, ⟨15, _⟩ => ⟨S8x8192, .f32⟩
  | .hbm, ⟨16, _⟩ => ⟨S_, .f32⟩
  | .hbm, ⟨17, _⟩ => ⟨S8x8192, .f32⟩
  | .hbm, ⟨18, _⟩ => ⟨S8x8192, .f32⟩
  | .hbm, ⟨19, _⟩ => ⟨S_, .f32⟩
  | .hbm, ⟨20, _⟩ => ⟨S8x8192, .f32⟩
  | .hbm, ⟨21, _⟩ => ⟨S8x8192, .i1⟩
  | .hbm, ⟨22, _⟩ => ⟨S_, .f32⟩
  | .hbm, ⟨23, _⟩ => ⟨S8x8192, .f32⟩
  | .hbm, ⟨24, _⟩ => ⟨S8x8192, .i1⟩
  | .hbm, ⟨25, _⟩ => ⟨S_, .f32⟩
  | .hbm, ⟨26, _⟩ => ⟨S8x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S8x8192, .f32⟩
  | .hbm, ⟨33, _⟩ => ⟨S8x8192x1, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S8x8192, .f32⟩
  | .hbm, ⟨39, _⟩ => ⟨S8x8192x1, .f32⟩
  | .hbm, ⟨40, _⟩ => ⟨S8x8192x8192, .f32⟩
  | .hbm, ⟨41, _⟩ => ⟨S8x8192x8192, .f32⟩
  | .hbm, ⟨42, _⟩ => ⟨S8x8192x1, .f32⟩
  | .hbm, ⟨43, _⟩ => ⟨S_, .f32⟩
  | .hbm, ⟨44, _⟩ => ⟨S8x8192x1, .f32⟩
  | .hbm, ⟨45, _⟩ => ⟨S8x8192x1, .f32⟩
  | .hbm, ⟨46, _⟩ => ⟨S8x8192x128, .f32⟩
  | .hbm, ⟨47, _⟩ => ⟨S8192x8x128, .f32⟩
  | .hbm, ⟨48, _⟩ => ⟨S8192x1024, .f32⟩
  | .hbm, ⟨49, _⟩ => ⟨S8192x8x128, .f32⟩
  | .hbm, ⟨50, _⟩ => ⟨S8x8192x128, .f32⟩
  | .hbm, ⟨51, _⟩ => ⟨S8x128x8192, .f32⟩
  | .hbm, ⟨52, _⟩ => ⟨S8x8192x128, .f32⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S_, .f32⟩
  | .hbm, ⟨58, _⟩ => ⟨S8x8192, .f32⟩
  | .hbm, ⟨59, _⟩ => ⟨S8x8192x1, .f32⟩
  | .hbm, ⟨60, _⟩ => ⟨S8x8192x1, .f32⟩
  | .hbm, ⟨61, _⟩ => ⟨S8x8192x8192, .f32⟩
  | .hbm, ⟨62, _⟩ => ⟨S8x8192x8192, .f32⟩
  | .hbm, ⟨63, _⟩ => ⟨S_, .f32⟩
  | .hbm, ⟨64, _⟩ => ⟨S8x8192, .f32⟩
  | .hbm, ⟨65, _⟩ => ⟨S8x8192x8192, .f32⟩
  | .hbm, ⟨66, _⟩ => ⟨S8x8192x8192, .f32⟩
  | .hbm, ⟨67, _⟩ => ⟨S8x8192x8192, .f32⟩
  | .hbm, ⟨68, _⟩ => ⟨S_, .f32⟩
  | .hbm, ⟨69, _⟩ => ⟨S8x8192x8192, .f32⟩
  | .hbm, ⟨70, _⟩ => ⟨S8x8192x8192, .f32⟩
  | .hbm, ⟨71, _⟩ => ⟨S8x8192x192, .f32⟩
  | .hbm, ⟨72, _⟩ => ⟨S8x8192x192, .f32⟩
  | .hbm, ⟨73, _⟩ => ⟨S_, .f32⟩
  | .hbm, ⟨74, _⟩ => ⟨S_, .f32⟩
  | .hbm, ⟨75, _⟩ => ⟨S8x8192x192, .f32⟩
  | .hbm, ⟨76, _⟩ => ⟨S8x8192x192, .f32⟩
  | .hbm, ⟨77, _⟩ => ⟨S_, .f32⟩
  | .hbm, ⟨78, _⟩ => ⟨S8x8192x192, .f32⟩
  | .hbm, ⟨79, _⟩ => ⟨S8x8192x192, .f32⟩
  | .hbm, ⟨80, _⟩ => ⟨S8x2x4096x192, .f32⟩
  | .hbm, ⟨81, _⟩ => ⟨S8x2x192x4096, .f32⟩
  | _, _ => ⟨S8x8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_13 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_14 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== CgateBack.lean ====
abbrev S8192x1024 : Shape := ⟨2, ![8192, 1024]⟩
abbrev S8192x6720 : Shape := ⟨2, ![8192, 6720]⟩
abbrev S2048 : Shape := ⟨1, ![2048]⟩
abbrev S8192x2048 : Shape := ⟨2, ![8192, 2048]⟩
abbrev S8192x6912 : Shape := ⟨2, ![8192, 6912]⟩
abbrev S8192x1536 : Shape := ⟨2, ![8192, 1536]⟩
abbrev S8192x8x192 : Shape := ⟨3, ![8192, 8, 192]⟩
abbrev S8192x8x128 : Shape := ⟨3, ![8192, 8, 128]⟩
abbrev S8192x8x64 : Shape := ⟨3, ![8192, 8, 64]⟩
abbrev S8192x512 : Shape := ⟨2, ![8192, 512]⟩
abbrev S8192x64 : Shape := ⟨2, ![8192, 64]⟩
abbrev S_ : Shape := ⟨0, ![]⟩
abbrev S8192x192 : Shape := ⟨2, ![8192, 192]⟩
abbrev S1024 : Shape := ⟨1, ![1024]⟩
abbrev S1x1024 : Shape := ⟨2, ![1, 1024]⟩
abbrev S8x2x1x4096 : Shape := ⟨4, ![8, 2, 1, 4096]⟩
abbrev S512x1024 : Shape := ⟨2, ![512, 1024]⟩
abbrev S8x1x1x512 : Shape := ⟨4, ![8, 1, 1, 512]⟩
abbrev S512 : Shape := ⟨1, ![512]⟩
abbrev S512x1 : Shape := ⟨2, ![512, 1]⟩
abbrev S8x128 : Shape := ⟨2, ![8, 128]⟩
abbrev S512x128 : Shape := ⟨2, ![512, 128]⟩
abbrev S8x512 : Shape := ⟨2, ![8, 512]⟩
abbrev S1x512 : Shape := ⟨2, ![1, 512]⟩
abbrev S1x1x1x512 : Shape := ⟨4, ![1, 1, 1, 512]⟩

abbrev nBuf : Space → Nat
  | .hbm => 26
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x6720, .f32⟩
  | .hbm, ⟨2, _⟩ => ⟨S2048, .f32⟩
  | .hbm, ⟨3, _⟩ => ⟨S8192x2048, .f32⟩
  | .hbm, ⟨4, _⟩ => ⟨S8192x6912, .bf16⟩
  | .hbm, ⟨5, _⟩ => ⟨S8192x1536, .f32⟩
  | .hbm, ⟨6, _⟩ => ⟨S8192x8x192, .f32⟩
  | .hbm, ⟨7, _⟩ => ⟨S8192x2048, .f32⟩
  | .hbm, ⟨8, _⟩ => ⟨S8192x1024, .f32⟩
  | .hbm, ⟨9, _⟩ => ⟨S8192x1536, .f32⟩
  | .hbm, ⟨10, _⟩ => ⟨S8192x8x128, .f32⟩
  | .hbm, ⟨11, _⟩ => ⟨S8192x1024, .f32⟩
  | .hbm, ⟨12, _⟩ => ⟨S8192x8x64, .f32⟩
  | .hbm, ⟨13, _⟩ => ⟨S8192x512, .f32⟩
  | .hbm, ⟨14, _⟩ => ⟨S8192x512, .f32⟩
  | .hbm, ⟨15, _⟩ => ⟨S8192x64, .f32⟩
  | .hbm, ⟨16, _⟩ => ⟨S_, .f32⟩
  | .hbm, ⟨17, _⟩ => ⟨S8192x192, .f32⟩
  | .hbm, ⟨18, _⟩ => ⟨S8192x6912, .f32⟩
  | .hbm, ⟨19, _⟩ => ⟨S8192x6912, .bf16⟩
  | .hbm, ⟨20, _⟩ => ⟨S1024, .f32⟩
  | .hbm, ⟨21, _⟩ => ⟨S1x1024, .f32⟩
  | .hbm, ⟨22, _⟩ => ⟨S8192x6912, .bf16⟩
  | .hbm, ⟨23, _⟩ => ⟨S8192x1024, .bf16⟩
  | .hbm, ⟨24, _⟩ => ⟨S8x2x1x4096, .f32⟩
  | .hbm, ⟨25, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S8x1x1x512, .f32⟩
  | .local _ .vmem, ⟨12, _⟩ => ⟨S8x1x1x512, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_v16_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v121 : BitVec 1 := Scalar.cmpi .eq arg0 c0_i32
  let v122 : BitVec 32 := Scalar.extui v121
  let c0_i32_53 : BitVec 32 := 0#32
  let v123 : BitVec 1 := Scalar.cmpi .ne v122 c0_i32_53
  v123

def k0_cond2 (i : grid0.Coords) : BitVec 1 :=
  let arg0 : BitVec 32 := BitVec.ofNat 32 (i 0).val
  let c0_i32 : BitVec 32 := 0#32
  let v121 : BitVec 1 := Scalar.cmpi .eq arg0 c0_i32
  let v_true : BitVec 1 := 1#1
  let v124 : BitVec 1 := Scalar.xori v121 v_true
  let v125 : BitVec 32 := Scalar.extui v124
  let c0_i32_54 : BitVec 32 := 0#32
  let v126 : BitVec 1 := Scalar.cmpi .ne v125 c0_i32_54
  v126

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== CgateRefIdeal.lean ====
abbrev S8192x1024 : Shape := ⟨2, ![8192, 1024]⟩
abbrev S8192x6720 : Shape := ⟨2, ![8192, 6720]⟩
abbrev S2048 : Shape := ⟨1, ![2048]⟩
abbrev S8192x2048 : Shape := ⟨2, ![8192, 2048]⟩
abbrev S8192x6912 : Shape := ⟨2, ![8192, 6912]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x8x128 : Shape := ⟨3, ![8192, 8, 128]⟩
abbrev S8192x8 : Shape := ⟨2, ![8192, 8]⟩
abbrev S8x8192 : Shape := ⟨2, ![8, 8192]⟩
abbrev S8192x3840 : Shape := ⟨2, ![8192, 3840]⟩
abbrev S8x2x1x4096 : Shape := ⟨4, ![8, 2, 1, 4096]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6720, .f32⟩
  | .hbm, ⟨2, _⟩ => ⟨S2048, .f32⟩
  | .hbm, ⟨3, _⟩ => ⟨S8192x2048, .f32⟩
  | .hbm, ⟨4, _⟩ => ⟨S8192x6912, .bf16⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x8x128, .f32⟩
  | .hbm, ⟨75, _⟩ => ⟨S_, .f32⟩
  | .hbm, ⟨76, _⟩ => ⟨S8192x8, .f32⟩
  | .hbm, ⟨77, _⟩ => ⟨S8x8192, .f32⟩
  | .hbm, ⟨78, _⟩ => ⟨S8192x2048, .bf16⟩
  | .hbm, ⟨79, _⟩ => ⟨S8192x1024, .bf16⟩
  | .hbm, ⟨80, _⟩ => ⟨S8192x3840, .bf16⟩
  | .hbm, ⟨81, _⟩ => ⟨S8192x6912, .bf16⟩
  | .hbm, ⟨82, _⟩ => ⟨S8192x1024, .bf16⟩
  | .hbm, ⟨83, _⟩ => ⟨S8x2x1x4096, .f32⟩
  | .hbm, ⟨84, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_cst_7 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩

abbrev nD : Nat := 1
abbrev τ : Topo := Topo.v7x

variable {F : FTy → Type} [FloatOps F]
-- ==== SguBack.lean ====
abbrev S8192x6720 : Shape := ⟨2, ![8192, 6720]⟩
abbrev S4x128 : Shape := ⟨2, ![4, 128]⟩
abbrev S4x128x128 : Shape := ⟨3, ![4, 128, 128]⟩
abbrev S2048 : Shape := ⟨1, ![2048]⟩
abbrev S8192x2048 : Shape := ⟨2, ![8192, 2048]⟩
abbrev S8192x6912 : Shape := ⟨2, ![8192, 6912]⟩
abbrev S8192x1536 : Shape := ⟨2, ![8192, 1536]⟩
abbrev S8192x8x192 : Shape := ⟨3, ![8192, 8, 192]⟩
abbrev S8192x1024 : Shape := ⟨2, ![8192, 1024]⟩
abbrev S8192x8x128 : Shape := ⟨3, ![8192, 8, 128]⟩
abbrev S8192x8x64 : Shape := ⟨3, ![8192, 8, 64]⟩
abbrev S8192x512 : Shape := ⟨2, ![8192, 512]⟩
abbrev S8192x64 : Shape := ⟨2, ![8192, 64]⟩
abbrev S_ : Shape := ⟨0, ![]⟩
abbrev S8192x192 : Shape := ⟨2, ![8192, 192]⟩
abbrev S4x128x1 : Shape := ⟨3, ![4, 128, 1]⟩
abbrev S512 : Shape := ⟨1, ![512]⟩
abbrev S1x512 : Shape := ⟨2, ![1, 512]⟩
abbrev S512x1536 : Shape := ⟨2, ![512, 1536]⟩
abbrev S512x512 : Shape := ⟨2, ![512, 512]⟩
abbrev S128x128 : Shape := ⟨2, ![128, 128]⟩
abbrev S1x128 : Shape := ⟨2, ![1, 128]⟩
abbrev S1x128x128 : Shape := ⟨3, ![1, 128, 128]⟩
abbrev S1x128x1 : Shape := ⟨3, ![1, 128, 1]⟩
abbrev S128x1 : Shape := ⟨2, ![128, 1]⟩
abbrev S128 : Shape := ⟨1, ![128]⟩

abbrev nBuf : Space → Nat
  | .hbm => 30
  | .vmem => 14
  | .smem => 0
  | _ => 0

abbrev bufTy : (tb : Table) → Fin (tcTables nBuf tb) → BufTy
  | .hbm, ⟨0, _⟩ => ⟨S8192x6720, .f32⟩
  | .hbm, ⟨1, _⟩ => ⟨S4x128, .f32⟩
  | .hbm, ⟨2, _⟩ => ⟨S4x128x128, .f32⟩
  | .hbm, ⟨3, _⟩ => ⟨S4x128, .f32⟩
  | .hbm, ⟨4, _⟩ => ⟨S2048, .f32⟩
  | .hbm, ⟨5, _⟩ => ⟨S8192x2048, .f32⟩
  | .hbm, ⟨6, _⟩ => ⟨S8192x6912, .bf16⟩
  | .hbm, ⟨7, _⟩ => ⟨S8192x1536, .f32⟩
  | .hbm, ⟨8, _⟩ => ⟨S8192x8x192, .f32⟩
  | .hbm, ⟨9, _⟩ => ⟨S8192x2048, .f32⟩
  | .hbm, ⟨10, _⟩ => ⟨S8192x1024, .f32⟩
  | .hbm, ⟨11, _⟩ => ⟨S8192x1536, .f32⟩
  | .hbm, ⟨12, _⟩ => ⟨S8192x8x128, .f32⟩
  | .hbm, ⟨13, _⟩ => ⟨S8192x1024, .f32⟩
  | .hbm, ⟨14, _⟩ => ⟨S8192x8x64, .f32⟩
  | .hbm, ⟨15, _⟩ => ⟨S8192x512, .f32⟩
  | .hbm, ⟨16, _⟩ => ⟨S8192x512, .f32⟩
  | .hbm, ⟨17, _⟩ => ⟨S8192x64, .f32⟩
  | .hbm, ⟨18, _⟩ => ⟨S_, .f32⟩
  | .hbm, ⟨19, _⟩ => ⟨S8192x192, .f32⟩
  | .hbm, ⟨20, _⟩ => ⟨S8192x6912, .f32⟩
  | .hbm, ⟨21, _⟩ => ⟨S8192x6912, .bf16⟩
  | .hbm, ⟨22, _⟩ => ⟨S4x128x1, .f32⟩
  | .hbm, ⟨23, _⟩ => ⟨S512, .f32⟩
  | .hbm, ⟨24, _⟩ => ⟨S1x512, .f32⟩
  | .hbm, ⟨25, _⟩ => ⟨S8192x6912, .bf16⟩
  | .hbm, ⟨26, _⟩ => ⟨S4x128, .f32⟩
  | .hbm, ⟨27, _⟩ => ⟨S4x128x128, .f32⟩
  | .hbm, ⟨28, _⟩ => ⟨S4x128x1, .f32⟩
  | .hbm, ⟨29, _⟩ => ⟨S1x512, .f32⟩
  | .local _ .vmem, ⟨0, _⟩ => ⟨S512x1536, .bf16⟩
  | .local _ .vmem, ⟨1, _⟩ => ⟨S512x1536, .bf16⟩
  | .local _ .vmem, ⟨2, _⟩ => ⟨S4x128, .f32⟩
  | .local _ .vmem, ⟨3, _⟩ => ⟨S4x128x128, .f32⟩
  | .local _ .vmem, ⟨4, _⟩ => ⟨S4x128x1, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x1536, .bf16⟩
  | .local _ .vmem, ⟨9, _⟩ => ⟨S512x1536, .bf16⟩
  | .local _ .vmem, ⟨10, _⟩ => ⟨S4x128, .f32⟩
  | .local _ .vmem, ⟨11, _⟩ => ⟨S4x128x128, .f32⟩
  | .local _ .vmem, ⟨12, _⟩ => ⟨S4x128x1, .f32⟩
  | .local _ .vmem, ⟨13, _⟩ => ⟨S1x512, .f32⟩
  | _, _ => ⟨S8192x6720, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev main_v17_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v1836 : BitVec 1 := Scalar.cmpi .eq arg0 c0_i32
  let v1838 : BitVec 32 := Scalar.extui v1836
  let c0_i32_660 : BitVec 32 := 0#32
  let v1839 : BitVec 1 := Scalar.cmpi .ne v1838 c0_i32_660
  v1839

def k0_cond2 (i : grid0.Coords) : BitVec 1 :=
  let arg0 : BitVec 32 := BitVec.ofNat 32 (i 0).val
  let c0_i32 : BitVec 32 := 0#32
  let v1836 : BitVec 1 := Scalar.cmpi .eq arg0 c0_i32
  let v_true : BitVec 1 := 1#1
  let v1840 : BitVec 1 := Scalar.xori v1836 v_true
  let v1841 : BitVec 32 := Scalar.extui v1840
  let c0_i32_661 : BitVec 32 := 0#32
  let v1842 : BitVec 1 := Scalar.cmpi .ne v1841 c0_i32_661
  v1842

def k0_cond5 (i : grid0.Coords) : BitVec 1 :=
  let arg0 : BitVec 32 := BitVec.ofNat 32 (i 0).val
  let c0_i32 : BitVec 32 := 0#32
  let v1836 : BitVec 1 := Scalar.cmpi .eq arg0 c0_i32
  let v1849 : BitVec 32 := Scalar.extui v1836
  let c0_i32_666 : BitVec 32 := 0#32
  let v1850 : BitVec 1 := Scalar.cmpi .ne v1849 c0_i32_666
  v1850

def k0_cond6 (i : grid0.Coords) : BitVec 1 :=
  let arg0 : BitVec 32 := BitVec.ofNat 32 (i 0).val
  let c0_i32 : BitVec 32 := 0#32
  let v1836 : BitVec 1 := Scalar.cmpi .eq arg0 c0_i32
  let true_667 : BitVec 1 := 1#1
  let v1851 : BitVec 1 := Scalar.xori v1836 true_667
  let v1852 : BitVec 32 := Scalar.extui v1851
  let c0_i32_669 : BitVec 32 := 0#32
  let v1853 : BitVec 1 := Scalar.cmpi .ne v1852 c0_i32_669
  v1853

def k0_cond9 (i : grid0.Coords) : BitVec 1 :=
  let arg0 : BitVec 32 := BitVec.ofNat 32 (i 0).val
  let c0_i32 : BitVec 32 := 0#32
  let v1836 : BitVec 1 := Scalar.cmpi .eq arg0 c0_i32
  let v1859 : BitVec 32 := Scalar.extui v1836
  let c0_i32_675 : BitVec 32 := 0#32
  let v1860 : BitVec 1 := Scalar.cmpi .ne v1859 c0_i32_675
  v1860

def k0_cond10 (i : grid0.Coords) : BitVec 1 :=
  let arg0 : BitVec 32 := BitVec.ofNat 32 (i 0).val
  let c0_i32 : BitVec 32 := 0#32
  let v1836 : BitVec 1 := Scalar.cmpi .eq arg0 c0_i32
  let true_676 : BitVec 1 := 1#1
  let v1861 : BitVec 1 := Scalar.xori v1836 true_676
  let v1862 : BitVec 32 := Scalar.extui v1861
  let c0_i32_678 : BitVec 32 := 0#32
  let v1863 : BitVec 1 := Scalar.cmpi .ne v1862 c0_i32_678
  v1863

def k0_cond13 (i : grid0.Coords) : BitVec 1 :=
  let arg0 : BitVec 32 := BitVec.ofNat 32 (i 0).val
  let c0_i32 : BitVec 32 := 0#32
  let v1836 : BitVec 1 := Scalar.cmpi .eq arg0 c0_i32
  let v1869 : BitVec 32 := Scalar.extui v1836
  let c0_i32_684 : BitVec 32 := 0#32
  let v1870 : BitVec 1 := Scalar.cmpi .ne v1869 c0_i32_684
  v1870

def k0_cond14 (i : grid0.Coords) : BitVec 1 :=
  let arg0 : BitVec 32 := BitVec.ofNat 32 (i 0).val
  let c0_i32 : BitVec 32 := 0#32
  let v1836 : BitVec 1 := Scalar.cmpi .eq arg0 c0_i32
  let true_685 : BitVec 1 := 1#1
  let v1871 : BitVec 1 := Scalar.xori v1836 true_685
  let v1872 : BitVec 32 := Scalar.extui v1871
  let c0_i32_687 : BitVec 32 := 0#32
  let v1873 : BitVec 1 := Scalar.cmpi .ne v1872 c0_i32_687
  v1873

def k0_cond17 (i : grid0.Coords) : BitVec 1 :=
  let arg0 : BitVec 32 := BitVec.ofNat 32 (i 0).val
  let c0_i32 : BitVec 32 := 0#32
  let v1836 : BitVec 1 := Scalar.cmpi .eq arg0 c0_i32
  let v1879 : BitVec 32 := Scalar.extui v1836
  let c0_i32_693 : BitVec 32 := 0#32
  let v1880 : BitVec 1 := Scalar.cmpi .ne v1879 c0_i32_693
  v1880

def k0_cond18 (i : grid0.Coords) : BitVec 1 :=
  let arg0 : BitVec 32 := BitVec.ofNat 32 (i 0).val
  let c0_i32 : BitVec 32 := 0#32
  let v1836 : BitVec 1 := Scalar.cmpi .eq arg0 c0_i32
  let true_694 : BitVec 1 := 1#1
  let v1881 : BitVec 1 := Scalar.xori v1836 true_694
  let v1882 : BitVec 32 := Scalar.extui v1881
  let c0_i32_696 : BitVec 32 := 0#32
  let v1883 : BitVec 1 := Scalar.cmpi .ne v1882 c0_i32_696
  v1883

def k0_cond7 (i : grid0.Coords) : BitVec 1 :=
  let arg0 : BitVec 32 := BitVec.ofNat 32 (i 0).val
  let c0_i32 : BitVec 32 := 0#32
  let v1836 : BitVec 1 := Scalar.cmpi .eq arg0 c0_i32
  let v1854 : BitVec 32 := Scalar.extui v1836
  let c0_i32_671 : BitVec 32 := 0#32
  let v1855 : BitVec 1 := Scalar.cmpi .ne v1854 c0_i32_671
  v1855

def k0_cond8 (i : grid0.Coords) : BitVec 1 :=
  let arg0 : BitVec 32 := BitVec.ofNat 32 (i 0).val
  let c0_i32 : BitVec 32 := 0#32
  let v1836 : BitVec 1 := Scalar.cmpi .eq arg0 c0_i32
  let true_672 : BitVec 1 := 1#1
  let v1856 : BitVec 1 := Scalar.xori v1836 true_672
  let v1857 : BitVec 32 := Scalar.extui v1856
  let c0_i32_674 : BitVec 32 := 0#32
  let v1858 : BitVec 1 := Scalar.cmpi .ne v1857 c0_i32_674
  v1858

def k0_cond11 (i : grid0.Coords) : BitVec 1 :=
  let arg0 : BitVec 32 := BitVec.ofNat 32 (i 0).val
  let c0_i32 : BitVec 32 := 0#32
  let v1836 : BitVec 1 := Scalar.cmpi .eq arg0 c0_i32
  let v1864 : BitVec 32 := Scalar.extui v1836
  let c0_i32_680 : BitVec 32 := 0#32
  let v1865 : BitVec 1 := Scalar.cmpi .ne v1864 c0_i32_680
  v1865

def k0_cond12 (i : grid0.Coords) : BitVec 1 :=
  let arg0 : BitVec 32 := BitVec.ofNat 32 (i 0).val
  let c0_i32 : BitVec 32 := 0#32
  let v1836 : BitVec 1 := Scalar.cmpi .eq arg0 c0_i32
  let true_681 : BitVec 1 := 1#1
  let v1866 : BitVec 1 := Scalar.xori v1836 true_681
  let v1867 : BitVec 32 := Scalar.extui v1866
  let c0_i32_683 : BitVec 32 := 0#32
  let v1868 : BitVec 1 := Scalar.cmpi .ne v1867 c0_i32_683
  v1868

def k0_cond15 (i : grid0.Coords) : BitVec 1 :=
  let arg0 : BitVec 32 := BitVec.ofNat 32 (i 0).val
  let c0_i32 : BitVec 32 := 0#32
  let v1836 : BitVec 1 := Scalar.cmpi .eq arg0 c0_i32
  let v1874 : BitVec 32 := Scalar.extui v1836
  let c0_i32_689 : BitVec 32 := 0#32
  let v1875 : BitVec 1 := Scalar.cmpi .ne v1874 c0_i32_689
  v1875

def k0_cond16 (i : grid0.Coords) : BitVec 1 :=
  let arg0 : BitVec 32 := BitVec.ofNat 32 (i 0).val
  let c0_i32 : BitVec 32 := 0#32
  let v1836 : BitVec 1 := Scalar.cmpi .eq arg0 c0_i32
  let true_690 : BitVec 1 := 1#1
  let v1876 : BitVec 1 := Scalar.xori v1836 true_690
  let v1877 : BitVec 32 := Scalar.extui v1876
  let c0_i32_692 : BitVec 32 := 0#32
  let v1878 : BitVec 1 := Scalar.cmpi .ne v1877 c0_i32_692
  v1878

def k0_cond19 (i : grid0.Coords) : BitVec 1 :=
  let arg0 : BitVec 32 := BitVec.ofNat 32 (i 0).val
  let c0_i32 : BitVec 32 := 0#32
  let v1836 : BitVec 1 := Scalar.cmpi .eq arg0 c0_i32
  let v1884 : BitVec 32 := Scalar.extui v1836
  let c0_i32_698 : BitVec 32 := 0#32
  let v1885 : BitVec 1 := Scalar.cmpi .ne v1884 c0_i32_698
  v1885

def k0_cond20 (i : grid0.Coords) : BitVec 1 :=
  let arg0 : BitVec 32 := BitVec.ofNat 32 (i 0).val
  let c0_i32 : BitVec 32 := 0#32
  let v1836 : BitVec 1 := Scalar.cmpi .eq arg0 c0_i32
  let true_699 : BitVec 1 := 1#1
  let v1886 : BitVec 1 := Scalar.xori v1836 true_699
  let v1887 : BitVec 32 := Scalar.extui v1886
  let c0_i32_701 : BitVec 32 := 0#32
  let v1888 : BitVec 1 := Scalar.cmpi .ne v1887 c0_i32_701
  v1888

def k0_cond3 (i : grid0.Coords) : BitVec 1 :=
  let arg0 : BitVec 32 := BitVec.ofNat 32 (i 0).val
  let c0_i32 : BitVec 32 := 0#32
  let v1836 : BitVec 1 := Scalar.cmpi .eq arg0 c0_i32
  let v1844 : BitVec 32 := Scalar.extui v1836
  let c0_i32_662 : BitVec 32 := 0#32
  let v1845 : BitVec 1 := Scalar.cmpi .ne v1844 c0_i32_662
  v1845

def k0_cond4 (i : grid0.Coords) : BitVec 1 :=
  let arg0 : BitVec 32 := BitVec.ofNat 32 (i 0).val
  let c0_i32 : BitVec 32 := 0#32
  let v1836 : BitVec 1 := Scalar.cmpi .eq arg0 c0_i32
  let true_663 : BitVec 1 := 1#1
  let v1846 : BitVec 1 := Scalar.xori v1836 true_663
  let v1847 : BitVec 32 := Scalar.extui v1846
  let c0_i32_664 : BitVec 32 := 0#32
  let v1848 : BitVec 1 := Scalar.cmpi .ne v1847 c0_i32_664
  v1848

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SguRefIdeal.lean ====
abbrev S8192x6720 : Shape := ⟨2, ![8192, 6720]⟩
abbrev S4x128 : Shape := ⟨2, ![4, 128]⟩
abbrev S4x128x128 : Shape := ⟨3, ![4, 128, 128]⟩
abbrev S2048 : Shape := ⟨1, ![2048]⟩
abbrev S8192x2048 : Shape := ⟨2, ![8192, 2048]⟩
abbrev S8192x6912 : Shape := ⟨2, ![8192, 6912]⟩
abbrev S8192x512 : Shape := ⟨2, ![8192, 512]⟩
abbrev S512 : Shape := ⟨1, ![512]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x4x128 : Shape := ⟨3, ![1, 4, 128]⟩
abbrev S64x128x4x128 : Shape := ⟨4, ![64, 128, 4, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S8192 : Shape := ⟨1, ![8192]⟩
abbrev S8192x1 : Shape := ⟨2, ![8192, 1]⟩
abbrev S1x512 : Shape := ⟨2, ![1, 512]⟩
abbrev S8192x1536 : Shape := ⟨2, ![8192, 1536]⟩
abbrev S8192x3072 : Shape := ⟨2, ![8192, 3072]⟩
abbrev S8192x2304 : Shape := ⟨2, ![8192, 2304]⟩
abbrev S4x128x1 : Shape := ⟨3, ![4, 128, 1]⟩

abbrev nBuf : Space → Nat
  | .hbm => 154
  | .vmem => 0
  | .smem => 0
  | _ => 0

abbrev hbmTy0_0 (i : Nat) : BufTy := match i % 128 with
  | 0 => ⟨S8192x6720, .f32⟩
  | 1 => ⟨S4x128, .f32⟩
  | 2 => ⟨S4x128x128, .f32⟩
  | 3 => ⟨S4x128, .f32⟩
  | 4 => ⟨S2048, .f32⟩
  | 5 => ⟨S8192x2048, .f32⟩
  | 6 => ⟨S8192x6912, .bf16⟩
  | 7 => ⟨S8192x512, .f32⟩
  | 8 => ⟨S8192x512, .f32⟩
  | 9 => ⟨S8192x512, .f32⟩
  | 10 => ⟨S512, .f32⟩
  | 11 => ⟨S8192x4x128, .f32⟩
  | 12 => ⟨S8192x4x128, .f32⟩
  | 13 => ⟨S_, .f32⟩
  | 14 => ⟨S8192x4, .f32⟩
  | 15 => ⟨S8192x4x1, .f32⟩
  | 16 => ⟨S_, .f32⟩
  | 17 => ⟨S8192x4x1, .f32⟩
  | 18 => ⟨S8192x4x1, .f32⟩
  | 19 => ⟨S_, .f32⟩
  | 20 => ⟨S8192x4x1, .f32⟩
  | 21 => ⟨S8192x4x1, .f32⟩
  | 22 => ⟨S8192x4x1, .f32⟩
  | 23 => ⟨S8192x4x1, .f32⟩
  | 24 => ⟨S_, .f32⟩
  | 25 => ⟨S8192x4x1, .f32⟩
  | 26 => ⟨S8192x4x1, .f32⟩
  | 27 => ⟨S8192x4x128, .f32⟩
  | 28 => ⟨S8192x4x128, .f32⟩
  | 29 => ⟨S1x4x128, .f32⟩
  | 30 => ⟨S8192x4x128, .f32⟩
  | 31 => ⟨S8192x4x128, .f32⟩
  | 32 => ⟨S64x128x4x128, .f32⟩
  | 33 => ⟨S4x64x128x128, .f32⟩
  | 34 => ⟨S64x128x4x128, .f32⟩
  | 35 => ⟨S128x4, .f32⟩
  | 36 => ⟨S1x128x4x1, .f32⟩
  | 37 => ⟨S64x128x4x128, .f32⟩
  | 38 => ⟨S64x128x4x128, .f32⟩
  | 39 => ⟨S8192x512, .f32⟩
  | 40 => ⟨S8192x512, .f32⟩
  | 41 => ⟨S8192x512, .f32⟩
  | 42 => ⟨S8192x512, .f32⟩
  | 43 => ⟨S_, .f32⟩
  | 44 => ⟨S8192x512, .f32⟩
  | 45 => ⟨S8192x512, .f32⟩
  | 46 => ⟨S_, .f32⟩
  | 47 => ⟨S8192x512, .f32⟩
  | 48 => ⟨S8192x512, .f32⟩
  | 49 => ⟨S_, .f32⟩
  | 50 => ⟨S8192x512, .f32⟩
  | 51 => ⟨S8192x512, .f32⟩
  | 52 => ⟨S8192x512, .f32⟩
  | 53 => ⟨S8192x512, .f32⟩
  | 54 => ⟨S8192x512, .f32⟩
  | 55 => ⟨S8192x512, .f32⟩
  | 56 => ⟨S_, .f32⟩
  | 57 => ⟨S8192, .f32⟩
  | 58 => ⟨S8192x1, .f32⟩
  | 59 => ⟨S_, .f32⟩
  | 60 => ⟨S8192x1, .f32⟩
  | 61 => ⟨S8192x1, .f32⟩
  | 62 => ⟨S_, .f32⟩
  | 63 => ⟨S8192x1, .f32⟩
  | 64 => ⟨S8192x1, .f32⟩
  | 65 => ⟨S8192x1, .f32⟩
  | 66 => ⟨S8192x1, .f32⟩
  | 67 => ⟨S_, .f32⟩
  | 68 => ⟨S8192x1, .f32⟩
  | 69 => ⟨S8192x1, .f32⟩
  | 70 => ⟨S8192x512, .f32⟩
  | 71 => ⟨S8192x512, .f32⟩
  | 72 => ⟨S1x512, .f32⟩
  | 73 => ⟨S8192x512, .f32⟩
  | 74 => ⟨S8192x512, .f32⟩
  | 75 => ⟨S8192x512, .f32⟩
  | 76 => ⟨S8192x512, .f32⟩
  | 77 => ⟨S_, .f32⟩
  | 78 => ⟨S512, .f32⟩
  | 79 => ⟨S1x512, .f32⟩
  | 80 => ⟨S8192x512, .f32⟩
  | 81 => ⟨S8192x512, .f32⟩
  | 82 => ⟨S_, .f32⟩
  | 83 => ⟨S512, .f32⟩
  | 84 => ⟨S8192x512, .f32⟩
  | 85 => ⟨S_, .f32⟩
  | 86 => ⟨S8192, .f32⟩
  | 87 => ⟨S8192x1, .f32⟩
  | 88 => ⟨S8192x512, .f32⟩
  | 89 => ⟨S8192x512, .f32⟩
  | 90 => ⟨S8192x1, .f32⟩
  | 91 => ⟨S_, .f32⟩
  | 92 => ⟨S8192x1, .f32⟩
  | 93 => ⟨S8192x1, .f32⟩
  | 94 => ⟨S_, .f32⟩
  | 95 => ⟨S8192, .f32⟩
  | 96 => ⟨S8192x512, .f32⟩
  | 97 => ⟨S8192x512, .f32⟩
  | 98 => ⟨S8192x512, .f32⟩
  | 99 => ⟨S8192x512, .f32⟩
  | 100 => ⟨S8192x512, .f32⟩
  | 101 => ⟨S8192x512, .f32⟩
  | 102 => ⟨S8192x512, .f32⟩
  | 103 => ⟨S8192x512, .f32⟩
  | 104 => ⟨S8192x512, .f32⟩
  | 105 => ⟨S8192x512, .f32⟩
  | 106 => ⟨S8192x512, .f32⟩
  | 107 => ⟨S8192x512, .f32⟩
  | 108 => ⟨S8192x512, .f32⟩
  | 109 => ⟨S64x128x4x128, .f32⟩
  | 110 => ⟨S_, .f32⟩
  | 111 => ⟨S128x4, .f32⟩
  | 112 => ⟨S1x128x4x1, .f32⟩
  | 113 => ⟨S_, .f32⟩
  | 114 => ⟨S128x4, .f32⟩
  | 115 => ⟨S4x128, .f32⟩
  | 116 => ⟨S4x64x128x128, .f32⟩
  | 117 => ⟨S4x128x128, .f32⟩
  | 118 => ⟨S4x64x128x128, .f32⟩
  | 119 => ⟨S64x128x4x128, .f32⟩
  | 120 => ⟨S8192x4x128, .f32⟩
  | 121 => ⟨S8192x4x128, .f32⟩
  | 122 => ⟨S_, .f32⟩
  | 123 => ⟨S4x128, .f32⟩
  | 124 => ⟨S1x4x128, .f32⟩
  | 125 => ⟨S8192x4x128, .f32⟩
  | 126 => ⟨S8192x4x128, .f32⟩
  | 127 => ⟨S_, .f32⟩
  | _ => ⟨S8192x6720, .f32⟩

abbrev hbmTy0_1 (i : Nat) : BufTy := match i % 128 with
  | 0 => ⟨S4x128, .f32⟩
  | 1 => ⟨S8192x4x128, .f32⟩
  | 2 => ⟨S_, .f32⟩
  | 3 => ⟨S8192x4, .f32⟩
  | 4 => ⟨S8192x4x1, .f32⟩
  | 5 => ⟨S8192x4x128, .f32⟩
  | 6 => ⟨S8192x4x128, .f32⟩
  | 7 => ⟨S8192x4x1, .f32⟩
  | 8 => ⟨S_, .f32⟩
  | 9 => ⟨S8192x4x1, .f32⟩
  | 10 => ⟨S8192x4x1, .f32⟩
  | 11 => ⟨S_, .f32⟩
  | 12 => ⟨S8192x4, .f32⟩
  | 13 => ⟨S8192x4x128, .f32⟩
  | 14 => ⟨S8192x4x128, .f32⟩
  | 15 => ⟨S8192x4x128, .f32⟩
  | 16 => ⟨S8192x4x128, .f32⟩
  | 17 => ⟨S8192x4x128, .f32⟩
  | 18 => ⟨S8192x512, .f32⟩
  | 19 => ⟨S8192x1536, .f32⟩
  | 20 => ⟨S8192x1536, .bf16⟩
  | 21 => ⟨S8192x3072, .bf16⟩
  | 22 => ⟨S8192x2304, .bf16⟩
  | 23 => ⟨S8192x6912, .bf16⟩
  | 24 => ⟨S4x128x1, .f32⟩
  | 25 => ⟨S1x512, .f32⟩
  | _ => ⟨S8192x6720, .f32⟩

abbrev hbmTy (i : Nat) : BufTy := match i / 128 with
  | 0 => hbmTy0_0 i
  | 1 => hbmTy0_1 i
  | _ => ⟨S8192x6720, .f32⟩

abbrev bufTy : (tb : Table) → Fin (tcTables nBuf tb) → BufTy
  | .hbm, ⟨i, _⟩ => hbmTy i
  | _, _ => ⟨S8192x6720, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v30_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v30_1 : Ref sig .tc := ⟨.hbm, 52, rfl⟩
abbrev main_v30_0 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_12 : Ref sig .tc := ⟨.hbm, 110, rfl⟩
abbrev main_v75 : Ref sig .tc := ⟨.hbm, 111, rfl⟩
abbrev main_v76 : Ref sig .tc := ⟨.hbm, 112, rfl⟩
abbrev main_cst_13 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_14 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_15 : Ref sig .tc := ⟨.hbm, 127, rfl⟩
abbrev main_v89 : Ref sig .tc := ⟨.hbm, 128, rfl⟩
abbrev main_v90 : Ref sig .tc := ⟨.hbm, 129, rfl⟩
abbrev main_cst_16 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_17 : Ref sig .tc := ⟨.hbm, 136, rfl⟩
abbrev main_v96 : Ref sig .tc := ⟨.hbm, 137, rfl⟩
abbrev main_v97 : Ref sig .tc := ⟨.hbm, 138, rfl⟩
abbrev main_cst_18 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩

abbrev nD : Nat := 1
abbrev τ : Topo := Topo.v7x

variable {F : FTy → Type} [FloatOps F]
-- ==== ConvBack.lean ====
abbrev S8192x6720 : Shape := ⟨2, ![8192, 6720]⟩
abbrev S3x512 : Shape := ⟨2, ![3, 512]⟩
abbrev S512 : Shape := ⟨1, ![512]⟩
abbrev S2048 : Shape := ⟨1, ![2048]⟩
abbrev S8192x2048 : Shape := ⟨2, ![8192, 2048]⟩
abbrev S8192x1536 : Shape := ⟨2, ![8192, 1536]⟩
abbrev S8192x8x192 : Shape := ⟨3, ![8192, 8, 192]⟩
abbrev S8192x1024 : Shape := ⟨2, ![8192, 1024]⟩
abbrev S8192x8x128 : Shape := ⟨3, ![8192, 8, 128]⟩
abbrev S8192x8x64 : Shape := ⟨3, ![8192, 8, 64]⟩
abbrev S8192x512 : Shape := ⟨2, ![8192, 512]⟩
abbrev S8192x64 : Shape := ⟨2, ![8192, 64]⟩
abbrev S_ : Shape := ⟨0, ![]⟩
abbrev S8192x192 : Shape := ⟨2, ![8192, 192]⟩
abbrev S8192x6912 : Shape := ⟨2, ![8192, 6912]⟩
abbrev S1x512 : Shape := ⟨2, ![1, 512]⟩
abbrev S8x2048 : Shape := ⟨2, ![8, 2048]⟩
abbrev S256x2048 : Shape := ⟨2, ![256, 2048]⟩
abbrev S8x512 : Shape := ⟨2, ![8, 512]⟩
abbrev S256x512 : Shape := ⟨2, ![256, 512]⟩
abbrev S272x2048 : Shape := ⟨2, ![272, 2048]⟩
abbrev S272x512 : Shape := ⟨2, ![272, 512]⟩
abbrev S272x1 : Shape := ⟨2, ![272, 1]⟩
abbrev S272 : Shape := ⟨1, ![272]⟩

abbrev nBuf : Space → Nat
  | .hbm => 27
  | .vmem => 20
  | .smem => 0
  | _ => 0

abbrev bufTy : (tb : Table) → Fin (tcTables nBuf tb) → BufTy
  | .hbm, ⟨0, _⟩ => ⟨S8192x6720, .f32⟩
  | .hbm, ⟨1, _⟩ => ⟨S3x512, .f32⟩
  | .hbm, ⟨2, _⟩ => ⟨S512, .f32⟩
  | .hbm, ⟨3, _⟩ => ⟨S2048, .f32⟩
  | .hbm, ⟨4, _⟩ => ⟨S8192x2048, .f32⟩
  | .hbm, ⟨5, _⟩ => ⟨S8192x1536, .f32⟩
  | .hbm, ⟨6, _⟩ => ⟨S8192x8x192, .f32⟩
  | .hbm, ⟨7, _⟩ => ⟨S8192x2048, .f32⟩
  | .hbm, ⟨8, _⟩ => ⟨S8192x1024, .f32⟩
  | .hbm, ⟨9, _⟩ => ⟨S8192x1536, .f32⟩
  | .hbm, ⟨10, _⟩ => ⟨S8192x8x128, .f32⟩
  | .hbm, ⟨11, _⟩ => ⟨S8192x1024, .f32⟩
  | .hbm, ⟨12, _⟩ => ⟨S8192x8x64, .f32⟩
  | .hbm, ⟨13, _⟩ => ⟨S8192x512, .f32⟩
  | .hbm, ⟨14, _⟩ => ⟨S8192x512, .f32⟩
  | .hbm, ⟨15, _⟩ => ⟨S8192x64, .f32⟩
  | .hbm, ⟨16, _⟩ => ⟨S_, .f32⟩
  | .hbm, ⟨17, _⟩ => ⟨S8192x192, .f32⟩
  | .hbm, ⟨18, _⟩ => ⟨S8192x6912, .f32⟩
  | .hbm, ⟨19, _⟩ => ⟨S8192x6912, .bf16⟩
  | .hbm, ⟨20, _⟩ => ⟨S1x512, .f32⟩
  | .hbm, ⟨21, _⟩ => ⟨S512, .f32⟩
  | .hbm, ⟨22, _⟩ => ⟨S1x512, .f32⟩
  | .hbm, ⟨23, _⟩ => ⟨S8192x6912, .bf16⟩
  | .hbm, ⟨24, _⟩ => ⟨S3x512, .f32⟩
  | .hbm, ⟨25, _⟩ => ⟨S1x512, .f32⟩
  | .hbm, ⟨26, _⟩ => ⟨S1x512, .f32⟩
  | .local _ .vmem, ⟨0, _⟩ => ⟨S8x2048, .bf16⟩
  | .local _ .vmem, ⟨1, _⟩ => ⟨S8x2048, .bf16⟩
  | .local _ .vmem, ⟨2, _⟩ => ⟨S256x2048, .bf16⟩
  | .local _ .vmem, ⟨3, _⟩ => ⟨S256x2048, .bf16⟩
  | .local _ .vmem, ⟨4, _⟩ => ⟨S8x2048, .bf16⟩
  | .local _ .vmem, ⟨5, _⟩ => ⟨S8x2048, .bf16⟩
  | .local _ .vmem, ⟨6, _⟩ => ⟨S3x512, .f32⟩
  | .local _ .vmem, ⟨7, _⟩ => ⟨S1x512, .f32⟩
  | .local _ .vmem, ⟨8, _⟩ => ⟨S1x512, .f32⟩
  | .local _ .vmem, ⟨9, _⟩ => ⟨S8x512, .f32⟩
  | .local _ .vmem, ⟨10, _⟩ => ⟨S8x512, .f32⟩
  | .local _ .vmem, ⟨11, _⟩ => ⟨S256x512, .f32⟩
  | .local _ .vmem, ⟨12, _⟩ => ⟨S256x512, .f32⟩
  | .local _ .vmem, ⟨13, _⟩ => ⟨S8x512, .f32⟩
  | .local _ .vmem, ⟨14, _⟩ => ⟨S8x512, .f32⟩
  | .local _ .vmem, ⟨15, _⟩ => ⟨S256x2048, .bf16⟩
  | .local _ .vmem, ⟨16, _⟩ => ⟨S256x2048, .bf16⟩
  | .local _ .vmem, ⟨17, _⟩ => ⟨S3x512, .f32⟩
  | .local _ .vmem, ⟨18, _⟩ => ⟨S1x512, .f32⟩
  | .local _ .vmem, ⟨19, _⟩ => ⟨S1x512, .f32⟩
  | _, _ => ⟨S8192x6720, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v17_2 : Ref sig .tc := ⟨.hbm, 25, rfl⟩
abbrev main_v17_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_47 : BitVec 32 := 0#32
  let v181 : BitVec 1 := Scalar.cmpi .eq arg0 c0_i32_47
  let v183 : BitVec 32 := Scalar.extui v181
  let c0_i32_48 : BitVec 32 := 0#32
  let v184 : BitVec 1 := Scalar.cmpi .ne v183 c0_i32_48
  v184

def k0_cond2 (i : grid0.Coords) : BitVec 1 :=
  let arg0 : BitVec 32 := BitVec.ofNat 32 (i 0).val
  let c0_i32_47 : BitVec 32 := 0#32
  let v181 : BitVec 1 := Scalar.cmpi .eq arg0 c0_i32_47
  let v_true : BitVec 1 := 1#1
  let v185 : BitVec 1 := Scalar.xori v181 v_true
  let v186 : BitVec 32 := Scalar.extui v185
  let c0_i32_49 : BitVec 32 := 0#32
  let v187 : BitVec 1 := Scalar.cmpi .ne v186 c0_i32_49
  v187

def k0_cond3 (i : grid0.Coords) : BitVec 1 :=
  let arg0 : BitVec 32 := BitVec.ofNat 32 (i 0).val
  let c0_i32_47 : BitVec 32 := 0#32
  let v181 : BitVec 1 := Scalar.cmpi .eq arg0 c0_i32_47
  let v188 : BitVec 32 := Scalar.extui v181
  let c0_i32_50 : BitVec 32 := 0#32
  let v189 : BitVec 1 := Scalar.cmpi .ne v188 c0_i32_50
  v189

def k0_cond4 (i : grid0.Coords) : BitVec 1 :=
  let arg0 : BitVec 32 := BitVec.ofNat 32 (i 0).val
  let c0_i32_47 : BitVec 32 := 0#32
  let v181 : BitVec 1 := Scalar.cmpi .eq arg0 c0_i32_47
  let true_51 : BitVec 1 := 1#1
  let v190 : BitVec 1 := Scalar.xori v181 true_51
  let v191 : BitVec 32 := Scalar.extui v190
  let c0_i32_52 : BitVec 32 := 0#32
  let v192 : BitVec 1 := Scalar.cmpi .ne v191 c0_i32_52
  v192

def k0_cond5 (i : grid0.Coords) : BitVec 1 :=
  let arg0 : BitVec 32 := BitVec.ofNat 32 (i 0).val
  let c0_i32_47 : BitVec 32 := 0#32
  let v181 : BitVec 1 := Scalar.cmpi .eq arg0 c0_i32_47
  let v193 : BitVec 32 := Scalar.extui v181
  let c0_i32_53 : BitVec 32 := 0#32
  let v194 : BitVec 1 := Scalar.cmpi .ne v193 c0_i32_53
  v194

def k0_cond6 (i : grid0.Coords) : BitVec 1 :=
  let arg0 : BitVec 32 := BitVec.ofNat 32 (i 0).val
  let c0_i32_47 : BitVec 32 := 0#32
  let v181 : BitVec 1 := Scalar.cmpi .eq arg0 c0_i32_47
  let true_54 : BitVec 1 := 1#1
  let v195 : BitVec 1 := Scalar.xori v181 true_54
  let v196 : BitVec 32 := Scalar.extui v195
  let c0_i32_55 : BitVec 32 := 0#32
  let v197 : BitVec 1 := Scalar.cmpi .ne v196 c0_i32_55
  v197

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c1_i32_0 : BitVec 32 := 1#32
  let c0_i32 : BitVec 32 := 0#32
  ![v2.toNat, c1_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ConvRefIdeal.lean ====
abbrev S8192x6720 : Shape := ⟨2, ![8192, 6720]⟩
abbrev S3x512 : Shape := ⟨2, ![3, 512]⟩
abbrev S512 : Shape := ⟨1, ![512]⟩
abbrev S2048 : Shape := ⟨1, ![2048]⟩
abbrev S8192x2048 : Shape := ⟨2, ![8192, 2048]⟩
abbrev S8192x512 : Shape := ⟨2, ![8192, 512]⟩
abbrev S_ : Shape := ⟨0, ![]⟩
abbrev S1x512 : Shape := ⟨2, ![1, 512]⟩
abbrev S8194x512 : Shape := ⟨2, ![8194, 512]⟩
abbrev S8192 : Shape := ⟨1, ![8192]⟩
abbrev S8192x1 : Shape := ⟨2, ![8192, 1]⟩
abbrev S8192x6912 : Shape := ⟨2, ![8192, 6912]⟩

abbrev nBuf : Space → Nat
  | .hbm => 173
  | .vmem => 0
  | .smem => 0
  | _ => 0

abbrev hbmTy0_0 (i : Nat) : BufTy := match i % 128 with
  | 0 => ⟨S8192x6720, .f32⟩
  | 1 => ⟨S3x512, .f32⟩
  | 2 => ⟨S512, .f32⟩
  | 3 => ⟨S2048, .f32⟩
  | 4 => ⟨S8192x2048, .f32⟩
  | 5 => ⟨S8192x512, .f32⟩
  | 6 => ⟨S8192x512, .f32⟩
  | 7 => ⟨S8192x512, .f32⟩
  | 8 => ⟨S8192x512, .f32⟩
  | 9 => ⟨S512, .f32⟩
  | 10 => ⟨S_, .f32⟩
  | 11 => ⟨S1x512, .f32⟩
  | 12 => ⟨S8192x512, .f32⟩
  | 13 => ⟨S8194x512, .f32⟩
  | 14 => ⟨S_, .f32⟩
  | 15 => ⟨S1x512, .f32⟩
  | 16 => ⟨S_, .f32⟩
  | 17 => ⟨S1x512, .f32⟩
  | 18 => ⟨S8192x512, .f32⟩
  | 19 => ⟨S1x512, .f32⟩
  | 20 => ⟨S512, .f32⟩
  | 21 => ⟨S1x512, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S8192x512, .f32⟩
  | 28 => ⟨S1x512, .f32⟩
  | 29 => ⟨S512, .f32⟩
  | 30 => ⟨S1x512, .f32⟩
  | 31 => ⟨S8192x512, .f32⟩
  | 32 => ⟨S8192x512, .f32⟩
  | 33 => ⟨S8192x512, .f32⟩
  | 34 => ⟨S8192x512, .f32⟩
  | 35 => ⟨S1x512, .f32⟩
  | 36 => ⟨S512, .f32⟩
  | 37 => ⟨S1x512, .f32⟩
  | 38 => ⟨S8192x512, .f32⟩
  | 39 => ⟨S8192x512, .f32⟩
  | 40 => ⟨S8192x512, .f32⟩
  | 41 => ⟨S1x512, .f32⟩
  | 42 => ⟨S8192x512, .f32⟩
  | 43 => ⟨S8192x512, .f32⟩
  | 44 => ⟨S8192x512, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S8192x512, .f32⟩
  | 57 => ⟨S8192x512, .f32⟩
  | 58 => ⟨S8192x512, .f32⟩
  | 59 => ⟨S8192x512, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S_, .f32⟩
  | 67 => ⟨S8192x1, .f32⟩
  | 68 => ⟨S8192x1, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x512, .f32⟩
  | 75 => ⟨S8192x512, .f32⟩
  | 76 => ⟨S1x512, .f32⟩
  | 77 => ⟨S8192x512, .f32⟩
  | 78 => ⟨S8192x512, .f32⟩
  | 79 => ⟨S8192x512, .f32⟩
  | 80 => ⟨S8192x512, .f32⟩
  | 81 => ⟨S_, .f32⟩
  | 82 => ⟨S512, .f32⟩
  | 83 => ⟨S1x512, .f32⟩
  | 84 => ⟨S8192x512, .f32⟩
  | 85 => ⟨S8192x512, .f32⟩
  | 86 => ⟨S_, .f32⟩
  | 87 => ⟨S512, .f32⟩
  | 88 => ⟨S8192x512, .f32⟩
  | 89 => ⟨S_, .f32⟩
  | 90 => ⟨S8192, .f32⟩
  | 91 => ⟨S8192x1, .f32⟩
  | 92 => ⟨S8192x512, .f32⟩
  | 93 => ⟨S8192x512, .f32⟩
  | 94 => ⟨S8192x1, .f32⟩
  | 95 => ⟨S_, .f32⟩
  | 96 => ⟨S8192x1, .f32⟩
  | 97 => ⟨S8192x1, .f32⟩
  | 98 => ⟨S_, .f32⟩
  | 99 => ⟨S8192, .f32⟩
  | 100 => ⟨S8192x512, .f32⟩
  | 101 => ⟨S8192x512, .f32⟩
  | 102 => ⟨S8192x512, .f32⟩
  | 103 => ⟨S8192x512, .f32⟩
  | 104 => ⟨S8192x512, .f32⟩
  | 105 => ⟨S8192x512, .f32⟩
  | 106 => ⟨S8192x512, .f32⟩
  | 107 => ⟨S8192x512, .f32⟩
  | 108 => ⟨S8192x512, .f32⟩
  | 109 => ⟨S8192x512, .f32⟩
  | 110 => ⟨S8192x512, .f32⟩
  | 111 => ⟨S8192x512, .f32⟩
  | 112 => ⟨S8192x512, .f32⟩
  | 113 => ⟨S_, .f32⟩
  | 114 => ⟨S512, .f32⟩
  | 115 => ⟨S1x512, .f32⟩
  | 116 => ⟨S_, .f32⟩
  | 117 => ⟨S512, .f32⟩
  | 118 => ⟨S8192x512, .f32⟩
  | 119 => ⟨S_, .f32⟩
  | 120 => ⟨S512, .f32⟩
  | 121 => ⟨S1x512, .f32⟩
  | 122 => ⟨S8192x512, .f32⟩
  | 123 => ⟨S8192x512, .f32⟩
  | 124 => ⟨S_, .f32⟩
  | 125 => ⟨S512, .f32⟩
  | 126 => ⟨S1x512, .f32⟩
  | 127 => ⟨S_, .f32⟩
  | _ => ⟨S8192x6720, .f32⟩

abbrev hbmTy0_1 (i : Nat) : BufTy := match i % 128 with
  | 0 => ⟨S3x512, .f32⟩
  | 1 => ⟨S_, .f32⟩
  | 2 => ⟨S8194x512, .f32⟩
  | 3 => ⟨S8192x512, .f32⟩
  | 4 => ⟨S_, .f32⟩
  | 5 => ⟨S512, .f32⟩
  | 6 => ⟨S1x512, .f32⟩
  | 7 => ⟨S8192x512, .f32⟩
  | 8 => ⟨S8192x512, .f32⟩
  | 9 => ⟨S_, .f32⟩
  | 10 => ⟨S512, .f32⟩
  | 11 => ⟨S1x512, .f32⟩
  | 12 => ⟨S_, .f32⟩
  | 13 => ⟨S3x512, .f32⟩
  | 14 => ⟨S3x512, .f32⟩
  | 15 => ⟨S_, .f32⟩
  | 16 => ⟨S8194x512, .f32⟩
  | 17 => ⟨S8194x512, .f32⟩
  | 18 => ⟨S8192x512, .f32⟩
  | 19 => ⟨S_, .f32⟩
  | 20 => ⟨S512, .f32⟩
  | 21 => ⟨S1x512, .f32⟩
  | 22 => ⟨S8192x512, .f32⟩
  | 23 => ⟨S8192x512, .f32⟩
  | 24 => ⟨S_, .f32⟩
  | 25 => ⟨S512, .f32⟩
  | 26 => ⟨S1x512, .f32⟩
  | 27 => ⟨S_, .f32⟩
  | 28 => ⟨S3x512, .f32⟩
  | 29 => ⟨S3x512, .f32⟩
  | 30 => ⟨S_, .f32⟩
  | 31 => ⟨S8194x512, .f32⟩
  | 32 => ⟨S8194x512, .f32⟩
  | 33 => ⟨S1x512, .f32⟩
  | 34 => ⟨S8192x512, .f32⟩
  | 35 => ⟨S1x512, .f32⟩
  | 36 => ⟨S8192x512, .f32⟩
  | 37 => ⟨S8192x512, .f32⟩
  | 38 => ⟨S8192x2048, .f32⟩
  | 39 => ⟨S8192x2048, .bf16⟩
  | 40 => ⟨S_, .i32⟩
  | 41 => ⟨S_, .bf16⟩
  | 42 => ⟨S8192x6912, .bf16⟩
  | 43 => ⟨S1x512, .f32⟩
  | 44 => ⟨S1x512, .f32⟩
  | _ => ⟨S8192x6720, .f32⟩

abbrev hbmTy (i : Nat) : BufTy := match i / 128 with
  | 0 => hbmTy0_0 i
  | 1 => hbmTy0_1 i
  | _ => ⟨S8192x6720, .f32⟩

abbrev bufTy : (tb : Table) → Fin (tcTables nBuf tb) → BufTy
  | .hbm, ⟨i, _⟩ => hbmTy i
  | _, _ => ⟨S8192x6720, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v36_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v36_1 : Ref sig .tc := ⟨.hbm, 56, rfl⟩
abbrev main_v36_0 : Ref sig .tc := ⟨.hbm, 57, rfl⟩
abbrev main_v37 : Ref sig .tc := ⟨.hbm, 58, rfl⟩
abbrev main_v38 : Ref sig .tc := ⟨.hbm, 59, rfl⟩
abbrev main_cst_3 : Ref sig .tc := ⟨.hbm, 60, rfl⟩
abbrev main_v39 : Ref sig .tc := ⟨.hbm, 61, rfl⟩
abbrev main_v40 : Ref sig .tc := ⟨.hbm, 62, rfl⟩
abbrev main_cst_4 : Ref sig .tc := ⟨.hbm, 63, rfl⟩
abbrev main_v41 : Ref sig .tc := ⟨.hbm, 64, rfl⟩
abbrev main_v42 : Ref sig .tc := ⟨.hbm, 65, rfl⟩
abbrev main_cst_5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_7 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_8 : Ref sig .tc := ⟨.hbm, 86, rfl⟩
abbrev main_v60 : Ref sig .tc := ⟨.hbm, 87, rfl⟩
abbrev main_v61 : Ref sig .tc := ⟨.hbm, 88, rfl⟩
abbrev main_cst_9 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_10 : Ref sig .tc := ⟨.hbm, 95, rfl⟩
abbrev main_v67 : Ref sig .tc := ⟨.hbm, 96, rfl⟩
abbrev main_v68 : Ref sig .tc := ⟨.hbm, 97, rfl⟩
abbrev main_cst_11 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_12 : Ref sig .tc := ⟨.hbm, 113, rfl⟩
abbrev main_v80 : Ref sig .tc := ⟨.hbm, 114, rfl⟩
abbrev main_v81 : Ref sig .tc := ⟨.hbm, 115, rfl⟩
abbrev main_cst_13 : Ref sig .tc := ⟨.hbm, 116, rfl⟩
abbrev main_v82 : Ref sig .tc := ⟨.hbm, 117, rfl⟩
abbrev main_v83 : Ref sig .tc := ⟨.hbm, 118, rfl⟩
abbrev main_cst_14 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_15 : Ref sig .tc := ⟨.hbm, 124, rfl⟩
abbrev main_v88 : Ref sig .tc := ⟨.hbm, 125, rfl⟩
abbrev main_v89 : Ref sig .tc := ⟨.hbm, 126, rfl⟩
abbrev main_cst_16 : Ref sig .tc := ⟨.hbm, 127, rfl⟩
abbrev main_v90 : Ref sig .tc := ⟨.hbm, 128, rfl⟩
abbrev main_cst_17 : Ref sig .tc := ⟨.hbm, 129, rfl⟩
abbrev main_v91 : Ref sig .tc := ⟨.hbm, 130, rfl⟩
abbrev main_v92 : Ref sig .tc := ⟨.hbm, 131, rfl⟩
abbrev main_cst_18 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_19 : Ref sig .tc := ⟨.hbm, 137, rfl⟩
abbrev main_v97 : Ref sig .tc := ⟨.hbm, 138, rfl⟩
abbrev main_v98 : Ref sig .tc := ⟨.hbm, 139, rfl⟩
abbrev main_cst_20 : Ref sig .tc := ⟨.hbm, 140, rfl⟩
abbrev main_v99 : Ref sig .tc := ⟨.hbm, 141, rfl⟩
abbrev main_v100 : Ref sig .tc := ⟨.hbm, 142, rfl⟩
abbrev main_cst_21 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_22 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_23 : Ref sig .tc := ⟨.hbm, 152, rfl⟩
abbrev main_v108 : Ref sig .tc := ⟨.hbm, 153, rfl⟩
abbrev main_v109 : Ref sig .tc := ⟨.hbm, 154, rfl⟩
abbrev main_cst_24 : Ref sig .tc := ⟨.hbm, 155, rfl⟩
abbrev main_v110 : Ref sig .tc := ⟨.hbm, 156, rfl⟩
abbrev main_v111 : Ref sig .tc := ⟨.hbm, 157, rfl⟩
abbrev main_cst_25 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_c : Ref sig .tc := ⟨.hbm, 168, rfl⟩
abbrev main_call2_v0 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩

abbrev nD : Nat := 1
abbrev τ : Topo := Topo.v7x

variable {F : FTy → Type} [FloatOps F]
-- ==== MlaBack.lean ====
abbrev S8192x6720 : Shape := ⟨2, ![8192, 6720]⟩
abbrev S8192 : Shape := ⟨1, ![8192]⟩
abbrev S512 : Shape := ⟨1, ![512]⟩
abbrev S512x2048 : Shape := ⟨2, ![512, 2048]⟩
abbrev S128 : Shape := ⟨1, ![128]⟩
abbrev S64 : Shape := ⟨1, ![64]⟩
abbrev S8x8192x192 : Shape := ⟨3, ![8, 8192, 192]⟩
abbrev S8x8192x128 : Shape := ⟨3, ![8, 8192, 128]⟩
abbrev S8192x6912 : Shape := ⟨2, ![8192, 6912]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S512x8x2x128 : Shape := ⟨4, ![512, 8, 2, 128]⟩
abbrev S512x2x8x128 : Shape := ⟨4, ![512, 2, 8, 128]⟩
abbrev S8x2x4096x192 : Shape := ⟨4, ![8, 2, 4096, 192]⟩
abbrev S8x2x192x4096 : Shape := ⟨4, ![8, 2, 192, 4096]⟩
abbrev S8192x1536 : Shape := ⟨2, ![8192, 1536]⟩
abbrev S8192x8x192 : Shape := ⟨3, ![8192, 8, 192]⟩
abbrev S8192x2048 : Shape := ⟨2, ![8192, 2048]⟩
abbrev S8192x1024 : Shape := ⟨2, ![8192, 1024]⟩
abbrev S8192x8x128 : Shape := ⟨3, ![8192, 8, 128]⟩
abbrev S8192x8x64 : Shape := ⟨3, ![8192, 8, 64]⟩
abbrev S8192x512 : Shape := ⟨2, ![8192, 512]⟩
abbrev S8192x192 : Shape := ⟨2, ![8192, 192]⟩
abbrev S1x512 : Shape := ⟨2, ![1, 512]⟩
abbrev S1x128 : Shape := ⟨2, ![1, 128]⟩
abbrev S1x64 : Shape := ⟨2, ![1, 64]⟩
abbrev S256x2304 : Shape := ⟨2, ![256, 2304]⟩
abbrev S256x64 : Shape := ⟨2, ![256, 64]⟩
abbrev S8x1x192x256 : Shape := ⟨4, ![8, 1, 192, 256]⟩
abbrev S8x256x192 : Shape := ⟨3, ![8, 256, 192]⟩
abbrev S8x256x128 : Shape := ⟨3, ![8, 256, 128]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩
abbrev S256x128 : Shape := ⟨2, ![256, 128]⟩
abbrev S1x1x192x256 : Shape := ⟨4, ![1, 1, 192, 256]⟩
abbrev S192x256 : Shape := ⟨2, ![192, 256]⟩
abbrev S256x192 : Shape := ⟨2, ![256, 192]⟩
abbrev S1x256x192 : Shape := ⟨3, ![1, 256, 192]⟩
abbrev S1x256x128 : Shape := ⟨3, ![1, 256, 128]⟩
abbrev S256x32 : Shape := ⟨2, ![256, 32]⟩
abbrev S256x256 : Shape := ⟨2, ![256, 256]⟩

abbrev nBuf : Space → Nat
  | .hbm => 72
  | .vmem => 26
  | .smem => 0
  | _ => 0

abbrev bufTy : (tb : Table) → Fin (tcTables nBuf tb) → BufTy
  | .hbm, ⟨0, _⟩ => ⟨S8192x6720, .f32⟩
  | .hbm, ⟨1, _⟩ => ⟨S8192, .i32⟩
  | .hbm, ⟨2, _⟩ => ⟨S512, .f32⟩
  | .hbm, ⟨3, _⟩ => ⟨S512x2048, .f32⟩
  | .hbm, ⟨4, _⟩ => ⟨S128, .f32⟩
  | .hbm, ⟨5, _⟩ => ⟨S64, .f32⟩
  | .hbm, ⟨6, _⟩ => ⟨S128, .f32⟩
  | .hbm, ⟨7, _⟩ => ⟨S64, .f32⟩
  | .hbm, ⟨8, _⟩ => ⟨S8x8192x192, .f32⟩
  | .hbm, ⟨9, _⟩ => ⟨S8x8192x192, .f32⟩
  | .hbm, ⟨10, _⟩ => ⟨S8x8192x128, .f32⟩
  | .hbm, ⟨11, _⟩ => ⟨S8192x6912, .bf16⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S8192, .f32⟩
  | .hbm, ⟨29, _⟩ => ⟨S8192x1, .f32⟩
  | .hbm, ⟨30, _⟩ => ⟨S1x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x64, .f32⟩
  | .hbm, ⟨37, _⟩ => ⟨S8192x32, .f32⟩
  | .hbm, ⟨38, _⟩ => ⟨S8192x64, .f32⟩
  | .hbm, ⟨39, _⟩ => ⟨S512x2048, .bf16⟩
  | .hbm, ⟨40, _⟩ => ⟨S512x8x2x128, .bf16⟩
  | .hbm, ⟨41, _⟩ => ⟨S512x2x8x128, .bf16⟩
  | .hbm, ⟨42, _⟩ => ⟨S512x2048, .bf16⟩
  | .hbm, ⟨43, _⟩ => ⟨S8x2x4096x192, .f32⟩
  | .hbm, ⟨44, _⟩ => ⟨S8x2x192x4096, .f32⟩
  | .hbm, ⟨45, _⟩ => ⟨S8192x1536, .f32⟩
  | .hbm, ⟨46, _⟩ => ⟨S8192x8x192, .f32⟩
  | .hbm, ⟨47, _⟩ => ⟨S8192x2048, .f32⟩
  | .hbm, ⟨48, _⟩ => ⟨S8192x1024, .f32⟩
  | .hbm, ⟨49, _⟩ => ⟨S8192x1536, .f32⟩
  | .hbm, ⟨50, _⟩ => ⟨S8192x8x128, .f32⟩
  | .hbm, ⟨51, _⟩ => ⟨S8192x1024, .f32⟩
  | .hbm, ⟨52, _⟩ => ⟨S8192x8x64, .f32⟩
  | .hbm, ⟨53, _⟩ => ⟨S8192x512, .f32⟩
  | .hbm, ⟨54, _⟩ => ⟨S8192x512, .f32⟩
  | .hbm, ⟨55, _⟩ => ⟨S8192x64, .f32⟩
  | .hbm, ⟨56, _⟩ => ⟨S_, .f32⟩
  | .hbm, ⟨57, _⟩ => ⟨S8192x192, .f32⟩
  | .hbm, ⟨58, _⟩ => ⟨S8192x6912, .f32⟩
  | .hbm, ⟨59, _⟩ => ⟨S8192x6912, .bf16⟩
  | .hbm, ⟨60, _⟩ => ⟨S1x512, .f32⟩
  | .hbm, ⟨61, _⟩ => ⟨S1x128, .f32⟩
  | .hbm, ⟨62, _⟩ => ⟨S1x64, .f32⟩
  | .hbm, ⟨63, _⟩ => ⟨S1x128, .f32⟩
  | .hbm, ⟨64, _⟩ => ⟨S1x64, .f32⟩
  | .hbm, ⟨65, _⟩ => ⟨S8192x6912, .bf16⟩
  | .hbm, ⟨66, _⟩ => ⟨S512x2048, .f32⟩
  | .hbm, ⟨67, _⟩ => ⟨S1x512, .f32⟩
  | .hbm, ⟨68, _⟩ => ⟨S1x128, .f32⟩
  | .hbm, ⟨69, _⟩ => ⟨S1x64, .f32⟩
  | .hbm, ⟨70, _⟩ => ⟨S1x128, .f32⟩
  | .hbm, ⟨71, _⟩ => ⟨S1x64, .f32⟩
  | .local _ .vmem, ⟨0, _⟩ => ⟨S256x2304, .bf16⟩
  | .local _ .vmem, ⟨1, _⟩ => ⟨S256x2304, .bf16⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S512x2048, .bf16⟩
  | .local _ .vmem, ⟨7, _⟩ => ⟨S1x512, .f32⟩
  | .local _ .vmem, ⟨8, _⟩ => ⟨S1x128, .f32⟩
  | .local _ .vmem, ⟨9, _⟩ => ⟨S1x64, .f32⟩
  | .local _ .vmem, ⟨10, _⟩ => ⟨S1x128, .f32⟩
  | .local _ .vmem, ⟨11, _⟩ => ⟨S1x64, .f32⟩
  | .local _ .vmem, ⟨12, _⟩ => ⟨S8x1x192x256, .f32⟩
  | .local _ .vmem, ⟨13, _⟩ => ⟨S8x1x192x256, .f32⟩
  | .local _ .vmem, ⟨14, _⟩ => ⟨S8x256x192, .f32⟩
  | .local _ .vmem, ⟨15, _⟩ => ⟨S8x256x192, .f32⟩
  | .local _ .vmem, ⟨16, _⟩ => ⟨S8x256x128, .f32⟩
  | .local _ .vmem, ⟨17, _⟩ => ⟨S8x256x128, .f32⟩
  | .local _ .vmem, ⟨18, _⟩ => ⟨S256x2304, .bf16⟩
  | .local _ .vmem, ⟨19, _⟩ => ⟨S256x2304, .bf16⟩
  | .local _ .vmem, ⟨20, _⟩ => ⟨S512x2048, .f32⟩
  | .local _ .vmem, ⟨21, _⟩ => ⟨S1x512, .f32⟩
  | .local _ .vmem, ⟨22, _⟩ => ⟨S1x128, .f32⟩
  | .local _ .vmem, ⟨23, _⟩ => ⟨S1x64, .f32⟩
  | .local _ .vmem, ⟨24, _⟩ => ⟨S1x128, .f32⟩
  | .local _ .vmem, ⟨25, _⟩ => ⟨S1x64, .f32⟩
  | _, _ => ⟨S8192x6720, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47_0 : Ref sig .tc := ⟨.hbm, 65, rfl⟩
abbrev main_v47_1 : Ref sig .tc := ⟨.hbm, 66, rfl⟩
abbrev main_v47_2 : Ref sig .tc := ⟨.hbm, 67, rfl⟩
abbrev main_v47_3 : Ref sig .tc := ⟨.hbm, 68, rfl⟩
abbrev main_v47_4 : Ref sig .tc := ⟨.hbm, 69, rfl⟩
abbrev main_v47_5 : Ref sig .tc := ⟨.hbm, 70, rfl⟩
abbrev main_v47_6 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v1118 : BitVec 1 := Scalar.cmpi .eq arg0 c0_i32
  let v1120 : BitVec 32 := Scalar.extui v1118
  let c0_i32_320 : BitVec 32 := 0#32
  let v1121 : BitVec 1 := Scalar.cmpi .ne v1120 c0_i32_320
  v1121

def k0_cond2 (i : grid0.Coords) : BitVec 1 :=
  let arg0 : BitVec 32 := BitVec.ofNat 32 (i 0).val
  let c0_i32 : BitVec 32 := 0#32
  let v1118 : BitVec 1 := Scalar.cmpi .eq arg0 c0_i32
  let v_true : BitVec 1 := 1#1
  let v1122 : BitVec 1 := Scalar.xori v1118 v_true
  let v1123 : BitVec 32 := Scalar.extui v1122
  let c0_i32_321 : BitVec 32 := 0#32
  let v1124 : BitVec 1 := Scalar.cmpi .ne v1123 c0_i32_321
  v1124

def k0_cond3 (i : grid0.Coords) : BitVec 1 :=
  let arg0 : BitVec 32 := BitVec.ofNat 32 (i 0).val
  let c0_i32 : BitVec 32 := 0#32
  let v1118 : BitVec 1 := Scalar.cmpi .eq arg0 c0_i32
  let v1125 : BitVec 32 := Scalar.extui v1118
  let c0_i32_322 : BitVec 32 := 0#32
  let v1126 : BitVec 1 := Scalar.cmpi .ne v1125 c0_i32_322
  v1126

def k0_cond4 (i : grid0.Coords) : BitVec 1 :=
  let arg0 : BitVec 32 := BitVec.ofNat 32 (i 0).val
  let c0_i32 : BitVec 32 := 0#32
  let v1118 : BitVec 1 := Scalar.cmpi .eq arg0 c0_i32
  let true_323 : BitVec 1 := 1#1
  let v1127 : BitVec 1 := Scalar.xori v1118 true_323
  let v1128 : BitVec 32 := Scalar.extui v1127
  let c0_i32_324 : BitVec 32 := 0#32
  let v1129 : BitVec 1 := Scalar.cmpi .ne v1128 c0_i32_324
  v1129

def k0_cond5 (i : grid0.Coords) : BitVec 1 :=
  let arg0 : BitVec 32 := BitVec.ofNat 32 (i 0).val
  let c0_i32 : BitVec 32 := 0#32
  let v1118 : BitVec 1 := Scalar.cmpi .eq arg0 c0_i32
  let v1130 : BitVec 32 := Scalar.extui v1118
  let c0_i32_325 : BitVec 32 := 0#32
  let v1131 : BitVec 1 := Scalar.cmpi .ne v1130 c0_i32_325
  v1131

def k0_cond6 (i : grid0.Coords) : BitVec 1 :=
  let arg0 : BitVec 32 := BitVec.ofNat 32 (i 0).val
  let c0_i32 : BitVec 32 := 0#32
  let v1118 : BitVec 1 := Scalar.cmpi .eq arg0 c0_i32
  let true_326 : BitVec 1 := 1#1
  let v1132 : BitVec 1 := Scalar.xori v1118 true_326
  let v1133 : BitVec 32 := Scalar.extui v1132
  let c0_i32_327 : BitVec 32 := 0#32
  let v1134 : BitVec 1 := Scalar.cmpi .ne v1133 c0_i32_327
  v1134

def k0_cond7 (i : grid0.Coords) : BitVec 1 :=
  let arg0 : BitVec 32 := BitVec.ofNat 32 (i 0).val
  let c0_i32 : BitVec 32 := 0#32
  let v1118 : BitVec 1 := Scalar.cmpi .eq arg0 c0_i32
  let v1135 : BitVec 32 := Scalar.extui v1118
  let c0_i32_328 : BitVec 32 := 0#32
  let v1136 : BitVec 1 := Scalar.cmpi .ne v1135 c0_i32_328
  v1136

def k0_cond8 (i : grid0.Coords) : BitVec 1 :=
  let arg0 : BitVec 32 := BitVec.ofNat 32 (i 0).val
  let c0_i32 : BitVec 32 := 0#32
  let v1118 : BitVec 1 := Scalar.cmpi .eq arg0 c0_i32
  let true_329 : BitVec 1 := 1#1
  let v1137 : BitVec 1 := Scalar.xori v1118 true_329
  let v1138 : BitVec 32 := Scalar.extui v1137
  let c0_i32_330 : BitVec 32 := 0#32
  let v1139 : BitVec 1 := Scalar.cmpi .ne v1138 c0_i32_330
  v1139

def k0_cond9 (i : grid0.Coords) : BitVec 1 :=
  let arg0 : BitVec 32 := BitVec.ofNat 32 (i 0).val
  let c0_i32 : BitVec 32 := 0#32
  let v1118 : BitVec 1 := Scalar.cmpi .eq arg0 c0_i32
  let v1140 : BitVec 32 := Scalar.extui v1118
  let c0_i32_331 : BitVec 32 := 0#32
  let v1141 : BitVec 1 := Scalar.cmpi .ne v1140 c0_i32_331
  v1141

def k0_cond10 (i : grid0.Coords) : BitVec 1 :=
  let arg0 : BitVec 32 := BitVec.ofNat 32 (i 0).val
  let c0_i32 : BitVec 32 := 0#32
  let v1118 : BitVec 1 := Scalar.cmpi .eq arg0 c0_i32
  let true_332 : BitVec 1 := 1#1
  let v1142 : BitVec 1 := Scalar.xori v1118 true_332
  let v1143 : BitVec 32 := Scalar.extui v1142
  let c0_i32_333 : BitVec 32 := 0#32
  let v1144 : BitVec 1 := Scalar.cmpi .ne v1143 c0_i32_333
  v1144

def k0_cond11 (i : grid0.Coords) : BitVec 1 :=
  let arg0 : BitVec 32 := BitVec.ofNat 32 (i 0).val
  let c0_i32 : BitVec 32 := 0#32
  let v1118 : BitVec 1 := Scalar.cmpi .eq arg0 c0_i32
  let v1145 : BitVec 32 := Scalar.extui v1118
  let c0_i32_334 : BitVec 32 := 0#32
  let v1146 : BitVec 1 := Scalar.cmpi .ne v1145 c0_i32_334
  v1146

def k0_cond12 (i : grid0.Coords) : BitVec 1 :=
  let arg0 : BitVec 32 := BitVec.ofNat 32 (i 0).val
  let c0_i32 : BitVec 32 := 0#32
  let v1118 : BitVec 1 := Scalar.cmpi .eq arg0 c0_i32
  let true_335 : BitVec 1 := 1#1
  let v1147 : BitVec 1 := Scalar.xori v1118 true_335
  let v1148 : BitVec 32 := Scalar.extui v1147
  let c0_i32_336 : BitVec 32 := 0#32
  let v1149 : BitVec 1 := Scalar.cmpi .ne v1148 c0_i32_336
  v1149

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x1x192x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2304 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S512x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MlaRefIdeal.lean ====
abbrev S8192x6720 : Shape := ⟨2, ![8192, 6720]⟩
abbrev S8192 : Shape := ⟨1, ![8192]⟩
abbrev S512 : Shape := ⟨1, ![512]⟩
abbrev S512x2048 : Shape := ⟨2, ![512, 2048]⟩
abbrev S128 : Shape := ⟨1, ![128]⟩
abbrev S64 : Shape := ⟨1, ![64]⟩
abbrev S8x8192x192 : Shape := ⟨3, ![8, 8192, 192]⟩
abbrev S8x8192x128 : Shape := ⟨3, ![8, 8192, 128]⟩
abbrev S8192x6912 : Shape := ⟨2, ![8192, 6912]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1536 : Shape := ⟨2, ![8192, 1536]⟩
abbrev S8192x512 : Shape := ⟨2, ![8192, 512]⟩
abbrev S8192x64 : Shape := ⟨2, ![8192, 64]⟩
abbrev S8192x8x192 : Shape := ⟨3, ![8192, 8, 192]⟩
abbrev S8192x8x128 : Shape := ⟨3, ![8192, 8, 128]⟩
abbrev S8192x8 : Shape := ⟨2, ![8192, 8]⟩
abbrev S8192x8x1 : Shape := ⟨3, ![8192, 8, 1]⟩
abbrev S1x1x128 : Shape := ⟨3, ![1, 1, 128]⟩
abbrev S8192x8x64 : Shape := ⟨3, ![8192, 8, 64]⟩
abbrev S1x1x64 : Shape := ⟨3, ![1, 1, 64]⟩
abbrev S8192x1x32 : Shape := ⟨3, ![8192, 1, 32]⟩
abbrev S8192x8x32 : Shape := ⟨3, ![8192, 8, 32]⟩
abbrev S1x512 : Shape := ⟨2, ![1, 512]⟩
abbrev S8192x2048 : Shape := ⟨2, ![8192, 2048]⟩
abbrev S8192x8x256 : Shape := ⟨3, ![8192, 8, 256]⟩
abbrev S1x64 : Shape := ⟨2, ![1, 64]⟩
abbrev S8192x1x64 : Shape := ⟨3, ![8192, 1, 64]⟩
abbrev S2048x512 : Shape := ⟨2, ![2048, 512]⟩
abbrev S8192x1024 : Shape := ⟨2, ![8192, 1024]⟩
abbrev S8192x192 : Shape := ⟨2, ![8192, 192]⟩
abbrev S8192x2304 : Shape := ⟨2, ![8192, 2304]⟩
abbrev S512x8x2x128 : Shape := ⟨4, ![512, 8, 2, 128]⟩
abbrev S512x2x8x128 : Shape := ⟨4, ![512, 2, 8, 128]⟩
abbrev S8192x4608 : Shape := ⟨2, ![8192, 4608]⟩
abbrev S1x128 : Shape := ⟨2, ![1, 128]⟩

abbrev nBuf : Space → Nat
  | .hbm => 386
  | .vmem => 0
  | .smem => 0
  | _ => 0

abbrev hbmTy0_0 (i : Nat) : BufTy := match i % 128 with
  | 0 => ⟨S8192x6720, .f32⟩
  | 1 => ⟨S8192, .i32⟩
  | 2 => ⟨S512, .f32⟩
  | 3 => ⟨S512x2048, .f32⟩
  | 4 => ⟨S128, .f32⟩
  | 5 => ⟨S64, .f32⟩
  | 6 => ⟨S128, .f32⟩
  | 7 => ⟨S64, .f32⟩
  | 8 => ⟨S8x8192x192, .f32⟩
  | 9 => ⟨S8x8192x192, .f32⟩
  | 10 => ⟨S8x8192x128, .f32⟩
  | 11 => ⟨S8192x6912, .bf16⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S8192, .f32⟩
  | 29 => ⟨S8192x1, .f32⟩
  | 30 => ⟨S1x32, .f32⟩
  | 31 => ⟨S8192x32, .f32⟩
  | 32 => ⟨S8192x32, .f32⟩
  | 33 => ⟨S8192x32, .f32⟩
  | 34 => ⟨S8192x32, .f32⟩
  | 35 => ⟨S8192x32, .f32⟩
  | 36 => ⟨S8192x1536, .f32⟩
  | 37 => ⟨S8192x512, .f32⟩
  | 38 => ⟨S8192x64, .f32⟩
  | 39 => ⟨S8192x8x192, .f32⟩
  | 40 => ⟨S8192x8x128, .f32⟩
  | 41 => ⟨S8192x8x128, .f32⟩
  | 42 => ⟨S_, .f32⟩
  | 43 => ⟨S8192x8, .f32⟩
  | 44 => ⟨S8192x8x1, .f32⟩
  | 45 => ⟨S_, .f32⟩
  | 46 => ⟨S8192x8x1, .f32⟩
  | 47 => ⟨S8192x8x1, .f32⟩
  | 48 => ⟨S_, .f32⟩
  | 49 => ⟨S8192x8x1, .f32⟩
  | 50 => ⟨S8192x8x1, .f32⟩
  | 51 => ⟨S8192x8x1, .f32⟩
  | 52 => ⟨S8192x8x1, .f32⟩
  | 53 => ⟨S_, .f32⟩
  | 54 => ⟨S8192x8x1, .f32⟩
  | 55 => ⟨S8192x8x1, .f32⟩
  | 56 => ⟨S8192x8x128, .f32⟩
  | 57 => ⟨S8192x8x128, .f32⟩
  | 58 => ⟨S1x1x128, .f32⟩
  | 59 => ⟨S8192x8x128, .f32⟩
  | 60 => ⟨S8192x8x128, .f32⟩
  | 61 => ⟨S8192x8x64, .f32⟩
  | 62 => ⟨S8192x8x64, .f32⟩
  | 63 => ⟨S_, .f32⟩
  | 64 => ⟨S8192x8, .f32⟩
  | 65 => ⟨S8192x8x1, .f32⟩
  | 66 => ⟨S_, .f32⟩
  | 67 => ⟨S8192x8x1, .f32⟩
  | 68 => ⟨S8192x8x1, .f32⟩
  | 69 => ⟨S_, .f32⟩
  | 70 => ⟨S8192x8x1, .f32⟩
  | 71 => ⟨S8192x8x1, .f32⟩
  | 72 => ⟨S8192x8x1, .f32⟩
  | 73 => ⟨S8192x8x1, .f32⟩
  | 74 => ⟨S_, .f32⟩
  | 75 => ⟨S8192x8x1, .f32⟩
  | 76 => ⟨S8192x8x1, .f32⟩
  | 77 => ⟨S8192x8x64, .f32⟩
  | 78 => ⟨S8192x8x64, .f32⟩
  | 79 => ⟨S1x1x64, .f32⟩
  | 80 => ⟨S8192x8x64, .f32⟩
  | 81 => ⟨S8192x8x64, .f32⟩
  | 82 => ⟨S8192x1x32, .f32⟩
  | 83 => ⟨S8192x1x32, .f32⟩
  | 84 => ⟨S8192x8x32, .f32⟩
  | 85 => ⟨S8192x8x32, .f32⟩
  | 86 => ⟨S8192x8x32, .f32⟩
  | 87 => ⟨S8192x8x32, .f32⟩
  | 88 => ⟨S8192x8x32, .f32⟩
  | 89 => ⟨S8192x8x32, .f32⟩
  | 90 => ⟨S8192x8x32, .f32⟩
  | 91 => ⟨S8192x8x32, .f32⟩
  | 92 => ⟨S8192x8x32, .f32⟩
  | 93 => ⟨S8192x8x32, .f32⟩
  | 94 => ⟨S8192x8x32, .f32⟩
  | 95 => ⟨S8192x8x32, .f32⟩
  | 96 => ⟨S8192x8x64, .f32⟩
  | 97 => ⟨S8192x512, .f32⟩
  | 98 => ⟨S_, .f32⟩
  | 99 => ⟨S8192, .f32⟩
  | 100 => ⟨S8192x1, .f32⟩
  | 101 => ⟨S_, .f32⟩
  | 102 => ⟨S8192x1, .f32⟩
  | 103 => ⟨S8192x1, .f32⟩
  | 104 => ⟨S_, .f32⟩
  | 105 => ⟨S8192x1, .f32⟩
  | 106 => ⟨S8192x1, .f32⟩
  | 107 => ⟨S8192x1, .f32⟩
  | 108 => ⟨S8192x1, .f32⟩
  | 109 => ⟨S_, .f32⟩
  | 110 => ⟨S8192x1, .f32⟩
  | 111 => ⟨S8192x1, .f32⟩
  | 112 => ⟨S8192x512, .f32⟩
  | 113 => ⟨S8192x512, .f32⟩
  | 114 => ⟨S1x512, .f32⟩
  | 115 => ⟨S8192x512, .f32⟩
  | 116 => ⟨S8192x512, .f32⟩
  | 117 => ⟨S8192x2048, .f32⟩
  | 118 => ⟨S8192x8x256, .f32⟩
  | 119 => ⟨S8192x8x128, .f32⟩
  | 120 => ⟨S8192x8x128, .f32⟩
  | 121 => ⟨S_, .f32⟩
  | 122 => ⟨S8192x8, .f32⟩
  | 123 => ⟨S8192x8x1, .f32⟩
  | 124 => ⟨S_, .f32⟩
  | 125 => ⟨S8192x8x1, .f32⟩
  | 126 => ⟨S8192x8x1, .f32⟩
  | 127 => ⟨S_, .f32⟩
  | _ => ⟨S8192x6720, .f32⟩

abbrev hbmTy0_1 (i : Nat) : BufTy := match i % 128 with
  | 0 => ⟨S8192x8x1, .f32⟩
  | 1 => ⟨S8192x8x1, .f32⟩
  | 2 => ⟨S8192x8x1, .f32⟩
  | 3 => ⟨S8192x8x1, .f32⟩
  | 4 => ⟨S_, .f32⟩
  | 5 => ⟨S8192x8x1, .f32⟩
  | 6 => ⟨S8192x8x1, .f32⟩
  | 7 => ⟨S8192x8x128, .f32⟩
  | 8 => ⟨S8192x8x128, .f32⟩
  | 9 => ⟨S1x1x128, .f32⟩
  | 10 => ⟨S8192x8x128, .f32⟩
  | 11 => ⟨S8192x8x128, .f32⟩
  | 12 => ⟨S8192x8x128, .f32⟩
  | 13 => ⟨S8192x64, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x64, .f32⟩
  | 29 => ⟨S8192x64, .f32⟩
  | 30 => ⟨S1x64, .f32⟩
  | 31 => ⟨S8192x64, .f32⟩
  | 32 => ⟨S8192x64, .f32⟩
  | 33 => ⟨S8192x32, .f32⟩
  | 34 => ⟨S8192x32, .f32⟩
  | 35 => ⟨S8192x32, .f32⟩
  | 36 => ⟨S8192x32, .f32⟩
  | 37 => ⟨S8192x32, .f32⟩
  | 38 => ⟨S8192x32, .f32⟩
  | 39 => ⟨S8192x32, .f32⟩
  | 40 => ⟨S8192x32, .f32⟩
  | 41 => ⟨S8192x64, .f32⟩
  | 42 => ⟨S8192x8x192, .f32⟩
  | 43 => ⟨S_, .f32⟩
  | 44 => ⟨S8192x8x192, .f32⟩
  | 45 => ⟨S8192x8x192, .f32⟩
  | 46 => ⟨S8192x1x64, .f32⟩
  | 47 => ⟨S8192x8x64, .f32⟩
  | 48 => ⟨S8192x8x192, .f32⟩
  | 49 => ⟨S8x8192x192, .f32⟩
  | 50 => ⟨S8x8192x192, .f32⟩
  | 51 => ⟨S8x8192x128, .f32⟩
  | 52 => ⟨S8192x8x128, .f32⟩
  | 53 => ⟨S8192x8x192, .f32⟩
  | 54 => ⟨S8192x8x192, .f32⟩
  | 55 => ⟨S8192x8x128, .f32⟩
  | 56 => ⟨S8192x8x64, .f32⟩
  | 57 => ⟨S_, .f32⟩
  | 58 => ⟨S8192x64, .f32⟩
  | 59 => ⟨S8192x1x64, .f32⟩
  | 60 => ⟨S_, .f32⟩
  | 61 => ⟨S8192x64, .f32⟩
  | 62 => ⟨S_, .f32⟩
  | 63 => ⟨S8192x8x192, .f32⟩
  | 64 => ⟨S8192x8x192, .f32⟩
  | 65 => ⟨S8192x8x128, .f32⟩
  | 66 => ⟨S8192x8x64, .f32⟩
  | 67 => ⟨S8192x32, .f32⟩
  | 68 => ⟨S8192x32, .f32⟩
  | 69 => ⟨S8192x32, .f32⟩
  | 70 => ⟨S8192x32, .f32⟩
  | 71 => ⟨S8192x32, .f32⟩
  | 72 => ⟨S8192x32, .f32⟩
  | 73 => ⟨S8192x32, .f32⟩
  | 74 => ⟨S8192x32, .f32⟩
  | 75 => ⟨S8192x32, .f32⟩
  | 76 => ⟨S_, .f32⟩
  | 77 => ⟨S8192x64, .f32⟩
  | 78 => ⟨S_, .f32⟩
  | 79 => ⟨S8192x64, .f32⟩
  | 80 => ⟨S8192x64, .f32⟩
  | 81 => ⟨S8192x64, .f32⟩
  | 82 => ⟨S_, .f32⟩
  | 83 => ⟨S64, .f32⟩
  | 84 => ⟨S1x64, .f32⟩
  | 85 => ⟨S8192x64, .f32⟩
  | 86 => ⟨S8192x64, .f32⟩
  | 87 => ⟨S_, .f32⟩
  | 88 => ⟨S64, .f32⟩
  | 89 => ⟨S8192x64, .f32⟩
  | 90 => ⟨S_, .f32⟩
  | 91 => ⟨S8192, .f32⟩
  | 92 => ⟨S8192x1, .f32⟩
  | 93 => ⟨S8192x64, .f32⟩
  | 94 => ⟨S8192x64, .f32⟩
  | 95 => ⟨S8192x1, .f32⟩
  | 96 => ⟨S_, .f32⟩
  | 97 => ⟨S8192x1, .f32⟩
  | 98 => ⟨S8192x1, .f32⟩
  | 99 => ⟨S_, .f32⟩
  | 100 => ⟨S8192, .f32⟩
  | 101 => ⟨S8192x64, .f32⟩
  | 102 => ⟨S8192x64, .f32⟩
  | 103 => ⟨S8192x64, .f32⟩
  | 104 => ⟨S8192x64, .f32⟩
  | 105 => ⟨S8192x64, .f32⟩
  | 106 => ⟨S_, .f32⟩
  | 107 => ⟨S8192x8x256, .f32⟩
  | 108 => ⟨S8192x8x128, .f32⟩
  | 109 => ⟨S_, .f32⟩
  | 110 => ⟨S128, .f32⟩
  | 111 => ⟨S1x1x128, .f32⟩
  | 112 => ⟨S8192x8x128, .f32⟩
  | 113 => ⟨S8192x8x128, .f32⟩
  | 114 => ⟨S_, .f32⟩
  | 115 => ⟨S128, .f32⟩
  | 116 => ⟨S8192x8x128, .f32⟩
  | 117 => ⟨S_, .f32⟩
  | 118 => ⟨S8192x8, .f32⟩
  | 119 => ⟨S8192x8x1, .f32⟩
  | 120 => ⟨S8192x8x128, .f32⟩
  | 121 => ⟨S8192x8x128, .f32⟩
  | 122 => ⟨S8192x8x1, .f32⟩
  | 123 => ⟨S_, .f32⟩
  | 124 => ⟨S8192x8x1, .f32⟩
  | 125 => ⟨S8192x8x1, .f32⟩
  | 126 => ⟨S_, .f32⟩
  | 127 => ⟨S8192x8, .f32⟩
  | _ => ⟨S8192x6720, .f32⟩

abbrev hbmTy0_2 (i : Nat) : BufTy := match i % 128 with
  | 0 => ⟨S8192x8x128, .f32⟩
  | 1 => ⟨S8192x8x128, .f32⟩
  | 2 => ⟨S8192x8x128, .f32⟩
  | 3 => ⟨S8192x8x128, .f32⟩
  | 4 => ⟨S8192x8x128, .f32⟩
  | 5 => ⟨S_, .f32⟩
  | 6 => ⟨S8192x8x256, .f32⟩
  | 7 => ⟨S8192x8x256, .f32⟩
  | 8 => ⟨S8192x2048, .f32⟩
  | 9 => ⟨S2048x512, .f32⟩
  | 10 => ⟨S512x2048, .f32⟩
  | 11 => ⟨S8192x512, .f32⟩
  | 12 => ⟨S8192x512, .f32⟩
  | 13 => ⟨S_, .f32⟩
  | 14 => ⟨S512, .f32⟩
  | 15 => ⟨S1x512, .f32⟩
  | 16 => ⟨S8192x512, .f32⟩
  | 17 => ⟨S8192x512, .f32⟩
  | 18 => ⟨S_, .f32⟩
  | 19 => ⟨S512, .f32⟩
  | 20 => ⟨S8192x512, .f32⟩
  | 21 => ⟨S_, .f32⟩
  | 22 => ⟨S8192, .f32⟩
  | 23 => ⟨S8192x1, .f32⟩
  | 24 => ⟨S8192x512, .f32⟩
  | 25 => ⟨S8192x512, .f32⟩
  | 26 => ⟨S8192x1, .f32⟩
  | 27 => ⟨S_, .f32⟩
  | 28 => ⟨S8192x1, .f32⟩
  | 29 => ⟨S8192x1, .f32⟩
  | 30 => ⟨S_, .f32⟩
  | 31 => ⟨S8192, .f32⟩
  | 32 => ⟨S8192x512, .f32⟩
  | 33 => ⟨S8192x512, .f32⟩
  | 34 => ⟨S8192x512, .f32⟩
  | 35 => ⟨S8192x512, .f32⟩
  | 36 => ⟨S8192x512, .f32⟩
  | 37 => ⟨S8192x8x32, .f32⟩
  | 38 => ⟨S8192x8x32, .f32⟩
  | 39 => ⟨S8192x8x32, .f32⟩
  | 40 => ⟨S8192x8x32, .f32⟩
  | 41 => ⟨S8192x8x32, .f32⟩
  | 42 => ⟨S8192x8x32, .f32⟩
  | 43 => ⟨S8192x8x32, .f32⟩
  | 44 => ⟨S8192x8x32, .f32⟩
  | 45 => ⟨S8192x8x32, .f32⟩
  | 46 => ⟨S8192x8x32, .f32⟩
  | 47 => ⟨S8192x8x32, .f32⟩
  | 48 => ⟨S8192x8x32, .f32⟩
  | 49 => ⟨S8192x8x32, .f32⟩
  | 50 => ⟨S_, .f32⟩
  | 51 => ⟨S8192x8x64, .f32⟩
  | 52 => ⟨S_, .f32⟩
  | 53 => ⟨S8192x8x64, .f32⟩
  | 54 => ⟨S8192x8x64, .f32⟩
  | 55 => ⟨S8192x8x64, .f32⟩
  | 56 => ⟨S_, .f32⟩
  | 57 => ⟨S64, .f32⟩
  | 58 => ⟨S1x1x64, .f32⟩
  | 59 => ⟨S8192x8x64, .f32⟩
  | 60 => ⟨S8192x8x64, .f32⟩
  | 61 => ⟨S_, .f32⟩
  | 62 => ⟨S64, .f32⟩
  | 63 => ⟨S8192x8x64, .f32⟩
  | 64 => ⟨S_, .f32⟩
  | 65 => ⟨S8192x8, .f32⟩
  | 66 => ⟨S8192x8x1, .f32⟩
  | 67 => ⟨S8192x8x64, .f32⟩
  | 68 => ⟨S8192x8x64, .f32⟩
  | 69 => ⟨S8192x8x1, .f32⟩
  | 70 => ⟨S_, .f32⟩
  | 71 => ⟨S8192x8x1, .f32⟩
  | 72 => ⟨S8192x8x1, .f32⟩
  | 73 => ⟨S_, .f32⟩
  | 74 => ⟨S8192x8, .f32⟩
  | 75 => ⟨S8192x8x64, .f32⟩
  | 76 => ⟨S8192x8x64, .f32⟩
  | 77 => ⟨S8192x8x64, .f32⟩
  | 78 => ⟨S8192x8x64, .f32⟩
  | 79 => ⟨S8192x8x64, .f32⟩
  | 80 => ⟨S_, .f32⟩
  | 81 => ⟨S8192x8x192, .f32⟩
  | 82 => ⟨S8192x8x128, .f32⟩
  | 83 => ⟨S_, .f32⟩
  | 84 => ⟨S128, .f32⟩
  | 85 => ⟨S1x1x128, .f32⟩
  | 86 => ⟨S8192x8x128, .f32⟩
  | 87 => ⟨S8192x8x128, .f32⟩
  | 88 => ⟨S_, .f32⟩
  | 89 => ⟨S128, .f32⟩
  | 90 => ⟨S8192x8x128, .f32⟩
  | 91 => ⟨S_, .f32⟩
  | 92 => ⟨S8192x8, .f32⟩
  | 93 => ⟨S8192x8x1, .f32⟩
  | 94 => ⟨S8192x8x128, .f32⟩
  | 95 => ⟨S8192x8x128, .f32⟩
  | 96 => ⟨S8192x8x1, .f32⟩
  | 97 => ⟨S_, .f32⟩
  | 98 => ⟨S8192x8x1, .f32⟩
  | 99 => ⟨S8192x8x1, .f32⟩
  | 100 => ⟨S_, .f32⟩
  | 101 => ⟨S8192x8, .f32⟩
  | 102 => ⟨S8192x8x128, .f32⟩
  | 103 => ⟨S8192x8x128, .f32⟩
  | 104 => ⟨S8192x8x128, .f32⟩
  | 105 => ⟨S8192x8x128, .f32⟩
  | 106 => ⟨S8192x8x128, .f32⟩
  | 107 => ⟨S_, .f32⟩
  | 108 => ⟨S8192x8x192, .f32⟩
  | 109 => ⟨S8192x8x192, .f32⟩
  | 110 => ⟨S8192x1536, .f32⟩
  | 111 => ⟨S8192x8x192, .f32⟩
  | 112 => ⟨S8192x8x128, .f32⟩
  | 113 => ⟨S8192x1024, .f32⟩
  | 114 => ⟨S8192x8x64, .f32⟩
  | 115 => ⟨S8192x512, .f32⟩
  | 116 => ⟨S_, .f32⟩
  | 117 => ⟨S8192x192, .f32⟩
  | 118 => ⟨S8192x2304, .f32⟩
  | 119 => ⟨S8192x2304, .bf16⟩
  | 120 => ⟨S512x8x2x128, .f32⟩
  | 121 => ⟨S512x2x8x128, .f32⟩
  | 122 => ⟨S512x2048, .f32⟩
  | 123 => ⟨S8192x4608, .bf16⟩
  | 124 => ⟨S8192x6912, .bf16⟩
  | 125 => ⟨S1x512, .f32⟩
  | 126 => ⟨S1x128, .f32⟩
  | 127 => ⟨S1x64, .f32⟩
  | _ => ⟨S8192x6720, .f32⟩

abbrev hbmTy0_3 (i : Nat) : BufTy := match i % 128 with
  | 0 => ⟨S1x128, .f32⟩
  | 1 => ⟨S1x64, .f32⟩
  | _ => ⟨S8192x6720, .f32⟩

abbrev hbmTy (i : Nat) : BufTy := match i / 128 with
  | 0 => hbmTy0_0 i
  | 1 => hbmTy0_1 i
  | 2 => hbmTy0_2 i
  | 3 => hbmTy0_3 i
  | _ => ⟨S8192x6720, .f32⟩

abbrev bufTy : (tb : Table) → Fin (tcTables nBuf tb) → BufTy
  | .hbm, ⟨i, _⟩ => hbmTy i
  | _, _ => ⟨S8192x6720, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_12 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_15 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_16 : Ref sig .tc := ⟨.hbm, 121, rfl⟩
abbrev main_v92 : Ref sig .tc := ⟨.hbm, 122, rfl⟩
abbrev main_v93 : Ref sig .tc := ⟨.hbm, 123, rfl⟩
abbrev main_cst_17 : Ref sig .tc := ⟨.hbm, 124, rfl⟩
abbrev main_v94 : Ref sig .tc := ⟨.hbm, 125, rfl⟩
abbrev main_v95 : Ref sig .tc := ⟨.hbm, 126, rfl⟩
abbrev main_cst_18 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_19 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_20 : Ref sig .tc := ⟨.hbm, 142, rfl⟩
abbrev main_v109 : Ref sig .tc := ⟨.hbm, 143, rfl⟩
abbrev main_v110 : Ref sig .tc := ⟨.hbm, 144, rfl⟩
abbrev main_cst_21 : Ref sig .tc := ⟨.hbm, 145, rfl⟩
abbrev main_v111 : Ref sig .tc := ⟨.hbm, 146, rfl⟩
abbrev main_v112 : Ref sig .tc := ⟨.hbm, 147, rfl⟩
abbrev main_cst_22 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_23 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_24 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_cst_25 : Ref sig .tc := ⟨.hbm, 185, rfl⟩
abbrev main_v147 : Ref sig .tc := ⟨.hbm, 186, rfl⟩
abbrev main_v148 : Ref sig .tc := ⟨.hbm, 187, rfl⟩
abbrev main_cst_26 : Ref sig .tc := ⟨.hbm, 188, rfl⟩
abbrev main_v149 : Ref sig .tc := ⟨.hbm, 189, rfl⟩
abbrev main_cst_27 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_cst_28 : Ref sig .tc := ⟨.hbm, 204, rfl⟩
abbrev main_v163 : Ref sig .tc := ⟨.hbm, 205, rfl⟩
abbrev main_cst_29 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_cst_30 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_cst_31 : Ref sig .tc := ⟨.hbm, 215, rfl⟩
abbrev main_v171 : Ref sig .tc := ⟨.hbm, 216, rfl⟩
abbrev main_v172 : Ref sig .tc := ⟨.hbm, 217, rfl⟩
abbrev main_cst_32 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_cst_33 : Ref sig .tc := ⟨.hbm, 224, rfl⟩
abbrev main_v178 : Ref sig .tc := ⟨.hbm, 225, rfl⟩
abbrev main_v179 : Ref sig .tc := ⟨.hbm, 226, rfl⟩
abbrev main_cst_34 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_cst_35 : Ref sig .tc := ⟨.hbm, 234, rfl⟩
abbrev main_v186 : Ref sig .tc := ⟨.hbm, 235, rfl⟩
abbrev main_v187 : Ref sig .tc := ⟨.hbm, 236, rfl⟩
abbrev main_cst_36 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_cst_37 : Ref sig .tc := ⟨.hbm, 242, rfl⟩
abbrev main_v192 : Ref sig .tc := ⟨.hbm, 243, rfl⟩
abbrev main_v193 : Ref sig .tc := ⟨.hbm, 244, rfl⟩
abbrev main_cst_38 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_cst_39 : Ref sig .tc := ⟨.hbm, 251, rfl⟩
abbrev main_v199 : Ref sig .tc := ⟨.hbm, 252, rfl⟩
abbrev main_v200 : Ref sig .tc := ⟨.hbm, 253, rfl⟩
abbrev main_cst_40 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_cst_41 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_cst_42 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_cst_43 : Ref sig .tc := ⟨.hbm, 274, rfl⟩
abbrev main_v218 : Ref sig .tc := ⟨.hbm, 275, rfl⟩
abbrev main_v219 : Ref sig .tc := ⟨.hbm, 276, rfl⟩
abbrev main_cst_44 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_cst_45 : Ref sig .tc := ⟨.hbm, 283, rfl⟩
abbrev main_v225 : Ref sig .tc := ⟨.hbm, 284, rfl⟩
abbrev main_v226 : Ref sig .tc := ⟨.hbm, 285, rfl⟩
abbrev main_cst_46 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_cst_47 : Ref sig .tc := ⟨.hbm, 306, rfl⟩
abbrev main_v246 : Ref sig .tc := ⟨.hbm, 307, rfl⟩
abbrev main_cst_48 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_cst_49 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_cst_50 : Ref sig .tc := ⟨.hbm, 317, rfl⟩
abbrev main_v254 : Ref sig .tc := ⟨.hbm, 318, rfl⟩
abbrev main_v255 : Ref sig .tc := ⟨.hbm, 319, rfl⟩
abbrev main_cst_51 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_cst_52 : Ref sig .tc := ⟨.hbm, 326, rfl⟩
abbrev main_v261 : Ref sig .tc := ⟨.hbm, 327, rfl⟩
abbrev main_v262 : Ref sig .tc := ⟨.hbm, 328, rfl⟩
abbrev main_cst_53 : Ref sig .tc := ⟨.hbm, 329, rfl⟩
abbrev main_v263 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩
abbrev main_v267 : Ref sig .tc := ⟨.hbm, 334, rfl⟩
abbrev main_v268 : Ref sig .tc := ⟨.hbm, 335, rfl⟩
abbrev main_cst_54 : Ref sig .tc := ⟨.hbm, 336, rfl⟩
abbrev main_v269 : Ref sig .tc := ⟨.hbm, 337, rfl⟩
abbrev main_v270 : Ref sig .tc := ⟨.hbm, 338, rfl⟩
abbrev main_cst_55 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_cst_56 : Ref sig .tc := ⟨.hbm, 344, rfl⟩
abbrev main_v275 : Ref sig .tc := ⟨.hbm, 345, rfl⟩
abbrev main_v276 : Ref sig .tc := ⟨.hbm, 346, rfl⟩
abbrev main_cst_57 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_v280 : Ref sig .tc := ⟨.hbm, 351, rfl⟩
abbrev main_v281 : Ref sig .tc := ⟨.hbm, 352, rfl⟩
abbrev main_cst_58 : Ref sig .tc := ⟨.hbm, 353, rfl⟩
abbrev main_v282 : Ref sig .tc := ⟨.hbm, 354, rfl⟩
abbrev main_v283 : Ref sig .tc := ⟨.hbm, 355, rfl⟩
abbrev main_cst_59 : Ref sig .tc := ⟨.hbm, 356, rfl⟩
abbrev main_v284 : Ref sig .tc := ⟨.hbm, 357, rfl⟩
abbrev main_v285 : Ref sig .tc := ⟨.hbm, 358, rfl⟩
abbrev main_v286 : Ref sig .tc := ⟨.hbm, 359, rfl⟩
abbrev main_v287 : Ref sig .tc := ⟨.hbm, 360, rfl⟩
abbrev main_v288 : Ref sig .tc := ⟨.hbm, 361, rfl⟩
abbrev main_v289 : Ref sig .tc := ⟨.hbm, 362, rfl⟩
abbrev main_cst_60 : Ref sig .tc := ⟨.hbm, 363, rfl⟩
abbrev main_v290 : Ref sig .tc := ⟨.hbm, 364, rfl⟩
abbrev main_v291 : Ref sig .tc := ⟨.hbm, 365, rfl⟩
abbrev main_v292 : Ref sig .tc := ⟨.hbm, 366, rfl⟩
abbrev main_v293 : Ref sig .tc := ⟨.hbm, 367, rfl⟩
abbrev main_v294 : Ref sig .tc := ⟨.hbm, 368, rfl⟩
abbrev main_v295 : Ref sig .tc := ⟨.hbm, 369, rfl⟩
abbrev main_v296 : Ref sig .tc := ⟨.hbm, 370, rfl⟩
abbrev main_v297 : Ref sig .tc := ⟨.hbm, 371, rfl⟩
abbrev main_cst_61 : Ref sig .tc := ⟨.hbm, 372, rfl⟩
abbrev main_v298 : Ref sig .tc := ⟨.hbm, 373, rfl⟩
abbrev main_v299 : Ref sig .tc := ⟨.hbm, 374, rfl⟩
abbrev main_v300 : Ref sig .tc := ⟨.hbm, 375, rfl⟩
abbrev main_v301 : Ref sig .tc := ⟨.hbm, 376, rfl⟩
abbrev main_v302 : Ref sig .tc := ⟨.hbm, 377, rfl⟩
abbrev main_v303 : Ref sig .tc := ⟨.hbm, 378, rfl⟩
abbrev main_v304 : Ref sig .tc := ⟨.hbm, 379, rfl⟩
abbrev main_v305 : Ref sig .tc := ⟨.hbm, 380, rfl⟩
abbrev main_v306 : Ref sig .tc := ⟨.hbm, 381, rfl⟩
abbrev main_v307 : Ref sig .tc := ⟨.hbm, 382, rfl⟩
abbrev main_v308 : Ref sig .tc := ⟨.hbm, 383, rfl⟩
abbrev main_v309 : Ref sig .tc := ⟨.hbm, 384, rfl⟩
abbrev main_v310 : Ref sig .tc := ⟨.hbm, 385, rfl⟩

abbrev nD : Nat := 1
abbrev τ : Topo := Topo.v7x

variable {F : FTy → Type} [FloatOps F]
-- ==== PleFwd.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S2048 : Shape := ⟨1, ![2048]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S2048x2048, .f32⟩
  | .hbm, ⟨3, _⟩ => ⟨S256x2048, .f32⟩
  | .hbm, ⟨4, _⟩ => ⟨S2048, .f32⟩
  | .hbm, ⟨5, _⟩ => ⟨S1x2048, .f32⟩
  | .hbm, ⟨6, _⟩ => ⟨S2048x2048, .bf16⟩
  | .hbm, ⟨7, _⟩ => ⟨S256x2048, .bf16⟩
  | .hbm, ⟨8, _⟩ => ⟨S8192x2048, .f32⟩
  | .hbm, ⟨9, _⟩ => ⟨S8192x2048, .bf16⟩
  | .hbm, ⟨10, _⟩ => ⟨S8192x2048, .bf16⟩
  | .hbm, ⟨11, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x256, .f32⟩
  | .local _ .vmem, ⟨4, _⟩ => ⟨S512x256, .f32⟩
  | .local _ .vmem, ⟨5, _⟩ => ⟨S2048x2048, .bf16⟩
  | .local _ .vmem, ⟨6, _⟩ => ⟨S256x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 1], ![false, false]⟩

def k0_mult1 (i : grid0.Coords) : BitVec 32 :=
  let arg1 : BitVec 32 := BitVec.ofNat 32 (i 1).val
  let c2048_i32 : BitVec 32 := 2048#32
  let v14 : BitVec 32 := Scalar.muli arg1 c2048_i32
  v14
def k0_off1 (i : grid0.Coords) : Fin 2 → Nat :=
  let c0_9 : Index := 0#32
  let arg1 : BitVec 32 := BitVec.ofNat 32 (i 1).val
  let c2048_i32 : BitVec 32 := 2048#32
  let v14 : BitVec 32 := Scalar.muli arg1 c2048_i32
  let v15 : BitVec 32 := v14
  let v16 : Index := Scalar.indexCast v15
  ![0, v16.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PleFwdRefIdeal.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S2048x2048, .f32⟩
  | .hbm, ⟨3, _⟩ => ⟨S256x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .bf16⟩
  | .hbm, ⟨34, _⟩ => ⟨S8192x2048, .bf16⟩
  | .hbm, ⟨35, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== CgateFwd.lean ====
abbrev S8192x1024 : Shape := ⟨2, ![8192, 1024]⟩
abbrev S8192x6720 : Shape := ⟨2, ![8192, 6720]⟩
abbrev S2048 : Shape := ⟨1, ![2048]⟩
abbrev S8192x2048 : Shape := ⟨2, ![8192, 2048]⟩
abbrev S8192x1536 : Shape := ⟨2, ![8192, 1536]⟩
abbrev S8192x8x192 : Shape := ⟨3, ![8192, 8, 192]⟩
abbrev S8192x8x128 : Shape := ⟨3, ![8192, 8, 128]⟩
abbrev S8192x8x64 : Shape := ⟨3, ![8192, 8, 64]⟩
abbrev S8192x512 : Shape := ⟨2, ![8192, 512]⟩
abbrev S8192x64 : Shape := ⟨2, ![8192, 64]⟩
abbrev S_ : Shape := ⟨0, ![]⟩
abbrev S8192x192 : Shape := ⟨2, ![8192, 192]⟩
abbrev S8192x6912 : Shape := ⟨2, ![8192, 6912]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 22
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x6720, .f32⟩
  | .hbm, ⟨2, _⟩ => ⟨S2048, .f32⟩
  | .hbm, ⟨3, _⟩ => ⟨S8192x2048, .bf16⟩
  | .hbm, ⟨4, _⟩ => ⟨S8192x1536, .f32⟩
  | .hbm, ⟨5, _⟩ => ⟨S8192x8x192, .f32⟩
  | .hbm, ⟨6, _⟩ => ⟨S8192x2048, .f32⟩
  | .hbm, ⟨7, _⟩ => ⟨S8192x1024, .f32⟩
  | .hbm, ⟨8, _⟩ => ⟨S8192x1536, .f32⟩
  | .hbm, ⟨9, _⟩ => ⟨S8192x8x128, .f32⟩
  | .hbm, ⟨10, _⟩ => ⟨S8192x1024, .f32⟩
  | .hbm, ⟨11, _⟩ => ⟨S8192x8x64, .f32⟩
  | .hbm, ⟨12, _⟩ => ⟨S8192x512, .f32⟩
  | .hbm, ⟨13, _⟩ => ⟨S8192x512, .f32⟩
  | .hbm, ⟨14, _⟩ => ⟨S8192x64, .f32⟩
  | .hbm, ⟨15, _⟩ => ⟨S_, .f32⟩
  | .hbm, ⟨16, _⟩ => ⟨S8192x192, .f32⟩
  | .hbm, ⟨17, _⟩ => ⟨S8192x6912, .f32⟩
  | .hbm, ⟨18, _⟩ => ⟨S8192x6912, .bf16⟩
  | .hbm, ⟨19, _⟩ => ⟨S1024, .f32⟩
  | .hbm, ⟨20, _⟩ => ⟨S1x1024, .f32⟩
  | .hbm, ⟨21, _⟩ => ⟨S8192x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CgateFwdRefIdeal.lean ====
abbrev S8192x1024 : Shape := ⟨2, ![8192, 1024]⟩
abbrev S8192x6720 : Shape := ⟨2, ![8192, 6720]⟩
abbrev S2048 : Shape := ⟨1, ![2048]⟩
abbrev S8192x2048 : Shape := ⟨2, ![8192, 2048]⟩
abbrev S_ : Shape := ⟨0, ![]⟩
abbrev S1024 : Shape := ⟨1, ![1024]⟩
abbrev S8192 : Shape := ⟨1, ![8192]⟩
abbrev S8192x1 : Shape := ⟨2, ![8192, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6720, .f32⟩
  | .hbm, ⟨2, _⟩ => ⟨S2048, .f32⟩
  | .hbm, ⟨3, _⟩ => ⟨S8192x2048, .bf16⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S8192x1024, .bf16⟩
  | .hbm, ⟨34, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== AttnFwd.lean ====
abbrev S8x8192x192 : Shape := ⟨3, ![8, 8192, 192]⟩
abbrev S8x8192x128 : Shape := ⟨3, ![8, 8192, 128]⟩
abbrev S_ : Shape := ⟨0, ![]⟩
abbrev S8x128x8192 : Shape := ⟨3, ![8, 128, 8192]⟩
abbrev S8x1x128x8192 : Shape := ⟨4, ![8, 1, 128, 8192]⟩
abbrev S8192x1024 : Shape := ⟨2, ![8192, 1024]⟩
abbrev S8x2x1x4096 : Shape := ⟨4, ![8, 2, 1, 4096]⟩
abbrev S1x512x192 : Shape := ⟨3, ![1, 512, 192]⟩
abbrev S1x8192x192 : Shape := ⟨3, ![1, 8192, 192]⟩
abbrev S1x1x128x8192 : Shape := ⟨4, ![1, 1, 128, 8192]⟩
abbrev S512x128 : Shape := ⟨2, ![512, 128]⟩
abbrev S1x1x1x512 : Shape := ⟨4, ![1, 1, 1, 512]⟩
abbrev S512x192 : Shape := ⟨2, ![512, 192]⟩
abbrev S1x512 : Shape := ⟨2, ![1, 512]⟩
abbrev S128x512 : Shape := ⟨2, ![128, 512]⟩
abbrev S8192x192 : Shape := ⟨2, ![8192, 192]⟩
abbrev S8192x512 : Shape := ⟨2, ![8192, 512]⟩
abbrev S512 : Shape := ⟨1, ![512]⟩
abbrev S128x8192 : Shape := ⟨2, ![128, 8192]⟩

abbrev nBuf : Space → Nat
  | .hbm => 16
  | .vmem => 10
  | .smem => 0
  | _ => 0

abbrev bufTy : (tb : Table) → Fin (tcTables nBuf tb) → BufTy
  | .hbm, ⟨0, _⟩ => ⟨S8x8192x192, .f32⟩
  | .hbm, ⟨1, _⟩ => ⟨S8x8192x192, .f32⟩
  | .hbm, ⟨2, _⟩ => ⟨S8x8192x128, .f32⟩
  | .hbm, ⟨3, _⟩ => ⟨S_, .f32⟩
  | .hbm, ⟨4, _⟩ => ⟨S_, .f32⟩
  | .hbm, ⟨5, _⟩ => ⟨S8x128x8192, .f32⟩
  | .hbm, ⟨6, _⟩ => ⟨S8x1x128x8192, .f32⟩
  | .hbm, ⟨7, _⟩ => ⟨S_, .f32⟩
  | .hbm, ⟨8, _⟩ => ⟨S_, .f32⟩
  | .hbm, ⟨9, _⟩ => ⟨S8x8192x192, .f32⟩
  | .hbm, ⟨10, _⟩ => ⟨S8x8192x192, .f32⟩
  | .hbm, ⟨11, _⟩ => ⟨S8x8192x192, .bf16⟩
  | .hbm, ⟨12, _⟩ => ⟨S8x8192x192, .bf16⟩
  | .hbm, ⟨13, _⟩ => ⟨S8x1x128x8192, .bf16⟩
  | .hbm, ⟨14, _⟩ => ⟨S8192x1024, .f32⟩
  | .hbm, ⟨15, _⟩ => ⟨S8x2x1x4096, .f32⟩
  | .local _ .vmem, ⟨0, _⟩ => ⟨S1x512x192, .bf16⟩
  | .local _ .vmem, ⟨1, _⟩ => ⟨S1x512x192, .bf16⟩
  | .local _ .vmem, ⟨2, _⟩ => ⟨S1x8192x192, .bf16⟩
  | .local _ .vmem, ⟨3, _⟩ => ⟨S1x8192x192, .bf16⟩
  | .local _ .vmem, ⟨4, _⟩ => ⟨S1x1x128x8192, .bf16⟩
  | .local _ .vmem, ⟨5, _⟩ => ⟨S1x1x128x8192, .bf16⟩
  | .local _ .vmem, ⟨6, _⟩ => ⟨S512x128, .f32⟩
  | .local _ .vmem, ⟨7, _⟩ => ⟨S512x128, .f32⟩
  | .local _ .vmem, ⟨8, _⟩ => ⟨S1x1x1x512, .f32⟩
  | .local _ .vmem, ⟨9, _⟩ => ⟨S1x1x1x512, .f32⟩
  | _, _ => ⟨S8x8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_mult1 : BitVec 32 :=
  let c0_i32 : BitVec 32 := 0#32
  let c8192_i32 : BitVec 32 := 8192#32
  let v5 : BitVec 32 := Scalar.muli c0_i32 c8192_i32
  v5
def k0_off1 : Fin 3 → Nat :=
  let c0_4 : Index := 0#32
  let c0_i32 : BitVec 32 := 0#32
  let c8192_i32 : BitVec 32 := 8192#32
  let v5 : BitVec 32 := Scalar.muli c0_i32 c8192_i32
  let v6 : BitVec 32 := v5
  let v7 : Index := Scalar.indexCast v6
  let c0_5 : Index := 0#32
  ![0, v7.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg0.toNat, v16.toNat, c0_i32_10.toNat, v26.toNat]

abbrev stage0_0 : Fin 2 → Memref sig .tc .vmem S1x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdIdeal.lean ====
variable {F : FTy → Type} [FloatOps F] [Named F]
def κ : String → Option EReal := fun
  | "inv_ln2" => some (((Real.log 2)⁻¹ : ℝ) : EReal)
  | _ => none
-- ==== AttnFwdRefIdeal.lean ====
abbrev S8x8192x192 : Shape := ⟨3, ![8, 8192, 192]⟩
abbrev S8x8192x128 : Shape := ⟨3, ![8, 8192, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8192x8x128 : Shape := ⟨3, ![8192, 8, 128]⟩
abbrev S8192x1024 : Shape := ⟨2, ![8192, 1024]⟩
abbrev S8x2x1x4096 : Shape := ⟨4, ![8, 2, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8x8192x192, .f32⟩
  | .hbm, ⟨1, _⟩ => ⟨S8x8192x192, .f32⟩
  | .hbm, ⟨2, _⟩ => ⟨S8x8192x128, .f32⟩
  | .hbm, ⟨3, _⟩ => ⟨S8x8192x8192, .f32⟩
  | .hbm, ⟨4, _⟩ => ⟨S_, .f32⟩
  | .hbm, ⟨5, _⟩ => ⟨S8x8192x8192, .f32⟩
  | .hbm, ⟨6, _⟩ => ⟨S8x8192x8192, .f32⟩
  | .hbm, ⟨7, _⟩ => ⟨S_, .f32⟩
  | .hbm, ⟨8, _⟩ => ⟨S8x8192, .f32⟩
  | .hbm, ⟨9, _⟩ => ⟨S_, .f32⟩
  | .hbm, ⟨10, _⟩ => ⟨S8x8192, .f32⟩
  | .hbm, ⟨11, _⟩ => ⟨S8x8192, .f32⟩
  | .hbm, ⟨12, _⟩ => ⟨S8x8192x1, .f32⟩
  | .hbm, ⟨13, _⟩ => ⟨S8x8192x8192, .f32⟩
  | .hbm, ⟨14, _⟩ => ⟨S8x8192x8192, .f32⟩
  | .hbm, ⟨15, _⟩ => ⟨S8x8192x8192, .f32⟩
  | .hbm, ⟨16, _⟩ => ⟨S_, .f32⟩
  | .hbm, ⟨17, _⟩ => ⟨S8x8192, .f32⟩
  | .hbm, ⟨18, _⟩ => ⟨S8x8192x1, .f32⟩
  | .hbm, ⟨19, _⟩ => ⟨S8x8192x8192, .f32⟩
  | .hbm, ⟨20, _⟩ => ⟨S8x8192x8192, .f32⟩
  | .hbm, ⟨21, _⟩ => ⟨S8x8192x128, .f32⟩
  | .hbm, ⟨22, _⟩ => ⟨S8x8192x8192, .f32⟩
  | .hbm, ⟨23, _⟩ => ⟨S_, .f32⟩
  | .hbm, ⟨24, _⟩ => ⟨S8x8192, .f32⟩
  | .hbm, ⟨25, _⟩ => ⟨S8x8192, .f32⟩
  | .hbm, ⟨26, _⟩ => ⟨S_, .f32⟩
  | .hbm, ⟨27, _⟩ => ⟨S_, .f32⟩
  | .hbm, ⟨28, _⟩ => ⟨S8x8192, .f32⟩
  | .hbm, ⟨29, _⟩ => ⟨S8x8192, .f32⟩
  | .hbm, ⟨30, _⟩ => ⟨S8192x8x128, .f32⟩
  | .hbm, ⟨31, _⟩ => ⟨S8192x1024, .f32⟩
  | .hbm, ⟨32, _⟩ => ⟨S8x2x1x4096, .f32⟩
  | _, _ => ⟨S8x8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Rows.lean ====
/-
  The gradient of a root-mean-square norm, one row at a time, on the extended reals.

  A row `x` of `n` numbers is normalised to `x l / sqrt (mean (x²) + ε)` and multiplied by a gain.
  The functions below are the pieces of that map and of its gradient in the order in which both a
  kernel and the derivative of the plain norm compute them.  `w` is the word of the row's length.
-/
module

public import Idealize.ShloMosaic.PureOps.Ideal
public import Idealize.ShloMosaic.Lib.Pointwise

@[expose] public section

noncomputable section

open Idealize.ShloMosaic

namespace Cert.Rows

variable {n : ℕ}

/-- The mean of the squares of a row, plus the norm's `ε`. -/
def meanSq (w : BitVec 32) (x : Fin n → EReal) : EReal :=
  Ideal.div (∑ k, x k * x k) (Ideal.ofBits .f32 w) + Ideal.ofBits .f32 0x358637BD#32

/-- What a row is multiplied by: one over the root of `meanSq`. -/
def scale (w : BitVec 32) (x : Fin n → EReal) : EReal := Ideal.rsqrt (meanSq w x)

/-- The derivative of a row's scale along `u`, half of what each element of the row is to be
    multiplied by. -/
def slope (w : BitVec 32) (x u : Fin n → EReal) : EReal :=
  Ideal.div ((∑ k, x k * u k)
    * (Ideal.ofBits .f32 0xBF000000#32 * Ideal.div (scale w x) (meanSq w x))) (Ideal.ofBits .f32 w)

/-- The gradient of a row: `u` is the incoming gradient times the gain. -/
def grad (w : BitVec 32) (x u : Fin n → EReal) (l : Fin n) : EReal :=
  u l * scale w x + x l * slope w x u + slope w x u * x l

/-- One row's part of the gain's gradient: the normalised element times the incoming gradient. -/
def gain (w : BitVec 32) (x dy : Fin n → EReal) (l : Fin n) : EReal := x l * scale w x * dy l

end Cert.Rows

end
-- ==== Proof.NormBlock.lean ====
/-
  The gradient of the attention norm, one tile of 256 rows: what the body of the kernel computes at an
  index of its tile, as the row functions of `Rows`.
-/
module

public import proofs.«01_k».proof.Proof.Gen.NormBackIdeal.Skeleton
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem

namespace Cert.NormBackIdeal.Block

open Cert.NormBackIdeal Cert.NormBackIdeal.Gen

variable (x dy dres : Vec Ideal S256x2048 .f32) (g : Vec Ideal S1x2048 .f32)

theorem meanSq_apply (r : Fin 256) : k0_pay2 x (ix2 r 0) = Rows.meanSq 0x45000000#32 (fun k => x (ix2 r k)) := by
  pointwise! [k0_pay2, Rows.meanSq]

theorem scale_apply (r : Fin 256) : k0_pay3 x (ix2 r 0) = Rows.scale 0x45000000#32 (fun k => x (ix2 r k)) := by
  rw [Rows.scale, ← meanSq_apply]
  pointwise! [k0_pay3]

/-- The gain's gradient of a tile: the sum of its rows' parts. -/
theorem gain_apply (l : Fin 2048) : k0_pay4 x dy (ix2 0 l)
    = ∑ r : Fin 256, Rows.gain 0x45000000#32 (fun k => x (ix2 r k)) (fun k => dy (ix2 r k)) l := by
  pointwise [k0_pay4, Rows.gain, scale_apply]

/-- The tile's input gradient on top of the residual gradient. -/
theorem grad_apply (r : Fin 256) (l : Fin 2048) : k0_pay5 x g dy dres (ix2 r l)
    = dres (ix2 r l) + Rows.grad 0x45000000#32 (fun k => x (ix2 r k)) (fun k => dy (ix2 r k) * g (ix2 0 k)) l := by
  pointwise [k0_pay5, Rows.grad, Rows.slope]
  simp only [Fin.sum_univ_one, Fin.isValue, scale_apply, meanSq_apply]

end Cert.NormBackIdeal.Block

end
-- ==== Proof.NormArray.lean ====
/-
  The gradient of the attention norm, the arrays after the run: the input gradient row by row, and the
  gain's gradient as one sum over all 8192 rows, put together from the 32 tiles.
-/
module

public import proofs.«01_k».proof.Proof.Gen.NormBackIdeal.Value
public import proofs.«01_k».proof.Proof.NormBlock

@[expose] public section

set_option maxRecDepth 16384

noncomputable section

open Idealize.ShloMosaic Idealize.ShloMosaic.TcCoe Idealize.SL.Sem
open Idealize.ShloMosaic.Pipeline (Dat)

namespace Cert.NormBackIdeal.Arrays

open Cert.NormBackIdeal Cert.NormBackIdeal.Gen

variable (m : (ℓ : Loc nD τ sig) → Buf (Elt Ideal) ℓ) (c : Dev nD)

/-- The activations. -/
abbrev X : FVec Ideal S8192x2048 .f32 := m ((c : Thread nD τ).loc main_arg0)
/-- The gain. -/
abbrev G : FVec Ideal S2048 .f32 := m ((c : Thread nD τ).loc main_arg1)
/-- The gradient of the norm's output. -/
abbrev DY : FVec Ideal S8192x2048 .f32 := m ((c : Thread nD τ).loc main_arg2)
/-- The gradient that comes past the norm. -/
abbrev DR : FVec Ideal S8192x2048 .f32 := m ((c : Thread nD τ).loc main_arg3)

/-- Where each window's block stands at point `t`. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ t.val < 32 :=
  (by decide +kernel : ∀ t : Fin grid0.N, _)

/-- Row `r` of point `t`'s tile is row `256 t + r` of the array. -/
def at_ (t : Fin cfg0.N) (r : Fin 256) : Fin 8192 := ⟨t.val * 256 + r.val, by have := (idx t).2.2.2.2.2.2; omega⟩

theorem blockX (t : Fin cfg0.N) (r : Fin 256) (l : Fin 2048) :
    (iblk m c 0 t : Vec Ideal S256x2048 .f32) (ix2 r l) = X m c (ix2 (at_ t r) l) := by
  blk_ext [iblk, V, idx t, at_]

theorem blockG (t : Fin cfg0.N) (l : Fin 2048) :
    (iblk m c 1 t : Vec Ideal S1x2048 .f32) (ix2 0 l) = G m c (ix1 l) := by
  blk_point [iblk, V, idx t]

theorem blockDY (t : Fin cfg0.N) (r : Fin 256) (l : Fin 2048) :
    (iblk m c 2 t : Vec Ideal S256x2048 .f32) (ix2 r l) = DY m c (ix2 (at_ t r) l) := by
  blk_ext [iblk, V, idx t, at_]

theorem blockDR (t : Fin cfg0.N) (r : Fin 256) (l : Fin 2048) :
    (iblk m c 3 t : Vec Ideal S256x2048 .f32) (ix2 r l) = DR m c (ix2 (at_ t r) l) := by
  blk_ext [iblk, V, idx t, at_]

/-- The input gradient, of all rows. -/
def dx : FVec Ideal S8192x2048 .f32 := fun i => DR m c i
  + Rows.grad 0x45000000#32 (fun k => X m c (ix2 (i 0) k)) (fun k => DY m c (ix2 (i 0) k) * G m c (ix1 k)) (i 1)

/-- The gain's gradient, of all rows. -/
def dg : FVec Ideal S1x2048 .f32 := fun i =>
  ∑ r : Fin 8192, Rows.gain 0x45000000#32 (fun k => X m c (ix2 r k)) (fun k => DY m c (ix2 r k)) (i 1)

/-- What the body leaves of the input gradient at a point is that point's tile of `dx`. -/
theorem point_dx (t : Fin cfg0.N) (y : S256x2048.Idx) :
    k0_pay5 (iblk m c 0 t) (iblk m c 1 t) (iblk m c 2 t) (iblk m c 3 t) y
      = dx m c (((cfg0.win 4).blk t).view.emb y) := by
  idx_vars y
  rw [Block.grad_apply]
  have e : (((cfg0.win 4).blk t).view.emb (ix2 y0 y1) : S8192x2048.Idx) = ix2 (at_ t y0) y1 := by
    blk_ext [idx t, at_]
  rw [e]
  simp only [blockX, blockG, blockDY, blockDR]
  rfl

theorem final_dx : (dats m 0 c).arrAt 4 cfg0.N = dx m c := by
  refine (dats m 0 c).arrAt_eq_of_covers 4 _ (by decide +kernel) fun t _ y => ?_
  blk_simp
  rw [after0_4]
  by_cases h : t.val % 32 = 0
  · have ht := (idx t).2.2.2.2.2.2
    rw [outsAt0_A m c t h (by omega)]; frame_out
    exact point_dx m c t y
  · rw [outsAt0_B m c t h (by omega)]; frame_out
    exact point_dx m c t y

/-- What the body leaves of the gain's gradient after the last point: the sum over the points of each
    tile's sum over its rows. -/
theorem acc_dg (t : Fin cfg0.N) (ht : t.val + 1 = cfg0.N) (l : Fin 2048) :
    (outsAt0 m c t.val t.isLt).2 (ix2 0 l)
      = 0 + ∑ p : Fin cfg0.N, ∑ r : Fin 256, Rows.gain 0x45000000#32
          (fun k => X m c (ix2 (at_ p r) k)) (fun k => DY m c (ix2 (at_ p r) k)) l := by
  refine Pipeline.eq_sum_fin_of_reset_step_apply_last (fun n h (l : Fin 2048) => ((outsAt0 m c n h).2 (ix2 0 l) : EReal)) 32
    (fun _ => 0) (fun p l => ∑ r : Fin 256, Rows.gain 0x45000000#32
          (fun k => X m c (ix2 (at_ p r) k)) (fun k => DY m c (ix2 (at_ p r) k)) l) (fun t h l => ?_) (fun t h l => ?_)
    (by decide) t ht l
  · have ht := (idx t).2.2.2.2.2.2
    rw [outsAt0_A m c t h (by omega)]; frame_out
    rw [Block.gain_apply, zero_add]
    simp only [blockX, blockDY]
  · rw [outsAt0_B m c t h (by omega)]; frame_out
    pointwise [k0_pay1, Block.gain_apply]
    simp only [blockX, blockDY]

/-- The last point of the grid. -/
def last : Fin cfg0.N := ⟨31, by decide⟩

theorem final_dg : (dats m 0 c).arrAt 5 cfg0.N = dg m c := by
  refine (dats m 0 c).arrAt_eq_of_after_last 5 last (by decide +kernel) _ fun j => ?_
  blk_simp
  rw [after0_5]
  obtain ⟨a, l, rfl⟩ : ∃ (a : Fin 1) (l : Fin 2048), j = ix2 a l := ⟨j 0, j 1, eq_ix2 j⟩
  obtain rfl : a = 0 := Subsingleton.elim _ _
  refine (acc_dg m c last (by decide) l).trans ?_
  rw [zero_add]
  exact Fin.sum_mul_add_fin (L := 8192) 32 256 fun r : Fin 8192 => Rows.gain 0x45000000#32
    (fun k => X m c (ix2 r k)) (fun k => DY m c (ix2 r k)) l

end Cert.NormBackIdeal.Arrays

end
-- ==== Proof.NormRef.lean ====
/-
  The reference of the attention norm's gradient, read at an index: the derivative of the plain norm of
  all 8192 rows, as the row functions of `Rows`.
-/
module

public import proofs.«01_k».proof.Proof.Gen.NormRefIdeal.Read
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem

namespace Cert.NormRefIdeal.Math

open Cert.NormRefIdeal Cert.NormRefIdeal.Gen Cert.NormRefIdeal.Read

variable (x dy dres : FVec Ideal S8192x2048 .f32) (g : FVec Ideal S2048 .f32)

theorem meanSq_apply (r : Fin 8192) : val_main_v6 (F := Ideal) x (ix2 r 0) = Rows.meanSq 0x45000000#32 (fun k => x (ix2 r k)) := by
  pointwise! [val_main_v6, val_main_v5, val_main_v4, val_main_v3, val_main_v2, val_main_v1, val_main_v0, val_main_cst,
    val_main_cst_0, val_main_cst_1, Rows.meanSq]

theorem scale_apply (r : Fin 8192) : val_main_v7 (F := Ideal) x (ix2 r 0) = Rows.scale 0x45000000#32 (fun k => x (ix2 r k)) := by
  rw [Rows.scale, ← meanSq_apply]
  pointwise! [val_main_v7]

/-- The gain's gradient: the sum over all rows. -/
theorem gain_apply (l : Fin 2048) : val_main_v37 (F := Ideal) x dy (ix2 0 l)
    = ∑ r : Fin 8192, Rows.gain 0x45000000#32 (fun k => x (ix2 r k)) (fun k => dy (ix2 r k)) l := by
  pointwise [val_main_v37, val_main_v21, val_main_v18, val_main_v17, val_main_v16, val_main_v12, val_main_v11,
    val_main_cst_3, val_main_cst_4, Rows.gain, scale_apply]
  simp only [Fin.sum_univ_one, Fin.isValue]

/-- The input gradient on top of the residual gradient. -/
theorem grad_apply (r : Fin 8192) (l : Fin 2048) : val_main_v36 (F := Ideal) x g dy dres (ix2 r l)
    = dres (ix2 r l) + Rows.grad 0x45000000#32 (fun k => x (ix2 r k)) (fun k => dy (ix2 r k) * g (ix1 k)) l := by
  pointwise [val_main_v36, val_main_v35, val_main_v34, val_main_v33, val_main_v32, val_main_v31, val_main_v30, val_main_v29,
    val_main_v28, val_main_v27, val_main_v26, val_main_v25, val_main_v24, val_main_v23, val_main_v22, val_main_v20,
    val_main_v19, val_main_v13, val_main_v14, val_main_v10, val_main_v9, val_main_v8, val_main_cst_2, val_main_cst_5, val_main_cst_6, val_main_cst_7,
    Rows.grad, Rows.slope]
  simp only [Fin.sum_univ_one, Fin.isValue, scale_apply, meanSq_apply, add_assoc]

end Cert.NormRefIdeal.Math

end
-- ==== Proof.NormPair.lean ====
/-
  The gradient of the attention norm: kernel and reference end with the same two arrays.
-/
module

public import proofs.«01_k».proof.Defs
public import proofs.«01_k».proof.Proof.NormArray
public import proofs.«01_k».proof.Proof.NormRef
public import proofs.«01_k».proof.Proof.Gen.NormBack.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Norm

theorem ref_dx (x dy dres : FVec Ideal NormRefIdeal.S8192x2048 .f32) (g : FVec Ideal NormRefIdeal.S2048 .f32) :
    NormRefIdeal.Read.val_main_v36 (F := Ideal) x g dy dres = fun i => dres i
      + Rows.grad 0x45000000#32 (fun k => x (ix2 (i 0) k)) (fun k => dy (ix2 (i 0) k) * g (ix1 k)) (i 1) := by
  funext i
  idx_vars i
  exact NormRefIdeal.Math.grad_apply x dy dres g i0 i1

theorem ref_dg (x dy : FVec Ideal NormRefIdeal.S8192x2048 .f32) :
    NormRefIdeal.Read.val_main_v37 (F := Ideal) x dy = fun i =>
      ∑ r : Fin 8192, Rows.gain 0x45000000#32 (fun k => x (ix2 r k)) (fun k => dy (ix2 r k)) (i 1) := by
  funext i
  idx_vars i
  obtain rfl : i0 = 0 := Subsingleton.elim _ _
  exact NormRefIdeal.Math.gain_apply x dy i1

/-- Both programs end with the arrays `dx` and `dg` of the arguments. -/
theorem equal : Cert.algebraic_NormBackIdeal_NormRefIdeal := by
  pair_intro
  · run_from Cert.NormBackIdeal.Gen.run_main m g
  · run_from Cert.NormRefIdeal.Value.run m' g'
    · exact (NormRefIdeal.Read.val_main_v36_eq _ _ _ _).trans
        ((ref_dx _ _ _ _).trans (NormBackIdeal.Arrays.final_dx m c).symm)
    · exact (NormRefIdeal.Read.val_main_v37_eq _ _).trans
        ((ref_dg _ _).trans (NormBackIdeal.Arrays.final_dg m c).symm)

/-- The reference ends, with its arguments unchanged. -/
theorem frame_ref : Cert.quiescent_NormRefIdeal := fun m g _ =>
  (θ_run Cert.NormRefIdeal.defs _ _).mono (fun r h => ⟨fun c => (h c).2.2, sem_eq_zero_of_no_sems (by decide) r.2⟩)
    (Cert.NormRefIdeal.Value.run (F := Ideal) m g)

end Cert.Proof.Norm

end
-- ==== Proof.GateRows.lean ====
/-
  A gated projection and its gradient, one row at a time, on the extended reals.

  A row `x` is normalised and multiplied by its gain `g`, projected by `W` and sent through the logistic
  function: the gate.  The gate multiplies a second projection `pp`.  Below are the pieces of that map and
  of its gradient; `dh` is the gradient of the product of the two.
-/
module

public import proofs.«01_k».proof.Proof.Rows

@[expose] public section

noncomputable section

open Idealize.ShloMosaic

namespace Cert.Rows

variable {n k : ℕ}

/-- The logistic function, written with the exponential. -/
def sigma (v : EReal) : EReal := Ideal.div 1 (1 + Ideal.exp (-v))

/-- A row, normalised and multiplied by its gain. -/
def normed (w : BitVec 32) (x g : Fin n → EReal) (l : Fin n) : EReal := x l * scale w x * g l

/-- A row times a matrix. -/
def proj (x : Fin n → EReal) (W : Fin n → Fin k → EReal) (j : Fin k) : EReal := ∑ l, x l * W l j

/-- The gate of a row. -/
def gate (w : BitVec 32) (x g : Fin n → EReal) (W : Fin n → Fin k → EReal) (j : Fin k) : EReal :=
  sigma (proj (normed w x g) W j)

/-- The gradient of what the logistic function is applied to. -/
def dpre (dh pp ga : Fin k → EReal) (j : Fin k) : EReal := dh j * pp j * ga j * (1 - ga j)

/-- A row's gradient carried back through a matrix. -/
def back (dy : Fin k → EReal) (W : Fin n → Fin k → EReal) (l : Fin n) : EReal := ∑ j, dy j * W l j

end Cert.Rows

end
-- ==== Proof.GateBlock.lean ====
/-
  The gradient of the gated embedding, one tile of 512 rows: what the body of the kernel computes at an
  index of its tile, as the row functions of `Rows` and `GateRows`.
-/
module

public import proofs.«01_k».proof.Proof.Gen.GateBackIdeal.Skeleton
public import proofs.«01_k».proof.Proof.GateRows
public import Idealize.ShloMosaic.Lib.Pipeline.ValueKit

@[expose] public section

set_option maxRecDepth 16384

noncomputable section

open Idealize.ShloMosaic Idealize.ShloMosaic.TcCoe Idealize.SL.Sem

namespace Cert.GateBackIdeal.Block

open Cert.GateBackIdeal Cert.GateBackIdeal.Gen

variable (x dh : Vec Ideal S512x2048 .f32) (ga pp : Vec Ideal S512x2048 .bf16) (W : Vec Ideal S2048x2048 .bf16)
  (g : Vec Ideal S1x2048 .f32)

theorem dpre_apply (r : Fin 512) (l : Fin 2048) : k0_pay5 dh ga pp (ix2 r l)
    = Rows.dpre (fun k => dh (ix2 r k)) (fun k => pp (ix2 r k)) (fun k => ga (ix2 r k)) l := by
  pointwise! [k0_pay5, k0_pay4, Rows.dpre]

theorem dpp_apply (r : Fin 512) (l : Fin 2048) : k0_pay6 dh ga (ix2 r l) = ga (ix2 r l) * dh (ix2 r l) := by
  pointwise [k0_pay6, k0_pay4]
  exact mul_comm _ _

/-- The gradient of the normalised row. -/
theorem dn_apply (r : Fin 512) (l : Fin 2048) : k0_pay7 dh ga pp W (ix2 r l)
    = Rows.back (Rows.dpre (fun k => dh (ix2 r k)) (fun k => pp (ix2 r k)) (fun k => ga (ix2 r k)))
        (fun a b => W (ix2 a b)) l := by
  pointwise! [k0_pay7, dpre_apply, Rows.back]

theorem meanSq_apply (r : Fin 512) : k0_pay9 x (ix2 r 0) = Rows.meanSq 0x45000000#32 (fun k => x (ix2 r k)) := by
  pointwise! [k0_pay9, Rows.meanSq]

theorem scale_apply (r : Fin 512) : k0_pay10 x (ix2 r 0) = Rows.scale 0x45000000#32 (fun k => x (ix2 r k)) := by
  rw [Rows.scale, ← meanSq_apply]
  pointwise! [k0_pay10]

/-- The gain's gradient of a tile: the sum of its rows' parts. -/
theorem gain_apply (dn : FVec Ideal S512x2048 .f32) (l : Fin 2048) : k0_pay1 dn x (k0_pay12 x) (ix2 0 l)
    = ∑ r : Fin 512, Rows.gain 0x45000000#32 (fun k => x (ix2 r k)) (fun k => dn (ix2 r k)) l := by
  pointwise [k0_pay1, k0_pay12, Rows.gain, scale_apply]

/-- The tile's input gradient on top of the gradient that comes past the gate. -/
theorem grad_apply (dn : FVec Ideal S512x2048 .f32) (r : Fin 512) (l : Fin 2048) :
    k0_pay2 dh dn x (k0_pay8 g) (k0_pay10 x) (k0_pay11 x) (ix2 r l)
    = dh (ix2 r l) + Rows.grad 0x45000000#32 (fun k => x (ix2 r k)) (fun k => dn (ix2 r k) * g (ix2 0 k)) l := by
  pointwise [k0_pay2, k0_pay8, k0_pay11, Rows.grad, Rows.slope]
  simp only [Fin.sum_univ_one, Fin.isValue, scale_apply, meanSq_apply]

end Cert.GateBackIdeal.Block

end
-- ==== Proof.GateArray.lean ====
/-
  The gradient of the gated embedding, the arrays after the run: three gradients row by row, and the
  gain's gradient as one sum over all 8192 rows, put together from the 16 tiles.
-/
module

public import proofs.«01_k».proof.Proof.Gen.GateBackIdeal.Value
public import proofs.«01_k».proof.Proof.GateBlock

@[expose] public section

set_option maxRecDepth 16384

noncomputable section

open Idealize.ShloMosaic Idealize.ShloMosaic.TcCoe Idealize.SL.Sem
open Idealize.ShloMosaic.Pipeline (Dat)

namespace Cert.GateBackIdeal.Arrays

open Cert.GateBackIdeal Cert.GateBackIdeal.Gen

variable (m : (ℓ : Loc nD τ sig) → Buf (Elt Ideal) ℓ) (c : Dev nD)

/-- The gradient of the layer's output. -/
abbrev DH : FVec Ideal S8192x2048 .f32 := m ((c : Thread nD τ).loc main_arg0)
/-- The activations. -/
abbrev X : FVec Ideal S8192x2048 .f32 := m ((c : Thread nD τ).loc main_arg1)
/-- The embeddings. -/
abbrev P : FVec Ideal S8192x256 .f32 := m ((c : Thread nD τ).loc main_arg2)
/-- The gate's matrix. -/
abbrev Wg : FVec Ideal S2048x2048 .f32 := m ((c : Thread nD τ).loc main_arg3)
/-- The embedding's matrix. -/
abbrev Wp : FVec Ideal S256x2048 .f32 := m ((c : Thread nD τ).loc main_arg4)
/-- The gain. -/
abbrev G : FVec Ideal S2048 .f32 := m ((c : Thread nD τ).loc main_arg5)

/-- The gate at row `r`. -/
abbrev ga (r : Fin 8192) : Fin 2048 → EReal :=
  Rows.gate 0x45000000#32 (fun k => X m c (ix2 r k)) (fun k => G m c (ix1 k)) (fun a b => Wg m c (ix2 a b))

/-- What the gate multiplies, at row `r`. -/
abbrev pp (r : Fin 8192) : Fin 2048 → EReal := Rows.proj (fun k => P m c (ix2 r k)) (fun a b => Wp m c (ix2 a b))

/-- The gradient of what the logistic function is applied to, at row `r`. -/
abbrev dpre (r : Fin 8192) : Fin 2048 → EReal := Rows.dpre (fun k => DH m c (ix2 r k)) (pp m c r) (ga m c r)

/-- The gradient of the normalised row, at row `r`. -/
abbrev dn (r : Fin 8192) : Fin 2048 → EReal := Rows.back (dpre m c r) (fun a b => Wg m c (ix2 a b))

/-- Where each window's block stands at point `t`. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![t.val, 0]
    ∧ win0_7.index t = ![0, 0] ∧ win0_8.index t = ![t.val, 0] ∧ win0_9.index t = ![t.val, 0] :=
  (by decide +kernel : ∀ t : Fin grid0.N, _)

theorem lt16 (t : Fin cfg0.N) : t.val < 16 := t.isLt.trans_eq (by decide)

/-- Row `r` of point `t`'s tile is row `512 t + r` of the array. -/
def at_ (t : Fin cfg0.N) (r : Fin 512) : Fin 8192 := ⟨t.val * 512 + r.val, by have := lt16 t; omega⟩

theorem blockDH (t : Fin cfg0.N) (r : Fin 512) (l : Fin 2048) :
    (iblk m c 0 t : Vec Ideal S512x2048 .f32) (ix2 r l) = DH m c (ix2 (at_ t r) l) := by
  blk_ext [iblk, V, idx t, at_]

theorem blockX (t : Fin cfg0.N) (r : Fin 512) (l : Fin 2048) :
    (iblk m c 4 t : Vec Ideal S512x2048 .f32) (ix2 r l) = X m c (ix2 (at_ t r) l) := by
  blk_ext [iblk, V, idx t, at_]

theorem blockG (t : Fin cfg0.N) (l : Fin 2048) :
    (iblk m c 5 t : Vec Ideal S1x2048 .f32) (ix2 0 l) = G m c (ix1 l) := by
  blk_point [iblk, V, idx t]

theorem blockW (t : Fin cfg0.N) (a b : Fin 2048) :
    (iblk m c 3 t : Vec Ideal S2048x2048 .bf16) (ix2 a b) = Wg m c (ix2 a b) := by
  blk_point [iblk, V, idx t]

/-- The kernel's gate comes from the forward lines. -/
theorem blockGa (t : Fin cfg0.N) (r : Fin 512) (l : Fin 2048) :
    (iblk m c 1 t : Vec Ideal S512x2048 .bf16) (ix2 r l) = ga m c (at_ t r) l := by
  have e : (((cfg0.win 1).blk t).view.emb (ix2 r l) : S8192x2048.Idx) = ix2 (at_ t r) l := by
    blk_ext [idx t, at_]
  blk_simp [iblk]
  entry_read
  rw [e]
  pointwise! [Rows.gate, Rows.sigma, Rows.proj, Rows.normed, Rows.scale, Rows.meanSq]

theorem blockPp (t : Fin cfg0.N) (r : Fin 512) (l : Fin 2048) :
    (iblk m c 2 t : Vec Ideal S512x2048 .bf16) (ix2 r l) = pp m c (at_ t r) l := by
  have e : (((cfg0.win 2).blk t).view.emb (ix2 r l) : S8192x2048.Idx) = ix2 (at_ t r) l := by
    blk_ext [idx t, at_]
  blk_simp [iblk]
  entry_read
  rw [e]
  pointwise! [Rows.proj]

/-- The input gradient, of all rows. -/
def dx : FVec Ideal S8192x2048 .f32 := fun i => DH m c i
  + Rows.grad 0x45000000#32 (fun k => X m c (ix2 (i 0) k)) (fun k => dn m c (i 0) k * G m c (ix1 k)) (i 1)

/-- The gain's gradient, of all rows. -/
def dg : FVec Ideal S1x2048 .f32 := fun i =>
  ∑ r : Fin 8192, Rows.gain 0x45000000#32 (fun k => X m c (ix2 r k)) (dn m c r) (i 1)

/-- The gradient of what the logistic function is applied to, of all rows. -/
def dpreAll : FVec Ideal S8192x2048 .bf16 := fun i => dpre m c (i 0) (i 1)

/-- The gradient of what the gate multiplies, of all rows. -/
def dppAll : FVec Ideal S8192x2048 .bf16 := fun i => ga m c (i 0) (i 1) * DH m c i

theorem dn_block (t : Fin cfg0.N) (r : Fin 512) (l : Fin 2048) :
    k0_pay7 (iblk m c 0 t) (iblk m c 1 t) (iblk m c 2 t) (iblk m c 3 t) (ix2 r l) = dn m c (at_ t r) l := by
  rw [Block.dn_apply]
  simp only [blockDH, blockGa, blockPp, blockW]

theorem point_dx (t : Fin cfg0.N) (y : S512x2048.Idx) :
    k0_pay2 (iblk m c 0 t) (k0_pay7 (iblk m c 0 t) (iblk m c 1 t) (iblk m c 2 t) (iblk m c 3 t)) (iblk m c 4 t)
        (k0_pay8 (iblk m c 5 t)) (k0_pay10 (iblk m c 4 t)) (k0_pay11 (iblk m c 4 t)) y
      = dx m c (((cfg0.win 6).blk t).view.emb y) := by
  idx_vars y
  rw [Block.grad_apply]
  have e : (((cfg0.win 6).blk t).view.emb (ix2 y0 y1) : S8192x2048.Idx) = ix2 (at_ t y0) y1 := by
    blk_ext [idx t, at_]
  rw [e]
  simp only [blockX, blockG, blockDH, dn_block]
  rfl

theorem final_dx : (dats m 0 c).arrAt 6 cfg0.N = dx m c := by
  refine (dats m 0 c).arrAt_eq_of_covers 6 _ (by decide +kernel) fun t _ y => ?_
  have ht := lt16 t
  blk_simp
  rw [after0_6]
  by_cases h : t.val % 16 = 0
  · rw [outsAt0_A m c t h (by omega)]; frame_out
    exact point_dx m c t y
  · rw [outsAt0_B m c t h (by omega)]; frame_out
    exact point_dx m c t y

theorem point_dpre (t : Fin cfg0.N) (y : S512x2048.Idx) :
    k0_pay5 (iblk m c 0 t) (iblk m c 1 t) (iblk m c 2 t) y = dpreAll m c (((cfg0.win 8).blk t).view.emb y) := by
  idx_vars y
  rw [Block.dpre_apply]
  have e : (((cfg0.win 8).blk t).view.emb (ix2 y0 y1) : S8192x2048.Idx) = ix2 (at_ t y0) y1 := by
    blk_ext [idx t, at_]
  rw [e]
  simp only [blockDH, blockGa, blockPp]
  rfl

theorem final_dpre : (dats m 0 c).arrAt 8 cfg0.N = dpreAll m c := by
  refine (dats m 0 c).arrAt_eq_of_covers 8 _ (by decide +kernel) fun t _ y => ?_
  have ht := lt16 t
  blk_simp
  rw [after0_8]
  by_cases h : t.val % 16 = 0
  · rw [outsAt0_A m c t h (by omega)]; frame_out
    exact point_dpre m c t y
  · rw [outsAt0_B m c t h (by omega)]; frame_out
    exact point_dpre m c t y

theorem point_dpp (t : Fin cfg0.N) (y : S512x2048.Idx) :
    k0_pay6 (iblk m c 0 t) (iblk m c 1 t) y = dppAll m c (((cfg0.win 9).blk t).view.emb y) := by
  idx_vars y
  rw [Block.dpp_apply]
  have e : (((cfg0.win 9).blk t).view.emb (ix2 y0 y1) : S8192x2048.Idx) = ix2 (at_ t y0) y1 := by
    blk_ext [idx t, at_]
  rw [e]
  simp only [blockDH, blockGa]
  rfl

theorem final_dpp : (dats m 0 c).arrAt 9 cfg0.N = dppAll m c := by
  refine (dats m 0 c).arrAt_eq_of_covers 9 _ (by decide +kernel) fun t _ y => ?_
  have ht := lt16 t
  blk_simp
  rw [after0_9]
  by_cases h : t.val % 16 = 0
  · rw [outsAt0_A m c t h (by omega)]; frame_out
    exact point_dpp m c t y
  · rw [outsAt0_B m c t h (by omega)]; frame_out
    exact point_dpp m c t y

/-- What the body leaves of the gain's gradient after the last point: the sum over the points of each
    tile's sum over its rows. -/
theorem acc_dg (t : Fin cfg0.N) (ht : t.val + 1 = cfg0.N) (l : Fin 2048) :
    (outsAt0 m c t.val t.isLt).2.1 (ix2 0 l)
      = 0 + ∑ p : Fin cfg0.N, ∑ r : Fin 512, Rows.gain 0x45000000#32
          (fun k => X m c (ix2 (at_ p r) k)) (dn m c (at_ p r)) l := by
  refine Pipeline.eq_sum_fin_of_reset_step_apply_last (fun n h (l : Fin 2048) => ((outsAt0 m c n h).2.1 (ix2 0 l) : EReal)) 16
    (fun _ => 0) (fun p l => ∑ r : Fin 512, Rows.gain 0x45000000#32
          (fun k => X m c (ix2 (at_ p r) k)) (dn m c (at_ p r)) l) (fun t h l => ?_) (fun t h l => ?_)
    (by decide) t ht l
  · have ht := lt16 t
    rw [outsAt0_A m c t h (by omega)]; frame_out
    rw [Block.gain_apply, zero_add]
    simp only [blockX, dn_block]
  · rw [outsAt0_B m c t h (by omega)]; frame_out
    pointwise [k0_pay3, Block.gain_apply]
    simp only [blockX, dn_block]

/-- The last point of the grid. -/
def last : Fin cfg0.N := ⟨15, by decide⟩

theorem final_dg : (dats m 0 c).arrAt 7 cfg0.N = dg m c := by
  refine (dats m 0 c).arrAt_eq_of_after_last 7 last (by decide +kernel) _ fun j => ?_
  blk_simp
  rw [after0_7]
  obtain ⟨a, l, rfl⟩ : ∃ (a : Fin 1) (l : Fin 2048), j = ix2 a l := ⟨j 0, j 1, eq_ix2 j⟩
  obtain rfl : a = 0 := Subsingleton.elim _ _
  refine (acc_dg m c last (by decide) l).trans ?_
  rw [zero_add]
  exact Fin.sum_mul_add_fin (L := 8192) 16 512 fun r : Fin 8192 => Rows.gain 0x45000000#32
    (fun k => X m c (ix2 r k)) (dn m c r) l

end Cert.GateBackIdeal.Arrays

end
-- ==== Proof.GateRef.lean ====
/-
  The reference of the gated embedding's gradient, read at an index: the derivative of the plain layer of
  all 8192 rows, as the row functions of `Rows` and `GateRows`.
-/
module

public import proofs.«01_k».proof.Proof.Gen.GateRefIdeal.Read
public import proofs.«01_k».proof.Proof.GateRows
public import Idealize.ShloMosaic.Lib.Pipeline.ValueKit

@[expose] public section

set_option maxRecDepth 16384

noncomputable section

open Idealize.ShloMosaic Idealize.ShloMosaic.TcCoe Idealize.SL.Sem

namespace Cert.GateRefIdeal.Math

open Cert.GateRefIdeal Cert.GateRefIdeal.Gen Cert.GateRefIdeal.Read

variable (dh x : FVec Ideal S8192x2048 .f32) (p : FVec Ideal S8192x256 .f32) (Wg : FVec Ideal S2048x2048 .f32)
  (Wp : FVec Ideal S256x2048 .f32) (g : FVec Ideal S2048 .f32)

/-- The gate at row `r`. -/
abbrev ga (r : Fin 8192) : Fin 2048 → EReal :=
  Rows.gate 0x45000000#32 (fun k => x (ix2 r k)) (fun k => g (ix1 k)) (fun a b => Wg (ix2 a b))

/-- What the gate multiplies, at row `r`. -/
abbrev pp (r : Fin 8192) : Fin 2048 → EReal := Rows.proj (fun k => p (ix2 r k)) (fun a b => Wp (ix2 a b))

/-- The gradient of what the logistic function is applied to, at row `r`. -/
abbrev dpre (r : Fin 8192) : Fin 2048 → EReal :=
  Rows.dpre (fun k => dh (ix2 r k)) (pp p Wp r) (ga x Wg g r)

/-- The gradient of the normalised row, at row `r`. -/
abbrev dn (r : Fin 8192) : Fin 2048 → EReal :=
  Rows.back (dpre dh x p Wg Wp g r) (fun a b => Wg (ix2 a b))

theorem meanSq_apply (r : Fin 8192) : val_main_v6 (F := Ideal) x (ix2 r 0) = Rows.meanSq 0x45000000#32 (fun k => x (ix2 r k)) := by
  pointwise! [val_main_v6, val_main_v5, val_main_v4, val_main_v3, val_main_v2, val_main_v1, val_main_v0, val_main_cst,
    val_main_cst_0, val_main_cst_1, Rows.meanSq]

theorem scale_apply (r : Fin 8192) : val_main_v7 (F := Ideal) x (ix2 r 0) = Rows.scale 0x45000000#32 (fun k => x (ix2 r k)) := by
  rw [Rows.scale, ← meanSq_apply]
  pointwise! [val_main_v7]

theorem pp_apply (r : Fin 8192) (l : Fin 2048) : val_main_v26 (F := Ideal) p Wp (ix2 r l) = pp p Wp r l := by
  pointwise! [val_main_v26, Rows.proj]

theorem normed_apply (r : Fin 8192) (l : Fin 2048) : val_main_v15 (F := Ideal) x g (ix2 r l)
    = Rows.normed 0x45000000#32 (fun k => x (ix2 r k)) (fun k => g (ix1 k)) l := by
  pointwise! [val_main_v15, val_main_v14, val_main_v13, val_main_v12, val_main_v11, scale_apply, Rows.normed]

theorem ga_apply (r : Fin 8192) (l : Fin 2048) : val_main_v22 (F := Ideal) x Wg g (ix2 r l) = ga x Wg g r l := by
  pointwise! [val_main_v22, val_main_v21, val_main_v20, val_main_v19, val_main_v18, val_main_v17, val_main_v16,
    val_main_cst_3, val_main_cst_4, normed_apply, Rows.gate, Rows.sigma, Rows.proj]

theorem dpre_apply (r : Fin 8192) (l : Fin 2048) : val_main_v31 (F := Ideal) dh x p Wg Wp g (ix2 r l)
    = dpre dh x p Wg Wp g r l := by
  pointwise [val_main_v31, val_main_v30, val_main_v29, val_main_v25, val_main_v24, val_main_v23, val_main_cst_5,
    ga_apply, pp_apply, Rows.dpre]
  simp only [mul_assoc]

theorem dn_apply (r : Fin 8192) (l : Fin 2048) : val_main_v32 (F := Ideal) dh x p Wg Wp g (ix2 r l)
    = dn dh x p Wg Wp g r l := by
  pointwise! [val_main_v32, dpre_apply, Rows.back]

/-- The input gradient on top of the gradient that comes past the gate. -/
theorem grad_apply (r : Fin 8192) (l : Fin 2048) : val_main_v53 (F := Ideal) dh x p Wg Wp g (ix2 r l)
    = dh (ix2 r l) + Rows.grad 0x45000000#32 (fun k => x (ix2 r k)) (fun k => dn dh x p Wg Wp g r k * g (ix1 k)) l := by
  pointwise [val_main_v53, val_main_v52, val_main_v51, val_main_v50, val_main_v49, val_main_v48, val_main_v47, val_main_v46,
    val_main_v45, val_main_v44, val_main_v43, val_main_v42, val_main_v41, val_main_v40, val_main_v39, val_main_v37,
    val_main_v36, val_main_v13, val_main_v10, val_main_v9, val_main_v8, val_main_cst_2, val_main_cst_8, val_main_cst_9,
    val_main_cst_10, dn_apply, Rows.grad, Rows.slope]
  simp only [Fin.sum_univ_one, Fin.isValue, scale_apply, meanSq_apply, add_assoc]

/-- The gain's gradient: the sum over all rows. -/
theorem gain_apply (l : Fin 2048) : val_main_v82 (F := Ideal) dh x p Wg Wp g (ix2 0 l)
    = ∑ r : Fin 8192, Rows.gain 0x45000000#32 (fun k => x (ix2 r k)) (dn dh x p Wg Wp g r) l := by
  pointwise [val_main_v82, val_main_v38, val_main_v35, val_main_v34, val_main_v33, val_main_v12, val_main_v11,
    val_main_cst_6, val_main_cst_7, Rows.gain, scale_apply, dn_apply]
  simp only [Fin.sum_univ_one, Fin.isValue]

/-- The forward lines stand twice in the program; the second gate is the first. -/
theorem ga_again : val_main_v74 (F := Ideal) x Wg g = val_main_v22 (F := Ideal) x Wg g := rfl

theorem pp_again : val_main_v68 (F := Ideal) p Wp = val_main_v26 (F := Ideal) p Wp := rfl

theorem dpre_out_apply (r : Fin 8192) (l : Fin 2048) : val_main_v83 (F := Ideal) dh x p Wg Wp g (ix2 r l)
    = dpre dh x p Wg Wp g r l := by
  pointwise [val_main_v83, val_main_v81, val_main_v80, val_main_v77, val_main_v76, val_main_v75, val_main_cst_16,
    ga_again, pp_again, ga_apply, pp_apply, Rows.dpre]
  simp only [mul_assoc]

theorem dpp_apply (r : Fin 8192) (l : Fin 2048) : val_main_v84 (F := Ideal) dh x Wg g (ix2 r l)
    = ga x Wg g r l * dh (ix2 r l) := by
  pointwise! [val_main_v84, val_main_v79, ga_again, ga_apply]

end Cert.GateRefIdeal.Math

end
-- ==== Proof.GatePair.lean ====
/-
  The gradient of the gated embedding: kernel and reference end with the same four arrays.
-/
module

public import proofs.«01_k».proof.Defs
public import proofs.«01_k».proof.Proof.GateArray
public import proofs.«01_k».proof.Proof.GateRef
public import proofs.«01_k».proof.Proof.Gen.GateBack.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Gate

section
open Cert.GateRefIdeal Cert.GateRefIdeal.Read Cert.GateRefIdeal.Math

variable (dh x : FVec Ideal S8192x2048 .f32) (p : FVec Ideal S8192x256 .f32) (Wg : FVec Ideal S2048x2048 .f32)
  (Wp : FVec Ideal S256x2048 .f32) (g : FVec Ideal S2048 .f32)

theorem ref_dx : val_main_v53 (F := Ideal) dh x p Wg Wp g = fun i => dh i
    + Rows.grad 0x45000000#32 (fun k => x (ix2 (i 0) k)) (fun k => dn dh x p Wg Wp g (i 0) k * g (ix1 k)) (i 1) := by
  funext i
  idx_vars i
  exact grad_apply dh x p Wg Wp g i0 i1

theorem ref_dg : val_main_v82 (F := Ideal) dh x p Wg Wp g = fun i =>
    ∑ r : Fin 8192, Rows.gain 0x45000000#32 (fun k => x (ix2 r k)) (dn dh x p Wg Wp g r) (i 1) := by
  funext i
  idx_vars i
  obtain rfl : i0 = 0 := Subsingleton.elim _ _
  exact gain_apply dh x p Wg Wp g i1

theorem ref_dpre : val_main_v83 (F := Ideal) dh x p Wg Wp g = fun i => dpre dh x p Wg Wp g (i 0) (i 1) := by
  funext i
  idx_vars i
  exact dpre_out_apply dh x p Wg Wp g i0 i1

theorem ref_dpp : val_main_v84 (F := Ideal) dh x Wg g = fun i => ga x Wg g (i 0) (i 1) * dh i := by
  funext i
  idx_vars i
  exact GateRefIdeal.Math.dpp_apply dh x Wg g i0 i1

end

set_option maxHeartbeats 1600000 in
/-- Both programs end with the arrays `dx`, `dg`, `dpreAll` and `dppAll` of the arguments. -/
theorem equal : Cert.algebraic_GateBackIdeal_GateRefIdeal := by
  pair_intro
  · run_from Cert.GateBackIdeal.Gen.run_main m g
  · run_from Cert.GateRefIdeal.Value.run m' g'
    · rw [GateRefIdeal.Read.val_main_v53_eq]
      simp only [hagree c]
      exact (ref_dx _ _ _ _ _ _).trans (GateBackIdeal.Arrays.final_dx m c).symm
    · exact (GateRefIdeal.Read.val_main_v82_eq _ _ _ _ _ _).trans
        ((ref_dg _ _ _ _ _ _).trans (GateBackIdeal.Arrays.final_dg m c).symm)
    · exact (GateRefIdeal.Read.val_main_v83_eq _ _ _ _ _ _).trans
        ((ref_dpre _ _ _ _ _ _).trans (GateBackIdeal.Arrays.final_dpre m c).symm)
    · exact (GateRefIdeal.Read.val_main_v84_eq _ _ _ _).trans
        ((ref_dpp _ _ _ _).trans (GateBackIdeal.Arrays.final_dpp m c).symm)

/-- The reference ends, with its arguments unchanged. -/
theorem frame_ref : Cert.quiescent_GateRefIdeal := fun m g _ =>
  (θ_run Cert.GateRefIdeal.defs _ _).mono (fun r h => ⟨fun c => (h c).2.2.2.2, sem_eq_zero_of_no_sems (by decide) r.2⟩)
    (Cert.GateRefIdeal.Value.run (F := Ideal) m g)

end Cert.Proof.Gate

end
-- ==== Proof.Consts.lean ====
/-
  The values of the constants the programs carry, and sums of multiples of a constant, on the extended
  reals.
-/
module

public import Idealize.ShloMosaic.PureOps.Ideal
public import Idealize.ShloMosaic.PureOps.Ideal.Laws
public import Idealize.ShloMosaic.Lib.IdealHost

@[expose] public section

noncomputable section

open Idealize.ShloMosaic

namespace Cert.Consts

theorem w2048 : Ideal.ofBits .f32 0x45000000#32 = ((2048 : ℝ) : EReal) := by
  simp [Ideal.ofBits, Ideal.ieee, -EReal.coe_mul]; norm_num

theorem zero : Ideal.ofBits .f32 0x00000000#32 = 0 := by
  simp [Ideal.ofBits, Ideal.ieee]

theorem w512 : Ideal.ofBits .f32 0x44000000#32 = ((512 : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem inv2048 : Ideal.ofBits .f32 0x3A000000#32 = ((1 / 2048 : ℝ) : EReal) := by
  simp [Ideal.ofBits, Ideal.ieee, -EReal.coe_mul]; norm_num

theorem inv512 : Ideal.ofBits .f32 0x3B000000#32 = ((1 / 512 : ℝ) : EReal) := by
  simp [Ideal.ofBits, Ideal.ieee, -EReal.coe_mul]; norm_num

/-- A quotient by 512 is a product with its inverse, which is a float. -/
theorem div512 (x : EReal) : Ideal.div x (Ideal.ofBits .f32 0x44000000#32) = x * Ideal.ofBits .f32 0x3B000000#32 := by
  rw [w512, inv512, Ideal.div_coe (show (512 : ℝ) ≠ 0 by norm_num)]

theorem inv4096 : Ideal.ofBits .f32 0x39800000#32 = ((1 / 4096 : ℝ) : EReal) := by
  simp [Ideal.ofBits, Ideal.ieee, -EReal.coe_mul]; norm_num

theorem attn_scale : Ideal.ofBits .f32 0x3D93CD3A#32 = ((4843165 / 67108864 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

theorem minus_inf : Ideal.ofBits .f32 0xFF800000#32 = ⊥ := by
  simp [Ideal.ofBits, Ideal.ieee]

theorem plus_inf : Ideal.ofBits .f32 0x7F800000#32 = ⊤ := by
  simp [Ideal.ofBits, Ideal.ieee]

/-- A number whose absolute value is below infinity is real. -/
theorem real_of_abs_lt {x : EReal} (h : Ideal.cmp .olt (max x (-x)) (Ideal.ofBits .f32 0x7F800000#32) = 1#1) :
    ∃ r : ℝ, x = (r : EReal) := by
  rw [plus_inf] at h
  have hlt : max x (-x) < ⊤ := by
    by_contra hn
    simp [Ideal.cmp, hn] at h
  refine ⟨x.toReal, (EReal.coe_toReal ?_ ?_).symm⟩
  · rintro rfl
    simp at hlt
  · rintro rfl
    simp at hlt

/-- A constant that is not negative may be taken out of a sum, whatever the summands are. -/
theorem sum_mul_coe {ι : Type} (s : Finset ι) (f : ι → EReal) {a : ℝ} (ha : 0 ≤ a) :
    ∑ i ∈ s, f i * (a : EReal) = (∑ i ∈ s, f i) * (a : EReal) := by
  classical
  induction s using Finset.induction_on with
  | empty => simp
  | insert i s hi ih =>
    rw [Finset.sum_insert hi, Finset.sum_insert hi, ih,
      EReal.right_distrib_of_nonneg_of_ne_top (EReal.coe_nonneg.mpr ha) (EReal.coe_ne_top a)]

/-- Half of a sum of quotients by 2048 is the sum's 4096th part. -/
theorem half_sum_div {ι : Type} (s : Finset ι) (f : ι → EReal) :
    ((1 / 2 : ℝ) : EReal) * ∑ i ∈ s, Ideal.div (f i) ((2048 : ℝ) : EReal) = (∑ i ∈ s, f i) * ((1 / 4096 : ℝ) : EReal) := by
  simp only [Ideal.div_coe (show (2048 : ℝ) ≠ 0 by norm_num)]
  rw [sum_mul_coe s f (by norm_num), mul_comm, mul_assoc, ← EReal.coe_mul]
  norm_num

/-- The derivative of half the mean square of 2048 numbers: the 2048th part. -/
theorem half_div_two_mul (e : EReal) :
    Ideal.div ((1 / 2 : ℝ) : EReal) ((2048 : ℝ) : EReal) * (((2 : ℝ) : EReal) * e) = e * ((1 / 2048 : ℝ) : EReal) := by
  rw [Ideal.div_coe (show (2048 : ℝ) ≠ 0 by norm_num), ← EReal.coe_mul, ← mul_assoc, ← EReal.coe_mul, mul_comm]
  norm_num

end Cert.Consts

end
-- ==== Proof.LossBlock.lean ====
/-
  The gated embedding with the loss and its gradient, one tile of 512 rows: what the body of the kernel
  computes at an index of its tile, as the row functions of `Rows` and `GateRows`.
-/
module

public import proofs.«01_k».proof.Proof.Gen.LossBackIdeal.Skeleton
public import proofs.«01_k».proof.Proof.GateRows
public import proofs.«01_k».proof.Proof.Consts
public import Idealize.ShloMosaic.Lib.Pipeline.ValueKit

@[expose] public section

set_option maxRecDepth 16384

noncomputable section

open Idealize.ShloMosaic Idealize.ShloMosaic.TcCoe Idealize.SL.Sem

namespace Cert.LossBackIdeal.Block

open Cert.LossBackIdeal Cert.LossBackIdeal.Gen

variable (x tg : Vec Ideal S512x2048 .f32) (n1 : Vec Ideal S512x2048 .bf16) (p : Vec Ideal S512x256 .f32)
  (W : Vec Ideal S2048x2048 .bf16) (Wp : Vec Ideal S256x2048 .bf16) (g : Vec Ideal S1x2048 .f32)

theorem normed_apply (r : Fin 512) (l : Fin 2048) : k0_pay3 x g (ix2 r l)
    = Rows.normed 0x45000000#32 (fun k => x (ix2 r k)) (fun k => g (ix2 0 k)) l := by
  pointwise! [k0_pay3, Rows.normed, Rows.scale, Rows.meanSq]

theorem gate_apply (r : Fin 512) (l : Fin 2048) : k0_pay4 n1 W (ix2 r l)
    = Rows.sigma (Rows.proj (fun k => n1 (ix2 r k)) (fun a b => W (ix2 a b)) l) := by
  pointwise! [k0_pay4, Rows.sigma, Rows.proj, Ideal.logistic]

theorem pp_apply (r : Fin 512) (l : Fin 2048) : k0_pay5 p Wp (ix2 r l)
    = Rows.proj (fun k => p (ix2 r k)) (fun a b => Wp (ix2 a b)) l := by
  pointwise! [k0_pay5, Rows.proj]

theorem gate_out_apply (r : Fin 512) (l : Fin 2048) : k0_pay6 n1 W (ix2 r l)
    = Rows.sigma (Rows.proj (fun k => n1 (ix2 r k)) (fun a b => W (ix2 a b)) l) := by
  pointwise! [k0_pay6, gate_apply]

theorem pp_out_apply (r : Fin 512) (l : Fin 2048) : k0_pay7 p Wp (ix2 r l)
    = Rows.proj (fun k => p (ix2 r k)) (fun a b => Wp (ix2 a b)) l := by
  pointwise! [k0_pay7, pp_apply]

/-- The layer's output less the target. -/
theorem err_apply (r : Fin 512) (l : Fin 2048) : k0_pay8 n1 W p Wp x tg (ix2 r l)
    = x (ix2 r l) + Rows.sigma (Rows.proj (fun k => n1 (ix2 r k)) (fun a b => W (ix2 a b)) l)
        * Rows.proj (fun k => p (ix2 r k)) (fun a b => Wp (ix2 a b)) l - tg (ix2 r l) := by
  pointwise! [k0_pay8, gate_apply, pp_apply]

theorem dy_apply (r : Fin 512) (l : Fin 2048) : k0_pay9 n1 W p Wp x tg (ix2 r l)
    = k0_pay8 n1 W p Wp x tg (ix2 r l) * ((1 / 2048 : ℝ) : EReal) := by
  pointwise! [k0_pay9, Consts.inv2048]

/-- A tile's part of the loss. -/
theorem loss_apply (l : Fin 128) : k0_pay1 (k0_pay10 n1 W p Wp x tg) (ix2 0 l)
    = (∑ r : Fin 512, ∑ k : Fin 2048, k0_pay8 n1 W p Wp x tg (ix2 r k) * k0_pay8 n1 W p Wp x tg (ix2 r k))
      * ((1 / 4096 : ℝ) : EReal) := by
  pointwise! [k0_pay1, k0_pay10, Consts.inv4096]

end Cert.LossBackIdeal.Block

end
-- ==== Proof.LossArray.lean ====
/-
  The gated embedding with the loss and its gradient, the arrays after the run: four arrays row by row, and
  the loss as one sum over all 8192 rows, put together from the 16 tiles.
-/
module

public import proofs.«01_k».proof.Proof.Gen.LossBackIdeal.Value
public import proofs.«01_k».proof.Proof.LossBlock

@[expose] public section

set_option maxRecDepth 16384

noncomputable section

open Idealize.ShloMosaic Idealize.ShloMosaic.TcCoe Idealize.SL.Sem
open Idealize.ShloMosaic.Pipeline (Dat)

namespace Cert.LossBackIdeal.Arrays

open Cert.LossBackIdeal Cert.LossBackIdeal.Gen

variable (m : (ℓ : Loc nD τ sig) → Buf (Elt Ideal) ℓ) (c : Dev nD)

/-- The activations. -/
abbrev X : FVec Ideal S8192x2048 .f32 := m ((c : Thread nD τ).loc main_arg0)
/-- The embeddings. -/
abbrev P : FVec Ideal S8192x256 .f32 := m ((c : Thread nD τ).loc main_arg1)
/-- The gate's matrix. -/
abbrev Wg : FVec Ideal S2048x2048 .f32 := m ((c : Thread nD τ).loc main_arg2)
/-- The embedding's matrix. -/
abbrev Wp : FVec Ideal S256x2048 .f32 := m ((c : Thread nD τ).loc main_arg3)
/-- The gain. -/
abbrev G : FVec Ideal S2048 .f32 := m ((c : Thread nD τ).loc main_arg4)
/-- The target. -/
abbrev T : FVec Ideal S8192x2048 .f32 := m ((c : Thread nD τ).loc main_arg5)

/-- The normalised row `r`. -/
abbrev n1 (r : Fin 8192) : Fin 2048 → EReal :=
  Rows.normed 0x45000000#32 (fun k => X m c (ix2 r k)) (fun k => G m c (ix1 k))

/-- The gate at row `r`. -/
abbrev ga (r : Fin 8192) : Fin 2048 → EReal :=
  Rows.gate 0x45000000#32 (fun k => X m c (ix2 r k)) (fun k => G m c (ix1 k)) (fun a b => Wg m c (ix2 a b))

/-- What the gate multiplies, at row `r`. -/
abbrev pp (r : Fin 8192) : Fin 2048 → EReal := Rows.proj (fun k => P m c (ix2 r k)) (fun a b => Wp m c (ix2 a b))

/-- The layer's output less the target, at row `r`. -/
abbrev err (r : Fin 8192) (l : Fin 2048) : EReal := X m c (ix2 r l) + ga m c r l * pp m c r l - T m c (ix2 r l)

/-- Where each window's block stands at point `t`. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, 0] :=
  (by decide +kernel : ∀ t : Fin grid0.N, _)

theorem lt16 (t : Fin cfg0.N) : t.val < 16 := t.isLt.trans_eq (by decide)

/-- Row `r` of point `t`'s tile is row `512 t + r` of the array. -/
def at_ (t : Fin cfg0.N) (r : Fin 512) : Fin 8192 := ⟨t.val * 512 + r.val, by have := lt16 t; omega⟩

theorem blockX (t : Fin cfg0.N) (r : Fin 512) (l : Fin 2048) :
    (iblk m c 0 t : Vec Ideal S512x2048 .f32) (ix2 r l) = X m c (ix2 (at_ t r) l) := by
  blk_ext [iblk, V, idx t, at_]

theorem blockG (t : Fin cfg0.N) (l : Fin 2048) :
    (iblk m c 1 t : Vec Ideal S1x2048 .f32) (ix2 0 l) = G m c (ix1 l) := by
  blk_point [iblk, V, idx t]

theorem blockP (t : Fin cfg0.N) (r : Fin 512) (l : Fin 256) :
    (iblk m c 2 t : Vec Ideal S512x256 .f32) (ix2 r l) = P m c (ix2 (at_ t r) l) := by
  blk_ext [iblk, V, idx t, at_]

theorem blockWg (t : Fin cfg0.N) (a b : Fin 2048) :
    (iblk m c 3 t : Vec Ideal S2048x2048 .bf16) (ix2 a b) = Wg m c (ix2 a b) := by
  blk_point [iblk, V, idx t]

theorem blockWp (t : Fin cfg0.N) (a : Fin 256) (b : Fin 2048) :
    (iblk m c 4 t : Vec Ideal S256x2048 .bf16) (ix2 a b) = Wp m c (ix2 a b) := by
  blk_point [iblk, V, idx t]

theorem blockT (t : Fin cfg0.N) (r : Fin 512) (l : Fin 2048) :
    (iblk m c 5 t : Vec Ideal S512x2048 .f32) (ix2 r l) = T m c (ix2 (at_ t r) l) := by
  blk_ext [iblk, V, idx t, at_]

theorem n1_block (t : Fin cfg0.N) (r : Fin 512) (l : Fin 2048) :
    k0_pay3 (iblk m c 0 t) (iblk m c 1 t) (ix2 r l) = n1 m c (at_ t r) l := by
  rw [Block.normed_apply]
  simp only [blockX, blockG]

theorem ga_block (t : Fin cfg0.N) (r : Fin 512) (l : Fin 2048) :
    k0_pay6 (k0_pay3 (iblk m c 0 t) (iblk m c 1 t)) (iblk m c 3 t) (ix2 r l) = ga m c (at_ t r) l := by
  rw [Block.gate_out_apply]
  simp only [n1_block, blockWg]
  rfl

theorem pp_block (t : Fin cfg0.N) (r : Fin 512) (l : Fin 2048) :
    k0_pay7 (iblk m c 2 t) (iblk m c 4 t) (ix2 r l) = pp m c (at_ t r) l := by
  rw [Block.pp_out_apply]
  simp only [blockP, blockWp]

theorem err_block (t : Fin cfg0.N) (r : Fin 512) (l : Fin 2048) :
    k0_pay8 (k0_pay3 (iblk m c 0 t) (iblk m c 1 t)) (iblk m c 3 t) (iblk m c 2 t) (iblk m c 4 t) (iblk m c 0 t)
      (iblk m c 5 t) (ix2 r l) = err m c (at_ t r) l := by
  rw [Block.err_apply]
  simp only [n1_block, blockX, blockP, blockWg, blockWp, blockT]
  rfl

/-- A load of a whole tile starts at its corner. -/
theorem whole (off : Fin 2 → ℕ) (inb : ∀ a, off a + S512x2048.size a ≤ S512x2048.size a) (v : Vec Ideal S512x2048 .f32) :
    View.ld v (Rect.unit (s := S512x2048) off ![512, 2048] inb) = v :=
  View.ld_unit_zero (funext fun a => by have := inb a; omega) inb v

/-- The loss's gradient, of all rows. -/
def dyAll : FVec Ideal S8192x2048 .f32 := fun i => err m c (i 0) (i 1) * ((1 / 2048 : ℝ) : EReal)

/-- The normalised activations, the gate and what it multiplies, of all rows. -/
def n1All : FVec Ideal S8192x2048 .bf16 := fun i => n1 m c (i 0) (i 1)
def gaAll : FVec Ideal S8192x2048 .bf16 := fun i => ga m c (i 0) (i 1)
def ppAll : FVec Ideal S8192x2048 .bf16 := fun i => pp m c (i 0) (i 1)

/-- The loss, in every lane of one row. -/
def lossAll : FVec Ideal S1x128 .f32 := fun _ =>
  (∑ r : Fin 8192, ∑ k : Fin 2048, err m c r k * err m c r k) * ((1 / 4096 : ℝ) : EReal)

theorem final_dy : (dats m 0 c).arrAt 6 cfg0.N = dyAll m c := by
  refine (dats m 0 c).arrAt_eq_of_covers 6 _ (by decide +kernel) fun t _ y => ?_
  have point : k0_pay9 (k0_pay3 (iblk m c 0 t) (iblk m c 1 t)) (iblk m c 3 t) (iblk m c 2 t) (iblk m c 4 t) (iblk m c 0 t)
      (iblk m c 5 t) y = dyAll m c (((cfg0.win 6).blk t).view.emb y) := by
    idx_vars y
    have e : (((cfg0.win 6).blk t).view.emb (ix2 y0 y1) : S8192x2048.Idx) = ix2 (at_ t y0) y1 := by
      blk_ext [idx t, at_]
    rw [Block.dy_apply, err_block, e]
    rfl
  have ht := lt16 t
  blk_simp
  rw [after0_6]
  by_cases h : t.val % 16 = 0
  · rw [outsAt0_A m c t h (by omega)]; frame_out
    rw [whole]
    exact point
  · rw [outsAt0_B m c t h (by omega)]; frame_out
    rw [whole]
    exact point

theorem final_n1 : (dats m 0 c).arrAt 7 cfg0.N = n1All m c := by
  refine (dats m 0 c).arrAt_eq_of_covers 7 _ (by decide +kernel) fun t _ y => ?_
  have point : k0_pay3 (iblk m c 0 t) (iblk m c 1 t) y = n1All m c (((cfg0.win 7).blk t).view.emb y) := by
    idx_vars y
    have e : (((cfg0.win 7).blk t).view.emb (ix2 y0 y1) : S8192x2048.Idx) = ix2 (at_ t y0) y1 := by
      blk_ext [idx t, at_]
    rw [n1_block, e]
    rfl
  have ht := lt16 t
  blk_simp
  rw [after0_7]
  by_cases h : t.val % 16 = 0
  · rw [outsAt0_A m c t h (by omega)]; frame_out
    exact point
  · rw [outsAt0_B m c t h (by omega)]; frame_out
    exact point

theorem final_ga : (dats m 0 c).arrAt 8 cfg0.N = gaAll m c := by
  refine (dats m 0 c).arrAt_eq_of_covers 8 _ (by decide +kernel) fun t _ y => ?_
  have point : k0_pay6 (k0_pay3 (iblk m c 0 t) (iblk m c 1 t)) (iblk m c 3 t) y
      = gaAll m c (((cfg0.win 8).blk t).view.emb y) := by
    idx_vars y
    have e : (((cfg0.win 8).blk t).view.emb (ix2 y0 y1) : S8192x2048.Idx) = ix2 (at_ t y0) y1 := by
      blk_ext [idx t, at_]
    rw [ga_block, e]
    rfl
  have ht := lt16 t
  blk_simp
  rw [after0_8]
  by_cases h : t.val % 16 = 0
  · rw [outsAt0_A m c t h (by omega)]; frame_out
    exact point
  · rw [outsAt0_B m c t h (by omega)]; frame_out
    exact point

theorem final_pp : (dats m 0 c).arrAt 9 cfg0.N = ppAll m c := by
  refine (dats m 0 c).arrAt_eq_of_covers 9 _ (by decide +kernel) fun t _ y => ?_
  have point : k0_pay7 (iblk m c 2 t) (iblk m c 4 t) y = ppAll m c (((cfg0.win 9).blk t).view.emb y) := by
    idx_vars y
    have e : (((cfg0.win 9).blk t).view.emb (ix2 y0 y1) : S8192x2048.Idx) = ix2 (at_ t y0) y1 := by
      blk_ext [idx t, at_]
    rw [pp_block, e]
    rfl
  have ht := lt16 t
  blk_simp
  rw [after0_9]
  by_cases h : t.val % 16 = 0
  · rw [outsAt0_A m c t h (by omega)]; frame_out
    exact point
  · rw [outsAt0_B m c t h (by omega)]; frame_out
    exact point

/-- A tile's part of the loss. -/
def part (t : Fin cfg0.N) : EReal :=
  (∑ r : Fin 512, ∑ k : Fin 2048, err m c (at_ t r) k * err m c (at_ t r) k) * ((1 / 4096 : ℝ) : EReal)

theorem part_block (t : Fin cfg0.N) (l : Fin 128) :
    k0_pay1 (k0_pay10 (k0_pay3 (iblk m c 0 t) (iblk m c 1 t)) (iblk m c 3 t) (iblk m c 2 t) (iblk m c 4 t) (iblk m c 0 t)
      (iblk m c 5 t)) (ix2 0 l) = part m c t := by
  rw [Block.loss_apply, part]
  simp only [err_block]

/-- What the body leaves of the loss after the last point: the sum of the tiles' parts. -/
theorem acc_loss (t : Fin cfg0.N) (ht : t.val + 1 = cfg0.N) (l : Fin 128) :
    (outsAt0 m c t.val t.isLt).2.2.2.2 (ix2 0 l) = 0 + ∑ p : Fin cfg0.N, part m c p := by
  refine Pipeline.eq_sum_fin_of_reset_step_apply_last
    (fun n h (l : Fin 128) => ((outsAt0 m c n h).2.2.2.2 (ix2 0 l) : EReal)) 16
    (fun _ => 0) (fun p _ => part m c p) (fun t h l => ?_) (fun t h l => ?_) (by decide) t ht l
  · have ht := lt16 t
    rw [outsAt0_A m c t h (by omega)]; frame_out
    rw [whole, part_block, zero_add]
  · rw [outsAt0_B m c t h (by omega)]; frame_out
    rw [whole]
    pointwise [k0_pay2, part_block]

/-- The last point of the grid. -/
def last : Fin cfg0.N := ⟨15, by decide⟩

theorem final_loss : (dats m 0 c).arrAt 10 cfg0.N = lossAll m c := by
  refine (dats m 0 c).arrAt_eq_of_after_last 10 last (by decide +kernel) _ fun j => ?_
  blk_simp
  rw [after0_10]
  obtain ⟨a, l, rfl⟩ : ∃ (a : Fin 1) (l : Fin 128), j = ix2 a l := ⟨j 0, j 1, eq_ix2 j⟩
  obtain rfl : a = 0 := Subsingleton.elim _ _
  refine (acc_loss m c last (by decide) l).trans ?_
  rw [zero_add, lossAll]
  simp only [part]
  rw [Consts.sum_mul_coe _ _ (by norm_num)]
  exact congrArg (· * ((1 / 4096 : ℝ) : EReal)) (Fin.sum_mul_add_fin (L := 8192) 16 512 fun r : Fin 8192 =>
    ∑ k : Fin 2048, err m c r k * err m c r k)

end Cert.LossBackIdeal.Arrays

end
-- ==== Proof.LossRef.lean ====
/-
  The reference of the loss and its gradient, read at an index: the plain layer of all 8192 rows, half the
  sum of its rows' mean square errors and the derivative of that, as the row functions of `Rows` and
  `GateRows`.
-/
module

public import proofs.«01_k».proof.Proof.Gen.LossRefIdeal.Read
public import proofs.«01_k».proof.Proof.GateRows
public import proofs.«01_k».proof.Proof.Consts
public import Idealize.ShloMosaic.Lib.Pipeline.ValueKit

@[expose] public section

set_option maxRecDepth 16384

noncomputable section

open Idealize.ShloMosaic Idealize.ShloMosaic.TcCoe Idealize.SL.Sem

namespace Cert.LossRefIdeal.Math

open Cert.LossRefIdeal Cert.LossRefIdeal.Gen Cert.LossRefIdeal.Read

variable (x tg : FVec Ideal S8192x2048 .f32) (p : FVec Ideal S8192x256 .f32) (Wg : FVec Ideal S2048x2048 .f32)
  (Wp : FVec Ideal S256x2048 .f32) (g : FVec Ideal S2048 .f32)

/-- The normalised row `r`. -/
abbrev n1 (r : Fin 8192) : Fin 2048 → EReal :=
  Rows.normed 0x45000000#32 (fun k => x (ix2 r k)) (fun k => g (ix1 k))

/-- The gate at row `r`. -/
abbrev ga (r : Fin 8192) : Fin 2048 → EReal :=
  Rows.gate 0x45000000#32 (fun k => x (ix2 r k)) (fun k => g (ix1 k)) (fun a b => Wg (ix2 a b))

/-- What the gate multiplies, at row `r`. -/
abbrev pp (r : Fin 8192) : Fin 2048 → EReal := Rows.proj (fun k => p (ix2 r k)) (fun a b => Wp (ix2 a b))

/-- The layer's output less the target, at row `r`. -/
abbrev err (r : Fin 8192) (l : Fin 2048) : EReal := x (ix2 r l) + ga x Wg g r l * pp p Wp r l - tg (ix2 r l)

theorem normed_apply (r : Fin 8192) (l : Fin 2048) : val_main_v12 (F := Ideal) x g (ix2 r l) = n1 x g r l := by
  pointwise! [val_main_v12, val_main_v11, val_main_v10, val_main_v9, val_main_v8, val_main_v7, val_main_v6, val_main_v5,
    val_main_v4, val_main_v3, val_main_v2, val_main_v1, val_main_v0, val_main_cst, val_main_cst_0, val_main_cst_1,
    Rows.normed, Rows.scale, Rows.meanSq]

theorem ga_apply (r : Fin 8192) (l : Fin 2048) : val_main_v19 (F := Ideal) x Wg g (ix2 r l) = ga x Wg g r l := by
  pointwise! [val_main_v19, val_main_v18, val_main_v17, val_main_v16, val_main_v15, val_main_v14, val_main_v13,
    val_main_cst_2, val_main_cst_3, normed_apply, Rows.gate, Rows.sigma, Rows.proj]

theorem pp_apply (r : Fin 8192) (l : Fin 2048) : val_main_v20 (F := Ideal) p Wp (ix2 r l) = pp p Wp r l := by
  pointwise! [val_main_v20, Rows.proj]

theorem err_apply (r : Fin 8192) (l : Fin 2048) : val_main_v23 (F := Ideal) x p Wg Wp g tg (ix2 r l)
    = err x tg p Wg Wp g r l := by
  pointwise! [val_main_v23, val_main_v22, val_main_v21, ga_apply, pp_apply]

theorem dy_apply (r : Fin 8192) (l : Fin 2048) : val_main_v37 (F := Ideal) x p Wg Wp g tg (ix2 r l)
    = err x tg p Wg Wp g r l * ((1 / 2048 : ℝ) : EReal) := by
  pointwise [val_main_v37, val_main_v36, val_main_v35, val_main_v34, val_main_v33, val_main_v32, val_main_v26,
    val_main_v25, val_main_cst_4, val_main_cst_9, val_main_cst_10, val_main_cst_11, err_apply, Consts.half,
    Consts.two, Consts.w2048]
  exact Consts.half_div_two_mul _

theorem loss_apply (l : Fin 128) : val_main_v41 (F := Ideal) x p Wg Wp g tg (ix2 0 l)
    = (∑ r : Fin 8192, ∑ k : Fin 2048, err x tg p Wg Wp g r k * err x tg p Wg Wp g r k) * ((1 / 4096 : ℝ) : EReal) := by
  pointwise [val_main_v41, val_main_v31, val_main_v30, val_main_v29, val_main_v28, val_main_v27, val_main_v24,
    val_main_cst_5, val_main_cst_6, val_main_cst_7, val_main_cst_8, err_apply, Consts.half, Consts.w2048]
  exact Consts.half_sum_div _ _

theorem n1_out_apply (r : Fin 8192) (l : Fin 2048) : val_main_v38 (F := Ideal) x g (ix2 r l) = n1 x g r l := by
  pointwise! [val_main_v38, normed_apply]

theorem ga_out_apply (r : Fin 8192) (l : Fin 2048) : val_main_v39 (F := Ideal) x Wg g (ix2 r l) = ga x Wg g r l := by
  pointwise! [val_main_v39, ga_apply]

theorem pp_out_apply (r : Fin 8192) (l : Fin 2048) : val_main_v40 (F := Ideal) p Wp (ix2 r l) = pp p Wp r l := by
  pointwise! [val_main_v40, pp_apply]

end Cert.LossRefIdeal.Math

end
-- ==== Proof.LossPair.lean ====
/-
  The loss and its gradient: kernel and reference end with the same five arrays.
-/
module

public import proofs.«01_k».proof.Defs
public import proofs.«01_k».proof.Proof.LossArray
public import proofs.«01_k».proof.Proof.LossRef
public import proofs.«01_k».proof.Proof.Gen.LossBack.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Loss

section
open Cert.LossRefIdeal Cert.LossRefIdeal.Read Cert.LossRefIdeal.Math

variable (x tg : FVec Ideal S8192x2048 .f32) (p : FVec Ideal S8192x256 .f32) (Wg : FVec Ideal S2048x2048 .f32)
  (Wp : FVec Ideal S256x2048 .f32) (g : FVec Ideal S2048 .f32)

theorem ref_dy : val_main_v37 (F := Ideal) x p Wg Wp g tg = fun i =>
    err x tg p Wg Wp g (i 0) (i 1) * ((1 / 2048 : ℝ) : EReal) := by
  funext i
  idx_vars i
  exact dy_apply x tg p Wg Wp g i0 i1

theorem ref_n1 : val_main_v38 (F := Ideal) x g = fun i => n1 x g (i 0) (i 1) := by
  funext i
  idx_vars i
  exact n1_out_apply x g i0 i1

theorem ref_ga : val_main_v39 (F := Ideal) x Wg g = fun i => ga x Wg g (i 0) (i 1) := by
  funext i
  idx_vars i
  exact ga_out_apply x Wg g i0 i1

theorem ref_pp : val_main_v40 (F := Ideal) p Wp = fun i => pp p Wp (i 0) (i 1) := by
  funext i
  idx_vars i
  exact pp_out_apply p Wp i0 i1

theorem ref_loss : val_main_v41 (F := Ideal) x p Wg Wp g tg = fun _ =>
    (∑ r : Fin 8192, ∑ k : Fin 2048, err x tg p Wg Wp g r k * err x tg p Wg Wp g r k) * ((1 / 4096 : ℝ) : EReal) := by
  funext i
  idx_vars i
  obtain rfl : i0 = 0 := Subsingleton.elim _ _
  exact loss_apply x tg p Wg Wp g i1

end

set_option maxHeartbeats 1600000 in
/-- Both programs end with the arrays `dyAll`, `n1All`, `gaAll`, `ppAll` and `lossAll` of the arguments. -/
theorem equal : Cert.algebraic_LossBackIdeal_LossRefIdeal := by
  pair_intro
  · run_from Cert.LossBackIdeal.Gen.run_main m g
  · run_from Cert.LossRefIdeal.Value.run m' g'
    · exact (LossRefIdeal.Read.val_main_v37_eq _ _ _ _ _ _).trans
        ((ref_dy _ _ _ _ _ _).trans (LossBackIdeal.Arrays.final_dy m c).symm)
    · exact (LossRefIdeal.Read.val_main_v38_eq _ _).trans
        ((ref_n1 _ _).trans (LossBackIdeal.Arrays.final_n1 m c).symm)
    · exact (LossRefIdeal.Read.val_main_v39_eq _ _ _).trans
        ((ref_ga _ _ _).trans (LossBackIdeal.Arrays.final_ga m c).symm)
    · exact (LossRefIdeal.Read.val_main_v40_eq _ _).trans
        ((ref_pp _ _).trans (LossBackIdeal.Arrays.final_pp m c).symm)
    · exact (LossRefIdeal.Read.val_main_v41_eq _ _ _ _ _ _).trans
        ((ref_loss _ _ _ _ _ _).trans (LossBackIdeal.Arrays.final_loss m c).symm)

/-- The reference ends, with its arguments unchanged. -/
theorem frame_ref : Cert.quiescent_LossRefIdeal := fun m g _ =>
  (θ_run Cert.LossRefIdeal.defs _ _).mono (fun r h => ⟨fun c => (h c).2.2.2.2.2, sem_eq_zero_of_no_sems (by decide) r.2⟩)
    (Cert.LossRefIdeal.Value.run (F := Ideal) m g)

end Cert.Proof.Loss

end
-- ==== Proof.AttnBody.lean ====
/-
  The attention's gradient, one grid point of the kernel: what the body leaves in its three output
  blocks, as plain functions of the seven input blocks and, for the query gradient, of what the block
  held before.  The body's loop runs over two halves of the queries and carries the gradients of the
  keys and of the values.
-/
module

public import proofs.«01_k».proof.Proof.Gen.AttnBackIdeal.Loops
public import proofs.«01_k».proof.Proof.Gen.AttnBackIdeal.Points
public import proofs.«01_k».proof.Proof.Gen.AttnBackIdeal.Launch
public import Idealize.ShloMosaic.Lib.WritesUnit
public import Idealize.ShloMosaic.Lib.Pipeline.ValueKit

@[expose] public section

set_option maxRecDepth 16384

noncomputable section

namespace Cert.AttnBackIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBackIdeal Cert.AttnBackIdeal.Gen

variable {F : FTy → Type} [FloatOps F] [Named F]

local notation "𝕄" => MT nD τ sig Unit (Elt F) ℕ (UR sig nD τ) ℕ

/-- The two trips of the loop. -/
abbrev Trip := Fin k0_t1_loop.trips
theorem trips_eq : k0_t1_loop.trips = 2 := by decide
theorem trips_two : Scf.trips k0_t1_loop.lb k0_t1_loop.ub k0_t1_loop.st = 2 := by decide
abbrev first : Trip := ⟨0, by decide⟩
abbrev second : Trip := ⟨1, by decide⟩

theorem off5_eq : ∀ k : Trip, k0_off5 k = ![0, k.val, 0, 0] := by decide
theorem off4_eq : ∀ k : Trip, k0_off4 k = ![0, k.val, 0, 0] := by decide

/-- The blocks: queries, keys, keys transposed, values, the output's gradient, and the two statistics. -/
structure Blocks (F : FTy → Type) [FloatOps F] where
  q : Vec F S1x8192x192 .bf16
  k : Vec F S1x1024x192 .bf16
  kt : Vec F S1x1x192x1024 .bf16
  v : Vec F S1x1024x128 .bf16
  dOut : Vec F S8192x128 .bf16
  lse : Vec F S1x2x1x4096 .f32
  dsum : Vec F S1x2x1x4096 .f32

variable (b : Blocks F)

/-- The queries of a trip. -/
abbrev Blocks.qAt (k : Trip) : Vec F S1x4096x192 .bf16 := View.ld b.q (Rect.unit (s := S1x8192x192) (k0_off1 k) S1x4096x192.size (k0_off1_inb k))
/-- The output's gradient at the queries of a trip. -/
abbrev Blocks.dOutAt (k : Trip) : Vec F S4096x128 .bf16 := View.ld b.dOut (Rect.unit (s := S8192x128) (k0_off2 k) S4096x128.size (k0_off2_inb k))
/-- The logarithm of the normaliser at the queries of a trip. -/
abbrev Blocks.lseAt (k : Trip) : Vec F S1x1x1x4096 .f32 := View.ld b.lse (Rect.unit (s := S1x2x1x4096) (k0_off3 k) S1x1x1x4096.size (k0_off3_inb k))
/-- The row sums at the queries of a trip. -/
abbrev Blocks.dsumAt (k : Trip) : Vec F S1x1x1x4096 .f32 := View.ld b.dsum (Rect.unit (s := S1x2x1x4096) (k0_off3 k) S1x1x1x4096.size (k0_off3_inb k))

/-- One trip's effect on the two gradients it carries. -/
def Blocks.step (k : Trip) (acc : FVec F S1024x192 .f32 × FVec F S1024x128 .f32) : FVec F S1024x192 .f32 × FVec F S1024x128 .f32 :=
  (k0_pay13 (k0_pay1 b.k) (k0_pay3 b.v) acc.1 (b.qAt k) (b.dOutAt k) (b.lseAt k) (b.dsumAt k),
   k0_pay12 (k0_pay1 b.k) acc.2 (b.qAt k) (b.dOutAt k) (b.lseAt k))

/-- The two gradients after the loop. -/
def Blocks.carried : FVec F S1024x192 .f32 × FVec F S1024x128 .f32 :=
  b.step second (b.step first (k0_pay4, k0_pay5))

/-- A trip's part of the query gradient, stored. -/
def Blocks.fresh (k : Trip) : Vec F S1x1x192x4096 .f32 :=
  k0_pay15 (k0_pay1 b.k) (k0_pay2 b.kt) (k0_pay3 b.v) (b.qAt k) (b.dOutAt k) (b.lseAt k) (b.dsumAt k)

theorem inb5 (k : Trip) : ∀ a, (k0_off5 k) a + S1x1x192x4096.size a ≤ S1x2x192x4096.size a := by
  rw [off5_eq k]
  have : k.val < 2 := k.isLt.trans_eq trips_eq
  intro a
  fin_cases a <;> simp [S1x1x192x4096, S1x2x192x4096] <;> omega

/-- A trip's part of the query gradient, added to what the block holds. -/
def Blocks.added (old : Vec F S1x2x192x4096 .f32) (k : Trip) : Vec F S1x1x192x4096 .f32 :=
  k0_pay16 (k0_pay1 b.k) (k0_pay2 b.kt) (k0_pay3 b.v) (b.qAt k) (b.dOutAt k) (b.lseAt k) (b.dsumAt k)
    (View.ld old (Rect.unit (s := S1x2x192x4096) (k0_off5 k) S1x1x192x4096.size (inb5 k)))

/-- The two trips' parts side by side. -/
def joined (T : Trip → Vec F S1x1x192x4096 .f32) : Vec F S1x2x192x4096 .f32 := fun y =>
  T ⟨(y 1).val, (y 1).isLt.trans_eq trips_eq.symm⟩ (ix4 0 0 (y 2) (y 3))

/-- The query gradient's block after the first key tile of a head. -/
def Blocks.dqFirst : Vec F S1x2x192x4096 .f32 := joined b.fresh
/-- The query gradient's block after a later key tile. -/
def Blocks.dqNext (old : Vec F S1x2x192x4096 .f32) : Vec F S1x2x192x4096 .f32 := joined (b.added old)
/-- The key gradient's block. -/
def Blocks.dk : Vec F S1x1024x192 .f32 := k0_pay6 b.carried.1
/-- The value gradient's block. -/
def Blocks.dv : Vec F S1x1024x128 .f32 := k0_pay7 b.carried.2

/-- Both trips' parts written into a block leave them side by side, whatever it held. -/
theorem read_two {sp : Space} (v : View sig .tc sp S1x2x192x4096 .f32) (f : v.ty.Contents (Elt F)) (off : Trip → Fin 4 → ℕ)
    (hoff : ∀ k, off k = ![0, k.val, 0, 0]) (h0 : ∀ a, off first a + S1x1x192x4096.size a ≤ S1x2x192x4096.size a)
    (h1 : ∀ a, off second a + S1x1x192x4096.size a ≤ S1x2x192x4096.size a) (T : Trip → Vec F S1x1x192x4096 .f32) :
    v.read (Elt F) (v.writes (Elt F) f [⟨Rect.unit (off second) S1x1x192x4096.size h1, T second⟩,
      ⟨Rect.unit (off first) S1x1x192x4096.size h0, T first⟩]) = joined T := by
  funext y
  obtain ⟨a, b, c, d, rfl⟩ : ∃ (a : Fin 1) (b : Fin 2) (c : Fin 192) (d : Fin 4096), y = ix4 a b c d := ⟨y 0, y 1, y 2, y 3, eq_ix4 y⟩
  obtain rfl : a = 0 := Subsingleton.elim _ _
  fin_cases b
  · rw [View.read_writes_cons_unit_of_not_mem v f h1 _ _ _ (hoff second) 1 (Or.inl (by simp))]
    exact View.read_writes_cons_unit_of_mem v f h0 _ _ _ (ix4 0 0 c d) (hoff first) (fun a => by fin_cases a <;> simp)
  · exact View.read_writes_cons_unit_of_mem v f h1 _ _ _ (ix4 0 0 c d) (hoff second) (fun a => by fin_cases a <;> simp)

/-- The second trip finds its part of the block as it was before the first. -/
theorem read_other {sp : Space} (v : View sig .tc sp S1x2x192x4096 .f32) (f : v.ty.Contents (Elt F))
    (w : Vec F S1x1x192x4096 .f32) :
    v.readAt (Elt F) (Rect.unit (s := S1x2x192x4096) (k0_off5 second) S1x1x192x4096.size (inb5 second)).toLoadRect
      (v.writes (Elt F) f [⟨Rect.unit (k0_off5 first) S1x1x192x4096.size (inb5 first), w⟩])
    = View.ld (v.read (Elt F) f) (Rect.unit (s := S1x2x192x4096) (k0_off5 second) S1x1x192x4096.size (inb5 second)) := by
  rw [View.readAt_eq_ld]
  funext y
  refine View.read_writes_cons_unit_of_not_mem v f (inb5 first) _ _ _ (off5_eq first) 1 (Or.inr ?_)
  have h : (k0_off5 second) 1 = 1 := congrFun (off5_eq second) 1
  exact (show (1 : ℕ) ≤ _ from h ▸ Nat.le_refl _).trans (Nat.le_add_right _ _)

/-- Loading a whole block reads it. -/
theorem whole_ld {s : Shape} {e : EltTy} (off : Fin s.rank → ℕ) (inb : ∀ a, off a + s.size a ≤ s.size a) (x : Vec F s e) :
    View.ld x (Rect.unit (s := s) off s.size inb) = x :=
  View.ld_unit_zero (funext fun a => by have := inb a; omega) inb x

/-- Loading a whole block held at `x` reads `x`. -/
theorem whole_load {s : Shape} {e : EltTy} {sp : Space} (m : Memref sig .tc sp s e) (h : m.IsWhole) (off : Fin s.rank → ℕ)
    (inb : ∀ a, off a + s.size a ≤ s.size a) (x : Vec F s e) :
    View.readAt (Elt F) m.view (Rect.unit (s := s) off s.size inb).toLoadRect (h.unread x) = x := by
  rw [View.readAt_eq_ld, h.read_unread]
  exact whole_ld off inb x

/-- Storing a whole block leaves it. -/
theorem whole_st {s : Shape} {e : EltTy} {sp : Space} (v : View sig .tc sp s e) (f : v.ty.Contents (Elt F)) (off : Fin s.rank → ℕ)
    (inb : ∀ a, off a + s.size a ≤ s.size a) (x : Vec F s e) :
    v.read (Elt F) (v.writes (Elt F) f [⟨Rect.unit (s := s) off s.size inb, x⟩]) = x :=
  funext fun y => View.read_writes_cons_unit_of_mem v f inb x [] y y (rfl : off = off) fun a => by have := inb a; omega

/-! ### The loop -/

variable (c : Dev nD) (i : grid0.Coords)
    (arg2 : Memref sig .tc .vmem S1x8192x192 .bf16) (harg2 : arg2.IsWhole) (arg3 : Memref sig .tc .vmem S1x1024x192 .bf16) (harg3 : arg3.IsWhole)
    (arg4 : Memref sig .tc .vmem S1x1x192x1024 .bf16) (harg4 : arg4.IsWhole) (arg5 : Memref sig .tc .vmem S1x1024x128 .bf16) (harg5 : arg5.IsWhole)
    (arg6 : Memref sig .tc .vmem S8192x128 .bf16) (harg6 : arg6.IsWhole) (arg7 : Memref sig .tc .vmem S1x2x1x4096 .f32) (harg7 : arg7.IsWhole)
    (arg8 : Memref sig .tc .vmem S1x2x1x4096 .f32) (harg8 : arg8.IsWhole) (arg9 : Memref sig .tc .vmem S1x2x192x4096 .f32) (harg9 : arg9.IsWhole)
    (arg10 : Memref sig .tc .vmem S1x1024x192 .f32) (harg10 : arg10.IsWhole) (arg11 : Memref sig .tc .vmem S1x1024x128 .f32) (harg11 : arg11.IsWhole)
    (v0 : BitVec 1) (f : arg9.view.ty.Contents (Elt F))

/-- What a trip yields. -/
theorem trip_yield (k : Trip) (acc : FVec F S1024x192 .f32 × FVec F S1024x128 .f32) :
    tripR_k0_t1 Variants.none c none i arg2 harg2 arg3 harg3 arg4 harg4 arg5 harg5 arg6 harg6 arg7 harg7 arg8 harg8 arg9 harg9 arg10 harg10 arg11 harg11 v0 b.k b.kt b.v (harg2.unread b.q) (harg6.unread b.dOut) (harg7.unread b.lse) (harg8.unread b.dsum) k acc f
      = b.step k acc := by
  unfold tripR_k0_t1 trip_k0_t1
  dsimp only
  sl_unfold_run_names
  simp only [View.readAt_eq_ld, harg2.read_unread, harg6.read_unread, harg7.read_unread, harg8.read_unread]
  rfl

/-- What a trip stores at the first key tile. -/
theorem trip_first (h1 : k0_cond1 i = 1#1) (h2 : ¬ k0_cond2 i = 1#1) (k : Trip) (acc : FVec F S1024x192 .f32 × FVec F S1024x128 .f32) :
    tripL_k0_t1 Variants.none c none i arg2 harg2 arg3 harg3 arg4 harg4 arg5 harg5 arg6 harg6 arg7 harg7 arg8 harg8 arg9 harg9 arg10 harg10 arg11 harg11 v0 b.k b.kt b.v (harg2.unread b.q) (harg6.unread b.dOut) (harg7.unread b.lse) (harg8.unread b.dsum) k acc f
      = [⟨Rect.unit (k0_off4 k) S1x1x192x4096.size (k0_off4_inb i k h1), b.fresh k⟩] := by
  unfold tripL_k0_t1 trip_k0_t1
  dsimp only
  rw [dif_pos h1, dif_neg h2]
  sl_unfold_run_names
  simp only [View.readAt_eq_ld, harg2.read_unread, harg6.read_unread, harg7.read_unread, harg8.read_unread]
  rfl

/-- What a trip stores at a later key tile. -/
theorem trip_next (h1 : ¬ k0_cond1 i = 1#1) (h2 : k0_cond2 i = 1#1) (k : Trip) (acc : FVec F S1024x192 .f32 × FVec F S1024x128 .f32) :
    tripL_k0_t1 Variants.none c none i arg2 harg2 arg3 harg3 arg4 harg4 arg5 harg5 arg6 harg6 arg7 harg7 arg8 harg8 arg9 harg9 arg10 harg10 arg11 harg11 v0 b.k b.kt b.v (harg2.unread b.q) (harg6.unread b.dOut) (harg7.unread b.lse) (harg8.unread b.dsum) k acc f
      = [⟨Rect.unit (k0_off5 k) S1x1x192x4096.size (inb5 k), b.added (arg9.view.read (Elt F) f) k⟩] := by
  unfold tripL_k0_t1 trip_k0_t1
  dsimp only
  rw [dif_neg h1, dif_pos h2]
  sl_unfold_run_names
  simp only [View.readAt_eq_ld, harg2.read_unread, harg6.read_unread, harg7.read_unread, harg8.read_unread]
  rfl

/-- The gradients the loop carries, at its end. -/
theorem loop_yield :
    (st_k0_t1 Variants.none c none i arg2 harg2 arg3 harg3 arg4 harg4 arg5 harg5 arg6 harg6 arg7 harg7 arg8 harg8 arg9 harg9 arg10 harg10 arg11 harg11 v0 b.k b.kt b.v (harg2.unread b.q) (harg6.unread b.dOut) (harg7.unread b.lse) (harg8.unread b.dsum) f
      (k0_pay4, k0_pay5) 2).1 = b.carried := by
  rw [st_k0_t1_succ (k := second)]
  dsimp only
  rw [trip_yield, st_k0_t1_succ (k := first)]
  dsimp only
  rw [trip_yield]
  rfl

/-- What the output block of a key tile holds after the loop: stored at the first tile, added to at a later one. -/
theorem loop_read (dq : Vec F S1x2x192x4096 .f32)
    (hdq : (k0_cond1 i = 1#1 ∧ ¬ k0_cond2 i = 1#1 ∧ dq = b.dqFirst)
      ∨ (¬ k0_cond1 i = 1#1 ∧ k0_cond2 i = 1#1 ∧ dq = b.dqNext (arg9.view.read (Elt F) f))) :
    arg9.view.read (Elt F) (arg9.view.writes (Elt F) f
      (st_k0_t1 Variants.none c none i arg2 harg2 arg3 harg3 arg4 harg4 arg5 harg5 arg6 harg6 arg7 harg7 arg8 harg8 arg9 harg9 arg10 harg10 arg11 harg11 v0 b.k b.kt b.v (harg2.unread b.q) (harg6.unread b.dOut) (harg7.unread b.lse) (harg8.unread b.dsum) f
        (k0_pay4, k0_pay5) 2).2) = dq := by
  rw [st_k0_t1_succ (k := second)]
  dsimp only
  rw [st_k0_t1_succ (k := first)]
  dsimp only
  rcases hdq with ⟨h1, h2, rfl⟩ | ⟨h1, h2, rfl⟩
  · simp only [trip_first b c i arg2 harg2 arg3 harg3 arg4 harg4 arg5 harg5 arg6 harg6 arg7 harg7 arg8 harg8 arg9 harg9 arg10 harg10 arg11 harg11 v0 _ h1 h2]
    exact read_two arg9.view f k0_off4 off4_eq _ _ b.fresh
  · simp only [st_k0_t1.eq_1, List.append_nil, View.writes_nil, trip_next b c i arg2 harg2 arg3 harg3 arg4 harg4 arg5 harg5 arg6 harg6 arg7 harg7 arg8 harg8 arg9 harg9 arg10 harg10 arg11 harg11 v0 _ h1 h2]
    refine Eq.trans ?_ (read_two arg9.view f k0_off5 off5_eq (inb5 first) (inb5 second) (b.added (arg9.view.read (Elt F) f)))
    refine congrArg (fun w => arg9.view.read (Elt F) (arg9.view.writes (Elt F) f [⟨Rect.unit (k0_off5 second) S1x1x192x4096.size (inb5 second), w⟩,
      ⟨Rect.unit (k0_off5 first) S1x1x192x4096.size (inb5 first), b.added (arg9.view.read (Elt F) f) first⟩])) ?_
    exact congrArg (k0_pay16 (k0_pay1 b.k) (k0_pay2 b.kt) (k0_pay3 b.v) (b.qAt second) (b.dOutAt second) (b.lseAt second) (b.dsumAt second))
      (read_other arg9.view f (b.added (arg9.view.read (Elt F) f) first))

/-! ### The body -/

set_option maxHeartbeats 1600000 in
/-- One run of the body: the three output blocks after it. -/
theorem body (E : Set ℕ) (o9 dq : Vec F S1x2x192x4096 .f32)
    (hdq : (k0_cond1 i = 1#1 ∧ ¬ k0_cond2 i = 1#1 ∧ dq = b.dqFirst) ∨ (¬ k0_cond1 i = 1#1 ∧ k0_cond2 i = 1#1 ∧ dq = b.dqNext o9))
    (o10 : Vec F S1x1024x192 .f32) (o11 : Vec F S1x1024x128 .f32) (K : PUnit → sProp 𝕄) :
    iprop(owns (c : Thread nD τ) arg2 fullShare b.q ∗ owns (c : Thread nD τ) arg3 fullShare b.k ∗ owns (c : Thread nD τ) arg4 fullShare b.kt
      ∗ owns (c : Thread nD τ) arg5 fullShare b.v ∗ owns (c : Thread nD τ) arg6 fullShare b.dOut ∗ owns (c : Thread nD τ) arg7 fullShare b.lse
      ∗ owns (c : Thread nD τ) arg8 fullShare b.dsum ∗ owns (c : Thread nD τ) arg9 fullShare o9 ∗ owns (c : Thread nD τ) arg10 fullShare o10
      ∗ owns (c : Thread nD τ) arg11 fullShare o11
      ∗ (owns (c : Thread nD τ) arg2 fullShare b.q ∗ owns (c : Thread nD τ) arg3 fullShare b.k ∗ owns (c : Thread nD τ) arg4 fullShare b.kt
        ∗ owns (c : Thread nD τ) arg5 fullShare b.v ∗ owns (c : Thread nD τ) arg6 fullShare b.dOut ∗ owns (c : Thread nD τ) arg7 fullShare b.lse
        ∗ owns (c : Thread nD τ) arg8 fullShare b.dsum ∗ owns (c : Thread nD τ) arg9 fullShare dq ∗ owns (c : Thread nD τ) arg10 fullShare b.dk
        ∗ owns (c : Thread nD τ) arg11 fullShare b.dv -∗ K ⟨⟩))
    ⊢ wp frame (wpE (defs₀ (F := F)) Variants.none (c : Thread nD τ) none) E
        (cc0_attention_backward (F := F) i arg2 harg2 arg3 harg3 arg4 harg4 arg5 harg5 arg6 harg6 arg7 harg7 arg8 harg8 arg9 harg9 arg10 harg10 arg11 harg11) K := by
  simp only [cc0_attention_backward_eq_skeleton]
  unfold cc0_attention_backward_skel owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, Hk⟩
  obtain rfl := harg2.eq_unread e2
  obtain rfl := harg3.eq_unread e3
  obtain rfl := harg4.eq_unread e4
  obtain rfl := harg5.eq_unread e5
  obtain rfl := harg6.eq_unread e6
  obtain rfl := harg7.eq_unread e7
  obtain rfl := harg8.eq_unread e8
  subst e9
  obtain rfl := harg10.eq_unread e10
  obtain rfl := harg11.eq_unread e11
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    rw [whole_load arg3 harg3, whole_load arg4 harg4, whole_load arg5 harg5, trips_two]
    exact loop_read b c i arg2 harg2 arg3 harg3 arg4 harg4 arg5 harg5 arg6 harg6 arg7 harg7 arg8 harg8 arg9 harg9 arg10 harg10 arg11 harg11 _ f9 dq hdq
  isplitl [H10]
  · iexists _; isplitr
    swap; · iexact H10
    ipureintro
    rw [whole_load arg3 harg3, whole_load arg4 harg4, whole_load arg5 harg5, trips_two]
    refine (whole_st arg10.view _ _ _ _).trans ?_
    exact congrArg (fun z => k0_pay6 z.1) (loop_yield b c i arg2 harg2 arg3 harg3 arg4 harg4 arg5 harg5 arg6 harg6 arg7 harg7 arg8 harg8 arg9 harg9 arg10 harg10 arg11 harg11 _ f9)
  iexists _; isplitr
  swap; · iexact H11
  ipureintro
  rw [whole_load arg3 harg3, whole_load arg4 harg4, whole_load arg5 harg5, trips_two]
  refine (whole_st arg11.view _ _ _ _).trans ?_
  exact congrArg (fun z => k0_pay7 z.2) (loop_yield b c i arg2 harg2 arg3 harg3 arg4 harg4 arg5 harg5 arg6 harg6 arg7 harg7 arg8 harg8 arg9 harg9 arg10 harg10 arg11 harg11 _ f9)

end Cert.AttnBackIdeal.Body
end
-- ==== Proof.AttnFrame.lean ====
/-
  The attention's gradient: the kernel's run.  Its grid is eight heads by eight key tiles; the query
  gradient's block of a head stays in place over that head's key tiles, stored at the first and added to
  at the others.  From the body's triple (`AttnBody`) the run of the whole program and its frame, for
  any interpretation of the float operations.
-/
module

public import proofs.«01_k».proof.Proof.AttnBody
public import Idealize.ShloMosaic.Lib.Claim
public import Idealize.ShloMosaic.Lib.Pipeline.TableIdle

@[expose] public section

set_option maxRecDepth 16384

noncomputable section

namespace Cert.AttnBackIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBackIdeal Cert.AttnBackIdeal.Gen Cert.AttnBackIdeal.Body

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### The host lines before the kernel -/

/-- A core's arrays when the kernel starts. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

theorem host_run (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

/-- An array none of the host lines writes is as it was at the start. -/
theorem host_untouched (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

/-! ### The blocks -/

/-- A window's block at a grid point, as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The seven input blocks of a grid point. -/
def blocks (c : Dev nD) (t : Fin cfg0.N) : Blocks F where
  q := iblk m c 0 t
  k := iblk m c 1 t
  kt := iblk m c 2 t
  v := iblk m c 3 t
  dOut := iblk m c 4 t
  lse := iblk m c 5 t
  dsum := iblk m c 6 t

theorem points : cfg0.N = 64 := N_0

/-- A grid point by its number. -/
def pt (n : ℕ) : Fin cfg0.N := ⟨n % 64, by rw [points]; omega⟩

theorem pt_val (t : Fin cfg0.N) : pt t.val = t := Fin.ext (Nat.mod_eq_of_lt (t.isLt.trans_eq points))

/-- The query gradient's block after each grid point. -/
def dqAt (c : Dev nD) : ℕ → Vec F S1x2x192x4096 .f32
  | 0 => (blocks m c (pt 0)).dqFirst
  | n + 1 => if (n + 1) % 8 = 0 then (blocks m c (pt (n + 1))).dqFirst else (blocks m c (pt (n + 1))).dqNext (dqAt c n)

theorem dqAt_first (c : Dev nD) (t : Fin cfg0.N) (h : t.val % 8 = 0) : dqAt m c t.val = (blocks m c t).dqFirst := by
  obtain ⟨n, hn⟩ := t
  cases n with
  | zero => exact congrArg (fun t => (blocks m c t).dqFirst) (pt_val ⟨0, hn⟩)
  | succ n => exact (if_pos h).trans (congrArg (fun t => (blocks m c t).dqFirst) (pt_val ⟨n + 1, hn⟩))

theorem dqAt_next (c : Dev nD) (t : Fin cfg0.N) (h : ¬ t.val % 8 = 0) : dqAt m c t.val = (blocks m c t).dqNext (dqAt m c (t.val - 1)) := by
  obtain ⟨n, hn⟩ := t
  cases n with
  | zero => exact absurd rfl h
  | succ n => exact (if_neg h).trans (congrArg (fun t => (blocks m c t).dqNext (dqAt m c n)) (pt_val ⟨n + 1, hn⟩))

/-! ### The proof data -/

/-- What the pipeline's arrays and blocks hold. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqAt m c t.val
    | ⟨8, _⟩ => (blocks m c t).dk
    | ⟨9, _⟩ => (blocks m c t).dv
  Φ _ := Pipeline.ΦA spec0 c
  q _ := fullShare
  owed _ := 0

theorem arr_start (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = dqAt m c t.val := by dsimp only [dats]
theorem after_8 (c : Dev nD) (t : Fin cfg0.N) : (dats m 0 c).after 8 t = (blocks m c t).dk := by dsimp only [dats]
theorem after_9 (c : Dev nD) (t : Fin cfg0.N) : (dats m 0 c).after 9 t = (blocks m c t).dv := by dsimp only [dats]

/-- An input's block is in place at every point, fetched there or left from the point before. -/
theorem before_of (c : Dev nD) (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hcut : ∀ t, (cfg0.win w).cut (cfg0.grid.coords t) ((dats m 0 c).after w t) = iblk m c w t) (t : Fin cfg0.N)
    (x : (cfg0.win w).block.Idx → Elt F (cfg0.win w).elt) (hx : ∀ d, (cfg0.win w).fill (cfg0.grid.coords t) d (iblk m c w t) = x) (d) :
    (dats m 0 c).before w t d = x :=
  ((dats m 0 c).before_in_eq_fetched w hw hlive hclip
    (fun t => by rw [hcut]; unfold Dat.blockOf iblk; rw [arr_start]) t d).trans
    ((by unfold Dat.fetched Dat.blockOf iblk; rw [arr_start] : (dats m 0 c).fetched w t d = (cfg0.win w).fill (cfg0.grid.coords t) d (iblk m c w t)).trans (hx d))

theorem before_0 (c : Dev nD) (t : Fin cfg0.N) (d) : (dats m 0 c).before 0 t d = (blocks m c t).q :=
  before_of m c 0 rfl (fun _ => rfl) (fun _ _ _ => rfl) (fun t => by rw [after_0]) t (blocks m c t).q (fun _ => rfl) d
theorem before_1 (c : Dev nD) (t : Fin cfg0.N) (d) : (dats m 0 c).before 1 t d = (blocks m c t).k :=
  before_of m c 1 rfl (fun _ => rfl) (fun _ _ _ => rfl) (fun t => by rw [after_1]) t (blocks m c t).k (fun _ => rfl) d
theorem before_2 (c : Dev nD) (t : Fin cfg0.N) (d) : (dats m 0 c).before 2 t d = (blocks m c t).kt :=
  before_of m c 2 rfl (fun _ => rfl) (fun _ _ _ => rfl) (fun t => by rw [after_2]) t (blocks m c t).kt (fun _ => rfl) d
theorem before_3 (c : Dev nD) (t : Fin cfg0.N) (d) : (dats m 0 c).before 3 t d = (blocks m c t).v :=
  before_of m c 3 rfl (fun _ => rfl) (fun _ _ _ => rfl) (fun t => by rw [after_3]) t (blocks m c t).v (fun _ => rfl) d
theorem before_4 (c : Dev nD) (t : Fin cfg0.N) (d) : (dats m 0 c).before 4 t d = (blocks m c t).dOut :=
  before_of m c 4 rfl (fun _ => rfl) (fun _ _ _ => rfl) (fun t => by rw [after_4]) t (blocks m c t).dOut (fun _ => rfl) d
theorem before_5 (c : Dev nD) (t : Fin cfg0.N) (d) : (dats m 0 c).before 5 t d = (blocks m c t).lse :=
  before_of m c 5 rfl (fun _ => rfl) (fun _ _ _ => rfl) (fun t => by rw [after_5]) t (blocks m c t).lse (fun _ => rfl) d
theorem before_6 (c : Dev nD) (t : Fin cfg0.N) (d) : (dats m 0 c).before 6 t d = (blocks m c t).dsum :=
  before_of m c 6 rfl (fun _ => rfl) (fun _ _ _ => rfl) (fun t => by rw [after_6]) t (blocks m c t).dsum (fun _ => rfl) d

/-! ### The query gradient's block over a head's key tiles -/

theorem cond_first : ∀ t : Fin cfg0.N, k0_cond1 (grid0.coords t) = 1#1 ↔ t.val % 8 = 0 :=
  (by decide +kernel : ∀ t : Fin grid0.N, k0_cond1 (grid0.coords t) = 1#1 ↔ t.val % 8 = 0)
theorem cond_next : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

theorem live_7 : ∀ t : Fin cfg0.N, cfg0.idle 7 (grid0.coords t) = false := by decide +kernel

/-- At the start of a head the block holds nothing yet. -/
def nothingYet : ℕ → Bool := fun n => n % 8 == 0
theorem nothingYet_step : ∀ t : Fin cfg0.N,
    nothingYet (t.val + 1) = ((cfg0.win 7).flush t || (cfg0.idle 7 (cfg0.grid.coords t) && nothingYet t.val)) := by decide +kernel
theorem fresh_7 (t : Fin cfg0.N) : cfg0.fresh 7 t.val = nothingYet t.val :=
  Pipeline.Cfg.fresh_tab cfg0 7 nothingYet rfl nothingYet_step t.val (Nat.le_of_lt t.isLt)

/-- At a later key tile the block holds what the tile before left. -/
theorem before_7 (c : Dev nD) (t : Fin cfg0.N) (h : ¬ t.val % 8 = 0) (d) : (dats m 0 c).before 7 t d = dqAt m c (t.val - 1) := by
  rw [Dat.before_out_traj _ 7 rfl (fun _ _ => rfl) (fun t _ hi _ => absurd (hi.symm.trans (live_7 t)) (by decide)) t.val t rfl d,
    if_neg (by rw [fresh_7]; simpa [nothingYet] using h)]
  dsimp only [dats]

/-! ### The body at a grid point -/

theorem leaves_0 (c : Dev nD) (t : Fin cfg0.N) : (dats m 0 c).leavesExact 0 t
    = owns (c : Thread nD τ) (win0_0.stage (cfg0.slots t 0)) fullShare ((blocks m c t).q) := by
  unfold Dat.leavesExact; rw [show cfg0.idle 0 (grid0.coords t) = false from rfl, after_0]; rfl
theorem leaves_1 (c : Dev nD) (t : Fin cfg0.N) : (dats m 0 c).leavesExact 1 t
    = owns (c : Thread nD τ) (win0_1.stage (cfg0.slots t 1)) fullShare ((blocks m c t).k) := by
  unfold Dat.leavesExact; rw [show cfg0.idle 1 (grid0.coords t) = false from rfl, after_1]; rfl
theorem leaves_2 (c : Dev nD) (t : Fin cfg0.N) : (dats m 0 c).leavesExact 2 t
    = owns (c : Thread nD τ) (win0_2.stage (cfg0.slots t 2)) fullShare ((blocks m c t).kt) := by
  unfold Dat.leavesExact; rw [show cfg0.idle 2 (grid0.coords t) = false from rfl, after_2]; rfl
theorem leaves_3 (c : Dev nD) (t : Fin cfg0.N) : (dats m 0 c).leavesExact 3 t
    = owns (c : Thread nD τ) (win0_3.stage (cfg0.slots t 3)) fullShare ((blocks m c t).v) := by
  unfold Dat.leavesExact; rw [show cfg0.idle 3 (grid0.coords t) = false from rfl, after_3]; rfl
theorem leaves_4 (c : Dev nD) (t : Fin cfg0.N) : (dats m 0 c).leavesExact 4 t
    = owns (c : Thread nD τ) (win0_4.stage (cfg0.slots t 4)) fullShare ((blocks m c t).dOut) := by
  unfold Dat.leavesExact; rw [show cfg0.idle 4 (grid0.coords t) = false from rfl, after_4]; rfl
theorem leaves_5 (c : Dev nD) (t : Fin cfg0.N) : (dats m 0 c).leavesExact 5 t
    = owns (c : Thread nD τ) (win0_5.stage (cfg0.slots t 5)) fullShare ((blocks m c t).lse) := by
  unfold Dat.leavesExact; rw [show cfg0.idle 5 (grid0.coords t) = false from rfl, after_5]; rfl
theorem leaves_6 (c : Dev nD) (t : Fin cfg0.N) : (dats m 0 c).leavesExact 6 t
    = owns (c : Thread nD τ) (win0_6.stage (cfg0.slots t 6)) fullShare ((blocks m c t).dsum) := by
  unfold Dat.leavesExact; rw [show cfg0.idle 6 (grid0.coords t) = false from rfl, after_6]; rfl
theorem leaves_7 (c : Dev nD) (t : Fin cfg0.N) : (dats m 0 c).leavesExact 7 t
    = owns (c : Thread nD τ) (win0_7.stage (cfg0.slots t 7)) fullShare (dqAt m c t.val) := by
  unfold Dat.leavesExact; rw [live_7, after_7]
theorem leaves_8 (c : Dev nD) (t : Fin cfg0.N) : (dats m 0 c).leavesExact 8 t
    = owns (c : Thread nD τ) (win0_8.stage (cfg0.slots t 8)) fullShare ((blocks m c t).dk) := by
  unfold Dat.leavesExact; rw [show cfg0.idle 8 (grid0.coords t) = false from rfl, after_8]
theorem leaves_9 (c : Dev nD) (t : Fin cfg0.N) : (dats m 0 c).leavesExact 9 t
    = owns (c : Thread nD τ) (win0_9.stage (cfg0.slots t 9)) fullShare ((blocks m c t).dv) := by
  unfold Dat.leavesExact; rw [show cfg0.idle 9 (grid0.coords t) = false from rfl, after_9]

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [leaves_0, leaves_1, leaves_2, leaves_3, leaves_4, leaves_5, leaves_6, leaves_7, leaves_8, leaves_9,
    show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body (blocks m c t) c (grid0.coords t) _ _ _ _ _ _ _ _ _ _ _ _ _ _ _ _ _ _ _ _ Set.univ ((dats m 0 c).before 7 t d7) (dqAt m c t.val)
    (by
      by_cases h : t.val % 8 = 0
      · exact Or.inl ⟨(cond_first t).mpr h, fun h' => (cond_next t).mp h' h, dqAt_first m c t h⟩
      · exact Or.inr ⟨fun h' => h ((cond_first t).mp h'), (cond_next t).mpr h, by rw [before_7 m c t h d7]; exact dqAt_next m c t h⟩)
    ((dats m 0 c).before 8 t d8) ((dats m 0 c).before 9 t d9) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_sound m c t) rfl .rfl fun _ => .rfl

/-! ### The run and the frame -/

set_option backward.isDefEq.respectTransparency.types false in
/-- The program's run: it ends, with every array of the pipeline as the proof data says and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := host_run m Variants.none) (hA := arr_start m) (hΦ := fun _ _ => rfl)

/-- The frame: the run ends with the arguments unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => by
    refine ⟨fun c => ?_, h.2⟩
    refine ⟨((h.1 c).2 main_arg0 (Pipeline.mem_restRefs_of main_arg0 (by decide) (by decide))).trans (host_untouched m c main_arg0 ?_),
      ((h.1 c).2 main_arg1 (Pipeline.mem_restRefs_of main_arg1 (by decide) (by decide))).trans (host_untouched m c main_arg1 ?_),
      ((h.1 c).2 main_arg2 (Pipeline.mem_restRefs_of main_arg2 (by decide) (by decide))).trans (host_untouched m c main_arg2 ?_),
      ((h.1 c).2 main_arg3 (Pipeline.mem_restRefs_of main_arg3 (by decide) (by decide))).trans (host_untouched m c main_arg3 ?_)⟩ <;>
    · simp only [hostOps0, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)) (run_main m ρ)

end Cert.AttnBackIdeal.Run
end
-- ==== Proof.AttnRuns.lean ====
/-
  The attention's gradient: the frames of the kernel, of its idealization and of the reference.  The
  kernel as it was written and its idealization have the same text but for one named constant, so the
  run of `AttnFrame`, read with that constant at its word, is the kernel's own run.
-/
module

public import proofs.«01_k».proof.Defs
public import proofs.«01_k».proof.Proof.AttnFrame
public import proofs.«01_k».proof.Proof.Gen.AttnBack
public import proofs.«01_k».proof.Proof.Gen.AttnRefIdeal
public import proofs.«01_k».proof.Proof.Gen.AttnRefIdeal.Run

@[expose] public section

set_option maxRecDepth 16384

noncomputable section

namespace Cert.Proof.Attn

open Idealize.ShloMosaic Idealize.ShloMosaic.TcCoe Idealize.SL.Sem

/-- The named constant read as the word it was written with. -/
abbrev asWritten : Named Bits := ⟨fun _ _ {φ} w => FloatOps.ofBits φ w⟩

/-- The kernel ends, with its arguments unchanged and its semaphores at zero. -/
theorem frame : Cert.quiescent_AttnBack := fun m ρ _ => by
  refine Eq.mp ?_ (@Cert.AttnBackIdeal.Run.frame Bits _ asWritten m ρ)
  sl_kernel_rfl

/-- So does its idealization. -/
theorem frame_ideal : Cert.quiescent_AttnBackIdeal := fun m ρ _ => Cert.AttnBackIdeal.Run.frame m ρ

/-- So does the reference. -/
theorem frame_ref : Cert.quiescent_AttnRefIdeal := fun m g _ =>
  (θ_run Cert.AttnRefIdeal.defs _ _).mono (fun r h => ⟨fun c => (h c).2.2.2, sem_eq_zero_of_no_sems (by decide) r.2⟩)
    (Cert.AttnRefIdeal.Value.run (F := Ideal) m g)

end Cert.Proof.Attn
end
-- ==== Proof.AttnMath.lean ====
/-
  The gradient of softmax attention over the reals, one head: scores, weights, and the three gradients, with the
  two ways of writing the weights and their derivative that the programs use.
-/
module

public import Idealize.ShloMosaic.Lib.Pipeline.ValueKit

@[expose] public section

noncomputable section

open Idealize.ShloMosaic

namespace Cert.Attention

/-- A finite sum of reals is the sum of the same numbers as extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The greatest along an axis of an array of reals, started from `-∞`, is a real. -/
theorem reduce_max_real {s t u : Shape} {a : Fin s.rank} (x : FVec Ideal s .f32) (init : FVec Ideal u .f32)
    (h' : s.ReducesTo [a] t) (h : s.Reduces [a] t) (hu : 0 < u.numel) (j : t.Idx)
    (hx : ∀ i, ∃ r : ℝ, x i = (r : EReal)) (hinit : init (Shape.Idx.first hu) = (⊥ : EReal)) (k₀ : Fin (s.size a)) :
    ∃ r : ℝ, Host.reduce FloatOps.maximumf x init h' hu j = (r : EReal) := by
  choose f hf using hx
  rw [Host.reduce_eq_fold_single FloatOps.maximumf x init h' h hu j, hinit]
  have e : Finset.univ.fold (FloatOps.maximumf (F := Ideal) (φ := .f32)) (⊥ : EReal) (x ∘ h.lift j)
      = Finset.univ.sup (fun k => (f (h.lift j k) : EReal)) := by
    rw [show x ∘ h.lift j = fun k => (f (h.lift j k) : EReal) from funext fun k => hf _]
    rfl
  obtain ⟨k, -, hk⟩ := Finset.exists_mem_eq_sup Finset.univ ⟨k₀, Finset.mem_univ _⟩ (fun k => (f (h.lift j k) : EReal))
  exact ⟨f (h.lift j k), e.trans hk⟩

/-- The scale of the scores, the stored word as a rational. -/
def scale : ℝ := 4843165 / 67108864

/-- The logarithm of two, as the programs take it. -/
theorem log_two : Ideal.log ((2 : ℝ) : EReal) = ((Real.log 2 : ℝ) : EReal) := by
  rw [Ideal.log_coe, if_neg (by norm_num)]

theorem scale_word_ne : (4843165 / 67108864 : ℝ) ≠ 0 := by norm_num

theorem scale_ne : scale ≠ 0 := by norm_num [scale]

variable (q k : Fin 8192 → Fin 192 → ℝ) (v g : Fin 8192 → Fin 128 → ℝ)

/-- The score of a query against a key. -/
def score (i j : Fin 8192) : ℝ := ∑ d, q i d * k j d

/-- The exponential of the scaled score. -/
def expo (i j : Fin 8192) : ℝ := Real.exp (score q k i j * scale)

/-- The softmax denominator of a query. -/
def total (i : Fin 8192) : ℝ := ∑ j, expo q k i j

/-- The softmax weight. -/
def weight (i j : Fin 8192) : ℝ := expo q k i j / total q k i

/-- The gradient that reaches a weight. -/
def dweight (i j : Fin 8192) : ℝ := ∑ e, g i e * v j e

/-- The weighted mean of a query's weight gradients. -/
def mean (i : Fin 8192) : ℝ := ∑ j, weight q k i j * dweight v g i j

/-- The gradient that reaches a scaled score. -/
def slope (i j : Fin 8192) : ℝ := weight q k i j * (dweight v g i j - mean q k v g i)

/-- Where entry `e` of head `h` stands when the heads lie side by side. -/
def col (h : Fin 8) (e : Fin 128) : Fin 1024 := ⟨h.val * 128 + e.val, by omega⟩

/-- Row `x` of half `p`. -/
def row (p : Fin 2) (x : Fin 4096) : Fin 8192 := ⟨p.val * 4096 + x.val, by omega⟩

/-- The query gradient in the unit that the kernel keeps it in. -/
def gradQ (i : Fin 8192) (d : Fin 192) : ℝ := (∑ j, slope q k v g i j * k j d) * Real.log 2

/-- The key gradient. -/
def gradK (j : Fin 8192) (d : Fin 192) : ℝ := ∑ i, slope q k v g i j * scale * q i d

/-- The value gradient. -/
def gradV (j : Fin 8192) (e : Fin 128) : ℝ := ∑ i, weight q k i j * g i e

theorem expo_pos (i j : Fin 8192) : 0 < expo q k i j := Real.exp_pos _

theorem total_pos (i : Fin 8192) : 0 < total q k i :=
  Finset.sum_pos (fun j _ => expo_pos q k i j) Finset.univ_nonempty

/-- An exponential taken after any shift of the scores. -/
theorem exp_shift (m : ℝ) (i j : Fin 8192) : Real.exp (score q k i j * scale - m) = expo q k i j * Real.exp (-m) := by
  rw [sub_eq_add_neg, Real.exp_add, expo]

/-- The denominator after any shift. -/
theorem total_shift (m : ℝ) (i : Fin 8192) :
    ∑ j, Real.exp (score q k i j * scale - m) = total q k i * Real.exp (-m) := by
  simp only [exp_shift, total, Finset.sum_mul]

theorem total_shift_ne (m : ℝ) (i : Fin 8192) : ∑ j, Real.exp (score q k i j * scale - m) ≠ 0 := by
  rw [total_shift]
  exact (mul_pos (total_pos q k i) (Real.exp_pos _)).ne'

theorem total_shift_pos (m : ℝ) (i : Fin 8192) : 0 < ∑ j, Real.exp (score q k i j * scale - m) := by
  rw [total_shift]
  exact mul_pos (total_pos q k i) (Real.exp_pos _)

/-- The weight does not depend on the shift. -/
theorem weight_shift (m : ℝ) (i j : Fin 8192) :
    Real.exp (score q k i j * scale - m) * (1 / ∑ j', Real.exp (score q k i j' * scale - m)) = weight q k i j := by
  rw [exp_shift, total_shift, weight]
  have := (total_pos q k i).ne'
  have := (Real.exp_pos (-m)).ne'
  field_simp

/-- The derivative of the quotient, written out with the squared denominator. -/
theorem slope_shift (m : ℝ) (i j : Fin 8192) :
    (dweight v g i j * (1 / ∑ j', Real.exp (score q k i j' * scale - m))
      + -∑ j', dweight v g i j' * (1 / ((∑ l, Real.exp (score q k i l * scale - m)) * ∑ l, Real.exp (score q k i l * scale - m)))
          * Real.exp (score q k i j' * scale - m))
        * Real.exp (score q k i j * scale - m) = slope q k v g i j := by
  rw [total_shift, slope, mean]
  simp only [exp_shift, weight]
  have h1 := (total_pos q k i).ne'
  have h2 := (Real.exp_pos (-m)).ne'
  have e : ∑ j', dweight v g i j' * (1 / (total q k i * Real.exp (-m) * (total q k i * Real.exp (-m)))) * (expo q k i j' * Real.exp (-m))
      = (∑ j', expo q k i j' / total q k i * dweight v g i j') * (1 / (total q k i * Real.exp (-m))) := by
    rw [Finset.sum_mul]
    refine Finset.sum_congr rfl fun j' _ => ?_
    field_simp
  rw [e]
  field_simp
  ring

/-- The score of the rescaled query. -/
theorem score_rescaled (i j : Fin 8192) :
    ∑ d, q i d * (scale / Real.log 2) * k j d = score q k i j * scale / Real.log 2 := by
  rw [score, Finset.sum_mul, Finset.sum_div]
  exact Finset.sum_congr rfl fun d _ => by ring

theorem log_two_ne : Real.log 2 ≠ 0 := (Real.log_pos (by norm_num)).ne'

/-- A base-two exponential of a rescaled score, after any shift. -/
theorem exp_rescaled (m : ℝ) (i j : Fin 8192) :
    Real.exp ((score q k i j * scale / Real.log 2 - m) * Real.log 2) = Real.exp (score q k i j * scale - m * Real.log 2) := by
  congr 1
  have := log_two_ne
  field_simp

/-- The weight from the saved log-sum in base two. -/
theorem weight_saved (m : ℝ) (i j : Fin 8192) :
    Real.rpow 2 (score q k i j * scale / Real.log 2
      - (m + Real.log (∑ j', Real.exp (score q k i j' * scale - m * Real.log 2)) * (1 / Real.log 2))) = weight q k i j := by
  change (2 : ℝ) ^ (_ : ℝ) = _
  rw [Real.rpow_def_of_pos (by norm_num), total_shift,
    Real.log_mul (total_pos q k i).ne' (Real.exp_pos _).ne', Real.log_exp]
  have h := log_two_ne
  have e : Real.log 2 * (score q k i j * scale / Real.log 2 - (m + (Real.log (total q k i) + -(m * Real.log 2)) * (1 / Real.log 2)))
      = score q k i j * scale - Real.log (total q k i) := by
    field_simp
    ring
  rw [e, Real.exp_sub, Real.exp_log (total_pos q k i), weight, expo]

/-- The saved row sum: the output against its gradient is the weighted mean of the weight gradients. -/
theorem mean_saved (i : Fin 8192) :
    ∑ e, g i e * (∑ j, weight q k i j * v j e) = mean q k v g i := by
  simp only [mean, dweight, Finset.mul_sum]
  rw [Finset.sum_comm]
  exact Finset.sum_congr rfl fun j _ => Finset.sum_congr rfl fun e _ => by ring

/-- The output of a query, the sum divided at the end. -/
theorem out_shift (m : ℝ) (i : Fin 8192) (e : Fin 128) :
    (∑ j, Real.exp (score q k i j * scale - m) * v j e) * (1 / ∑ j', Real.exp (score q k i j' * scale - m))
      = ∑ j, weight q k i j * v j e := by
  rw [Finset.sum_mul]
  refine Finset.sum_congr rfl fun j _ => ?_
  rw [← weight_shift q k m i j]
  ring

end Cert.Attention

end
-- ==== Proof.AttnBlock.lean ====
/-
  The attention gradient's body, one grid point, read at an index on finite blocks: what it leaves is the key tile's
  part of the query gradient and the whole key and value gradients of the tile, as in `AttnMath`.
-/
module

public import proofs.«01_k».proof.Proof.AttnBody
public import proofs.«01_k».proof.Proof.AttnMath

@[expose] public section

set_option maxRecDepth 16384

noncomputable section

open Idealize.ShloMosaic Idealize.ShloMosaic.TcCoe Idealize.SL.Sem

namespace Cert.AttnBackIdeal.Block

open Cert.AttnBackIdeal Cert.AttnBackIdeal.Gen Cert.AttnBackIdeal.Body
open Cert.Attention

theorem trip_lt (p : Trip) : p.val < 2 := p.isLt.trans_eq trips_eq

/-- A query by its half and its place there. -/
abbrev query (p : Trip) (x : Fin 4096) : Fin 8192 := ⟨p.val * 4096 + x.val, by have := trip_lt p; omega⟩

/-- The blocks of one grid point hold one head's finite arrays: the rescaled queries, the keys and values of the
    tile `κ`, the output's gradient, the base-two log-sums and the row sums. -/
structure Meets (b : Blocks Ideal) (q k : Fin 8192 → Fin 192 → ℝ) (v g : Fin 8192 → Fin 128 → ℝ)
    (κ : Fin 1024 → Fin 8192) (m : Fin 8192 → ℝ) : Prop where
  q_at : ∀ i d, b.q (ix3 0 i d) = ((q i d * (scale / Real.log 2) : ℝ) : EReal)
  k_at : ∀ r d, b.k (ix3 0 r d) = (k (κ r) d : EReal)
  kt_at : ∀ d r, b.kt (ix4 0 0 d r) = (k (κ r) d : EReal)
  v_at : ∀ r e, b.v (ix3 0 r e) = (v (κ r) e : EReal)
  dOut_at : ∀ i e, b.dOut (ix2 i e) = (g i e : EReal)
  lse_at : ∀ (p : Fin 2) (x : Fin 4096), b.lse (ix4 0 p 0 x) = ((m ⟨p.val * 4096 + x.val, by omega⟩
    + Real.log (∑ j, Real.exp (score q k ⟨p.val * 4096 + x.val, by omega⟩ j * scale - m ⟨p.val * 4096 + x.val, by omega⟩ * Real.log 2))
      * (1 / Real.log 2) : ℝ) : EReal)
  dsum_at : ∀ (p : Fin 2) (x : Fin 4096), b.dsum (ix4 0 p 0 x) = ((mean q k v g ⟨p.val * 4096 + x.val, by omega⟩ : ℝ) : EReal)

theorem off1_eq : ∀ p : Trip, k0_off1 p = ![0, p.val * 4096, 0] := by decide
theorem off2_eq : ∀ p : Trip, k0_off2 p = ![p.val * 4096, 0] := by decide
theorem off3_eq : ∀ p : Trip, k0_off3 p = ![0, p.val, 0, 0] := by decide

theorem qAt_apply (b : Blocks Ideal) (p : Trip) (x : Fin 4096) (d : Fin 192) : b.qAt p (ix3 0 x d) = b.q (ix3 0 (query p x) d) := by
  refine View.ld_unit_apply_of b.q (k0_off1 p) S1x4096x192.size (k0_off1_inb p) (ix3 0 x d) _ fun a => ?_
  rw [congrFun (off1_eq p) a]
  fin_cases a <;> simp [ix3]

theorem dOutAt_apply (b : Blocks Ideal) (p : Trip) (x : Fin 4096) (e : Fin 128) : b.dOutAt p (ix2 x e) = b.dOut (ix2 (query p x) e) := by
  refine View.ld_unit_apply_of b.dOut (k0_off2 p) S4096x128.size (k0_off2_inb p) (ix2 x e) _ fun a => ?_
  rw [congrFun (off2_eq p) a]
  fin_cases a <;> simp [ix2]

theorem lseAt_apply (b : Blocks Ideal) (p : Trip) (x : Fin 4096) :
    b.lseAt p (ix4 0 0 0 x) = b.lse (ix4 0 ⟨p.val, trip_lt p⟩ 0 x) := by
  refine View.ld_unit_apply_of b.lse (k0_off3 p) S1x1x1x4096.size (k0_off3_inb p) (ix4 0 0 0 x) _ fun a => ?_
  rw [congrFun (off3_eq p) a]
  fin_cases a <;> simp [ix4]

theorem dsumAt_apply (b : Blocks Ideal) (p : Trip) (x : Fin 4096) :
    b.dsumAt p (ix4 0 0 0 x) = b.dsum (ix4 0 ⟨p.val, trip_lt p⟩ 0 x) := by
  refine View.ld_unit_apply_of b.dsum (k0_off3 p) S1x1x1x4096.size (k0_off3_inb p) (ix4 0 0 0 x) _ fun a => ?_
  rw [congrFun (off3_eq p) a]
  fin_cases a <;> simp [ix4]

/-- The named constant is the logarithm of two. -/
theorem ln2 : (Named.named κ "ln2" 0x3F317218#32 : Ideal .f32) = ((Real.log 2 : ℝ) : EReal) := rfl

variable {b : Blocks Ideal} {q k : Fin 8192 → Fin 192 → ℝ} {v g : Fin 8192 → Fin 128 → ℝ} {κ : Fin 1024 → Fin 8192} {m : Fin 8192 → ℝ}
variable (hb : Meets b q k v g κ m)

include hb in
theorem weight_apply (p : Trip) (r : Fin 1024) (x : Fin 4096) :
    k0_pay10 (k0_pay1 b.k) (b.qAt p) (b.lseAt p) (ix2 r x) = ((weight q k (query p x) (κ r) : ℝ) : EReal) := by
  pointwise [k0_pay10, k0_pay1, k0_pay8]
  show Ideal.exp2 _ = _
  simp only [qAt_apply, lseAt_apply, hb.q_at, hb.k_at, hb.lse_at, ← EReal.coe_mul, ← coe_sum, ← EReal.coe_sub, Ideal.exp2_coe]
  rw [← weight_saved q k (m (query p x)), ← score_rescaled]
  simp only [mul_comm, mul_assoc, mul_left_comm]

include hb in
theorem slope_apply (p : Trip) (r : Fin 1024) (x : Fin 4096) :
    k0_pay11 (k0_pay1 b.k) (k0_pay3 b.v) (b.qAt p) (b.dOutAt p) (b.lseAt p) (b.dsumAt p) (ix2 r x)
      = ((slope q k v g (query p x) (κ r) * Real.log 2 : ℝ) : EReal) := by
  pointwise [k0_pay11, k0_pay3, k0_pay9, weight_apply hb p r x]
  simp only [dOutAt_apply, dsumAt_apply, hb.v_at, hb.dOut_at, hb.dsum_at, ln2, ← EReal.coe_mul, ← coe_sum, ← EReal.coe_sub,
    Attention.slope, dweight]
  simp only [mul_comm]

/-- A key tile's part of the query gradient. -/
def tileQ (q k : Fin 8192 → Fin 192 → ℝ) (v g : Fin 8192 → Fin 128 → ℝ) (κ : Fin 1024 → Fin 8192) (i : Fin 8192) (d : Fin 192) : ℝ :=
  ∑ r : Fin 1024, slope q k v g i (κ r) * k (κ r) d * Real.log 2

include hb in
theorem part_apply (p : Trip) (d : Fin 192) (x : Fin 4096) :
    k0_pay14 (k0_pay1 b.k) (k0_pay2 b.kt) (k0_pay3 b.v) (b.qAt p) (b.dOutAt p) (b.lseAt p) (b.dsumAt p) (ix2 d x)
      = ((tileQ q k v g κ (query p x) d : ℝ) : EReal) := by
  pointwise [k0_pay14, k0_pay2]
  simp only [slope_apply hb, hb.kt_at, ← EReal.coe_mul, ← coe_sum, tileQ]
  congr 1
  exact Finset.sum_congr rfl fun r _ => by ring

include hb in
/-- The query gradient's block after the first key tile. -/
theorem dqFirst_apply (p : Fin 2) (d : Fin 192) (x : Fin 4096) :
    b.dqFirst (ix4 0 p d x) = ((tileQ q k v g κ ⟨p.val * 4096 + x.val, by omega⟩ d : ℝ) : EReal) := by
  show b.fresh ⟨p.val, _⟩ (ix4 0 0 d x) = _
  refine Eq.trans ?_ (part_apply hb ⟨p.val, p.isLt.trans_eq trips_eq.symm⟩ d x)
  pointwise! [Blocks.fresh, k0_pay15]

include hb in
/-- The query gradient's block after a later key tile. -/
theorem dqNext_apply (old : Vec Ideal S1x2x192x4096 .f32) (p : Fin 2) (d : Fin 192) (x : Fin 4096) :
    b.dqNext old (ix4 0 p d x) = old (ix4 0 p d x) + ((tileQ q k v g κ ⟨p.val * 4096 + x.val, by omega⟩ d : ℝ) : EReal) := by
  show b.added old ⟨p.val, _⟩ (ix4 0 0 d x) = _
  rw [← part_apply hb ⟨p.val, p.isLt.trans_eq trips_eq.symm⟩ d x]
  have e : View.ld old (Rect.unit (s := S1x2x192x4096) (k0_off5 ⟨p.val, p.isLt.trans_eq trips_eq.symm⟩) S1x1x192x4096.size (inb5 _)) (ix4 0 0 d x)
      = old (ix4 0 p d x) := by
    refine View.ld_unit_apply_of old _ _ _ _ _ fun a => ?_
    rw [congrFun (off5_eq _) a]
    fin_cases a <;> simp [ix4]
  rw [← e]
  pointwise! [Blocks.added, k0_pay16]

include hb in
theorem step_k_apply (p : Trip) (acc : FVec Ideal S1024x192 .f32 × FVec Ideal S1024x128 .f32) (r : Fin 1024) (d : Fin 192) :
    (b.step p acc).1 (ix2 r d)
      = acc.1 (ix2 r d) + ((∑ x : Fin 4096, slope q k v g (query p x) (κ r) * scale * q (query p x) d : ℝ) : EReal) := by
  pointwise [Blocks.step, k0_pay13, k0_pay8]
  simp only [slope_apply hb, qAt_apply, hb.q_at, ← EReal.coe_mul, ← coe_sum]
  congr 2
  refine Finset.sum_congr rfl fun x _ => ?_
  have := log_two_ne
  field_simp

include hb in
theorem step_v_apply (p : Trip) (acc : FVec Ideal S1024x192 .f32 × FVec Ideal S1024x128 .f32) (r : Fin 1024) (e : Fin 128) :
    (b.step p acc).2 (ix2 r e)
      = acc.2 (ix2 r e) + ((∑ x : Fin 4096, weight q k (query p x) (κ r) * g (query p x) e : ℝ) : EReal) := by
  pointwise [Blocks.step, k0_pay12, k0_pay9]
  simp only [weight_apply hb, dOutAt_apply, hb.dOut_at, ← EReal.coe_mul, ← coe_sum]

/-- A sum over all queries, half by half. -/
theorem sum_halves (f : Fin 8192 → ℝ) : ∑ i, f i = (∑ x, f (query first x)) + ∑ x, f (query second x) := by
  have e : ∑ i : Fin (4096 + 4096), f (Fin.cast (by norm_num) i) = ∑ i, f i := by
    exact Fintype.sum_equiv (finCongr (by norm_num)) _ _ fun i => rfl
  rw [← e, Fin.sum_univ_add]
  refine congrArg₂ (· + ·) (Finset.sum_congr rfl fun x _ => congrArg f (Fin.ext ?_)) (Finset.sum_congr rfl fun x _ => congrArg f (Fin.ext ?_))
  · simp [query]
  · simp [query, Nat.add_comm]

include hb in
/-- The key gradient's block. -/
theorem dk_apply (r : Fin 1024) (d : Fin 192) : b.dk (ix3 0 r d) = ((gradK q k v g (κ r) d : ℝ) : EReal) := by
  have e : b.dk (ix3 0 r d) = b.carried.1 (ix2 r d) := by pointwise! [Blocks.dk, k0_pay6]
  rw [e, Blocks.carried, step_k_apply hb, step_k_apply hb, gradK, sum_halves, EReal.coe_add]
  congr 1
  have z : (k0_pay4 : FVec Ideal S1024x192 .f32) (ix2 r d) = 0 := by pointwise [k0_pay4]
  rw [show (k0_pay4 (F := Ideal), k0_pay5 (F := Ideal)).1 (ix2 r d) = 0 from z, zero_add]

include hb in
/-- The value gradient's block. -/
theorem dv_apply (r : Fin 1024) (e : Fin 128) : b.dv (ix3 0 r e) = ((gradV q k g (κ r) e : ℝ) : EReal) := by
  have e' : b.dv (ix3 0 r e) = b.carried.2 (ix2 r e) := by pointwise! [Blocks.dv, k0_pay7]
  rw [e', Blocks.carried, step_v_apply hb, step_v_apply hb, gradV, sum_halves, EReal.coe_add]
  congr 1
  have z : (k0_pay5 : FVec Ideal S1024x128 .f32) (ix2 r e) = 0 := by pointwise [k0_pay5]
  rw [show (k0_pay4 (F := Ideal), k0_pay5 (F := Ideal)).2 (ix2 r e) = 0 from z, zero_add]

end Cert.AttnBackIdeal.Block
end
-- ==== Proof.AttnHost.lean ====
/-
  The attention gradient, the forward lines that the host computes before the call: for finite arrays the base-two
  log-sums and the row sums of the output against its gradient are real numbers in closed form.
-/
module

public import proofs.«01_k».proof.Proof.AttnFrame
public import proofs.«01_k».proof.Proof.AttnBlock
public import proofs.«01_k».proof.Proof.Consts

@[expose] public section

set_option maxRecDepth 16384

noncomputable section

open Idealize.ShloMosaic Idealize.ShloMosaic.TcCoe Idealize.SL.Sem
open Idealize.ShloMosaic.Pipeline (Dat)

namespace Cert.AttnBackIdeal.Arrays

open Cert.AttnBackIdeal Cert.AttnBackIdeal.Gen Cert.AttnBackIdeal.Body Cert.AttnBackIdeal.Run Cert.AttnBackIdeal.Block
open Cert.Attention

variable (m : (ℓ : Loc nD τ sig) → Buf (Elt Ideal) ℓ) (c : Dev nD)

/-- The queries. -/
abbrev Q : FVec Ideal S8x8192x192 .f32 := m ((c : Thread nD τ).loc main_arg0)
/-- The keys. -/
abbrev K : FVec Ideal S8x8192x192 .f32 := m ((c : Thread nD τ).loc main_arg1)
/-- The values. -/
abbrev W : FVec Ideal S8x8192x128 .f32 := m ((c : Thread nD τ).loc main_arg2)
/-- The output's gradient, all heads side by side. -/
abbrev DO : FVec Ideal S8192x1024 .f32 := m ((c : Thread nD τ).loc main_arg3)

variable (q k : Fin 8 → Fin 8192 → Fin 192 → ℝ) (v g : Fin 8 → Fin 8192 → Fin 128 → ℝ)
variable (hq : ∀ h i d, Q m c (ix3 h i d) = (q h i d : EReal)) (hk : ∀ h i d, K m c (ix3 h i d) = (k h i d : EReal))
  (hv : ∀ h i e, W m c (ix3 h i e) = (v h i e : EReal))
  (hg : ∀ (h : Fin 8) i (e : Fin 128), DO m c (ix2 i (col h e)) = (g h i e : EReal))

/-- The scale in base two, as the host takes it. -/
abbrev unit : FVec Ideal S_ .f32 := Host.divf (constant S_ .f32 0x3D93CD3A#32) (Host.log (constant S_ .f32 0x40000000#32))

theorem unit_eq (z : S_.Idx) : unit z = ((scale / Real.log 2 : ℝ) : EReal) := by
  show Ideal.div (Ideal.ofBits .f32 0x3D93CD3A#32) (Ideal.log (Ideal.ofBits .f32 0x40000000#32)) = _
  rw [Consts.attn_scale, Consts.two, log_two, Ideal.div_coe log_two_ne, ← EReal.coe_mul, scale, mul_one_div]

/-- The scores in base two, all heads. -/
def scores : FVec Ideal S8x8192x8192 .f32 :=
  Host.dotGeneral dot_S8x8192x192_S8x8192x192_S8x8192x8192_2_2_1_1_0_0 none
    (mulf (Q m c) (broadcastInDim S8x8192x192 ![] bcast_S_S8x8192x192 unit)) (K m c)

/-- The greatest score of each query. -/
def top : FVec Ideal S8x8192 .f32 :=
  Host.reduce FloatOps.maximumf (scores m c) (constant S_ .f32 0xFF800000#32) reducesTo_S8x8192x8192_S8x8192_d2 h_S_

/-- The exponentials of the scores less the greatest. -/
def expos : FVec Ideal S8x8192x8192 .f32 :=
  Host.exp (mulf (subf (scores m c) (broadcastInDim S8x8192x8192 ![0, 1, 2] bcast_S8x8192x1_S8x8192x8192_0_1_2
      (broadcastInDim S8x8192x1 ![0, 1] bcast_S8x8192_S8x8192x1_0_1 (top m c))))
    (broadcastInDim S8x8192x8192 ![] bcast_S_S8x8192x8192 (Host.log (constant S_ .f32 0x40000000#32))))

/-- Their sums. -/
def sums : FVec Ideal S8x8192 .f32 :=
  Host.reduceAdd (expos m c) (constant S_ .f32 0x00000000#32) reducesTo_S8x8192x8192_S8x8192_d2 h_S_

/-- The forward output, head by head. -/
def outs : FVec Ideal S8x8192x128 .f32 :=
  Host.divf (Host.dotGeneral dot_S8x8192x8192_S8x8192x128_S8x8192x128_2_1_1_2_0_0 none (expos m c) (W m c))
    (broadcastInDim S8x8192x128 ![0, 1, 2] bcast_S8x8192x1_S8x8192x128_0_1_2
      (broadcastInDim S8x8192x1 ![0, 1] bcast_S8x8192_S8x8192x1_0_1 (sums m c)))

/-- The base-two log-sums. -/
def lses : FVec Ideal S8x8192 .f32 :=
  addf (top m c) (Host.divf (Host.log (sums m c)) (broadcastInDim S8x8192 ![] bcast_S_S8x8192 (Host.log (constant S_ .f32 0x40000000#32))))

/-- The row sums of the output against its gradient. -/
def dsums : FVec Ideal S8x8192 .f32 :=
  Host.reduceAdd (mulf (transpose S8x8192x128 [1, 0, 2] (shapeCast S8192x8x128 (DO m c) shapeCasts_S8192x1024_S8192x8x128)
      transposes_S8192x8x128_S8x8192x128_1_0_2) (outs m c)) (constant S_ .f32 0x00000000#32) reducesTo_S8x8192x128_S8x8192_d2 h_S_

/-- One entry of a base-two log-sum, for any greatest scores and sums. -/
theorem lse_at (x s : FVec Ideal S8x8192 .f32) (j : S8x8192.Idx) :
    addf x (Host.divf (Host.log s) (broadcastInDim S8x8192 ![] bcast_S_S8x8192 (Host.log (constant S_ .f32 0x40000000#32)))) j
      = x j + Ideal.div (Ideal.log (s j)) (Ideal.log (Ideal.ofBits .f32 0x40000000#32)) := rfl

include hq hk in
theorem scores_apply (h : Fin 8) (i j : Fin 8192) :
    scores m c (ix3 h i j) = ((score (q h) (k h) i j * scale / Real.log 2 : ℝ) : EReal) := by
  rw [← score_rescaled]
  simp only [EReal.coe_mul, coe_sum]
  unfold scores
  generalize hu : unit = u
  pointwise []
  simp only [hq, hk, ← hu, unit_eq]

include hq hk in
theorem top_apply : ∃ M : Fin 8 → Fin 8192 → ℝ, ∀ h i, top m c (ix2 h i) = (M h i : EReal) := by
  have := fun h i => reduce_max_real (scores m c) (constant S_ .f32 0xFF800000#32)
    reducesTo_S8x8192x8192_S8x8192_d2 (by decide) h_S_ (ix2 h i)
    (fun y => ⟨_, (congrArg _ (eq_ix3 y)).trans (scores_apply m c q k hq hk (y 0) (y 1) (y 2))⟩) Consts.minus_inf ⟨0, by decide⟩
  choose M hM using this
  exact ⟨M, hM⟩

variable (M : Fin 8 → Fin 8192 → ℝ) (hM : ∀ h i, top m c (ix2 h i) = (M h i : EReal))

include hq hk hM in
theorem expos_apply (h : Fin 8) (i j : Fin 8192) : expos m c (ix3 h i j)
    = ((Real.exp (score (q h) (k h) i j * scale - M h i * Real.log 2) : ℝ) : EReal) := by
  rw [← exp_rescaled]
  pointwise [expos]
  rw [scores_apply m c q k hq hk, hM, Consts.two, log_two, ← EReal.coe_sub, ← EReal.coe_mul, Ideal.exp_coe]

include hq hk hM in
theorem sums_apply (h : Fin 8) (i : Fin 8192) : sums m c (ix2 h i)
    = ((∑ j, Real.exp (score (q h) (k h) i j * scale - M h i * Real.log 2) : ℝ) : EReal) := by
  pointwise [sums]
  simp only [expos_apply m c q k hq hk M hM, coe_sum]

include hq hk hv hM in
theorem outs_apply (h : Fin 8) (i : Fin 8192) (e : Fin 128) : outs m c (ix3 h i e)
    = ((∑ j, weight (q h) (k h) i j * v h j e : ℝ) : EReal) := by
  rw [← out_shift _ _ _ (M h i * Real.log 2)]
  pointwise [outs]
  simp only [expos_apply m c q k hq hk M hM, sums_apply m c q k hq hk M hM, hv, ← EReal.coe_mul, ← coe_sum,
    Ideal.div_coe (total_shift_ne _ _ _ _)]

include hq hk hM in
theorem lses_apply (h : Fin 8) (i : Fin 8192) : lses m c (ix2 h i) = ((M h i
    + Real.log (∑ j, Real.exp (score (q h) (k h) i j * scale - M h i * Real.log 2)) * (1 / Real.log 2) : ℝ) : EReal) := by
  unfold lses
  rw [lse_at, hM, sums_apply m c q k hq hk M hM, Consts.two, log_two, Ideal.log_coe, if_neg (not_le.mpr (total_shift_pos _ _ _ _)),
    Ideal.div_coe log_two_ne, ← EReal.coe_mul, ← EReal.coe_add]

include hq hk hv hg hM in
theorem dsums_apply (h : Fin 8) (i : Fin 8192) : dsums m c (ix2 h i) = ((mean (q h) (k h) (v h) (g h) i : ℝ) : EReal) := by
  rw [← mean_saved]
  have hg' : ∀ (e : Fin 128) (b : h.val * 128 + e.val < 1024), DO m c (ix2 i ⟨h.val * 128 + e.val, b⟩) = (g h i e : EReal) :=
    fun e _ => hg h i e
  pointwise [dsums]
  simp only [hg', outs_apply m c q k v hq hk hv M hM, ← EReal.coe_mul, ← coe_sum]

/-- The log-sums that the call receives. -/
theorem entry_lse : StableHlo.after hostOps0 (fun b => m (c, b)) (main_v21 : DevRef τ sig)
    = shapeCast S8x2x1x4096 (lses m c) shapeCasts_S8x8192_S8x2x1x4096 := by
  entry_read
  rfl

/-- The row sums that the call receives. -/
theorem entry_dsum : StableHlo.after hostOps0 (fun b => m (c, b)) (main_v26 : DevRef τ sig)
    = shapeCast S8x2x1x4096 (dsums m c) shapeCasts_S8x8192_S8x2x1x4096 := by
  entry_read
  rfl

/-- One entry of either, after the reshape. -/
theorem reshaped_at (y : FVec Ideal S8x8192 .f32) (h : Fin 8) (p : Fin 2) (x : Fin 4096) :
    shapeCast S8x2x1x4096 y shapeCasts_S8x8192_S8x2x1x4096 (ix4 h p 0 x) = y (ix2 h (row p x)) := by
  pointwise! [row]

end Cert.AttnBackIdeal.Arrays
end
-- ==== Proof.AttnArray.lean ====
/-
  The attention gradient, the arrays: the blocks that a grid point finds hold one head's finite arrays and the
  statistics of the forward lines, and the three results after the run are the gradients of `AttnMath`.
-/
module

public import proofs.«01_k».proof.Proof.AttnHost

@[expose] public section

set_option maxRecDepth 16384

noncomputable section

open Idealize.ShloMosaic Idealize.ShloMosaic.TcCoe Idealize.SL.Sem
open Idealize.ShloMosaic.Pipeline (Dat)

namespace Cert.AttnBackIdeal.Arrays

open Cert.AttnBackIdeal Cert.AttnBackIdeal.Gen Cert.AttnBackIdeal.Body Cert.AttnBackIdeal.Run Cert.AttnBackIdeal.Block
open Cert.Attention

variable (m : (ℓ : Loc nD τ sig) → Buf (Elt Ideal) ℓ) (c : Dev nD)

/-- Where each window's block stands at point `t`. -/
theorem idx : ∀ t : Fin cfg0.N, win0_0.index t = ![t.val / 8, 0, 0] ∧ win0_1.index t = ![t.val / 8, t.val % 8, 0]
    ∧ win0_2.index t = ![t.val / 8, t.val % 8, 0, 0] ∧ win0_3.index t = ![t.val / 8, t.val % 8, 0]
    ∧ win0_4.index t = ![0, t.val / 8] ∧ win0_5.index t = ![t.val / 8, 0, 0, 0] ∧ win0_6.index t = ![t.val / 8, 0, 0, 0]
    ∧ win0_7.index t = ![t.val / 8, 0, 0, 0] ∧ win0_8.index t = ![t.val / 8, t.val % 8, 0]
    ∧ win0_9.index t = ![t.val / 8, t.val % 8, 0] :=
  (by decide +kernel : ∀ t : Fin grid0.N, _)

theorem lt64 (t : Fin cfg0.N) : t.val < 64 := t.isLt.trans_eq (by decide)

/-- The head of a point. -/
def head (t : Fin cfg0.N) : Fin 8 := ⟨t.val / 8, by have := lt64 t; omega⟩

/-- The key that stands at row `r` of a point's tile. -/
def key (t : Fin cfg0.N) (r : Fin 1024) : Fin 8192 := ⟨t.val % 8 * 1024 + r.val, by omega⟩

variable (q k : Fin 8 → Fin 8192 → Fin 192 → ℝ) (v g : Fin 8 → Fin 8192 → Fin 128 → ℝ)
variable (hq : ∀ h i d, Q m c (ix3 h i d) = (q h i d : EReal)) (hk : ∀ h i d, K m c (ix3 h i d) = (k h i d : EReal))
  (hv : ∀ h i e, W m c (ix3 h i e) = (v h i e : EReal))
  (hg : ∀ (h : Fin 8) i (e : Fin 128), DO m c (ix2 i (col h e)) = (g h i e : EReal))

variable (M : Fin 8 → Fin 8192 → ℝ) (hM : ∀ h i, top m c (ix2 h i) = (M h i : EReal))

include hq in
theorem block_q (t : Fin cfg0.N) (i : Fin 8192) (d : Fin 192) :
    (iblk m c 0 t : Vec Ideal S1x8192x192 .bf16) (ix3 0 i d) = ((q (head t) i d * (scale / Real.log 2) : ℝ) : EReal) := by
  have e : (((cfg0.win 0).blk t).view.emb (ix3 0 i d) : S8x8192x192.Idx) = ix3 (head t) i d := by
    blk_ext [idx t, head]
  blk_simp [iblk]
  entry_read
  rw [e]
  show Q m c (ix3 (head t) i d) * unit (Shape.Idx.first h_S_) = _
  rw [unit_eq, hq, ← EReal.coe_mul]

include hk in
theorem block_k (t : Fin cfg0.N) (r : Fin 1024) (d : Fin 192) :
    (iblk m c 1 t : Vec Ideal S1x1024x192 .bf16) (ix3 0 r d) = (k (head t) (key t r) d : EReal) := by
  rw [← hk]
  have e : (((cfg0.win 1).blk t).view.emb (ix3 0 r d) : S8x8192x192.Idx) = ix3 (head t) (key t r) d := by
    blk_ext [idx t, head, key]
  blk_simp [iblk]
  entry_read
  rw [e]
  pointwise! []

include hk in
theorem block_kt (t : Fin cfg0.N) (d : Fin 192) (r : Fin 1024) :
    (iblk m c 2 t : Vec Ideal S1x1x192x1024 .bf16) (ix4 0 0 d r) = (k (head t) (key t r) d : EReal) := by
  rw [← hk]
  have e : (((cfg0.win 2).blk t).view.emb (ix4 0 0 d r) : S8x8x192x1024.Idx) = ix4 (head t) ⟨t.val % 8, by omega⟩ d r := by
    blk_ext [idx t, head]
  blk_simp [iblk]
  entry_read
  rw [e]
  pointwise! [key]

include hv in
theorem block_v (t : Fin cfg0.N) (r : Fin 1024) (e : Fin 128) :
    (iblk m c 3 t : Vec Ideal S1x1024x128 .bf16) (ix3 0 r e) = (v (head t) (key t r) e : EReal) := by
  rw [← hv]
  have e : (((cfg0.win 3).blk t).view.emb (ix3 0 r e) : S8x8192x128.Idx) = ix3 (head t) (key t r) e := by
    blk_ext [idx t, head, key]
  blk_simp [iblk]
  entry_read
  rw [e]
  pointwise! []

include hg in
theorem block_do (t : Fin cfg0.N) (i : Fin 8192) (e : Fin 128) :
    (iblk m c 4 t : Vec Ideal S8192x128 .bf16) (ix2 i e) = (g (head t) i e : EReal) := by
  rw [← hg]
  have e : (((cfg0.win 4).blk t).view.emb (ix2 i e) : S8192x1024.Idx)
      = ix2 i ⟨(head t).val * 128 + e.val, by have := (head t).isLt; omega⟩ := by
    blk_ext [idx t, head]
  blk_simp [iblk]
  entry_read
  rw [e]
  pointwise! []

/-- A statistics block's entry, whatever the array holds. -/
theorem read_lse (f : FVec Ideal S8x2x1x4096 .f32) (t : Fin cfg0.N) (p : Fin 2) (x : Fin 4096) :
    (((cfg0.win 5).blk t).view.read (Elt Ideal) f : Vec Ideal S1x2x1x4096 .f32) (ix4 0 p 0 x) = f (ix4 (head t) p 0 x) := by
  have e : (((cfg0.win 5).blk t).view.emb (ix4 0 p 0 x) : S8x2x1x4096.Idx) = ix4 (head t) p 0 x := by
    blk_ext [idx t, head]
  exact congrArg f e

theorem read_dsum (f : FVec Ideal S8x2x1x4096 .f32) (t : Fin cfg0.N) (p : Fin 2) (x : Fin 4096) :
    (((cfg0.win 6).blk t).view.read (Elt Ideal) f : Vec Ideal S1x2x1x4096 .f32) (ix4 0 p 0 x) = f (ix4 (head t) p 0 x) := by
  have e : (((cfg0.win 6).blk t).view.emb (ix4 0 p 0 x) : S8x2x1x4096.Idx) = ix4 (head t) p 0 x := by
    blk_ext [idx t, head]
  exact congrArg f e

theorem at_lse (t : Fin cfg0.N) : iblk m c 5 t
    = ((cfg0.win 5).blk t).view.read (Elt Ideal) (shapeCast S8x2x1x4096 (lses m c) shapeCasts_S8x8192_S8x2x1x4096) :=
  congrArg (((cfg0.win 5).blk t).view.read (Elt Ideal)) (entry_lse m c)

theorem at_dsum (t : Fin cfg0.N) : iblk m c 6 t
    = ((cfg0.win 6).blk t).view.read (Elt Ideal) (shapeCast S8x2x1x4096 (dsums m c) shapeCasts_S8x8192_S8x2x1x4096) :=
  congrArg (((cfg0.win 6).blk t).view.read (Elt Ideal)) (entry_dsum m c)

include hq hk hM in
theorem block_lse (t : Fin cfg0.N) (p : Fin 2) (x : Fin 4096) :
    (iblk m c 5 t : Vec Ideal S1x2x1x4096 .f32) (ix4 0 p 0 x) = ((M (head t) (row p x)
      + Real.log (∑ j, Real.exp (score (q (head t)) (k (head t)) (row p x) j * scale
          - M (head t) (row p x) * Real.log 2)) * (1 / Real.log 2) : ℝ) : EReal) := by
  have h1 := read_lse (shapeCast S8x2x1x4096 (lses m c) shapeCasts_S8x8192_S8x2x1x4096) t p x
  have h2 := reshaped_at (lses m c) (head t) p x
  have h3 := lses_apply m c q k hq hk M hM (head t) (row p x)
  rw [at_lse]
  exact h1.trans (h2.trans h3)

include hq hk hv hg hM in
theorem block_dsum (t : Fin cfg0.N) (p : Fin 2) (x : Fin 4096) :
    (iblk m c 6 t : Vec Ideal S1x2x1x4096 .f32) (ix4 0 p 0 x)
      = ((mean (q (head t)) (k (head t)) (v (head t)) (g (head t)) (row p x) : ℝ) : EReal) := by
  have h1 := read_dsum (shapeCast S8x2x1x4096 (dsums m c) shapeCasts_S8x8192_S8x2x1x4096) t p x
  have h2 := reshaped_at (dsums m c) (head t) p x
  have h3 := dsums_apply m c q k v g hq hk hv hg M hM (head t) (row p x)
  rw [at_dsum]
  exact h1.trans (h2.trans h3)

include hq hk hv hg hM in
/-- The blocks of a grid point hold its head's arrays and its key tile. -/
theorem meets (t : Fin cfg0.N) :
    Meets (blocks m c t) (q (head t)) (k (head t)) (v (head t)) (g (head t)) (key t) (M (head t)) where
  q_at := block_q m c q hq t
  k_at := block_k m c k hk t
  kt_at := block_kt m c k hk t
  v_at := block_v m c v hv t
  dOut_at := block_do m c g hg t
  lse_at := block_lse m c q k hq hk M hM t
  dsum_at := block_dsum m c q k v g hq hk hv hg M hM t

end Cert.AttnBackIdeal.Arrays
end
-- ==== Proof.AttnFinal.lean ====
/-
  The attention gradient, the results: the three arrays after the run are the gradients of `AttnMath`, head by head.
-/
module

public import proofs.«01_k».proof.Proof.AttnArray

@[expose] public section

set_option maxRecDepth 16384

noncomputable section

open Idealize.ShloMosaic Idealize.ShloMosaic.TcCoe Idealize.SL.Sem
open Idealize.ShloMosaic.Pipeline (Dat)

namespace Cert.AttnBackIdeal.Arrays

open Cert.AttnBackIdeal Cert.AttnBackIdeal.Gen Cert.AttnBackIdeal.Body Cert.AttnBackIdeal.Run Cert.AttnBackIdeal.Block
open Cert.Attention

variable (m : (ℓ : Loc nD τ sig) → Buf (Elt Ideal) ℓ) (c : Dev nD)
variable (q k : Fin 8 → Fin 8192 → Fin 192 → ℝ) (v g : Fin 8 → Fin 8192 → Fin 128 → ℝ)

/-- The key gradient of every head. -/
def keyGrad : FVec Ideal S8x8192x192 .f32 := fun y => ((gradK (q (y 0)) (k (y 0)) (v (y 0)) (g (y 0)) (y 1) (y 2) : ℝ) : EReal)

/-- The value gradient of every head. -/
def valueGrad : FVec Ideal S8x8192x128 .f32 := fun y => ((gradV (q (y 0)) (k (y 0)) (g (y 0)) (y 1) (y 2) : ℝ) : EReal)

/-- The query gradient of every head, half by half and transposed, in the kernel's unit. -/
def queryGrad : FVec Ideal S8x2x192x4096 .f32 := fun y =>
  ((gradQ (q (y 0)) (k (y 0)) (v (y 0)) (g (y 0)) (row (y 1) (y 3)) (y 2) : ℝ) : EReal)

/-- The query gradient's sum over a head's eight key tiles is the whole gradient. -/
theorem tiles_sum (q k : Fin 8192 → Fin 192 → ℝ) (v g : Fin 8192 → Fin 128 → ℝ) (i : Fin 8192) (d : Fin 192) :
    ∑ s : Fin 8, tileQ q k v g (fun r => ⟨s.val * 1024 + r.val, by omega⟩) i d = gradQ q k v g i d := by
  unfold tileQ gradQ
  rw [Finset.sum_mul]
  exact Fin.sum_mul_add_fin (L := 8192) 8 1024 fun j => Attention.slope q k v g i j * k j d * Real.log 2

variable (hq : ∀ h i d, Q m c (ix3 h i d) = (q h i d : EReal)) (hk : ∀ h i d, K m c (ix3 h i d) = (k h i d : EReal))
  (hv : ∀ h i e, W m c (ix3 h i e) = (v h i e : EReal))
  (hg : ∀ (h : Fin 8) i (e : Fin 128), DO m c (ix2 i (col h e)) = (g h i e : EReal))

include hq hk hv hg

theorem final_dk : (dats m 0 c).arrAt 8 cfg0.N = keyGrad q k v g := by
  obtain ⟨M, hM⟩ := top_apply m c q k hq hk
  refine (dats m 0 c).arrAt_eq_of_covers 8 _ (by decide +kernel) fun t _ y => ?_
  obtain ⟨z, r, d, rfl⟩ : ∃ (z : Fin 1) (r : Fin 1024) (d : Fin 192), y = ix3 z r d := ⟨y 0, y 1, y 2, eq_ix3 y⟩
  obtain rfl : z = 0 := Subsingleton.elim _ _
  have e : (((cfg0.win 8).blk t).view.emb (ix3 0 r d) : S8x8192x192.Idx) = ix3 (head t) (key t r) d := by
    blk_ext [idx t, head, key]
  blk_simp
  rw [after_8, e]
  exact dk_apply (meets m c q k v g hq hk hv hg M hM t) r d

theorem final_dv : (dats m 0 c).arrAt 9 cfg0.N = valueGrad q k g := by
  obtain ⟨M, hM⟩ := top_apply m c q k hq hk
  refine (dats m 0 c).arrAt_eq_of_covers 9 _ (by decide +kernel) fun t _ y => ?_
  obtain ⟨z, r, d, rfl⟩ : ∃ (z : Fin 1) (r : Fin 1024) (d : Fin 128), y = ix3 z r d := ⟨y 0, y 1, y 2, eq_ix3 y⟩
  obtain rfl : z = 0 := Subsingleton.elim _ _
  have e : (((cfg0.win 9).blk t).view.emb (ix3 0 r d) : S8x8192x128.Idx) = ix3 (head t) (key t r) d := by
    blk_ext [idx t, head, key]
  blk_simp
  rw [after_9, e]
  exact dv_apply (meets m c q k v g hq hk hv hg M hM t) r d

/-- What a key tile adds to the query gradient. -/
def part (t : Fin cfg0.N) (i : Fin 2 × Fin 192 × Fin 4096) : EReal :=
  ((tileQ (q (head t)) (k (head t)) (v (head t)) (g (head t)) (key t) (row i.1 i.2.2) i.2.1 : ℝ) : EReal)

theorem acc_dq (t : Fin cfg0.N) (ht : t.val % 8 = 8 - 1) (p : Fin 2) (d : Fin 192) (x : Fin 4096) :
    dqAt m c t.val (ix4 0 p d x)
      = ((gradQ (q (head t)) (k (head t)) (v (head t)) (g (head t)) (row p x) d : ℝ) : EReal) := by
  obtain ⟨M, hM⟩ := top_apply m c q k hq hk
  have h := Pipeline.eq_sum_fin_of_reset_step_apply_of_flush (N := cfg0.N)
    (fun n _ (i : Fin 2 × Fin 192 × Fin 4096) => (dqAt m c n (ix4 0 i.1 i.2.1 i.2.2) : EReal)) 8 (fun _ => 0) (part q k v g)
    (fun t h i => by
      rw [dqAt_first m c t h, zero_add]
      exact dqFirst_apply (meets m c q k v g hq hk hv hg M hM t) i.1 i.2.1 i.2.2)
    (fun t h i => by
      rw [dqAt_next m c t h]
      exact dqNext_apply (meets m c q k v g hq hk hv hg M hM t) _ i.1 i.2.1 i.2.2)
    t ht (p, d, x)
  refine h.trans ?_
  rw [zero_add, ← tiles_sum, coe_sum]
  refine Finset.sum_congr rfl fun s _ => ?_
  have h8 := s.isLt
  have e1 : ∀ b, head (⟨8 * (t.val / 8) + s.val, b⟩ : Fin cfg0.N) = head t := fun b => Fin.ext (by simp only [head]; omega)
  have e2 : ∀ b, key (⟨8 * (t.val / 8) + s.val, b⟩ : Fin cfg0.N) = fun r => ⟨s.val * 1024 + r.val, by omega⟩ :=
    fun b => funext fun r => Fin.ext (by simp only [key]; omega)
  simp only [part, e1, e2]

theorem final_dq : (dats m 0 c).arrAt 7 cfg0.N = queryGrad q k v g := by
  refine (dats m 0 c).arrAt_eq_of_covers 7 _ (by decide +kernel) fun t ht y => ?_
  obtain ⟨z, p, d, x, rfl⟩ : ∃ (z : Fin 1) (p : Fin 2) (d : Fin 192) (x : Fin 4096), y = ix4 z p d x := ⟨y 0, y 1, y 2, y 3, eq_ix4 y⟩
  obtain rfl : z = 0 := Subsingleton.elim _ _
  have e : (((cfg0.win 7).blk t).view.emb (ix4 0 p d x) : S8x2x192x4096.Idx) = ix4 (head t) p d x := by
    blk_ext [idx t, head]
  have hf : t.val % 8 = 8 - 1 := (by decide +kernel : ∀ t : Fin cfg0.N, (cfg0.win 7).flush t = true → t.val % 8 = 8 - 1) t ht
  blk_simp
  rw [after_7, e]
  exact acc_dq m c q k v g hq hk hv hg t hf p d x

end Cert.AttnBackIdeal.Arrays
end
-- ==== Proof.AttnRef.lean ====
/-
  The reference of the attention gradient, read at an index on finite arguments: the derivative of the plain
  softmax attention is the gradient of `AttnMath`.
-/
module

public import proofs.«01_k».proof.Proof.Gen.AttnRefIdeal.Read
public import proofs.«01_k».proof.Proof.AttnMath
public import proofs.«01_k».proof.Proof.Consts
public import Idealize.ShloMosaic.Lib.Pipeline.ValueKit

@[expose] public section

set_option maxRecDepth 16384

noncomputable section

open Idealize.ShloMosaic Idealize.ShloMosaic.TcCoe Idealize.SL.Sem

namespace Cert.AttnRefIdeal.Math

open Cert.AttnRefIdeal Cert.AttnRefIdeal.Gen Cert.AttnRefIdeal.Read
open Cert.Attention

variable (x0 x1 : FVec Ideal S8x8192x192 .f32) (x2 : FVec Ideal S8x8192x128 .f32) (x3 : FVec Ideal S8192x1024 .f32)
variable (q k : Fin 8 → Fin 8192 → Fin 192 → ℝ) (v g : Fin 8 → Fin 8192 → Fin 128 → ℝ)
variable (hq : ∀ h i d, x0 (ix3 h i d) = (q h i d : EReal)) (hk : ∀ h i d, x1 (ix3 h i d) = (k h i d : EReal))
  (hv : ∀ h i e, x2 (ix3 h i e) = (v h i e : EReal))
  (hg : ∀ (h : Fin 8) i (e : Fin 128), x3 (ix2 i (col h e)) = (g h i e : EReal))

include hq hk in
theorem scaled_apply (h : Fin 8) (i j : Fin 8192) :
    val_main_v2 (F := Ideal) x0 x1 (ix3 h i j) = ((score (q h) (k h) i j * scale : ℝ) : EReal) := by
  pointwise [val_main_v2, val_main_v1, val_main_v0, val_main_cst]
  simp only [hq, hk, Consts.attn_scale, score, scale, EReal.coe_mul, coe_sum]

include hq hk in
theorem top_apply (h : Fin 8) (i : Fin 8192) :
    ∃ r : ℝ, val_main_v10 (F := Ideal) x0 x1 (ix2 h i) = (r : EReal) := by
  obtain ⟨r, hr⟩ := reduce_max_real (val_main_v2 (F := Ideal) x0 x1) (val_main_cst_0 (F := Ideal))
    reducesTo_S8x8192x8192_S8x8192_d2 (by decide) h_S_ (ix2 h i)
    (fun y => ⟨_, (congrArg _ (eq_ix3 y)).trans (scaled_apply x0 x1 q k hq hk (y 0) (y 1) (y 2))⟩) Consts.minus_inf ⟨0, by decide⟩
  refine ⟨r, ?_⟩
  rw [val_main_v10_apply, val_main_v3, hr]
  show max (Ideal.ofBits .f32 0xFF800000#32) _ = _
  rw [Consts.minus_inf]
  exact max_eq_right bot_le

variable (m : Fin 8 → Fin 8192 → ℝ) (hm : ∀ h i, val_main_v10 (F := Ideal) x0 x1 (ix2 h i) = (m h i : EReal))

include hq hk hm in
theorem exp_apply (h : Fin 8) (i j : Fin 8192) :
    val_main_v23 (F := Ideal) x0 x1 (ix3 h i j) = ((Real.exp (score (q h) (k h) i j * scale - m h i) : ℝ) : EReal) := by
  pointwise [val_main_v23, val_main_v22, val_main_v21, val_main_v20]
  rw [scaled_apply x0 x1 q k hq hk, hm, ← EReal.coe_sub, Ideal.exp_coe]

include hq hk hm in
theorem total_apply (h : Fin 8) (i : Fin 8192) :
    val_main_v25 (F := Ideal) x0 x1 (ix3 h i 0) = ((∑ j, Real.exp (score (q h) (k h) i j * scale - m h i) : ℝ) : EReal) := by
  pointwise [val_main_v25, val_main_v24, val_main_cst_8]
  simp only [exp_apply x0 x1 q k hq hk m hm, coe_sum]

include hq hk hm in
theorem weight_apply (h : Fin 8) (i j : Fin 8192) :
    val_main_v27 (F := Ideal) x0 x1 (ix3 h i j) = ((weight (q h) (k h) i j : ℝ) : EReal) := by
  pointwise [val_main_v27, val_main_v26]
  rw [exp_apply x0 x1 q k hq hk m hm, total_apply x0 x1 q k hq hk m hm, Ideal.div_coe (total_shift_ne _ _ _ _), ← EReal.coe_mul,
    weight_shift]

include hg in
theorem head_apply (h : Fin 8) (i : Fin 8192) (e : Fin 128) :
    val_main_v35 (F := Ideal) x3 (ix3 h i e) = (g h i e : EReal) := by
  rw [← hg h i e]
  pointwise! [val_main_v35, val_main_v34]

include hv hg in
theorem dweight_apply (h : Fin 8) (i j : Fin 8192) :
    val_main_v38 (F := Ideal) x2 x3 (ix3 h i j) = ((dweight (v h) (g h) i j : ℝ) : EReal) := by
  pointwise [val_main_v38]
  simp only [head_apply x3 g hg, hv, dweight, coe_sum, EReal.coe_mul]

include hq hk hv hg hm in
theorem slope_apply (h : Fin 8) (i j : Fin 8192) :
    val_main_v50 (F := Ideal) x0 x1 x2 x3 (ix3 h i j) = ((slope (q h) (k h) (v h) (g h) i j : ℝ) : EReal) := by
  pointwise [val_main_v50, val_main_v49, val_main_v48, val_main_v47, val_main_v46, val_main_v45, val_main_v44, val_main_v43,
    val_main_v42, val_main_v41, val_main_v40, val_main_v39, val_main_v30, val_main_v29, val_main_v28, val_main_cst_9,
    val_main_cst_10, val_main_cst_11]
  simp only [exp_apply x0 x1 q k hq hk m hm, total_apply x0 x1 q k hq hk m hm, dweight_apply x2 x3 v g hv hg]
  have hL := total_shift_ne (q h) (k h) (m h i) i
  simp only [Fin.sum_univ_one, Ideal.div_coe hL, ← EReal.coe_mul, Ideal.div_coe (mul_ne_zero hL hL), one_mul, ← coe_sum,
    ← EReal.coe_neg, ← EReal.coe_add]
  rw [slope_shift]

include hq hk hg hm in
/-- The value gradient. -/
theorem gradV_apply (h : Fin 8) (j : Fin 8192) (e : Fin 128) :
    val_main_v37 (F := Ideal) x0 x1 x3 (ix3 h j e) = ((gradV (q h) (k h) (g h) j e : ℝ) : EReal) := by
  pointwise [val_main_v37, val_main_v36]
  simp only [head_apply x3 g hg, weight_apply x0 x1 q k hq hk m hm, ← EReal.coe_mul, ← coe_sum, gradV]
  simp only [mul_comm]

include hq hk hv hg hm in
/-- The key gradient. -/
theorem gradK_apply (h : Fin 8) (j : Fin 8192) (d : Fin 192) :
    val_main_v53 (F := Ideal) x0 x1 x2 x3 (ix3 h j d) = ((gradK (q h) (k h) (v h) (g h) j d : ℝ) : EReal) := by
  pointwise [val_main_v53, val_main_v52, val_main_v51, val_main_cst_12]
  simp only [slope_apply x0 x1 x2 x3 q k v g hq hk hv hg m hm, hq, Consts.attn_scale, ← EReal.coe_mul, ← coe_sum, gradK, scale]

include hq hk hv hg hm in
/-- The query gradient, in the kernel's unit and layout. -/
theorem gradQ_apply (h : Fin 8) (p : Fin 2) (d : Fin 192) (i : Fin 4096) :
    val_main_v61 (F := Ideal) x0 x1 x2 x3 (ix4 h p d i)
      = ((gradQ (q h) (k h) (v h) (g h) ⟨p.val * 4096 + i.val, by omega⟩ d : ℝ) : EReal) := by
  pointwise [val_main_v61, val_main_v60, val_main_v59, val_main_v58, val_main_v57, val_main_v56, val_main_v55, val_main_v54,
    val_main_v52, val_main_v51, val_main_cst_12, val_main_cst_13, val_main_cst_14]
  simp only [slope_apply x0 x1 x2 x3 q k v g hq hk hv hg m hm, hk, Consts.attn_scale, Consts.two, log_two, ← EReal.coe_mul,
    ← coe_sum, Ideal.div_coe scale_word_ne, gradQ, Finset.sum_mul]
  congr 1
  exact Finset.sum_congr rfl fun j _ => by ring

end Cert.AttnRefIdeal.Math

end
-- ==== Proof.AttnPair.lean ====
/-
  The attention gradient: for finite arguments kernel and reference end with the same three arrays.
-/
module

public import proofs.«01_k».proof.Proof.AttnRuns
public import proofs.«01_k».proof.Proof.AttnFinal
public import proofs.«01_k».proof.Proof.AttnRef
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Attn

open Cert.AttnBackIdeal.Arrays Cert.Attention

/-- The side conditions of the precondition's printed text. -/
theorem bounded_facts : Cert.Pre_bounded.Facts := ⟨by decide, by decide, by decide⟩

variable [Cert.Pre_bounded.Facts]

/-- Where the precondition holds the four arguments are real. -/
theorem reals {m : (ℓ : Loc AttnBackIdeal.nD AttnBackIdeal.τ AttnBackIdeal.sig) → Buf (Elt Ideal) ℓ}
    (h : Cert.Pre_AttnBackIdeal_bounded m) (c : Dev AttnBackIdeal.nD) :
    ∃ (q k : Fin 8 → Fin 8192 → Fin 192 → ℝ) (v g : Fin 8 → Fin 8192 → Fin 128 → ℝ),
      (∀ h i d, Q m c (ix3 h i d) = (q h i d : EReal)) ∧ (∀ h i d, K m c (ix3 h i d) = (k h i d : EReal))
        ∧ (∀ h i e, W m c (ix3 h i e) = (v h i e : EReal)) ∧ ∀ h i e, DO m c (ix2 i (col h e)) = (g h i e : EReal) := by
  obtain ⟨h0, h1, h2, h3⟩ := h c
  choose q hq using fun h i d => Consts.real_of_abs_lt (x := Q m c (ix3 h i d)) (congrFun h0 (ix3 h i d))
  choose k hk using fun h i d => Consts.real_of_abs_lt (x := K m c (ix3 h i d)) (congrFun h1 (ix3 h i d))
  choose v hv using fun h i e => Consts.real_of_abs_lt (x := W m c (ix3 h i e)) (congrFun h2 (ix3 h i e))
  choose g hg using fun h i e => Consts.real_of_abs_lt (x := DO m c (ix2 i (col h e))) (congrFun h3 (ix2 i (col h e)))
  exact ⟨q, k, v, g, hq, hk, hv, hg⟩

open Cert.AttnBackIdeal in
/-- The kernel's results, with the arguments unchanged. -/
theorem results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v34_0) = (Run.dats m 0 c).arrAt 7 cfg0.N
      ∧ r.2.mem ((c.tc : Thread nD τ).loc main_v34_1) = (Run.dats m 0 c).arrAt 8 cfg0.N
      ∧ r.2.mem ((c.tc : Thread nD τ).loc main_v34_2) = (Run.dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (θ_run_and (Run.run_main m ρ) (Run.frame m ρ)) fun r h c =>
    ⟨(h.1.1 c).1 7, (h.1.1 c).1 8, (h.1.1 c).1 9, h.2.1 c⟩

/-- The query gradient that the reference computes. -/
theorem ref_dq (x0 x1 : FVec Ideal AttnRefIdeal.S8x8192x192 .f32) (x2 : FVec Ideal AttnRefIdeal.S8x8192x128 .f32)
    (x3 : FVec Ideal AttnRefIdeal.S8192x1024 .f32) (q k : Fin 8 → Fin 8192 → Fin 192 → ℝ) (v g : Fin 8 → Fin 8192 → Fin 128 → ℝ)
    (hq : ∀ h i d, x0 (ix3 h i d) = (q h i d : EReal)) (hk : ∀ h i d, x1 (ix3 h i d) = (k h i d : EReal))
    (hv : ∀ h i e, x2 (ix3 h i e) = (v h i e : EReal)) (hg : ∀ h i e, x3 (ix2 i (col h e)) = (g h i e : EReal)) :
    AttnRefIdeal.Read.val_main_v61 (F := Ideal) x0 x1 x2 x3 = queryGrad q k v g := by
  choose M hM using AttnRefIdeal.Math.top_apply x0 x1 q k hq hk
  funext y
  obtain ⟨h, p, d, x, rfl⟩ : ∃ (h : Fin 8) (p : Fin 2) (d : Fin 192) (x : Fin 4096), y = ix4 h p d x :=
    ⟨y 0, y 1, y 2, y 3, eq_ix4 y⟩
  exact AttnRefIdeal.Math.gradQ_apply x0 x1 x2 x3 q k v g hq hk hv hg M hM h p d x

/-- The key gradient that the reference computes. -/
theorem ref_dk (x0 x1 : FVec Ideal AttnRefIdeal.S8x8192x192 .f32) (x2 : FVec Ideal AttnRefIdeal.S8x8192x128 .f32)
    (x3 : FVec Ideal AttnRefIdeal.S8192x1024 .f32) (q k : Fin 8 → Fin 8192 → Fin 192 → ℝ) (v g : Fin 8 → Fin 8192 → Fin 128 → ℝ)
    (hq : ∀ h i d, x0 (ix3 h i d) = (q h i d : EReal)) (hk : ∀ h i d, x1 (ix3 h i d) = (k h i d : EReal))
    (hv : ∀ h i e, x2 (ix3 h i e) = (v h i e : EReal)) (hg : ∀ h i e, x3 (ix2 i (col h e)) = (g h i e : EReal)) :
    AttnRefIdeal.Read.val_main_v53 (F := Ideal) x0 x1 x2 x3 = keyGrad q k v g := by
  choose M hM using AttnRefIdeal.Math.top_apply x0 x1 q k hq hk
  funext y
  obtain ⟨h, j, d, rfl⟩ : ∃ (h : Fin 8) (j : Fin 8192) (d : Fin 192), y = ix3 h j d := ⟨y 0, y 1, y 2, eq_ix3 y⟩
  exact AttnRefIdeal.Math.gradK_apply x0 x1 x2 x3 q k v g hq hk hv hg M hM h j d

/-- The value gradient that the reference computes. -/
theorem ref_dv (x0 x1 : FVec Ideal AttnRefIdeal.S8x8192x192 .f32) (x3 : FVec Ideal AttnRefIdeal.S8192x1024 .f32)
    (q k : Fin 8 → Fin 8192 → Fin 192 → ℝ) (g : Fin 8 → Fin 8192 → Fin 128 → ℝ)
    (hq : ∀ h i d, x0 (ix3 h i d) = (q h i d : EReal)) (hk : ∀ h i d, x1 (ix3 h i d) = (k h i d : EReal))
    (hg : ∀ h i e, x3 (ix2 i (col h e)) = (g h i e : EReal)) :
    AttnRefIdeal.Read.val_main_v37 (F := Ideal) x0 x1 x3 = valueGrad q k g := by
  choose M hM using AttnRefIdeal.Math.top_apply x0 x1 q k hq hk
  funext y
  obtain ⟨h, j, e, rfl⟩ : ∃ (h : Fin 8) (j : Fin 8192) (e : Fin 128), y = ix3 h j e := ⟨y 0, y 1, y 2, eq_ix3 y⟩
  exact AttnRefIdeal.Math.gradV_apply x0 x1 x3 q k g hq hk hg M hM h j e

set_option maxHeartbeats 1600000 in
/-- Both programs end with the query, key and value gradients of the arguments. -/
theorem equal : Cert.algebraic_AttnBackIdeal_AttnRefIdeal_pre_bounded := by
  pair_intro
  · run_from results m g
  · refine θ_run_mono (Cert.AttnRefIdeal.Value.run (F := Ideal) m' g') fun r h c => ?_
    obtain ⟨q, k, v, d, hq, hk, hv, hg⟩ := reals hpre c
    obtain ⟨a0, a1, a2, a3⟩ := hagree c
    have hq' := fun h i e => (congrFun a0 (ix3 h i e)).trans (hq h i e)
    have hk' := fun h i e => (congrFun a1 (ix3 h i e)).trans (hk h i e)
    have hv' := fun h i e => (congrFun a2 (ix3 h i e)).trans (hv h i e)
    have hg' := fun h i e => (congrFun a3 (ix2 i (col h e))).trans (hg h i e)
    refine ⟨(h c).1.trans ?_, (h c).2.1.trans ?_, (h c).2.2.1.trans ?_, (h c).2.2.2⟩
    · exact (AttnRefIdeal.Read.val_main_v61_eq m' c).trans
        ((ref_dq _ _ _ _ q k v d hq' hk' hv' hg').trans (final_dq m c q k v d hq hk hv hg).symm)
    · exact (AttnRefIdeal.Read.val_main_v53_eq m' c).trans
        ((ref_dk _ _ _ _ q k v d hq' hk' hv' hg').trans (final_dk m c q k v d hq hk hv hg).symm)
    · exact (AttnRefIdeal.Read.val_main_v37_eq _ _ _).trans
        ((ref_dv _ _ _ q k d hq' hk' hg').trans (final_dv m c q k v d hq hk hv hg).symm)

/-- The kernel's frame under the precondition. -/
theorem frame_ideal_bounded : Cert.quiescent_AttnBackIdeal_pre_bounded := fun m ρ _ => frame_ideal m ρ trivial

/-- The reference's frame under the precondition. -/
theorem frame_ref_bounded : Cert.quiescent_AttnRefIdeal_pre_bounded := fun m ρ _ => frame_ref m ρ trivial

end Cert.Proof.Attn
end
-- ==== Proof.CgateRows.lean ====
/-
  The gated output of the causal attention, one row at a time, on the extended reals.

  A row `o` of outputs is multiplied by the SiLU of a row `z` of gates and normalised by its root mean
  square.  The functions below are the pieces of that map and of its gradients in the order in which a
  kernel and the derivative of the plain lines compute them.
-/
module

public import proofs.«01_k».proof.Proof.GateRows

@[expose] public section

noncomputable section

open Idealize.ShloMosaic

namespace Cert.Rows

/-- The SiLU of a number. -/
def silu (v : EReal) : EReal := v * sigma v

variable {n : ℕ}

/-- A row times the SiLU of its gates. -/
def gated (o z : Fin n → EReal) (l : Fin n) : EReal := o l * silu (z l)

/-- The gradient of the gated row. -/
def dgated (w : BitVec 32) (o z dy g : Fin n → EReal) : Fin n → EReal :=
  grad w (gated o z) (fun k => dy k * g k)

/-- The gradient of the row that the gates multiply. -/
def dout (w : BitVec 32) (o z dy g : Fin n → EReal) (l : Fin n) : EReal := dgated w o z dy g l * silu (z l)

/-- The gradient of the SiLU at `v` along `u`. -/
def dsilu (v u : EReal) : EReal := u * sigma v + v * u * (sigma v * (1 - sigma v))

/-- The gradient of the gates. -/
def dgates (w : BitVec 32) (o z dy g : Fin n → EReal) (l : Fin n) : EReal :=
  dsilu (z l) (o l * dgated w o z dy g l)

/-- Column `d` of head `h`. -/
def hcol (h : Fin 8) (d : Fin 128) : Fin 1024 := ⟨h.val * 128 + d.val, by omega⟩

/-- The row that position `b` of half `a` stands for. -/
def halfRow (a : Fin 2) (b : Fin 4096) : Fin 8192 := ⟨a.val * 4096 + b.val, by omega⟩

/-- The column of the projection that holds gate `l`. -/
def gateCol (l : Fin 1024) : Fin 6720 := ⟨5696 + l.val, by omega⟩

/-- The column of the incoming gradient, and the entry of the gain, that belong to gate `l`. -/
def outCol (l : Fin 1024) : Fin 2048 := ⟨1024 + l.val, by omega⟩

/-- The gate that column `j` of the gradient buffer belongs to. -/
def bufGate (j : Fin 6912) : Fin 1024 := ⟨(j.val - 2048) % 1024, by omega⟩

end Cert.Rows

end
-- ==== Proof.CgateBlock.lean ====
/-
  The gradient of the gated output norm, one tile of 512 rows: what the body of the kernel computes at an
  index of its tile, as the row functions of `CgateRows`.
-/
module

public import proofs.«01_k».proof.Proof.Gen.CgateBackIdeal.Skeleton
public import proofs.«01_k».proof.Proof.CgateRows
public import proofs.«01_k».proof.Proof.Consts
public import Idealize.ShloMosaic.Lib.Pipeline.ValueKit

@[expose] public section

set_option maxRecDepth 16384

noncomputable section

open Idealize.ShloMosaic Idealize.ShloMosaic.TcCoe Idealize.SL.Sem

namespace Cert.CgateBackIdeal.Block

open Cert.CgateBackIdeal Cert.CgateBackIdeal.Gen

variable (o : Vec Ideal S512x1024 .f32) (z : Vec Ideal S512x1024 .bf16) (g : Vec Ideal S1x1024 .f32)
  (dy : Vec Ideal S512x1024 .f32)

/-- Row `r` of the outputs, of the gates and of the incoming gradient. -/
abbrev ro (r : Fin 512) : Fin 1024 → EReal := fun k => o (ix2 r k)
abbrev rz (r : Fin 512) : Fin 1024 → EReal := fun k => z (ix2 r k)

theorem sigma_apply (r : Fin 512) (l : Fin 1024) : k0_pay4 z (ix2 r l) = Rows.sigma (z (ix2 r l)) := by
  pointwise! [k0_pay4, k0_pay3, Rows.sigma]

theorem silu_apply (r : Fin 512) (l : Fin 1024) : k0_pay6 z (ix2 r l) = Rows.silu (z (ix2 r l)) := by
  pointwise! [k0_pay6, k0_pay3, sigma_apply, Rows.silu]

theorem gated_apply (r : Fin 512) (l : Fin 1024) : k0_pay7 o z (ix2 r l) = Rows.gated (ro o r) (rz z r) l := by
  pointwise! [k0_pay7, silu_apply, Rows.gated]

theorem meanSq_apply (r : Fin 512) :
    k0_pay8 o z (ix2 r 0) = Rows.meanSq 0x44800000#32 (Rows.gated (ro o r) (rz z r)) := by
  pointwise! [k0_pay8, gated_apply, Rows.meanSq]

theorem scale_apply (r : Fin 512) :
    k0_pay9 o z (ix2 r 0) = Rows.scale 0x44800000#32 (Rows.gated (ro o r) (rz z r)) := by
  rw [Rows.scale, ← meanSq_apply]
  pointwise! [k0_pay9]

/-- The gain's gradient of a tile: the sum of its rows' parts. -/
theorem gain_apply (l : Fin 1024) : k0_pay10 o z dy (ix2 0 l)
    = ∑ r : Fin 512, Rows.gain 0x44800000#32 (Rows.gated (ro o r) (rz z r)) (ro dy r) l := by
  pointwise [k0_pay10, gated_apply, scale_apply, Rows.gain]

/-- The gradient of the gated row. -/
theorem dgated_apply (r : Fin 512) (l : Fin 1024) :
    k0_pay14 (k0_pay7 o z) (k0_pay12 o z g dy) (k0_pay13 o z g dy) (ix2 r l)
      = Rows.dgated 0x44800000#32 (ro o r) (rz z r) (ro dy r) (fun k => g (ix2 0 k)) l := by
  pointwise [k0_pay14, k0_pay13, k0_pay12, k0_pay11, Rows.dgated, Rows.grad, Rows.slope]
  simp only [Fin.sum_univ_one, Fin.isValue, gated_apply, scale_apply, meanSq_apply]

theorem dout_apply (r : Fin 512) (l : Fin 1024) :
    k0_pay15 (k0_pay6 z) (k0_pay7 o z) (k0_pay12 o z g dy) (k0_pay13 o z g dy) (ix2 r l)
      = Rows.dout 0x44800000#32 (ro o r) (rz z r) (ro dy r) (fun k => g (ix2 0 k)) l := by
  pointwise! [k0_pay15, dgated_apply, silu_apply, Rows.dout]

theorem dout_store (r : Fin 512) (l : Fin 1024) :
    k0_pay17 (k0_pay6 z) (k0_pay7 o z) (k0_pay12 o z g dy) (k0_pay13 o z g dy) (ix2 r l)
      = Rows.dout 0x44800000#32 (ro o r) (rz z r) (ro dy r) (fun k => g (ix2 0 k)) l := by
  pointwise! [k0_pay17, dout_apply]

theorem dgates_apply (r : Fin 512) (l : Fin 1024) :
    k0_pay16 o (k0_pay3 z) (k0_pay4 z) (k0_pay5 z) (k0_pay7 o z) (k0_pay12 o z g dy) (k0_pay13 o z g dy) (ix2 r l)
      = Rows.dgates 0x44800000#32 (ro o r) (rz z r) (ro dy r) (fun k => g (ix2 0 k)) l := by
  pointwise [k0_pay16, k0_pay3, k0_pay5, dgated_apply, sigma_apply, Rows.dgates, Rows.dsilu]

/-- The products of two tiles, summed over each row's 128 columns from `off`: one head's. -/
def headSum (off : ℕ) (h : S512x1024.Slices ![0, off] S512x128) (a b : FVec Ideal S512x1024 .f32) :
    FVec Ideal S1x512 .f32 :=
  extractStridedSlice S1x512 ![0, 0] (matmul dot_S8x128_S512x128_S8x512_1_1_0_0_n_n (some .fp32) (k0_pay18 (F := Ideal))
    (mulf (extractStridedSlice S512x128 ![0, off] a h) (extractStridedSlice S512x128 ![0, off] b h))
    (constant S8x512 .f32 0x00000000#32)) slices_S8x512_o0_0_S1x512

theorem headSum_apply (h : Fin 8) (off : ℕ) (hs : S512x1024.Slices ![0, off] S512x128) (e : off = h.val * 128)
    (a b : FVec Ideal S512x1024 .f32) (r : Fin 512) :
    headSum off hs a b (ix2 0 r) = ∑ d : Fin 128, a (ix2 r (Rows.hcol h d)) * b (ix2 r (Rows.hcol h d)) := by
  subst e
  pointwise [headSum, k0_pay18, Rows.hcol]

/-- One head's store: the sums as a row of the block `[1, 1, 1, 512]`. -/
theorem headTile (h : Fin 8) (off : ℕ) (hs : S512x1024.Slices ![0, off] S512x128) (e : off = h.val * 128)
    (a b : FVec Ideal S512x1024 .f32) (x : S1x1x1x512.Idx) (r : Fin 512) (hx : (r : ℕ) = x 3) :
    shapeCast S1x1x1x512 (headSum off hs a b) shapeCasts_S1x512_S1x1x1x512 x
      = ∑ d : Fin 128, a (ix2 r (Rows.hcol h d)) * b (ix2 r (Rows.hcol h d)) := by
  refine Eq.trans ?_ (headSum_apply h off hs e a b r)
  idx_vars x
  obtain rfl : r = x3 := Fin.ext hx
  pointwise!

end Cert.CgateBackIdeal.Block

end
-- ==== Proof.Permute.lean ====
/-
  The projection with its columns in the order of the kernels: eight pieces side by side, of which each
  kernel reads one.  The lemmas read a piece at an index, whatever the other pieces hold.
-/
module

public import Idealize.ShloMosaic.Lib.Pointwise
public import Idealize.ShloMosaic.Lib.Pipeline.ValueKit

@[expose] public section

set_option maxRecDepth 16384

noncomputable section

open Idealize.ShloMosaic

namespace Cert.Permute

/-- A matrix shape of 8192 rows. -/
abbrev M (n : ℕ) : Shape := ⟨2, ![8192, n]⟩

variable {α : Type} (x0 : (M 2048).Idx → α) (x1 : (M 1024).Idx → α) (x2 : (M 1536).Idx → α) (x3 : (M 1024).Idx → α)
  (x4 x5 : (M 512).Idx → α) (x6 : (M 64).Idx → α) (x7 : (M 192).Idx → α)
  (hc : Shape.Concatenates [M 2048, M 1024, M 1536, M 1024, M 512, M 512, M 64, M 192] (M 6912) 1)

/-- The eight pieces side by side. -/
abbrev glued : (M 6912).Idx → α := concatenate (M 6912) 1
  [⟨M 2048, x0⟩, ⟨M 1024, x1⟩, ⟨M 1536, x2⟩, ⟨M 1024, x3⟩, ⟨M 512, x4⟩, ⟨M 512, x5⟩, ⟨M 64, x6⟩, ⟨M 192, x7⟩] hc

/-- Columns of the pieces. -/
def gateCol (l : Fin 1024) : Fin 6912 := ⟨2048 + l.val, by omega⟩
def sguCol (l : Fin 1536) : Fin 6912 := ⟨3072 + l.val, by omega⟩
def queryCol (l : Fin 1024) : Fin 6912 := ⟨4608 + l.val, by omega⟩
def queryRopeCol (l : Fin 512) : Fin 6912 := ⟨5632 + l.val, by omega⟩
def latentCol (l : Fin 512) : Fin 6912 := ⟨6144 + l.val, by omega⟩
def keyRopeCol (l : Fin 64) : Fin 6912 := ⟨6656 + l.val, by omega⟩
def convCol (l : Fin 2048) : Fin 6912 := ⟨l.val, by omega⟩

theorem conv_apply (r : Fin 8192) (l : Fin 2048) : glued x0 x1 x2 x3 x4 x5 x6 x7 hc (ix2 r (convCol l)) = x0 (ix2 r l) := by
  pointwise [convCol]

theorem gate_apply (r : Fin 8192) (l : Fin 1024) : glued x0 x1 x2 x3 x4 x5 x6 x7 hc (ix2 r (gateCol l)) = x1 (ix2 r l) := by
  pointwise [gateCol]

theorem sgu_apply (r : Fin 8192) (l : Fin 1536) : glued x0 x1 x2 x3 x4 x5 x6 x7 hc (ix2 r (sguCol l)) = x2 (ix2 r l) := by
  pointwise [sguCol]
  repeat refine (dif_neg (by omega)).trans ?_
  refine (dif_pos (by omega)).trans ?_
  exact congrArg _ (congrArg (ix2 r) (Fin.ext (by simp only []; omega)))

theorem query_apply (r : Fin 8192) (l : Fin 1024) : glued x0 x1 x2 x3 x4 x5 x6 x7 hc (ix2 r (queryCol l)) = x3 (ix2 r l) := by
  pointwise [queryCol]
  repeat refine (dif_neg (by omega)).trans ?_
  refine (dif_pos (by omega)).trans ?_
  exact congrArg _ (congrArg (ix2 r) (Fin.ext (by simp only []; omega)))

theorem queryRope_apply (r : Fin 8192) (l : Fin 512) :
    glued x0 x1 x2 x3 x4 x5 x6 x7 hc (ix2 r (queryRopeCol l)) = x4 (ix2 r l) := by
  pointwise [queryRopeCol]
  repeat refine (dif_neg (by omega)).trans ?_
  refine (dif_pos (by omega)).trans ?_
  exact congrArg _ (congrArg (ix2 r) (Fin.ext (by simp only []; omega)))

theorem latent_apply (r : Fin 8192) (l : Fin 512) : glued x0 x1 x2 x3 x4 x5 x6 x7 hc (ix2 r (latentCol l)) = x5 (ix2 r l) := by
  pointwise [latentCol]
  repeat refine (dif_neg (by omega)).trans ?_
  refine (dif_pos (by omega)).trans ?_
  exact congrArg _ (congrArg (ix2 r) (Fin.ext (by simp only []; omega)))

theorem keyRope_apply (r : Fin 8192) (l : Fin 64) : glued x0 x1 x2 x3 x4 x5 x6 x7 hc (ix2 r (keyRopeCol l)) = x6 (ix2 r l) := by
  pointwise [keyRopeCol]
  repeat refine (dif_neg (by omega)).trans ?_
  refine (dif_pos (by omega)).trans ?_
  exact congrArg _ (congrArg (ix2 r) (Fin.ext (by simp only []; omega)))

theorem concatenates : Shape.Concatenates [M 2048, M 1024, M 1536, M 1024, M 512, M 512, M 64, M 192] (M 6912) 1 := by
  decide

/-- The projection with its columns in the order of the kernels, in bf16. -/
def permuted (p : FVec Ideal (M 6720) .f32) : FVec Ideal (M 6912) .bf16 :=
  truncf .bf16 (glued
    (extractStridedSlice (M 2048) ![0, 1536] p (by decide))
    (extractStridedSlice (M 1024) ![0, 5696] p (by decide))
    (extractStridedSlice (M 1536) ![0, 0] p (by decide))
    (shapeCast (M 1024) (extractStridedSlice ⟨3, ![8192, 8, 128]⟩ ![0, 0, 0] (shapeCast ⟨3, ![8192, 8, 192]⟩
      (extractStridedSlice (M 1536) ![0, 3584] p (by decide)) (by decide)) (by decide)) (by decide))
    (shapeCast (M 512) (extractStridedSlice ⟨3, ![8192, 8, 64]⟩ ![0, 0, 128] (shapeCast ⟨3, ![8192, 8, 192]⟩
      (extractStridedSlice (M 1536) ![0, 3584] p (by decide)) (by decide)) (by decide)) (by decide))
    (extractStridedSlice (M 512) ![0, 5120] p (by decide))
    (extractStridedSlice (M 64) ![0, 5632] p (by decide))
    (broadcastInDim (M 192) ![] (by decide) (constant ⟨0, ![]⟩ .f32 0x00000000#32)) concatenates) (by decide)

variable (p : FVec Ideal (M 6720) .f32)

theorem permuted_gate (r : Fin 8192) (l : Fin 1024) :
    permuted p (ix2 r (gateCol l)) = p (ix2 r ⟨5696 + l.val, by omega⟩) := by
  refine (gate_apply _ _ _ _ _ _ _ _ concatenates r l).trans ?_
  pointwise!

theorem permuted_conv (r : Fin 8192) (l : Fin 2048) :
    permuted p (ix2 r (convCol l)) = p (ix2 r ⟨1536 + l.val, by omega⟩) := by
  refine (conv_apply _ _ _ _ _ _ _ _ concatenates r l).trans ?_
  pointwise!

theorem permuted_sgu (r : Fin 8192) (l : Fin 1536) :
    permuted p (ix2 r (sguCol l)) = p (ix2 r ⟨l.val, by omega⟩) := by
  refine (sgu_apply _ _ _ _ _ _ _ _ concatenates r l).trans ?_
  pointwise!

theorem permuted_latent (r : Fin 8192) (l : Fin 512) :
    permuted p (ix2 r (latentCol l)) = p (ix2 r ⟨5120 + l.val, by omega⟩) := by
  refine (latent_apply _ _ _ _ _ _ _ _ concatenates r l).trans ?_
  pointwise!

theorem permuted_keyRope (r : Fin 8192) (l : Fin 64) :
    permuted p (ix2 r (keyRopeCol l)) = p (ix2 r ⟨5632 + l.val, by omega⟩) := by
  refine (keyRope_apply _ _ _ _ _ _ _ _ concatenates r l).trans ?_
  pointwise!

theorem permuted_query (r : Fin 8192) (l : Fin 1024) :
    permuted p (ix2 r (queryCol l)) = p (ix2 r ⟨3584 + (l.val / 128 * 192 + l.val % 128), by omega⟩) := by
  refine (query_apply _ _ _ _ _ _ _ _ concatenates r l).trans ?_
  pointwise

theorem permuted_queryRope (r : Fin 8192) (l : Fin 512) :
    permuted p (ix2 r (queryRopeCol l)) = p (ix2 r ⟨3584 + (l.val / 64 * 192 + (128 + l.val % 64)), by omega⟩) := by
  refine (queryRope_apply _ _ _ _ _ _ _ _ concatenates r l).trans ?_
  pointwise

end Cert.Permute

end
-- ==== Proof.CgateArray.lean ====
/-
  The gradient of the gated output norm, the arrays after the run: the gates' gradient in the gradient
  buffer, the outputs' gradient, each head's sum of products and the gain's gradient, put together from
  the 16 tiles.
-/
module

public import proofs.«01_k».proof.Proof.Gen.CgateBackIdeal.Value
public import proofs.«01_k».proof.Proof.CgateBlock
public import proofs.«01_k».proof.Proof.Permute
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.CgateBackIdeal.Arrays

open Cert.CgateBackIdeal Cert.CgateBackIdeal.Gen

variable (m : (ℓ : Loc nD τ sig) → Buf (Elt Ideal) ℓ) (c : Dev nD)

/-- The outputs. -/
abbrev O : FVec Ideal S8192x1024 .f32 := m ((c : Thread nD τ).loc main_arg0)
/-- The projection, which holds the gates. -/
abbrev P : FVec Ideal S8192x6720 .f32 := m ((c : Thread nD τ).loc main_arg1)
/-- The gains of the output norms. -/
abbrev G : FVec Ideal S2048 .f32 := m ((c : Thread nD τ).loc main_arg2)
/-- The incoming gradient. -/
abbrev DY : FVec Ideal S8192x2048 .f32 := m ((c : Thread nD τ).loc main_arg3)
/-- The gradient buffer as it came. -/
abbrev DP : FVec Ideal S8192x6912 .bf16 := m ((c : Thread nD τ).loc main_arg4)

/-- Where each window's block stands at point `t`. -/
theorem idx : ∀ t : Fin cfg0.N, win0_0.index t = ![t.val, 0] ∧ win0_1.index t = ![t.val, 2] ∧ win0_2.index t = ![0, 0]
    ∧ win0_3.index t = ![t.val, 1] ∧ win0_4.index t = ![t.val, 2] ∧ win0_5.index t = ![t.val, 0]
    ∧ win0_6.index t = ![0, t.val / 8, 0, t.val % 8] ∧ win0_7.index t = ![0, 0] ∧ t.val < 16 :=
  (by decide +kernel : ∀ t : Fin grid0.N, _)

theorem lt16 (t : Fin cfg0.N) : t.val < 16 := t.isLt.trans_eq (by decide)

/-- Row `r` of point `t`'s tile is row `512 t + r` of the array. -/
def at_ (t : Fin cfg0.N) (r : Fin 512) : Fin 8192 := ⟨t.val * 512 + r.val, by have := lt16 t; omega⟩

/-- Row `r` of the outputs, of the gates and of the incoming gradient, and the gain. -/
abbrev ro (r : Fin 8192) : Fin 1024 → EReal := fun k => O m c (ix2 r k)
abbrev rz (r : Fin 8192) : Fin 1024 → EReal := fun k => P m c (ix2 r (Rows.gateCol k))
abbrev ry (r : Fin 8192) : Fin 1024 → EReal := fun k => DY m c (ix2 r (Rows.outCol k))
abbrev rg : Fin 1024 → EReal := fun k => G m c (ix1 (Rows.outCol k))

theorem blockO (t : Fin cfg0.N) (r : Fin 512) (l : Fin 1024) :
    (iblk m c 0 t : Vec Ideal S512x1024 .f32) (ix2 r l) = ro m c (at_ t r) l := by
  blk_ext [iblk, V, idx t, at_]

/-- The projection reaches the region with its columns in the order of the kernels. -/
theorem entryP : (V m c main_v13 : FVec Ideal S8192x6912 .bf16) = Permute.permuted (P m c) := by
  unfold V
  unfold_abbrev_sides
  after_reads_simp
  rfl

theorem blockZ (t : Fin cfg0.N) (r : Fin 512) (l : Fin 1024) :
    (X0_1 m c t : Vec Ideal S512x1024 .bf16) (ix2 r l) = rz m c (at_ t r) l := by
  unfold X0_1 Pipeline.Window.fill
  rw [dif_pos (moved0_1 t _)]
  refine Eq.trans ?_ ((congrFun (entryP m c) _).trans (Permute.permuted_gate (P m c) (at_ t r) l))
  refine congrArg (V m c main_v13 : FVec Ideal S8192x6912 .bf16) ?_
  blk_ext [idx t, at_, Permute.gateCol]

theorem blockG (t : Fin cfg0.N) (l : Fin 1024) :
    (iblk m c 2 t : Vec Ideal S1x1024 .f32) (ix2 0 l) = rg m c l := by
  blk_point [iblk, V, idx t, Rows.outCol]

theorem blockDY (t : Fin cfg0.N) (r : Fin 512) (l : Fin 1024) :
    (iblk m c 3 t : Vec Ideal S512x1024 .f32) (ix2 r l) = ry m c (at_ t r) l := by
  blk_ext [iblk, V, idx t, at_, Rows.outCol]

/-- The rows of a point's blocks. -/
theorem rowO (t : Fin cfg0.N) (r : Fin 512) : Block.ro (iblk m c 0 t) r = ro m c (at_ t r) := funext (blockO m c t r)
theorem rowZ (t : Fin cfg0.N) (r : Fin 512) : Block.rz (X0_1 m c t) r = rz m c (at_ t r) := funext (blockZ m c t r)
theorem rowDY (t : Fin cfg0.N) (r : Fin 512) : Block.ro (iblk m c 3 t) r = ry m c (at_ t r) := funext (blockDY m c t r)
theorem rowG (t : Fin cfg0.N) : (fun k => (iblk m c 2 t : Vec Ideal S1x1024 .f32) (ix2 0 k)) = rg m c := funext (blockG m c t)

/-- The gates' gradient, in the gradient buffer. -/
def dbuf : FVec Ideal S8192x6912 .bf16 := fun i => if 2048 ≤ (i 1).val ∧ (i 1).val < 3072 then
  Rows.dgates 0x44800000#32 (ro m c (i 0)) (rz m c (i 0)) (ry m c (i 0)) (rg m c) (Rows.bufGate (i 1)) else DP m c i

/-- The outputs' gradient. -/
def dout : FVec Ideal S8192x1024 .bf16 := fun i =>
  Rows.dout 0x44800000#32 (ro m c (i 0)) (rz m c (i 0)) (ry m c (i 0)) (rg m c) (i 1)

/-- Each head's sum of products of its output and the output's gradient. -/
def dsum : FVec Ideal S8x2x1x4096 .f32 := fun i => ∑ d : Fin 128,
  Rows.dout 0x44800000#32 (ro m c (Rows.halfRow (i 1) (i 3))) (rz m c (Rows.halfRow (i 1) (i 3)))
    (ry m c (Rows.halfRow (i 1) (i 3))) (rg m c) (Rows.hcol (i 0) d)
  * O m c (ix2 (Rows.halfRow (i 1) (i 3)) (Rows.hcol (i 0) d))

/-- The gain's gradient, of all rows. -/
def dg : FVec Ideal S1x1024 .f32 := fun i =>
  ∑ r : Fin 8192, Rows.gain 0x44800000#32 (Rows.gated (ro m c r) (rz m c r)) (ry m c r) (i 1)

/-- What the body leaves of the gates' gradient at a point is that point's tile of `dbuf`. -/
theorem point_dbuf (t : Fin cfg0.N) (y : S512x1024.Idx) :
    k0_pay16 (iblk m c 0 t) (k0_pay3 (X0_1 m c t)) (k0_pay4 (X0_1 m c t)) (k0_pay5 (X0_1 m c t))
        (k0_pay7 (iblk m c 0 t) (X0_1 m c t)) (k0_pay12 (iblk m c 0 t) (X0_1 m c t) (iblk m c 2 t) (iblk m c 3 t))
        (k0_pay13 (iblk m c 0 t) (X0_1 m c t) (iblk m c 2 t) (iblk m c 3 t)) y
      = Rows.dgates 0x44800000#32 (ro m c (at_ t (y 0))) (rz m c (at_ t (y 0))) (ry m c (at_ t (y 0))) (rg m c) (y 1) := by
  idx_vars y
  refine (Block.dgates_apply _ _ _ _ y0 y1).trans ?_
  rw [rowO, rowZ, rowDY, rowG]

/-- What the body leaves of the outputs' gradient at a point is that point's tile of `dout`. -/
theorem point_dout (t : Fin cfg0.N) (y : S512x1024.Idx) :
    k0_pay17 (k0_pay6 (X0_1 m c t)) (k0_pay7 (iblk m c 0 t) (X0_1 m c t))
        (k0_pay12 (iblk m c 0 t) (X0_1 m c t) (iblk m c 2 t) (iblk m c 3 t))
        (k0_pay13 (iblk m c 0 t) (X0_1 m c t) (iblk m c 2 t) (iblk m c 3 t)) y
      = dout m c (((cfg0.win 5).blk t).view.emb y) := by
  idx_vars y
  have e : (((cfg0.win 5).blk t).view.emb (ix2 y0 y1) : S8192x1024.Idx) = ix2 (at_ t y0) y1 := by
    blk_ext [idx t, at_]
  rw [e]
  refine (Block.dout_store _ _ _ _ y0 y1).trans ?_
  rw [rowO, rowZ, rowDY, rowG]
  rfl

theorem final_dout : (dats m 0 c).arrAt 5 cfg0.N = dout m c := by
  refine (dats m 0 c).arrAt_eq_of_covers 5 _ (by decide +kernel) fun t _ y => ?_
  blk_simp
  rw [after0_5]
  have ht := lt16 t
  by_cases h : t.val % 16 = 0
  · rw [outsAt0_A m c t h (by omega)]; frame_out
    exact point_dout m c t y
  · rw [outsAt0_B m c t h (by omega)]; frame_out
    exact point_dout m c t y

/-- One head's sums at a point, at row `r` of the tile. -/
theorem point_dsum (t : Fin cfg0.N) (h : Fin 8) (r : Fin 512) :
    (∑ d : Fin 128, k0_pay15 (k0_pay6 (X0_1 m c t)) (k0_pay7 (iblk m c 0 t) (X0_1 m c t))
        (k0_pay12 (iblk m c 0 t) (X0_1 m c t) (iblk m c 2 t) (iblk m c 3 t))
        (k0_pay13 (iblk m c 0 t) (X0_1 m c t) (iblk m c 2 t) (iblk m c 3 t)) (ix2 r (Rows.hcol h d))
        * (iblk m c 0 t : Vec Ideal S512x1024 .f32) (ix2 r (Rows.hcol h d)))
      = ∑ d : Fin 128, Rows.dout 0x44800000#32 (ro m c (at_ t r)) (rz m c (at_ t r)) (ry m c (at_ t r)) (rg m c) (Rows.hcol h d)
          * ro m c (at_ t r) (Rows.hcol h d) := by
  refine Fin.sum_fin_congr fun d => ?_
  refine congrArg₂ (· * ·) ((Block.dout_apply _ _ _ _ r (Rows.hcol h d)).trans ?_) (blockO m c t r (Rows.hcol h d))
  rw [rowO, rowZ, rowDY, rowG]

theorem dsum_at (h : Fin 8) (a : Fin 2) (b : Fin 4096) : dsum m c (ix4 h a 0 b) = ∑ d : Fin 128,
    Rows.dout 0x44800000#32 (ro m c (Rows.halfRow a b)) (rz m c (Rows.halfRow a b)) (ry m c (Rows.halfRow a b)) (rg m c)
      (Rows.hcol h d) * ro m c (Rows.halfRow a b) (Rows.hcol h d) := rfl

theorem final_dsum : (dats m 0 c).arrAt 6 cfg0.N = dsum m c := by
  refine (dats m 0 c).arrAt_eq_of_covers 6 _ (by decide +kernel) fun t _ y => ?_
  blk_simp
  rw [after0_6]
  have ht := lt16 t
  idx_vars y
  have e : (((cfg0.win 6).blk t).view.emb (ix4 y0 y1 y2 y3) : S8x2x1x4096.Idx)
      = ix4 y0 ⟨t.val / 8, by omega⟩ 0 ⟨t.val % 8 * 512 + y3.val, by omega⟩ := by
    blk_ext [idx t]
  have e' : Rows.halfRow ⟨t.val / 8, by omega⟩ ⟨t.val % 8 * 512 + y3.val, by omega⟩ = at_ t y3 :=
    Fin.ext (by simp only [Rows.halfRow, at_]; omega)
  refine Eq.trans ?_ ((point_dsum m c t y0 y3).trans (Eq.symm ((congrArg (dsum m c) e).trans ?_)))
  · by_cases h16 : t.val % 16 = 0
    · rw [outsAt0_A m c t h16 (by omega)]; frame_out
      canon_tiles x h
      all_goals
        have a : (y0 : ℕ) = _ := h0
        have b : (y3 : ℕ) = _ := h3
        open_payloads
        refine Block.headTile y0 _ _ ?_ _ _ x y3 ?_ <;> omega
    · rw [outsAt0_B m c t h16 (by omega)]; frame_out
      canon_tiles x h
      all_goals
        have a : (y0 : ℕ) = _ := h0
        have b : (y3 : ℕ) = _ := h3
        open_payloads
        refine Block.headTile y0 _ _ ?_ _ _ x y3 ?_ <;> omega
  · rw [dsum_at, e']

/-- The gradient buffer of the region is the argument's copy. -/
theorem entryDP : (dats m 0 c).A 4 = DP m c := by
  refine (A_eq m c 4).trans ?_
  unfold V
  entry_read
  rfl

/-- Where a point's tile of the gradient buffer lies. -/
theorem tile4 (t : Fin cfg0.N) (y : ((cfg0.win 4).xblock (cfg0.grid.coords t)).Idx) :
    (((cfg0.win 4).blk t).view.emb y : S8192x6912.Idx) = ix2 (at_ t (((cfg0.win 4).xinj (grid0.coords t) y : S512x1024.Idx) 0))
      (Permute.gateCol (((cfg0.win 4).xinj (grid0.coords t) y : S512x1024.Idx) 1)) := by
  blk_ext [idx t, at_, Permute.gateCol]

theorem bufGate_gateCol (l : Fin 1024) : Rows.bufGate (Permute.gateCol l) = l :=
  Fin.ext (by simp only [Rows.bufGate, Permute.gateCol]; omega)

theorem final_dbuf : (dats m 0 c).arrAt 4 cfg0.N = dbuf m c := by
  refine ((dats m 0 c).arrAt_eq_of_coversWhere 4
    (fun i : S8192x6912.Idx => Rows.dgates 0x44800000#32 (ro m c (i 0)) (rz m c (i 0)) (ry m c (i 0)) (rg m c) (Rows.bufGate (i 1)))
    (P := fun i : S8192x6912.Idx => 2048 ≤ (i 1).val ∧ (i 1).val < 3072)
    (fun β => β (1 : Fin 2) = 2) (by decide +kernel) (fun t _ y => ?_) (fun j => ?_)).trans ?_
  · have e := tile4 t y
    have f : Rows.bufGate (Permute.gateCol (((cfg0.win 4).xinj (grid0.coords t) y : S512x1024.Idx) 1))
        = (((cfg0.win 4).xinj (grid0.coords t) y : S512x1024.Idx) 1) := bufGate_gateCol _
    have ht := lt16 t
    rw [after0_4]
    generalize (((cfg0.win 4).blk t).view.emb y : S8192x6912.Idx) = z at e ⊢
    subst e
    refine Eq.trans ?_ ((point_dbuf m c t ((cfg0.win 4).xinj (grid0.coords t) y)).trans ?_)
    · by_cases h : t.val % 16 = 0
      · rw [outsAt0_A m c t h (by omega)]; frame_out
        rfl
      · rw [outsAt0_B m c t h (by omega)]; frame_out
        rfl
    · exact congrArg (Rows.dgates 0x44800000#32 _ _ _ _) f.symm
  · blk_simp [Pipeline.Window.cell_apply]
    omega
  · funext i
    rw [entryDP]
    rfl

/-- What the body leaves of the gain's gradient after the last point: the sum over the points of each
    tile's sum over its rows. -/
theorem acc_dg (t : Fin cfg0.N) (ht : t.val + 1 = cfg0.N) (l : Fin 1024) :
    (outsAt0 m c t.val t.isLt).2.2.2 (ix2 0 l)
      = 0 + ∑ p : Fin cfg0.N, ∑ r : Fin 512, Rows.gain 0x44800000#32
          (Rows.gated (ro m c (at_ p r)) (rz m c (at_ p r))) (ry m c (at_ p r)) l := by
  refine Pipeline.eq_sum_fin_of_reset_step_apply_last (fun n h (l : Fin 1024) => ((outsAt0 m c n h).2.2.2 (ix2 0 l) : EReal)) 16
    (fun _ => 0) (fun p l => ∑ r : Fin 512, Rows.gain 0x44800000#32
          (Rows.gated (ro m c (at_ p r)) (rz m c (at_ p r))) (ry m c (at_ p r)) l) (fun t h l => ?_) (fun t h l => ?_)
    (by decide) t ht l
  · have ht := lt16 t
    rw [outsAt0_A m c t h (by omega)]; frame_out
    refine (Block.gain_apply _ _ _ l).trans ?_
    rw [zero_add]
    refine Fin.sum_fin_congr fun r => ?_
    rw [rowO, rowZ, rowDY]
  · rw [outsAt0_B m c t h (by omega)]; frame_out
    pointwise [k0_pay2, Block.gain_apply]
    refine congrArg _ (Fin.sum_fin_congr fun r => ?_)
    rw [rowO, rowZ, rowDY]

/-- The last point of the grid. -/
def last : Fin cfg0.N := ⟨15, by decide⟩

theorem final_dg : (dats m 0 c).arrAt 7 cfg0.N = dg m c := by
  refine (dats m 0 c).arrAt_eq_of_after_last 7 last (by decide +kernel) _ fun j => ?_
  blk_simp
  rw [after0_7]
  obtain ⟨a, l, rfl⟩ : ∃ (a : Fin 1) (l : Fin 1024), j = ix2 a l := ⟨j 0, j 1, eq_ix2 j⟩
  obtain rfl : a = 0 := Subsingleton.elim _ _
  refine (acc_dg m c last (by decide) l).trans ?_
  rw [zero_add]
  exact Fin.sum_mul_add_fin (L := 8192) 16 512 fun r : Fin 8192 => Rows.gain 0x44800000#32
    (Rows.gated (ro m c r) (rz m c r)) (ry m c r) l

end Cert.CgateBackIdeal.Arrays

end
-- ==== Proof.CgateRef.lean ====
/-
  The reference of the gated output norm's gradient, read at an index: the derivative of the plain lines
  of all 8192 rows, as the row functions of `CgateRows`.
-/
module

public import proofs.«01_k».proof.Proof.Gen.CgateRefIdeal.Read
public import proofs.«01_k».proof.Proof.CgateRows
public import proofs.«01_k».proof.Proof.Consts
public import Idealize.ShloMosaic.Lib.Pipeline.ValueKit

@[expose] public section

set_option maxRecDepth 16384

noncomputable section

open Idealize.ShloMosaic Idealize.ShloMosaic.TcCoe Idealize.SL.Sem

namespace Cert.CgateRefIdeal.Math

open Cert.CgateRefIdeal Cert.CgateRefIdeal.Gen Cert.CgateRefIdeal.Read

variable (o : FVec Ideal S8192x1024 .f32) (proj : FVec Ideal S8192x6720 .f32) (gn : FVec Ideal S2048 .f32)
  (dy : FVec Ideal S8192x2048 .f32) (dproj : FVec Ideal S8192x6912 .bf16)

/-- Row `r` of the outputs, of the gates and of the incoming gradient, and the gain. -/
abbrev ro (r : Fin 8192) : Fin 1024 → EReal := fun k => o (ix2 r k)
abbrev rz (r : Fin 8192) : Fin 1024 → EReal := fun k => proj (ix2 r (Rows.gateCol k))
abbrev ry (r : Fin 8192) : Fin 1024 → EReal := fun k => dy (ix2 r (Rows.outCol k))
abbrev rg : Fin 1024 → EReal := fun k => gn (ix1 (Rows.outCol k))

theorem z_apply (r : Fin 8192) (l : Fin 1024) : val_main_v0 (F := Ideal) proj (ix2 r l) = rz proj r l := by
  pointwise! [val_main_v0, Rows.gateCol]

theorem y_apply (r : Fin 8192) (l : Fin 1024) : val_main_v20 (F := Ideal) dy (ix2 r l) = ry dy r l := by
  pointwise! [val_main_v20, Rows.outCol]

theorem g_apply (l : Fin 1024) : val_main_v1 (F := Ideal) gn (ix1 l) = rg gn l := by
  pointwise! [val_main_v1, Rows.outCol]

theorem sigma_apply (r : Fin 8192) (l : Fin 1024) :
    val_main_v2_2 (F := Ideal) proj (ix2 r l) = Rows.sigma (rz proj r l) := by
  pointwise [val_main_v2_2, val_main_call0_v4, val_main_call0_v3, val_main_call0_v2, val_main_call0_v1, val_main_call0_v0,
    val_main_call0_cst, val_main_call0_cst_0, z_apply, Rows.sigma]

theorem silu_apply (r : Fin 8192) (l : Fin 1024) :
    val_main_v2_0 (F := Ideal) proj (ix2 r l) = Rows.silu (rz proj r l) := by
  pointwise! [val_main_v2_0, z_apply, sigma_apply, Rows.silu]

theorem gated_apply (r : Fin 8192) (l : Fin 1024) :
    val_main_v3 (F := Ideal) o proj (ix2 r l) = Rows.gated (ro o r) (rz proj r) l := by
  pointwise! [val_main_v3, silu_apply, Rows.gated]

theorem meanSq_apply (r : Fin 8192) : val_main_v10 (F := Ideal) o proj (ix2 r 0)
    = Rows.meanSq 0x44800000#32 (Rows.gated (ro o r) (rz proj r)) := by
  pointwise! [val_main_v10, val_main_v9, val_main_v8, val_main_v7, val_main_v6, val_main_v5, val_main_v4, val_main_cst,
    val_main_cst_0, val_main_cst_1, gated_apply, Rows.meanSq]

theorem scale_apply (r : Fin 8192) : val_main_v11 (F := Ideal) o proj (ix2 r 0)
    = Rows.scale 0x44800000#32 (Rows.gated (ro o r) (rz proj r)) := by
  rw [Rows.scale, ← meanSq_apply]
  pointwise! [val_main_v11]

/-- The gain's gradient: the sum over all rows. -/
theorem gain_apply (l : Fin 1024) : val_main_v54 (F := Ideal) o proj dy (ix2 0 l)
    = ∑ r : Fin 8192, Rows.gain 0x44800000#32 (Rows.gated (ro o r) (rz proj r)) (ry dy r) l := by
  pointwise [val_main_v54, val_main_v26, val_main_v23, val_main_v22, val_main_v21, val_main_v16, val_main_v15,
    val_main_cst_3, val_main_cst_4, gated_apply, scale_apply, y_apply, Rows.gain]
  simp only [Fin.sum_univ_one, Fin.isValue]

/-- The gradient of the gated row. -/
theorem dgated_apply (r : Fin 8192) (l : Fin 1024) : val_main_v40 (F := Ideal) o proj gn dy (ix2 r l)
    = Rows.dgated 0x44800000#32 (ro o r) (rz proj r) (ry dy r) (rg gn) l := by
  pointwise [val_main_v40, val_main_v39, val_main_v38, val_main_v37, val_main_v36, val_main_v35, val_main_v34, val_main_v33,
    val_main_v32, val_main_v31, val_main_v30, val_main_v29, val_main_v28, val_main_v27, val_main_v25, val_main_v24,
    val_main_v17, val_main_v14, val_main_v13, val_main_v12, val_main_cst_2, val_main_cst_5, val_main_cst_6, val_main_cst_7,
    Rows.dgated, Rows.grad, Rows.slope]
  simp only [Fin.sum_univ_one, Fin.isValue, gated_apply, scale_apply, meanSq_apply, y_apply, g_apply]

theorem dout_apply (r : Fin 8192) (l : Fin 1024) : val_main_v42 (F := Ideal) o proj gn dy (ix2 r l)
    = Rows.dout 0x44800000#32 (ro o r) (rz proj r) (ry dy r) (rg gn) l := by
  pointwise! [val_main_v42, dgated_apply, silu_apply, Rows.dout]

theorem dout_result (r : Fin 8192) (l : Fin 1024) : val_main_v52 (F := Ideal) o proj gn dy (ix2 r l)
    = Rows.dout 0x44800000#32 (ro o r) (rz proj r) (ry dy r) (rg gn) l := by
  pointwise! [val_main_v52, dout_apply]

theorem dgates_apply (r : Fin 8192) (l : Fin 1024) : val_main_v43 (F := Ideal) o proj gn dy (ix2 r l)
    = Rows.dgates 0x44800000#32 (ro o r) (rz proj r) (ry dy r) (rg gn) l := by
  pointwise [val_main_v43, val_main_call1_v2, val_main_call1_v1, val_main_call1_v0, val_main_v41, val_main_v2_1,
    val_main_call0_v7, val_main_call0_v6, val_main_call0_cst_1, dgated_apply, sigma_apply, z_apply, Rows.dgates, Rows.dsilu]

/-- The gradient buffer: columns 2048 to 3071 are the gates' gradient, the others are as they came. -/
theorem dproj_apply (r : Fin 8192) (j : Fin 6912) :
    val_main_v51 (F := Ideal) o proj gn dy dproj (ix2 r j)
      = if 2048 ≤ j.val ∧ j.val < 3072 then
          Rows.dgates 0x44800000#32 (ro o r) (rz proj r) (ry dy r) (rg gn) (Rows.bufGate j)
        else dproj (ix2 r j) := by
  pointwise [val_main_v51, val_main_v50, val_main_v49, val_main_v48, dgates_apply, Rows.bufGate]
  by_cases h : j.val < 2048
  · exact (dif_pos h).trans (if_neg (by omega)).symm
  · refine (dif_neg h).trans ?_
    by_cases h' : j.val - 2048 < 1024
    · refine (dif_pos h').trans (Eq.trans ?_ (if_pos (by omega)).symm)
      exact congrArg _ (Fin.ext (by simp only []; omega))
    · refine (dif_neg h').trans (Eq.trans ?_ (if_neg (by omega)).symm)
      exact congrArg dproj (congrArg (ix2 r) (Fin.ext (by simp only []; omega)))

/-- The sum of each head's products of its output and the output's gradient. -/
theorem dsum_apply (h : Fin 8) (a : Fin 2) (b : Fin 4096) :
    val_main_v53 (F := Ideal) o proj gn dy (ix4 h a 0 b)
      = ∑ d : Fin 128, Rows.dout 0x44800000#32 (ro o (Rows.halfRow a b)) (rz proj (Rows.halfRow a b))
          (ry dy (Rows.halfRow a b)) (rg gn) (Rows.hcol h d) * o (ix2 (Rows.halfRow a b) (Rows.hcol h d)) := by
  pointwise! [val_main_v53, val_main_v47, val_main_v46, val_main_v45, val_main_v44, val_main_cst_8, dout_apply,
    Rows.hcol, Rows.halfRow]

end Cert.CgateRefIdeal.Math

end
-- ==== Proof.CgatePair.lean ====
/-
  The gradient of the gated norm behind the attention: kernel and reference end with the same four arrays.
-/
module

public import proofs.«01_k».proof.Defs
public import proofs.«01_k».proof.Proof.CgateArray
public import proofs.«01_k».proof.Proof.CgateRef
public import proofs.«01_k».proof.Proof.Gen.CgateBack.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Cgate

section
open Cert.CgateRefIdeal Cert.CgateRefIdeal.Read Cert.CgateRefIdeal.Math

variable (o : FVec Ideal S8192x1024 .f32) (proj : FVec Ideal S8192x6720 .f32) (gn : FVec Ideal S2048 .f32)
  (dy : FVec Ideal S8192x2048 .f32) (dproj : FVec Ideal S8192x6912 .bf16)

theorem ref_dproj : val_main_v51 (F := Ideal) o proj gn dy dproj = fun i => if 2048 ≤ (i 1).val ∧ (i 1).val < 3072 then
    Rows.dgates 0x44800000#32 (ro o (i 0)) (rz proj (i 0)) (ry dy (i 0)) (rg gn) (Rows.bufGate (i 1)) else dproj i := by
  funext i
  idx_vars i
  exact dproj_apply o proj gn dy dproj i0 i1

theorem ref_dout : val_main_v52 (F := Ideal) o proj gn dy = fun i =>
    Rows.dout 0x44800000#32 (ro o (i 0)) (rz proj (i 0)) (ry dy (i 0)) (rg gn) (i 1) := by
  funext i
  idx_vars i
  exact dout_result o proj gn dy i0 i1

theorem ref_dsum : val_main_v53 (F := Ideal) o proj gn dy = fun i => ∑ d : Fin 128,
    Rows.dout 0x44800000#32 (ro o (Rows.halfRow (i 1) (i 3))) (rz proj (Rows.halfRow (i 1) (i 3)))
      (ry dy (Rows.halfRow (i 1) (i 3))) (rg gn) (Rows.hcol (i 0) d)
    * o (ix2 (Rows.halfRow (i 1) (i 3)) (Rows.hcol (i 0) d)) := by
  funext i
  idx_vars i
  obtain rfl : i2 = 0 := Subsingleton.elim _ _
  exact dsum_apply o proj gn dy i0 i1 i3

theorem ref_dg : val_main_v54 (F := Ideal) o proj dy = fun i =>
    ∑ r : Fin 8192, Rows.gain 0x44800000#32 (Rows.gated (ro o r) (rz proj r)) (ry dy r) (i 1) := by
  funext i
  idx_vars i
  obtain rfl : i0 = 0 := Subsingleton.elim _ _
  exact gain_apply o proj dy i1

end

set_option maxHeartbeats 1600000 in
/-- Both programs end with the arrays `dbuf`, `dout`, `dsum` and `dg` of the arguments. -/
theorem equal : Cert.algebraic_CgateBackIdeal_CgateRefIdeal := by
  pair_intro
  · run_from Cert.CgateBackIdeal.Gen.run_main m g
  · run_from Cert.CgateRefIdeal.Value.run m' g'
    · rw [CgateRefIdeal.Read.val_main_v51_eq]
      simp only [hagree c]
      exact (ref_dproj _ _ _ _ _).trans (CgateBackIdeal.Arrays.final_dbuf m c).symm
    · rw [CgateRefIdeal.Read.val_main_v52_eq]
      simp only [hagree c]
      exact (ref_dout _ _ _ _).trans (CgateBackIdeal.Arrays.final_dout m c).symm
    · rw [CgateRefIdeal.Read.val_main_v53_eq]
      simp only [hagree c]
      exact (ref_dsum _ _ _ _).trans (CgateBackIdeal.Arrays.final_dsum m c).symm
    · exact (CgateRefIdeal.Read.val_main_v54_eq _ _ _).trans
        ((ref_dg _ _ _).trans (CgateBackIdeal.Arrays.final_dg m c).symm)

/-- The reference ends, with its arguments unchanged. -/
theorem frame_ref : Cert.quiescent_CgateRefIdeal := fun m g _ =>
  (θ_run Cert.CgateRefIdeal.defs _ _).mono (fun r h => ⟨fun c => (h c).2.2.2.2, sem_eq_zero_of_no_sems (by decide) r.2⟩)
    (Cert.CgateRefIdeal.Value.run (F := Ideal) m g)

end Cert.Proof.Cgate

end
-- ==== Proof.SguRows.lean ====
module
public import proofs.«01_k».proof.Proof.CgateRows

/-! # The formulas of the spatial gating's gradient

The tokens come in 64 chunks of 128, the 512 channels in four heads of 128. Each head's gates are normalised, mixed
over the tokens of their chunk by a matrix of the head, and multiply the head's values; the product, through a SiLU gate
and a norm over all channels, is the output. -/

@[expose] public section
noncomputable section

open Idealize.ShloMosaic

namespace Cert.Sgu

/-- What the gradient depends on: values `u`, gates `v`, the outer gate `z`, the gates' gain, the mixing matrices with
    their biases, the output's gain, and the incoming gradient. -/
structure Args where
  u : Fin 8192 → Fin 512 → EReal
  v : Fin 8192 → Fin 4 → Fin 128 → EReal
  z : Fin 8192 → Fin 512 → EReal
  gain : Fin 4 → Fin 128 → EReal
  w : Fin 4 → Fin 128 → Fin 128 → EReal
  b : Fin 4 → Fin 128 → EReal
  ga : Fin 512 → EReal
  dy : Fin 8192 → Fin 512 → EReal

/-- Token `r` of chunk `k`, and a token's chunk and place. -/
def tok (k : Fin 64) (r : Fin 128) : Fin 8192 := ⟨k.val * 128 + r.val, by omega⟩
def chunk (g : Fin 8192) : Fin 64 := ⟨g.val / 128, by omega⟩
def place (g : Fin 8192) : Fin 128 := ⟨g.val % 128, by omega⟩

/-- Lane `l` of head `h` among the channels, and a channel's head and lane. -/
def col (h : Fin 4) (l : Fin 128) : Fin 512 := ⟨h.val * 128 + l.val, by omega⟩
def headOf (j : Fin 512) : Fin 4 := ⟨j.val / 128, by omega⟩
def laneOf (j : Fin 512) : Fin 128 := ⟨j.val % 128, by omega⟩

theorem tok_chunk (g : Fin 8192) : tok (chunk g) (place g) = g :=
  Fin.ext (by change g.val / 128 * 128 + g.val % 128 = g.val; omega)
theorem chunk_tok (k : Fin 64) (r : Fin 128) : chunk (tok k r) = k :=
  Fin.ext (by change (k.val * 128 + r.val) / 128 = k.val; omega)
theorem place_tok (k : Fin 64) (r : Fin 128) : place (tok k r) = r :=
  Fin.ext (by change (k.val * 128 + r.val) % 128 = r.val; omega)
theorem headOf_col (h : Fin 4) (l : Fin 128) : headOf (col h l) = h :=
  Fin.ext (by change (h.val * 128 + l.val) / 128 = h.val; omega)
theorem laneOf_col (h : Fin 4) (l : Fin 128) : laneOf (col h l) = l :=
  Fin.ext (by change (h.val * 128 + l.val) % 128 = l.val; omega)

variable (A : Args)

/-- The gates, normalised, with and without their gain. -/
def unit (g : Fin 8192) (h : Fin 4) (l : Fin 128) : EReal := A.v g h l * Rows.scale 0x43000000#32 (A.v g h)
def normed (g : Fin 8192) (h : Fin 4) (l : Fin 128) : EReal := unit A g h l * A.gain h l

/-- The gates mixed over their chunk. -/
def mixed (g : Fin 8192) (h : Fin 4) (l : Fin 128) : EReal :=
  (∑ j, normed A (tok (chunk g) j) h l * A.w h (place g) j) + A.b h (place g)

/-- The values times the mixed gates. -/
def prod (g : Fin 8192) (j : Fin 512) : EReal := A.u g j * mixed A g (headOf j) (laneOf j)

/-- Gradients of that product and of the outer gate, and the output gain's. -/
def dprod (g : Fin 8192) (j : Fin 512) : EReal := Rows.dout 0x44000000#32 (prod A g) (A.z g) (A.dy g) A.ga j
def dz (g : Fin 8192) (j : Fin 512) : EReal := Rows.dgates 0x44000000#32 (prod A g) (A.z g) (A.dy g) A.ga j
def dga (j : Fin 512) : EReal := ∑ g, Rows.gain 0x44000000#32 (Rows.gated (prod A g) (A.z g)) (A.dy g) j

/-- Gradients of the values and of the mixed gates. -/
def du (g : Fin 8192) (j : Fin 512) : EReal := dprod A g j * mixed A g (headOf j) (laneOf j)
def dmixed (g : Fin 8192) (h : Fin 4) (l : Fin 128) : EReal := A.u g (col h l) * dprod A g (col h l)

/-- Gradients of the biases, of the mixing matrices, and of the normalised gates. -/
def db (h : Fin 4) (r : Fin 128) : EReal := ∑ k, ∑ l, dmixed A (tok k r) h l
def dw (h : Fin 4) (r j : Fin 128) : EReal := ∑ k, ∑ l, dmixed A (tok k r) h l * normed A (tok k j) h l
def dnormed (g : Fin 8192) (h : Fin 4) (l : Fin 128) : EReal :=
  ∑ r, dmixed A (tok (chunk g) r) h l * A.w h r (place g)

/-- Gradients of the gates' gain and of the gates. -/
def dgain (h : Fin 4) (l : Fin 128) : EReal := ∑ g, unit A g h l * dnormed A g h l
def dv (g : Fin 8192) (h : Fin 4) (l : Fin 128) : EReal :=
  Rows.grad 0x43000000#32 (A.v g h) (fun l => dnormed A g h l * A.gain h l) l

/-- A row of the spatial gating's gradient: the values', the gates', the outer gate's. -/
def row (g : Fin 8192) (j : Fin 1536) : EReal :=
  if h : j.val < 512 then du A g ⟨j.val, h⟩
  else if h' : j.val < 1024 then dv A g ⟨(j.val - 512) / 128, by omega⟩ ⟨(j.val - 512) % 128, by omega⟩
  else dz A g ⟨j.val - 1024, by omega⟩

end Cert.Sgu

end
-- ==== Proof.SguBlock.lean ====
/-
  The spatial gating's gradient: what the kernel computes of one chunk of 128 tokens, read at an index. Every lemma is
  of one head; `sums` brings the four heads' sums over the lanes together.
-/
module

public import proofs.«01_k».proof.Proof.Gen.SguBackIdeal.Skeleton
public import proofs.«01_k».proof.Proof.SguRows
public import proofs.«01_k».proof.Proof.Consts
public import Idealize.ShloMosaic.Lib.Pipeline.ValueKit

@[expose] public section

set_option maxRecDepth 16384

noncomputable section

open Idealize.ShloMosaic Idealize.ShloMosaic.TcCoe Idealize.SL.Sem

namespace Cert.SguBackIdeal.Block

open Cert.SguBackIdeal Cert.SguBackIdeal.Gen Cert.Sgu

/-! The gates' norm and the mixing. -/

section Mix

variable (u v z w : FVec Ideal S128x128 .f32) (g : FVec Ideal S1x128 .f32) (b : FVec Ideal S128x1 .f32)
  (U V Z W M N : Fin 128 → Fin 128 → EReal) (G B : Fin 128 → EReal) (r l : Fin 128)

theorem mean (hv : ∀ r k, v (ix2 r k) = V r k) : k0_pay31 v (ix2 r 0) = Rows.meanSq 0x43000000#32 (V r) := by
  pointwise! [k0_pay31, hv, Rows.meanSq]

theorem scale (hv : ∀ r k, v (ix2 r k) = V r k) : k0_pay32 v (ix2 r 0) = Rows.scale 0x43000000#32 (V r) := by
  rw [Rows.scale, ← mean v V r hv]
  pointwise! [k0_pay32]

theorem unit (hv : ∀ r k, v (ix2 r k) = V r k) :
    k0_pay34 v (ix2 r l) = V r l * Rows.scale 0x43000000#32 (V r) := by
  pointwise! [k0_pay34, hv, scale v V r hv]

theorem normed (hv : ∀ r k, v (ix2 r k) = V r k) (hg : ∀ k, g (ix2 0 k) = G k) :
    k0_pay35 v g (ix2 r l) = V r l * Rows.scale 0x43000000#32 (V r) * G l := by
  pointwise! [k0_pay35, unit v V r l hv, hg]

theorem mixed (hn : ∀ r k, k0_pay35 v g (ix2 r k) = N r k) (hw : ∀ r k, w (ix2 r k) = W r k) (hb : ∀ r, b (ix2 r 0) = B r) :
    k0_pay36 v g w b (ix2 r l) = (∑ j, N j l * W r j) + B r := by
  pointwise [k0_pay36, hn, hw, hb]
  exact congrArg (· + B r) (Finset.sum_congr rfl fun j _ => mul_comm _ _)

theorem prod (hu : ∀ r k, u (ix2 r k) = U r k) (hm : ∀ r k, k0_pay36 v g w b (ix2 r k) = M r k) :
    k0_pay37 u v g w b (ix2 r l) = U r l * M r l := by
  pointwise! [k0_pay37, hu, hm]

theorem sigma (hz : ∀ r k, z (ix2 r k) = Z r k) : k0_pay38 z (ix2 r l) = Rows.sigma (Z r l) := by
  pointwise! [k0_pay38, hz, Rows.sigma]

theorem silu (hz : ∀ r k, z (ix2 r k) = Z r k) : k0_pay40 z (ix2 r l) = Rows.silu (Z r l) := by
  pointwise! [k0_pay40, hz, sigma z Z r l hz, Rows.silu]

theorem gated (hp : ∀ r k, k0_pay37 u v g w b (ix2 r k) = M r k) (hz : ∀ r k, z (ix2 r k) = Z r k) :
    k0_pay41 u v z g w b (ix2 r l) = M r l * Rows.silu (Z r l) := by
  pointwise! [k0_pay41, hp, silu z Z r l hz]

end Mix

/-! The output's norm, over the four heads. -/

/-- A sum over all channels is the sum of the four heads' sums. -/
theorem sums (f : Fin 512 → EReal) :
    ∑ j, f j = (∑ l, f (col 0 l)) + (∑ l, f (col 1 l)) + (∑ l, f (col 2 l)) + ∑ l, f (col 3 l) := by
  rw [← Fin.sum_mul_add_fin (L := 512) 4 128 f, Fin.sum_univ_four]
  rfl

section Norm

variable (u v z w : FVec Ideal S128x128 .f32) (g : FVec Ideal S1x128 .f32) (b rs : FVec Ideal S128x1 .f32)
  (y0 y1 y2 : FVec Ideal S128x128 .f32) (d0 d1 d2 d3 : FVec Ideal S128x128 .f32) (a0 a1 a2 a3 : FVec Ideal S1x128 .f32)
  (r : Fin 128) (Y D E : Fin 512 → EReal)

theorem outMean (h0 : ∀ k, y0 (ix2 r k) = Y (col 0 k)) (h1 : ∀ k, y1 (ix2 r k) = Y (col 1 k)) (h2 : ∀ k, y2 (ix2 r k) = Y (col 2 k))
    (h3 : ∀ k, k0_pay76 u v z g w b rs (ix2 r k) = Y (col 3 k)) :
    k0_pay77 u v z g w b y0 y1 y2 rs (ix2 r 0) = Rows.meanSq 0x44000000#32 Y := by
  rw [Rows.meanSq, sums, Consts.div512]
  pointwise [k0_pay77, h0, h1, h2, h3]

theorem outScale (h0 : ∀ k, y0 (ix2 r k) = Y (col 0 k)) (h1 : ∀ k, y1 (ix2 r k) = Y (col 1 k)) (h2 : ∀ k, y2 (ix2 r k) = Y (col 2 k))
    (h3 : ∀ k, k0_pay76 u v z g w b rs (ix2 r k) = Y (col 3 k)) :
    k0_pay78 u v z g w b y0 y1 y2 rs (ix2 r 0) = Rows.scale 0x44000000#32 Y := by
  rw [Rows.scale, ← outMean u v z w g b rs y0 y1 y2 r Y h0 h1 h2 h3]
  pointwise! [k0_pay78]

/-- The derivative of a row's scale along its gradient, its four heads' sums added last head first. -/
theorem outSlope (h0 : ∀ k, y0 (ix2 r k) = Y (col 0 k)) (h1 : ∀ k, y1 (ix2 r k) = Y (col 1 k)) (h2 : ∀ k, y2 (ix2 r k) = Y (col 2 k))
    (h3 : ∀ k, k0_pay76 u v z g w b rs (ix2 r k) = Y (col 3 k))
    (hd0 : ∀ k, d0 (ix2 r k) * a0 (ix2 0 k) = E (col 0 k)) (hd1 : ∀ k, d1 (ix2 r k) * a1 (ix2 0 k) = E (col 1 k))
    (hd2 : ∀ k, d2 (ix2 r k) * a2 (ix2 0 k) = E (col 2 k)) (hd3 : ∀ k, d3 (ix2 r k) * a3 (ix2 0 k) = E (col 3 k)) :
    k0_pay96 (k0_pay79 u v z g w b y0 y1 y2 rs) (k0_pay91 a1 a2 a3 y1 y2 (k0_pay76 u v z g w b rs) d1 d2 d3) (k0_pay95 a0 y0 d0) (ix2 r 0)
      = Rows.slope 0x44000000#32 Y E := by
  rw [Rows.slope, sums, Consts.div512]
  pointwise [k0_pay96, k0_pay95, k0_pay94, k0_pay91, k0_pay90, k0_pay87, k0_pay84, k0_pay79, h0, h1, h2, h3, hd0, hd1, hd2, hd3,
    outScale u v z w g b rs y0 y1 y2 r Y h0 h1 h2 h3, outMean u v z w g b rs y0 y1 y2 r Y h0 h1 h2 h3]
  congr 2
  abel

end Norm

section Out

variable (y d : FVec Ideal S128x128 .f32) (sl rs p : FVec Ideal S128x1 .f32) (q : FVec Ideal S128x128 .f32) (a : FVec Ideal S1x128 .f32)

/-- The gradient of a head's gated products. -/
theorem dgated (Y E : Fin 512 → EReal) (r : Fin 128) (h : Fin 4) (hy : ∀ k, y (ix2 r k) = Y (col h k))
    (hd : ∀ k, d (ix2 r k) * a (ix2 0 k) = E (col h k)) (hs : k0_pay96 sl p q (ix2 r 0) = Rows.slope 0x44000000#32 Y E)
    (hr : rs (ix2 r 0) = Rows.scale 0x44000000#32 Y) (l : Fin 128) :
    k0_pay97 y sl (k0_pay85 a rs d) p q (ix2 r l) = Rows.grad 0x44000000#32 Y E (col h l) := by
  pointwise [k0_pay97, k0_pay85, k0_pay84, Rows.grad]
  simp only [Fin.sum_univ_one, Fin.isValue, hy, hd, hs, hr]

/-- A head's part of the output gain's gradient. -/
theorem dga (Y D : Fin 128 → Fin 512 → EReal) (h : Fin 4) (hy : ∀ r k, y (ix2 r k) = Y r (col h k))
    (hd : ∀ r k, d (ix2 r k) = D r (col h k)) (hr : ∀ r, rs (ix2 r 0) = Rows.scale 0x44000000#32 (Y r)) (l : Fin 128) :
    k0_pay83 y rs d (ix2 0 l) = ∑ r, Rows.gain 0x44000000#32 (Y r) (D r) (col h l) := by
  pointwise [k0_pay83, hy, hd, hr, Rows.gain]

end Out

/-! Through the gate and the mixing. -/

section Back

variable (u v z w s y m : FVec Ideal S128x128 .f32) (g : FVec Ideal S1x128 .f32)
  (U V Z W S T P M N : Fin 128 → Fin 128 → EReal) (G : Fin 128 → EReal) (r l : Fin 128)

theorem dz (hz : ∀ r k, z (ix2 r k) = Z r k) (hm : ∀ r k, m (ix2 r k) = M r k) (hy : ∀ r k, y (ix2 r k) = P r k) :
    k0_pay136 z m (k0_pay38 z) (k0_pay39 z) y (ix2 r l) = Rows.dsilu (Z r l) (M r l * P r l) := by
  pointwise [k0_pay136, k0_pay39, hz, hm, hy, sigma z Z r l hz, Rows.dsilu]

theorem dprod (hs : ∀ r k, s (ix2 r k) = S r k) (hy : ∀ r k, y (ix2 r k) = P r k) :
    k0_pay135 s y (ix2 r l) = P r l * S r l := by
  pointwise! [k0_pay135, hs, hy]

theorem du (ht : ∀ r k, k0_pay135 s y (ix2 r k) = T r k) (hm : ∀ r k, m (ix2 r k) = M r k) :
    k0_pay138 m s y (ix2 r l) = T r l * M r l := by
  pointwise! [k0_pay138, hm, ht]

theorem dmixed (ht : ∀ r k, k0_pay135 s y (ix2 r k) = T r k) (hu : ∀ r k, u (ix2 r k) = U r k) :
    k0_pay137 u s y (ix2 r l) = U r l * T r l := by
  pointwise! [k0_pay137, hu, ht]

theorem db (ht : ∀ r k, k0_pay137 u s y (ix2 r k) = T r k) : k0_pay139 u s y (ix2 r 0) = ∑ l, T r l := by
  pointwise! [k0_pay139, ht]

theorem dw (ht : ∀ r k, k0_pay137 u s y (ix2 r k) = T r k) (hn : ∀ r k, k0_pay35 v g (ix2 r k) = N r k) :
    k0_pay142 (k0_pay140 u s y) (k0_pay141 (k0_pay35 v g)) (ix2 r l) = ∑ k, T r k * N l k := by
  pointwise [k0_pay142, k0_pay141, k0_pay140, ht, hn]

theorem dnormed (ht : ∀ r k, k0_pay137 u s y (ix2 r k) = T r k) (hw : ∀ r k, w (ix2 r k) = W r k) :
    k0_pay143 w (k0_pay140 u s y) (ix2 r l) = ∑ j, T j l * W j r := by
  pointwise [k0_pay143, k0_pay140, ht, hw]
  exact Finset.sum_congr rfl fun j _ => mul_comm _ _

theorem dgain (hn : ∀ r k, k0_pay143 w (k0_pay140 u s y) (ix2 r k) = N r k) (hv : ∀ r k, k0_pay34 v (ix2 r k) = V r k) :
    k0_pay144 w (k0_pay34 v) (k0_pay140 u s y) (ix2 0 l) = ∑ r, V r l * N r l := by
  pointwise [k0_pay144, hn, hv]

theorem dv (hn : ∀ r k, k0_pay143 w (k0_pay140 u s y) (ix2 r k) = N r k) (hv : ∀ r k, v (ix2 r k) = V r k)
    (hg : ∀ k, g (ix2 0 k) = G k) :
    k0_pay146 v g w (k0_pay32 v) (k0_pay33 v) (k0_pay140 u s y) (ix2 r l)
      = Rows.grad 0x43000000#32 (V r) (fun k => N r k * G k) l := by
  pointwise [k0_pay146, k0_pay33, Rows.grad, Rows.slope]
  simp only [Fin.sum_univ_one, Fin.isValue, hn, hv, hg, scale v V r hv, mean v V r hv]

end Back

end Cert.SguBackIdeal.Block

end
-- ==== Proof.SguTile.lean ====
/-
  The spatial gating's gradient, one tile of four chunks of 128 tokens: the kernel writes the chunks and the heads out
  one after the other; here is that text with the chunk and the head as variables, and what it computes.
-/
module

public import proofs.«01_k».proof.Proof.SguBlock

@[expose] public section

set_option maxRecDepth 16384

noncomputable section

open Idealize.ShloMosaic Idealize.ShloMosaic.TcCoe Idealize.SL.Sem

namespace Cert.SguBackIdeal.Tile

open Cert.SguBackIdeal Cert.SguBackIdeal.Gen Cert.Sgu

/-- The operands of a tile: values, gates and outer gates side by side, the gates' gain, the mixing matrices and biases,
    the output's gain, the incoming gradient. -/
structure Ops where
  x : Vec Ideal S512x1536 .bf16
  gain : Vec Ideal S4x128 .f32
  w : Vec Ideal S4x128x128 .f32
  b : Vec Ideal S4x128x1 .f32
  ga : Vec Ideal S1x512 .f32
  dy : Vec Ideal S512x512 .f32

/-- Row `r` of chunk `k` of the tile. -/
def row (k : Fin 4) (r : Fin 128) : Fin 512 := ⟨k.val * 128 + r.val, by omega⟩

/-- The operands hold the arguments of the chunks `e`. -/
structure Reads (A : Args) (e : Fin 4 → Fin 64) (o : Ops) : Prop where
  u : ∀ k r (h : Fin 4) (l : Fin 128), o.x (ix2 (row k r) ⟨h.val * 128 + l.val, by omega⟩) = A.u (tok (e k) r) (col h l)
  v : ∀ k r (h : Fin 4) (l : Fin 128), o.x (ix2 (row k r) ⟨512 + h.val * 128 + l.val, by omega⟩) = A.v (tok (e k) r) h l
  z : ∀ k r (h : Fin 4) (l : Fin 128), o.x (ix2 (row k r) ⟨1024 + h.val * 128 + l.val, by omega⟩) = A.z (tok (e k) r) (col h l)
  gain : ∀ (h : Fin 4) (l : Fin 128), o.gain (ix2 h l) = A.gain h l
  w : ∀ (h : Fin 4) (r j : Fin 128), o.w (ix3 h r j) = A.w h r j
  b : ∀ (h : Fin 4) (r : Fin 128), o.b (ix3 h r 0) = A.b h r
  ga : ∀ (h : Fin 4) (l : Fin 128), o.ga (ix2 0 ⟨h.val * 128 + l.val, by omega⟩) = A.ga (col h l)
  dy : ∀ k r (h : Fin 4) (l : Fin 128), o.dy (ix2 (row k r) ⟨h.val * 128 + l.val, by omega⟩) = A.dy (tok (e k) r) (col h l)

/-! The text of one chunk and head. -/

theorem inbX (s : Fin 3) : ∀ (k h : Fin 4) a, (![k.val * 128, s.val * 512 + h.val * 128] : Fin 2 → Nat) a + S128x128.size a ≤ S512x1536.size a := by
  revert s; decide
theorem inbGain : ∀ (h : Fin 4) a, (![h.val, 0] : Fin 2 → Nat) a + S1x128.size a ≤ S4x128.size a := by decide
theorem inbW : ∀ (h : Fin 4) a, (![h.val, 0, 0] : Fin 3 → Nat) a + S1x128x128.size a ≤ S4x128x128.size a := by decide
theorem inbB : ∀ (h : Fin 4) a, (![h.val, 0, 0] : Fin 3 → Nat) a + S1x128x1.size a ≤ S4x128x1.size a := by decide
theorem inbGa : ∀ (h : Fin 4) a, (![0, h.val * 128] : Fin 2 → Nat) a + S1x128.size a ≤ S1x512.size a := by decide
theorem inbDy : ∀ (k h : Fin 4) a, (![k.val * 128, h.val * 128] : Fin 2 → Nat) a + S128x128.size a ≤ S512x512.size a := by decide

section Text

variable (o : Ops) (k h : Fin 4)

/-- Values, gates and outer gates. -/
def U : FVec Ideal S128x128 .f32 := k0_pay6 (View.ld o.x (Rect.unit ![k.val * 128, 0 * 512 + h.val * 128] ![128, 128] (inbX 0 k h)))
def V : FVec Ideal S128x128 .f32 := k0_pay6 (View.ld o.x (Rect.unit ![k.val * 128, 1 * 512 + h.val * 128] ![128, 128] (inbX 1 k h)))
def Z : FVec Ideal S128x128 .f32 := k0_pay6 (View.ld o.x (Rect.unit ![k.val * 128, 2 * 512 + h.val * 128] ![128, 128] (inbX 2 k h)))
/-- The parameters of a head. -/
def G : FVec Ideal S1x128 .f32 := View.ld o.gain (Rect.unit ![h.val, 0] ![1, 128] (inbGain h))
def W : FVec Ideal S128x128 .f32 := k0_pay19 (View.ld o.w (Rect.unit ![h.val, 0, 0] ![1, 128, 128] (inbW h)))
def B : FVec Ideal S128x1 .f32 := k0_pay23 (View.ld o.b (Rect.unit ![h.val, 0, 0] ![1, 128, 1] (inbB h)))
def Ga : FVec Ideal S1x128 .f32 := k0_pay27 (View.ld o.ga (Rect.unit ![0, h.val * 128] ![1, 128] (inbGa h)))
/-- The incoming gradient. -/
def D : FVec Ideal S128x128 .f32 := View.ld o.dy (Rect.unit ![k.val * 128, h.val * 128] ![128, 128] (inbDy k h))

/-- The mixed gates, and the gated products. -/
def M : FVec Ideal S128x128 .f32 := k0_pay36 (V o k h) (G o h) (W o h) (B o h)
def Y : FVec Ideal S128x128 .f32 := k0_pay41 (U o k h) (V o k h) (Z o k h) (G o h) (W o h) (B o h)
/-- The rows' scales and their derivatives along the gradient. -/
def Rs : FVec Ideal S128x1 .f32 :=
  k0_pay78 (U o k 3) (V o k 3) (Z o k 3) (G o 3) (W o 3) (B o 3) (Y o k 0) (Y o k 1) (Y o k 2) (k0_pay32 (V o k 3))
def Sl : FVec Ideal S128x1 .f32 :=
  k0_pay79 (U o k 3) (V o k 3) (Z o k 3) (G o 3) (W o 3) (B o 3) (Y o k 0) (Y o k 1) (Y o k 2) (k0_pay32 (V o k 3))
def Dot : FVec Ideal S128x1 .f32 :=
  k0_pay91 (Ga o 1) (Ga o 2) (Ga o 3) (Y o k 1) (Y o k 2)
    (k0_pay76 (U o k 3) (V o k 3) (Z o k 3) (G o 3) (W o 3) (B o 3) (k0_pay32 (V o k 3))) (D o k 1) (D o k 2) (D o k 3)
def Dot0 : FVec Ideal S128x128 .f32 := k0_pay95 (Ga o 0) (Y o k 0) (D o k 0)
/-- The gated products' gradient, and the mixed gates' at half precision. -/
def DY : FVec Ideal S128x128 .f32 := k0_pay97 (Y o k h) (Sl o k) (k0_pay85 (Ga o h) (Rs o k) (D o k h)) (Dot o k) (Dot0 o k)
def S16 : FVec Ideal S128x128 .bf16 := k0_pay140 (U o k h) (k0_pay40 (Z o k h)) (DY o k h)

/-- The three stores of the gradient buffer. -/
def storeDu : FVec Ideal S128x128 .bf16 := k0_pay145 (k0_pay138 (M o k h) (k0_pay40 (Z o k h)) (DY o k h))
def storeDv : FVec Ideal S128x128 .bf16 :=
  k0_pay146 (V o k h) (G o h) (W o h) (k0_pay32 (V o k h)) (k0_pay33 (V o k h)) (S16 o k h)
def storeDz : FVec Ideal S128x128 .bf16 :=
  k0_pay147 (k0_pay136 (Z o k h) (k0_pay37 (U o k h) (V o k h) (G o h) (W o h) (B o h)) (k0_pay38 (Z o k h)) (k0_pay39 (Z o k h)) (DY o k h))

/-- The stores by part (values, gates, outer gates). -/
def store (s : Fin 3) : FVec Ideal S128x128 .bf16 := match s with
  | 0 => storeDu o k h
  | 1 => storeDv o k h
  | 2 => storeDz o k h

/-- A chunk's parts of the parameters' gradients. -/
def chunkB : FVec Ideal S128x1 .f32 := k0_pay139 (U o k h) (k0_pay40 (Z o k h)) (DY o k h)
def chunkW : FVec Ideal S128x128 .f32 := k0_pay142 (S16 o k h) (k0_pay141 (k0_pay35 (V o k h) (G o h)))
def chunkGain : FVec Ideal S1x128 .f32 := k0_pay144 (W o h) (k0_pay34 (V o k h)) (S16 o k h)
def chunkGa : FVec Ideal S1x128 .f32 := k0_pay83 (Y o k h) (Rs o k) (D o k h)

/-- The tile's parts: the four chunks' added up, first chunk first. -/
def partB : FVec Ideal S128x1 .f32 := addf (addf (addf (chunkB o 0 h) (chunkB o 1 h)) (chunkB o 2 h)) (chunkB o 3 h)
def partW : FVec Ideal S128x128 .f32 := addf (addf (addf (chunkW o 0 h) (chunkW o 1 h)) (chunkW o 2 h)) (chunkW o 3 h)
def partGain : FVec Ideal S4x128 .f32 :=
  k0_pay643 (addf (addf (chunkGain o 0 0) (chunkGain o 1 0)) (chunkGain o 2 0)) (addf (addf (chunkGain o 0 1) (chunkGain o 1 1)) (chunkGain o 2 1))
    (addf (addf (chunkGain o 0 2) (chunkGain o 1 2)) (chunkGain o 2 2)) (addf (addf (chunkGain o 0 3) (chunkGain o 1 3)) (chunkGain o 2 3))
    (chunkGain o 3 3) (chunkGain o 3 2) (chunkGain o 3 1) (chunkGain o 3 0)
def addGain (y : Vec Ideal S4x128 .f32) : FVec Ideal S4x128 .f32 :=
  k0_pay644 (addf (addf (chunkGain o 0 0) (chunkGain o 1 0)) (chunkGain o 2 0)) (addf (addf (chunkGain o 0 1) (chunkGain o 1 1)) (chunkGain o 2 1))
    (addf (addf (chunkGain o 0 2) (chunkGain o 1 2)) (chunkGain o 2 2)) (addf (addf (chunkGain o 0 3) (chunkGain o 1 3)) (chunkGain o 2 3))
    (chunkGain o 3 3) (chunkGain o 3 2) (chunkGain o 3 1) (chunkGain o 3 0) y
def addW (y : Vec Ideal S4x128x128 .f32) (h : Fin 4) : FVec Ideal S1x128x128 .f32 :=
  k0_pay648 (partW o h) (View.ld y (Rect.unit ![h.val, 0, 0] ![1, 128, 128] (inbW h)))
def addB (y : Vec Ideal S4x128x1 .f32) (h : Fin 4) : FVec Ideal S1x128x1 .f32 :=
  k0_pay650 (partB o h) (View.ld y (Rect.unit ![h.val, 0, 0] ![1, 128, 1] (inbB h)))
def partGa : FVec Ideal S1x512 .f32 :=
  k0_pay645 (addf (addf (chunkGa o 0 0) (chunkGa o 1 0)) (chunkGa o 2 0)) (addf (addf (chunkGa o 0 1) (chunkGa o 1 1)) (chunkGa o 2 1))
    (addf (addf (chunkGa o 0 2) (chunkGa o 1 2)) (chunkGa o 2 2)) (addf (addf (chunkGa o 0 3) (chunkGa o 1 3)) (chunkGa o 2 3))
    (chunkGa o 3 3) (chunkGa o 3 2) (chunkGa o 3 1) (chunkGa o 3 0)

end Text

/-! What that text computes. -/

section

variable {A : Args} {e : Fin 4 → Fin 64} {o : Ops} (R : Reads A e o) (k h : Fin 4)
include R

theorem u_at (r l : Fin 128) : U o k h (ix2 r l) = A.u (tok (e k) r) (col h l) := by
  refine Eq.trans ?_ (R.u k r h l)
  pointwise [U, k0_pay6, row]

theorem v_at (r l : Fin 128) : V o k h (ix2 r l) = A.v (tok (e k) r) h l := by
  refine Eq.trans ?_ (R.v k r h l)
  pointwise [V, k0_pay6, row]

theorem z_at (r l : Fin 128) : Z o k h (ix2 r l) = A.z (tok (e k) r) (col h l) := by
  refine Eq.trans ?_ (R.z k r h l)
  pointwise [Z, k0_pay6, row]

theorem g_at (l : Fin 128) : G o h (ix2 0 l) = A.gain h l :=
  (View.ld_unit_apply_of o.gain ![h.val, 0] ![1, 128] (inbGain h) (ix2 0 l) (ix2 h l)
    fun a => match a with | 0 => rfl | 1 => (Nat.zero_add _).symm).trans (R.gain h l)

theorem w_at (r j : Fin 128) : W o h (ix2 r j) = A.w h r j := by
  refine Eq.trans ?_ (R.w h r j)
  pointwise [W, k0_pay19]

theorem b_at (r : Fin 128) : B o h (ix2 r 0) = A.b h r := by
  refine Eq.trans ?_ (R.b h r)
  pointwise [B, k0_pay23]

theorem ga_at (l : Fin 128) : Ga o h (ix2 0 l) = A.ga (col h l) := by
  refine Eq.trans ?_ (R.ga h l)
  pointwise [Ga, k0_pay27]

theorem d_at (r l : Fin 128) : D o k h (ix2 r l) = A.dy (tok (e k) r) (col h l) :=
  (View.ld_unit_apply_of o.dy ![k.val * 128, h.val * 128] ![128, 128] (inbDy k h) (ix2 r l) (ix2 (row k r) ⟨h.val * 128 + l.val, by omega⟩)
    fun a => match a with | 0 => rfl | 1 => rfl).trans (R.dy k r h l)

theorem unit_at (r l : Fin 128) : k0_pay34 (V o k h) (ix2 r l) = unit A (tok (e k) r) h l :=
  Block.unit _ (fun r => A.v (tok (e k) r) h) r l (v_at R k h)

theorem normed_at (r l : Fin 128) : k0_pay35 (V o k h) (G o h) (ix2 r l) = normed A (tok (e k) r) h l :=
  Block.normed _ _ (fun r => A.v (tok (e k) r) h) (A.gain h) r l (v_at R k h) (g_at R h)

theorem m_at (r l : Fin 128) : M o k h (ix2 r l) = mixed A (tok (e k) r) h l := by
  refine (Block.mixed _ _ _ _ (A.w h) (fun r => normed A (tok (e k) r) h) (A.b h) r l (normed_at R k h) (w_at R h) (b_at R h)).trans ?_
  rw [mixed, chunk_tok, place_tok]

theorem prod_at (r l : Fin 128) :
    k0_pay37 (U o k h) (V o k h) (G o h) (W o h) (B o h) (ix2 r l) = prod A (tok (e k) r) (col h l) := by
  refine (Block.prod _ _ _ _ _ (fun r l => A.u (tok (e k) r) (col h l)) (fun r => mixed A (tok (e k) r) h) r l (u_at R k h) (m_at R k h)).trans ?_
  rw [prod, headOf_col, laneOf_col]

theorem y_at (r l : Fin 128) : Y o k h (ix2 r l) = Rows.gated (prod A (tok (e k) r)) (A.z (tok (e k) r)) (col h l) :=
  Block.gated _ _ _ _ _ _ (fun r l => A.z (tok (e k) r) (col h l)) (fun r l => prod A (tok (e k) r) (col h l)) r l (prod_at R k h) (z_at R k h)

theorem rs_at (r : Fin 128) :
    Rs o k (ix2 r 0) = Rows.scale 0x44000000#32 (Rows.gated (prod A (tok (e k) r)) (A.z (tok (e k) r))) :=
  Block.outScale _ _ _ _ _ _ _ _ _ _ r _ (y_at R k 0 r) (y_at R k 1 r) (y_at R k 2 r) (y_at R k 3 r)

theorem e_at (r l : Fin 128) : D o k h (ix2 r l) * Ga o h (ix2 0 l) = (fun j => A.dy (tok (e k) r) j * A.ga j) (col h l) := by
  rw [d_at R, ga_at R]

theorem slope_at (r : Fin 128) : k0_pay96 (Sl o k) (Dot o k) (Dot0 o k) (ix2 r 0)
    = Rows.slope 0x44000000#32 (Rows.gated (prod A (tok (e k) r)) (A.z (tok (e k) r))) (fun j => A.dy (tok (e k) r) j * A.ga j) :=
  Block.outSlope _ _ _ _ _ _ _ _ _ _ _ _ _ _ _ _ _ _ r _ _ (y_at R k 0 r) (y_at R k 1 r) (y_at R k 2 r) (y_at R k 3 r)
    (e_at R k 0 r) (e_at R k 1 r) (e_at R k 2 r) (e_at R k 3 r)

theorem dy_at (r l : Fin 128) : DY o k h (ix2 r l)
    = Rows.dgated 0x44000000#32 (prod A (tok (e k) r)) (A.z (tok (e k) r)) (A.dy (tok (e k) r)) A.ga (col h l) :=
  Block.dgated _ _ _ _ _ _ _ _ _ r h (y_at R k h r) (e_at R k h r) (slope_at R k r) (rs_at R k r) l

theorem silu_at (r l : Fin 128) : k0_pay40 (Z o k h) (ix2 r l) = Rows.silu (A.z (tok (e k) r) (col h l)) :=
  Block.silu _ (fun r l => A.z (tok (e k) r) (col h l)) r l (z_at R k h)

theorem dprod_at (r l : Fin 128) : k0_pay135 (k0_pay40 (Z o k h)) (DY o k h) (ix2 r l) = dprod A (tok (e k) r) (col h l) :=
  Block.dprod _ _ (fun r l => Rows.silu (A.z (tok (e k) r) (col h l)))
    (fun r l => Rows.dgated 0x44000000#32 (prod A (tok (e k) r)) (A.z (tok (e k) r)) (A.dy (tok (e k) r)) A.ga (col h l)) r l
    (silu_at R k h) (dy_at R k h)

theorem dmixed_at (r l : Fin 128) : k0_pay137 (U o k h) (k0_pay40 (Z o k h)) (DY o k h) (ix2 r l) = dmixed A (tok (e k) r) h l :=
  Block.dmixed _ _ _ (fun r l => A.u (tok (e k) r) (col h l)) (fun r l => dprod A (tok (e k) r) (col h l)) r l (dprod_at R k h) (u_at R k h)

theorem dnormed_at (r l : Fin 128) : k0_pay143 (W o h) (S16 o k h) (ix2 r l) = dnormed A (tok (e k) r) h l := by
  refine (Block.dnormed _ _ _ _ (A.w h) (fun r => dmixed A (tok (e k) r) h) r l (dmixed_at R k h) (w_at R h)).trans ?_
  rw [dnormed, chunk_tok, place_tok]

/-! The stores. -/

theorem storeDu_at (r l : Fin 128) : storeDu o k h (ix2 r l) = du A (tok (e k) r) (col h l) := by
  refine Eq.trans ?_ ((Block.du _ _ _ (fun r l => dprod A (tok (e k) r) (col h l)) (fun r => mixed A (tok (e k) r) h) r l
    (dprod_at R k h) (m_at R k h)).trans ?_)
  · pointwise [storeDu, k0_pay145]
  · rw [du, headOf_col, laneOf_col]

theorem storeDv_at (r l : Fin 128) : storeDv o k h (ix2 r l) = dv A (tok (e k) r) h l :=
  Block.dv _ _ _ _ _ _ (fun r => A.v (tok (e k) r) h) (fun r => dnormed A (tok (e k) r) h) (A.gain h) r l
    (dnormed_at R k h) (v_at R k h) (g_at R h)

theorem storeDz_at (r l : Fin 128) : storeDz o k h (ix2 r l) = dz A (tok (e k) r) (col h l) := by
  refine Eq.trans ?_ (Block.dz _ _ _ (fun r l => A.z (tok (e k) r) (col h l))
    (fun r l => Rows.dgated 0x44000000#32 (prod A (tok (e k) r)) (A.z (tok (e k) r)) (A.dy (tok (e k) r)) A.ga (col h l))
    (fun r l => prod A (tok (e k) r) (col h l)) r l (z_at R k h) (prod_at R k h) (dy_at R k h))
  pointwise [storeDz, k0_pay147]

theorem store_at (s : Fin 3) (r l : Fin 128) (j : Fin 1536) (hj : j.val = s.val * 512 + h.val * 128 + l.val) :
    store o k h s (ix2 r l) = Sgu.row A (tok (e k) r) j := by
  unfold Sgu.row
  match s with
  | 0 =>
    replace hj : j.val = 0 * 512 + h.val * 128 + l.val := hj
    rw [dif_pos (by omega)]
    exact (storeDu_at R k h r l).trans (congrArg (du A _) (Fin.ext (by change h.val * 128 + l.val = j.val; omega)))
  | 1 =>
    replace hj : j.val = 1 * 512 + h.val * 128 + l.val := hj
    rw [dif_neg (by omega), dif_pos (by omega)]
    exact (storeDv_at R k h r l).trans (congrArg₂ (dv A _) (Fin.ext (by change h.val = (j.val - 512) / 128; omega))
      (Fin.ext (by change l.val = (j.val - 512) % 128; omega)))
  | 2 =>
    replace hj : j.val = 2 * 512 + h.val * 128 + l.val := hj
    rw [dif_neg (by omega), dif_neg (by omega)]
    exact (storeDz_at R k h r l).trans (congrArg (dz A _) (Fin.ext (by change h.val * 128 + l.val = j.val - 1024; omega)))

omit R in
theorem inbStore : ∀ (n : Fin 48) a, (![(3 - n.val / 12) * 128, (2 - n.val % 3) * 512 + (3 - n.val % 12 / 3) * 128] : Fin 2 → Nat) a
    + S128x128.size a ≤ S512x1536.size a := by decide

/-- The 48 stores of the gradient buffer, the last one first, leave the gradient's rows. -/
theorem stores_at (y0 : Fin 512) (y1 : Fin 1536) :
    View.canon (List.ofFn fun n : Fin 48 =>
      (⟨Rect.unit ![(3 - n.val / 12) * 128, (2 - n.val % 3) * 512 + (3 - n.val % 12 / 3) * 128] ![128, 128] (inbStore n),
        store o ⟨3 - n.val / 12, by omega⟩ ⟨3 - n.val % 12 / 3, by omega⟩ ⟨2 - n.val % 3, by omega⟩⟩
          : View.Piece (Elt Ideal) S512x1536 .bf16)) (ix2 y0 y1)
      = Sgu.row A (tok (e ⟨y0.val / 128, by omega⟩) ⟨y0.val % 128, by omega⟩) y1 := by
  refine View.canon_ofFn_unit_eq_of_forall (Val := Elt Ideal) (fun n : Fin 48 => ![(3 - n.val / 12) * 128, (2 - n.val % 3) * 512 + (3 - n.val % 12 / 3) * 128])
    ![128, 128] inbStore _ (ix2 y0 y1) _ ?_ fun n x hx => ?_
  · obtain ⟨n, hn⟩ : ∃ n : Fin 48, n.val = (3 - y0.val / 128) * 12 + (3 - y1.val % 512 / 128) * 3 + (2 - y1.val / 512) :=
      ⟨⟨_, by omega⟩, rfl⟩
    have hk : 3 - n.val / 12 = y0.val / 128 := by omega
    have hh : 3 - n.val % 12 / 3 = y1.val % 512 / 128 := by omega
    have hs : 2 - n.val % 3 = y1.val / 512 := by omega
    refine ⟨n, fun a => ?_⟩
    match a with
    | 0 => change (3 - n.val / 12) * 128 ≤ y0.val ∧ y0.val < (3 - n.val / 12) * 128 + 128; omega
    | 1 =>
      change (2 - n.val % 3) * 512 + (3 - n.val % 12 / 3) * 128 ≤ y1.val
        ∧ y1.val < (2 - n.val % 3) * 512 + (3 - n.val % 12 / 3) * 128 + 128
      omega
  · idx_vars x
    have e0 : y0.val = (3 - n.val / 12) * 128 + x0.val := hx 0
    have e1 : y1.val = (2 - n.val % 3) * 512 + (3 - n.val % 12 / 3) * 128 + x1.val := hx 1
    refine (store_at R ⟨3 - n.val / 12, by omega⟩ ⟨3 - n.val % 12 / 3, by omega⟩ ⟨2 - n.val % 3, by omega⟩ x0 x1 y1 e1).trans ?_
    have f0 : (⟨3 - n.val / 12, by omega⟩ : Fin 4) = ⟨y0.val / 128, by omega⟩ := Fin.ext (by change 3 - n.val / 12 = y0.val / 128; omega)
    have f1 : x0 = ⟨y0.val % 128, by omega⟩ := Fin.ext (by change x0.val = y0.val % 128; omega)
    exact congrArg₂ (fun k r => Sgu.row A (tok (e k) r) y1) f0 f1

theorem chunkB_at (r : Fin 128) : chunkB o k h (ix2 r 0) = ∑ l, dmixed A (tok (e k) r) h l :=
  Block.db _ _ _ (fun r => dmixed A (tok (e k) r) h) r (dmixed_at R k h)

theorem chunkW_at (r j : Fin 128) :
    chunkW o k h (ix2 r j) = ∑ l, dmixed A (tok (e k) r) h l * normed A (tok (e k) j) h l :=
  Block.dw _ _ _ _ _ (fun r => dmixed A (tok (e k) r) h) (fun r => normed A (tok (e k) r) h) r j (dmixed_at R k h) (normed_at R k h)

theorem chunkGain_at (l : Fin 128) :
    chunkGain o k h (ix2 0 l) = ∑ r, (fun g => unit A g h l * dnormed A g h l) (tok (e k) r) :=
  Block.dgain _ _ _ _ _ (fun r => unit A (tok (e k) r) h) (fun r => dnormed A (tok (e k) r) h) l (dnormed_at R k h) (unit_at R k h)

theorem chunkGa_at (l : Fin 128) : chunkGa o k h (ix2 0 l)
    = ∑ r, (fun g => Rows.gain 0x44000000#32 (Rows.gated (prod A g) (A.z g)) (A.dy g) (col h l)) (tok (e k) r) :=
  Block.dga _ _ _ (fun r => Rows.gated (prod A (tok (e k) r)) (A.z (tok (e k) r))) (fun r => A.dy (tok (e k) r)) h
    (y_at R k h) (d_at R k h) (rs_at R k) l

theorem partB_at (r : Fin 128) : partB o h (ix2 r 0) = ∑ k, ∑ l, dmixed A (tok (e k) r) h l := by
  rw [Fin.sum_univ_four, ← chunkB_at R 0 h, ← chunkB_at R 1 h, ← chunkB_at R 2 h, ← chunkB_at R 3 h]
  rfl

theorem partW_at (r j : Fin 128) :
    partW o h (ix2 r j) = ∑ k, ∑ l, dmixed A (tok (e k) r) h l * normed A (tok (e k) j) h l := by
  rw [Fin.sum_univ_four, ← chunkW_at R 0 h, ← chunkW_at R 1 h, ← chunkW_at R 2 h, ← chunkW_at R 3 h]
  rfl

theorem partGain_at (l : Fin 128) :
    partGain o (ix2 h l) = ∑ k, ∑ r, (fun g => unit A g h l * dnormed A g h l) (tok (e k) r) := by
  rw [Fin.sum_univ_four, ← chunkGain_at R 0 h, ← chunkGain_at R 1 h, ← chunkGain_at R 2 h, ← chunkGain_at R 3 h]
  pointwise [partGain, k0_pay643]
  fin_cases h <;> rfl

omit R in
/-- Of four runs of 128 lanes side by side, lane `128 h + l` is lane `l` of run `h`. -/
theorem pick (f : Fin 4 → Fin 128 → EReal) (h : Fin 4) (l : Fin 128) :
    (if p : h.val * 128 + l.val < 128 then f 0 ⟨h.val * 128 + l.val, p⟩
      else if p : h.val * 128 + l.val - 128 < 128 then f 1 ⟨h.val * 128 + l.val - 128, p⟩
      else if p : h.val * 128 + l.val - 128 - 128 < 128 then f 2 ⟨h.val * 128 + l.val - 128 - 128, p⟩
      else f 3 ⟨h.val * 128 + l.val - 128 - 128 - 128, by omega⟩) = f h l := by
  split_ifs with h0 h1 h2
  · obtain rfl : h = 0 := Fin.ext (by change h.val = 0; omega)
    exact congrArg (f 0) (Fin.ext (by change 0 * 128 + l.val = l.val; omega))
  · obtain rfl : h = 1 := Fin.ext (by change h.val = 1; omega)
    exact congrArg (f 1) (Fin.ext (by change 1 * 128 + l.val - 128 = l.val; omega))
  · obtain rfl : h = 2 := Fin.ext (by change h.val = 2; omega)
    exact congrArg (f 2) (Fin.ext (by change 2 * 128 + l.val - 128 - 128 = l.val; omega))
  · obtain rfl : h = 3 := Fin.ext (by change h.val = 3; omega)
    exact congrArg (f 3) (Fin.ext (by change 3 * 128 + l.val - 128 - 128 - 128 = l.val; omega))

theorem partGa_at (j : Fin 512) : partGa o (ix2 0 j)
    = ∑ k, ∑ r, (fun g => Rows.gain 0x44000000#32 (Rows.gated (prod A g) (A.z g)) (A.dy g) j) (tok (e k) r) := by
  obtain ⟨h, l, rfl⟩ : ∃ h l, j = col h l := ⟨headOf j, laneOf j, Fin.ext (by change j.val = j.val / 128 * 128 + j.val % 128; omega)⟩
  rw [Fin.sum_univ_four, ← chunkGa_at R 0 h, ← chunkGa_at R 1 h, ← chunkGa_at R 2 h, ← chunkGa_at R 3 h]
  pointwise [partGa, k0_pay645, col]
  exact pick (fun h l => chunkGa o 0 h (ix2 0 l) + chunkGa o 1 h (ix2 0 l) + chunkGa o 2 h (ix2 0 l) + chunkGa o 3 h (ix2 0 l)) h l

end

/-! The slabs of an output of four heads. -/

theorem inbSlabW : ∀ (n : Fin 4) a, (![3 - n.val, 0, 0] : Fin 3 → Nat) a + S1x128x128.size a ≤ S4x128x128.size a := by decide
theorem inbSlabB : ∀ (n : Fin 4) a, (![3 - n.val, 0, 0] : Fin 3 → Nat) a + S1x128x1.size a ≤ S4x128x1.size a := by decide

/-- Four stores, one head's slab each, the last one first. -/
theorem slabsW (f : Fin 4 → FVec Ideal S1x128x128 .f32) (h : Fin 4) (r j : Fin 128) :
    View.canon (List.ofFn fun n : Fin 4 => (⟨Rect.unit ![3 - n.val, 0, 0] ![1, 128, 128] (inbSlabW n), f ⟨3 - n.val, by omega⟩⟩
      : View.Piece (Elt Ideal) S4x128x128 .f32)) (ix3 h r j) = f h (ix3 0 r j) := by
  refine View.canon_ofFn_unit_eq_of_forall (Val := Elt Ideal) (fun n : Fin 4 => ![3 - n.val, 0, 0]) ![1, 128, 128] inbSlabW _
    (ix3 h r j) _ ⟨⟨3 - h.val, by omega⟩, fun a => ?_⟩ fun n x hx => ?_
  · match a with
    | 0 => change 3 - (3 - h.val) ≤ h.val ∧ h.val < 3 - (3 - h.val) + 1; omega
    | 1 => exact ⟨Nat.zero_le _, r.isLt.trans_eq (Nat.zero_add 128).symm⟩
    | 2 => exact ⟨Nat.zero_le _, j.isLt.trans_eq (Nat.zero_add 128).symm⟩
  · idx_vars x
    obtain rfl : x0 = 0 := Subsingleton.elim _ _
    have e0 : h.val = 3 - n.val + 0 := hx 0
    obtain rfl : r = x1 := Fin.ext ((hx 1).trans (Nat.zero_add _))
    obtain rfl : j = x2 := Fin.ext ((hx 2).trans (Nat.zero_add _))
    exact congrArg (fun h => f h (ix3 0 r j)) (Fin.ext e0.symm)

theorem slabsB (f : Fin 4 → FVec Ideal S1x128x1 .f32) (h : Fin 4) (r : Fin 128) :
    View.canon (List.ofFn fun n : Fin 4 => (⟨Rect.unit ![3 - n.val, 0, 0] ![1, 128, 1] (inbSlabB n), f ⟨3 - n.val, by omega⟩⟩
      : View.Piece (Elt Ideal) S4x128x1 .f32)) (ix3 h r 0) = f h (ix3 0 r 0) := by
  refine View.canon_ofFn_unit_eq_of_forall (Val := Elt Ideal) (fun n : Fin 4 => ![3 - n.val, 0, 0]) ![1, 128, 1] inbSlabB _
    (ix3 h r 0) _ ⟨⟨3 - h.val, by omega⟩, fun a => ?_⟩ fun n x hx => ?_
  · match a with
    | 0 => change 3 - (3 - h.val) ≤ h.val ∧ h.val < 3 - (3 - h.val) + 1; omega
    | 1 => exact ⟨Nat.zero_le _, r.isLt.trans_eq (Nat.zero_add 128).symm⟩
    | 2 => exact ⟨Nat.zero_le _, Nat.zero_lt_one⟩
  · idx_vars x
    obtain rfl : x0 = 0 := Subsingleton.elim _ _
    obtain rfl : x2 = 0 := Subsingleton.elim _ _
    have e0 : h.val = 3 - n.val + 0 := hx 0
    obtain rfl : r = x1 := Fin.ext ((hx 1).trans (Nat.zero_add _))
    exact congrArg (fun h => f h (ix3 0 r 0)) (Fin.ext e0.symm)

/-- A head's slab: the tile's part, or what the slab held with the part added. -/
theorem firstW (x : FVec Ideal S128x128 .f32) (r j : Fin 128) : k0_pay647 x (ix3 0 r j) = x (ix2 r j) := by pointwise [k0_pay647]
theorem firstB (x : FVec Ideal S128x1 .f32) (r : Fin 128) : k0_pay649 x (ix3 0 r 0) = x (ix2 r 0) := by pointwise [k0_pay649]
theorem laterW (x : FVec Ideal S128x128 .f32) (y : Vec Ideal S4x128x128 .f32) (h : Fin 4) (r j : Fin 128) :
    k0_pay648 x (View.ld y (Rect.unit ![h.val, 0, 0] ![1, 128, 128] (inbW h))) (ix3 0 r j) = y (ix3 h r j) + x (ix2 r j) := by
  pointwise [k0_pay648]
theorem laterB (x : FVec Ideal S128x1 .f32) (y : Vec Ideal S4x128x1 .f32) (h : Fin 4) (r : Fin 128) :
    k0_pay650 x (View.ld y (Rect.unit ![h.val, 0, 0] ![1, 128, 1] (inbB h))) (ix3 0 r 0) = y (ix3 h r 0) + x (ix2 r 0) := by
  pointwise [k0_pay650]
theorem laterGa (x y : FVec Ideal S1x512 .f32) (j : Fin 512) : k0_pay646 x y (ix2 0 j) = y (ix2 0 j) + x (ix2 0 j) := by
  pointwise [k0_pay646]
theorem addGain_at (o : Ops) (y : Vec Ideal S4x128 .f32) (h : Fin 4) (l : Fin 128) :
    addGain o y (ix2 h l) = y (ix2 h l) + partGain o (ix2 h l) := by
  unfold addGain k0_pay644
  pointwise
  rfl

end Cert.SguBackIdeal.Tile

end
-- ==== Proof.LeadingSum.lean ====
/-
  A sum over the first two axes of a rank-3 array, read at an index of the last axis.
-/
module

public import Idealize.ShloMosaic.Lib.Pointwise
public import Idealize.ShloMosaic.Lib.Pipeline.ValueKit

@[expose] public section

noncomputable section

open Idealize.ShloMosaic

namespace Cert.LeadingSum

variable {p q n : ℕ}

/-- The source indices which a sum over the first two axes brings to `l` are those whose last coordinate is
    `l`. -/
theorem drop_iff (h : (⟨3, ![p, q, n]⟩ : Shape).ReducesTo [0, 1] ⟨1, ![n]⟩) (l : Fin n)
    (i : (⟨3, ![p, q, n]⟩ : Shape).Idx) : h.drop i = ix1 l ↔ ∃ k : Fin p × Fin q, ix3 k.1 k.2 l = i := by
  refine ⟨fun e => ⟨(i 0, i 1), ?_⟩, ?_⟩
  · have el : (i 2 : ℕ) = l.val := congrArg Fin.val (congrFun e 0)
    refine funext fun a => Fin.ext ?_
    match a with
    | ⟨0, _⟩ => rfl
    | ⟨1, _⟩ => rfl
    | ⟨2, _⟩ => exact el.symm
  · rintro ⟨k, rfl⟩
    refine funext fun b => Fin.ext ?_
    match b with
    | ⟨0, _⟩ => rfl

theorem sum_apply (h : (⟨3, ![p, q, n]⟩ : Shape).ReducesTo [0, 1] ⟨1, ![n]⟩)
    (v : (⟨3, ![p, q, n]⟩ : Shape).Idx → EReal) (z : EReal) (l : Fin n) :
    Ideal.hostReduceAdd h v z (ix1 l) = z + ∑ a, ∑ b, v (ix3 a b l) := by
  refine congrArg (z + ·) ((Finset.sum_filter_eq_sum_of_fiber _ (fun k : Fin p × Fin q => ix3 k.1 k.2 l)
    (fun _ _ e => Prod.ext (congrFun e 0) (congrFun e 1)) (drop_iff h l) v).trans ?_)
  simp only [Fintype.sum_prod_type]

/-! Sums over the first and the last of four axes. -/

variable {a b c d : ℕ}

theorem outer_iff (h : (⟨4, ![a, b, c, d]⟩ : Shape).ReducesTo [0, 3] ⟨2, ![b, c]⟩) (r : Fin b) (s : Fin c)
    (i : (⟨4, ![a, b, c, d]⟩ : Shape).Idx) : h.drop i = ix2 r s ↔ ∃ k : Fin a × Fin d, ix4 k.1 r s k.2 = i := by
  refine ⟨fun e => ⟨(i 0, i 3), ?_⟩, ?_⟩
  · have er : (i 1 : ℕ) = r.val := congrArg Fin.val (congrFun e 0)
    have es : (i 2 : ℕ) = s.val := congrArg Fin.val (congrFun e 1)
    refine funext fun x => Fin.ext ?_
    match x with
    | ⟨0, _⟩ => rfl
    | ⟨1, _⟩ => exact er.symm
    | ⟨2, _⟩ => exact es.symm
    | ⟨3, _⟩ => rfl
  · rintro ⟨k, rfl⟩
    refine funext fun x => Fin.ext ?_
    match x with
    | ⟨0, _⟩ => rfl
    | ⟨1, _⟩ => rfl

theorem outer_apply (h : (⟨4, ![a, b, c, d]⟩ : Shape).ReducesTo [0, 3] ⟨2, ![b, c]⟩)
    (v : (⟨4, ![a, b, c, d]⟩ : Shape).Idx → EReal) (z : EReal) (r : Fin b) (s : Fin c) :
    Ideal.hostReduceAdd h v z (ix2 r s) = z + ∑ k, ∑ l, v (ix4 k r s l) := by
  refine congrArg (z + ·) ((Finset.sum_filter_eq_sum_of_fiber _ (fun k : Fin a × Fin d => ix4 k.1 r s k.2)
    (fun _ _ e => Prod.ext (congrFun e 0) (congrFun e 3)) (outer_iff h r s) v).trans ?_)
  simp only [Fintype.sum_prod_type]

end Cert.LeadingSum

end
-- ==== Proof.SguRef.lean ====
/-
  The reference of the spatial gating's gradient, read at an index: the derivative of the plain lines of all
  8192 tokens, as the formulas of `SguRows`.
-/
module

public import proofs.«01_k».proof.Proof.Gen.SguRefIdeal.Read
public import proofs.«01_k».proof.Proof.SguRows
public import proofs.«01_k».proof.Proof.Consts
public import proofs.«01_k».proof.Proof.LeadingSum
public import Idealize.ShloMosaic.Lib.Pipeline.ValueKit

@[expose] public section

set_option maxRecDepth 16384

noncomputable section

open Idealize.ShloMosaic Idealize.ShloMosaic.TcCoe Idealize.SL.Sem

namespace Cert.SguRefIdeal.Math

open Cert.SguRefIdeal Cert.SguRefIdeal.Gen Cert.SguRefIdeal.Read Cert.Sgu

/-- The reference's arguments. -/
structure Arrays where
  x : FVec Ideal S8192x6720 .f32
  gn : FVec Ideal S4x128 .f32
  w : FVec Ideal S4x128x128 .f32
  b : FVec Ideal S4x128 .f32
  ga : FVec Ideal S2048 .f32
  dy : FVec Ideal S8192x2048 .f32
  dp : FVec Ideal S8192x6912 .bf16

variable (a : Arrays)

/-- The columns of the projection, and those of the output. -/
def uCol (j : Fin 512) : Fin 6720 := ⟨j.val, by omega⟩
def vCol (h : Fin 4) (l : Fin 128) : Fin 6720 := ⟨512 + (h.val * 128 + l.val), by omega⟩
def zCol (j : Fin 512) : Fin 6720 := ⟨1024 + j.val, by omega⟩
def outCol (j : Fin 512) : Fin 2048 := ⟨j.val, by omega⟩

/-- The arguments by token, head and lane. -/
abbrev args : Args where
  u g j := a.x (ix2 g (uCol j))
  v g h l := a.x (ix2 g (vCol h l))
  z g j := a.x (ix2 g (zCol j))
  gain h l := a.gn (ix2 h l)
  w h r j := a.w (ix3 h r j)
  b h r := a.b (ix2 h r)
  ga j := a.ga (ix1 (outCol j))
  dy g j := a.dy (ix2 g (outCol j))

theorem u_apply (g : Fin 8192) (j : Fin 512) : val_main_v0 (F := Ideal) a.x (ix2 g j) = (args a).u g j := by
  pointwise! [val_main_v0, args, uCol]
theorem v_apply (g : Fin 8192) (h : Fin 4) (l : Fin 128) : val_main_v4 (F := Ideal) a.x (ix3 g h l) = (args a).v g h l := by
  pointwise! [val_main_v4, val_main_v1, args, vCol]
theorem z_apply (g : Fin 8192) (j : Fin 512) : val_main_v2 (F := Ideal) a.x (ix2 g j) = (args a).z g j := by
  pointwise! [val_main_v2, args, zCol]
theorem ga_apply (j : Fin 512) : val_main_v3 (F := Ideal) a.ga (ix1 j) = (args a).ga j := by
  pointwise! [val_main_v3, args, outCol]
theorem dy_apply (g : Fin 8192) (j : Fin 512) : val_main_v48 (F := Ideal) a.dy (ix2 g j) = (args a).dy g j := by
  pointwise! [val_main_v48, args, outCol]

/-! The gates' norm and the mixing. -/

theorem vMean (g : Fin 8192) (h : Fin 4) :
    val_main_v11 (F := Ideal) a.x (ix3 g h 0) = Rows.meanSq 0x43000000#32 ((args a).v g h) := by
  pointwise! [val_main_v11, val_main_v10, val_main_v9, val_main_v8, val_main_v7, val_main_v6, val_main_v5, val_main_cst,
    val_main_cst_0, val_main_cst_1, v_apply, Rows.meanSq]

theorem vScale (g : Fin 8192) (h : Fin 4) :
    val_main_v12 (F := Ideal) a.x (ix3 g h 0) = Rows.scale 0x43000000#32 ((args a).v g h) := by
  rw [Rows.scale, ← vMean]
  pointwise! [val_main_v12]

theorem unit_apply (g : Fin 8192) (h : Fin 4) (l : Fin 128) :
    val_main_v17 (F := Ideal) a.x (ix3 g h l) = unit (args a) g h l := by
  pointwise! [val_main_v17, val_main_v16, v_apply, vScale, unit]

theorem normed_apply (g : Fin 8192) (h : Fin 4) (l : Fin 128) :
    val_main_v20 (F := Ideal) a.x a.gn (ix3 g h l) = normed (args a) g h l := by
  pointwise! [val_main_v20, val_main_v19, val_main_v18, unit_apply, normed, args]

theorem chunked_apply (k : Fin 64) (r : Fin 128) (h : Fin 4) (l : Fin 128) :
    val_main_v21 (F := Ideal) a.x a.gn (ix4 k r h l) = normed (args a) (tok k r) h l := by
  pointwise! [val_main_v21, normed_apply, tok]

theorem mixed_chunk (k : Fin 64) (r : Fin 128) (h : Fin 4) (l : Fin 128) :
    val_main_v27 (F := Ideal) a.x a.gn a.w a.b (ix4 k r h l) = mixed (args a) (tok k r) h l := by
  pointwise [val_main_v27, val_main_v26, val_main_v25, val_main_v24, val_main_v23, val_main_v22, chunked_apply, mixed,
    chunk_tok, place_tok, args]

theorem mixed_apply (g : Fin 8192) (j : Fin 512) :
    val_main_v28 (F := Ideal) a.x a.gn a.w a.b (ix2 g j) = mixed (args a) g (headOf j) (laneOf j) := by
  refine Eq.trans ?_ ((mixed_chunk a (chunk g) (place g) (headOf j) (laneOf j)).trans (by rw [tok_chunk]))
  pointwise! [val_main_v28, chunk, place, headOf, laneOf]

theorem prod_apply (g : Fin 8192) (j : Fin 512) :
    val_main_v29 (F := Ideal) a.x a.gn a.w a.b (ix2 g j) = prod (args a) g j := by
  pointwise! [val_main_v29, u_apply, mixed_apply, prod]

/-! The outer gate and the output's norm. -/

theorem sigma_apply (g : Fin 8192) (j : Fin 512) :
    val_main_v30_2 (F := Ideal) a.x (ix2 g j) = Rows.sigma ((args a).z g j) := by
  pointwise [val_main_v30_2, val_main_call0_v4, val_main_call0_v3, val_main_call0_v2, val_main_call0_v1, val_main_call0_v0,
    val_main_call0_cst, val_main_call0_cst_0, z_apply, Rows.sigma]

theorem silu_apply (g : Fin 8192) (j : Fin 512) :
    val_main_v30_0 (F := Ideal) a.x (ix2 g j) = Rows.silu ((args a).z g j) := by
  pointwise! [val_main_v30_0, z_apply, sigma_apply, Rows.silu]

theorem gated_apply (g : Fin 8192) (j : Fin 512) :
    val_main_v31 (F := Ideal) a.x a.gn a.w a.b (ix2 g j) = Rows.gated (prod (args a) g) ((args a).z g) j := by
  pointwise! [val_main_v31, prod_apply, silu_apply, Rows.gated]

theorem outMean (g : Fin 8192) : val_main_v38 (F := Ideal) a.x a.gn a.w a.b (ix2 g 0)
    = Rows.meanSq 0x44000000#32 (Rows.gated (prod (args a) g) ((args a).z g)) := by
  pointwise! [val_main_v38, val_main_v37, val_main_v36, val_main_v35, val_main_v34, val_main_v33, val_main_v32, val_main_cst_3,
    val_main_cst_4, val_main_cst_5, gated_apply, Rows.meanSq]

theorem outScale (g : Fin 8192) : val_main_v39 (F := Ideal) a.x a.gn a.w a.b (ix2 g 0)
    = Rows.scale 0x44000000#32 (Rows.gated (prod (args a) g) ((args a).z g)) := by
  rw [Rows.scale, ← outMean]
  pointwise! [val_main_v39]

theorem dga_apply (j : Fin 512) : val_main_v111 (F := Ideal) a.x a.gn a.w a.b a.dy (ix2 0 j) = dga (args a) j := by
  pointwise [val_main_v111, val_main_v54, val_main_v51, val_main_v50, val_main_v49, val_main_v44, val_main_v43, val_main_cst_7,
    val_main_cst_8, gated_apply, outScale, dy_apply, Rows.gain, dga]
  simp only [Fin.sum_univ_one, Fin.isValue]

theorem dgated_apply (g : Fin 8192) (j : Fin 512) : val_main_v68 (F := Ideal) a.x a.gn a.w a.b a.ga a.dy (ix2 g j)
    = Rows.dgated 0x44000000#32 (prod (args a) g) ((args a).z g) ((args a).dy g) (args a).ga j := by
  pointwise [val_main_v68, val_main_v67, val_main_v66, val_main_v65, val_main_v64, val_main_v63, val_main_v62, val_main_v61,
    val_main_v60, val_main_v59, val_main_v58, val_main_v57, val_main_v56, val_main_v55, val_main_v53, val_main_v52,
    val_main_v45, val_main_v42, val_main_v41, val_main_v40, val_main_cst_6, val_main_cst_9, val_main_cst_10, val_main_cst_11,
    Rows.dgated, Rows.grad, Rows.slope]
  simp only [Fin.sum_univ_one, Fin.isValue, gated_apply, outScale, outMean, dy_apply, ga_apply]

theorem dprod_apply (g : Fin 8192) (j : Fin 512) :
    val_main_v70 (F := Ideal) a.x a.gn a.w a.b a.ga a.dy (ix2 g j) = dprod (args a) g j := by
  pointwise! [val_main_v70, dgated_apply, silu_apply, dprod, Rows.dout]

theorem dz_apply (g : Fin 8192) (j : Fin 512) :
    val_main_v71 (F := Ideal) a.x a.gn a.w a.b a.ga a.dy (ix2 g j) = dz (args a) g j := by
  pointwise [val_main_v71, val_main_call1_v2, val_main_call1_v1, val_main_call1_v0, val_main_v69, val_main_v30_1,
    val_main_call0_v7, val_main_call0_v6, val_main_call0_cst_1, dgated_apply, sigma_apply, z_apply, prod_apply, dz, Rows.dgates,
    Rows.dsilu]

/-! Through the mixing. -/

theorem du_apply (g : Fin 8192) (j : Fin 512) :
    val_main_v73 (F := Ideal) a.x a.gn a.w a.b a.ga a.dy (ix2 g j) = du (args a) g j := by
  pointwise! [val_main_v73, dprod_apply, mixed_apply, du]

theorem dmixed_apply (k : Fin 64) (r : Fin 128) (h : Fin 4) (l : Fin 128) :
    val_main_v74 (F := Ideal) a.x a.gn a.w a.b a.ga a.dy (ix4 k r h l) = dmixed (args a) (tok k r) h l := by
  pointwise! [val_main_v74, val_main_v72, u_apply, dprod_apply, dmixed, tok, col]

theorem db_apply (h : Fin 4) (r : Fin 128) :
    val_main_v110 (F := Ideal) a.x a.gn a.w a.b a.ga a.dy (ix3 h r 0) = db (args a) h r := by
  pointwise [val_main_v110, val_main_v78, val_main_v77, val_main_v76, val_main_v75, val_main_cst_12, val_main_cst_13,
    LeadingSum.outer_apply, dmixed_apply, db]
  simp only [Fin.sum_univ_one, Fin.isValue]

theorem dw_apply (h : Fin 4) (r j : Fin 128) :
    val_main_v80 (F := Ideal) a.x a.gn a.w a.b a.ga a.dy (ix3 h r j) = dw (args a) h r j := by
  pointwise [val_main_v80, val_main_v79, dmixed_apply, chunked_apply, dw]

theorem dnormed_apply (g : Fin 8192) (h : Fin 4) (l : Fin 128) :
    val_main_v83 (F := Ideal) a.x a.gn a.w a.b a.ga a.dy (ix3 g h l) = dnormed (args a) g h l := by
  pointwise! [val_main_v83, val_main_v82, val_main_v81, val_main_v79, dmixed_apply, dnormed, args, chunk, place]

theorem dgain_apply (h : Fin 4) (l : Fin 128) :
    val_main_v89 (F := Ideal) a.x a.gn a.w a.b a.ga a.dy (ix2 h l) = dgain (args a) h l := by
  pointwise [val_main_v89, val_main_v86, val_main_v85, val_main_v84, val_main_cst_14, val_main_cst_15, unit_apply,
    dnormed_apply, dgain]
  simp only [Fin.sum_univ_one, Fin.isValue]

theorem dv_apply (g : Fin 8192) (h : Fin 4) (l : Fin 128) :
    val_main_v103 (F := Ideal) a.x a.gn a.w a.b a.ga a.dy (ix3 g h l) = dv (args a) g h l := by
  pointwise [val_main_v103, val_main_v102, val_main_v101, val_main_v100, val_main_v99, val_main_v98, val_main_v97,
    val_main_v96, val_main_v95, val_main_v94, val_main_v93, val_main_v92, val_main_v91, val_main_v90, val_main_v88,
    val_main_v87, val_main_v18, val_main_v15, val_main_v14, val_main_v13, val_main_cst_2, val_main_cst_16, val_main_cst_17,
    val_main_cst_18, dv, Rows.grad, Rows.slope]
  simp only [Fin.sum_univ_one, Fin.isValue, v_apply, vScale, vMean, dnormed_apply, args]

theorem row_apply (g : Fin 8192) (j : Fin 1536) :
    val_main_v106 (F := Ideal) a.x a.gn a.w a.b a.ga a.dy (ix2 g j) = row (args a) g j := by
  pointwise [val_main_v106, val_main_v105, val_main_v104, du_apply, dz_apply, dv_apply, row]
  by_cases h : j.val < 512
  · rw [dif_pos h, dif_pos h]
  · rw [dif_neg h, dif_neg h]
    by_cases h' : j.val < 1024
    · rw [dif_pos (show j.val - 512 < 512 by omega), dif_pos h']
    · rw [dif_neg (show ¬ j.val - 512 < 512 by omega), dif_neg h']
      exact congrArg (dz (args a) g) (Fin.ext (by change j.val - 512 - 512 = j.val - 1024; omega))

/-- The gradient buffer: columns 3072 to 4607 are the gating's gradient, the others are as they came. -/
theorem dproj_apply (g : Fin 8192) (j : Fin 6912) :
    val_main_v109 (F := Ideal) a.x a.gn a.w a.b a.ga a.dy a.dp (ix2 g j)
      = if h : 3072 ≤ j.val ∧ j.val < 4608 then row (args a) g ⟨j.val - 3072, by omega⟩ else a.dp (ix2 g j) := by
  pointwise [val_main_v109, val_main_v108, val_main_v107, row_apply]
  by_cases h : j.val < 3072
  · rw [dif_pos h, dif_neg (show ¬ (3072 ≤ j.val ∧ j.val < 4608) by omega)]
  · rw [dif_neg h]
    by_cases h' : j.val - 3072 < 1536
    · rw [dif_pos h', dif_pos (show 3072 ≤ j.val ∧ j.val < 4608 by omega)]
    · rw [dif_neg h', dif_neg (show ¬ (3072 ≤ j.val ∧ j.val < 4608) by omega)]
      exact congrArg a.dp (congrArg (ix2 g) (Fin.ext (by simp only []; omega)))

end Cert.SguRefIdeal.Math

end
-- ==== Proof.SguEntry.lean ====
/-
  The spatial gating's gradient: what the kernel's blocks hold at a point of its grid, from the arrays the program is
  given.
-/
module

public import proofs.«01_k».proof.Proof.Gen.SguBackIdeal.Value
public import proofs.«01_k».proof.Proof.SguTile
public import proofs.«01_k».proof.Proof.SguRef
public import proofs.«01_k».proof.Proof.Permute
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.SguBackIdeal.Arrays

open Cert.SguBackIdeal Cert.SguBackIdeal.Gen Cert.Sgu

variable (m : (ℓ : Loc nD τ sig) → Buf (Elt Ideal) ℓ) (c : Dev nD)

/-- The arrays the program is given. -/
abbrev given : SguRefIdeal.Math.Arrays where
  x := m ((c : Thread nD τ).loc main_arg0)
  gn := m ((c : Thread nD τ).loc main_arg1)
  w := m ((c : Thread nD τ).loc main_arg2)
  b := m ((c : Thread nD τ).loc main_arg3)
  ga := m ((c : Thread nD τ).loc main_arg4)
  dy := m ((c : Thread nD τ).loc main_arg5)
  dp := m ((c : Thread nD τ).loc main_arg6)

/-- … by token and head. -/
abbrev args : Args := SguRefIdeal.Math.args (given m c)

/-- Where each window's block stands at point `t`. -/
theorem idx : ∀ t : Fin cfg0.N, win0_0.index t = ![t.val, 2] ∧ win0_1.index t = ![0, 0] ∧ win0_2.index t = ![0, 0, 0]
    ∧ win0_3.index t = ![0, 0, 0] ∧ win0_4.index t = ![0, 0] ∧ win0_5.index t = ![t.val, 0] ∧ win0_6.index t = ![t.val, 2]
    ∧ win0_7.index t = ![0, 0] ∧ win0_8.index t = ![0, 0, 0] ∧ win0_9.index t = ![0, 0, 0] ∧ win0_10.index t = ![0, 0] ∧ t.val < 16 :=
  (by decide +kernel : ∀ t : Fin grid0.N, _)

theorem lt16 (t : Fin cfg0.N) : t.val < 16 := t.isLt.trans_eq (by decide)

/-- Row `r` of point `t`'s tile is token `512 t + r`. -/
def at_ (t : Fin cfg0.N) (r : Fin 512) : Fin 8192 := ⟨t.val * 512 + r.val, by have := lt16 t; omega⟩

/-- The four chunks of point `t`'s tile. -/
def chunks (t : Fin cfg0.N) (k : Fin 4) : Fin 64 := ⟨t.val * 4 + k.val, by have := lt16 t; omega⟩

theorem at_row (t : Fin cfg0.N) (k : Fin 4) (r : Fin 128) : at_ t (Tile.row k r) = tok (chunks t k) r :=
  Fin.ext (by change t.val * 512 + (k.val * 128 + r.val) = (t.val * 4 + k.val) * 128 + r.val; omega)

/-- The projection reaches the region with its columns in the order of the kernels. -/
theorem entryP : (V m c main_v13 : FVec Ideal S8192x6912 .bf16) = Permute.permuted (given m c).x := by
  unfold V
  unfold_abbrev_sides
  after_reads_simp
  rfl

theorem b_apply (h : Fin 4) (r : Fin 128) : (V m c main_v14 : FVec Ideal S4x128x1 .f32) (ix3 h r 0) = (args m c).b h r := by
  unfold V
  unfold_abbrev_sides
  after_reads_simp
  pointwise [args, SguRefIdeal.Math.args]

theorem ga_apply (j : Fin 512) : (V m c main_v16 : FVec Ideal S1x512 .f32) (ix2 0 j) = (args m c).ga j := by
  unfold V
  unfold_abbrev_sides
  after_reads_simp
  pointwise! [args, SguRefIdeal.Math.args, SguRefIdeal.Math.outCol]

/-! The blocks. -/

theorem blockP (t : Fin cfg0.N) (r : Fin 512) (j : Fin 1536) :
    (X0_0 m c t : Vec Ideal S512x1536 .bf16) (ix2 r j) = (given m c).x (ix2 (at_ t r) ⟨j.val, by omega⟩) := by
  unfold X0_0 Pipeline.Window.fill
  rw [dif_pos (moved0_0 t _)]
  refine Eq.trans ?_ ((congrFun (entryP m c) _).trans (Permute.permuted_sgu (given m c).x (at_ t r) j))
  refine congrArg (V m c main_v13 : FVec Ideal S8192x6912 .bf16) ?_
  blk_ext [idx t, at_, Permute.sguCol]

theorem blockGain (t : Fin cfg0.N) (h : Fin 4) (l : Fin 128) :
    (iblk m c 1 t : Vec Ideal S4x128 .f32) (ix2 h l) = (args m c).gain h l := by
  blk_ext [iblk, V, idx t]

theorem blockW (t : Fin cfg0.N) (h : Fin 4) (r j : Fin 128) :
    (iblk m c 2 t : Vec Ideal S4x128x128 .f32) (ix3 h r j) = (args m c).w h r j := by
  blk_ext [iblk, V, idx t]

theorem blockB (t : Fin cfg0.N) (h : Fin 4) (r : Fin 128) :
    (iblk m c 3 t : Vec Ideal S4x128x1 .f32) (ix3 h r 0) = (args m c).b h r := by
  refine Eq.trans ?_ (b_apply m c h r)
  unfold iblk
  refine congrArg (V m c main_v14 : FVec Ideal S4x128x1 .f32) ?_
  blk_ext [idx t]

theorem blockGa (t : Fin cfg0.N) (j : Fin 512) : (iblk m c 4 t : Vec Ideal S1x512 .f32) (ix2 0 j) = (args m c).ga j := by
  refine Eq.trans ?_ (ga_apply m c j)
  unfold iblk
  refine congrArg (V m c main_v16 : FVec Ideal S1x512 .f32) ?_
  blk_ext [idx t]

theorem blockDy (t : Fin cfg0.N) (r j : Fin 512) :
    (iblk m c 5 t : Vec Ideal S512x512 .f32) (ix2 r j) = (args m c).dy (at_ t r) j := by
  blk_ext [iblk, V, idx t, at_, args, SguRefIdeal.Math.args, SguRefIdeal.Math.outCol]

/-- The blocks of point `t`. -/
abbrev ops (t : Fin cfg0.N) : Tile.Ops where
  x := X0_0 m c t
  gain := iblk m c 1 t
  w := iblk m c 2 t
  b := iblk m c 3 t
  ga := iblk m c 4 t
  dy := iblk m c 5 t

/-- What they hold. -/
theorem reads (t : Fin cfg0.N) : Tile.Reads (args m c) (chunks t) (ops m c t) where
  u k r h l := (blockP m c t _ _).trans (congrArg (fun g => (given m c).x (ix2 g (SguRefIdeal.Math.uCol (col h l)))) (at_row t k r))
  v k r h l := (blockP m c t _ _).trans (congrArg₂ (fun g z => (given m c).x (ix2 g z)) (at_row t k r)
    (Fin.ext (by change 512 + h.val * 128 + l.val = 512 + (h.val * 128 + l.val); omega)))
  z k r h l := (blockP m c t _ _).trans (congrArg₂ (fun g z => (given m c).x (ix2 g z)) (at_row t k r)
    (Fin.ext (by change 1024 + h.val * 128 + l.val = 1024 + (h.val * 128 + l.val); omega)))
  gain := blockGain m c t
  w := blockW m c t
  b := blockB m c t
  ga h l := blockGa m c t (col h l)
  dy k r h l := (blockDy m c t _ (col h l)).trans (congrArg (fun g => (args m c).dy g (col h l)) (at_row t k r))

end Cert.SguBackIdeal.Arrays

end
-- ==== Proof.SguArray.lean ====
/-
  The spatial gating's gradient, the arrays after the run: the new columns of the gradient buffer, and the gradients of
  the gates' gain, the mixing matrices, the biases and the output's gain, put together from the 16 tiles.
-/
module

public import proofs.«01_k».proof.Proof.SguEntry

@[expose] public section

set_option maxRecDepth 16384

noncomputable section

open Idealize.ShloMosaic Idealize.ShloMosaic.TcCoe Idealize.SL.Sem
open Idealize.ShloMosaic.Pipeline (Dat)

namespace Cert.SguBackIdeal.Arrays

open Cert.SguBackIdeal Cert.SguBackIdeal.Gen Cert.Sgu

variable (m : (ℓ : Loc nD τ sig) → Buf (Elt Ideal) ℓ) (c : Dev nD)

theorem tok_row (t : Fin cfg0.N) (r : Fin 512) :
    tok (chunks t ⟨r.val / 128, by omega⟩) ⟨r.val % 128, by omega⟩ = at_ t r :=
  Fin.ext (by change (t.val * 4 + r.val / 128) * 128 + r.val % 128 = t.val * 512 + r.val; omega)

/-- What the body leaves of the new columns at a point: the body's text is the 48 stores'. -/
theorem point_dbuf (t : Fin cfg0.N) (y0 : Fin 512) (y1 : Fin 1536) :
    (outsAt0 m c t.val t.isLt).1 (ix2 y0 y1) = row (args m c) (at_ t y0) y1 := by
  have ht := lt16 t
  refine Eq.trans ?_ ((Tile.stores_at (reads m c t) y0 y1).trans (congrArg (row (args m c) · y1) (tok_row t y0)))
  by_cases h : t.val % 16 = 0
  · rw [outsAt0_A m c t h (by omega) h (by omega) h (by omega) h (by omega) h (by omega) h (by omega) h (by omega) h (by omega)
      h (by omega) h (by omega)]
    frame_out
    sl_kernel_rfl
  · rw [outsAt0_B m c t h (by omega) h (by omega) h (by omega) h (by omega) h (by omega) h (by omega) h (by omega) h (by omega)
      h (by omega) h (by omega)]
    frame_out
    sl_kernel_rfl

/-- Column `l` of the tile is column `3072 + l` of the buffer. -/
def newCol (l : Fin 1536) : Fin 6912 := ⟨3072 + l.val, by omega⟩

/-- The gradient buffer: the new columns hold the gradients, the others what the array held before. -/
def dbuf : FVec Ideal S8192x6912 .bf16 := fun i =>
  if h : 3072 ≤ (i 1).val ∧ (i 1).val < 4608 then row (args m c) (i 0) ⟨(i 1).val - 3072, by omega⟩ else (given m c).dp i

/-- Where a point's tile of the new columns lies. -/
theorem tile6 (t : Fin cfg0.N) (y : ((cfg0.win 6).xblock (cfg0.grid.coords t)).Idx) :
    (((cfg0.win 6).blk t).view.emb y : S8192x6912.Idx) = ix2 (at_ t (((cfg0.win 6).xinj (grid0.coords t) y : S512x1536.Idx) 0))
      (newCol (((cfg0.win 6).xinj (grid0.coords t) y : S512x1536.Idx) 1)) := by
  blk_ext [idx t, at_, newCol]

/-- The buffer reaches the region as it was given. -/
theorem entryDP : ((dats m 0 c).A 6 : FVec Ideal S8192x6912 .bf16) = (given m c).dp := by
  rfl

theorem dbuf_new (g : Fin 8192) (l : Fin 1536) : dbuf m c (ix2 g (newCol l)) = row (args m c) g l :=
  (dif_pos (⟨Nat.le_add_right 3072 l.val, by change 3072 + l.val < 4608; omega⟩ : 3072 ≤ (newCol l).val ∧ (newCol l).val < 4608)).trans
    (congrArg (row (args m c) g) (Fin.ext (Nat.add_sub_cancel_left 3072 l.val)))

theorem final_dbuf : (dats m 0 c).arrAt 6 cfg0.N = dbuf m c := by
  refine ((dats m 0 c).arrAt_eq_of_coversWhere 6 (fun i : S8192x6912.Idx => dbuf m c i)
    (P := fun i : S8192x6912.Idx => 3072 ≤ (i 1).val ∧ (i 1).val < 4608)
    (fun β => β (1 : Fin 2) = 2) (by decide +kernel) (fun t _ y => ?_) (fun j => ?_)).trans ?_
  · have e := tile6 t y
    rw [after0_6]
    generalize (((cfg0.win 6).blk t).view.emb y : S8192x6912.Idx) = z at e ⊢
    subst e
    have e' : ((cfg0.win 6).xinj (grid0.coords t) y : S512x1536.Idx) = ix2 (((cfg0.win 6).xinj (grid0.coords t) y : S512x1536.Idx) 0)
      (((cfg0.win 6).xinj (grid0.coords t) y : S512x1536.Idx) 1) := eq_ix2 _
    exact (congrArg (outsAt0 m c t.val t.isLt).1 e').trans ((point_dbuf m c t _ _).trans (dbuf_new m c _ _).symm)
  · have hj : (j 1).val < 6912 := (j 1).isLt
    blk_simp [Pipeline.Window.cell_apply]
    omega
  · funext i
    by_cases h : 3072 ≤ (i 1).val ∧ (i 1).val < 4608
    · exact if_pos h
    · exact (if_neg h).trans (dif_neg h : dbuf m c i = (given m c).dp i).symm

/-- The last point of the grid. -/
def last : Fin cfg0.N := ⟨15, by decide⟩

/-- A sum over the points of the sums over a tile's chunks is the sum over all chunks, and over all tokens. -/
theorem sum_chunks (f : Fin 64 → EReal) : (0 : EReal) + ∑ p : Fin cfg0.N, ∑ k : Fin 4, f (chunks p k) = ∑ k : Fin 64, f k := by
  rw [zero_add]
  exact Fin.sum_mul_add_fin (L := 64) 16 4 f

theorem sum_tokens (f : Fin 8192 → EReal) : ∑ k : Fin 64, ∑ r : Fin 128, f (tok k r) = ∑ g : Fin 8192, f g :=
  Fin.sum_mul_add_fin (L := 8192) 64 128 f

/-! The sums over the points: the first point writes its tile's part, each later one adds its own. -/

theorem acc_dgain (h : Fin 4) (t : Fin cfg0.N) (ht : t.val + 1 = cfg0.N) (l : Fin 128) :
    (outsAt0 m c t.val t.isLt).2.1 (ix2 h l) = 0 + ∑ p : Fin cfg0.N, ∑ k : Fin 4, (fun k => ∑ r, (fun g => unit (args m c) g h l * dnormed (args m c) g h l) (tok k r)) (chunks p k) := by
  refine Pipeline.eq_sum_fin_of_reset_step_apply_last (fun n h' (l : Fin 128) => ((outsAt0 m c n h').2.1 (ix2 h l) : EReal)) 16
    (fun _ => 0) (fun p l => ∑ k : Fin 4, (fun k => ∑ r, (fun g => unit (args m c) g h l * dnormed (args m c) g h l) (tok k r)) (chunks p k)) (fun t h' l => ?_) (fun t h' l => ?_) (by decide) t ht l
  · have ht := lt16 t
    refine Eq.trans ?_ ((Tile.partGain_at (reads m c t) h l).trans (zero_add _).symm)
    rw [outsAt0_A m c t h' (by omega) h' (by omega) h' (by omega) h' (by omega) h' (by omega) h' (by omega) h' (by omega) h' (by omega)
      h' (by omega) h' (by omega)]
    frame_out
    sl_kernel_rfl
  · have ht := lt16 t
    refine Eq.trans ?_ ((Tile.addGain_at (ops m c t) (outsAt0 m c (t.val - 1) (Nat.lt_of_le_of_lt (Nat.sub_le _ _) t.isLt)).2.1 h l).trans (congrArg (_ + ·) (Tile.partGain_at (reads m c t) h l)))
    rw [outsAt0_B m c t h' (by omega) h' (by omega) h' (by omega) h' (by omega) h' (by omega) h' (by omega) h' (by omega) h' (by omega)
      h' (by omega) h' (by omega)]
    frame_out
    sl_kernel_rfl

theorem acc_dw (h : Fin 4) (r : Fin 128) (t : Fin cfg0.N) (ht : t.val + 1 = cfg0.N) (j : Fin 128) :
    (outsAt0 m c t.val t.isLt).2.2.1 (ix3 h r j) = 0 + ∑ p : Fin cfg0.N, ∑ k : Fin 4, (fun k => ∑ l, dmixed (args m c) (tok k r) h l * normed (args m c) (tok k j) h l) (chunks p k) := by
  refine Pipeline.eq_sum_fin_of_reset_step_apply_last (fun n h' (j : Fin 128) => ((outsAt0 m c n h').2.2.1 (ix3 h r j) : EReal)) 16
    (fun _ => 0) (fun p j => ∑ k : Fin 4, (fun k => ∑ l, dmixed (args m c) (tok k r) h l * normed (args m c) (tok k j) h l) (chunks p k)) (fun t h' j => ?_) (fun t h' j => ?_) (by decide) t ht j
  · have ht := lt16 t
    refine Eq.trans ?_ ((((Tile.slabsW (fun h => k0_pay647 (Tile.partW (ops m c t) h)) h r j).trans (Tile.firstW _ r j)).trans (Tile.partW_at (reads m c t) h r j)).trans (zero_add _).symm)
    rw [outsAt0_A m c t h' (by omega) h' (by omega) h' (by omega) h' (by omega) h' (by omega) h' (by omega) h' (by omega) h' (by omega)
      h' (by omega) h' (by omega)]
    frame_out
    sl_kernel_rfl
  · have ht := lt16 t
    refine Eq.trans ?_ (((Tile.slabsW (Tile.addW (ops m c t) (outsAt0 m c (t.val - 1) (Nat.lt_of_le_of_lt (Nat.sub_le _ _) t.isLt)).2.2.1) h r j).trans (Tile.laterW _ _ h r j)).trans (congrArg (_ + ·) (Tile.partW_at (reads m c t) h r j)))
    rw [outsAt0_B m c t h' (by omega) h' (by omega) h' (by omega) h' (by omega) h' (by omega) h' (by omega) h' (by omega) h' (by omega)
      h' (by omega) h' (by omega)]
    frame_out
    sl_kernel_rfl

theorem acc_db (h : Fin 4) (t : Fin cfg0.N) (ht : t.val + 1 = cfg0.N) (r : Fin 128) :
    (outsAt0 m c t.val t.isLt).2.2.2.1 (ix3 h r 0) = 0 + ∑ p : Fin cfg0.N, ∑ k : Fin 4, (fun k => ∑ l, dmixed (args m c) (tok k r) h l) (chunks p k) := by
  refine Pipeline.eq_sum_fin_of_reset_step_apply_last (fun n h' (r : Fin 128) => ((outsAt0 m c n h').2.2.2.1 (ix3 h r 0) : EReal)) 16
    (fun _ => 0) (fun p r => ∑ k : Fin 4, (fun k => ∑ l, dmixed (args m c) (tok k r) h l) (chunks p k)) (fun t h' r => ?_) (fun t h' r => ?_) (by decide) t ht r
  · have ht := lt16 t
    refine Eq.trans ?_ ((((Tile.slabsB (fun h => k0_pay649 (Tile.partB (ops m c t) h)) h r).trans (Tile.firstB _ r)).trans (Tile.partB_at (reads m c t) h r)).trans (zero_add _).symm)
    rw [outsAt0_A m c t h' (by omega) h' (by omega) h' (by omega) h' (by omega) h' (by omega) h' (by omega) h' (by omega) h' (by omega)
      h' (by omega) h' (by omega)]
    frame_out
    sl_kernel_rfl
  · have ht := lt16 t
    refine Eq.trans ?_ (((Tile.slabsB (Tile.addB (ops m c t) (outsAt0 m c (t.val - 1) (Nat.lt_of_le_of_lt (Nat.sub_le _ _) t.isLt)).2.2.2.1) h r).trans (Tile.laterB _ _ h r)).trans (congrArg (_ + ·) (Tile.partB_at (reads m c t) h r)))
    rw [outsAt0_B m c t h' (by omega) h' (by omega) h' (by omega) h' (by omega) h' (by omega) h' (by omega) h' (by omega) h' (by omega)
      h' (by omega) h' (by omega)]
    frame_out
    sl_kernel_rfl

theorem acc_dga (t : Fin cfg0.N) (ht : t.val + 1 = cfg0.N) (j : Fin 512) :
    (outsAt0 m c t.val t.isLt).2.2.2.2 (ix2 0 j) = 0 + ∑ p : Fin cfg0.N, ∑ k : Fin 4, (fun k => ∑ r, (fun g => Rows.gain 0x44000000#32 (Rows.gated (prod (args m c) g) ((args m c).z g)) ((args m c).dy g) j) (tok k r)) (chunks p k) := by
  refine Pipeline.eq_sum_fin_of_reset_step_apply_last (fun n h' (j : Fin 512) => ((outsAt0 m c n h').2.2.2.2 (ix2 0 j) : EReal)) 16
    (fun _ => 0) (fun p j => ∑ k : Fin 4, (fun k => ∑ r, (fun g => Rows.gain 0x44000000#32 (Rows.gated (prod (args m c) g) ((args m c).z g)) ((args m c).dy g) j) (tok k r)) (chunks p k)) (fun t h' j => ?_) (fun t h' j => ?_) (by decide) t ht j
  · have ht := lt16 t
    refine Eq.trans ?_ ((Tile.partGa_at (reads m c t) j).trans (zero_add _).symm)
    rw [outsAt0_A m c t h' (by omega) h' (by omega) h' (by omega) h' (by omega) h' (by omega) h' (by omega) h' (by omega) h' (by omega)
      h' (by omega) h' (by omega)]
    frame_out
    sl_kernel_rfl
  · have ht := lt16 t
    refine Eq.trans ?_ ((Tile.laterGa (Tile.partGa (ops m c t)) (outsAt0 m c (t.val - 1) (Nat.lt_of_le_of_lt (Nat.sub_le _ _) t.isLt)).2.2.2.2 j).trans (congrArg (_ + ·) (Tile.partGa_at (reads m c t) j)))
    rw [outsAt0_B m c t h' (by omega) h' (by omega) h' (by omega) h' (by omega) h' (by omega) h' (by omega) h' (by omega) h' (by omega)
      h' (by omega) h' (by omega)]
    frame_out
    sl_kernel_rfl

/-! The arrays at the end. -/

def wDgain : FVec Ideal S4x128 .f32 := fun i => dgain (args m c) (i 0) (i 1)
def wDw : FVec Ideal S4x128x128 .f32 := fun i => dw (args m c) (i 0) (i 1) (i 2)
def wDb : FVec Ideal S4x128x1 .f32 := fun i => db (args m c) (i 0) (i 1)
def wDga : FVec Ideal S1x512 .f32 := fun i => dga (args m c) (i 1)

theorem final_dgain : (dats m 0 c).arrAt 7 cfg0.N = wDgain m c := by
  refine (dats m 0 c).arrAt_eq_of_after_last 7 last (by decide +kernel) _ fun j => ?_
  blk_simp
  rw [after0_7]
  obtain ⟨h, l, rfl⟩ : ∃ (h : Fin 4) (l : Fin 128), j = ix2 h l := ⟨j 0, j 1, eq_ix2 j⟩
  exact (acc_dgain m c h last rfl l).trans ((sum_chunks _).trans (sum_tokens (fun g => unit (args m c) g h l * dnormed (args m c) g h l)))

theorem final_dw : (dats m 0 c).arrAt 8 cfg0.N = wDw m c := by
  refine (dats m 0 c).arrAt_eq_of_after_last 8 last (by decide +kernel) _ fun j => ?_
  blk_simp
  rw [after0_8]
  obtain ⟨h, r, k, rfl⟩ : ∃ (h : Fin 4) (r k : Fin 128), j = ix3 h r k := ⟨j 0, j 1, j 2, eq_ix3 j⟩
  exact (acc_dw m c h r last rfl k).trans
    (sum_chunks (fun q => ∑ l, dmixed (args m c) (tok q r) h l * normed (args m c) (tok q k) h l))

theorem final_db : (dats m 0 c).arrAt 9 cfg0.N = wDb m c := by
  refine (dats m 0 c).arrAt_eq_of_after_last 9 last (by decide +kernel) _ fun j => ?_
  blk_simp
  rw [after0_9]
  obtain ⟨h, r, a, rfl⟩ : ∃ (h : Fin 4) (r : Fin 128) (a : Fin 1), j = ix3 h r a := ⟨j 0, j 1, j 2, eq_ix3 j⟩
  obtain rfl : a = 0 := Subsingleton.elim _ _
  exact (acc_db m c h last rfl r).trans (sum_chunks (fun q => ∑ l, dmixed (args m c) (tok q r) h l))

theorem final_dga : (dats m 0 c).arrAt 10 cfg0.N = wDga m c := by
  refine (dats m 0 c).arrAt_eq_of_after_last 10 last (by decide +kernel) _ fun j => ?_
  blk_simp
  rw [after0_10]
  obtain ⟨a, l, rfl⟩ : ∃ (a : Fin 1) (l : Fin 512), j = ix2 a l := ⟨j 0, j 1, eq_ix2 j⟩
  obtain rfl : a = 0 := Subsingleton.elim _ _
  exact (acc_dga m c last rfl l).trans ((sum_chunks _).trans
    (sum_tokens (fun g => Rows.gain 0x44000000#32 (Rows.gated (prod (args m c) g) ((args m c).z g)) ((args m c).dy g) l)))

end Cert.SguBackIdeal.Arrays

end
-- ==== Proof.SguFrame.lean ====
/-
  The gradient of the spatial gating unit: the reference ends, with its arguments unchanged.
-/
module

public import proofs.«01_k».proof.Defs
public import proofs.«01_k».proof.Proof.Gen.SguRefIdeal
public import proofs.«01_k».proof.Proof.Gen.SguRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Sgu

/-- The reference ends, with its arguments unchanged. -/
theorem frame_ref : Cert.quiescent_SguRefIdeal := fun m g _ =>
  (θ_run Cert.SguRefIdeal.defs _ _).mono (fun r h => ⟨fun c => (h c).2.2.2.2.2, sem_eq_zero_of_no_sems (by decide) r.2⟩)
    (Cert.SguRefIdeal.Value.run (F := Ideal) m g)

end Cert.Proof.Sgu

end
-- ==== Proof.SguPair.lean ====
/-
  The gradient of the spatial gating unit: kernel and reference end with the same five arrays.
-/
module

public import proofs.«01_k».proof.Defs
public import proofs.«01_k».proof.Proof.SguArray
public import proofs.«01_k».proof.Proof.SguFrame
public import proofs.«01_k».proof.Proof.Gen.SguBack.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Sgu

section
open Cert.SguRefIdeal Cert.SguRefIdeal.Read Cert.SguRefIdeal.Math Cert.Sgu

variable (m : (ℓ : Loc SguBackIdeal.nD SguBackIdeal.τ SguBackIdeal.sig) → Buf (Elt Ideal) ℓ) (c : Dev SguBackIdeal.nD)

/-- The arrays both programs are given. -/
abbrev given : Arrays := SguBackIdeal.Arrays.given m c

/-! The reference's results are the kernel's. -/

theorem ref_dbuf : val_main_v109 (F := Ideal) (given m c).x (given m c).gn (given m c).w (given m c).b (given m c).ga (given m c).dy (given m c).dp = SguBackIdeal.Arrays.dbuf m c := by
  funext i
  idx_vars i
  exact dproj_apply (given m c) i0 i1

theorem ref_dgain : val_main_v89 (F := Ideal) (given m c).x (given m c).gn (given m c).w (given m c).b (given m c).ga (given m c).dy = SguBackIdeal.Arrays.wDgain m c := by
  funext i
  idx_vars i
  exact dgain_apply (given m c) i0 i1

theorem ref_dw : val_main_v80 (F := Ideal) (given m c).x (given m c).gn (given m c).w (given m c).b (given m c).ga (given m c).dy = SguBackIdeal.Arrays.wDw m c := by
  funext i
  idx_vars i
  exact dw_apply (given m c) i0 i1 i2

theorem ref_db : val_main_v110 (F := Ideal) (given m c).x (given m c).gn (given m c).w (given m c).b (given m c).ga (given m c).dy = SguBackIdeal.Arrays.wDb m c := by
  funext i
  idx_vars i
  obtain rfl : i2 = 0 := Subsingleton.elim _ _
  exact db_apply (given m c) i0 i1

theorem ref_dga : val_main_v111 (F := Ideal) (given m c).x (given m c).gn (given m c).w (given m c).b (given m c).dy = SguBackIdeal.Arrays.wDga m c := by
  funext i
  idx_vars i
  obtain rfl : i0 = 0 := Subsingleton.elim _ _
  exact dga_apply (given m c) i1

end

set_option maxHeartbeats 1600000 in
/-- Both programs end with the gradient buffer and the gradients of the gates' gains, the mixing and the output's gain. -/
theorem equal : Cert.algebraic_SguBackIdeal_SguRefIdeal := by
  intro m g m' g' hpre hagree
  refine ⟨fun c => SguBackIdeal.Arrays.dbuf m c, fun c => SguBackIdeal.Arrays.wDgain m c, fun c => SguBackIdeal.Arrays.wDw m c, fun c => SguBackIdeal.Arrays.wDb m c, fun c => SguBackIdeal.Arrays.wDga m c, ?_, ?_⟩
  · run_from Cert.SguBackIdeal.Gen.run_main m g
    · exact SguBackIdeal.Arrays.final_dbuf m c
    · exact SguBackIdeal.Arrays.final_dgain m c
    · exact SguBackIdeal.Arrays.final_dw m c
    · exact SguBackIdeal.Arrays.final_db m c
    · exact SguBackIdeal.Arrays.final_dga m c
  · refine θ_run_mono (Cert.SguRefIdeal.Value.run (F := Ideal) m' g') fun r h c => ?_
    obtain ⟨a0, a1, a2, a3, a4, a5, a6⟩ := hagree c
    obtain ⟨h0, h1, h2, h3, h4, hk⟩ := h c
    replace a0 : StableHlo.launchContents m' c (Proc.tc.devRef SguRefIdeal.main_arg0) = m (c.tc.loc SguBackIdeal.main_arg0) := a0
    replace a1 : StableHlo.launchContents m' c (Proc.tc.devRef SguRefIdeal.main_arg1) = m (c.tc.loc SguBackIdeal.main_arg1) := a1
    replace a2 : StableHlo.launchContents m' c (Proc.tc.devRef SguRefIdeal.main_arg2) = m (c.tc.loc SguBackIdeal.main_arg2) := a2
    replace a3 : StableHlo.launchContents m' c (Proc.tc.devRef SguRefIdeal.main_arg3) = m (c.tc.loc SguBackIdeal.main_arg3) := a3
    replace a4 : StableHlo.launchContents m' c (Proc.tc.devRef SguRefIdeal.main_arg4) = m (c.tc.loc SguBackIdeal.main_arg4) := a4
    replace a5 : StableHlo.launchContents m' c (Proc.tc.devRef SguRefIdeal.main_arg5) = m (c.tc.loc SguBackIdeal.main_arg5) := a5
    replace a6 : StableHlo.launchContents m' c (Proc.tc.devRef SguRefIdeal.main_arg6) = m (c.tc.loc SguBackIdeal.main_arg6) := a6
    refine ⟨h0.trans ?_, h1.trans ?_, h2.trans ?_, h3.trans ?_, h4.trans ?_, hk⟩
    · refine (SguRefIdeal.Read.val_main_v109_eq (StableHlo.launchContents m' c)).trans ?_
      rw [a0, a1, a2, a3, a4, a5, a6]
      exact ref_dbuf m c
    · refine (SguRefIdeal.Read.val_main_v89_eq (StableHlo.launchContents m' c)).trans ?_
      rw [a0, a1, a2, a3, a4, a5]
      exact ref_dgain m c
    · refine (SguRefIdeal.Read.val_main_v80_eq (StableHlo.launchContents m' c)).trans ?_
      rw [a0, a1, a2, a3, a4, a5]
      exact ref_dw m c
    · refine (SguRefIdeal.Read.val_main_v110_eq (StableHlo.launchContents m' c)).trans ?_
      rw [a0, a1, a2, a3, a4, a5]
      exact ref_db m c
    · refine (SguRefIdeal.Read.val_main_v111_eq (StableHlo.launchContents m' c)).trans ?_
      rw [a0, a1, a2, a3, a5]
      exact ref_dga m c

end Cert.Proof.Sgu

end
-- ==== Proof.ConvRows.lean ====
/-
  The gated convolution over time, one row at a time, on the extended reals.

  A row of activations has four parts of 512 columns: `b`, `c`, `h` and the gates `z`.  The products
  `c * h` of all rows, with a row of zeros before the first and after the last, are convolved over three
  neighbouring rows, multiplied by `b` and by the SiLU of `z`, and normalised by their root mean square.
  Rows are counted from eight rows before the first one, the way a tile with its halo lies in the array:
  place `p` stands for row `p - 8`, and places outside the array hold zeros.
-/
module

public import proofs.«01_k».proof.Proof.CgateRows
public import proofs.«01_k».proof.Proof.Consts

@[expose] public section

noncomputable section

open Idealize.ShloMosaic

namespace Cert.Conv

/-- The row at place `p`. -/
def row (p : ℕ) : Fin 8192 := ⟨(p - 8) % 8192, by omega⟩

/-- A place that lies in the array. -/
abbrev Inside (p : ℕ) : Prop := 8 ≤ p ∧ p < 8200

/-- Column `l` of part `q`. -/
def part (q : Fin 4) (l : Fin 512) : Fin 2048 := ⟨q.val * 512 + l.val, by omega⟩

/-- The column of the projection that holds activation `k`. -/
def actCol (k : Fin 2048) : Fin 6720 := ⟨1536 + k.val, by omega⟩

/-- The column of the incoming gradient, and the entry of the gain, that belong to column `l`. -/
def outCol (l : Fin 512) : Fin 2048 := ⟨512 + l.val, by omega⟩

/-- The part and its column that column `j` of the gradient buffer belongs to. -/
def bufPart (j : Fin 6912) : Fin 4 := ⟨j.val / 512 % 4, by omega⟩
def bufCol (j : Fin 6912) : Fin 512 := ⟨j.val % 512, by omega⟩

/-- Rows of numbers with zeros outside the array. -/
def zpad (f : Fin 8192 → Fin 512 → EReal) (p : ℕ) (l : Fin 512) : EReal := if Inside p then f (row p) l else 0

variable (A : Fin 8192 → Fin 2048 → EReal) (W : Fin 3 → Fin 512 → EReal) (B G : Fin 512 → EReal)
  (D : Fin 8192 → Fin 512 → EReal)

/-- The products that are convolved. -/
def prod (g : Fin 8192) (l : Fin 512) : EReal := A g (part 1 l) * A g (part 2 l)

/-- The convolution at place `p`. -/
def conv (p : ℕ) (l : Fin 512) : EReal :=
  B l + zpad (prod A) (p - 1) l * W 0 l + zpad (prod A) p l * W 1 l + zpad (prod A) (p + 1) l * W 2 l

/-- The convolution times its factor, at place `p`, whose activations are `a`. -/
def factored (a : Fin 2048 → EReal) (p : ℕ) (l : Fin 512) : EReal := a (part 0 l) * conv A W B p l

/-- The gates among activations `a`. -/
def gates (a : Fin 2048 → EReal) (l : Fin 512) : EReal := a (part 3 l)

/-- The gradient of the convolution's product with its factor, at place `p` with activations `a` and
    incoming gradient `d`. -/
def dfact (a : Fin 2048 → EReal) (d : Fin 512 → EReal) (p : ℕ) (l : Fin 512) : EReal :=
  Rows.dout 0x44000000#32 (factored A W B a p) (gates a) d G l

/-- The gradient of the convolution at such a place. -/
def dconvAt (a : Fin 2048 → EReal) (d : Fin 512 → EReal) (p : ℕ) (l : Fin 512) : EReal :=
  a (part 0 l) * dfact A W B G a d p l

/-- The gradient of the convolution at row `g`. -/
def dconv (g : Fin 8192) (l : Fin 512) : EReal := dconvAt A W B G (A g) (D g) (g.val + 8) l

/-- The gradient of the products at place `p`: the convolution run backwards. -/
def dprod (p : ℕ) (l : Fin 512) : EReal :=
  zpad (dconv A W B G D) (p - 1) l * W 2 l + zpad (dconv A W B G D) p l * W 1 l + zpad (dconv A W B G D) (p + 1) l * W 0 l

/-- The gradient of the activations of row `g`, part by part. -/
def dact (g : Fin 8192) (q : Fin 4) (l : Fin 512) : EReal :=
  if q = 0 then dfact A W B G (A g) (D g) (g.val + 8) l * conv A W B (g.val + 8) l
  else if q = 1 then dprod A W B G D (g.val + 8) l * A g (part 2 l)
  else if q = 2 then A g (part 1 l) * dprod A W B G D (g.val + 8) l
  else Rows.dgates 0x44000000#32 (factored A W B (A g) (g.val + 8)) (gates (A g)) (D g) G l

/-- A row's part of the gradient of tap `k`. -/
def dtap (k : Fin 3) (g : Fin 8192) (l : Fin 512) : EReal :=
  zpad (prod A) (g.val + 7 + k.val) l * dconv A W B G D g l

/-- A row's part of the gain's gradient. -/
def dgain (g : Fin 8192) (l : Fin 512) : EReal :=
  Rows.gain 0x44000000#32 (Rows.gated (factored A W B (A g) (g.val + 8)) (gates (A g))) (D g) l

theorem row_add (g : Fin 8192) : row (g.val + 8) = g := Fin.ext (by simp only [row]; omega)

theorem inside_add (g : Fin 8192) : Inside (g.val + 8) := ⟨by omega, by omega⟩

theorem row_val {p : ℕ} (h : Inside p) : (row p).val + 8 = p := by simp only [row]; omega

theorem zpad_in (f : Fin 8192 → Fin 512 → EReal) {p : ℕ} (h : Inside p) : zpad f p = f (row p) := funext fun _ => if_pos h

/-- Without an incoming gradient there is none of the row. -/
theorem grad_zero (x : Fin 512 → EReal) (l : Fin 512) : Rows.grad 0x44000000#32 x (fun _ => 0) l = 0 := by
  have hs : Rows.slope 0x44000000#32 x (fun _ => 0) = 0 := by
    simp only [Rows.slope, mul_zero, Finset.sum_const_zero, zero_mul, Consts.w512,
      Ideal.div_coe (show (512 : ℝ) ≠ 0 by norm_num)]
  simp only [Rows.grad, hs, zero_mul, mul_zero, add_zero]

theorem dfact_zero (a : Fin 2048 → EReal) (p : ℕ) (l : Fin 512) : dfact A W B G a (fun _ => 0) p l = 0 := by
  simp [dfact, Rows.dout, Rows.dgated, grad_zero]

/-- The incoming gradient at place `p`, with zeros outside the array, gives the gradient there. -/
theorem dconvAt_zpad (a : Fin 2048 → EReal) (p : ℕ) (ha : Inside p → a = A (row p)) (l : Fin 512) :
    dconvAt A W B G a (zpad D p) p l = zpad (dconv A W B G D) p l := by
  by_cases h : Inside p
  · have hd : zpad D p = D (row p) := funext fun k => if_pos h
    rw [zpad, if_pos h, ha h, hd, dconv, row_val h]
  · have hd : zpad D p = fun _ => 0 := funext fun k => if_neg h
    rw [zpad, if_neg h, hd, dconvAt, dfact_zero, mul_zero]

end Cert.Conv

end
-- ==== Proof.ConvBlock.lean ====
/-
  The gradient of the gated convolution, one tile of 256 rows with eight rows of halo on each side: what
  the body of the kernel computes at an index of its tile, as the row functions of `ConvRows`.
-/
module

public import proofs.«01_k».proof.Proof.Gen.ConvBackIdeal.Skeleton
public import proofs.«01_k».proof.Proof.ConvRows
public import proofs.«01_k».proof.Proof.Consts
public import Idealize.ShloMosaic.Lib.Pipeline.ValueKit

@[expose] public section

set_option maxRecDepth 16384

noncomputable section

open Idealize.ShloMosaic Idealize.ShloMosaic.TcCoe Idealize.SL.Sem

namespace Cert.ConvBackIdeal.Block

open Cert.ConvBackIdeal Cert.ConvBackIdeal.Gen Cert.Conv

/-- Row `r` of a tile's activations with their halo. -/
abbrev act (v0 : Vec Ideal S8x2048 .bf16) (v2 : Vec Ideal S256x2048 .bf16) (v4 : Vec Ideal S8x2048 .bf16)
    (r : Fin 272) : Fin 2048 → EReal := fun k => k0_pay6 v0 v2 v4 (ix2 r k)

section parts
variable (v0 : Vec Ideal S8x2048 .bf16) (v2 : Vec Ideal S256x2048 .bf16) (v4 : Vec Ideal S8x2048 .bf16)
  (r : Fin 272) (l : Fin 512)

theorem b_apply : k0_pay7 v0 v2 v4 (ix2 r l) = act v0 v2 v4 r (part 0 l) := by
  pointwise! [k0_pay7, part]
theorem c_apply : k0_pay8 v0 v2 v4 (ix2 r l) = act v0 v2 v4 r (part 1 l) := by
  pointwise! [k0_pay8, part]
theorem h_apply : k0_pay9 v0 v2 v4 (ix2 r l) = act v0 v2 v4 r (part 2 l) := by
  pointwise! [k0_pay9, part]
theorem z_apply : k0_pay10 v0 v2 v4 (ix2 r l) = act v0 v2 v4 r (part 3 l) := by
  pointwise! [k0_pay10, part]
end parts

theorem valid_words : ∀ (t : Fin 32) (r : Fin 272),
    IntOp.andi (IntOp.cmpi .sge (IntOp.addi (Scalar.subi (Scalar.muli (BitVec.ofNat 32 t.val) 256#32) 8#32) (BitVec.ofNat 32 r.val)) 0#32)
      (IntOp.cmpi .slt (IntOp.addi (Scalar.subi (Scalar.muli (BitVec.ofNat 32 t.val) 256#32) 8#32) (BitVec.ofNat 32 r.val)) 8192#32)
      = if Inside (t.val * 256 + r.val) then 1#1 else 0#1 := by
  decide +kernel

/-- The rows of point `i` that lie in the array. -/
theorem valid_apply (i : grid0.Coords) (t : Fin 32) (hi : (i 0).val = t.val) (r : Fin 272) :
    k0_pay13 i (ix2 r 0) = if Inside (t.val * 256 + r.val) then 1#1 else 0#1 := by
  refine Eq.trans ?_ (valid_words t r)
  rw [← hi]
  pointwise [k0_pay13]

theorem core_words : ∀ r : Fin 272, IntOp.andi (IntOp.cmpi .sge (BitVec.ofNat 32 r.val) 8#32)
    (IntOp.cmpi .slt (BitVec.ofNat 32 r.val) 264#32) = if 8 ≤ r.val ∧ r.val < 264 then 1#1 else 0#1 := by
  decide +kernel

/-- The rows of a tile without its halo. -/
theorem core_apply (r : Fin 272) : k0_pay14 (ix2 r 0) = if 8 ≤ r.val ∧ r.val < 264 then 1#1 else 0#1 := by
  refine Eq.trans ?_ (core_words r)
  pointwise [k0_pay14]

/-- The incoming gradient of a tile with its halo. -/
def dys (d6 : Vec Ideal S8x512 .f32) (d7 : Vec Ideal S256x512 .f32) (d8 : Vec Ideal S8x512 .f32) : FVec Ideal S272x512 .f32 :=
  concatenate S272x512 0 [⟨S8x512, d6⟩, ⟨S256x512, d7⟩, ⟨S8x512, d8⟩] concatenates_S8x512_S256x512_S8x512_S272x512_d0

section pieces
variable (v0 : Vec Ideal S8x2048 .bf16) (v2 : Vec Ideal S256x2048 .bf16) (v4 : Vec Ideal S8x2048 .bf16)
  (d6 : Vec Ideal S8x512 .f32) (d7 : Vec Ideal S256x512 .f32) (d8 : Vec Ideal S8x512 .f32)

theorem act_above (r : Fin 272) (q : Fin 8) (h : r.val = q.val) (l : Fin 2048) : act v0 v2 v4 r l = v0 (ix2 q l) := by
  obtain ⟨r, hr⟩ := r
  obtain rfl : r = q.val := h
  change k0_pay6 v0 v2 v4 (ix2 _ l) = _
  pointwise! [k0_pay6]
theorem act_core (r : Fin 272) (q : Fin 256) (h : r.val = 8 + q.val) (l : Fin 2048) : act v0 v2 v4 r l = v2 (ix2 q l) := by
  obtain ⟨r, hr⟩ := r
  obtain rfl : r = 8 + q.val := h
  change k0_pay6 v0 v2 v4 (ix2 _ l) = _
  pointwise! [k0_pay6]
theorem act_below (r : Fin 272) (q : Fin 8) (h : r.val = 264 + q.val) (l : Fin 2048) : act v0 v2 v4 r l = v4 (ix2 q l) := by
  obtain ⟨r, hr⟩ := r
  obtain rfl : r = 264 + q.val := h
  change k0_pay6 v0 v2 v4 (ix2 _ l) = _
  pointwise! [k0_pay6]

theorem dys_above (r : Fin 272) (q : Fin 8) (h : r.val = q.val) (l : Fin 512) : dys d6 d7 d8 (ix2 r l) = d6 (ix2 q l) := by
  obtain ⟨r, hr⟩ := r
  obtain rfl : r = q.val := h
  pointwise! [dys]
theorem dys_core (r : Fin 272) (q : Fin 256) (h : r.val = 8 + q.val) (l : Fin 512) : dys d6 d7 d8 (ix2 r l) = d7 (ix2 q l) := by
  obtain ⟨r, hr⟩ := r
  obtain rfl : r = 8 + q.val := h
  pointwise! [dys]
theorem dys_below (r : Fin 272) (q : Fin 8) (h : r.val = 264 + q.val) (l : Fin 512) : dys d6 d7 d8 (ix2 r l) = d8 (ix2 q l) := by
  obtain ⟨r, hr⟩ := r
  obtain rfl : r = 264 + q.val := h
  pointwise! [dys]
end pieces

/-- The row of a tile with its halo that row `r` of the tile is. -/
def inner (r : Fin 256) : Fin 272 := ⟨8 + r.val, by omega⟩

/-- A sum over a tile's rows without their halo. -/
theorem sum_core (f : Fin 272 → EReal) :
    (∑ r : Fin 272, if 8 ≤ r.val ∧ r.val < 264 then f r else 0) = ∑ r : Fin 256, f (inner r) := by
  rw [← Finset.sum_filter]
  refine (Finset.sum_bij (fun (r : Fin 256) _ => inner r) (fun r _ => ?_) (fun a _ b _ h => ?_) (fun r h => ?_)
    fun _ _ => rfl).symm
  · simp only [Finset.mem_filter, Finset.mem_univ, true_and, inner]; omega
  · have := congrArg Fin.val h
    simp only [inner] at this
    exact Fin.ext (by omega)
  · simp only [Finset.mem_filter, Finset.mem_univ, true_and] at h
    exact ⟨⟨r.val - 8, by omega⟩, Finset.mem_univ _, Fin.ext (by simp only [inner]; omega)⟩

/-- The neighbours of a row of a tile. -/
def earlier (s : Fin 272) (h : 8 ≤ s.val) : Fin 272 := ⟨s.val - 1, by omega⟩
def later (s : Fin 272) (h : s.val < 264) : Fin 272 := ⟨s.val + 1, by omega⟩

/-- The convolution run backwards, at row `s` with neighbours `a` and `b`. -/
theorem taps_apply (x8 x132 w53 w62 w72 : FVec Ideal S272x512 .f32) (k : IVec S272x512 1) (s a b : Fin 272)
    (ha : (s.val + 272 - 1) % 272 = a.val) (hb : (s.val + 272 - 271) % 272 = b.val) (l : Fin 512) :
    k0_pay49 x8 k w53 w62 w72 x132 (ix2 s l) = Scalar.select (k (ix2 s l))
      (k0_pay44 x8 x132 (ix2 a l) * w72 (ix2 a l) + k0_pay44 x8 x132 (ix2 s l) * w62 (ix2 s l)
        + k0_pay44 x8 x132 (ix2 b l) * w53 (ix2 b l)) (0 : EReal) := by
  rw [k0_pay49]
  generalize k0_pay44 x8 x132 = x
  obtain rfl : a = ⟨(s.val + 272 - 1) % 272, Nat.mod_lt _ (by decide)⟩ := Fin.ext ha.symm
  obtain rfl : b = ⟨(s.val + 272 - 271) % 272, Nat.mod_lt _ (by decide)⟩ := Fin.ext hb.symm
  pointwise

/-- A place of a tile's row without halo lies in the array. -/
theorem inside_inner (t : Fin 32) (r : Fin 256) : Inside (t.val * 256 + (inner r).val) := by
  simp only [Inside, inner]; omega

/-- A tile's sum over the rows without halo, from its summands' values. -/
theorem core_of (t : Fin 32) {k : IVec S272x512 1} {x : FVec Ideal S272x512 .f32} {f : ℕ → Fin 512 → EReal} (l : Fin 512)
    (hk : ∀ r, k (ix2 r l) = if 8 ≤ r.val ∧ r.val < 264 then 1#1 else 0#1)
    (hx : ∀ r : Fin 272, 8 ≤ r.val → r.val < 264 → x (ix2 r l) = f (t.val * 256 + r.val) l) :
    (∑ r : Fin 272, Scalar.select (k (ix2 r l)) (x (ix2 r l)) (0 : EReal)) = ∑ r : Fin 256, f (t.val * 256 + (inner r).val) l := by
  refine Eq.trans (Fin.sum_fin_congr fun r => ?_) (sum_core fun r => f (t.val * 256 + r.val) l)
  rw [hk r]
  by_cases h : 8 ≤ r.val ∧ r.val < 264
  · rw [if_pos h, if_pos h, ← hx r h.1 h.2]
    rfl
  · rw [if_neg h, if_neg h]
    rfl

section sums
variable (x8 x46 x132 x81 : FVec Ideal S272x512 .f32) (x91 : FVec Ideal S272x1 .f32) (k : IVec S272x512 1) (l : Fin 512)

theorem sum0 : k0_pay47 x8 x46 k x132 (ix2 0 l)
    = ∑ r : Fin 272, Scalar.select (k (ix2 r l)) (mulf x46 (k0_pay44 x8 x132) (ix2 r l)) (0 : EReal) := by
  pointwise [k0_pay47]

theorem sum1 : k0_pay46 x8 x46 k x132 (ix2 0 l)
    = ∑ r : Fin 272, Scalar.select (k (ix2 r l)) (mulf x46 (k0_pay44 x8 x132) (ix2 r l)) (0 : EReal) := by
  pointwise [k0_pay46]

theorem sum2 : k0_pay45 x8 x46 k x132 (ix2 0 l)
    = ∑ r : Fin 272, Scalar.select (k (ix2 r l)) (mulf x46 (k0_pay44 x8 x132) (ix2 r l)) (0 : EReal) := by
  pointwise [k0_pay45]

theorem sumb : k0_pay48 x8 k x132 (ix2 0 l)
    = ∑ r : Fin 272, Scalar.select (k (ix2 r l)) (k0_pay44 x8 x132 (ix2 r l)) (0 : EReal) := by
  pointwise [k0_pay48]

theorem sumg (v28 : IVec S272x1 1) (d6 : Vec Ideal S8x512 .f32) (d7 : Vec Ideal S256x512 .f32) (d8 : Vec Ideal S8x512 .f32) :
    k0_pay41 v28 x81 k x91 d6 d7 d8 (ix2 0 l)
    = ∑ r : Fin 272, Scalar.select (k (ix2 r l)) (mulf (mulf x81 (broadcastTo S272x512 (k0_pay38 x91) broadcasts_S272x1_S272x512))
        (k0_pay39 v28 d6 d7 d8) (ix2 r l)) (0 : EReal) := by
  rw [k0_pay41]
  generalize k0_pay39 v28 d6 d7 d8 = y
  generalize k0_pay38 x91 = x
  pointwise

theorem mask19 (r : Fin 272) : k0_pay19 k0_pay14 (ix2 r l) = if 8 ≤ r.val ∧ r.val < 264 then 1#1 else 0#1 := by
  pointwise [k0_pay19, core_apply]
theorem mask21 (r : Fin 272) : k0_pay21 k0_pay14 (ix2 r l) = if 8 ≤ r.val ∧ r.val < 264 then 1#1 else 0#1 := by
  pointwise [k0_pay21, core_apply]
theorem mask23 (r : Fin 272) : k0_pay23 k0_pay14 (ix2 r l) = if 8 ≤ r.val ∧ r.val < 264 then 1#1 else 0#1 := by
  pointwise [k0_pay23, core_apply]
theorem mask26 (r : Fin 272) : k0_pay26 k0_pay14 (ix2 r l) = if 8 ≤ r.val ∧ r.val < 264 then 1#1 else 0#1 := by
  pointwise [k0_pay26, core_apply]
theorem mask34 (r : Fin 272) : k0_pay34 k0_pay14 (ix2 r l) = if 8 ≤ r.val ∧ r.val < 264 then 1#1 else 0#1 := by
  pointwise [k0_pay34, core_apply]
end sums

/-- What a point's blocks hold: rows of the activations and of the incoming gradient from eight before
    the point's first row on, where those rows lie in the array, and the taps, the bias and the gain. -/
structure Reads (i : grid0.Coords) (t : Fin 32) (v0 : Vec Ideal S8x2048 .bf16) (v2 : Vec Ideal S256x2048 .bf16)
    (v4 : Vec Ideal S8x2048 .bf16) (w0 w1 w2 b g : Vec Ideal S1x512 .f32) (d6 : Vec Ideal S8x512 .f32)
    (d7 : Vec Ideal S256x512 .f32) (d8 : Vec Ideal S8x512 .f32) (z : Ideal .f32) (A : Fin 8192 → Fin 2048 → EReal)
    (W : Fin 3 → Fin 512 → EReal) (B G : Fin 512 → EReal) (D : Fin 8192 → Fin 512 → EReal) : Prop where
  zero : z = (0 : EReal)
  point : (i 0).val = t.val
  acts : ∀ r : Fin 272, Inside (t.val * 256 + r.val) → act v0 v2 v4 r = A (row (t.val * 256 + r.val))
  tap0 : ∀ l, w0 (ix2 0 l) = W 0 l
  tap1 : ∀ l, w1 (ix2 0 l) = W 1 l
  tap2 : ∀ l, w2 (ix2 0 l) = W 2 l
  bias : ∀ l, b (ix2 0 l) = B l
  gain : ∀ l, g (ix2 0 l) = G l
  grads : ∀ (r : Fin 272) (l : Fin 512), Inside (t.val * 256 + r.val) → dys d6 d7 d8 (ix2 r l) = D (row (t.val * 256 + r.val)) l

/-- The gradient of the convolution's product with its factor, as the body computes it. -/
def body42 (i : grid0.Coords) (v0 : Vec Ideal S8x2048 .bf16) (v2 : Vec Ideal S256x2048 .bf16)
    (v4 : Vec Ideal S8x2048 .bf16) (w0 w1 w2 b g : Vec Ideal S1x512 .f32) (d6 : Vec Ideal S8x512 .f32)
    (d7 : Vec Ideal S256x512 .f32) (d8 : Vec Ideal S8x512 .f32) (z : Ideal .f32) : FVec Ideal S272x512 .f32 :=
  k0_pay42 (k0_pay13 i) (k0_pay32 (k0_pay10 v0 v2 v4))
    (k0_pay33 (k0_pay7 v0 v2 v4) (k0_pay10 v0 v2 v4) w0 w1 w2 (k0_pay11 b) k0_pay14 (k0_pay15 v0 v2 v4) z (k0_pay16 i))
    (k0_pay35 (k0_pay12 g) k0_pay14)
    (k0_pay36 (k0_pay7 v0 v2 v4) (k0_pay10 v0 v2 v4) w0 w1 w2 (k0_pay11 b) k0_pay14 (k0_pay15 v0 v2 v4) z (k0_pay16 i)) d6 d7 d8

section body
variable {i : grid0.Coords} {t : Fin 32} {v0 : Vec Ideal S8x2048 .bf16} {v2 : Vec Ideal S256x2048 .bf16}
    {v4 : Vec Ideal S8x2048 .bf16} {w0 w1 w2 b g : Vec Ideal S1x512 .f32} {d6 : Vec Ideal S8x512 .f32}
    {d7 : Vec Ideal S256x512 .f32} {d8 : Vec Ideal S8x512 .f32} {z : Ideal .f32} {A : Fin 8192 → Fin 2048 → EReal}
    {W : Fin 3 → Fin 512 → EReal} {B G : Fin 512 → EReal} {D : Fin 8192 → Fin 512 → EReal}
    (R : Reads i t v0 v2 v4 w0 w1 w2 b g d6 d7 d8 z A W B G D)
include R

/-- The products of a tile, zero outside the array. -/
theorem prod_apply (r : Fin 272) (l : Fin 512) :
    k0_pay18 (k0_pay15 v0 v2 v4) z (k0_pay16 i) (ix2 r l) = zpad (prod A) (t.val * 256 + r.val) l := by
  have hm := valid_apply i t R.point r
  pointwise [k0_pay18, k0_pay17, k0_pay16, k0_pay15, c_apply, h_apply]
  rw [hm]
  by_cases h : Inside (t.val * 256 + r.val)
  · rw [if_pos h, zpad, if_pos h, prod, ← R.acts r h]
    rfl
  · rw [if_neg h, zpad, if_neg h]
    exact R.zero

theorem before_apply (r : Fin 272) (l : Fin 512) (h : 1 ≤ r.val) :
    k0_pay20 (k0_pay15 v0 v2 v4) z (k0_pay16 i) (ix2 r l)
      = zpad (prod A) (t.val * 256 + r.val - 1) l := by
  refine Eq.trans ?_ ((prod_apply R ⟨r.val - 1, by omega⟩ l).trans (congrArg (zpad (prod A) · l) ?_))
  · rw [k0_pay20]
    generalize k0_pay18 (k0_pay15 v0 v2 v4) z (k0_pay16 i) = x
    pointwise
    exact congrArg x (congrArg (ix2 · l) (Fin.ext (by simp only []; omega)))
  · simp only []; omega

theorem after_apply (r : Fin 272) (l : Fin 512) (h : r.val ≤ 270) :
    k0_pay25 (k0_pay15 v0 v2 v4) z (k0_pay16 i) (ix2 r l)
      = zpad (prod A) (t.val * 256 + r.val + 1) l := by
  refine Eq.trans ?_ ((prod_apply R ⟨r.val + 1, by omega⟩ l).trans (congrArg (zpad (prod A) · l) ?_))
  · rw [k0_pay25]
    generalize k0_pay18 (k0_pay15 v0 v2 v4) z (k0_pay16 i) = x
    pointwise
    exact congrArg x (congrArg (ix2 · l) (Fin.ext (by simp only []; omega)))
  · simp only []; omega

theorem conv_apply (r : Fin 272) (l : Fin 512) (h : 1 ≤ r.val) (h' : r.val ≤ 270) :
    k0_pay28 w0 w1 w2 (k0_pay11 b) k0_pay14 (k0_pay15 v0 v2 v4) z (k0_pay16 i) (ix2 r l)
      = conv A W B (t.val * 256 + r.val) l := by
  pointwise [k0_pay28, k0_pay22, k0_pay24, k0_pay27, k0_pay11, before_apply R r l h, prod_apply R r l, after_apply R r l h']
  rw [R.bias, R.tap0, R.tap1, R.tap2]
  rfl

omit R in
theorem sigma_apply (r : Fin 272) (l : Fin 512) :
    k0_pay30 (k0_pay10 v0 v2 v4) (ix2 r l) = Rows.sigma (gates (act v0 v2 v4 r) l) := by
  pointwise! [k0_pay30, z_apply, Rows.sigma, gates]

omit R in
theorem silu_apply (r : Fin 272) (l : Fin 512) :
    k0_pay32 (k0_pay10 v0 v2 v4) (ix2 r l) = Rows.silu (gates (act v0 v2 v4 r) l) := by
  pointwise! [k0_pay32, sigma_apply, z_apply, Rows.silu, gates]

theorem factored_apply (r : Fin 272) (l : Fin 512) (h : 1 ≤ r.val) (h' : r.val ≤ 270) :
    k0_pay29 (k0_pay7 v0 v2 v4) w0 w1 w2 (k0_pay11 b) k0_pay14 (k0_pay15 v0 v2 v4) z (k0_pay16 i) (ix2 r l)
      = factored A W B (act v0 v2 v4 r) (t.val * 256 + r.val) l := by
  pointwise! [k0_pay29, conv_apply R r l h h', b_apply, factored]

theorem gated_apply (r : Fin 272) (l : Fin 512) (h : 1 ≤ r.val) (h' : r.val ≤ 270) :
    k0_pay33 (k0_pay7 v0 v2 v4) (k0_pay10 v0 v2 v4) w0 w1 w2 (k0_pay11 b) k0_pay14 (k0_pay15 v0 v2 v4) z (k0_pay16 i) (ix2 r l)
      = Rows.gated (factored A W B (act v0 v2 v4 r) (t.val * 256 + r.val)) (gates (act v0 v2 v4 r)) l := by
  pointwise! [k0_pay33, factored_apply R r l h h', silu_apply, Rows.gated]

theorem meanSq_apply (r : Fin 272) (h : 1 ≤ r.val) (h' : r.val ≤ 270) :
    k0_pay37 (k0_pay36 (k0_pay7 v0 v2 v4) (k0_pay10 v0 v2 v4) w0 w1 w2 (k0_pay11 b) k0_pay14 (k0_pay15 v0 v2 v4) z (k0_pay16 i)) (ix2 r 0)
      = Rows.meanSq 0x44000000#32 (Rows.gated (factored A W B (act v0 v2 v4 r) (t.val * 256 + r.val)) (gates (act v0 v2 v4 r))) := by
  pointwise! [k0_pay37, k0_pay36, gated_apply R r _ h h', Rows.meanSq]

theorem scale_apply (r : Fin 272) (h : 1 ≤ r.val) (h' : r.val ≤ 270) :
    k0_pay38 (k0_pay36 (k0_pay7 v0 v2 v4) (k0_pay10 v0 v2 v4) w0 w1 w2 (k0_pay11 b) k0_pay14 (k0_pay15 v0 v2 v4) z (k0_pay16 i)) (ix2 r 0)
      = Rows.scale 0x44000000#32 (Rows.gated (factored A W B (act v0 v2 v4 r) (t.val * 256 + r.val)) (gates (act v0 v2 v4 r))) := by
  rw [Rows.scale, ← meanSq_apply R r h h']
  pointwise! [k0_pay38]

/-- The incoming gradient, zero outside the array. -/
theorem grads_apply (r : Fin 272) (l : Fin 512) : k0_pay39 (k0_pay13 i) d6 d7 d8 (ix2 r l) = zpad D (t.val * 256 + r.val) l := by
  have hm := valid_apply i t R.point r
  have e : k0_pay39 (k0_pay13 i) d6 d7 d8 (ix2 r l) = Scalar.select (k0_pay13 i (ix2 r 0)) (dys d6 d7 d8 (ix2 r l)) (0 : EReal) := by
    rw [k0_pay39]
    change select _ (dys d6 d7 d8) _ (ix2 r l) = _
    generalize dys d6 d7 d8 = x
    pointwise
  rw [e, hm]
  by_cases h : Inside (t.val * 256 + r.val)
  · rw [if_pos h, zpad, if_pos h, ← R.grads r l h]
    rfl
  · rw [if_neg h, zpad, if_neg h]
    rfl

theorem dgated_apply (r : Fin 272) (l : Fin 512) (h : 1 ≤ r.val) (h' : r.val ≤ 270) :
    k0_pay40 (k0_pay13 i)
      (k0_pay33 (k0_pay7 v0 v2 v4) (k0_pay10 v0 v2 v4) w0 w1 w2 (k0_pay11 b) k0_pay14 (k0_pay15 v0 v2 v4) z (k0_pay16 i))
      (k0_pay35 (k0_pay12 g) k0_pay14)
      (k0_pay36 (k0_pay7 v0 v2 v4) (k0_pay10 v0 v2 v4) w0 w1 w2 (k0_pay11 b) k0_pay14 (k0_pay15 v0 v2 v4) z (k0_pay16 i)) d6 d7 d8 (ix2 r l)
      = Rows.dgated 0x44000000#32 (factored A W B (act v0 v2 v4 r) (t.val * 256 + r.val)) (gates (act v0 v2 v4 r))
          (zpad D (t.val * 256 + r.val)) G l := by
  pointwise [k0_pay40, k0_pay35, k0_pay12, Rows.dgated, Rows.grad, Rows.slope]
  simp only [Fin.sum_univ_one, Fin.isValue, gated_apply R r _ h h', scale_apply R r h h', meanSq_apply R r h h', R.gain, grads_apply R r]

theorem dfact_apply (r : Fin 272) (l : Fin 512) (h : 1 ≤ r.val) (h' : r.val ≤ 270) :
    body42 i v0 v2 v4 w0 w1 w2 b g d6 d7 d8 z (ix2 r l)
      = dfact A W B G (act v0 v2 v4 r) (zpad D (t.val * 256 + r.val)) (t.val * 256 + r.val) l := by
  pointwise [body42, k0_pay42, dgated_apply R r l h h', silu_apply, dfact, Rows.dout]

theorem dgates_apply (r : Fin 272) (l : Fin 512) (h : 1 ≤ r.val) (h' : r.val ≤ 270) :
    k0_pay43 (k0_pay10 v0 v2 v4) (k0_pay13 i)
      (k0_pay29 (k0_pay7 v0 v2 v4) w0 w1 w2 (k0_pay11 b) k0_pay14 (k0_pay15 v0 v2 v4) z (k0_pay16 i))
      (k0_pay30 (k0_pay10 v0 v2 v4)) (k0_pay31 (k0_pay10 v0 v2 v4))
      (k0_pay33 (k0_pay7 v0 v2 v4) (k0_pay10 v0 v2 v4) w0 w1 w2 (k0_pay11 b) k0_pay14 (k0_pay15 v0 v2 v4) z (k0_pay16 i))
      (k0_pay35 (k0_pay12 g) k0_pay14)
      (k0_pay36 (k0_pay7 v0 v2 v4) (k0_pay10 v0 v2 v4) w0 w1 w2 (k0_pay11 b) k0_pay14 (k0_pay15 v0 v2 v4) z (k0_pay16 i)) d6 d7 d8 (ix2 r l)
      = Rows.dgates 0x44000000#32 (factored A W B (act v0 v2 v4 r) (t.val * 256 + r.val)) (gates (act v0 v2 v4 r))
          (zpad D (t.val * 256 + r.val)) G l := by
  pointwise [k0_pay43, k0_pay31, z_apply, sigma_apply, dgated_apply R r l h h', factored_apply R r l h h', Rows.dgates, Rows.dsilu, gates]

/-- The gradient of the convolution, zero outside the array. -/
theorem dconv_apply (r : Fin 272) (l : Fin 512) (h : 1 ≤ r.val) (h' : r.val ≤ 270) :
    k0_pay44 (k0_pay7 v0 v2 v4) (body42 i v0 v2 v4 w0 w1 w2 b g d6 d7 d8 z) (ix2 r l)
      = zpad (dconv A W B G D) (t.val * 256 + r.val) l := by
  rw [← dconvAt_zpad A W B G D (act v0 v2 v4 r) _ (R.acts r)]
  pointwise [k0_pay44, b_apply, dconvAt]
  rw [dfact_apply R r l h h']

/-- A tile's part of each tap's gradient, of the bias's and of the gain's. -/
theorem dtap0_apply (l : Fin 512) :
    k0_pay47 (k0_pay7 v0 v2 v4) (k0_pay20 (k0_pay15 v0 v2 v4) z (k0_pay16 i)) (k0_pay21 k0_pay14)
      (body42 i v0 v2 v4 w0 w1 w2 b g d6 d7 d8 z) (ix2 0 l)
      = ∑ r : Fin 256, dtap A W B G D 0 (row (t.val * 256 + (inner r).val)) l := by
  refine (sum0 _ _ _ _ l).trans ((core_of t (f := fun p l => zpad (prod A) (p - 1) l * zpad (dconv A W B G D) p l) l
    (mask21 l) fun r h h' => ?_).trans (Fin.sum_fin_congr fun r => ?_))
  · refine congrArg₂ (· * ·) (before_apply R r l (by omega)) (dconv_apply R r l (by omega) (by omega))
  · have h := inside_inner t r
    rw [dtap, zpad_in (dconv A W B G D) h]
    refine congrArg (zpad (prod A) · l * _) ?_
    have := row_val h
    simp only [Fin.isValue, Fin.val_zero]; omega

theorem dtap1_apply (l : Fin 512) :
    k0_pay46 (k0_pay7 v0 v2 v4) (k0_pay18 (k0_pay15 v0 v2 v4) z (k0_pay16 i)) (k0_pay23 k0_pay14)
      (body42 i v0 v2 v4 w0 w1 w2 b g d6 d7 d8 z) (ix2 0 l)
      = ∑ r : Fin 256, dtap A W B G D 1 (row (t.val * 256 + (inner r).val)) l := by
  refine (sum1 _ _ _ _ l).trans ((core_of t (f := fun p l => zpad (prod A) p l * zpad (dconv A W B G D) p l) l
    (mask23 l) fun r h h' => ?_).trans (Fin.sum_fin_congr fun r => ?_))
  · refine congrArg₂ (· * ·) (prod_apply R r l) (dconv_apply R r l (by omega) (by omega))
  · have h := inside_inner t r
    rw [dtap, zpad_in (dconv A W B G D) h]
    refine congrArg (zpad (prod A) · l * _) ?_
    have := row_val h
    simp only [Fin.isValue, Fin.val_one]; omega

theorem dtap2_apply (l : Fin 512) :
    k0_pay45 (k0_pay7 v0 v2 v4) (k0_pay25 (k0_pay15 v0 v2 v4) z (k0_pay16 i)) (k0_pay26 k0_pay14)
      (body42 i v0 v2 v4 w0 w1 w2 b g d6 d7 d8 z) (ix2 0 l)
      = ∑ r : Fin 256, dtap A W B G D 2 (row (t.val * 256 + (inner r).val)) l := by
  refine (sum2 _ _ _ _ l).trans ((core_of t (f := fun p l => zpad (prod A) (p + 1) l * zpad (dconv A W B G D) p l) l
    (mask26 l) fun r h h' => ?_).trans (Fin.sum_fin_congr fun r => ?_))
  · refine congrArg₂ (· * ·) (after_apply R r l (by omega)) (dconv_apply R r l (by omega) (by omega))
  · have h := inside_inner t r
    rw [dtap, zpad_in (dconv A W B G D) h]
    refine congrArg (zpad (prod A) · l * _) ?_
    have := row_val h
    simp only [Fin.isValue, Fin.val_two]; omega

theorem dbias_apply (l : Fin 512) :
    k0_pay48 (k0_pay7 v0 v2 v4) (k0_pay19 k0_pay14) (body42 i v0 v2 v4 w0 w1 w2 b g d6 d7 d8 z) (ix2 0 l)
      = ∑ r : Fin 256, dconv A W B G D (row (t.val * 256 + (inner r).val)) l := by
  refine (sumb _ _ _ l).trans ((core_of t (f := fun p l => zpad (dconv A W B G D) p l) l
    (mask19 l) fun r h h' => dconv_apply R r l (by omega) (by omega)).trans (Fin.sum_fin_congr fun r => ?_))
  exact congrFun (zpad_in (dconv A W B G D) (inside_inner t r)) l

theorem dgain_apply (l : Fin 512) :
    k0_pay41 (k0_pay13 i)
      (k0_pay33 (k0_pay7 v0 v2 v4) (k0_pay10 v0 v2 v4) w0 w1 w2 (k0_pay11 b) k0_pay14 (k0_pay15 v0 v2 v4) z (k0_pay16 i))
      (k0_pay34 k0_pay14)
      (k0_pay36 (k0_pay7 v0 v2 v4) (k0_pay10 v0 v2 v4) w0 w1 w2 (k0_pay11 b) k0_pay14 (k0_pay15 v0 v2 v4) z (k0_pay16 i)) d6 d7 d8 (ix2 0 l)
      = ∑ r : Fin 256, dgain A W B D (row (t.val * 256 + (inner r).val)) l := by
  refine (sumg _ _ _ l _ _ _ _).trans ((core_of t (f := fun p l => Rows.gain 0x44000000#32
    (Rows.gated (factored A W B (A (row p)) p) (gates (A (row p)))) (D (row p)) l) l
    (mask34 l) fun r h h' => ?_).trans (Fin.sum_fin_congr fun r => ?_))
  · have hin : Inside (t.val * 256 + r.val) := by simp only [Inside]; omega
    pointwise [gated_apply R r l (by omega) (by omega), scale_apply R r (by omega) (by omega), grads_apply R r l, Rows.gain]
    rw [R.acts r hin, zpad_in D hin]
  · rw [dgain, row_val (inside_inner t r)]

/-- The gradient of the products, at a row of the tile without halo. -/
theorem dprod_apply (s : Fin 272) (l : Fin 512) (h : 8 ≤ s.val) (h' : s.val < 264) :
    k0_pay49 (k0_pay7 v0 v2 v4) (k0_pay17 (k0_pay16 i)) (k0_pay22 w0 k0_pay14) (k0_pay24 w1 k0_pay14) (k0_pay27 w2 k0_pay14)
      (body42 i v0 v2 v4 w0 w1 w2 b g d6 d7 d8 z) (ix2 s l)
      = dprod A W B G D (t.val * 256 + s.val) l := by
  have hm := valid_apply i t R.point s
  rw [if_pos (show Inside (t.val * 256 + s.val) by simp only [Inside]; omega)] at hm
  have hk : k0_pay17 (k0_pay16 i) (ix2 s l) = 1#1 := by
    rw [← hm]; pointwise [k0_pay17, k0_pay16]
  refine (taps_apply _ _ _ _ _ _ s _ _ (show (s.val + 272 - 1) % 272 = (earlier s h).val by simp only [earlier]; omega)
    (show (s.val + 272 - 271) % 272 = (later s h').val by simp only [later]; omega) l).trans ?_
  rw [hk, dconv_apply R (earlier s h) l (by simp only [earlier]; omega) (by simp only [earlier]; omega),
    dconv_apply R s l (by omega) (by omega),
    dconv_apply R (later s h') l (by simp only [later]; omega) (by simp only [later]; omega), dprod,
    show t.val * 256 + (earlier s h).val = t.val * 256 + s.val - 1 by simp only [earlier]; omega,
    show t.val * 256 + (later s h').val = t.val * 256 + s.val + 1 from rfl]
  pointwise [k0_pay22, k0_pay24, k0_pay27]
  rw [R.tap0, R.tap1, R.tap2]

/-- The four stores of a tile. -/
theorem store0 (r : Fin 256) (l : Fin 512) :
    k0_pay50 (k0_pay28 w0 w1 w2 (k0_pay11 b) k0_pay14 (k0_pay15 v0 v2 v4) z (k0_pay16 i))
      (body42 i v0 v2 v4 w0 w1 w2 b g d6 d7 d8 z) (ix2 r l) = dact A W B G D (row (t.val * 256 + (inner r).val)) 0 l := by
  have h := inside_inner t r
  have h1 : 1 ≤ (inner r).val := by simp only [inner]; omega
  have h2 : (inner r).val ≤ 270 := by simp only [inner]; omega
  rw [dact, if_pos rfl, row_val h, ← zpad_in D h, ← R.acts (inner r) h, ← dfact_apply R (inner r) l h1 h2, ← conv_apply R (inner r) l h1 h2]
  pointwise [k0_pay50, inner]

theorem store1 (r : Fin 256) (l : Fin 512) :
    k0_pay51 (k0_pay7 v0 v2 v4) (k0_pay9 v0 v2 v4) (k0_pay17 (k0_pay16 i)) (k0_pay22 w0 k0_pay14) (k0_pay24 w1 k0_pay14) (k0_pay27 w2 k0_pay14)
      (body42 i v0 v2 v4 w0 w1 w2 b g d6 d7 d8 z) (ix2 r l) = dact A W B G D (row (t.val * 256 + (inner r).val)) 1 l := by
  have h := inside_inner t r
  rw [dact, if_neg (by decide), if_pos rfl, row_val h, ← R.acts (inner r) h,
    ← dprod_apply R (inner r) l (by simp only [inner]; omega) (by simp only [inner]; omega), ← h_apply]
  pointwise [k0_pay51, inner]

theorem store2 (r : Fin 256) (l : Fin 512) :
    k0_pay52 (k0_pay7 v0 v2 v4) (k0_pay8 v0 v2 v4) (k0_pay17 (k0_pay16 i)) (k0_pay22 w0 k0_pay14) (k0_pay24 w1 k0_pay14) (k0_pay27 w2 k0_pay14)
      (body42 i v0 v2 v4 w0 w1 w2 b g d6 d7 d8 z) (ix2 r l) = dact A W B G D (row (t.val * 256 + (inner r).val)) 2 l := by
  have h := inside_inner t r
  rw [dact, if_neg (by decide), if_neg (by decide), if_pos rfl, row_val h, ← R.acts (inner r) h,
    ← dprod_apply R (inner r) l (by simp only [inner]; omega) (by simp only [inner]; omega), ← c_apply]
  pointwise [k0_pay52, inner]

theorem store3 (r : Fin 256) (l : Fin 512) :
    k0_pay1 (k0_pay43 (k0_pay10 v0 v2 v4) (k0_pay13 i)
      (k0_pay29 (k0_pay7 v0 v2 v4) w0 w1 w2 (k0_pay11 b) k0_pay14 (k0_pay15 v0 v2 v4) z (k0_pay16 i))
      (k0_pay30 (k0_pay10 v0 v2 v4)) (k0_pay31 (k0_pay10 v0 v2 v4))
      (k0_pay33 (k0_pay7 v0 v2 v4) (k0_pay10 v0 v2 v4) w0 w1 w2 (k0_pay11 b) k0_pay14 (k0_pay15 v0 v2 v4) z (k0_pay16 i))
      (k0_pay35 (k0_pay12 g) k0_pay14)
      (k0_pay36 (k0_pay7 v0 v2 v4) (k0_pay10 v0 v2 v4) w0 w1 w2 (k0_pay11 b) k0_pay14 (k0_pay15 v0 v2 v4) z (k0_pay16 i)) d6 d7 d8) (ix2 r l)
      = dact A W B G D (row (t.val * 256 + (inner r).val)) 3 l := by
  have h := inside_inner t r
  rw [dact, if_neg (by decide), if_neg (by decide), if_neg (by decide), row_val h, ← zpad_in D h, ← R.acts (inner r) h,
    ← dgates_apply R (inner r) l (by simp only [inner]; omega) (by simp only [inner]; omega)]
  pointwise [k0_pay1, inner]

end body

/-- The three rows of the taps' gradient, as they are put together. -/
theorem rows_apply (va vb vc : FVec Ideal S1x512 .f32) (f : Fin 3 → Fin 512 → EReal) (h0 : ∀ l, vc (ix2 0 l) = f 0 l)
    (h1 : ∀ l, vb (ix2 0 l) = f 1 l) (h2 : ∀ l, va (ix2 0 l) = f 2 l) (k : Fin 3) (l : Fin 512) :
    k0_pay2 va vb vc (ix2 k l) = f k l := by
  match k with
  | 0 => rw [← h0]; pointwise! [k0_pay2]
  | 1 => rw [← h1]; pointwise! [k0_pay2]
  | 2 => rw [← h2]; pointwise! [k0_pay2]

theorem rows_add (va vb vc : FVec Ideal S1x512 .f32) (p : Vec Ideal S3x512 .f32) (f : Fin 3 → Fin 512 → EReal)
    (h0 : ∀ l, vc (ix2 0 l) = f 0 l) (h1 : ∀ l, vb (ix2 0 l) = f 1 l) (h2 : ∀ l, va (ix2 0 l) = f 2 l) (k : Fin 3)
    (l : Fin 512) : k0_pay3 va vb vc p (ix2 k l) = p (ix2 k l) + f k l :=
  (show k0_pay3 va vb vc p (ix2 k l) = p (ix2 k l) + k0_pay2 va vb vc (ix2 k l) from by pointwise [k0_pay3]).trans
    (congrArg (p (ix2 k l) + ·) (rows_apply va vb vc f h0 h1 h2 k l))

theorem bias_add (v : FVec Ideal S1x512 .f32) (p : Vec Ideal S1x512 .f32) (l : Fin 512) :
    k0_pay4 v p (ix2 0 l) = p (ix2 0 l) + v (ix2 0 l) := by pointwise [k0_pay4]

theorem gain_add (v : FVec Ideal S1x512 .f32) (p : Vec Ideal S1x512 .f32) (l : Fin 512) :
    k0_pay5 v p (ix2 0 l) = p (ix2 0 l) + v (ix2 0 l) := by pointwise [k0_pay5]

end Cert.ConvBackIdeal.Block

end
-- ==== Proof.ConvArray.lean ====
/-
  The gradient of the gated convolution, the arrays after the run: the activations' gradient in the
  gradient buffer, the taps', the bias's and the gain's, put together from the 32 tiles.
-/
module

public import proofs.«01_k».proof.Proof.Gen.ConvBackIdeal.Value
public import proofs.«01_k».proof.Proof.ConvBlock
public import proofs.«01_k».proof.Proof.Permute
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.ConvBackIdeal.Arrays

open Cert.ConvBackIdeal Cert.ConvBackIdeal.Gen Cert.Conv

variable (m : (ℓ : Loc nD τ sig) → Buf (Elt Ideal) ℓ) (c : Dev nD)

/-- The projection, which holds the activations. -/
abbrev P : FVec Ideal S8192x6720 .f32 := m ((c : Thread nD τ).loc main_arg0)
/-- The taps and the bias of the convolution. -/
abbrev CW : FVec Ideal S3x512 .f32 := m ((c : Thread nD τ).loc main_arg1)
abbrev CB : FVec Ideal S512 .f32 := m ((c : Thread nD τ).loc main_arg2)
/-- The gains of the output norms. -/
abbrev GN : FVec Ideal S2048 .f32 := m ((c : Thread nD τ).loc main_arg3)
/-- The incoming gradient. -/
abbrev DY : FVec Ideal S8192x2048 .f32 := m ((c : Thread nD τ).loc main_arg4)

abbrev acts (g : Fin 8192) (k : Fin 2048) : EReal := P m c (ix2 g (actCol k))
abbrev taps (k : Fin 3) (l : Fin 512) : EReal := CW m c (ix2 k l)
abbrev bias (l : Fin 512) : EReal := CB m c (ix1 l)
abbrev gains (l : Fin 512) : EReal := GN m c (ix1 (outCol l))
abbrev grads (g : Fin 8192) (l : Fin 512) : EReal := DY m c (ix2 g (outCol l))

/-- Where each window's block stands at point `t`. -/
theorem idx : ∀ t : Fin cfg0.N, win0_0.index t = ![32 * t.val - 1, 0] ∧ win0_1.index t = ![t.val, 0]
    ∧ win0_2.index t = ![min (32 * t.val + 32) 1023, 0] ∧ win0_3.index t = ![0, 0] ∧ win0_4.index t = ![0, 0] ∧ win0_5.index t = ![0, 0]
    ∧ win0_6.index t = ![32 * t.val - 1, 1] ∧ win0_7.index t = ![t.val, 1] ∧ win0_8.index t = ![min (32 * t.val + 32) 1023, 1]
    ∧ win0_9.index t = ![t.val, 0] ∧ win0_10.index t = ![0, 0] ∧ win0_11.index t = ![0, 0] ∧ win0_12.index t = ![0, 0] :=
  (by decide +kernel : ∀ t : Fin grid0.N, _)

theorem lt32 (t : Fin cfg0.N) : t.val < 32 := t.isLt.trans_eq (by decide)

theorem coord : ∀ t : Fin cfg0.N, (grid0.coords t 0).val = t.val := (by decide +kernel : ∀ t : Fin grid0.N, _)

/-- The rows of the array that the three row blocks of point `t` hold. -/
def above (t : Fin cfg0.N) (r : Fin 8) : Fin 8192 := ⟨(32 * t.val - 1) * 8 + r.val, by have := lt32 t; omega⟩
def at_ (t : Fin cfg0.N) (r : Fin 256) : Fin 8192 := ⟨t.val * 256 + r.val, by have := lt32 t; omega⟩
def below (t : Fin cfg0.N) (r : Fin 8) : Fin 8192 := ⟨min (32 * t.val + 32) 1023 * 8 + r.val, by omega⟩

/-- The projection reaches the region with its columns in the order of the kernels. -/
theorem entryP : (V m c main_v13 : FVec Ideal S8192x6912 .bf16) = Permute.permuted (P m c) := by
  unfold V
  unfold_abbrev_sides
  after_reads_simp
  rfl

theorem permuted_act (g : Fin 8192) (k : Fin 2048) : Permute.permuted (P m c) (ix2 g (Permute.convCol k)) = acts m c g k :=
  Permute.permuted_conv (P m c) g k

theorem block0 (t : Fin cfg0.N) (r : Fin 8) (k : Fin 2048) :
    (X0_0 m c t : Vec Ideal S8x2048 .bf16) (ix2 r k) = acts m c (above t r) k := by
  unfold X0_0 Pipeline.Window.fill
  rw [dif_pos (moved0_0 t _)]
  refine Eq.trans ?_ ((congrFun (entryP m c) _).trans (permuted_act m c (above t r) k))
  refine congrArg (V m c main_v13 : FVec Ideal S8192x6912 .bf16) ?_
  blk_ext [idx t, above, Permute.convCol]

theorem block1 (t : Fin cfg0.N) (r : Fin 256) (k : Fin 2048) :
    (X0_1 m c t : Vec Ideal S256x2048 .bf16) (ix2 r k) = acts m c (at_ t r) k := by
  unfold X0_1 Pipeline.Window.fill
  rw [dif_pos (moved0_1 t _)]
  refine Eq.trans ?_ ((congrFun (entryP m c) _).trans (permuted_act m c (at_ t r) k))
  refine congrArg (V m c main_v13 : FVec Ideal S8192x6912 .bf16) ?_
  blk_ext [idx t, at_, Permute.convCol]

theorem block2 (t : Fin cfg0.N) (r : Fin 8) (k : Fin 2048) :
    (X0_2 m c t : Vec Ideal S8x2048 .bf16) (ix2 r k) = acts m c (below t r) k := by
  unfold X0_2 Pipeline.Window.fill
  rw [dif_pos (moved0_2 t _)]
  refine Eq.trans ?_ ((congrFun (entryP m c) _).trans (permuted_act m c (below t r) k))
  refine congrArg (V m c main_v13 : FVec Ideal S8192x6912 .bf16) ?_
  blk_ext [idx t, below, Permute.convCol]

theorem block6 (t : Fin cfg0.N) (r : Fin 8) (l : Fin 512) :
    (iblk m c 6 t : Vec Ideal S8x512 .f32) (ix2 r l) = grads m c (above t r) l := by
  blk_ext [iblk, V, idx t, above, outCol]
theorem block7 (t : Fin cfg0.N) (r : Fin 256) (l : Fin 512) :
    (iblk m c 7 t : Vec Ideal S256x512 .f32) (ix2 r l) = grads m c (at_ t r) l := by
  blk_ext [iblk, V, idx t, at_, outCol]
theorem block8 (t : Fin cfg0.N) (r : Fin 8) (l : Fin 512) :
    (iblk m c 8 t : Vec Ideal S8x512 .f32) (ix2 r l) = grads m c (below t r) l := by
  blk_ext [iblk, V, idx t, below, outCol]

theorem blockB (t : Fin cfg0.N) (l : Fin 512) :
    (iblk m c 4 t : Vec Ideal S1x512 .f32) (ix2 0 l) = bias m c l := by
  blk_point [iblk, V, idx t]
theorem blockG (t : Fin cfg0.N) (l : Fin 512) :
    (iblk m c 5 t : Vec Ideal S1x512 .f32) (ix2 0 l) = gains m c l := by
  blk_point [iblk, V, idx t, outCol]
theorem blockW (t : Fin cfg0.N) (k : Fin 3) (l : Fin 512) :
    (iblk m c 3 t : Vec Ideal S3x512 .f32) (ix2 k l) = taps m c k l := by
  blk_ext [iblk, V, idx t]

/-- The three rows of taps as the body loads them. -/
theorem tap0 (t : Fin cfg0.N) (l : Fin 512) :
    View.ld (iblk m c 3 t : Vec Ideal S3x512 .f32) (Rect.unit ![0, 0] ![1, 512] inb_S3x512_S1x512_0_0) (ix2 0 l) = taps m c 0 l :=
  (View.ld_unit_apply_of (iblk m c 3 t : Vec Ideal S3x512 .f32) ![0, 0] ![1, 512] inb_S3x512_S1x512_0_0 (ix2 0 l) (ix2 0 l)
    fun a => match a with | 0 => rfl | 1 => (Nat.zero_add _).symm).trans (blockW m c t 0 l)
theorem tap1 (t : Fin cfg0.N) (l : Fin 512) :
    View.ld (iblk m c 3 t : Vec Ideal S3x512 .f32) (Rect.unit ![1, 0] ![1, 512] inb_S3x512_S1x512_1_0) (ix2 0 l) = taps m c 1 l :=
  (View.ld_unit_apply_of (iblk m c 3 t : Vec Ideal S3x512 .f32) ![1, 0] ![1, 512] inb_S3x512_S1x512_1_0 (ix2 0 l) (ix2 1 l)
    fun a => match a with | 0 => rfl | 1 => (Nat.zero_add _).symm).trans (blockW m c t 1 l)
theorem tap2 (t : Fin cfg0.N) (l : Fin 512) :
    View.ld (iblk m c 3 t : Vec Ideal S3x512 .f32) (Rect.unit ![2, 0] ![1, 512] inb_S3x512_S1x512_2_0) (ix2 0 l) = taps m c 2 l :=
  (View.ld_unit_apply_of (iblk m c 3 t : Vec Ideal S3x512 .f32) ![2, 0] ![1, 512] inb_S3x512_S1x512_2_0 (ix2 0 l) (ix2 2 l)
    fun a => match a with | 0 => rfl | 1 => (Nat.zero_add _).symm).trans (blockW m c t 2 l)

/-- Point `t` as a number below 32. -/
def pt (t : Fin cfg0.N) : Fin 32 := ⟨t.val, lt32 t⟩

/-- What the blocks of point `t` hold. -/
theorem reads (t : Fin cfg0.N) : Block.Reads (grid0.coords t) (pt t) (X0_0 m c t) (X0_1 m c t) (X0_2 m c t)
    (View.ld (iblk m c 3 t : Vec Ideal S3x512 .f32) (Rect.unit ![0, 0] ![1, 512] inb_S3x512_S1x512_0_0))
    (View.ld (iblk m c 3 t : Vec Ideal S3x512 .f32) (Rect.unit ![1, 0] ![1, 512] inb_S3x512_S1x512_1_0))
    (View.ld (iblk m c 3 t : Vec Ideal S3x512 .f32) (Rect.unit ![2, 0] ![1, 512] inb_S3x512_S1x512_2_0))
    (iblk m c 4 t) (iblk m c 5 t) (iblk m c 6 t) (iblk m c 7 t) (iblk m c 8 t) (FloatOps.ofBits .f32 0#32)
    (acts m c) (taps m c) (bias m c) (gains m c) (grads m c) where
  zero := Consts.zero
  point := coord t
  acts r h := by
    have ht := lt32 t
    simp only [Inside, pt] at h
    funext k
    by_cases h1 : r.val < 8
    · refine (Block.act_above _ _ _ r ⟨r.val, h1⟩ rfl k).trans ((block0 m c t _ k).trans (congrArg (acts m c · k) (Fin.ext ?_)))
      simp only [above, row, pt]; omega
    · by_cases h2 : r.val < 264
      · refine (Block.act_core _ _ _ r ⟨r.val - 8, by omega⟩ (by simp only []; omega) k).trans ((block1 m c t _ k).trans (congrArg (acts m c · k) (Fin.ext ?_)))
        simp only [at_, row, pt]; omega
      · refine (Block.act_below _ _ _ r ⟨r.val - 264, by omega⟩ (by simp only []; omega) k).trans ((block2 m c t _ k).trans (congrArg (acts m c · k) (Fin.ext ?_)))
        simp only [below, row, pt]; omega
  tap0 := tap0 m c t
  tap1 := tap1 m c t
  tap2 := tap2 m c t
  bias := blockB m c t
  gain := blockG m c t
  grads r l h := by
    have ht := lt32 t
    simp only [Inside, pt] at h
    by_cases h1 : r.val < 8
    · refine (Block.dys_above _ _ _ r ⟨r.val, h1⟩ rfl l).trans ((block6 m c t _ l).trans (congrArg (grads m c · l) (Fin.ext ?_)))
      simp only [above, row, pt]; omega
    · by_cases h2 : r.val < 264
      · refine (Block.dys_core _ _ _ r ⟨r.val - 8, by omega⟩ (by simp only []; omega) l).trans ((block7 m c t _ l).trans (congrArg (grads m c · l) (Fin.ext ?_)))
        simp only [at_, row, pt]; omega
      · refine (Block.dys_below _ _ _ r ⟨r.val - 264, by omega⟩ (by simp only []; omega) l).trans ((block8 m c t _ l).trans (congrArg (grads m c · l) (Fin.ext ?_)))
        simp only [below, row, pt]; omega

theorem row_at (t : Fin cfg0.N) (r : Fin 256) : row ((pt t).val * 256 + (Block.inner r).val) = at_ t r := by
  have ht := lt32 t
  exact Fin.ext (by simp only [row, pt, Block.inner, at_]; omega)

/-- The activations' gradient at an index of a tile, from its row and column within a part. -/
theorem dact_at (t : Fin cfg0.N) (y0 a : Fin 256) (y1 : Fin 2048) (q : Fin 4) (b : Fin 512) (h0 : y0.val = a.val)
    (h1 : y1.val = q.val * 512 + b.val) :
    dact (acts m c) (taps m c) (bias m c) (gains m c) (grads m c) (row ((pt t).val * 256 + (Block.inner a).val)) q b
      = dact (acts m c) (taps m c) (bias m c) (gains m c) (grads m c) (at_ t y0) (bufPart (Permute.convCol y1)) (bufCol (Permute.convCol y1)) := by
  obtain rfl : y0 = a := Fin.ext h0
  rw [row_at, show bufPart (Permute.convCol y1) = q from Fin.ext (by simp only [bufPart, Permute.convCol]; omega),
    show bufCol (Permute.convCol y1) = b from Fin.ext (by simp only [bufCol, Permute.convCol]; omega)]

/-- What the body leaves of the activations' gradient at a point. -/
theorem point_dbuf (t : Fin cfg0.N) (y0 : Fin 256) (y1 : Fin 2048) :
    (outsAt0 m c t.val t.isLt).1 (ix2 y0 y1)
      = dact (acts m c) (taps m c) (bias m c) (gains m c) (grads m c) (at_ t y0) (bufPart (Permute.convCol y1)) (bufCol (Permute.convCol y1)) := by
  have ht := lt32 t
  by_cases h : t.val % 32 = 0
  · rw [outsAt0_A m c t h (by omega) h (by omega) h (by omega)]; frame_out
    canon_tiles x h
    all_goals idx_vars x
    · exact (Block.store3 (reads m c t) x0 x1).trans (dact_at m c t y0 x0 y1 3 x1 h0 h1)
    · exact (Block.store2 (reads m c t) x0 x1).trans (dact_at m c t y0 x0 y1 2 x1 h0 h1)
    · exact (Block.store1 (reads m c t) x0 x1).trans (dact_at m c t y0 x0 y1 1 x1 h0 (h1.trans (by rfl)))
    · exact (Block.store0 (reads m c t) x0 x1).trans (dact_at m c t y0 x0 y1 0 x1 h0 (h1.trans (Nat.zero_add _).symm))
  · rw [outsAt0_B m c t h (by omega) h (by omega) h (by omega)]; frame_out
    canon_tiles x h
    all_goals idx_vars x
    · exact (Block.store3 (reads m c t) x0 x1).trans (dact_at m c t y0 x0 y1 3 x1 h0 h1)
    · exact (Block.store2 (reads m c t) x0 x1).trans (dact_at m c t y0 x0 y1 2 x1 h0 h1)
    · exact (Block.store1 (reads m c t) x0 x1).trans (dact_at m c t y0 x0 y1 1 x1 h0 (h1.trans (by rfl)))
    · exact (Block.store0 (reads m c t) x0 x1).trans (dact_at m c t y0 x0 y1 0 x1 h0 (h1.trans (Nat.zero_add _).symm))

/-- The activations' gradient: the written columns hold the gradient, the others what the array held before. -/
def dbuf : FVec Ideal S8192x6912 .bf16 := fun i => if (i 1).val < 2048 then
    dact (acts m c) (taps m c) (bias m c) (gains m c) (grads m c) (i 0) (bufPart (i 1)) (bufCol (i 1)) else (dats m 0 c).A 9 i

/-- The gradients of the taps, of the bias and of the norm's gain. -/
def dw : FVec Ideal S3x512 .f32 := fun i => ∑ g : Fin 8192, dtap (acts m c) (taps m c) (bias m c) (gains m c) (grads m c) (i 0) g (i 1)
def db : FVec Ideal S1x512 .f32 := fun i => ∑ g : Fin 8192, dconv (acts m c) (taps m c) (bias m c) (gains m c) (grads m c) g (i 1)
def dg : FVec Ideal S1x512 .f32 := fun i => ∑ g : Fin 8192, dgain (acts m c) (taps m c) (bias m c) (grads m c) g (i 1)

/-- Where a point's tile of the activations' gradient lies. -/
theorem tile9 (t : Fin cfg0.N) (y : ((cfg0.win 9).xblock (cfg0.grid.coords t)).Idx) :
    (((cfg0.win 9).blk t).view.emb y : S8192x6912.Idx) = ix2 (at_ t (((cfg0.win 9).xinj (grid0.coords t) y : S256x2048.Idx) 0))
      (Permute.convCol (((cfg0.win 9).xinj (grid0.coords t) y : S256x2048.Idx) 1)) := by
  blk_ext [idx t, at_, Permute.convCol]

theorem final_dbuf : (dats m 0 c).arrAt 9 cfg0.N = dbuf m c := by
  refine ((dats m 0 c).arrAt_eq_of_coversWhere 9
    (fun i : S8192x6912.Idx => dact (acts m c) (taps m c) (bias m c) (gains m c) (grads m c) (i 0) (bufPart (i 1)) (bufCol (i 1)))
    (P := fun i : S8192x6912.Idx => (i 1).val < 2048)
    (fun β => β (1 : Fin 2) = 0) (by decide +kernel) (fun t _ y => ?_) (fun j => ?_)).trans ?_
  · have e := tile9 t y
    rw [after0_9]
    generalize (((cfg0.win 9).blk t).view.emb y : S8192x6912.Idx) = z at e ⊢
    subst e
    have e' : ((cfg0.win 9).xinj (grid0.coords t) y : S256x2048.Idx) = ix2 (((cfg0.win 9).xinj (grid0.coords t) y : S256x2048.Idx) 0)
      (((cfg0.win 9).xinj (grid0.coords t) y : S256x2048.Idx) 1) := eq_ix2 _
    exact (congrArg (outsAt0 m c t.val t.isLt).1 e').trans (point_dbuf m c t _ _)
  · blk_simp [Pipeline.Window.cell_apply]
    omega
  · rfl

/-- The last point of the grid. -/
def last : Fin cfg0.N := ⟨31, by decide⟩

/-- What the body leaves of the taps' gradient after the last point: the sum over the points of each
    tile's sum over its rows. -/
theorem acc_dw (t : Fin cfg0.N) (ht : t.val + 1 = cfg0.N) (k : Fin 3) (l : Fin 512) :
    (outsAt0 m c t.val t.isLt).2.1 (ix2 k l)
      = 0 + ∑ p : Fin cfg0.N, ∑ r : Fin 256, dtap (acts m c) (taps m c) (bias m c) (gains m c) (grads m c) k (row ((pt p).val * 256 + (Block.inner r).val)) l := by
  refine Pipeline.eq_sum_fin_of_reset_step_apply_last (fun n h (l : Fin 512) => ((outsAt0 m c n h).2.1 (ix2 k l) : EReal)) 32
    (fun _ => 0) (fun p l => ∑ r : Fin 256, dtap (acts m c) (taps m c) (bias m c) (gains m c) (grads m c) k (row ((pt p).val * 256 + (Block.inner r).val)) l)
    (fun t h l => ?_) (fun t h l => ?_) (by decide) t ht l
  · have ht := lt32 t
    rw [outsAt0_A m c t h (by omega) h (by omega) h (by omega)]; frame_out
    exact (Block.rows_apply _ _ _ (fun k l => ∑ r : Fin 256, dtap (acts m c) (taps m c) (bias m c) (gains m c) (grads m c) k (row ((pt t).val * 256 + (Block.inner r).val)) l)
      (Block.dtap0_apply (reads m c t)) (Block.dtap1_apply (reads m c t)) (Block.dtap2_apply (reads m c t)) k l).trans (zero_add _).symm
  · rw [outsAt0_B m c t h (by omega) h (by omega) h (by omega)]; frame_out
    exact Block.rows_add _ _ _ _ (fun k l => ∑ r : Fin 256, dtap (acts m c) (taps m c) (bias m c) (gains m c) (grads m c) k (row ((pt t).val * 256 + (Block.inner r).val)) l)
      (Block.dtap0_apply (reads m c t)) (Block.dtap1_apply (reads m c t)) (Block.dtap2_apply (reads m c t)) k l

theorem acc_db (t : Fin cfg0.N) (ht : t.val + 1 = cfg0.N) (l : Fin 512) :
    (outsAt0 m c t.val t.isLt).2.2.1 (ix2 0 l)
      = 0 + ∑ p : Fin cfg0.N, ∑ r : Fin 256, dconv (acts m c) (taps m c) (bias m c) (gains m c) (grads m c) (row ((pt p).val * 256 + (Block.inner r).val)) l := by
  refine Pipeline.eq_sum_fin_of_reset_step_apply_last (fun n h (l : Fin 512) => ((outsAt0 m c n h).2.2.1 (ix2 0 l) : EReal)) 32
    (fun _ => 0) (fun p l => ∑ r : Fin 256, dconv (acts m c) (taps m c) (bias m c) (gains m c) (grads m c) (row ((pt p).val * 256 + (Block.inner r).val)) l)
    (fun t h l => ?_) (fun t h l => ?_) (by decide) t ht l
  · have ht := lt32 t
    rw [outsAt0_A m c t h (by omega) h (by omega) h (by omega)]; frame_out
    exact (Block.dbias_apply (reads m c t) l).trans (zero_add _).symm
  · rw [outsAt0_B m c t h (by omega) h (by omega) h (by omega)]; frame_out
    exact (Block.bias_add _ _ l).trans (congrArg (_ + ·) (Block.dbias_apply (reads m c t) l))

theorem acc_dg (t : Fin cfg0.N) (ht : t.val + 1 = cfg0.N) (l : Fin 512) :
    (outsAt0 m c t.val t.isLt).2.2.2 (ix2 0 l)
      = 0 + ∑ p : Fin cfg0.N, ∑ r : Fin 256, dgain (acts m c) (taps m c) (bias m c) (grads m c) (row ((pt p).val * 256 + (Block.inner r).val)) l := by
  refine Pipeline.eq_sum_fin_of_reset_step_apply_last (fun n h (l : Fin 512) => ((outsAt0 m c n h).2.2.2 (ix2 0 l) : EReal)) 32
    (fun _ => 0) (fun p l => ∑ r : Fin 256, dgain (acts m c) (taps m c) (bias m c) (grads m c) (row ((pt p).val * 256 + (Block.inner r).val)) l)
    (fun t h l => ?_) (fun t h l => ?_) (by decide) t ht l
  · have ht := lt32 t
    rw [outsAt0_A m c t h (by omega) h (by omega) h (by omega)]; frame_out
    exact (Block.dgain_apply (reads m c t) l).trans (zero_add _).symm
  · rw [outsAt0_B m c t h (by omega) h (by omega) h (by omega)]; frame_out
    exact (Block.gain_add _ _ l).trans (congrArg (_ + ·) (Block.dgain_apply (reads m c t) l))

/-- A sum over the points of the sums over a tile's rows is the sum over all rows. -/
theorem sum_rows (f : Fin 8192 → EReal) :
    (0 : EReal) + ∑ p : Fin cfg0.N, ∑ r : Fin 256, f (row ((pt p).val * 256 + (Block.inner r).val)) = ∑ g : Fin 8192, f g := by
  rw [zero_add]
  refine Eq.trans ?_ (Fin.sum_mul_add_fin (L := 8192) 32 256 f)
  exact Fin.sum_fin_congr fun p => Fin.sum_fin_congr fun r => congrArg f (row_at p r)

theorem final_dw : (dats m 0 c).arrAt 10 cfg0.N = dw m c := by
  refine (dats m 0 c).arrAt_eq_of_after_last 10 last (by decide +kernel) _ fun j => ?_
  blk_simp
  rw [after0_10]
  obtain ⟨a, l, rfl⟩ : ∃ (a : Fin 3) (l : Fin 512), j = ix2 a l := ⟨j 0, j 1, eq_ix2 j⟩
  exact (acc_dw m c last rfl a l).trans (sum_rows (fun g => dtap (acts m c) (taps m c) (bias m c) (gains m c) (grads m c) a g l))

theorem final_db : (dats m 0 c).arrAt 11 cfg0.N = db m c := by
  refine (dats m 0 c).arrAt_eq_of_after_last 11 last (by decide +kernel) _ fun j => ?_
  blk_simp
  rw [after0_11]
  obtain ⟨a, l, rfl⟩ : ∃ (a : Fin 1) (l : Fin 512), j = ix2 a l := ⟨j 0, j 1, eq_ix2 j⟩
  obtain rfl : a = 0 := Subsingleton.elim _ _
  exact (acc_db m c last rfl l).trans (sum_rows (fun g => dconv (acts m c) (taps m c) (bias m c) (gains m c) (grads m c) g l))

theorem final_dg : (dats m 0 c).arrAt 12 cfg0.N = dg m c := by
  refine (dats m 0 c).arrAt_eq_of_after_last 12 last (by decide +kernel) _ fun j => ?_
  blk_simp
  rw [after0_12]
  obtain ⟨a, l, rfl⟩ : ∃ (a : Fin 1) (l : Fin 512), j = ix2 a l := ⟨j 0, j 1, eq_ix2 j⟩
  obtain rfl : a = 0 := Subsingleton.elim _ _
  exact (acc_dg m c last rfl l).trans (sum_rows (fun g => dgain (acts m c) (taps m c) (bias m c) (grads m c) g l))

end Cert.ConvBackIdeal.Arrays

end
-- ==== Proof.ConvRef.lean ====
/-
  The reference of the gated convolution's gradient, read at an index: the derivative of the plain lines
  of all 8192 rows, as the row functions of `ConvRows`.
-/
module

public import proofs.«01_k».proof.Proof.Gen.ConvRefIdeal.Read
public import proofs.«01_k».proof.Proof.ConvRows
public import proofs.«01_k».proof.Proof.Consts
public import Idealize.ShloMosaic.Lib.Pipeline.ValueKit

@[expose] public section

set_option maxRecDepth 16384

noncomputable section

open Idealize.ShloMosaic Idealize.ShloMosaic.TcCoe Idealize.SL.Sem

namespace Cert.ConvRefIdeal.Math

open Cert.ConvRefIdeal Cert.ConvRefIdeal.Gen Cert.ConvRefIdeal.Read Cert.Conv

variable (x : FVec Ideal S8192x6720 .f32) (cw : FVec Ideal S3x512 .f32) (cb : FVec Ideal S512 .f32)
  (gn : FVec Ideal S2048 .f32) (dy : FVec Ideal S8192x2048 .f32)

/-- The activations of the convolution, the taps, the bias, the gain and the incoming gradient. -/
abbrev acts (g : Fin 8192) (k : Fin 2048) : EReal := x (ix2 g (actCol k))
abbrev taps (k : Fin 3) (l : Fin 512) : EReal := cw (ix2 k l)
abbrev bias (l : Fin 512) : EReal := cb (ix1 l)
abbrev gains (l : Fin 512) : EReal := gn (ix1 (outCol l))
abbrev grads (g : Fin 8192) (l : Fin 512) : EReal := dy (ix2 g (outCol l))

theorem b_apply (g : Fin 8192) (l : Fin 512) : val_main_v0 (F := Ideal) x (ix2 g l) = acts x g (part 0 l) := by
  pointwise [val_main_v0]
  exact congrArg x (congrArg (ix2 g) (Fin.ext (by change 1536 + l.val = 1536 + (0 * 512 + l.val); omega)))
theorem c_apply (g : Fin 8192) (l : Fin 512) : val_main_v1 (F := Ideal) x (ix2 g l) = acts x g (part 1 l) := by
  pointwise [val_main_v1]
  exact congrArg x (congrArg (ix2 g) (Fin.ext (by change 2048 + l.val = 1536 + (1 * 512 + l.val); omega)))
theorem h_apply (g : Fin 8192) (l : Fin 512) : val_main_v2 (F := Ideal) x (ix2 g l) = acts x g (part 2 l) := by
  pointwise [val_main_v2]
  exact congrArg x (congrArg (ix2 g) (Fin.ext (by change 2560 + l.val = 1536 + (2 * 512 + l.val); omega)))
theorem z_apply (g : Fin 8192) (l : Fin 512) : val_main_v3 (F := Ideal) x (ix2 g l) = gates (acts x g) l := by
  pointwise [val_main_v3]
  exact congrArg x (congrArg (ix2 g) (Fin.ext (by change 3072 + l.val = 1536 + (3 * 512 + l.val); omega)))
theorem y_apply (g : Fin 8192) (l : Fin 512) : val_main_v54 (F := Ideal) dy (ix2 g l) = grads dy g l := by
  pointwise! [val_main_v54, outCol]
theorem g_apply (l : Fin 512) : val_main_v4 (F := Ideal) gn (ix1 l) = gains gn l := by
  pointwise! [val_main_v4, outCol]

/-- The products with a row of zeros on each side. -/
theorem prod_apply (q : Fin 8194) (l : Fin 512) :
    val_main_v7 (F := Ideal) x (ix2 q l) = zpad (prod (acts x)) (q.val + 7) l := by
  pointwise [val_main_v7, val_main_v6, val_main_v5, val_main_cst, c_apply, h_apply]
  by_cases h : q.val < 1
  · exact (dif_pos h).trans (if_neg (by simp only [Inside]; omega)).symm
  · refine (dif_neg h).trans ?_
    by_cases h' : q.val - 1 < 8192
    · refine (dif_pos h').trans (Eq.trans ?_ (if_pos (by simp only [Inside]; omega)).symm)
      have e : (⟨q.val - 1, h'⟩ : Fin 8192) = row (q.val + 7) := Fin.ext (by simp only [row]; omega)
      rw [e]
      rfl
    · exact (dif_neg h').trans (if_neg (by simp only [Inside]; omega)).symm

theorem conv_apply (g : Fin 8192) (l : Fin 512) :
    val_main_v34 (F := Ideal) x cw cb (ix2 g l) = conv (acts x) (taps cw) (bias cb) (g.val + 8) l := by
  pointwise [val_main_v34, val_main_v33, val_main_v32, val_main_v31, val_main_v30, val_main_v29, val_main_v28, val_main_v27,
    val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_cst_2,
    prod_apply, conv]
  rw [show 1 + g.val + 7 = g.val + 8 by omega, show 2 + g.val + 7 = g.val + 8 + 1 by omega, ← add_assoc, ← add_assoc]
  rfl

theorem factored_apply (g : Fin 8192) (l : Fin 512) : val_main_v35 (F := Ideal) x cw cb (ix2 g l)
    = factored (acts x) (taps cw) (bias cb) (acts x g) (g.val + 8) l := by
  pointwise! [val_main_v35, conv_apply, b_apply, factored]

theorem sigma_apply (g : Fin 8192) (l : Fin 512) :
    val_main_v36_2 (F := Ideal) x (ix2 g l) = Rows.sigma (gates (acts x g) l) := by
  pointwise [val_main_v36_2, val_main_call0_v4, val_main_call0_v3, val_main_call0_v2, val_main_call0_v1, val_main_call0_v0,
    val_main_call0_cst, val_main_call0_cst_0, z_apply, Rows.sigma]

theorem silu_apply (g : Fin 8192) (l : Fin 512) :
    val_main_v36_0 (F := Ideal) x (ix2 g l) = Rows.silu (gates (acts x g) l) := by
  pointwise! [val_main_v36_0, z_apply, sigma_apply, Rows.silu]

theorem gated_apply (g : Fin 8192) (l : Fin 512) : val_main_v37 (F := Ideal) x cw cb (ix2 g l)
    = Rows.gated (factored (acts x) (taps cw) (bias cb) (acts x g) (g.val + 8)) (gates (acts x g)) l := by
  pointwise! [val_main_v37, silu_apply, factored_apply, Rows.gated]

theorem meanSq_apply (g : Fin 8192) : val_main_v44 (F := Ideal) x cw cb (ix2 g 0)
    = Rows.meanSq 0x44000000#32 (Rows.gated (factored (acts x) (taps cw) (bias cb) (acts x g) (g.val + 8)) (gates (acts x g))) := by
  pointwise! [val_main_v44, val_main_v43, val_main_v42, val_main_v41, val_main_v40, val_main_v39, val_main_v38, val_main_cst_3,
    val_main_cst_4, val_main_cst_5, gated_apply, Rows.meanSq]

theorem scale_apply (g : Fin 8192) : val_main_v45 (F := Ideal) x cw cb (ix2 g 0)
    = Rows.scale 0x44000000#32 (Rows.gated (factored (acts x) (taps cw) (bias cb) (acts x g) (g.val + 8)) (gates (acts x g))) := by
  rw [Rows.scale, ← meanSq_apply]
  pointwise! [val_main_v45]

/-- The gain's gradient: the sum over all rows. -/
theorem gain_apply (l : Fin 512) : val_main_v123 (F := Ideal) x cw cb dy (ix2 0 l)
    = ∑ g : Fin 8192, dgain (acts x) (taps cw) (bias cb) (grads dy) g l := by
  pointwise [val_main_v123, val_main_v60, val_main_v57, val_main_v56, val_main_v55, val_main_v50, val_main_v49,
    val_main_cst_7, val_main_cst_8, gated_apply, scale_apply, y_apply, Rows.gain, dgain]
  simp only [Fin.sum_univ_one, Fin.isValue]

/-- The gradient of the gated row. -/
theorem dgated_apply (g : Fin 8192) (l : Fin 512) : val_main_v74 (F := Ideal) x cw cb gn dy (ix2 g l)
    = Rows.dgated 0x44000000#32 (factored (acts x) (taps cw) (bias cb) (acts x g) (g.val + 8)) (gates (acts x g))
        (grads dy g) (gains gn) l := by
  pointwise [val_main_v74, val_main_v73, val_main_v72, val_main_v71, val_main_v70, val_main_v69, val_main_v68, val_main_v67,
    val_main_v66, val_main_v65, val_main_v64, val_main_v63, val_main_v62, val_main_v61, val_main_v59, val_main_v58,
    val_main_v51, val_main_v48, val_main_v47, val_main_v46, val_main_cst_6, val_main_cst_9, val_main_cst_10, val_main_cst_11,
    Rows.dgated, Rows.grad, Rows.slope]
  simp only [Fin.sum_univ_one, Fin.isValue, gated_apply, scale_apply, meanSq_apply, y_apply, g_apply]

theorem dfact_apply (g : Fin 8192) (l : Fin 512) : val_main_v76 (F := Ideal) x cw cb gn dy (ix2 g l)
    = dfact (acts x) (taps cw) (bias cb) (gains gn) (acts x g) (grads dy g) (g.val + 8) l := by
  pointwise! [val_main_v76, dgated_apply, silu_apply, dfact, Rows.dout]

theorem dgates_apply (g : Fin 8192) (l : Fin 512) : val_main_v77 (F := Ideal) x cw cb gn dy (ix2 g l)
    = Rows.dgates 0x44000000#32 (factored (acts x) (taps cw) (bias cb) (acts x g) (g.val + 8)) (gates (acts x g))
        (grads dy g) (gains gn) l := by
  pointwise [val_main_v77, val_main_call1_v2, val_main_call1_v1, val_main_call1_v0, val_main_v75, val_main_v36_1,
    val_main_call0_v7, val_main_call0_v6, val_main_call0_cst_1, dgated_apply, sigma_apply, z_apply, factored_apply, Rows.dgates, Rows.dsilu]

theorem dconv_apply (g : Fin 8192) (l : Fin 512) : val_main_v78 (F := Ideal) x cw cb gn dy (ix2 g l)
    = dconv (acts x) (taps cw) (bias cb) (gains gn) (grads dy) g l := by
  pointwise! [val_main_v78, dfact_apply, b_apply, dconv, dconvAt]

theorem dbias_apply (l : Fin 512) : val_main_v122 (F := Ideal) x cw cb gn dy (ix2 0 l)
    = ∑ g : Fin 8192, dconv (acts x) (taps cw) (bias cb) (gains gn) (grads dy) g l := by
  pointwise [val_main_v122, val_main_v82, val_main_v81, val_main_v80, val_main_cst_12, val_main_cst_13, dconv_apply]
  simp only [Fin.sum_univ_one, Fin.isValue]

theorem dtap2_apply (l : Fin 512) : val_main_v88 (F := Ideal) x cw cb gn dy (ix1 l)
    = ∑ g : Fin 8192, dtap (acts x) (taps cw) (bias cb) (gains gn) (grads dy) 2 g l := by
  pointwise [val_main_v88, val_main_v85, val_main_v84, val_main_v83, val_main_v25, val_main_cst_14, val_main_cst_15, dconv_apply, prod_apply, dtap]
  refine (Fin.sum_univ_one _).trans ?_
  refine Fin.sum_fin_congr fun g => ?_
  rw [show 2 + g.val + 7 = g.val + 7 + 2 by omega]

theorem dtap1_apply (l : Fin 512) : val_main_v97 (F := Ideal) x cw cb gn dy (ix1 l)
    = ∑ g : Fin 8192, dtap (acts x) (taps cw) (bias cb) (gains gn) (grads dy) 1 g l := by
  pointwise [val_main_v97, val_main_v94, val_main_v93, val_main_v92, val_main_v18, val_main_cst_18, val_main_cst_19, dconv_apply, prod_apply, dtap]
  refine (Fin.sum_univ_one _).trans ?_
  refine Fin.sum_fin_congr fun g => ?_
  rw [show 1 + g.val + 7 = g.val + 7 + 1 by omega]

theorem dtap0_apply (l : Fin 512) : val_main_v108 (F := Ideal) x cw cb gn dy (ix1 l)
    = ∑ g : Fin 8192, dtap (acts x) (taps cw) (bias cb) (gains gn) (grads dy) 0 g l := by
  pointwise [val_main_v108, val_main_v105, val_main_v104, val_main_v103, val_main_v10, val_main_cst_22, val_main_cst_23, dconv_apply, prod_apply, dtap]
  exact Fin.sum_univ_one _

/-- The taps' gradient. -/
theorem dtaps_apply (k : Fin 3) (l : Fin 512) : val_main_v111 (F := Ideal) x cw cb gn dy (ix2 k l)
    = ∑ g : Fin 8192, dtap (acts x) (taps cw) (bias cb) (gains gn) (grads dy) k g l := by
  pointwise [val_main_v111, val_main_v110, val_main_v109, val_main_v100, val_main_v99, val_main_v98, val_main_v90, val_main_v89,
    val_main_cst_16, val_main_cst_20, val_main_cst_24, dtap0_apply, dtap1_apply, dtap2_apply]
  match k with
  | 0 => exact (congrArg₂ (· + ·) (congrArg₂ (· + ·) (dif_neg (by decide)) (dif_neg (by decide))) (dif_pos (by decide))).trans (by rw [add_zero, zero_add])
  | 1 => exact (congrArg₂ (· + ·) (congrArg₂ (· + ·) (dif_neg (by decide)) (dif_pos (by decide))) (dif_neg (by decide))).trans (by rw [add_zero, zero_add])
  | 2 => exact (congrArg₂ (· + ·) (congrArg₂ (· + ·) (dif_pos (by decide)) (dif_neg (by decide))) (dif_neg (by decide))).trans (by rw [add_zero, add_zero])

/-- The gradient of the products. -/
theorem dprod_apply (g : Fin 8192) (l : Fin 512) : val_main_v115 (F := Ideal) x cw cb gn dy (ix2 g l)
    = dprod (acts x) (taps cw) (bias cb) (gains gn) (grads dy) (g.val + 8) l := by
  pointwise [val_main_v115, val_main_v113, val_main_v112, val_main_v107, val_main_v106, val_main_v102, val_main_v101, val_main_v96, val_main_v95,
    val_main_v91, val_main_v87, val_main_v86, val_main_cst_17, val_main_cst_21, val_main_cst_25, dconv_apply, val_main_v28, val_main_v27, val_main_v26,
    val_main_v21, val_main_v20, val_main_v19, val_main_v13, val_main_v12, val_main_v11, dprod]
  refine congrArg₂ (· + ·) (congrArg₂ (· + ·) ?_ ?_) ?_
  · by_cases h : 1 ≤ g.val
    · have e : (⟨1 + g.val - 2, by omega⟩ : Fin 8192) = row (g.val + 8 - 1) := Fin.ext (by simp only [row]; omega)
      refine (dif_pos (by omega)).trans ?_
      rw [zpad, if_pos (by simp only [Inside]; omega), ← e]
    · refine (dif_neg (by omega)).trans ?_
      rw [zpad, if_neg (by simp only [Inside]; omega), zero_mul]
  · rw [zpad_in _ (inside_add g), row_add]
  · by_cases h : 1 + g.val < 8192
    · have e : (⟨1 + g.val, h⟩ : Fin 8192) = row (g.val + 8 + 1) := Fin.ext (by simp only [row]; omega)
      refine (dif_pos h).trans ?_
      rw [zpad, if_pos (by simp only [Inside]; omega), ← e]
    · refine (dif_neg h).trans ?_
      rw [zpad, if_neg (by simp only [Inside]; omega), zero_mul]

/-- The gradient buffer: columns 0 to 2047 are the activations' gradient. -/
theorem dproj_apply (g : Fin 8192) (j : Fin 6912) : val_main_v121 (F := Ideal) x cw cb gn dy (ix2 g j)
    = if j.val < 2048 then dact (acts x) (taps cw) (bias cb) (gains gn) (grads dy) g (bufPart j) (bufCol j) else 0 := by
  pointwise [val_main_v121, val_main_v120, val_main_v119, val_main_v118, val_main_v117, val_main_v79, dprod_apply, dgates_apply, dfact_apply,
    conv_apply, c_apply, h_apply, val_main_call2_v0, val_main_c]
  have hc : ∀ k : ℕ, ∀ h : k < 512, j.val % 512 = k → (⟨k, h⟩ : Fin 512) = bufCol j := fun k h e => Fin.ext e.symm
  have hp : ∀ q : Fin 4, j.val / 512 % 4 = q.val → bufPart j = q := fun q e => Fin.ext e
  by_cases h : j.val < 2048
  · refine (dif_pos h).trans (Eq.trans ?_ (if_pos h).symm)
    by_cases h0 : j.val < 512
    · refine (dif_pos h0).trans ?_
      rw [hc _ _ (by omega), hp 0 (by simp only [Fin.isValue, Fin.val_zero]; omega)]
      rfl
    · refine (dif_neg h0).trans ?_
      by_cases h1 : j.val - 512 < 512
      · refine (dif_pos h1).trans ?_
        rw [hc _ _ (by omega), hp 1 (by simp only [Fin.isValue, Fin.val_one]; omega)]
        rfl
      · refine (dif_neg h1).trans ?_
        by_cases h2 : j.val - 512 - 512 < 512
        · refine (dif_pos h2).trans ?_
          rw [hc _ _ (by omega), hp 2 (by simp only [Fin.isValue, Fin.val_two]; omega)]
          rfl
        · refine (dif_neg h2).trans ?_
          rw [hc _ _ (by omega), hp 3 (show j.val / 512 % 4 = 3 by omega)]
          rfl
  · refine (dif_neg h).trans (Eq.trans ?_ (if_neg h).symm)
    simp [FloatOps.sitofp]

end Cert.ConvRefIdeal.Math

end
-- ==== Proof.ConvFrame.lean ====
/-
  The gradient of the gated convolution: the reference ends, with its arguments unchanged.
-/
module

public import proofs.«01_k».proof.Defs
public import proofs.«01_k».proof.Proof.Gen.ConvRefIdeal
public import proofs.«01_k».proof.Proof.Gen.ConvRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Conv

/-- The reference ends, with its arguments unchanged. -/
theorem frame_ref : Cert.quiescent_ConvRefIdeal := fun m g _ =>
  (θ_run Cert.ConvRefIdeal.defs _ _).mono (fun r h => ⟨fun c => (h c).2.2.2.2, sem_eq_zero_of_no_sems (by decide) r.2⟩)
    (Cert.ConvRefIdeal.Value.run (F := Ideal) m g)

end Cert.Proof.Conv

end
-- ==== Proof.ConvPair.lean ====
/-
  The gradient of the gated convolution: kernel and reference end with the same four arrays, the first of
  them at the columns the kernel writes.
-/
module

public import proofs.«01_k».proof.Defs
public import proofs.«01_k».proof.Proof.ConvArray
public import proofs.«01_k».proof.Proof.ConvRef
public import proofs.«01_k».proof.Proof.ConvFrame
public import proofs.«01_k».proof.Proof.Gen.ConvBack.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Conv

/-- The side conditions of the mask's operations. -/
theorem written_facts : Cert.On_written.Facts where
  bcast_S_S8192x6912 := by decide
  bcast_S_S3x512 := by decide
  bcast_S_S1x512 := by decide

section
open Cert.On_written

/-- A column number the mask's comparison admits is below 2048. -/
theorem slt_2048 : ∀ n : Fin 6912, IntOp.cmpi .slt (BitVec.ofNat 32 n.val) 2048#32 = 1#1 → n.val < 2048 := by
  decide +kernel

/-- A column the mask admits is one of the first 2048. -/
theorem written_lt [Cert.On_written.Facts] (a0 : FVec Ideal S8192x6720 .f32) (a1 : FVec Ideal S3x512 .f32) (a2 : FVec Ideal S512 .f32)
    (a3 : FVec Ideal S2048 .f32) (a4 : FVec Ideal S8192x2048 .f32) (i : S8192x6912.Idx)
    (h : (Cert.On_written.fn (F := Ideal) a0 a1 a2 a3 a4).1 i = 1#1) : (i 1).val < 2048 := by
  exact slt_2048 (i 1) h
end

section
open Cert.ConvRefIdeal Cert.ConvRefIdeal.Read Cert.ConvRefIdeal.Math Cert.Conv

variable (x : FVec Ideal S8192x6720 .f32) (cw : FVec Ideal S3x512 .f32) (cb : FVec Ideal S512 .f32) (gn : FVec Ideal S2048 .f32)
  (dy : FVec Ideal S8192x2048 .f32)

theorem ref_dproj (i : S8192x6912.Idx) (h : (i 1).val < 2048) : val_main_v121 (F := Ideal) x cw cb gn dy i
    = dact (acts x) (taps cw) (bias cb) (gains gn) (grads dy) (i 0) (bufPart (i 1)) (bufCol (i 1)) := by
  idx_vars i
  exact (dproj_apply x cw cb gn dy i0 i1).trans (if_pos h)

theorem ref_dtaps : val_main_v111 (F := Ideal) x cw cb gn dy = fun i =>
    ∑ g : Fin 8192, dtap (acts x) (taps cw) (bias cb) (gains gn) (grads dy) (i 0) g (i 1) := by
  funext i
  idx_vars i
  exact dtaps_apply x cw cb gn dy i0 i1

theorem ref_dbias : val_main_v122 (F := Ideal) x cw cb gn dy = fun i =>
    ∑ g : Fin 8192, dconv (acts x) (taps cw) (bias cb) (gains gn) (grads dy) g (i 1) := by
  funext i
  idx_vars i
  obtain rfl : i0 = 0 := Subsingleton.elim _ _
  exact dbias_apply x cw cb gn dy i1

theorem ref_dgain : val_main_v123 (F := Ideal) x cw cb dy = fun i =>
    ∑ g : Fin 8192, dgain (acts x) (taps cw) (bias cb) (grads dy) g (i 1) := by
  funext i
  idx_vars i
  obtain rfl : i0 = 0 := Subsingleton.elim _ _
  exact gain_apply x cw cb dy i1

end

set_option maxHeartbeats 1600000 in
/-- Both programs end with the same gradients at the columns the kernel writes. -/
theorem equal : @Cert.algebraic_ConvBackIdeal_ConvRefIdeal_on_written Cert.ConvBackIdeal.Gen.facts Cert.ConvRefIdeal.Gen.facts written_facts := by
  intro m g m' g' hpre hagree
  refine ⟨fun c => ConvBackIdeal.Arrays.dbuf m c, fun c => ConvBackIdeal.Arrays.dw m c, fun c => ConvBackIdeal.Arrays.db m c,
    fun c => ConvBackIdeal.Arrays.dg m c, ?_, ?_⟩
  · run_from Cert.ConvBackIdeal.Gen.run_main m g
    · exact fun i _ => congrFun (ConvBackIdeal.Arrays.final_dbuf m c) i
    · exact fun i _ => congrFun (ConvBackIdeal.Arrays.final_dw m c) i
    · exact fun i _ => congrFun (ConvBackIdeal.Arrays.final_db m c) i
    · exact fun i _ => congrFun (ConvBackIdeal.Arrays.final_dg m c) i
  · refine θ_run_mono (Cert.ConvRefIdeal.Value.run (F := Ideal) m' g') fun r h c => ?_
    obtain ⟨a0, a1, a2, a3, a4⟩ := hagree c
    obtain ⟨h0, h1, h2, h3, hk⟩ := h c
    replace a0 : StableHlo.launchContents m' c (Proc.tc.devRef ConvRefIdeal.main_arg0) = m (c.tc.loc ConvBackIdeal.main_arg0) := a0
    replace a1 : StableHlo.launchContents m' c (Proc.tc.devRef ConvRefIdeal.main_arg1) = m (c.tc.loc ConvBackIdeal.main_arg1) := a1
    replace a2 : StableHlo.launchContents m' c (Proc.tc.devRef ConvRefIdeal.main_arg2) = m (c.tc.loc ConvBackIdeal.main_arg2) := a2
    replace a3 : StableHlo.launchContents m' c (Proc.tc.devRef ConvRefIdeal.main_arg3) = m (c.tc.loc ConvBackIdeal.main_arg3) := a3
    replace a4 : StableHlo.launchContents m' c (Proc.tc.devRef ConvRefIdeal.main_arg4) = m (c.tc.loc ConvBackIdeal.main_arg4) := a4
    refine ⟨fun i hi => (congrFun h0 i).trans ?_, fun i _ => (congrFun h1 i).trans ?_, fun i _ => (congrFun h2 i).trans ?_,
      fun i _ => (congrFun h3 i).trans ?_, hk⟩
    · have hlt := @written_lt written_facts _ _ _ _ _ i hi
      rw [ConvRefIdeal.Read.val_main_v121_eq, a0, a1, a2, a3, a4]
      exact (ref_dproj _ _ _ _ _ i hlt).trans (if_pos hlt).symm
    · refine (congrFun (ConvRefIdeal.Read.val_main_v111_eq (StableHlo.launchContents m' c)) i).trans ?_
      rw [a0, a1, a2, a3, a4]
      exact congrFun (ref_dtaps _ _ _ _ _) i
    · refine (congrFun (ConvRefIdeal.Read.val_main_v122_eq (StableHlo.launchContents m' c)) i).trans ?_
      rw [a0, a1, a2, a3, a4]
      exact congrFun (ref_dbias _ _ _ _ _) i
    · refine (congrFun (ConvRefIdeal.Read.val_main_v123_eq (StableHlo.launchContents m' c)) i).trans ?_
      rw [a0, a1, a2, a4]
      exact congrFun (ref_dgain _ _ _ _) i

end Cert.Proof.Conv

end
-- ==== Proof.MlaRows.lean ====
/-
  The gradient of the latent projections of queries, keys and values, one token at a time, on the extended
  reals: the queries' and the keys' norms with their rotary part, the latents' norm, and the product with
  the up-projection.  These are the formulas which a tile of the kernel and the derivative of the plain
  lines both compute.
-/
module

public import proofs.«01_k».proof.Proof.Rows

@[expose] public section

noncomputable section

open Idealize.ShloMosaic

namespace Cert.Mla

/-- What the gradient reads: the pieces of the projection by token and head, the tables of the rotary
    embedding, the up-projection, the gains of the five norms, and the incoming gradients of queries, keys
    and values. -/
structure Args where
  qn : Fin 8192 → Fin 8 → Fin 128 → EReal
  qr : Fin 8192 → Fin 8 → Fin 64 → EReal
  ckv : Fin 8192 → Fin 512 → EReal
  kr : Fin 8192 → Fin 64 → EReal
  cos : Fin 8192 → Fin 32 → EReal
  sin : Fin 8192 → Fin 32 → EReal
  w : Fin 512 → Fin 2048 → EReal
  gkv : Fin 512 → EReal
  gqn : Fin 128 → EReal
  gqr : Fin 64 → EReal
  gkn : Fin 128 → EReal
  gkr : Fin 64 → EReal
  dq : Fin 8192 → Fin 8 → Fin 192 → EReal
  dk : Fin 8192 → Fin 8 → Fin 192 → EReal
  dv : Fin 8192 → Fin 8 → Fin 128 → EReal

/-- The columns of a head's 192: the plain part and the rotary part. -/
def nope (l : Fin 128) : Fin 192 := ⟨l.val, by omega⟩
def rope (l : Fin 64) : Fin 192 := ⟨128 + l.val, by omega⟩
/-- Of a rotary column: its place in the half, and the column of the other half. -/
def place (l : Fin 64) : Fin 32 := ⟨l.val % 32, by omega⟩
def other (l : Fin 64) : Fin 64 := ⟨(l.val + 32) % 64, by omega⟩
/-- The columns of the up-projection: head `h`'s keys and values. -/
def keyCol (h : Fin 8) (d : Fin 128) : Fin 2048 := ⟨h.val * 256 + d.val, by omega⟩
def headOf (j : Fin 2048) : Fin 8 := ⟨j.val / 256, by omega⟩
def laneOf (j : Fin 2048) : Fin 128 := ⟨j.val % 128, by omega⟩
/-- The column of the up-projection at place `j` of the order in which all keys stand before all values. -/
def order (j : Fin 2048) : Fin 2048 := ⟨j.val % 1024 / 128 * 256 + j.val / 1024 * 128 + j.val % 128, by omega⟩

/-- The transpose of the rotation: `c` and `s` are the cosines and sines of the token. -/
def turn (c s : Fin 32 → EReal) (d : Fin 64 → EReal) (l : Fin 64) : EReal :=
  if l.val < 32 then d (other l) * s (place l) + d l * c (place l)
  else d l * c (place l) + -d (other l) * s (place l)

/-- The two halves of a turned row, each extended by zeros, add up to the row. -/
theorem turn_halves (c s : Fin 32 → EReal) (d : Fin 64 → EReal) (l : Fin 64) :
    ((if h : 32 ≤ l.val ∧ l.val - 32 < 32 then
        d ⟨32 + (l.val - 32), by omega⟩ * c ⟨l.val - 32, by omega⟩ + -d ⟨l.val - 32, by omega⟩ * s ⟨l.val - 32, by omega⟩
      else 0)
      + if h : l.val < 32 then d ⟨32 + l.val, by omega⟩ * s ⟨l.val, h⟩ + d l * c ⟨l.val, h⟩ else 0) = turn c s d l := by
  by_cases h : l.val < 32
  · have e1 : other l = ⟨32 + l.val, by omega⟩ := Fin.ext (by simp only [other]; omega)
    have e2 : place l = ⟨l.val, h⟩ := Fin.ext (by simp only [place]; omega)
    rw [turn, if_pos h, dif_neg (by omega), dif_pos h, zero_add, e1, e2]
  · have e0 : (⟨32 + (l.val - 32), by omega⟩ : Fin 64) = l := Fin.ext (by simp only []; omega)
    have e1 : other l = ⟨l.val - 32, by omega⟩ := Fin.ext (by simp only [other]; omega)
    have e2 : place l = ⟨l.val - 32, by omega⟩ := Fin.ext (by simp only [place]; omega)
    rw [turn, if_neg h, dif_pos (by omega), dif_neg h, add_zero, e0, e1, e2]

variable (A : Args) (g : Fin 8192)

/-- The incoming gradient of a head's query, times the factor of the scores. -/
def dquery (h : Fin 8) (j : Fin 192) : EReal := A.dq g h j * Ideal.ofBits .f32 0x3DD53B95#32
/-- Its plain part, and its rotary part turned back. -/
def dqn (h : Fin 8) (l : Fin 128) : EReal := dquery A g h (nope l)
def dqr (h : Fin 8) : Fin 64 → EReal := turn (A.cos g) (A.sin g) fun l => dquery A g h (rope l)
/-- The gradients of the two parts of the query. -/
def gradQn (h : Fin 8) : Fin 128 → EReal := Rows.grad 0x43000000#32 (A.qn g h) fun l => dqn A g h l * A.gqn l
def gradQr (h : Fin 8) : Fin 64 → EReal := Rows.grad 0x42800000#32 (A.qr g h) fun l => dqr A g h l * A.gqr l
/-- The normed latents, the keys and values they give, and a head's key. -/
def latents (k : Fin 512) : EReal := A.ckv g k * Rows.scale 0x44000000#32 (A.ckv g) * A.gkv k
def kv (j : Fin 2048) : EReal := ∑ k, latents A g k * A.w k j
def key (h : Fin 8) (d : Fin 128) : EReal := kv A g (keyCol h d)
/-- The gradient of a head's key before its norm, and of all keys and values. -/
def dkn (h : Fin 8) (l : Fin 128) : EReal := A.dk g h (nope l)
def gradKey (h : Fin 8) : Fin 128 → EReal := Rows.grad 0x43000000#32 (key A g h) fun l => dkn A g h l * A.gkn l
def dkv (j : Fin 2048) : EReal :=
  if j.val % 256 < 128 then gradKey A g (headOf j) (laneOf j) else A.dv g (headOf j) (laneOf j)
/-- The gradient of the normed latents and of the latents. -/
def dlatents (k : Fin 512) : EReal := ∑ j, dkv A g j * A.w k j
def gradCkv : Fin 512 → EReal := Rows.grad 0x44000000#32 (A.ckv g) fun k => dlatents A g k * A.gkv k
/-- The gradient of the shared rotary key: the heads' gradients together, turned back. -/
def dkr : Fin 64 → EReal := turn (A.cos g) (A.sin g) fun l => ∑ h, A.dk g h (rope l)
def gradKr : Fin 64 → EReal := Rows.grad 0x42800000#32 (A.kr g) fun l => dkr A g l * A.gkr l

/-- The gradients of the up-projection and of the five gains: sums over all tokens, and over the heads. -/
def dw (k : Fin 512) (j : Fin 2048) : EReal := ∑ g, latents A g k * dkv A g j
def dgkv (l : Fin 512) : EReal := ∑ g, Rows.gain 0x44000000#32 (A.ckv g) (dlatents A g) l
def dgqn (l : Fin 128) : EReal := ∑ g, ∑ h, Rows.gain 0x43000000#32 (A.qn g h) (dqn A g h) l
def dgqr (l : Fin 64) : EReal := ∑ g, ∑ h, Rows.gain 0x42800000#32 (A.qr g h) (dqr A g h) l
def dgkn (l : Fin 128) : EReal := ∑ g, ∑ h, Rows.gain 0x43000000#32 (key A g h) (dkn A g h) l
def dgkr (l : Fin 64) : EReal := ∑ g, Rows.gain 0x42800000#32 (A.kr g) (dkr A g) l

/-- The new columns of the gradient buffer: queries, their rotary part, latents, rotary key, and zeros. -/
def columns (l : Fin 2304) : EReal :=
  if l.val < 1024 then gradQn A g ⟨l.val / 128 % 8, by omega⟩ ⟨l.val % 128, by omega⟩
  else if l.val < 1536 then gradQr A g ⟨(l.val - 1024) / 64 % 8, by omega⟩ ⟨(l.val - 1024) % 64, by omega⟩
  else if l.val < 2048 then gradCkv A g ⟨(l.val - 1536) % 512, by omega⟩
  else if l.val < 2112 then gradKr A g ⟨(l.val - 2048) % 64, by omega⟩
  else 0

/-- Putting the columns of the up-projection in another order permutes them. -/
theorem sum_order (f : Fin 2048 → EReal) : ∑ j, f (order j) = ∑ j, f j := by
  refine Fintype.sum_bijective order ?_ _ _ fun _ => rfl
  refine (Finite.injective_iff_bijective).mp fun a b h => ?_
  have e : a.val % 1024 / 128 * 256 + a.val / 1024 * 128 + a.val % 128
      = b.val % 1024 / 128 * 256 + b.val / 1024 * 128 + b.val % 128 := congrArg Fin.val h
  exact Fin.ext (by omega)

end Cert.Mla

end
-- ==== Proof.MlaBlock.lean ====
/-
  The latent projections' gradient, one tile of 256 tokens: what the pieces of the kernel's body compute at
  an index of their tiles.  The kernel writes its eight heads out one after the other; the lemmas below are
  about the text of one head, whatever its operands are.
-/
module

public import proofs.«01_k».proof.Proof.Gen.MlaBackIdeal.Skeleton
public import proofs.«01_k».proof.Proof.MlaRows
public import proofs.«01_k».proof.Proof.Consts
public import Idealize.ShloMosaic.Lib.Pipeline.ValueKit

@[expose] public section

set_option maxRecDepth 16384

noncomputable section

open Idealize.ShloMosaic Idealize.ShloMosaic.TcCoe Idealize.SL.Sem

namespace Cert.MlaBackIdeal.Block

open Cert.MlaBackIdeal Cert.MlaBackIdeal.Gen Cert.Mla

/-! The norm of rows of 128 numbers. -/

section Plain

variable (g : FVec Ideal S1x128 .f32) (x dy : FVec Ideal S256x128 .f32) (r : Fin 256) (X D G : Fin 128 → EReal)

theorem mean128 (hx : ∀ k, x (ix2 r k) = X k) : k0_pay59 x (ix2 r 0) = Rows.meanSq 0x43000000#32 X := by
  pointwise! [k0_pay59, hx, Rows.meanSq]

theorem scale128 (hx : ∀ k, x (ix2 r k) = X k) : k0_pay60 x (ix2 r 0) = Rows.scale 0x43000000#32 X := by
  rw [Rows.scale, ← mean128 x r X hx]
  pointwise! [k0_pay60]

/-- The gradient of a row before its norm. -/
theorem grad128 (hx : ∀ k, x (ix2 r k) = X k) (hd : ∀ k, dy (ix2 r k) = D k) (hg : ∀ k, g (ix2 0 k) = G k) (l : Fin 128) :
    k0_pay211 g x (k0_pay60 x) (k0_pay61 x) dy (ix2 r l) = Rows.grad 0x43000000#32 X (fun k => D k * G k) l := by
  pointwise [k0_pay211, k0_pay61, Rows.grad, Rows.slope]
  simp only [Fin.sum_univ_one, Fin.isValue, hx, hd, hg, scale128 x r X hx, mean128 x r X hx]

end Plain

section Sums

variable (x dy : FVec Ideal S256x128 .f32) (X D : Fin 256 → Fin 128 → EReal) (l : Fin 128)

/-- One head's part of the gain's gradient. -/
theorem gain128 (hx : ∀ r k, x (ix2 r k) = X r k) (hd : ∀ r k, dy (ix2 r k) = D r k) :
    k0_pay191 (k0_pay62 x) dy (ix2 0 l) = ∑ r, Rows.gain 0x43000000#32 (X r) (D r) l := by
  pointwise [k0_pay191, k0_pay62, Rows.gain]
  exact Finset.sum_congr rfl fun r _ => by rw [hx, hd, scale128 x r (X r) (hx r)]

/-- … added to the heads before it. -/
theorem moreGain128 (p : FVec Ideal S1x128 .f32) (s : EReal) (hp : p (ix2 0 l) = s) (hx : ∀ r k, x (ix2 r k) = X r k)
    (hd : ∀ r k, dy (ix2 r k) = D r k) :
    k0_pay205 (k0_pay62 x) p dy (ix2 0 l) = s + ∑ r, Rows.gain 0x43000000#32 (X r) (D r) l := by
  rw [← hp, ← gain128 x dy X D l hx hd]
  pointwise! [k0_pay205, k0_pay191]

end Sums

/-! The norm of rows of 64 numbers, and their rotation. -/

section Rotary

variable (g : FVec Ideal S1x64 .f32) (x dy : FVec Ideal S256x64 .f32) (r : Fin 256) (X D G : Fin 64 → EReal)

theorem mean64 (hx : ∀ k, x (ix2 r k) = X k) : k0_pay55 x (ix2 r 0) = Rows.meanSq 0x42800000#32 X := by
  pointwise! [k0_pay55, hx, Rows.meanSq]

theorem scale64 (hx : ∀ k, x (ix2 r k) = X k) : k0_pay56 x (ix2 r 0) = Rows.scale 0x42800000#32 X := by
  rw [Rows.scale, ← mean64 x r X hx]
  pointwise! [k0_pay56]

theorem grad64 (hx : ∀ k, x (ix2 r k) = X k) (hd : ∀ k, dy (ix2 r k) = D k) (hg : ∀ k, g (ix2 0 k) = G k) (l : Fin 64) :
    k0_pay283 x g (k0_pay56 x) (k0_pay57 x) dy (ix2 r l) = Rows.grad 0x42800000#32 X (fun k => D k * G k) l := by
  pointwise [k0_pay283, k0_pay57, Rows.grad, Rows.slope]
  simp only [Fin.sum_univ_one, Fin.isValue, hx, hd, hg, scale64 x r X hx, mean64 x r X hx]

/-- The rotation turned back: the kernel's table of sines carries the sign of the first half. -/
theorem turned (c s : FVec Ideal S256x64 .f32) (C S : Fin 32 → EReal) (hc : ∀ l, c (ix2 r l) = C (place l))
    (hs : ∀ l : Fin 64, s (ix2 r l) = if l.val < 32 then -S (place l) else S (place l)) (hd : ∀ k, dy (ix2 r k) = D k)
    (l : Fin 64) : k0_pay281 c s dy (ix2 r l) = turn C S D l := by
  pointwise [k0_pay281, hc, hs, hd, turn]
  by_cases h : l.val < 32
  · have e1 : other l = ⟨32 + l.val, by omega⟩ := Fin.ext (by change (l.val + 32) % 64 = 32 + l.val; omega)
    have e2 : place ⟨32 + l.val, by omega⟩ = place l := Fin.ext (by change (32 + l.val) % 32 = l.val % 32; omega)
    rw [dif_pos h, if_pos h, e1, e2]
  · have e1 : other l = ⟨l.val - 32, by omega⟩ := Fin.ext (by change (l.val + 32) % 64 = l.val - 32; omega)
    have e2 : place ⟨l.val - 32, by omega⟩ = place l := Fin.ext (by change (l.val - 32) % 32 = l.val % 32; omega)
    rw [dif_neg h, if_neg h, e1, add_comm (D l * C (place l)), neg_mul, ← mul_neg, ← e2]
    exact congrArg (fun z => D _ * z + _) (if_pos (by omega))

end Rotary

section RotarySums

variable (x dy : FVec Ideal S256x64 .f32) (X D : Fin 256 → Fin 64 → EReal) (l : Fin 64)

theorem gain64 (hx : ∀ r k, x (ix2 r k) = X r k) (hd : ∀ r k, dy (ix2 r k) = D r k) :
    shapeCast S1x64 (multiReduction .add [0] S64 (mulf (k0_pay58 x) dy) 0x00000000#32) shapeCasts_S64_S1x64 (ix2 0 l)
      = ∑ r, Rows.gain 0x42800000#32 (X r) (D r) l := by
  pointwise [k0_pay58, Rows.gain]
  exact Finset.sum_congr rfl fun r _ => by rw [hx, hd, scale64 x r (X r) (hx r)]

theorem moreGain64 (p : FVec Ideal S1x64 .f32) (s : EReal) (hp : p (ix2 0 l) = s) (hx : ∀ r k, x (ix2 r k) = X r k)
    (hd : ∀ r k, dy (ix2 r k) = D r k) :
    k0_pay277 p (mulf (k0_pay58 x) dy) (ix2 0 l) = s + ∑ r, Rows.gain 0x42800000#32 (X r) (D r) l := by
  rw [← hp, ← gain64 x dy X D l hx hd]
  pointwise! [k0_pay277]

end RotarySums

/-! The heads side by side. -/

theorem queries (g : FVec Ideal S1x128 .f32) (x dy v1 v2 v3 v4 v5 v6 v7 : FVec Ideal S256x128 .f32) (rs sl : FVec Ideal S256x1 .f32)
    (r : Fin 256) (P : Fin 8 → Fin 128 → EReal) (h0 : ∀ d, k0_pay211 g x rs sl dy (ix2 r d) = P 0 d)
    (h1 : ∀ d, v1 (ix2 r d) = P 1 d) (h2 : ∀ d, v2 (ix2 r d) = P 2 d) (h3 : ∀ d, v3 (ix2 r d) = P 3 d)
    (h4 : ∀ d, v4 (ix2 r d) = P 4 d) (h5 : ∀ d, v5 (ix2 r d) = P 5 d) (h6 : ∀ d, v6 (ix2 r d) = P 6 d)
    (h7 : ∀ d, v7 (ix2 r d) = P 7 d) (j : Fin 1024) :
    k0_pay289 (k0_pay280 g x rs sl v7 v6 v5 v4 v3 v2 v1 dy) (ix2 r j) = P ⟨j.val / 128, by omega⟩ ⟨j.val % 128, by omega⟩ := by
  have all : ∀ n d, (![k0_pay211 g x rs sl dy, v1, v2, v3, v4, v5, v6, v7] : Fin 8 → FVec Ideal S256x128 .f32) n (ix2 r d) = P n d := by
    intro n
    fin_cases n
    exacts [h0, h1, h2, h3, h4, h5, h6, h7]
  exact (concatenate_ofFn_apply 1 ![k0_pay211 g x rs sl dy, v1, v2, v3, v4, v5, v6, v7]
    concatenates_S256x128_S256x128_S256x128_S256x128_S256x128_S256x128_S256x128_S256x128_S256x1024_d1 rfl 128 rfl (ix2 r j) ⟨j.val / 128, by omega⟩ rfl (ix2 r ⟨j.val % 128, by omega⟩) rfl
    (fun b hb => by fin_cases b; exacts [rfl, absurd rfl hb])).trans (all _ _)

theorem rotaries (g : FVec Ideal S1x64 .f32) (x dy v1 v2 v3 v4 v5 v6 v7 : FVec Ideal S256x64 .f32) (rs sl : FVec Ideal S256x1 .f32)
    (r : Fin 256) (P : Fin 8 → Fin 64 → EReal) (h0 : ∀ d, k0_pay283 x g rs sl dy (ix2 r d) = P 0 d)
    (h1 : ∀ d, v1 (ix2 r d) = P 1 d) (h2 : ∀ d, v2 (ix2 r d) = P 2 d) (h3 : ∀ d, v3 (ix2 r d) = P 3 d)
    (h4 : ∀ d, v4 (ix2 r d) = P 4 d) (h5 : ∀ d, v5 (ix2 r d) = P 5 d) (h6 : ∀ d, v6 (ix2 r d) = P 6 d)
    (h7 : ∀ d, v7 (ix2 r d) = P 7 d) (j : Fin 512) :
    k0_pay290 (k0_pay279 g x rs sl v7 v6 v5 v4 v3 v2 v1 dy) (ix2 r j) = P ⟨j.val / 64, by omega⟩ ⟨j.val % 64, by omega⟩ := by
  have all : ∀ n d, (![k0_pay283 x g rs sl dy, v1, v2, v3, v4, v5, v6, v7] : Fin 8 → FVec Ideal S256x64 .f32) n (ix2 r d) = P n d := by
    intro n
    fin_cases n
    exacts [h0, h1, h2, h3, h4, h5, h6, h7]
  exact (concatenate_ofFn_apply 1 ![k0_pay283 x g rs sl dy, v1, v2, v3, v4, v5, v6, v7]
    concatenates_S256x64_S256x64_S256x64_S256x64_S256x64_S256x64_S256x64_S256x64_S256x512_d1 rfl 64 rfl (ix2 r j) ⟨j.val / 64, by omega⟩ rfl (ix2 r ⟨j.val % 64, by omega⟩) rfl
    (fun b hb => by fin_cases b; exacts [rfl, absurd rfl hb])).trans (all _ _)

/-- All keys' and all values' gradients side by side. -/
theorem keysValues (k0 k1 k2 k3 k4 k5 k6 k7 v0 v1 v2 v3 v4 v5 v6 v7 : FVec Ideal S256x128 .f32)
    (r : Fin 256) (K V : Fin 8 → Fin 128 → EReal) (h0 : ∀ d, k0 (ix2 r d) = K 0 d)
    (h1 : ∀ d, k1 (ix2 r d) = K 1 d) (h2 : ∀ d, k2 (ix2 r d) = K 2 d) (h3 : ∀ d, k3 (ix2 r d) = K 3 d)
    (h4 : ∀ d, k4 (ix2 r d) = K 4 d) (h5 : ∀ d, k5 (ix2 r d) = K 5 d) (h6 : ∀ d, k6 (ix2 r d) = K 6 d)
    (h7 : ∀ d, k7 (ix2 r d) = K 7 d) (e0 : ∀ d, v0 (ix2 r d) = V 0 d)
    (e1 : ∀ d, v1 (ix2 r d) = V 1 d) (e2 : ∀ d, v2 (ix2 r d) = V 2 d) (e3 : ∀ d, v3 (ix2 r d) = V 3 d)
    (e4 : ∀ d, v4 (ix2 r d) = V 4 d) (e5 : ∀ d, v5 (ix2 r d) = V 5 d) (e6 : ∀ d, v6 (ix2 r d) = V 6 d)
    (e7 : ∀ d, v7 (ix2 r d) = V 7 d) (j : Fin 2048) :
    k0_pay284 v0 v1 v2 v3 v4 v5 v6 v7 k7 k6 k5 k4 k3 k2 k1 k0 (ix2 r j)
      = if j.val < 1024 then K ⟨j.val / 128 % 8, by omega⟩ (laneOf j) else V ⟨j.val / 128 % 8, by omega⟩ (laneOf j) := by
  have all : ∀ (n : Fin 16) d, (![k0, k1, k2, k3, k4, k5, k6, k7, v0, v1, v2, v3, v4, v5, v6, v7] : Fin 16 → FVec Ideal S256x128 .f32) n (ix2 r d)
      = if n.val < 8 then K ⟨n.val % 8, by omega⟩ d else V ⟨n.val % 8, by omega⟩ d := by
    intro n
    fin_cases n
    exacts [h0, h1, h2, h3, h4, h5, h6, h7, e0, e1, e2, e3, e4, e5, e6, e7]
  refine (concatenate_ofFn_apply 1 ![k0, k1, k2, k3, k4, k5, k6, k7, v0, v1, v2, v3, v4, v5, v6, v7]
    concatenates_S256x128_S256x128_S256x128_S256x128_S256x128_S256x128_S256x128_S256x128_S256x128_S256x128_S256x128_S256x128_S256x128_S256x128_S256x128_S256x128_S256x2048_d1 rfl 128 rfl (ix2 r j) ⟨j.val / 128, by omega⟩ rfl (ix2 r (laneOf j)) rfl
    (fun b hb => by fin_cases b; exacts [rfl, absurd rfl hb])).trans ((all _ _).trans ?_)
  by_cases h : j.val < 1024
  · rw [if_pos h, if_pos (by change j.val / 128 < 8; omega)]
  · rw [if_neg h, if_neg (by change ¬ j.val / 128 < 8; omega)]

/-- The rotary key's columns, and zeros. -/
theorem padded (x : FVec Ideal S256x64 .f32) (r : Fin 256) (X : Fin 64 → EReal) (hx : ∀ d, x (ix2 r d) = X d) (j : Fin 256) :
    k0_pay292 x (ix2 r j) = if h : j.val < 64 then X ⟨j.val, h⟩ else 0 := by
  pointwise [k0_pay292, hx]

/-! The latents. -/

section Latents

variable (v6 : Vec Ideal S256x512 .bf16) (w : FVec Ideal S512x2048 .bf16) (g : FVec Ideal S1x512 .f32) (r : Fin 256) (X G : Fin 512 → EReal)

theorem mean512 (hx : ∀ k, v6 (ix2 r k) = X k) : k0_pay16 (k0_pay15 v6) (ix2 r 0) = Rows.meanSq 0x44000000#32 X := by
  pointwise! [k0_pay16, k0_pay15, k0_pay5, hx, Rows.meanSq]

theorem scale512 (hx : ∀ k, v6 (ix2 r k) = X k) : k0_pay17 (k0_pay15 v6) (ix2 r 0) = Rows.scale 0x44000000#32 X := by
  rw [Rows.scale, ← mean512 v6 r X hx]
  pointwise! [k0_pay17]

theorem latent (hx : ∀ k, v6 (ix2 r k) = X k) (hg : ∀ k, g (ix2 0 k) = G k) (k : Fin 512) :
    k0_pay20 (k0_pay5 v6) g (k0_pay15 v6) (ix2 r k) = X k * Rows.scale 0x44000000#32 X * G k := by
  pointwise [k0_pay20, k0_pay19, k0_pay5, hx, hg, scale512 v6 r X hx]

theorem projected (N : Fin 512 → EReal) (W : Fin 512 → Fin 2048 → EReal)
    (hn : ∀ k, k0_pay20 (k0_pay5 v6) g (k0_pay15 v6) (ix2 r k) = N k) (hw : ∀ k j, w (ix2 k j) = W k j) (j : Fin 2048) :
    k0_pay21 (k0_pay5 v6) w g (k0_pay15 v6) (ix2 r j) = ∑ k, N k * W k j := by
  pointwise [k0_pay21, hn, hw]

end Latents

section Products

variable (w : FVec Ideal S512x2048 .bf16) (W : Fin 512 → Fin 2048 → EReal) (a0 a1 a2 a3 a4 a5 a6 a7 b0 b1 b2 b3 b4 b5 b6 b7 : FVec Ideal S256x128 .f32)

/-- The latents' gradient: the keys' and values' gradients times the up-projection. -/
theorem spread (r : Fin 256) (P : Fin 2048 → EReal) (hp : ∀ j, k0_pay284 a0 a1 a2 a3 a4 a5 a6 a7 b0 b1 b2 b3 b4 b5 b6 b7 (ix2 r j) = P j)
    (hw : ∀ k j, w (ix2 k j) = W k j) (k : Fin 512) :
    k0_pay285 w a0 a1 a2 a3 a4 a5 a6 a7 b0 b1 b2 b3 b4 b5 b6 b7 (ix2 r k) = ∑ j, P j * W k j := by
  pointwise [k0_pay285, hp, hw]

/-- One tile's part of the up-projection's gradient. -/
theorem outer (n : FVec Ideal S256x512 .f32) (N : Fin 256 → Fin 512 → EReal) (P : Fin 256 → Fin 2048 → EReal)
    (hp : ∀ r j, k0_pay284 a0 a1 a2 a3 a4 a5 a6 a7 b0 b1 b2 b3 b4 b5 b6 b7 (ix2 r j) = P r j)
    (hn : ∀ r k, n (ix2 r k) = N r k) (k : Fin 512) (j : Fin 2048) :
    k0_pay293 (k0_pay286 n a0 a1 a2 a3 a4 a5 a6 a7 b0 b1 b2 b3 b4 b5 b6 b7) (ix2 k j) = ∑ r, N r k * P r j := by
  pointwise [k0_pay293, k0_pay286, hp, hn]

/-- One tile's part of the latent gain's gradient. -/
theorem gain512 (v6 : Vec Ideal S256x512 .bf16) (X D : Fin 256 → Fin 512 → EReal) (hx : ∀ r k, v6 (ix2 r k) = X r k)
    (hd : ∀ r k, k0_pay285 w a0 a1 a2 a3 a4 a5 a6 a7 b0 b1 b2 b3 b4 b5 b6 b7 (ix2 r k) = D r k) (k : Fin 512) :
    k0_pay287 w (k0_pay19 (k0_pay5 v6) (k0_pay15 v6)) a0 a1 a2 a3 a4 a5 a6 a7 b0 b1 b2 b3 b4 b5 b6 b7 (ix2 0 k)
      = ∑ r, Rows.gain 0x44000000#32 (X r) (D r) k := by
  pointwise [k0_pay287, k0_pay19, k0_pay5, Rows.gain]
  exact Finset.sum_congr rfl fun r _ => by rw [hx, hd, scale512 v6 r (X r) (hx r)]

/-- The gradient of the latents before their norm. -/
theorem grad512 (v6 : Vec Ideal S256x512 .bf16) (g : FVec Ideal S1x512 .f32) (r : Fin 256) (X D G : Fin 512 → EReal)
    (hx : ∀ k, v6 (ix2 r k) = X k) (hg : ∀ k, g (ix2 0 k) = G k)
    (hd : ∀ k, k0_pay285 w a0 a1 a2 a3 a4 a5 a6 a7 b0 b1 b2 b3 b4 b5 b6 b7 (ix2 r k) = D k) (l : Fin 512) :
    k0_pay291 (k0_pay288 (k0_pay5 v6) w g (k0_pay17 (k0_pay15 v6)) (k0_pay18 (k0_pay15 v6)) a0 a1 a2 a3 a4 a5 a6 a7 b0 b1 b2 b3 b4 b5 b6 b7) (ix2 r l)
      = Rows.grad 0x44000000#32 X (fun k => D k * G k) l := by
  pointwise [k0_pay291, k0_pay288, k0_pay18, k0_pay5, Rows.grad, Rows.slope]
  simp only [Fin.sum_univ_one, Fin.isValue, hx, hd, hg, scale512 v6 r X hx, mean512 v6 r X hx]

end Products

/-! The pieces of the operands. -/

section Pieces

variable (r : Fin 256) (h : Fin 8)

theorem plain (d : Vec Ideal S1x1x192x256 .f32) (D : Fin 192 → EReal) (hd : ∀ k, d (ix4 0 0 k r) = D k) (l : Fin 128) :
    k0_pay183 (k0_pay161 d) (ix2 r l) = D (nope l) * Ideal.ofBits .f32 0x3DD53B95#32 := by
  pointwise [k0_pay183, k0_pay182, k0_pay161, hd, nope]

theorem rotary (d : Vec Ideal S1x1x192x256 .f32) (D : Fin 192 → EReal) (hd : ∀ k, d (ix4 0 0 k r) = D k) (l : Fin 64) :
    extractStridedSlice S256x64 ![0, 128] (k0_pay182 (k0_pay161 d)) slices_S256x192_o0_128_S256x64 (ix2 r l)
      = D (rope l) * Ideal.ofBits .f32 0x3DD53B95#32 := by
  pointwise [k0_pay182, k0_pay161, hd, rope]

theorem plainKey (d : Vec Ideal S1x256x192 .f32) (D : Fin 192 → EReal) (hd : ∀ k, d (ix3 0 r k) = D k) (l : Fin 128) :
    k0_pay178 (k0_pay169 d) (ix2 r l) = D (nope l) := by
  pointwise [k0_pay178, k0_pay169, hd, nope]

theorem rotaryKey (d : Vec Ideal S1x256x192 .f32) (D : Fin 192 → EReal) (hd : ∀ k, d (ix3 0 r k) = D k) (l : Fin 64) :
    k0_pay179 (k0_pay169 d) (ix2 r l) = D (rope l) := by
  pointwise [k0_pay179, k0_pay169, hd, rope]

theorem moreRotaryKey (p : FVec Ideal S256x64 .f32) (s : EReal) (d : Vec Ideal S1x256x192 .f32) (D : Fin 192 → EReal)
    (l : Fin 64) (hp : p (ix2 r l) = s) (hd : ∀ k, d (ix3 0 r k) = D k) :
    k0_pay194 (k0_pay169 d) p (ix2 r l) = s + D (rope l) := by
  pointwise [k0_pay194, k0_pay169, hd, hp, rope]

theorem value (d : Vec Ideal S1x256x128 .f32) (D : Fin 128 → EReal) (hd : ∀ k, d (ix3 0 r k) = D k) (l : Fin 128) :
    k0_pay170 d (ix2 r l) = D l := by
  pointwise [k0_pay170, hd]

/-- A head's columns of the plain queries, of the rotary queries, and of the keys and values. -/
theorem head128 (v : FVec Ideal S256x1024 .f32) (hs : S256x1024.Slices ![0, h.val * 128] S256x128) (k : Fin 128) :
    extractStridedSlice S256x128 ![0, h.val * 128] v hs (ix2 r k) = v (ix2 r ⟨h.val * 128 + k.val, by omega⟩) := by
  pointwise

theorem head64 (v : FVec Ideal S256x512 .f32) (hs : S256x512.Slices ![0, h.val * 64] S256x64) (k : Fin 64) :
    extractStridedSlice S256x64 ![0, h.val * 64] v hs (ix2 r k) = v (ix2 r ⟨h.val * 64 + k.val, by omega⟩) := by
  pointwise

theorem headKey (v : FVec Ideal S256x2048 .f32) (hs : S256x2048.Slices ![0, h.val * 128] S256x128) (k : Fin 128) :
    extractStridedSlice S256x128 ![0, h.val * 128] v hs (ix2 r k) = v (ix2 r ⟨h.val * 128 + k.val, by omega⟩) := by
  pointwise

/-- A head's block of the incoming gradients. -/
theorem headDq (X : Vec Ideal S8x1x192x256 .f32) (inb : _) (k : Fin 192) :
    View.ld X (Rect.unit ![h.val, 0, 0, 0] ![1, 1, 192, 256] inb) (ix4 0 0 k r) = X (ix4 h 0 k r) :=
  View.ld_unit_apply_of X ![h.val, 0, 0, 0] ![1, 1, 192, 256] inb (ix4 0 0 k r) (ix4 h 0 k r)
    fun a => match a with | 0 => rfl | 1 => rfl | 2 => (Nat.zero_add _).symm | 3 => (Nat.zero_add _).symm

theorem headDk (X : Vec Ideal S8x256x192 .f32) (inb : _) (k : Fin 192) :
    View.ld X (Rect.unit ![h.val, 0, 0] ![1, 256, 192] inb) (ix3 0 r k) = X (ix3 h r k) :=
  View.ld_unit_apply_of X ![h.val, 0, 0] ![1, 256, 192] inb (ix3 0 r k) (ix3 h r k)
    fun a => match a with | 0 => rfl | 1 => (Nat.zero_add _).symm | 2 => (Nat.zero_add _).symm

theorem headDv (X : Vec Ideal S8x256x128 .f32) (inb : _) (k : Fin 128) :
    View.ld X (Rect.unit ![h.val, 0, 0] ![1, 256, 128] inb) (ix3 0 r k) = X (ix3 h r k) :=
  View.ld_unit_apply_of X ![h.val, 0, 0] ![1, 256, 128] inb (ix3 0 r k) (ix3 h r k)
    fun a => match a with | 0 => rfl | 1 => (Nat.zero_add _).symm | 2 => (Nat.zero_add _).symm

end Pieces

end Cert.MlaBackIdeal.Block

end
-- ==== Proof.MlaTile.lean ====
/-
  The latent projections' gradient, one tile of 256 tokens: what the kernel's text computes of a head, in
  the words of the row formulas, when the tile's operands hold the rows of some tokens.
-/
module

public import proofs.«01_k».proof.Proof.MlaBlock

@[expose] public section

set_option maxRecDepth 16384

noncomputable section

open Idealize.ShloMosaic Idealize.ShloMosaic.TcCoe Idealize.SL.Sem

namespace Cert.MlaBackIdeal.Tile

open Cert.MlaBackIdeal Cert.MlaBackIdeal.Gen Cert.Mla Cert.MlaBackIdeal.Block

/-- The operands of a tile hold the rows `e r` of the arguments. -/
structure Reads (A : Args) (e : Fin 256 → Fin 8192) (q : Vec Ideal S256x1024 .bf16) (p : Vec Ideal S256x512 .bf16)
    (ckv : Vec Ideal S256x512 .bf16) (kr : Vec Ideal S256x64 .bf16) (cos sin : Vec Ideal S256x64 .f32) (w : Vec Ideal S512x2048 .bf16)
    (gkv : Vec Ideal S1x512 .f32) (gqn : Vec Ideal S1x128 .f32) (gqr : Vec Ideal S1x64 .f32) (gkn : Vec Ideal S1x128 .f32)
    (gkr : Vec Ideal S1x64 .f32) (dq : Vec Ideal S8x1x192x256 .f32) (dk : Vec Ideal S8x256x192 .f32) (dv : Vec Ideal S8x256x128 .f32) : Prop where
  qn : ∀ r (h : Fin 8) (k : Fin 128), q (ix2 r ⟨h.val * 128 + k.val, by omega⟩) = A.qn (e r) h k
  qr : ∀ r (h : Fin 8) (k : Fin 64), p (ix2 r ⟨h.val * 64 + k.val, by omega⟩) = A.qr (e r) h k
  ckv : ∀ r k, ckv (ix2 r k) = A.ckv (e r) k
  kr : ∀ r k, kr (ix2 r k) = A.kr (e r) k
  cos : ∀ r l, cos (ix2 r l) = A.cos (e r) (place l)
  sin : ∀ r (l : Fin 64), sin (ix2 r l) = if l.val < 32 then -A.sin (e r) (place l) else A.sin (e r) (place l)
  w : ∀ k j, w (ix2 k j) = A.w k (order j)
  gkv : ∀ k, gkv (ix2 0 k) = A.gkv k
  gqn : ∀ k, gqn (ix2 0 k) = A.gqn k
  gqr : ∀ k, gqr (ix2 0 k) = A.gqr k
  gkn : ∀ k, gkn (ix2 0 k) = A.gkn k
  gkr : ∀ k, gkr (ix2 0 k) = A.gkr k
  dq : ∀ (h : Fin 8) k r, dq (ix4 h 0 k r) = A.dq (e r) h k
  dk : ∀ (h : Fin 8) r k, dk (ix3 h r k) = A.dk (e r) h k
  dv : ∀ (h : Fin 8) r k, dv (ix3 h r k) = A.dv (e r) h k

variable {A : Args} {e : Fin 256 → Fin 8192} {q : Vec Ideal S256x1024 .bf16} {p : Vec Ideal S256x512 .bf16}
  {ckv : Vec Ideal S256x512 .bf16} {kr : Vec Ideal S256x64 .bf16} {cos sin : Vec Ideal S256x64 .f32} {w : Vec Ideal S512x2048 .bf16}
  {gkv : Vec Ideal S1x512 .f32} {gqn : Vec Ideal S1x128 .f32} {gqr : Vec Ideal S1x64 .f32} {gkn : Vec Ideal S1x128 .f32}
  {gkr : Vec Ideal S1x64 .f32} {dq : Vec Ideal S8x1x192x256 .f32} {dk : Vec Ideal S8x256x192 .f32} {dv : Vec Ideal S8x256x128 .f32}
  (R : Reads A e q p ckv kr cos sin w gkv gqn gqr gkn gkr dq dk dv)

/-! The operands as the body rebinds them. -/

section
include R

theorem kr_at (r : Fin 256) (k : Fin 64) : k0_pay6 kr (ix2 r k) = A.kr (e r) k := by
  pointwise [k0_pay6, R.kr]

theorem cos_at (r : Fin 256) (l : Fin 64) : k0_pay7 cos (ix2 r l) = A.cos (e r) (place l) := by
  pointwise [k0_pay7, R.cos]

theorem sin_at (r : Fin 256) (l : Fin 64) :
    k0_pay8 sin (ix2 r l) = if l.val < 32 then -A.sin (e r) (place l) else A.sin (e r) (place l) := by
  pointwise [k0_pay8, R.sin]

theorem w_at (k : Fin 512) (j : Fin 2048) : k0_pay9 w (ix2 k j) = A.w k (order j) := by
  pointwise [k0_pay9, R.w]

theorem gkv_at (k : Fin 512) : k0_pay10 gkv (ix2 0 k) = A.gkv k := by
  pointwise [k0_pay10, R.gkv]

theorem gqn_at (k : Fin 128) : k0_pay11 gqn (ix2 0 k) = A.gqn k := by
  pointwise [k0_pay11, R.gqn]

theorem gqr_at (k : Fin 64) : k0_pay12 gqr (ix2 0 k) = A.gqr k := by
  pointwise [k0_pay12, R.gqr]

theorem gkn_at (k : Fin 128) : k0_pay13 gkn (ix2 0 k) = A.gkn k := by
  pointwise [k0_pay13, R.gkn]

theorem gkr_at (k : Fin 64) : k0_pay14 gkr (ix2 0 k) = A.gkr k := by
  pointwise [k0_pay14, R.gkr]

end

/-! The text of one head, the head's number a variable. -/

theorem slicesQn : ∀ h : Fin 8, S256x1024.Slices ![0, h.val * 128] S256x128 := by decide
theorem slicesQr : ∀ h : Fin 8, S256x512.Slices ![0, h.val * 64] S256x64 := by decide
theorem slicesKey : ∀ h : Fin 8, S256x2048.Slices ![0, h.val * 128] S256x128 := by decide
theorem inbDq : ∀ (h : Fin 8) a, (![h.val, 0, 0, 0] : Fin 4 → Nat) a + S1x1x192x256.size a ≤ S8x1x192x256.size a := by decide
theorem inbDk : ∀ (h : Fin 8) a, (![h.val, 0, 0] : Fin 3 → Nat) a + S1x256x192.size a ≤ S8x256x192.size a := by decide
theorem inbDv : ∀ (h : Fin 8) a, (![h.val, 0, 0] : Fin 3 → Nat) a + S1x256x128.size a ≤ S8x256x128.size a := by decide

section Text

variable (q : Vec Ideal S256x1024 .bf16) (p : Vec Ideal S256x512 .bf16)
  (ckv : Vec Ideal S256x512 .bf16) (kr : Vec Ideal S256x64 .bf16) (cos sin : Vec Ideal S256x64 .f32) (w : Vec Ideal S512x2048 .bf16)
  (gkv : Vec Ideal S1x512 .f32) (gqn : Vec Ideal S1x128 .f32) (gqr : Vec Ideal S1x64 .f32) (gkn : Vec Ideal S1x128 .f32)
  (gkr : Vec Ideal S1x64 .f32) (dq : Vec Ideal S8x1x192x256 .f32) (dk : Vec Ideal S8x256x192 .f32) (dv : Vec Ideal S8x256x128 .f32)
  (h : Fin 8)

/-- The plain query, its incoming gradient, and its gradient before the norm. -/
def Qn : FVec Ideal S256x128 .f32 := extractStridedSlice S256x128 ![0, h.val * 128] (k0_pay3 q) (slicesQn h)
def DQn : FVec Ideal S256x128 .f32 := k0_pay183 (k0_pay161 (View.ld dq (Rect.unit ![h.val, 0, 0, 0] ![1, 1, 192, 256] (inbDq h))))
def GQn : FVec Ideal S256x128 .f32 := k0_pay211 (k0_pay11 gqn) (Qn q h) (k0_pay60 (Qn q h)) (k0_pay61 (Qn q h)) (DQn dq h)
/-- The rotary query, likewise. -/
def Qr : FVec Ideal S256x64 .f32 := extractStridedSlice S256x64 ![0, h.val * 64] (k0_pay4 p) (slicesQr h)
def DQr : FVec Ideal S256x64 .f32 :=
  k0_pay184 (k0_pay7 cos) (k0_pay8 sin) (k0_pay161 (View.ld dq (Rect.unit ![h.val, 0, 0, 0] ![1, 1, 192, 256] (inbDq h))))
def GQr : FVec Ideal S256x64 .f32 := k0_pay283 (Qr p h) (k0_pay12 gqr) (k0_pay56 (Qr p h)) (k0_pay57 (Qr p h)) (DQr cos sin dq h)
/-- The key, likewise, and the value's gradient. -/
def Kn : FVec Ideal S256x128 .f32 :=
  extractStridedSlice S256x128 ![0, h.val * 128] (k0_pay21 (k0_pay5 ckv) (k0_pay9 w) (k0_pay10 gkv) (k0_pay15 ckv)) (slicesKey h)
def DKn : FVec Ideal S256x128 .f32 := k0_pay178 (k0_pay169 (View.ld dk (Rect.unit ![h.val, 0, 0] ![1, 256, 192] (inbDk h))))
def GKn : FVec Ideal S256x128 .f32 :=
  k0_pay211 (k0_pay13 gkn) (Kn ckv w gkv h) (k0_pay60 (Kn ckv w gkv h)) (k0_pay61 (Kn ckv w gkv h)) (DKn dk h)
def DV : FVec Ideal S256x128 .f32 := k0_pay170 (View.ld dv (Rect.unit ![h.val, 0, 0] ![1, 256, 128] (inbDv h)))
/-- A head's block of the keys' incoming gradient. -/
def Dk : FVec Ideal S256x192 .f32 := k0_pay169 (View.ld dk (Rect.unit ![h.val, 0, 0] ![1, 256, 192] (inbDk h)))

/-- The rotary keys' incoming gradients added up, and turned back. -/
def DkrSum : FVec Ideal S256x64 .f32 :=
  k0_pay194 (Dk dk 0) (k0_pay194 (Dk dk 1) (k0_pay194 (Dk dk 2) (k0_pay194 (Dk dk 3) (k0_pay194 (Dk dk 4) (k0_pay194 (Dk dk 5)
    (k0_pay194 (Dk dk 6) (k0_pay179 (Dk dk 7))))))))
def DKr : FVec Ideal S256x64 .f32 := k0_pay281 (k0_pay7 cos) (k0_pay8 sin) (DkrSum dk)

/-- Eight rows of gain gradients added up, last head first. -/
def sum128 (x d : Fin 8 → FVec Ideal S256x128 .f32) : FVec Ideal S1x128 .f32 :=
  k0_pay205 (k0_pay62 (x 0)) (k0_pay205 (k0_pay62 (x 1)) (k0_pay205 (k0_pay62 (x 2)) (k0_pay205 (k0_pay62 (x 3)) (k0_pay205 (k0_pay62 (x 4))
    (k0_pay205 (k0_pay62 (x 5)) (k0_pay205 (k0_pay62 (x 6)) (k0_pay191 (k0_pay62 (x 7)) (d 7)) (d 6)) (d 5)) (d 4)) (d 3)) (d 2)) (d 1)) (d 0)
def first64 (x d : FVec Ideal S256x64 .f32) : FVec Ideal S1x64 .f32 :=
  shapeCast S1x64 (multiReduction .add [0] S64 (mulf (k0_pay58 x) d) 0x00000000#32 reduces_S256x64_S64 (.inl rfl) rfl) shapeCasts_S64_S1x64
def sum64 (x d : Fin 8 → FVec Ideal S256x64 .f32) : FVec Ideal S1x64 .f32 :=
  k0_pay277 (k0_pay277 (k0_pay277 (k0_pay277 (k0_pay277 (k0_pay277 (k0_pay277 (first64 (x 7) (d 7)) (mulf (k0_pay58 (x 6)) (d 6)))
    (mulf (k0_pay58 (x 5)) (d 5))) (mulf (k0_pay58 (x 4)) (d 4))) (mulf (k0_pay58 (x 3)) (d 3))) (mulf (k0_pay58 (x 2)) (d 2)))
    (mulf (k0_pay58 (x 1)) (d 1))) (mulf (k0_pay58 (x 0)) (d 0))

/-- What is made of all keys' and values' gradients. -/
def Joined (K V : Fin 8 → FVec Ideal S256x128 .f32) : FVec Ideal S256x2048 .bf16 :=
  k0_pay284 (V 0) (V 1) (V 2) (V 3) (V 4) (V 5) (V 6) (V 7) (K 7) (K 6) (K 5) (K 4) (K 3) (K 2) (K 1) (K 0)
def Spread (K V : Fin 8 → FVec Ideal S256x128 .f32) : FVec Ideal S256x512 .f32 :=
  k0_pay285 (k0_pay9 w) (V 0) (V 1) (V 2) (V 3) (V 4) (V 5) (V 6) (V 7) (K 7) (K 6) (K 5) (K 4) (K 3) (K 2) (K 1) (K 0)
def Outer (K V : Fin 8 → FVec Ideal S256x128 .f32) : FVec Ideal S512x2048 .bf16 :=
  k0_pay286 (k0_pay20 (k0_pay5 ckv) (k0_pay10 gkv) (k0_pay15 ckv)) (V 0) (V 1) (V 2) (V 3) (V 4) (V 5) (V 6) (V 7) (K 7) (K 6) (K 5) (K 4) (K 3)
    (K 2) (K 1) (K 0)
def GainKv (K V : Fin 8 → FVec Ideal S256x128 .f32) : FVec Ideal S1x512 .f32 :=
  k0_pay287 (k0_pay9 w) (k0_pay19 (k0_pay5 ckv) (k0_pay15 ckv)) (V 0) (V 1) (V 2) (V 3) (V 4) (V 5) (V 6) (V 7) (K 7) (K 6) (K 5) (K 4) (K 3)
    (K 2) (K 1) (K 0)
def GCkv (K V : Fin 8 → FVec Ideal S256x128 .f32) : FVec Ideal S256x512 .f32 :=
  k0_pay288 (k0_pay5 ckv) (k0_pay9 w) (k0_pay10 gkv) (k0_pay17 (k0_pay15 ckv)) (k0_pay18 (k0_pay15 ckv)) (V 0) (V 1) (V 2) (V 3) (V 4) (V 5) (V 6)
    (V 7) (K 7) (K 6) (K 5) (K 4) (K 3) (K 2) (K 1) (K 0)

/-- The four stores of the gradient buffer. -/
def storeQn : FVec Ideal S256x1024 .bf16 :=
  k0_pay289 (k0_pay280 (k0_pay11 gqn) (Qn q 0) (k0_pay60 (Qn q 0)) (k0_pay61 (Qn q 0)) (GQn q gqn dq 7) (GQn q gqn dq 6) (GQn q gqn dq 5)
    (GQn q gqn dq 4) (GQn q gqn dq 3) (GQn q gqn dq 2) (GQn q gqn dq 1) (DQn dq 0))
def storeQr : FVec Ideal S256x512 .bf16 :=
  k0_pay290 (k0_pay279 (k0_pay12 gqr) (Qr p 0) (k0_pay56 (Qr p 0)) (k0_pay57 (Qr p 0)) (GQr p cos sin gqr dq 7) (GQr p cos sin gqr dq 6)
    (GQr p cos sin gqr dq 5) (GQr p cos sin gqr dq 4) (GQr p cos sin gqr dq 3) (GQr p cos sin gqr dq 2) (GQr p cos sin gqr dq 1) (DQr cos sin dq 0))
def storeCkv : FVec Ideal S256x512 .bf16 := k0_pay291 (GCkv ckv w gkv (GKn ckv w gkv gkn dk) (DV dv))
def storeKr : FVec Ideal S256x256 .bf16 :=
  k0_pay292 (k0_pay283 (k0_pay6 kr) (k0_pay14 gkr) (k0_pay31 (k0_pay6 kr)) (k0_pay32 (k0_pay6 kr)) (DKr cos sin dk))
/-- A tile's part of the gradients of the up-projection and of the five gains. -/
def partW : FVec Ideal S512x2048 .f32 := k0_pay293 (Outer ckv gkv (GKn ckv w gkv gkn dk) (DV dv))
def partKv : FVec Ideal S1x512 .f32 := GainKv ckv w (GKn ckv w gkv gkn dk) (DV dv)
def partQn : FVec Ideal S1x128 .f32 := sum128 (Qn q) (DQn dq)
def partQr : FVec Ideal S1x64 .f32 := sum64 (Qr p) (DQr cos sin dq)
def partKn : FVec Ideal S1x128 .f32 := sum128 (Kn ckv w gkv) (DKn dk)
def partKr : FVec Ideal S1x64 .f32 := first64 (k0_pay6 kr) (DKr cos sin dk)

end Text

/-- Eight heads' sums over the rows, last head first. -/
theorem sum_heads (f : Fin 256 → Fin 8 → EReal) :
    (∑ r, f r 7) + (∑ r, f r 6) + (∑ r, f r 5) + (∑ r, f r 4) + (∑ r, f r 3) + (∑ r, f r 2) + (∑ r, f r 1) + (∑ r, f r 0)
      = ∑ r, ∑ h, f r h := by
  rw [Finset.sum_comm, Fin.sum_univ_eight]
  ac_rfl

/-- Eight heads' numbers, last head first. -/
theorem add_heads (f : Fin 8 → EReal) : f 7 + f 6 + f 5 + f 4 + f 3 + f 2 + f 1 + f 0 = ∑ h, f h := by
  rw [Fin.sum_univ_eight]
  ac_rfl

theorem sum128_apply (x d : Fin 8 → FVec Ideal S256x128 .f32) (X D : Fin 256 → Fin 8 → Fin 128 → EReal) (l : Fin 128)
    (hx : ∀ h r k, x h (ix2 r k) = X r h k) (hd : ∀ h r k, d h (ix2 r k) = D r h k) :
    sum128 x d (ix2 0 l) = ∑ r, ∑ h, Rows.gain 0x43000000#32 (X r h) (D r h) l := by
  refine Eq.trans ?_ (sum_heads fun r h => Rows.gain 0x43000000#32 (X r h) (D r h) l)
  have s7 := gain128 (x 7) (d 7) (fun r => X r 7) (fun r => D r 7) l (hx 7) (hd 7)
  have s6 := moreGain128 (x 6) (d 6) (fun r => X r 6) (fun r => D r 6) l _ _ s7 (hx 6) (hd 6)
  have s5 := moreGain128 (x 5) (d 5) (fun r => X r 5) (fun r => D r 5) l _ _ s6 (hx 5) (hd 5)
  have s4 := moreGain128 (x 4) (d 4) (fun r => X r 4) (fun r => D r 4) l _ _ s5 (hx 4) (hd 4)
  have s3 := moreGain128 (x 3) (d 3) (fun r => X r 3) (fun r => D r 3) l _ _ s4 (hx 3) (hd 3)
  have s2 := moreGain128 (x 2) (d 2) (fun r => X r 2) (fun r => D r 2) l _ _ s3 (hx 2) (hd 2)
  have s1 := moreGain128 (x 1) (d 1) (fun r => X r 1) (fun r => D r 1) l _ _ s2 (hx 1) (hd 1)
  exact moreGain128 (x 0) (d 0) (fun r => X r 0) (fun r => D r 0) l _ _ s1 (hx 0) (hd 0)

theorem sum64_apply (x d : Fin 8 → FVec Ideal S256x64 .f32) (X D : Fin 256 → Fin 8 → Fin 64 → EReal) (l : Fin 64)
    (hx : ∀ h r k, x h (ix2 r k) = X r h k) (hd : ∀ h r k, d h (ix2 r k) = D r h k) :
    sum64 x d (ix2 0 l) = ∑ r, ∑ h, Rows.gain 0x42800000#32 (X r h) (D r h) l := by
  refine Eq.trans ?_ (sum_heads fun r h => Rows.gain 0x42800000#32 (X r h) (D r h) l)
  have s7 := gain64 (x 7) (d 7) (fun r => X r 7) (fun r => D r 7) l (hx 7) (hd 7)
  have s6 := moreGain64 (x 6) (d 6) (fun r => X r 6) (fun r => D r 6) l _ _ s7 (hx 6) (hd 6)
  have s5 := moreGain64 (x 5) (d 5) (fun r => X r 5) (fun r => D r 5) l _ _ s6 (hx 5) (hd 5)
  have s4 := moreGain64 (x 4) (d 4) (fun r => X r 4) (fun r => D r 4) l _ _ s5 (hx 4) (hd 4)
  have s3 := moreGain64 (x 3) (d 3) (fun r => X r 3) (fun r => D r 3) l _ _ s4 (hx 3) (hd 3)
  have s2 := moreGain64 (x 2) (d 2) (fun r => X r 2) (fun r => D r 2) l _ _ s3 (hx 2) (hd 2)
  have s1 := moreGain64 (x 1) (d 1) (fun r => X r 1) (fun r => D r 1) l _ _ s2 (hx 1) (hd 1)
  exact moreGain64 (x 0) (d 0) (fun r => X r 0) (fun r => D r 0) l _ _ s1 (hx 0) (hd 0)

/-- Keys before values: the columns of the up-projection in the kernel's order. -/
theorem dkv_order (A : Args) (g : Fin 8192) (j : Fin 2048) :
    (if j.val < 1024 then gradKey A g ⟨j.val / 128 % 8, by omega⟩ (laneOf j) else A.dv g ⟨j.val / 128 % 8, by omega⟩ (laneOf j))
      = dkv A g (order j) := by
  have eh : headOf (order j) = ⟨j.val / 128 % 8, by omega⟩ := Fin.ext (by
    have e1 : j.val % 1024 / 128 = j.val / 128 % 8 := by omega
    simp only [headOf, order]
    rw [← e1]
    omega)
  have el : laneOf (order j) = laneOf j := Fin.ext (by simp only [laneOf, order]; omega)
  rw [dkv, eh, el]
  by_cases h : j.val < 1024
  · rw [if_pos h, if_pos (by simp only [order]; omega)]
  · rw [if_neg h, if_neg (by simp only [order]; omega)]

/-! What that text computes. -/

section
include R

theorem qn_at (h : Fin 8) (r : Fin 256) (k : Fin 128) : Qn q h (ix2 r k) = A.qn (e r) h k := by
  refine (head128 r h (k0_pay3 q) (slicesQn h) k).trans ((?_ : _ = _).trans (R.qn r h k))
  pointwise [k0_pay3]

theorem qr_at (h : Fin 8) (r : Fin 256) (k : Fin 64) : Qr p h (ix2 r k) = A.qr (e r) h k := by
  refine (head64 r h (k0_pay4 p) (slicesQr h) k).trans ((?_ : _ = _).trans (R.qr r h k))
  pointwise [k0_pay4]

theorem dqn_at (h : Fin 8) (r : Fin 256) (l : Fin 128) : DQn dq h (ix2 r l) = dqn A (e r) h l :=
  plain r _ (A.dq (e r) h) (fun k => (headDq r h dq (inbDq h) k).trans (R.dq h k r)) l

theorem dqr_at (h : Fin 8) (r : Fin 256) (l : Fin 64) : DQr cos sin dq h (ix2 r l) = dqr A (e r) h l :=
  turned _ r _ (k0_pay7 cos) (k0_pay8 sin) (A.cos (e r)) (A.sin (e r)) (cos_at R r) (sin_at R r)
    (rotary r _ (A.dq (e r) h) (fun k => (headDq r h dq (inbDq h) k).trans (R.dq h k r))) l

theorem gqn_head (h : Fin 8) (r : Fin 256) (l : Fin 128) : GQn q gqn dq h (ix2 r l) = gradQn A (e r) h l :=
  grad128 _ _ _ r _ _ _ (qn_at R h r) (dqn_at R h r) (gqn_at R) l

theorem gqr_head (h : Fin 8) (r : Fin 256) (l : Fin 64) : GQr p cos sin gqr dq h (ix2 r l) = gradQr A (e r) h l :=
  grad64 _ _ _ r _ _ _ (qr_at R h r) (dqr_at R h r) (gqr_at R) l

theorem latents_at (r : Fin 256) (k : Fin 512) :
    k0_pay20 (k0_pay5 ckv) (k0_pay10 gkv) (k0_pay15 ckv) (ix2 r k) = latents A (e r) k :=
  latent ckv _ r (A.ckv (e r)) A.gkv (R.ckv r) (gkv_at R) k

theorem key_at (h : Fin 8) (r : Fin 256) (d : Fin 128) : Kn ckv w gkv h (ix2 r d) = key A (e r) h d := by
  refine (headKey r h _ (slicesKey h) d).trans
    ((projected ckv _ _ r (latents A (e r)) (fun k j => A.w k (order j)) (latents_at R r) (w_at R) _).trans ?_)
  have o : order ⟨h.val * 128 + d.val, by omega⟩ = keyCol h d := Fin.ext (by simp only [order, keyCol]; omega)
  rw [o]
  rfl

theorem dkn_at (h : Fin 8) (r : Fin 256) (l : Fin 128) : DKn dk h (ix2 r l) = dkn A (e r) h l :=
  plainKey r _ (A.dk (e r) h) (fun k => (headDk r h dk (inbDk h) k).trans (R.dk h r k)) l

theorem dv_at (h : Fin 8) (r : Fin 256) (l : Fin 128) : DV dv h (ix2 r l) = A.dv (e r) h l :=
  value r _ (A.dv (e r) h) (fun k => (headDv r h dv (inbDv h) k).trans (R.dv h r k)) l

theorem gkn_head (h : Fin 8) (r : Fin 256) (l : Fin 128) : GKn ckv w gkv gkn dk h (ix2 r l) = gradKey A (e r) h l :=
  grad128 _ _ _ r _ _ _ (key_at R h r) (dkn_at R h r) (gkn_at R) l

theorem joined_at (r : Fin 256) (j : Fin 2048) : Joined (GKn ckv w gkv gkn dk) (DV dv) (ix2 r j) = dkv A (e r) (order j) :=
  (keysValues _ _ _ _ _ _ _ _ _ _ _ _ _ _ _ _ r (gradKey A (e r)) (A.dv (e r)) (gkn_head R 0 r) (gkn_head R 1 r) (gkn_head R 2 r)
    (gkn_head R 3 r) (gkn_head R 4 r) (gkn_head R 5 r) (gkn_head R 6 r) (gkn_head R 7 r) (dv_at R 0 r) (dv_at R 1 r) (dv_at R 2 r)
    (dv_at R 3 r) (dv_at R 4 r) (dv_at R 5 r) (dv_at R 6 r) (dv_at R 7 r) j).trans (dkv_order A (e r) j)

theorem spread_at (r : Fin 256) (k : Fin 512) : Spread w (GKn ckv w gkv gkn dk) (DV dv) (ix2 r k) = dlatents A (e r) k :=
  (spread _ (fun k j => A.w k (order j)) _ _ _ _ _ _ _ _ _ _ _ _ _ _ _ _ r (fun j => dkv A (e r) (order j)) (joined_at R r) (w_at R) k).trans
    (sum_order fun j => dkv A (e r) j * A.w k j)

theorem dkr_at (r : Fin 256) (l : Fin 64) : DKr cos sin dk (ix2 r l) = dkr A (e r) l := by
  refine turned _ r (fun l => ∑ h, A.dk (e r) h (rope l)) (k0_pay7 cos) (k0_pay8 sin) (A.cos (e r)) (A.sin (e r)) (cos_at R r) (sin_at R r)
    (fun l => ?_) l
  have d := fun (h : Fin 8) k => (headDk r h dk (inbDk h) k).trans (R.dk h r k)
  refine Eq.trans ?_ (add_heads fun h => A.dk (e r) h (rope l))
  have s7 := rotaryKey r _ (A.dk (e r) 7) (d 7) l
  have s6 := moreRotaryKey r _ _ _ (A.dk (e r) 6) l s7 (d 6)
  have s5 := moreRotaryKey r _ _ _ (A.dk (e r) 5) l s6 (d 5)
  have s4 := moreRotaryKey r _ _ _ (A.dk (e r) 4) l s5 (d 4)
  have s3 := moreRotaryKey r _ _ _ (A.dk (e r) 3) l s4 (d 3)
  have s2 := moreRotaryKey r _ _ _ (A.dk (e r) 2) l s3 (d 2)
  have s1 := moreRotaryKey r _ _ _ (A.dk (e r) 1) l s2 (d 1)
  exact moreRotaryKey r _ _ _ (A.dk (e r) 0) l s1 (d 0)

/-! The stores. -/

theorem storeQn_at (r : Fin 256) (j : Fin 1024) :
    storeQn q gqn dq (ix2 r j) = gradQn A (e r) ⟨j.val / 128, by omega⟩ ⟨j.val % 128, by omega⟩ :=
  queries _ _ _ _ _ _ _ _ _ _ _ _ r (gradQn A (e r)) (gqn_head R 0 r) (gqn_head R 1 r) (gqn_head R 2 r) (gqn_head R 3 r) (gqn_head R 4 r)
    (gqn_head R 5 r) (gqn_head R 6 r) (gqn_head R 7 r) j

theorem storeQr_at (r : Fin 256) (j : Fin 512) :
    storeQr p cos sin gqr dq (ix2 r j) = gradQr A (e r) ⟨j.val / 64, by omega⟩ ⟨j.val % 64, by omega⟩ :=
  rotaries _ _ _ _ _ _ _ _ _ _ _ _ r (gradQr A (e r)) (gqr_head R 0 r) (gqr_head R 1 r) (gqr_head R 2 r) (gqr_head R 3 r) (gqr_head R 4 r)
    (gqr_head R 5 r) (gqr_head R 6 r) (gqr_head R 7 r) j

theorem storeCkv_at (r : Fin 256) (l : Fin 512) : storeCkv ckv w gkv gkn dk dv (ix2 r l) = gradCkv A (e r) l :=
  grad512 _ _ _ _ _ _ _ _ _ _ _ _ _ _ _ _ _ ckv _ r (A.ckv (e r)) (dlatents A (e r)) A.gkv (R.ckv r) (gkv_at R) (spread_at R r) l

theorem storeKr_at (r : Fin 256) (j : Fin 256) :
    storeKr kr cos sin gkr dk (ix2 r j) = if h : j.val < 64 then gradKr A (e r) ⟨j.val, h⟩ else 0 :=
  padded _ r (gradKr A (e r)) (grad64 _ _ _ r _ _ _ (kr_at R r) (dkr_at R r) (gkr_at R)) j

theorem partW_at (k : Fin 512) (j : Fin 2048) :
    partW ckv w gkv gkn dk dv (ix2 k j) = ∑ r, latents A (e r) k * dkv A (e r) (order j) :=
  outer _ _ _ _ _ _ _ _ _ _ _ _ _ _ _ _ _ (fun r => latents A (e r)) (fun r j => dkv A (e r) (order j)) (joined_at R) (latents_at R) k j

theorem partKv_at (l : Fin 512) :
    partKv ckv w gkv gkn dk dv (ix2 0 l) = ∑ r, Rows.gain 0x44000000#32 (A.ckv (e r)) (dlatents A (e r)) l :=
  gain512 _ _ _ _ _ _ _ _ _ _ _ _ _ _ _ _ _ ckv (fun r => A.ckv (e r)) (fun r => dlatents A (e r)) R.ckv (spread_at R) l

theorem partQn_at (l : Fin 128) :
    partQn q dq (ix2 0 l) = ∑ r, ∑ h, Rows.gain 0x43000000#32 (A.qn (e r) h) (dqn A (e r) h) l :=
  sum128_apply _ _ (fun r => A.qn (e r)) (fun r => dqn A (e r)) l (qn_at R) (dqn_at R)

theorem partQr_at (l : Fin 64) :
    partQr p cos sin dq (ix2 0 l) = ∑ r, ∑ h, Rows.gain 0x42800000#32 (A.qr (e r) h) (dqr A (e r) h) l :=
  sum64_apply _ _ (fun r => A.qr (e r)) (fun r => dqr A (e r)) l (qr_at R) (dqr_at R)

theorem partKn_at (l : Fin 128) :
    partKn ckv w gkv dk (ix2 0 l) = ∑ r, ∑ h, Rows.gain 0x43000000#32 (key A (e r) h) (dkn A (e r) h) l :=
  sum128_apply _ _ (fun r => key A (e r)) (fun r => dkn A (e r)) l (key_at R) (dkn_at R)

theorem partKr_at (l : Fin 64) :
    partKr kr cos sin dk (ix2 0 l) = ∑ r, Rows.gain 0x42800000#32 (A.kr (e r)) (dkr A (e r)) l :=
  gain64 _ _ (fun r => A.kr (e r)) (fun r => dkr A (e r)) l (kr_at R) (dkr_at R)

end

end Cert.MlaBackIdeal.Tile

end
-- ==== Proof.MlaRef.lean ====
/-
  The reference of the latent projections' gradient, read at an index: the derivative of the plain lines of
  all 8192 tokens, as the formulas of `MlaRows`.
-/
module

public import proofs.«01_k».proof.Proof.Gen.MlaRefIdeal.Read
public import proofs.«01_k».proof.Proof.MlaRows
public import proofs.«01_k».proof.Proof.Consts
public import proofs.«01_k».proof.Proof.LeadingSum
public import Idealize.ShloMosaic.Lib.Pipeline.ValueKit

@[expose] public section

set_option maxRecDepth 16384

noncomputable section

open Idealize.ShloMosaic Idealize.ShloMosaic.TcCoe Idealize.SL.Sem

namespace Cert.MlaRefIdeal.Math

open Cert.MlaRefIdeal Cert.MlaRefIdeal.Gen Cert.MlaRefIdeal.Read Cert.Mla

/-- The reference's arguments. -/
structure Arrays where
  x : FVec Ideal S8192x6720 .f32
  ps : IVec S8192 32
  gkv : FVec Ideal S512 .f32
  w : FVec Ideal S512x2048 .f32
  gqn : FVec Ideal S128 .f32
  gqr : FVec Ideal S64 .f32
  gkn : FVec Ideal S128 .f32
  gkr : FVec Ideal S64 .f32
  dq : FVec Ideal S8x8192x192 .f32
  dk : FVec Ideal S8x8192x192 .f32
  dv : FVec Ideal S8x8192x128 .f32
  dp : FVec Ideal S8192x6912 .bf16

variable (a : Arrays)

/-- The columns of the projection. -/
def qnCol (h : Fin 8) (l : Fin 128) : Fin 6720 := ⟨3584 + (h.val * 192 + l.val), by omega⟩
def qrCol (h : Fin 8) (l : Fin 64) : Fin 6720 := ⟨3584 + (h.val * 192 + (128 + l.val)), by omega⟩
def ckvCol (l : Fin 512) : Fin 6720 := ⟨5120 + l.val, by omega⟩
def krCol (l : Fin 64) : Fin 6720 := ⟨5632 + l.val, by omega⟩

/-- The arguments by token and head; the tables of the rotary embedding as the plain lines compute them
    from the positions. -/
abbrev args : Args where
  qn g h l := a.x (ix2 g (qnCol h l))
  qr g h l := a.x (ix2 g (qrCol h l))
  ckv g l := a.x (ix2 g (ckvCol l))
  kr g l := a.x (ix2 g (krCol l))
  cos g j := val_main_v17 (F := Ideal) a.ps (ix2 g j)
  sin g j := val_main_v18 (F := Ideal) a.ps (ix2 g j)
  w k j := a.w (ix2 k j)
  gkv l := a.gkv (ix1 l)
  gqn l := a.gqn (ix1 l)
  gqr l := a.gqr (ix1 l)
  gkn l := a.gkn (ix1 l)
  gkr l := a.gkr (ix1 l)
  dq g h j := a.dq (ix3 h g j)
  dk g h j := a.dk (ix3 h g j)
  dv g h d := a.dv (ix3 h g d)

theorem qn_apply (g : Fin 8192) (h : Fin 8) (l : Fin 128) : val_main_v23 (F := Ideal) a.x (ix3 g h l) = (args a).qn g h l := by
  pointwise! [val_main_v23, val_main_v22, val_main_v19, args, qnCol]
theorem qr_apply (g : Fin 8192) (h : Fin 8) (l : Fin 64) : val_main_v40 (F := Ideal) a.x (ix3 g h l) = (args a).qr g h l := by
  pointwise! [val_main_v40, val_main_v22, val_main_v19, args, qrCol]
theorem ckv_apply (g : Fin 8192) (l : Fin 512) : val_main_v20 (F := Ideal) a.x (ix2 g l) = (args a).ckv g l := by
  pointwise! [val_main_v20, args, ckvCol]
theorem kr_apply (g : Fin 8192) (l : Fin 64) : val_main_v21 (F := Ideal) a.x (ix2 g l) = (args a).kr g l := by
  pointwise! [val_main_v21, args, krCol]

/-! The queries. -/

theorem qnMean (g : Fin 8192) (h : Fin 8) :
    val_main_v30 (F := Ideal) a.x (ix3 g h 0) = Rows.meanSq 0x43000000#32 ((args a).qn g h) := by
  pointwise! [val_main_v30, val_main_v29, val_main_v28, val_main_v27, val_main_v26, val_main_v25, val_main_v24, val_main_cst_4,
    val_main_cst_5, val_main_cst_6, qn_apply, Rows.meanSq]

theorem qnScale (g : Fin 8192) (h : Fin 8) :
    val_main_v31 (F := Ideal) a.x (ix3 g h 0) = Rows.scale 0x43000000#32 ((args a).qn g h) := by
  rw [Rows.scale, ← qnMean]
  pointwise! [val_main_v31]

theorem dqn_apply (g : Fin 8192) (h : Fin 8) (l : Fin 128) :
    val_main_v152 (F := Ideal) a.dq (ix3 g h l) = dqn (args a) g h l := by
  pointwise! [val_main_v152, val_main_v151, val_main_v150, val_main_v144, val_main_cst_27, dqn, dquery, nope, args]

theorem gradQn_apply (g : Fin 8192) (h : Fin 8) (l : Fin 128) :
    val_main_v289 (F := Ideal) a.x a.gqn a.dq (ix3 g h l) = gradQn (args a) g h l := by
  pointwise [val_main_v289, val_main_v288, val_main_v287, val_main_v286, val_main_v285, val_main_v284, val_main_v283,
    val_main_v282, val_main_v281, val_main_v280, val_main_v279, val_main_v278, val_main_v277, val_main_v276, val_main_v274,
    val_main_v273, val_main_v37, val_main_v34, val_main_v33, val_main_v32, val_main_cst_7, val_main_cst_57, val_main_cst_58,
    val_main_cst_59, gradQn, Rows.grad, Rows.slope]
  simp only [Fin.sum_univ_one, Fin.isValue, qn_apply, qnScale, qnMean, dqn_apply]

/-- The gain's gradient: the sum over all tokens and heads. -/
theorem dgqn_apply (l : Fin 128) : val_main_v307 (F := Ideal) a.x a.dq (ix2 0 l) = dgqn (args a) l := by
  pointwise [val_main_v307, val_main_v275, val_main_v272, val_main_v271, val_main_v270, val_main_v36, val_main_v35,
    val_main_cst_55, val_main_cst_56, LeadingSum.sum_apply, qn_apply, qnScale, dqn_apply, Rows.gain, dgqn]
  simp only [Fin.sum_univ_one, Fin.isValue]

theorem dqRope_apply (g : Fin 8192) (h : Fin 8) (l : Fin 64) :
    val_main_v153 (F := Ideal) a.dq (ix3 g h l) = dquery (args a) g h (rope l) := by
  pointwise! [val_main_v153, val_main_v151, val_main_v150, val_main_v144, val_main_cst_27, dquery, rope, args]

theorem qrMean (g : Fin 8192) (h : Fin 8) :
    val_main_v47 (F := Ideal) a.x (ix3 g h 0) = Rows.meanSq 0x42800000#32 ((args a).qr g h) := by
  pointwise! [val_main_v47, val_main_v46, val_main_v45, val_main_v44, val_main_v43, val_main_v42, val_main_v41, val_main_cst_8,
    val_main_cst_9, val_main_cst_10, qr_apply, Rows.meanSq]

theorem qrScale (g : Fin 8192) (h : Fin 8) :
    val_main_v48 (F := Ideal) a.x (ix3 g h 0) = Rows.scale 0x42800000#32 ((args a).qr g h) := by
  rw [Rows.scale, ← qrMean]
  pointwise! [val_main_v48]

/-- A head's rotary gradient turned back: the two halves, each padded with zeros, added. -/
theorem dqr_apply (g : Fin 8192) (h : Fin 8) (l : Fin 64) :
    val_main_v248 (F := Ideal) a.ps a.dq (ix3 g h l) = dqr (args a) g h l := by
  pointwise [val_main_v248, val_main_v247, val_main_v246, val_main_v245, val_main_v244, val_main_v243, val_main_v242,
    val_main_v241, val_main_v240, val_main_v239, val_main_v238, val_main_v237, val_main_v236, val_main_v235, val_main_v234,
    val_main_v233, val_main_v58, val_main_v57, val_main_cst_47, val_main_cst_48, dqRope_apply, dqr]
  exact turn_halves (fun j => val_main_v17 (F := Ideal) a.ps (ix2 g j)) (fun j => val_main_v18 (F := Ideal) a.ps (ix2 g j))
    (fun l => dquery (args a) g h (rope l)) l

theorem gradQr_apply (g : Fin 8192) (h : Fin 8) (l : Fin 64) :
    val_main_v268 (F := Ideal) a.x a.ps a.gqr a.dq (ix3 g h l) = gradQr (args a) g h l := by
  pointwise [val_main_v268, val_main_v267, val_main_v266, val_main_v265, val_main_v264, val_main_v263, val_main_v262,
    val_main_v261, val_main_v260, val_main_v259, val_main_v258, val_main_v257, val_main_v256, val_main_v255, val_main_v253,
    val_main_v252, val_main_v54, val_main_v51, val_main_v50, val_main_v49, val_main_cst_11, val_main_cst_51, val_main_cst_52,
    val_main_cst_53, gradQr, Rows.grad, Rows.slope]
  simp only [Fin.sum_univ_one, Fin.isValue, qr_apply, qrScale, qrMean, dqr_apply]

theorem dgqr_apply (l : Fin 64) : val_main_v308 (F := Ideal) a.x a.ps a.dq (ix2 0 l) = dgqr (args a) l := by
  pointwise [val_main_v308, val_main_v254, val_main_v251, val_main_v250, val_main_v249, val_main_v53, val_main_v52,
    val_main_cst_49, val_main_cst_50, LeadingSum.sum_apply, qr_apply, qrScale, dqr_apply, Rows.gain, dgqr]
  simp only [Fin.sum_univ_one, Fin.isValue]

/-! The latents, and the keys and values they give. -/

theorem ckvMean (g : Fin 8192) : val_main_v78 (F := Ideal) a.x (ix2 g 0) = Rows.meanSq 0x44000000#32 ((args a).ckv g) := by
  pointwise! [val_main_v78, val_main_v77, val_main_v76, val_main_v75, val_main_v74, val_main_v73, val_main_v72, val_main_cst_12,
    val_main_cst_13, val_main_cst_14, ckv_apply, Rows.meanSq]

theorem ckvScale (g : Fin 8192) : val_main_v79 (F := Ideal) a.x (ix2 g 0) = Rows.scale 0x44000000#32 ((args a).ckv g) := by
  rw [Rows.scale, ← ckvMean]
  pointwise! [val_main_v79]

theorem latents_apply (g : Fin 8192) (k : Fin 512) : val_main_v87 (F := Ideal) a.x a.gkv (ix2 g k) = latents (args a) g k := by
  pointwise! [val_main_v87, val_main_v86, val_main_v85, val_main_v84, val_main_v83, ckv_apply, ckvScale, latents]

theorem kv_apply (g : Fin 8192) (j : Fin 2048) :
    val_main_v88 (F := Ideal) a.x a.gkv a.w (ix2 g j) = kv (args a) g j := by
  pointwise! [val_main_v88, latents_apply, kv]

theorem key_apply (g : Fin 8192) (h : Fin 8) (d : Fin 128) :
    val_main_v90 (F := Ideal) a.x a.gkv a.w (ix3 g h d) = key (args a) g h d := by
  pointwise! [val_main_v90, val_main_v89, kv_apply, key, keyCol]

theorem keyMean (g : Fin 8192) (h : Fin 8) :
    val_main_v97 (F := Ideal) a.x a.gkv a.w (ix3 g h 0) = Rows.meanSq 0x43000000#32 (key (args a) g h) := by
  pointwise! [val_main_v97, val_main_v96, val_main_v95, val_main_v94, val_main_v93, val_main_v92, val_main_v91, val_main_cst_16,
    val_main_cst_17, val_main_cst_18, key_apply, Rows.meanSq]

theorem keyScale (g : Fin 8192) (h : Fin 8) :
    val_main_v98 (F := Ideal) a.x a.gkv a.w (ix3 g h 0) = Rows.scale 0x43000000#32 (key (args a) g h) := by
  rw [Rows.scale, ← keyMean]
  pointwise! [val_main_v98]

theorem dkn_apply (g : Fin 8192) (h : Fin 8) (l : Fin 128) :
    val_main_v145 (F := Ideal) a.dk (ix3 g h l) = dkn (args a) g h l := by
  pointwise! [val_main_v145, val_main_v143, dkn, nope]

theorem gradKey_apply (g : Fin 8192) (h : Fin 8) (l : Fin 128) :
    val_main_v206 (F := Ideal) a.x a.gkv a.w a.gkn a.dk (ix3 g h l) = gradKey (args a) g h l := by
  pointwise [val_main_v206, val_main_v205, val_main_v204, val_main_v203, val_main_v202, val_main_v201, val_main_v200,
    val_main_v199, val_main_v198, val_main_v197, val_main_v196, val_main_v195, val_main_v194, val_main_v193, val_main_v191,
    val_main_v190, val_main_v104, val_main_v101, val_main_v100, val_main_v99, val_main_cst_19, val_main_cst_38, val_main_cst_39,
    val_main_cst_40, gradKey, Rows.grad, Rows.slope]
  simp only [Fin.sum_univ_one, Fin.isValue, key_apply, keyScale, keyMean, dkn_apply]

theorem dgkn_apply (l : Fin 128) :
    val_main_v309 (F := Ideal) a.x a.gkv a.w a.dk (ix2 0 l) = dgkn (args a) l := by
  pointwise [val_main_v309, val_main_v192, val_main_v189, val_main_v188, val_main_v187, val_main_v103, val_main_v102,
    val_main_cst_36, val_main_cst_37, LeadingSum.sum_apply, key_apply, keyScale, dkn_apply, Rows.gain, dgkn]
  simp only [Fin.sum_univ_one, Fin.isValue]

/-- The gradient of keys and values, each half of a head's columns extended by zeros and added. -/
theorem dkv_apply (g : Fin 8192) (j : Fin 2048) :
    val_main_v209 (F := Ideal) a.x a.gkv a.w a.gkn a.dk a.dv (ix2 g j) = dkv (args a) g j := by
  pointwise [val_main_v209, val_main_v208, val_main_v207, val_main_v186, val_main_v142, val_main_cst_35, val_main_cst_41,
    gradKey_apply, dkv]
  have e1 : (⟨j.val / 256, by omega⟩ : Fin 8) = headOf j := rfl
  by_cases h : j.val % 256 < 128
  · refine (congrArg₂ (· + ·) (dif_neg (by omega)) (dif_pos ⟨by omega, h⟩)).trans ((zero_add _).trans ?_)
    refine Eq.trans ?_ (if_pos h).symm
    exact congrArg (gradKey (args a) g (headOf j)) (Fin.ext (by simp only [laneOf]; omega))
  · refine (congrArg₂ (· + ·) (dif_pos ⟨by omega, by omega, by omega⟩) (dif_neg (by omega))).trans ((add_zero _).trans ?_)
    refine Eq.trans ?_ (if_neg h).symm
    exact congrArg (fun d => a.dv (ix3 (headOf j) g d)) (Fin.ext (by simp only [laneOf]; omega))

theorem dlatents_apply (g : Fin 8192) (k : Fin 512) :
    val_main_v212 (F := Ideal) a.x a.gkv a.w a.gkn a.dk a.dv (ix2 g k) = dlatents (args a) g k := by
  pointwise! [val_main_v212, dkv_apply, dlatents]

theorem gradCkv_apply (g : Fin 8192) (k : Fin 512) :
    val_main_v232 (F := Ideal) a.x a.gkv a.w a.gkn a.dk a.dv (ix2 g k) = gradCkv (args a) g k := by
  pointwise [val_main_v232, val_main_v231, val_main_v230, val_main_v229, val_main_v228, val_main_v227, val_main_v226,
    val_main_v225, val_main_v224, val_main_v223, val_main_v222, val_main_v221, val_main_v220, val_main_v219, val_main_v217,
    val_main_v216, val_main_v85, val_main_v82, val_main_v81, val_main_v80, val_main_cst_15, val_main_cst_44, val_main_cst_45,
    val_main_cst_46, gradCkv, Rows.grad, Rows.slope]
  simp only [Fin.sum_univ_one, Fin.isValue, ckv_apply, ckvScale, ckvMean, dlatents_apply]

theorem dgkv_apply (l : Fin 512) :
    val_main_v306 (F := Ideal) a.x a.gkv a.w a.gkn a.dk a.dv (ix2 0 l) = dgkv (args a) l := by
  pointwise [val_main_v306, val_main_v218, val_main_v215, val_main_v214, val_main_v213, val_main_v84, val_main_v83,
    val_main_cst_42, val_main_cst_43, ckv_apply, ckvScale, dlatents_apply, Rows.gain, dgkv]
  simp only [Fin.sum_univ_one, Fin.isValue]

/-- The gradient of the up-projection, its columns in the kernel's order. -/
theorem dw_apply (k : Fin 512) (j : Fin 2048) :
    val_main_v303 (F := Ideal) a.x a.gkv a.w a.gkn a.dk a.dv (ix2 k j) = dw (args a) k (order j) := by
  pointwise [val_main_v303, val_main_v302, val_main_v301, val_main_v211, val_main_v210, latents_apply, dkv_apply, dw]
  have e : (⟨j.val / 128 % 8 * 256 + j.val / 1024 * 128 + j.val % 128, by omega⟩ : Fin 2048) = order j :=
    Fin.ext (by simp only [order]; omega)
  rw [e]
  exact Finset.sum_congr rfl fun g _ => mul_comm _ _

/-! The shared rotary key. -/

theorem krMean (g : Fin 8192) : val_main_v114 (F := Ideal) a.x (ix2 g 0) = Rows.meanSq 0x42800000#32 ((args a).kr g) := by
  pointwise! [val_main_v114, val_main_v113, val_main_v112, val_main_v111, val_main_v110, val_main_v109, val_main_v108,
    val_main_cst_20, val_main_cst_21, val_main_cst_22, kr_apply, Rows.meanSq]

theorem krScale (g : Fin 8192) : val_main_v115 (F := Ideal) a.x (ix2 g 0) = Rows.scale 0x42800000#32 ((args a).kr g) := by
  rw [Rows.scale, ← krMean]
  pointwise! [val_main_v115]

theorem dkRope_apply (g : Fin 8192) (l : Fin 64) :
    val_main_v149 (F := Ideal) a.dk (ix2 g l) = ∑ h, (args a).dk g h (rope l) := by
  pointwise [val_main_v149, val_main_v148, val_main_v147, val_main_v146, val_main_v143, val_main_cst_25, val_main_cst_26, rope]
  simp only [Fin.sum_univ_one, Fin.isValue]

theorem dkr_apply (g : Fin 8192) (l : Fin 64) :
    val_main_v165 (F := Ideal) a.ps a.dk (ix2 g l) = dkr (args a) g l := by
  pointwise [val_main_v165, val_main_v164, val_main_v163, val_main_v162, val_main_v161, val_main_v160, val_main_v159,
    val_main_v158, val_main_v157, val_main_v156, val_main_v155, val_main_v154, val_main_cst_28, val_main_cst_29,
    dkRope_apply, dkr]
  exact turn_halves (fun j => val_main_v17 (F := Ideal) a.ps (ix2 g j)) (fun j => val_main_v18 (F := Ideal) a.ps (ix2 g j))
    (fun l => ∑ h, (args a).dk g h (rope l)) l

theorem gradKr_apply (g : Fin 8192) (l : Fin 64) :
    val_main_v185 (F := Ideal) a.x a.ps a.gkr a.dk (ix2 g l) = gradKr (args a) g l := by
  pointwise [val_main_v185, val_main_v184, val_main_v183, val_main_v182, val_main_v181, val_main_v180, val_main_v179,
    val_main_v178, val_main_v177, val_main_v176, val_main_v175, val_main_v174, val_main_v173, val_main_v172, val_main_v170,
    val_main_v169, val_main_v121, val_main_v118, val_main_v117, val_main_v116, val_main_cst_23, val_main_cst_32, val_main_cst_33,
    val_main_cst_34, gradKr, Rows.grad, Rows.slope]
  simp only [Fin.sum_univ_one, Fin.isValue, kr_apply, krScale, krMean, dkr_apply]

theorem dgkr_apply (l : Fin 64) : val_main_v310 (F := Ideal) a.x a.ps a.dk (ix2 0 l) = dgkr (args a) l := by
  pointwise [val_main_v310, val_main_v171, val_main_v168, val_main_v167, val_main_v166, val_main_v120, val_main_v119,
    val_main_cst_30, val_main_cst_31, kr_apply, krScale, dkr_apply, Rows.gain, dgkr]
  simp only [Fin.sum_univ_one, Fin.isValue]

/-! The gradient buffer. -/

theorem columns_apply (g : Fin 8192) (l : Fin 2304) :
    val_main_v300 (F := Ideal) a.x a.ps a.gkv a.w a.gqn a.gqr a.gkn a.gkr a.dq a.dk a.dv (ix2 g l) = columns (args a) g l := by
  pointwise [val_main_v300, val_main_v299, val_main_v298, val_main_v297, val_main_v296, val_main_v295, val_main_v294,
    val_main_v293, val_main_v292, val_main_v291, val_main_v290, val_main_v269, val_main_cst_54, val_main_cst_60, val_main_cst_61,
    gradQr_apply, gradQn_apply, gradCkv_apply, gradKr_apply, columns]
  by_cases h1 : l.val < 1024
  · refine (dif_pos h1).trans (Eq.trans ?_ (if_pos h1).symm)
    refine (congrArg₂ (· + ·) (dif_neg (by omega)) (dif_pos ⟨by omega, by omega⟩)).trans ((zero_add _).trans ?_)
    exact congrArg₂ (gradQn (args a) g) (Fin.ext (by simp only []; omega)) rfl
  refine (dif_neg h1).trans (Eq.trans ?_ (if_neg h1).symm)
  by_cases h2 : l.val < 1536
  · refine (dif_pos (by omega)).trans (Eq.trans ?_ (if_pos h2).symm)
    refine (congrArg₂ (· + ·) (dif_pos ⟨by omega, by omega⟩) (dif_neg fun h => h.2)).trans ((add_zero _).trans ?_)
    exact congrArg₂ (gradQr (args a) g) (Fin.ext (by simp only []; omega)) rfl
  refine (dif_neg (by omega)).trans (Eq.trans ?_ (if_neg h2).symm)
  by_cases h3 : l.val < 2048
  · refine (dif_pos (by omega)).trans (Eq.trans ?_ (if_pos h3).symm)
    exact congrArg (gradCkv (args a) g) (Fin.ext (by simp only []; omega))
  refine (dif_neg (by omega)).trans (Eq.trans ?_ (if_neg h3).symm)
  by_cases h4 : l.val < 2112
  · refine (dif_pos (by omega)).trans (Eq.trans ?_ (if_pos h4).symm)
    exact congrArg (gradKr (args a) g) (Fin.ext (by simp only []; omega))
  exact (dif_neg (by omega)).trans (if_neg h4).symm

/-- The buffer: its first 4608 columns as they came, then the new columns. -/
theorem buffer_apply (g : Fin 8192) (l : Fin 6912) :
    val_main_v305 (F := Ideal) a.x a.ps a.gkv a.w a.gqn a.gqr a.gkn a.gkr a.dq a.dk a.dv a.dp (ix2 g l)
      = if h : l.val < 4608 then a.dp (ix2 g l) else columns (args a) g ⟨l.val - 4608, by omega⟩ := by
  pointwise [val_main_v305, val_main_v304, columns_apply]

end Cert.MlaRefIdeal.Math

end
-- ==== Proof.MlaEntry.lean ====
/-
  The latent projections' gradient: what the kernel's blocks hold at a point of its grid, from the arrays
  the program is given.
-/
module

public import proofs.«01_k».proof.Proof.Gen.MlaBackIdeal.Value
public import proofs.«01_k».proof.Proof.MlaTile
public import proofs.«01_k».proof.Proof.MlaRef
public import proofs.«01_k».proof.Proof.Permute
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.MlaBackIdeal.Arrays

open Cert.MlaBackIdeal Cert.MlaBackIdeal.Gen Cert.Mla

variable (m : (ℓ : Loc nD τ sig) → Buf (Elt Ideal) ℓ) (c : Dev nD)

/-- The arrays the program is given. -/
abbrev given : MlaRefIdeal.Math.Arrays where
  x := m ((c : Thread nD τ).loc main_arg0)
  ps := m ((c : Thread nD τ).loc main_arg1)
  gkv := m ((c : Thread nD τ).loc main_arg2)
  w := m ((c : Thread nD τ).loc main_arg3)
  gqn := m ((c : Thread nD τ).loc main_arg4)
  gqr := m ((c : Thread nD τ).loc main_arg5)
  gkn := m ((c : Thread nD τ).loc main_arg6)
  gkr := m ((c : Thread nD τ).loc main_arg7)
  dq := m ((c : Thread nD τ).loc main_arg8)
  dk := m ((c : Thread nD τ).loc main_arg9)
  dv := m ((c : Thread nD τ).loc main_arg10)
  dp := m ((c : Thread nD τ).loc main_arg11)

/-- … by token and head. -/
abbrev args : Args := MlaRefIdeal.Math.args (given m c)

/-- Where each window's block stands at point `t`. -/
theorem idx : ∀ t : Fin cfg0.N, win0_0.index t = ![t.val, 2] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, t.val / 16, 0, t.val % 16]
    ∧ win0_10.index t = ![0, t.val, 0] ∧ win0_11.index t = ![0, t.val, 0] ∧ win0_12.index t = ![t.val, 2] ∧ win0_13.index t = ![0, 0]
    ∧ win0_14.index t = ![0, 0] ∧ win0_15.index t = ![0, 0] ∧ win0_16.index t = ![0, 0] ∧ win0_17.index t = ![0, 0]
    ∧ win0_18.index t = ![0, 0] ∧ t.val < 32 :=
  (by decide +kernel : ∀ t : Fin grid0.N, _)

theorem lt32 (t : Fin cfg0.N) : t.val < 32 := t.isLt.trans_eq (by decide)

/-- Row `r` of point `t`'s tile is token `256 t + r`. -/
def at_ (t : Fin cfg0.N) (r : Fin 256) : Fin 8192 := ⟨t.val * 256 + r.val, by have := lt32 t; omega⟩

/-! What the host's lines leave for the region. -/

theorem entryP : (V m c main_v41 : FVec Ideal S8192x6912 .bf16) = Permute.permuted (given m c).x := by
  unfold V
  unfold_abbrev_sides
  after_reads_simp
  rfl

theorem entryCos : (V m c main_v19 : FVec Ideal S8192x64 .f32)
    = concatenate S8192x64 1 [⟨S8192x32, MlaRefIdeal.Read.val_main_v17 (F := Ideal) (given m c).ps⟩,
        ⟨S8192x32, MlaRefIdeal.Read.val_main_v17 (F := Ideal) (given m c).ps⟩] concatenates_S8192x32_S8192x32_S8192x64_d1 := by
  unfold V
  unfold_abbrev_sides
  after_reads_simp
  rfl

/-- The sines as the plain lines compute them. -/
abbrev sines : FVec Ideal S8192x32 .f32 := MlaRefIdeal.Read.val_main_v18 (F := Ideal) (given m c).ps

theorem entrySin : (V m c main_v21 : FVec Ideal S8192x64 .f32)
    = (concatenate S8192x64 1 [⟨S8192x32, (Host.negf (sines m c) : FVec Ideal S8192x32 .f32)⟩, ⟨S8192x32, sines m c⟩]
        concatenates_S8192x32_S8192x32_S8192x64_d1 : FVec Ideal S8192x64 .f32) := by
  unfold V
  unfold_abbrev_sides
  after_reads_simp
  rfl

theorem place_low (l : Fin 64) (h : l.val < 32) : (⟨l.val, h⟩ : Fin 32) = place l := Fin.ext (by simp only [place]; omega)
theorem place_high (l : Fin 64) (h : l.val - 32 < 32) (h' : ¬ l.val < 32) : (⟨l.val - 32, h⟩ : Fin 32) = place l :=
  Fin.ext (by simp only [place]; omega)

theorem cos_apply (g : Fin 8192) (l : Fin 64) :
    (V m c main_v19 : FVec Ideal S8192x64 .f32) (ix2 g l) = (args m c).cos g (place l) := by
  refine (congrFun (entryCos m c) _).trans ?_
  pointwise [args, MlaRefIdeal.Math.args]
  by_cases h : l.val < 32
  · exact (dif_pos h).trans (congrArg (fun z => MlaRefIdeal.Read.val_main_v17 (F := Ideal) (given m c).ps (ix2 g z)) (place_low l h))
  · exact (dif_neg h).trans (congrArg (fun z => MlaRefIdeal.Read.val_main_v17 (F := Ideal) (given m c).ps (ix2 g z)) (place_high l _ h))

theorem sin_apply (g : Fin 8192) (l : Fin 64) : (V m c main_v21 : FVec Ideal S8192x64 .f32) (ix2 g l)
    = if l.val < 32 then -(args m c).sin g (place l) else (args m c).sin g (place l) := by
  refine (congrFun (entrySin m c) _).trans ?_
  pointwise [args, MlaRefIdeal.Math.args]
  by_cases h : l.val < 32
  · rw [if_pos h]
    exact (dif_pos h).trans (congrArg (fun z => -sines m c (ix2 g z)) (place_low l h))
  · rw [if_neg h]
    exact (dif_neg h).trans (congrArg (fun z => sines m c (ix2 g z)) (place_high l _ h))

theorem w_apply (k : Fin 512) (j : Fin 2048) : (V m c main_v25 : FVec Ideal S512x2048 .bf16) (ix2 k j) = (args m c).w k (order j) := by
  unfold V
  unfold_abbrev_sides
  after_reads_simp
  pointwise [args, MlaRefIdeal.Math.args]
  exact congrArg (fun z => (given m c).w (ix2 k z)) (Fin.ext (by simp only [order]; omega))

theorem dq_apply (h : Fin 8) (b : Fin 2) (k : Fin 192) (s : Fin 4096) : (V m c main_v27 : FVec Ideal S8x2x192x4096 .f32) (ix4 h b k s)
    = (args m c).dq ⟨b.val * 4096 + s.val, by omega⟩ h k := by
  unfold V
  unfold_abbrev_sides
  after_reads_simp
  pointwise [args, MlaRefIdeal.Math.args]

/-! The blocks. -/

theorem blockP (t : Fin cfg0.N) (r : Fin 256) (k : Fin 2304) :
    (iblk m c 0 t : Vec Ideal S256x2304 .bf16) (ix2 r k) = Permute.permuted (given m c).x (ix2 (at_ t r) ⟨4608 + k.val, by omega⟩) := by
  refine Eq.trans ?_ (congrFun (entryP m c) _)
  unfold iblk
  refine congrArg (V m c main_v41 : FVec Ideal S8192x6912 .bf16) ?_
  blk_ext [idx t, at_]

theorem load1024 (t : Fin cfg0.N) (r : Fin 256) (k : Fin 1024) :
    View.ld (iblk m c 0 t : Vec Ideal S256x2304 .bf16) (Rect.unit ![0, 0] ![256, 1024] inb_S256x2304_S256x1024_0_0) (ix2 r k)
      = Permute.permuted (given m c).x (ix2 (at_ t r) (Permute.queryCol k)) :=
  (View.ld_unit_apply_of (iblk m c 0 t : Vec Ideal S256x2304 .bf16) ![0, 0] ![256, 1024] inb_S256x2304_S256x1024_0_0 (ix2 r k)
    (ix2 r ⟨k.val, by omega⟩) fun a => match a with | 0 => (Nat.zero_add _).symm | 1 => (Nat.zero_add _).symm).trans (blockP m c t r _)

theorem load512 (t : Fin cfg0.N) (r : Fin 256) (k : Fin 512) :
    View.ld (iblk m c 0 t : Vec Ideal S256x2304 .bf16) (Rect.unit ![0, 1024] ![256, 512] inb_S256x2304_S256x512_0_1024) (ix2 r k)
      = Permute.permuted (given m c).x (ix2 (at_ t r) (Permute.queryRopeCol k)) :=
  (View.ld_unit_apply_of (iblk m c 0 t : Vec Ideal S256x2304 .bf16) ![0, 1024] ![256, 512] inb_S256x2304_S256x512_0_1024 (ix2 r k)
    (ix2 r ⟨1024 + k.val, by omega⟩) fun a => match a with | 0 => (Nat.zero_add _).symm | 1 => rfl).trans ((blockP m c t r _).trans
      (congrArg (fun z => Permute.permuted (given m c).x (ix2 (at_ t r) z)) (Fin.ext (by simp only [Permute.queryRopeCol]; omega))))

theorem loadLatents (t : Fin cfg0.N) (r : Fin 256) (k : Fin 512) :
    View.ld (iblk m c 0 t : Vec Ideal S256x2304 .bf16) (Rect.unit ![0, 1536] ![256, 512] inb_S256x2304_S256x512_0_1536) (ix2 r k)
      = Permute.permuted (given m c).x (ix2 (at_ t r) (Permute.latentCol k)) :=
  (View.ld_unit_apply_of (iblk m c 0 t : Vec Ideal S256x2304 .bf16) ![0, 1536] ![256, 512] inb_S256x2304_S256x512_0_1536 (ix2 r k)
    (ix2 r ⟨1536 + k.val, by omega⟩) fun a => match a with | 0 => (Nat.zero_add _).symm | 1 => rfl).trans ((blockP m c t r _).trans
      (congrArg (fun z => Permute.permuted (given m c).x (ix2 (at_ t r) z)) (Fin.ext (by simp only [Permute.latentCol]; omega))))

theorem loadKey (t : Fin cfg0.N) (r : Fin 256) (k : Fin 64) :
    View.ld (iblk m c 0 t : Vec Ideal S256x2304 .bf16) (Rect.unit ![0, 2048] ![256, 64] inb_S256x2304_S256x64_0_2048) (ix2 r k)
      = Permute.permuted (given m c).x (ix2 (at_ t r) (Permute.keyRopeCol k)) :=
  (View.ld_unit_apply_of (iblk m c 0 t : Vec Ideal S256x2304 .bf16) ![0, 2048] ![256, 64] inb_S256x2304_S256x64_0_2048 (ix2 r k)
    (ix2 r ⟨2048 + k.val, by omega⟩) fun a => match a with | 0 => (Nat.zero_add _).symm | 1 => rfl).trans ((blockP m c t r _).trans
      (congrArg (fun z => Permute.permuted (given m c).x (ix2 (at_ t r) z)) (Fin.ext (by simp only [Permute.keyRopeCol]; omega))))

theorem blockCos (t : Fin cfg0.N) (r : Fin 256) (l : Fin 64) :
    (iblk m c 1 t : Vec Ideal S256x64 .f32) (ix2 r l) = (args m c).cos (at_ t r) (place l) := by
  refine Eq.trans ?_ (cos_apply m c (at_ t r) l)
  unfold iblk
  refine congrArg (V m c main_v19 : FVec Ideal S8192x64 .f32) ?_
  blk_ext [idx t, at_]

theorem blockSin (t : Fin cfg0.N) (r : Fin 256) (l : Fin 64) : (iblk m c 2 t : Vec Ideal S256x64 .f32) (ix2 r l)
    = if l.val < 32 then -(args m c).sin (at_ t r) (place l) else (args m c).sin (at_ t r) (place l) := by
  refine Eq.trans ?_ (sin_apply m c (at_ t r) l)
  unfold iblk
  refine congrArg (V m c main_v21 : FVec Ideal S8192x64 .f32) ?_
  blk_ext [idx t, at_]

theorem blockW (t : Fin cfg0.N) (k : Fin 512) (j : Fin 2048) :
    (iblk m c 3 t : Vec Ideal S512x2048 .bf16) (ix2 k j) = (args m c).w k (order j) := by
  refine Eq.trans ?_ (w_apply m c k j)
  unfold iblk
  refine congrArg (V m c main_v25 : FVec Ideal S512x2048 .bf16) ?_
  blk_ext [idx t]

theorem blockGkv (t : Fin cfg0.N) (k : Fin 512) : (iblk m c 4 t : Vec Ideal S1x512 .f32) (ix2 0 k) = (args m c).gkv k := by
  blk_point [iblk, V, idx t]
theorem blockGqn (t : Fin cfg0.N) (k : Fin 128) : (iblk m c 5 t : Vec Ideal S1x128 .f32) (ix2 0 k) = (args m c).gqn k := by
  blk_point [iblk, V, idx t]
theorem blockGqr (t : Fin cfg0.N) (k : Fin 64) : (iblk m c 6 t : Vec Ideal S1x64 .f32) (ix2 0 k) = (args m c).gqr k := by
  blk_point [iblk, V, idx t]
theorem blockGkn (t : Fin cfg0.N) (k : Fin 128) : (iblk m c 7 t : Vec Ideal S1x128 .f32) (ix2 0 k) = (args m c).gkn k := by
  blk_point [iblk, V, idx t]
theorem blockGkr (t : Fin cfg0.N) (k : Fin 64) : (iblk m c 8 t : Vec Ideal S1x64 .f32) (ix2 0 k) = (args m c).gkr k := by
  blk_point [iblk, V, idx t]

theorem blockDq (t : Fin cfg0.N) (h : Fin 8) (k : Fin 192) (r : Fin 256) :
    (iblk m c 9 t : Vec Ideal S8x1x192x256 .f32) (ix4 h 0 k r) = (args m c).dq (at_ t r) h k := by
  have ht := lt32 t
  refine Eq.trans ?_ ((dq_apply m c h ⟨t.val / 16, by omega⟩ k ⟨t.val % 16 * 256 + r.val, by omega⟩).trans
    (congrArg (fun z => (args m c).dq z h k) (Fin.ext (by simp only [at_]; omega))))
  unfold iblk
  refine congrArg (V m c main_v27 : FVec Ideal S8x2x192x4096 .f32) ?_
  blk_ext [idx t]

theorem blockDk (t : Fin cfg0.N) (h : Fin 8) (r : Fin 256) (k : Fin 192) :
    (iblk m c 10 t : Vec Ideal S8x256x192 .f32) (ix3 h r k) = (args m c).dk (at_ t r) h k := by
  blk_ext [iblk, V, idx t, at_]
theorem blockDv (t : Fin cfg0.N) (h : Fin 8) (r : Fin 256) (k : Fin 128) :
    (iblk m c 11 t : Vec Ideal S8x256x128 .f32) (ix3 h r k) = (args m c).dv (at_ t r) h k := by
  blk_ext [iblk, V, idx t, at_]

/-- What the blocks of point `t` hold. -/
theorem reads (t : Fin cfg0.N) : Tile.Reads (args m c) (at_ t)
    (View.ld (iblk m c 0 t : Vec Ideal S256x2304 .bf16) (Rect.unit ![0, 0] ![256, 1024] inb_S256x2304_S256x1024_0_0))
    (View.ld (iblk m c 0 t : Vec Ideal S256x2304 .bf16) (Rect.unit ![0, 1024] ![256, 512] inb_S256x2304_S256x512_0_1024))
    (View.ld (iblk m c 0 t : Vec Ideal S256x2304 .bf16) (Rect.unit ![0, 1536] ![256, 512] inb_S256x2304_S256x512_0_1536))
    (View.ld (iblk m c 0 t : Vec Ideal S256x2304 .bf16) (Rect.unit ![0, 2048] ![256, 64] inb_S256x2304_S256x64_0_2048))
    (iblk m c 1 t) (iblk m c 2 t) (iblk m c 3 t) (iblk m c 4 t) (iblk m c 5 t) (iblk m c 6 t) (iblk m c 7 t) (iblk m c 8 t)
    (iblk m c 9 t) (iblk m c 10 t) (iblk m c 11 t) where
  qn r h k := (load1024 m c t r _).trans ((Permute.permuted_query (given m c).x (at_ t r) _).trans
    (congrArg (fun z => (given m c).x (ix2 (at_ t r) z)) (Fin.ext (by simp only [MlaRefIdeal.Math.qnCol]; omega))))
  qr r h k := (load512 m c t r _).trans ((Permute.permuted_queryRope (given m c).x (at_ t r) _).trans
    (congrArg (fun z => (given m c).x (ix2 (at_ t r) z)) (Fin.ext (by simp only [MlaRefIdeal.Math.qrCol]; omega))))
  ckv r k := (loadLatents m c t r k).trans (Permute.permuted_latent (given m c).x (at_ t r) k)
  kr r k := (loadKey m c t r k).trans (Permute.permuted_keyRope (given m c).x (at_ t r) k)
  cos := blockCos m c t
  sin := blockSin m c t
  w := blockW m c t
  gkv := blockGkv m c t
  gqn := blockGqn m c t
  gqr := blockGqr m c t
  gkn := blockGkn m c t
  gkr := blockGkr m c t
  dq := blockDq m c t
  dk := blockDk m c t
  dv := blockDv m c t

end Cert.MlaBackIdeal.Arrays

end
-- ==== Proof.MlaArray.lean ====
/-
  The latent projections' gradient, the arrays after the run: the new columns of the gradient buffer, and
  the gradients of the up-projection and of the five gains, put together from the 32 tiles.
-/
module

public import proofs.«01_k».proof.Proof.MlaEntry

@[expose] public section

set_option maxRecDepth 16384

noncomputable section

open Idealize.ShloMosaic Idealize.ShloMosaic.TcCoe Idealize.SL.Sem
open Idealize.ShloMosaic.Pipeline (Dat)

namespace Cert.MlaBackIdeal.Arrays

open Cert.MlaBackIdeal Cert.MlaBackIdeal.Gen Cert.Mla

variable (m : (ℓ : Loc nD τ sig) → Buf (Elt Ideal) ℓ) (c : Dev nD)

theorem colQn (g : Fin 8192) (j : Fin 2304) (k : Fin 1024) (h : j.val = k.val) :
    gradQn (args m c) g ⟨k.val / 128, by omega⟩ ⟨k.val % 128, by omega⟩ = columns (args m c) g j := by
  rw [columns, if_pos (by omega)]
  exact congrArg₂ (gradQn (args m c) g) (Fin.ext (by simp only []; omega)) (Fin.ext (by simp only []; omega))

theorem colQr (g : Fin 8192) (j : Fin 2304) (k : Fin 512) (h : j.val = 1024 + k.val) :
    gradQr (args m c) g ⟨k.val / 64, by omega⟩ ⟨k.val % 64, by omega⟩ = columns (args m c) g j := by
  rw [columns, if_neg (by omega), if_pos (by omega)]
  exact congrArg₂ (gradQr (args m c) g) (Fin.ext (by simp only []; omega)) (Fin.ext (by simp only []; omega))

theorem colCkv (g : Fin 8192) (j : Fin 2304) (k : Fin 512) (h : j.val = 1536 + k.val) :
    gradCkv (args m c) g k = columns (args m c) g j := by
  rw [columns, if_neg (by omega), if_neg (by omega), if_pos (by omega)]
  exact congrArg (gradCkv (args m c) g) (Fin.ext (by simp only []; omega))

theorem colKr (g : Fin 8192) (j : Fin 2304) (k : Fin 256) (h : j.val = 2048 + k.val) :
    (if h : k.val < 64 then gradKr (args m c) g ⟨k.val, h⟩ else 0) = columns (args m c) g j := by
  rw [columns, if_neg (by omega), if_neg (by omega), if_neg (by omega)]
  by_cases hk : k.val < 64
  · rw [dif_pos hk, if_pos (by omega)]
    exact congrArg (gradKr (args m c) g) (Fin.ext (by simp only []; omega))
  · rw [dif_neg hk, if_neg (by omega)]

/-- The four stores of the new columns cover the tile. -/
theorem cover (w1 : Vec Ideal S256x256 .bf16) (w2 w3 : Vec Ideal S256x512 .bf16) (w4 : Vec Ideal S256x1024 .bf16) (y0 : Fin 256) (y1 : Fin 2304) :
    ∃ p ∈ ([⟨Rect.unit ![0, 2048] ![256, 256] inb_S256x2304_S256x256_0_2048, w1⟩, ⟨Rect.unit ![0, 1536] ![256, 512] inb_S256x2304_S256x512_0_1536, w2⟩,
      ⟨Rect.unit ![0, 1024] ![256, 512] inb_S256x2304_S256x512_0_1024, w3⟩, ⟨Rect.unit ![0, 0] ![256, 1024] inb_S256x2304_S256x1024_0_0, w4⟩]
        : List (View.Piece (Elt Ideal) S256x2304 .bf16)), ix2 y0 y1 ∈ p.1.set := by
  by_cases h1 : 2048 ≤ y1.val
  · exact ⟨_, .head _, (Rect.mem_set_unit (inb := inb_S256x2304_S256x256_0_2048)).2 fun a => match a with
      | 0 => ⟨Nat.zero_le _, y0.isLt⟩ | 1 => ⟨h1, y1.isLt⟩⟩
  by_cases h2 : 1536 ≤ y1.val
  · exact ⟨_, .tail _ (.head _), (Rect.mem_set_unit (inb := inb_S256x2304_S256x512_0_1536)).2 fun a => match a with
      | 0 => ⟨Nat.zero_le _, y0.isLt⟩ | 1 => ⟨h2, Nat.lt_of_not_le h1⟩⟩
  by_cases h3 : 1024 ≤ y1.val
  · exact ⟨_, .tail _ (.tail _ (.head _)), (Rect.mem_set_unit (inb := inb_S256x2304_S256x512_0_1024)).2 fun a => match a with
      | 0 => ⟨Nat.zero_le _, y0.isLt⟩ | 1 => ⟨h3, Nat.lt_of_not_le h2⟩⟩
  · exact ⟨_, .tail _ (.tail _ (.tail _ (.head _))), (Rect.mem_set_unit (inb := inb_S256x2304_S256x1024_0_0)).2 fun a => match a with
      | 0 => ⟨Nat.zero_le _, y0.isLt⟩ | 1 => ⟨Nat.zero_le _, Nat.lt_of_not_le h3⟩⟩

set_option maxHeartbeats 1000000 in
/-- What the body leaves of the new columns at a point. -/
theorem point_dbuf (t : Fin cfg0.N) (y0 : Fin 256) (y1 : Fin 2304) :
    (outsAt0 m c t.val t.isLt).1 (ix2 y0 y1) = columns (args m c) (at_ t y0) y1 := by
  have ht := lt32 t
  by_cases h : t.val % 32 = 0
  · rw [outsAt0_A m c t h (by omega) h (by omega) h (by omega) h (by omega) h (by omega) h (by omega)]; frame_out
    canon_tiles x h using cover _ _ _ _ y0 y1
    all_goals idx_vars x
    · obtain rfl : y0 = x0 := Fin.ext h0
      exact (Tile.storeKr_at (reads m c t) y0 x1).trans (colKr m c _ y1 x1 h1)
    · obtain rfl : y0 = x0 := Fin.ext h0
      exact (Tile.storeCkv_at (reads m c t) y0 x1).trans (colCkv m c _ y1 x1 h1)
    · obtain rfl : y0 = x0 := Fin.ext h0
      exact (Tile.storeQr_at (reads m c t) y0 x1).trans (colQr m c _ y1 x1 h1)
    · obtain rfl : y0 = x0 := Fin.ext h0
      exact (Tile.storeQn_at (reads m c t) y0 x1).trans (colQn m c _ y1 x1 h1)
  · rw [outsAt0_B m c t h (by omega) h (by omega) h (by omega) h (by omega) h (by omega) h (by omega)]; frame_out
    canon_tiles x h using cover _ _ _ _ y0 y1
    all_goals idx_vars x
    · obtain rfl : y0 = x0 := Fin.ext h0
      exact (Tile.storeKr_at (reads m c t) y0 x1).trans (colKr m c _ y1 x1 h1)
    · obtain rfl : y0 = x0 := Fin.ext h0
      exact (Tile.storeCkv_at (reads m c t) y0 x1).trans (colCkv m c _ y1 x1 h1)
    · obtain rfl : y0 = x0 := Fin.ext h0
      exact (Tile.storeQr_at (reads m c t) y0 x1).trans (colQr m c _ y1 x1 h1)
    · obtain rfl : y0 = x0 := Fin.ext h0
      exact (Tile.storeQn_at (reads m c t) y0 x1).trans (colQn m c _ y1 x1 h1)

/-- Column `l` of the tile is column `4608 + l` of the buffer. -/
def newCol (l : Fin 2304) : Fin 6912 := ⟨4608 + l.val, by omega⟩
/-- … and back. -/
def oldCol (l : Fin 6912) : Fin 2304 := ⟨l.val - 4608, by omega⟩

theorem old_new (l : Fin 2304) : oldCol (newCol l) = l := Fin.ext (Nat.add_sub_cancel_left 4608 l.val)

/-- The gradient buffer: the new columns hold the gradients, the others what the array held before. -/
def dbuf : FVec Ideal S8192x6912 .bf16 := fun i => if 4608 ≤ (i 1).val then columns (args m c) (i 0) (oldCol (i 1))
  else (given m c).dp i

/-- Where a point's tile of the new columns lies. -/
theorem tile12 (t : Fin cfg0.N) (y : ((cfg0.win 12).xblock (cfg0.grid.coords t)).Idx) :
    (((cfg0.win 12).blk t).view.emb y : S8192x6912.Idx) = ix2 (at_ t (((cfg0.win 12).xinj (grid0.coords t) y : S256x2304.Idx) 0))
      (newCol (((cfg0.win 12).xinj (grid0.coords t) y : S256x2304.Idx) 1)) := by
  blk_ext [idx t, at_, newCol]

/-- The buffer reaches the region as it was given. -/
theorem entryDP : ((dats m 0 c).A 12 : FVec Ideal S8192x6912 .bf16) = (given m c).dp := by
  rfl

theorem final_dbuf : (dats m 0 c).arrAt 12 cfg0.N = dbuf m c := by
  refine ((dats m 0 c).arrAt_eq_of_coversWhere 12
    (fun i : S8192x6912.Idx => columns (args m c) (i 0) (oldCol (i 1)))
    (P := fun i : S8192x6912.Idx => 4608 ≤ (i 1).val)
    (fun β => β (1 : Fin 2) = 2) (by decide +kernel) (fun t _ y => ?_) (fun j => ?_)).trans ?_
  · have e := tile12 t y
    rw [after0_12]
    generalize (((cfg0.win 12).blk t).view.emb y : S8192x6912.Idx) = z at e ⊢
    subst e
    have e' : ((cfg0.win 12).xinj (grid0.coords t) y : S256x2304.Idx) = ix2 (((cfg0.win 12).xinj (grid0.coords t) y : S256x2304.Idx) 0)
      (((cfg0.win 12).xinj (grid0.coords t) y : S256x2304.Idx) 1) := eq_ix2 _
    exact (congrArg (outsAt0 m c t.val t.isLt).1 e').trans ((point_dbuf m c t _ _).trans (congrArg (columns (args m c) _) (old_new _).symm))
  · have hj : (j 1).val < 6912 := (j 1).isLt
    blk_simp [Pipeline.Window.cell_apply]
    omega
  · rfl

/-- The last point of the grid. -/
def last : Fin cfg0.N := ⟨31, by decide⟩

/-- A sum over the points of the sums over a tile's rows is the sum over all rows. -/
theorem sum_rows (f : Fin 8192 → EReal) : (0 : EReal) + ∑ p : Fin cfg0.N, ∑ r : Fin 256, f (at_ p r) = ∑ g : Fin 8192, f g := by
  rw [zero_add]
  exact Fin.sum_mul_add_fin (L := 8192) 32 256 f

/-! The sums over the points: the first point writes its tile's part, each later one adds its own. -/

theorem addW (new : FVec Ideal S512x2048 .bf16) (old : FVec Ideal S512x2048 .f32) (k : Fin 512) (j : Fin 2048) :
    k0_pay294 new old (ix2 k j) = old (ix2 k j) + k0_pay293 new (ix2 k j) := by pointwise [k0_pay294]
theorem add512 (new old : FVec Ideal S1x512 .f32) (l : Fin 512) : k0_pay295 new old (ix2 0 l) = old (ix2 0 l) + new (ix2 0 l) := by
  pointwise [k0_pay295]
theorem add128 (new old : FVec Ideal S1x128 .f32) (l : Fin 128) : k0_pay296 new old (ix2 0 l) = old (ix2 0 l) + new (ix2 0 l) := by
  pointwise [k0_pay296]
theorem add64 (new old : FVec Ideal S1x64 .f32) (l : Fin 64) : k0_pay297 new old (ix2 0 l) = old (ix2 0 l) + new (ix2 0 l) := by
  pointwise [k0_pay297]

theorem acc_dw (t : Fin cfg0.N) (ht : t.val + 1 = cfg0.N) (k : Fin 512) (l : Fin 2048) :
    (outsAt0 m c t.val t.isLt).2.1 (ix2 k l) = 0 + ∑ p : Fin cfg0.N, ∑ r : Fin 256, (fun g => latents (args m c) g k * dkv (args m c) g (order l)) (at_ p r) := by
  refine Pipeline.eq_sum_fin_of_reset_step_apply_last (fun n h (l : Fin 2048) => ((outsAt0 m c n h).2.1 (ix2 k l) : EReal)) 32
    (fun _ => 0) (fun p l => ∑ r : Fin 256, (fun g => latents (args m c) g k * dkv (args m c) g (order l)) (at_ p r))
    (fun t h l => ?_) (fun t h l => ?_) (by decide) t ht l
  · have ht := lt32 t
    rw [outsAt0_A m c t h (by omega) h (by omega) h (by omega) h (by omega) h (by omega) h (by omega)]; frame_out
    exact (Tile.partW_at (reads m c t) k l).trans (zero_add _).symm
  · rw [outsAt0_B m c t h (by omega) h (by omega) h (by omega) h (by omega) h (by omega) h (by omega)]; frame_out
    exact (addW _ _ k l).trans (congrArg (_ + ·) (Tile.partW_at (reads m c t) k l))

theorem acc_dgkv (t : Fin cfg0.N) (ht : t.val + 1 = cfg0.N) (l : Fin 512) :
    (outsAt0 m c t.val t.isLt).2.2.1 (ix2 0 l) = 0 + ∑ p : Fin cfg0.N, ∑ r : Fin 256, (fun g => Rows.gain 0x44000000#32 ((args m c).ckv g) (dlatents (args m c) g) l) (at_ p r) := by
  refine Pipeline.eq_sum_fin_of_reset_step_apply_last (fun n h (l : Fin 512) => ((outsAt0 m c n h).2.2.1 (ix2 0 l) : EReal)) 32
    (fun _ => 0) (fun p l => ∑ r : Fin 256, (fun g => Rows.gain 0x44000000#32 ((args m c).ckv g) (dlatents (args m c) g) l) (at_ p r))
    (fun t h l => ?_) (fun t h l => ?_) (by decide) t ht l
  · have ht := lt32 t
    rw [outsAt0_A m c t h (by omega) h (by omega) h (by omega) h (by omega) h (by omega) h (by omega)]; frame_out
    exact (Tile.partKv_at (reads m c t) l).trans (zero_add _).symm
  · rw [outsAt0_B m c t h (by omega) h (by omega) h (by omega) h (by omega) h (by omega) h (by omega)]; frame_out
    exact (add512 _ _ l).trans (congrArg (_ + ·) (Tile.partKv_at (reads m c t) l))

theorem acc_dgqn (t : Fin cfg0.N) (ht : t.val + 1 = cfg0.N) (l : Fin 128) :
    (outsAt0 m c t.val t.isLt).2.2.2.1 (ix2 0 l) = 0 + ∑ p : Fin cfg0.N, ∑ r : Fin 256, (fun g => ∑ h, Rows.gain 0x43000000#32 ((args m c).qn g h) (dqn (args m c) g h) l) (at_ p r) := by
  refine Pipeline.eq_sum_fin_of_reset_step_apply_last (fun n h (l : Fin 128) => ((outsAt0 m c n h).2.2.2.1 (ix2 0 l) : EReal)) 32
    (fun _ => 0) (fun p l => ∑ r : Fin 256, (fun g => ∑ h, Rows.gain 0x43000000#32 ((args m c).qn g h) (dqn (args m c) g h) l) (at_ p r))
    (fun t h l => ?_) (fun t h l => ?_) (by decide) t ht l
  · have ht := lt32 t
    rw [outsAt0_A m c t h (by omega) h (by omega) h (by omega) h (by omega) h (by omega) h (by omega)]; frame_out
    exact (Tile.partQn_at (reads m c t) l).trans (zero_add _).symm
  · rw [outsAt0_B m c t h (by omega) h (by omega) h (by omega) h (by omega) h (by omega) h (by omega)]; frame_out
    exact (add128 _ _ l).trans (congrArg (_ + ·) (Tile.partQn_at (reads m c t) l))

theorem acc_dgqr (t : Fin cfg0.N) (ht : t.val + 1 = cfg0.N) (l : Fin 64) :
    (outsAt0 m c t.val t.isLt).2.2.2.2.1 (ix2 0 l) = 0 + ∑ p : Fin cfg0.N, ∑ r : Fin 256, (fun g => ∑ h, Rows.gain 0x42800000#32 ((args m c).qr g h) (dqr (args m c) g h) l) (at_ p r) := by
  refine Pipeline.eq_sum_fin_of_reset_step_apply_last (fun n h (l : Fin 64) => ((outsAt0 m c n h).2.2.2.2.1 (ix2 0 l) : EReal)) 32
    (fun _ => 0) (fun p l => ∑ r : Fin 256, (fun g => ∑ h, Rows.gain 0x42800000#32 ((args m c).qr g h) (dqr (args m c) g h) l) (at_ p r))
    (fun t h l => ?_) (fun t h l => ?_) (by decide) t ht l
  · have ht := lt32 t
    rw [outsAt0_A m c t h (by omega) h (by omega) h (by omega) h (by omega) h (by omega) h (by omega)]; frame_out
    exact (Tile.partQr_at (reads m c t) l).trans (zero_add _).symm
  · rw [outsAt0_B m c t h (by omega) h (by omega) h (by omega) h (by omega) h (by omega) h (by omega)]; frame_out
    exact (add64 _ _ l).trans (congrArg (_ + ·) (Tile.partQr_at (reads m c t) l))

theorem acc_dgkn (t : Fin cfg0.N) (ht : t.val + 1 = cfg0.N) (l : Fin 128) :
    (outsAt0 m c t.val t.isLt).2.2.2.2.2.1 (ix2 0 l) = 0 + ∑ p : Fin cfg0.N, ∑ r : Fin 256, (fun g => ∑ h, Rows.gain 0x43000000#32 (key (args m c) g h) (dkn (args m c) g h) l) (at_ p r) := by
  refine Pipeline.eq_sum_fin_of_reset_step_apply_last (fun n h (l : Fin 128) => ((outsAt0 m c n h).2.2.2.2.2.1 (ix2 0 l) : EReal)) 32
    (fun _ => 0) (fun p l => ∑ r : Fin 256, (fun g => ∑ h, Rows.gain 0x43000000#32 (key (args m c) g h) (dkn (args m c) g h) l) (at_ p r))
    (fun t h l => ?_) (fun t h l => ?_) (by decide) t ht l
  · have ht := lt32 t
    rw [outsAt0_A m c t h (by omega) h (by omega) h (by omega) h (by omega) h (by omega) h (by omega)]; frame_out
    exact (Tile.partKn_at (reads m c t) l).trans (zero_add _).symm
  · rw [outsAt0_B m c t h (by omega) h (by omega) h (by omega) h (by omega) h (by omega) h (by omega)]; frame_out
    exact (add128 _ _ l).trans (congrArg (_ + ·) (Tile.partKn_at (reads m c t) l))

theorem acc_dgkr (t : Fin cfg0.N) (ht : t.val + 1 = cfg0.N) (l : Fin 64) :
    (outsAt0 m c t.val t.isLt).2.2.2.2.2.2 (ix2 0 l) = 0 + ∑ p : Fin cfg0.N, ∑ r : Fin 256, (fun g => Rows.gain 0x42800000#32 ((args m c).kr g) (dkr (args m c) g) l) (at_ p r) := by
  refine Pipeline.eq_sum_fin_of_reset_step_apply_last (fun n h (l : Fin 64) => ((outsAt0 m c n h).2.2.2.2.2.2 (ix2 0 l) : EReal)) 32
    (fun _ => 0) (fun p l => ∑ r : Fin 256, (fun g => Rows.gain 0x42800000#32 ((args m c).kr g) (dkr (args m c) g) l) (at_ p r))
    (fun t h l => ?_) (fun t h l => ?_) (by decide) t ht l
  · have ht := lt32 t
    rw [outsAt0_A m c t h (by omega) h (by omega) h (by omega) h (by omega) h (by omega) h (by omega)]; frame_out
    exact (Tile.partKr_at (reads m c t) l).trans (zero_add _).symm
  · rw [outsAt0_B m c t h (by omega) h (by omega) h (by omega) h (by omega) h (by omega) h (by omega)]; frame_out
    exact (add64 _ _ l).trans (congrArg (_ + ·) (Tile.partKr_at (reads m c t) l))

/-! The arrays at the end. -/

def wDw : FVec Ideal S512x2048 .f32 := fun i => dw (args m c) (i 0) (order (i 1))
def wDgkv : FVec Ideal S1x512 .f32 := fun i => dgkv (args m c) (i 1)
def wDgqn : FVec Ideal S1x128 .f32 := fun i => dgqn (args m c) (i 1)
def wDgqr : FVec Ideal S1x64 .f32 := fun i => dgqr (args m c) (i 1)
def wDgkn : FVec Ideal S1x128 .f32 := fun i => dgkn (args m c) (i 1)
def wDgkr : FVec Ideal S1x64 .f32 := fun i => dgkr (args m c) (i 1)

theorem final_dw : (dats m 0 c).arrAt 13 cfg0.N = wDw m c := by
  refine (dats m 0 c).arrAt_eq_of_after_last 13 last (by decide +kernel) _ fun j => ?_
  blk_simp
  rw [after0_13]
  obtain ⟨k, l, rfl⟩ : ∃ (k : Fin 512) (l : Fin 2048), j = ix2 k l := ⟨j 0, j 1, eq_ix2 j⟩
  exact (acc_dw m c last rfl k l).trans (sum_rows (fun g => latents (args m c) g k * dkv (args m c) g (order l)))

theorem final_dgkv : (dats m 0 c).arrAt 14 cfg0.N = wDgkv m c := by
  refine (dats m 0 c).arrAt_eq_of_after_last 14 last (by decide +kernel) _ fun j => ?_
  blk_simp
  rw [after0_14]
  obtain ⟨a, l, rfl⟩ : ∃ (a : Fin 1) (l : Fin 512), j = ix2 a l := ⟨j 0, j 1, eq_ix2 j⟩
  obtain rfl : a = 0 := Subsingleton.elim _ _
  exact (acc_dgkv m c last rfl l).trans (sum_rows (fun g => Rows.gain 0x44000000#32 ((args m c).ckv g) (dlatents (args m c) g) l))

theorem final_dgqn : (dats m 0 c).arrAt 15 cfg0.N = wDgqn m c := by
  refine (dats m 0 c).arrAt_eq_of_after_last 15 last (by decide +kernel) _ fun j => ?_
  blk_simp
  rw [after0_15]
  obtain ⟨a, l, rfl⟩ : ∃ (a : Fin 1) (l : Fin 128), j = ix2 a l := ⟨j 0, j 1, eq_ix2 j⟩
  obtain rfl : a = 0 := Subsingleton.elim _ _
  exact (acc_dgqn m c last rfl l).trans (sum_rows (fun g => ∑ h, Rows.gain 0x43000000#32 ((args m c).qn g h) (dqn (args m c) g h) l))

theorem final_dgqr : (dats m 0 c).arrAt 16 cfg0.N = wDgqr m c := by
  refine (dats m 0 c).arrAt_eq_of_after_last 16 last (by decide +kernel) _ fun j => ?_
  blk_simp
  rw [after0_16]
  obtain ⟨a, l, rfl⟩ : ∃ (a : Fin 1) (l : Fin 64), j = ix2 a l := ⟨j 0, j 1, eq_ix2 j⟩
  obtain rfl : a = 0 := Subsingleton.elim _ _
  exact (acc_dgqr m c last rfl l).trans (sum_rows (fun g => ∑ h, Rows.gain 0x42800000#32 ((args m c).qr g h) (dqr (args m c) g h) l))

theorem final_dgkn : (dats m 0 c).arrAt 17 cfg0.N = wDgkn m c := by
  refine (dats m 0 c).arrAt_eq_of_after_last 17 last (by decide +kernel) _ fun j => ?_
  blk_simp
  rw [after0_17]
  obtain ⟨a, l, rfl⟩ : ∃ (a : Fin 1) (l : Fin 128), j = ix2 a l := ⟨j 0, j 1, eq_ix2 j⟩
  obtain rfl : a = 0 := Subsingleton.elim _ _
  exact (acc_dgkn m c last rfl l).trans (sum_rows (fun g => ∑ h, Rows.gain 0x43000000#32 (key (args m c) g h) (dkn (args m c) g h) l))

theorem final_dgkr : (dats m 0 c).arrAt 18 cfg0.N = wDgkr m c := by
  refine (dats m 0 c).arrAt_eq_of_after_last 18 last (by decide +kernel) _ fun j => ?_
  blk_simp
  rw [after0_18]
  obtain ⟨a, l, rfl⟩ : ∃ (a : Fin 1) (l : Fin 64), j = ix2 a l := ⟨j 0, j 1, eq_ix2 j⟩
  obtain rfl : a = 0 := Subsingleton.elim _ _
  exact (acc_dgkr m c last rfl l).trans (sum_rows (fun g => Rows.gain 0x42800000#32 ((args m c).kr g) (dkr (args m c) g) l))

end Cert.MlaBackIdeal.Arrays

end
-- ==== Proof.MlaFrame.lean ====
/-
  The gradient of the latent projections, their norms and their rotation: the reference ends, with its arguments unchanged.
-/
module

public import proofs.«01_k».proof.Defs
public import proofs.«01_k».proof.Proof.Gen.MlaRefIdeal
public import proofs.«01_k».proof.Proof.Gen.MlaRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Mla

/-- The reference ends, with its arguments unchanged. -/
theorem frame_ref : Cert.quiescent_MlaRefIdeal := fun m g _ =>
  (θ_run Cert.MlaRefIdeal.defs _ _).mono (fun r h => ⟨fun c => (h c).2.2.2.2.2.2.2, sem_eq_zero_of_no_sems (by decide) r.2⟩)
    (Cert.MlaRefIdeal.Value.run (F := Ideal) m g)

end Cert.Proof.Mla

end
-- ==== Proof.MlaPair.lean ====
/-
  The latent projections' gradient: kernel and reference end with the same seven arrays.
-/
module

public import proofs.«01_k».proof.Defs
public import proofs.«01_k».proof.Proof.MlaArray
public import proofs.«01_k».proof.Proof.MlaFrame
public import proofs.«01_k».proof.Proof.Gen.MlaBack.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Mla

section
open Cert.MlaRefIdeal Cert.MlaRefIdeal.Read Cert.MlaRefIdeal.Math Cert.Mla

variable (m : (ℓ : Loc MlaBackIdeal.nD MlaBackIdeal.τ MlaBackIdeal.sig) → Buf (Elt Ideal) ℓ) (c : Dev MlaBackIdeal.nD)

/-- The arrays both programs are given. -/
abbrev given : Arrays := MlaBackIdeal.Arrays.given m c

/-! The reference's results are the kernel's. -/

theorem ref_dbuf : val_main_v305 (F := Ideal) (given m c).x (given m c).ps (given m c).gkv (given m c).w (given m c).gqn (given m c).gqr (given m c).gkn (given m c).gkr (given m c).dq (given m c).dk (given m c).dv (given m c).dp = MlaBackIdeal.Arrays.dbuf m c := by
  funext i
  idx_vars i
  refine (buffer_apply (given m c) i0 i1).trans ?_
  by_cases h : i1.val < 4608
  · exact (dif_pos h).trans (if_neg (Nat.not_le.mpr h)).symm
  · exact (dif_neg h).trans (if_pos (Nat.le_of_not_lt h)).symm

theorem ref_dw : val_main_v303 (F := Ideal) (given m c).x (given m c).gkv (given m c).w (given m c).gkn (given m c).dk (given m c).dv = MlaBackIdeal.Arrays.wDw m c := by
  funext i
  idx_vars i
  exact dw_apply (given m c) i0 i1

theorem ref_dgkv : val_main_v306 (F := Ideal) (given m c).x (given m c).gkv (given m c).w (given m c).gkn (given m c).dk (given m c).dv = MlaBackIdeal.Arrays.wDgkv m c := by
  funext i
  idx_vars i
  obtain rfl : i0 = 0 := Subsingleton.elim _ _
  exact dgkv_apply (given m c) i1

theorem ref_dgqn : val_main_v307 (F := Ideal) (given m c).x (given m c).dq = MlaBackIdeal.Arrays.wDgqn m c := by
  funext i
  idx_vars i
  obtain rfl : i0 = 0 := Subsingleton.elim _ _
  exact dgqn_apply (given m c) i1

theorem ref_dgqr : val_main_v308 (F := Ideal) (given m c).x (given m c).ps (given m c).dq = MlaBackIdeal.Arrays.wDgqr m c := by
  funext i
  idx_vars i
  obtain rfl : i0 = 0 := Subsingleton.elim _ _
  exact dgqr_apply (given m c) i1

theorem ref_dgkn : val_main_v309 (F := Ideal) (given m c).x (given m c).gkv (given m c).w (given m c).dk = MlaBackIdeal.Arrays.wDgkn m c := by
  funext i
  idx_vars i
  obtain rfl : i0 = 0 := Subsingleton.elim _ _
  exact dgkn_apply (given m c) i1

theorem ref_dgkr : val_main_v310 (F := Ideal) (given m c).x (given m c).ps (given m c).dk = MlaBackIdeal.Arrays.wDgkr m c := by
  funext i
  idx_vars i
  obtain rfl : i0 = 0 := Subsingleton.elim _ _
  exact dgkr_apply (given m c) i1

end

set_option maxHeartbeats 1600000 in
/-- Both programs end with the gradient buffer, the up-projection's gradient and the five gains'. -/
theorem equal : Cert.algebraic_MlaBackIdeal_MlaRefIdeal := by
  intro m g m' g' hpre hagree
  refine ⟨fun c => MlaBackIdeal.Arrays.dbuf m c, fun c => MlaBackIdeal.Arrays.wDw m c, fun c => MlaBackIdeal.Arrays.wDgkv m c, fun c => MlaBackIdeal.Arrays.wDgqn m c, fun c => MlaBackIdeal.Arrays.wDgqr m c, fun c => MlaBackIdeal.Arrays.wDgkn m c, fun c => MlaBackIdeal.Arrays.wDgkr m c, ?_, ?_⟩
  · run_from Cert.MlaBackIdeal.Gen.run_main m g
    · exact MlaBackIdeal.Arrays.final_dbuf m c
    · exact MlaBackIdeal.Arrays.final_dw m c
    · exact MlaBackIdeal.Arrays.final_dgkv m c
    · exact MlaBackIdeal.Arrays.final_dgqn m c
    · exact (hc.1 16).trans (MlaBackIdeal.Arrays.final_dgqr m c)
    · exact (hc.1 17).trans (MlaBackIdeal.Arrays.final_dgkn m c)
    · exact (hc.1 18).trans (MlaBackIdeal.Arrays.final_dgkr m c)
  · refine θ_run_mono (Cert.MlaRefIdeal.Value.run (F := Ideal) m' g') fun r h c => ?_
    obtain ⟨a0, a1, a2, a3, a4, a5, a6, a7, a8, a9, a10, a11⟩ := hagree c
    obtain ⟨h0, h1, h2, h3, h4, h5, h6, hk⟩ := h c
    replace a0 : StableHlo.launchContents m' c (Proc.tc.devRef MlaRefIdeal.main_arg0) = m (c.tc.loc MlaBackIdeal.main_arg0) := a0
    replace a1 : StableHlo.launchContents m' c (Proc.tc.devRef MlaRefIdeal.main_arg1) = m (c.tc.loc MlaBackIdeal.main_arg1) := a1
    replace a2 : StableHlo.launchContents m' c (Proc.tc.devRef MlaRefIdeal.main_arg2) = m (c.tc.loc MlaBackIdeal.main_arg2) := a2
    replace a3 : StableHlo.launchContents m' c (Proc.tc.devRef MlaRefIdeal.main_arg3) = m (c.tc.loc MlaBackIdeal.main_arg3) := a3
    replace a4 : StableHlo.launchContents m' c (Proc.tc.devRef MlaRefIdeal.main_arg4) = m (c.tc.loc MlaBackIdeal.main_arg4) := a4
    replace a5 : StableHlo.launchContents m' c (Proc.tc.devRef MlaRefIdeal.main_arg5) = m (c.tc.loc MlaBackIdeal.main_arg5) := a5
    replace a6 : StableHlo.launchContents m' c (Proc.tc.devRef MlaRefIdeal.main_arg6) = m (c.tc.loc MlaBackIdeal.main_arg6) := a6
    replace a7 : StableHlo.launchContents m' c (Proc.tc.devRef MlaRefIdeal.main_arg7) = m (c.tc.loc MlaBackIdeal.main_arg7) := a7
    replace a8 : StableHlo.launchContents m' c (Proc.tc.devRef MlaRefIdeal.main_arg8) = m (c.tc.loc MlaBackIdeal.main_arg8) := a8
    replace a9 : StableHlo.launchContents m' c (Proc.tc.devRef MlaRefIdeal.main_arg9) = m (c.tc.loc MlaBackIdeal.main_arg9) := a9
    replace a10 : StableHlo.launchContents m' c (Proc.tc.devRef MlaRefIdeal.main_arg10) = m (c.tc.loc MlaBackIdeal.main_arg10) := a10
    replace a11 : StableHlo.launchContents m' c (Proc.tc.devRef MlaRefIdeal.main_arg11) = m (c.tc.loc MlaBackIdeal.main_arg11) := a11
    refine ⟨h0.trans ?_, h1.trans ?_, h2.trans ?_, h3.trans ?_, h4.trans ?_, h5.trans ?_, h6.trans ?_, hk⟩
    · refine (MlaRefIdeal.Read.val_main_v305_eq (StableHlo.launchContents m' c)).trans ?_
      rw [a0, a1, a2, a3, a4, a5, a6, a7, a8, a9, a10, a11]
      exact ref_dbuf m c
    · refine (MlaRefIdeal.Read.val_main_v303_eq (StableHlo.launchContents m' c)).trans ?_
      rw [a0, a2, a3, a6, a9, a10]
      exact ref_dw m c
    · refine (MlaRefIdeal.Read.val_main_v306_eq (StableHlo.launchContents m' c)).trans ?_
      rw [a0, a2, a3, a6, a9, a10]
      exact ref_dgkv m c
    · refine (MlaRefIdeal.Read.val_main_v307_eq (StableHlo.launchContents m' c)).trans ?_
      rw [a0, a8]
      exact ref_dgqn m c
    · refine (MlaRefIdeal.Read.val_main_v308_eq (StableHlo.launchContents m' c)).trans ?_
      rw [a0, a1, a8]
      exact ref_dgqr m c
    · refine (MlaRefIdeal.Read.val_main_v309_eq (StableHlo.launchContents m' c)).trans ?_
      rw [a0, a2, a3, a9]
      exact ref_dgkn m c
    · refine (MlaRefIdeal.Read.val_main_v310_eq (StableHlo.launchContents m' c)).trans ?_
      rw [a0, a1, a9]
      exact ref_dgkr m c

end Cert.Proof.Mla

end
-- ==== Proof.PleFwdBlock.lean ====
/-
  The gated embedding's forward call, one tile of 512 rows: what the body of the kernel computes at an index of
  its tile, as the row functions of `Rows` and `GateRows`.
-/
module

public import proofs.«01_k».proof.Proof.Gen.PleFwdIdeal.Skeleton
public import proofs.«01_k».proof.Proof.GateRows
public import Idealize.ShloMosaic.Lib.Pipeline.ValueKit

@[expose] public section

set_option maxRecDepth 16384

noncomputable section

open Idealize.ShloMosaic Idealize.ShloMosaic.TcCoe Idealize.SL.Sem

namespace Cert.PleFwdIdeal.Block

open Cert.PleFwdIdeal Cert.PleFwdIdeal.Gen

variable (x : Vec Ideal S512x2048 .f32) (n1 : Vec Ideal S512x2048 .bf16) (p : Vec Ideal S512x256 .f32)
  (W : Vec Ideal S2048x2048 .bf16) (Wp : Vec Ideal S256x2048 .bf16) (g : Vec Ideal S1x2048 .f32)

theorem normed_apply (r : Fin 512) (l : Fin 2048) : k0_pay1 x g (ix2 r l)
    = Rows.normed 0x45000000#32 (fun k => x (ix2 r k)) (fun k => g (ix2 0 k)) l := by
  pointwise! [k0_pay1, Rows.normed, Rows.scale, Rows.meanSq]

theorem gate_apply (r : Fin 512) (l : Fin 2048) : k0_pay2 n1 W (ix2 r l)
    = Rows.sigma (Rows.proj (fun k => n1 (ix2 r k)) (fun a b => W (ix2 a b)) l) := by
  pointwise! [k0_pay2, Rows.sigma, Rows.proj, Ideal.logistic]

theorem pp_apply (r : Fin 512) (l : Fin 2048) : k0_pay3 p Wp (ix2 r l)
    = Rows.proj (fun k => p (ix2 r k)) (fun a b => Wp (ix2 a b)) l := by
  pointwise! [k0_pay3, Rows.proj]

/-- The activations plus the gate times what it multiplies. -/
theorem sum_apply (r : Fin 512) (l : Fin 2048) : k0_pay4 n1 W p Wp x (ix2 r l)
    = x (ix2 r l) + Rows.sigma (Rows.proj (fun k => n1 (ix2 r k)) (fun a b => W (ix2 a b)) l)
        * Rows.proj (fun k => p (ix2 r k)) (fun a b => Wp (ix2 a b)) l := by
  pointwise! [k0_pay4, gate_apply, pp_apply]

theorem gate_store (r : Fin 512) (l : Fin 2048) : k0_pay5 n1 W (ix2 r l)
    = Rows.sigma (Rows.proj (fun k => n1 (ix2 r k)) (fun a b => W (ix2 a b)) l) := by
  pointwise! [k0_pay5, gate_apply]

theorem pp_store (r : Fin 512) (l : Fin 2048) : k0_pay6 p Wp (ix2 r l)
    = Rows.proj (fun k => p (ix2 r k)) (fun a b => Wp (ix2 a b)) l := by
  pointwise! [k0_pay6, pp_apply]

end Cert.PleFwdIdeal.Block

end
-- ==== Proof.PleFwdArray.lean ====
/-
  The gated embedding's forward call, the arrays after the run: four arrays row by row, put together from the 16
  tiles.
-/
module

public import proofs.«01_k».proof.Proof.Gen.PleFwdIdeal.Value
public import proofs.«01_k».proof.Proof.PleFwdBlock

@[expose] public section

set_option maxRecDepth 16384

noncomputable section

open Idealize.ShloMosaic Idealize.ShloMosaic.TcCoe Idealize.SL.Sem
open Idealize.ShloMosaic.Pipeline (Dat)

namespace Cert.PleFwdIdeal.Arrays

open Cert.PleFwdIdeal Cert.PleFwdIdeal.Gen

variable (m : (ℓ : Loc nD τ sig) → Buf (Elt Ideal) ℓ) (c : Dev nD)

/-- The activations. -/
abbrev X : FVec Ideal S8192x2048 .f32 := m ((c : Thread nD τ).loc main_arg0)
/-- The embeddings. -/
abbrev P : FVec Ideal S8192x256 .f32 := m ((c : Thread nD τ).loc main_arg1)
/-- The gate's matrix. -/
abbrev Wg : FVec Ideal S2048x2048 .f32 := m ((c : Thread nD τ).loc main_arg2)
/-- The embedding's matrix. -/
abbrev Wp : FVec Ideal S256x2048 .f32 := m ((c : Thread nD τ).loc main_arg3)
/-- The gain. -/
abbrev G : FVec Ideal S2048 .f32 := m ((c : Thread nD τ).loc main_arg4)

/-- The normalised row `r`. -/
abbrev n1 (r : Fin 8192) : Fin 2048 → EReal :=
  Rows.normed 0x45000000#32 (fun k => X m c (ix2 r k)) (fun k => G m c (ix1 k))

/-- The gate at row `r`. -/
abbrev ga (r : Fin 8192) : Fin 2048 → EReal :=
  Rows.gate 0x45000000#32 (fun k => X m c (ix2 r k)) (fun k => G m c (ix1 k)) (fun a b => Wg m c (ix2 a b))

/-- What the gate multiplies, at row `r`. -/
abbrev pp (r : Fin 8192) : Fin 2048 → EReal := Rows.proj (fun k => P m c (ix2 r k)) (fun a b => Wp m c (ix2 a b))

/-- Where each window's block stands at point `t`. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

theorem lt16 (t : Fin cfg0.N) : t.val < 16 := t.isLt.trans_eq (by decide)

/-- Row `r` of point `t`'s tile is row `512 t + r` of the array. -/
def at_ (t : Fin cfg0.N) (r : Fin 512) : Fin 8192 := ⟨t.val * 512 + r.val, by have := lt16 t; omega⟩

theorem blockX (t : Fin cfg0.N) (r : Fin 512) (l : Fin 2048) :
    (iblk m c 0 t : Vec Ideal S512x2048 .f32) (ix2 r l) = X m c (ix2 (at_ t r) l) := by
  blk_ext [iblk, V, idx t, at_]

theorem blockG (t : Fin cfg0.N) (l : Fin 2048) :
    (iblk m c 1 t : Vec Ideal S1x2048 .f32) (ix2 0 l) = G m c (ix1 l) := by
  blk_point [iblk, V, idx t]

theorem blockP (t : Fin cfg0.N) (r : Fin 512) (l : Fin 256) :
    (iblk m c 2 t : Vec Ideal S512x256 .f32) (ix2 r l) = P m c (ix2 (at_ t r) l) := by
  blk_ext [iblk, V, idx t, at_]

theorem blockWg (t : Fin cfg0.N) (a b : Fin 2048) :
    (iblk m c 3 t : Vec Ideal S2048x2048 .bf16) (ix2 a b) = Wg m c (ix2 a b) := by
  blk_point [iblk, V, idx t]

theorem blockWp (t : Fin cfg0.N) (a : Fin 256) (b : Fin 2048) :
    (iblk m c 4 t : Vec Ideal S256x2048 .bf16) (ix2 a b) = Wp m c (ix2 a b) := by
  blk_point [iblk, V, idx t]

theorem n1_block (t : Fin cfg0.N) (r : Fin 512) (l : Fin 2048) :
    k0_pay1 (iblk m c 0 t) (iblk m c 1 t) (ix2 r l) = n1 m c (at_ t r) l := by
  rw [Block.normed_apply]
  simp only [blockX, blockG]

theorem ga_block (t : Fin cfg0.N) (r : Fin 512) (l : Fin 2048) :
    k0_pay5 (k0_pay1 (iblk m c 0 t) (iblk m c 1 t)) (iblk m c 3 t) (ix2 r l) = ga m c (at_ t r) l := by
  rw [Block.gate_store]
  simp only [n1_block, blockWg]
  rfl

theorem pp_block (t : Fin cfg0.N) (r : Fin 512) (l : Fin 2048) :
    k0_pay6 (iblk m c 2 t) (iblk m c 4 t) (ix2 r l) = pp m c (at_ t r) l := by
  rw [Block.pp_store]
  simp only [blockP, blockWp]

theorem sum_block (t : Fin cfg0.N) (r : Fin 512) (l : Fin 2048) :
    k0_pay4 (k0_pay1 (iblk m c 0 t) (iblk m c 1 t)) (iblk m c 3 t) (iblk m c 2 t) (iblk m c 4 t) (iblk m c 0 t) (ix2 r l)
      = X m c (ix2 (at_ t r) l) + ga m c (at_ t r) l * pp m c (at_ t r) l := by
  rw [Block.sum_apply]
  simp only [n1_block, blockX, blockP, blockWg, blockWp]
  rfl

/-- A load of a whole tile starts at its corner. -/
theorem whole (off : Fin 2 → ℕ) (inb : ∀ a, off a + S512x2048.size a ≤ S512x2048.size a) (v : Vec Ideal S512x2048 .f32) :
    View.ld v (Rect.unit (s := S512x2048) off ![512, 2048] inb) = v :=
  View.ld_unit_zero (funext fun a => by have := inb a; omega) inb v

/-- The layer's output, of all rows. -/
def sumAll : FVec Ideal S8192x2048 .f32 := fun i => X m c (ix2 (i 0) (i 1)) + ga m c (i 0) (i 1) * pp m c (i 0) (i 1)

/-- The normalised activations, the gate and what it multiplies, of all rows. -/
def n1All : FVec Ideal S8192x2048 .bf16 := fun i => n1 m c (i 0) (i 1)
def gaAll : FVec Ideal S8192x2048 .bf16 := fun i => ga m c (i 0) (i 1)
def ppAll : FVec Ideal S8192x2048 .bf16 := fun i => pp m c (i 0) (i 1)

theorem final_sum : (dats m 0 c).arrAt 5 cfg0.N = sumAll m c := by
  refine (dats m 0 c).arrAt_eq_of_covers 5 _ (by decide +kernel) fun t _ y => ?_
  blk_simp
  rw [after0_5]
  unfold outsAt0 out0_A_5
  frame_out
  idx_vars y
  have e : (((cfg0.win 5).blk t).view.emb (ix2 y0 y1) : S8192x2048.Idx) = ix2 (at_ t y0) y1 := by
    blk_ext [idx t, at_]
  rw [whole]
  rw [e]
  exact sum_block m c t y0 y1

theorem final_n1 : (dats m 0 c).arrAt 6 cfg0.N = n1All m c := by
  refine (dats m 0 c).arrAt_eq_of_covers 6 _ (by decide +kernel) fun t _ y => ?_
  blk_simp
  rw [after0_6]
  unfold outsAt0 out0_A_6
  frame_out
  idx_vars y
  have e : (((cfg0.win 6).blk t).view.emb (ix2 y0 y1) : S8192x2048.Idx) = ix2 (at_ t y0) y1 := by
    blk_ext [idx t, at_]
  rw [e]
  exact n1_block m c t y0 y1

theorem final_ga : (dats m 0 c).arrAt 7 cfg0.N = gaAll m c := by
  refine (dats m 0 c).arrAt_eq_of_covers 7 _ (by decide +kernel) fun t _ y => ?_
  blk_simp
  rw [after0_7]
  unfold outsAt0 out0_A_7
  frame_out
  idx_vars y
  have e : (((cfg0.win 7).blk t).view.emb (ix2 y0 y1) : S8192x2048.Idx) = ix2 (at_ t y0) y1 := by
    blk_ext [idx t, at_]
  rw [e]
  exact ga_block m c t y0 y1

theorem final_pp : (dats m 0 c).arrAt 8 cfg0.N = ppAll m c := by
  refine (dats m 0 c).arrAt_eq_of_covers 8 _ (by decide +kernel) fun t _ y => ?_
  blk_simp
  rw [after0_8]
  unfold outsAt0 out0_A_8
  frame_out
  idx_vars y
  have e : (((cfg0.win 8).blk t).view.emb (ix2 y0 y1) : S8192x2048.Idx) = ix2 (at_ t y0) y1 := by
    blk_ext [idx t, at_]
  rw [e]
  exact pp_block m c t y0 y1

end Cert.PleFwdIdeal.Arrays

end
-- ==== Proof.PleFwdRef.lean ====
/-
  The gated embedding's reference, read at an index: the plain lines for all 8192 rows, as the row functions of
  `Rows` and `GateRows`.
-/
module

public import proofs.«01_k».proof.Proof.Gen.PleFwdRefIdeal.Read
public import proofs.«01_k».proof.Proof.GateRows
public import proofs.«01_k».proof.Proof.Consts
public import Idealize.ShloMosaic.Lib.Pipeline.ValueKit

@[expose] public section

set_option maxRecDepth 16384

noncomputable section

open Idealize.ShloMosaic Idealize.ShloMosaic.TcCoe Idealize.SL.Sem

namespace Cert.PleFwdRefIdeal.Math

open Cert.PleFwdRefIdeal Cert.PleFwdRefIdeal.Gen Cert.PleFwdRefIdeal.Read

variable (x : FVec Ideal S8192x2048 .f32) (p : FVec Ideal S8192x256 .f32) (Wg : FVec Ideal S2048x2048 .f32)
  (Wp : FVec Ideal S256x2048 .f32) (g : FVec Ideal S2048 .f32)

/-- The normalised row `r`. -/
abbrev n1 (r : Fin 8192) : Fin 2048 → EReal :=
  Rows.normed 0x45000000#32 (fun k => x (ix2 r k)) (fun k => g (ix1 k))

/-- The gate at row `r`. -/
abbrev ga (r : Fin 8192) : Fin 2048 → EReal :=
  Rows.gate 0x45000000#32 (fun k => x (ix2 r k)) (fun k => g (ix1 k)) (fun a b => Wg (ix2 a b))

/-- What the gate multiplies, at row `r`. -/
abbrev pp (r : Fin 8192) : Fin 2048 → EReal := Rows.proj (fun k => p (ix2 r k)) (fun a b => Wp (ix2 a b))

theorem normed_apply (r : Fin 8192) (l : Fin 2048) : val_main_v12 (F := Ideal) x g (ix2 r l) = n1 x g r l := by
  pointwise! [val_main_v12, val_main_v11, val_main_v10, val_main_v9, val_main_v8, val_main_v7, val_main_v6, val_main_v5,
    val_main_v4, val_main_v3, val_main_v2, val_main_v1, val_main_v0, val_main_cst, val_main_cst_0, val_main_cst_1,
    Rows.normed, Rows.scale, Rows.meanSq]

theorem ga_apply (r : Fin 8192) (l : Fin 2048) : val_main_v19 (F := Ideal) x Wg g (ix2 r l) = ga x Wg g r l := by
  pointwise! [val_main_v19, val_main_v18, val_main_v17, val_main_v16, val_main_v15, val_main_v14, val_main_v13,
    val_main_cst_2, val_main_cst_3, normed_apply, Rows.gate, Rows.sigma, Rows.proj]

theorem pp_apply (r : Fin 8192) (l : Fin 2048) : val_main_v20 (F := Ideal) p Wp (ix2 r l) = pp p Wp r l := by
  pointwise! [val_main_v20, Rows.proj]

theorem sum_apply (r : Fin 8192) (l : Fin 2048) : val_main_v22 (F := Ideal) x p Wg Wp g (ix2 r l)
    = x (ix2 r l) + ga x Wg g r l * pp p Wp r l := by
  pointwise! [val_main_v22, val_main_v21, ga_apply, pp_apply]

theorem n1_result (r : Fin 8192) (l : Fin 2048) : val_main_v23 (F := Ideal) x g (ix2 r l) = n1 x g r l := by
  pointwise! [val_main_v23, normed_apply]

theorem ga_result (r : Fin 8192) (l : Fin 2048) : val_main_v24 (F := Ideal) x Wg g (ix2 r l) = ga x Wg g r l := by
  pointwise! [val_main_v24, ga_apply]

theorem pp_result (r : Fin 8192) (l : Fin 2048) : val_main_v25 (F := Ideal) p Wp (ix2 r l) = pp p Wp r l := by
  pointwise! [val_main_v25, pp_apply]

end Cert.PleFwdRefIdeal.Math

end
-- ==== Proof.PleFwdPair.lean ====
/-
  The gated embedding's forward call: kernel and reference end with the same four arrays.
-/
module

public import proofs.«01_k».proof.Defs
public import proofs.«01_k».proof.Proof.PleFwdArray
public import proofs.«01_k».proof.Proof.PleFwdRef
public import proofs.«01_k».proof.Proof.Gen.PleFwd.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.PleFwd

section
open Cert.PleFwdRefIdeal Cert.PleFwdRefIdeal.Read Cert.PleFwdRefIdeal.Math

variable (x : FVec Ideal S8192x2048 .f32) (p : FVec Ideal S8192x256 .f32) (Wg : FVec Ideal S2048x2048 .f32)
  (Wp : FVec Ideal S256x2048 .f32) (g : FVec Ideal S2048 .f32)

theorem ref_sum : val_main_v22 (F := Ideal) x p Wg Wp g = fun i =>
    x (ix2 (i 0) (i 1)) + ga x Wg g (i 0) (i 1) * pp p Wp (i 0) (i 1) := by
  funext i
  idx_vars i
  exact sum_apply x p Wg Wp g i0 i1

theorem ref_n1 : val_main_v23 (F := Ideal) x g = fun i => n1 x g (i 0) (i 1) := by
  funext i
  idx_vars i
  exact n1_result x g i0 i1

theorem ref_ga : val_main_v24 (F := Ideal) x Wg g = fun i => ga x Wg g (i 0) (i 1) := by
  funext i
  idx_vars i
  exact ga_result x Wg g i0 i1

theorem ref_pp : val_main_v25 (F := Ideal) p Wp = fun i => pp p Wp (i 0) (i 1) := by
  funext i
  idx_vars i
  exact pp_result p Wp i0 i1

end

set_option maxHeartbeats 1600000 in
/-- Both programs end with the arrays `sumAll`, `n1All`, `gaAll` and `ppAll` of the arguments. -/
theorem equal : Cert.algebraic_PleFwdIdeal_PleFwdRefIdeal := by
  pair_intro
  · run_from Cert.PleFwdIdeal.Value.run_blocks m g
  · run_from Cert.PleFwdRefIdeal.Value.run m' g'
    · exact (PleFwdRefIdeal.Read.val_main_v22_eq _ _ _ _ _).trans
        ((ref_sum _ _ _ _ _).trans (PleFwdIdeal.Arrays.final_sum m c).symm)
    · exact (PleFwdRefIdeal.Read.val_main_v23_eq _ _).trans
        ((ref_n1 _ _).trans (PleFwdIdeal.Arrays.final_n1 m c).symm)
    · exact (PleFwdRefIdeal.Read.val_main_v24_eq _ _ _).trans
        ((ref_ga _ _ _).trans (PleFwdIdeal.Arrays.final_ga m c).symm)
    · exact (PleFwdRefIdeal.Read.val_main_v25_eq _ _).trans
        ((ref_pp _ _).trans (PleFwdIdeal.Arrays.final_pp m c).symm)

/-- The reference ends, with its arguments unchanged. -/
theorem frame_ref : Cert.quiescent_PleFwdRefIdeal := fun m g _ =>
  (θ_run Cert.PleFwdRefIdeal.defs _ _).mono (fun r h => ⟨fun c => (h c).2.2.2.2, sem_eq_zero_of_no_sems (by decide) r.2⟩)
    (Cert.PleFwdRefIdeal.Value.run (F := Ideal) m g)

end Cert.Proof.PleFwd

end
-- ==== Proof.CgateFwdBlock.lean ====
/-
  The gated output norm's forward call, one tile of 256 rows: what the body of the kernel computes at an index of
  its tile, as the row functions of `GateRows` and `CgateRows`.
-/
module

public import proofs.«01_k».proof.Proof.Gen.CgateFwdIdeal.Skeleton
public import proofs.«01_k».proof.Proof.CgateRows
public import Idealize.ShloMosaic.Lib.Pipeline.ValueKit

@[expose] public section

set_option maxRecDepth 16384

noncomputable section

open Idealize.ShloMosaic Idealize.ShloMosaic.TcCoe Idealize.SL.Sem

namespace Cert.CgateFwdIdeal.Block

open Cert.CgateFwdIdeal Cert.CgateFwdIdeal.Gen

variable (o : Vec Ideal S256x1024 .f32) (z : Vec Ideal S256x1024 .bf16) (g : Vec Ideal S1x1024 .f32)

/-- The gated row, normalised and multiplied by its gain. -/
theorem out_apply (r : Fin 256) (l : Fin 1024) : k0_pay1 o z g (ix2 r l)
    = Rows.normed 0x44800000#32 (Rows.gated (fun k => o (ix2 r k)) fun k => z (ix2 r k)) (fun k => g (ix2 0 k)) l := by
  pointwise! [k0_pay1, Rows.normed, Rows.scale, Rows.meanSq, Rows.gated, Rows.silu, Rows.sigma, Ideal.logistic]

end Cert.CgateFwdIdeal.Block

end
-- ==== Proof.CgateFwdArray.lean ====
/-
  The gated output norm's forward call, the buffer after the run: the second half of the columns holds the normalised
  rows, put together from the 32 tiles; the first half is as it was.
-/
module

public import proofs.«01_k».proof.Proof.Gen.CgateFwdIdeal.Value
public import proofs.«01_k».proof.Proof.CgateFwdBlock
public import proofs.«01_k».proof.Proof.Permute
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.CgateFwdIdeal.Arrays

open Cert.CgateFwdIdeal Cert.CgateFwdIdeal.Gen

variable (m : (ℓ : Loc nD τ sig) → Buf (Elt Ideal) ℓ) (c : Dev nD)

/-- The outputs. -/
abbrev O : FVec Ideal S8192x1024 .f32 := m ((c : Thread nD τ).loc main_arg0)
/-- The projection, which holds the gates. -/
abbrev P : FVec Ideal S8192x6720 .f32 := m ((c : Thread nD τ).loc main_arg1)
/-- The gains of the output norms. -/
abbrev G : FVec Ideal S2048 .f32 := m ((c : Thread nD τ).loc main_arg2)
/-- The buffer as it came. -/
abbrev Y : FVec Ideal S8192x2048 .bf16 := m ((c : Thread nD τ).loc main_arg3)

/-- Where each window's block stands at point `t`. -/
theorem idx : ∀ t : Fin cfg0.N, win0_0.index t = ![t.val, 0] ∧ win0_1.index t = ![t.val, 2] ∧ win0_2.index t = ![0, 0]
    ∧ win0_3.index t = ![t.val, 1] ∧ t.val < 32 :=
  (by decide +kernel : ∀ t : Fin grid0.N, _)

theorem lt32 (t : Fin cfg0.N) : t.val < 32 := t.isLt.trans_eq (by decide)

/-- Row `r` of point `t`'s tile is row `256 t + r` of the array. -/
def at_ (t : Fin cfg0.N) (r : Fin 256) : Fin 8192 := ⟨t.val * 256 + r.val, by have := lt32 t; omega⟩

/-- Row `r` of the outputs and of the gates, and the gain. -/
abbrev ro (r : Fin 8192) : Fin 1024 → EReal := fun k => O m c (ix2 r k)
abbrev rz (r : Fin 8192) : Fin 1024 → EReal := fun k => P m c (ix2 r (Rows.gateCol k))
abbrev rg : Fin 1024 → EReal := fun k => G m c (ix1 (Rows.outCol k))

theorem blockO (t : Fin cfg0.N) (r : Fin 256) (l : Fin 1024) :
    (iblk m c 0 t : Vec Ideal S256x1024 .f32) (ix2 r l) = ro m c (at_ t r) l := by
  blk_ext [iblk, V, idx t, at_]

/-- The projection reaches the region with its columns in the order of the kernels. -/
theorem entryP : (V m c main_v13 : FVec Ideal S8192x6912 .bf16) = Permute.permuted (P m c) := by
  unfold V
  unfold_abbrev_sides
  after_reads_simp
  rfl

theorem blockZ (t : Fin cfg0.N) (r : Fin 256) (l : Fin 1024) :
    (X0_1 m c t : Vec Ideal S256x1024 .bf16) (ix2 r l) = rz m c (at_ t r) l := by
  unfold X0_1 Pipeline.Window.fill
  rw [dif_pos (moved0_1 t _)]
  refine Eq.trans ?_ ((congrFun (entryP m c) _).trans (Permute.permuted_gate (P m c) (at_ t r) l))
  refine congrArg (V m c main_v13 : FVec Ideal S8192x6912 .bf16) ?_
  blk_ext [idx t, at_, Permute.gateCol]

theorem blockG (t : Fin cfg0.N) (l : Fin 1024) :
    (iblk m c 2 t : Vec Ideal S1x1024 .f32) (ix2 0 l) = rg m c l := by
  blk_point [iblk, V, idx t, Rows.outCol]

/-- The normalised row `r`. -/
abbrev row (r : Fin 8192) : Fin 1024 → EReal :=
  Rows.normed 0x44800000#32 (Rows.gated (ro m c r) (rz m c r)) (rg m c)

/-- The buffer: columns 1024 to 2047 are the normalised rows, the others are as they came. -/
def buffer : FVec Ideal S8192x2048 .bf16 := fun i =>
  if h : 1024 ≤ (i 1).val then row m c (i 0) ⟨(i 1).val - 1024, by have : (i 1).val < 2048 := (i 1).isLt; omega⟩
  else Y m c (ix2 (i 0) (i 1))

/-- Where a point's tile of the new columns lies. -/
theorem tile3 (t : Fin cfg0.N) (r : Fin 256) (l : Fin 1024) :
    (((cfg0.win 3).blk t).view.emb (ix2 r l) : S8192x2048.Idx) = ix2 (at_ t r) (Rows.outCol l) := by
  blk_ext [idx t, at_, Rows.outCol]

theorem buffer_new (r : Fin 8192) (l : Fin 1024) : buffer m c (ix2 r (Rows.outCol l)) = row m c r l :=
  (dif_pos (Nat.le_add_right 1024 l.val)).trans (congrArg (row m c r) (Fin.ext (Nat.add_sub_cancel_left 1024 l.val)))

/-- The buffer reaches the region as it came. -/
theorem entryY : ((dats m 0 c).A 3 : FVec Ideal S8192x2048 .bf16) = Y m c := by
  rw [A_eq]
  change (V m c main_v16 : FVec Ideal S8192x2048 .bf16) = _
  unfold V
  unfold_abbrev_sides
  after_reads_simp
  rfl

/-- What the body leaves at a point is that point's tile of `buffer`. -/
theorem point (t : Fin cfg0.N) (r : Fin 256) (l : Fin 1024) :
    k0_pay1 (iblk m c 0 t) (X0_1 m c t) (iblk m c 2 t) (ix2 r l) = row m c (at_ t r) l := by
  refine (Block.out_apply _ _ _ r l).trans ?_
  simp only [blockO, blockZ, blockG]

theorem final : (dats m 0 c).arrAt 3 cfg0.N = buffer m c := by
  refine ((dats m 0 c).arrAt_eq_of_coversWhere 3 (fun i : S8192x2048.Idx => buffer m c i)
    (P := fun i : S8192x2048.Idx => 1024 ≤ (i 1).val)
    (fun β => β (1 : Fin 2) = 1) (by decide +kernel) (fun t _ y => ?_) (fun j => ?_)).trans ?_
  · blk_simp
    rw [after0_3]
    unfold outsAt0 out0_A_3
    frame_out
    idx_vars y
    rw [tile3, buffer_new]
    exact point m c t y0 y1
  · have hj : (j 1).val < 2048 := (j 1).isLt
    blk_simp [Pipeline.Window.cell_apply]
    omega
  · funext i
    by_cases h : 1024 ≤ (i 1).val
    · exact if_pos h
    · refine (if_neg h).trans (Eq.trans ?_ (dif_neg h : buffer m c i = Y m c (ix2 (i 0) (i 1))).symm)
      rw [entryY, ← eq_ix2 i]

end Cert.CgateFwdIdeal.Arrays

end
-- ==== Proof.CgateFwdRef.lean ====
/-
  The gated output norm's reference, read at an index: the plain lines for all 8192 rows, and the buffer whose second
  half of the columns they fill.
-/
module

public import proofs.«01_k».proof.Proof.Gen.CgateFwdRefIdeal.Read
public import proofs.«01_k».proof.Proof.CgateRows
public import proofs.«01_k».proof.Proof.Consts
public import Idealize.ShloMosaic.Lib.Pipeline.ValueKit

@[expose] public section

set_option maxRecDepth 16384

noncomputable section

open Idealize.ShloMosaic Idealize.ShloMosaic.TcCoe Idealize.SL.Sem

namespace Cert.CgateFwdRefIdeal.Math

open Cert.CgateFwdRefIdeal Cert.CgateFwdRefIdeal.Gen Cert.CgateFwdRefIdeal.Read

variable (o : FVec Ideal S8192x1024 .f32) (proj : FVec Ideal S8192x6720 .f32) (gn : FVec Ideal S2048 .f32)
  (y : FVec Ideal S8192x2048 .bf16)

/-- Row `r` of the outputs and of the gates, and the gain. -/
abbrev ro (r : Fin 8192) : Fin 1024 → EReal := fun k => o (ix2 r k)
abbrev rz (r : Fin 8192) : Fin 1024 → EReal := fun k => proj (ix2 r (Rows.gateCol k))
abbrev rg : Fin 1024 → EReal := fun k => gn (ix1 (Rows.outCol k))

theorem z_apply (r : Fin 8192) (l : Fin 1024) : val_main_v0 (F := Ideal) proj (ix2 r l) = rz proj r l := by
  pointwise! [val_main_v0, Rows.gateCol]

theorem g_apply (l : Fin 1024) : val_main_v3 (F := Ideal) gn (ix1 l) = rg gn l := by
  pointwise! [val_main_v3, Rows.outCol]

theorem gated_apply (r : Fin 8192) (l : Fin 1024) :
    val_main_v2 (F := Ideal) o proj (ix2 r l) = Rows.gated (ro o r) (rz proj r) l := by
  pointwise! [val_main_v2, val_main_v1, val_main_call0_v5, val_main_call0_v4, val_main_call0_v3, val_main_call0_v2,
    val_main_call0_v1, val_main_call0_v0, val_main_call0_cst, val_main_call0_cst_0, z_apply, Rows.gated, Rows.silu, Rows.sigma]

theorem out_apply (r : Fin 8192) (l : Fin 1024) : val_main_v18 (F := Ideal) o proj gn (ix2 r l)
    = Rows.normed 0x44800000#32 (Rows.gated (ro o r) (rz proj r)) (rg gn) l := by
  pointwise! [val_main_v18, val_main_v16, val_main_v15, val_main_v14, val_main_v13, val_main_v12, val_main_v11, val_main_v10,
    val_main_v9, val_main_v8, val_main_v7, val_main_v6, val_main_v5, val_main_v4, val_main_cst, val_main_cst_0, val_main_cst_1,
    g_apply, gated_apply, Rows.normed, Rows.scale, Rows.meanSq]

/-- The buffer: columns 1024 to 2047 are the normalised rows, the others are as they came. -/
theorem buffer_apply (r : Fin 8192) (j : Fin 2048) : val_main_v19 (F := Ideal) o proj gn y (ix2 r j)
    = if h : 1024 ≤ j.val then
        Rows.normed 0x44800000#32 (Rows.gated (ro o r) (rz proj r)) (rg gn) ⟨j.val - 1024, by omega⟩
      else y (ix2 r j) := by
  pointwise [val_main_v19, val_main_v17, out_apply]
  by_cases h : j.val < 1024
  · refine (dif_pos h).trans ?_
    rw [dif_neg (show ¬1024 ≤ j.val by omega)]
  · refine (dif_neg h).trans ?_
    rw [dif_pos (show 1024 ≤ j.val by omega)]

end Cert.CgateFwdRefIdeal.Math

end
-- ==== Proof.CgateFwdPair.lean ====
/-
  The gated output norm's forward call: kernel and reference end with the same buffer.
-/
module

public import proofs.«01_k».proof.Defs
public import proofs.«01_k».proof.Proof.CgateFwdArray
public import proofs.«01_k».proof.Proof.CgateFwdRef
public import proofs.«01_k».proof.Proof.Gen.CgateFwd.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.CgateFwd

/-- The buffer that the reference computes. -/
theorem ref_buffer (m : (ℓ : Loc CgateFwdIdeal.nD CgateFwdIdeal.τ CgateFwdIdeal.sig) → Buf (Elt Ideal) ℓ)
    (c : Dev CgateFwdIdeal.nD) (y : FVec Ideal CgateFwdRefIdeal.S8192x2048 .bf16) (hy : y = CgateFwdIdeal.Arrays.Y m c) :
    CgateFwdRefIdeal.Read.val_main_v19 (F := Ideal) (CgateFwdIdeal.Arrays.O m c) (CgateFwdIdeal.Arrays.P m c)
      (CgateFwdIdeal.Arrays.G m c) y = CgateFwdIdeal.Arrays.buffer m c := by
  subst hy
  funext i
  idx_vars i
  exact CgateFwdRefIdeal.Math.buffer_apply _ _ _ _ i0 i1

set_option maxHeartbeats 1600000 in
/-- Both programs end with the array `buffer` of the arguments. -/
theorem equal : Cert.algebraic_CgateFwdIdeal_CgateFwdRefIdeal := by
  pair_intro
  · run_from Cert.CgateFwdIdeal.Value.run_blocks m g
  · run_from Cert.CgateFwdRefIdeal.Value.run m' g'
    exact (CgateFwdRefIdeal.Read.val_main_v19_eq _ _ _ _).trans
      ((ref_buffer m c _ (hagree c).2.2.2).trans (CgateFwdIdeal.Arrays.final m c).symm)

/-- The reference ends, with its arguments unchanged. -/
theorem frame_ref : Cert.quiescent_CgateFwdRefIdeal := fun m g _ =>
  (θ_run Cert.CgateFwdRefIdeal.defs _ _).mono (fun r h => ⟨fun c => (h c).2, sem_eq_zero_of_no_sems (by decide) r.2⟩)
    (Cert.CgateFwdRefIdeal.Value.run (F := Ideal) m g)

end Cert.Proof.CgateFwd

end
-- ==== Proof.AttnFwdBlock.lean ====
/-
  The attention's forward call, one grid point: for a head's finite queries and keys, the rows of the output are the
  weighted means of the values, and the saved statistics the logarithms in base two of the softmax denominators.
-/
module

public import proofs.«01_k».proof.Proof.Gen.AttnFwdIdeal.Frame
public import proofs.«01_k».proof.Proof.AttnMath
public import proofs.«01_k».proof.Proof.Consts
public import Idealize.ShloMosaic.Lib.Pipeline.ValueKit

@[expose] public section

set_option maxRecDepth 16384

noncomputable section

open Idealize.ShloMosaic Idealize.ShloMosaic.TcCoe Idealize.SL.Sem

namespace Cert.AttnFwdIdeal.Block

open Cert.AttnFwdIdeal Cert.AttnFwdIdeal.Gen
open Cert.Attention

/-- The greatest along an axis of a vector of reals, started from `-∞`, is a real. -/
theorem top_real {s t : Shape} {a : Fin s.rank} (x : FVec Ideal s .f32) (h : s.Reduces [a] t) (hφ : FKind.Formats .f32)
    (hacc : 0xFF800000#32 = FKind.maximumf.neutral .f32 hφ) (j : t.Idx)
    (hx : ∀ i, ∃ r : ℝ, x i = (r : EReal)) (k₀ : Fin (s.size a)) :
    ∃ r : ℝ, multiReduction .maximumf [a] t x 0xFF800000#32 h hφ hacc j = (r : EReal) := by
  choose f hf using hx
  rw [Ideal.multiReduction_maximumf_single x 0xFF800000#32 h hφ hacc j]
  have e : Finset.univ.fold max (FloatOps.ofBits (F := Ideal) .f32 0xFF800000#32) (x ∘ h.lift j)
      = Finset.univ.sup (fun k => (f (h.lift j k) : EReal)) := by
    rw [show x ∘ h.lift j = fun k => (f (h.lift j k) : EReal) from funext fun k => hf _]
    exact (congrArg (fun b => Finset.univ.fold max b fun k => (f (h.lift j k) : EReal)) Consts.minus_inf).trans rfl
  obtain ⟨k, -, hk⟩ := Finset.exists_mem_eq_sup Finset.univ ⟨k₀, Finset.mem_univ _⟩ (fun k => (f (h.lift j k) : EReal))
  exact ⟨f (h.lift j k), e.trans hk⟩

/-- The named constant is the inverse of the logarithm of two. -/
theorem inv_ln2 : (Named.named κ "inv_ln2" 0x3FB8AA3B#32 : Ideal .f32) = (((Real.log 2)⁻¹ : ℝ) : EReal) := rfl

variable {x0 : Vec Ideal S1x512x192 .bf16} {x1 : Vec Ideal S1x8192x192 .bf16} (x2 : Vec Ideal S1x1x128x8192 .bf16)
variable {q k : Fin 8192 → Fin 192 → ℝ} {ι : Fin 512 → Fin 8192}
variable (hq : ∀ x d, x0 (ix3 0 x d) = ((q (ι x) d * (scale / Real.log 2) : ℝ) : EReal))
  (hk : ∀ j d, x1 (ix3 0 j d) = (k j d : EReal))

include hq hk in
theorem score_apply (j : Fin 8192) (x : Fin 512) :
    k0_pay3 x0 x1 (ix2 j x) = ((score q k (ι x) j * scale / Real.log 2 : ℝ) : EReal) := by
  pointwise [k0_pay3]
  simp only [hq, hk, ← EReal.coe_mul, ← coe_sum]
  rw [← score_rescaled]
  simp only [mul_comm]

/-- The maximum that starts from `-∞` changes nothing. -/
theorem from_bot (z : FVec Ideal S512 .f32) (x : Fin 512) :
    maximumf (k0_pay2 (F := Ideal)) (shapeCast S1x512 z shapeCasts_S512_S1x512) (ix2 0 x) = z (ix1 x) := by
  pointwise [k0_pay2]
  rw [Consts.minus_inf]
  exact max_eq_right bot_le

include hq hk in
theorem top_apply : ∃ M : Fin 512 → ℝ, ∀ x, k0_pay4 x0 x1 (ix2 0 x) = (M x : EReal) := by
  have all : ∀ y : S8192x512.Idx, ∃ r : ℝ, k0_pay3 x0 x1 y = (r : EReal) := fun y =>
    ⟨_, (congrArg _ (eq_ix2 y)).trans (score_apply hq hk (y 0) (y 1))⟩
  have top : ∀ x, ∃ r : ℝ, k0_pay4 x0 x1 (ix2 0 x) = (r : EReal) := fun x => by
    obtain ⟨r, hr⟩ := top_real (k0_pay3 x0 x1) reduces_S8192x512_S512 (.inl rfl) rfl (ix1 x) all (0 : Fin 8192)
    exact ⟨r, (from_bot _ x).trans hr⟩
  choose M hM using top
  exact ⟨M, hM⟩

variable {M : Fin 512 → ℝ} (hM : ∀ x, k0_pay4 x0 x1 (ix2 0 x) = (M x : EReal))

include hq hk hM in
theorem expo_apply (j : Fin 8192) (x : Fin 512) :
    k0_pay5 x0 x1 (ix2 j x) = ((Real.exp (score q k (ι x) j * scale - M x * Real.log 2) : ℝ) : EReal) := by
  rw [← exp_rescaled]
  pointwise [k0_pay5]
  show Ideal.exp2 _ = _
  rw [score_apply hq hk, hM, ← EReal.coe_sub, Ideal.exp2_coe]
  exact congrArg _ ((Real.rpow_def_of_pos (by norm_num : (0 : ℝ) < 2) _).trans (congrArg _ (mul_comm _ _)))

include hM in
theorem before_apply (x : Fin 512) : k0_pay6 x0 x1 (ix2 0 x) = 0 := by
  pointwise [k0_pay6, k0_pay2]
  show Ideal.exp2 _ = _
  rw [hM, Consts.minus_inf, EReal.bot_sub, Ideal.exp2_bot]

include hq hk hM in
theorem total_apply (x : Fin 512) :
    k0_pay7 x0 x1 (ix2 0 x) = ((∑ j, Real.exp (score q k (ι x) j * scale - M x * Real.log 2) : ℝ) : EReal) := by
  pointwise [k0_pay7]
  simp only [expo_apply hq hk hM, before_apply hM, ← coe_sum, Consts.zero, zero_mul, zero_add]

include hq hk in
/-- A row of the output. -/
theorem out_apply (x : Fin 512) (e : Fin 128) :
    k0_pay8 x0 x1 x2 (ix2 x e) = ∑ j, (weight q k (ι x) j : EReal) * x2 (ix4 0 0 e j) := by
  obtain ⟨M, hM⟩ := top_apply hq hk
  pointwise [k0_pay8]
  simp only [expo_apply hq hk hM, total_apply hq hk hM, before_apply hM, Consts.zero, zero_mul, zero_add]
  rw [Ideal.div_coe (total_shift_ne _ _ _ _), ← Consts.sum_mul_coe _ _ (one_div_nonneg.2 (total_shift_pos _ _ _ _).le)]
  refine Finset.sum_congr rfl fun j _ => ?_
  rw [← weight_shift q k (M x * Real.log 2), EReal.coe_mul, mul_assoc, mul_comm]

/-- How a statistic is put together. -/
theorem sum_apply (a b : FVec Ideal S1x512 .f32) (c : Ideal .f32) (x : Fin 512) :
    k0_pay1 a b c (ix4 0 0 0 x) = (a (ix2 0 x) + b (ix2 0 x) * c : EReal) := by
  pointwise! [k0_pay1]

theorem log_apply (x : Fin 512) : k0_pay9 x0 x1 (ix2 0 x) = Ideal.log (k0_pay7 x0 x1 (ix2 0 x)) := rfl

/-- The logarithm of a denominator after a shift, in base two, with the shift put back. -/
theorem log_shift (q k : Fin 8192 → Fin 192 → ℝ) (m : ℝ) (i : Fin 8192) :
    m + Real.log (∑ j, Real.exp (score q k i j * scale - m * Real.log 2)) * (Real.log 2)⁻¹
      = Real.log (total q k i) * (1 / Real.log 2) := by
  rw [total_shift, Real.log_mul (total_pos q k _).ne' (Real.exp_pos _).ne', Real.log_exp]
  have := log_two_ne
  field_simp
  ring

include hq hk in
/-- A statistic that is saved. -/
theorem lse_apply (x : Fin 512) :
    k0_pay1 (k0_pay4 x0 x1) (k0_pay9 x0 x1) (Named.named κ "inv_ln2" 0x3FB8AA3B#32) (ix4 0 0 0 x)
      = ((Real.log (total q k (ι x)) * (1 / Real.log 2) : ℝ) : EReal) := by
  obtain ⟨M, hM⟩ := top_apply hq hk
  rw [sum_apply, log_apply, hM, total_apply hq hk hM, inv_ln2, Ideal.log_coe, if_neg (not_le.2 (total_shift_pos _ _ _ _)),
    ← EReal.coe_mul, ← EReal.coe_add, log_shift]

end Cert.AttnFwdIdeal.Block

end
-- ==== Proof.AttnFwdArray.lean ====
/-
  The attention's forward call, the arrays after the run: every tile of 512 queries of a head gives its rows of the
  output, in the head's columns, and its part of the saved statistics.
-/
module

public import proofs.«01_k».proof.Proof.Gen.AttnFwdIdeal.Value
public import proofs.«01_k».proof.Proof.AttnFwdBlock

@[expose] public section

set_option maxRecDepth 16384

noncomputable section

open Idealize.ShloMosaic Idealize.ShloMosaic.TcCoe Idealize.SL.Sem
open Idealize.ShloMosaic.Pipeline (Dat)

namespace Cert.AttnFwdIdeal.Arrays

open Cert.AttnFwdIdeal Cert.AttnFwdIdeal.Gen
open Cert.Attention

variable (m : (ℓ : Loc nD τ sig) → Buf (Elt Ideal) ℓ) (c : Dev nD)

/-- The queries. -/
abbrev Q : FVec Ideal S8x8192x192 .f32 := m ((c : Thread nD τ).loc main_arg0)
/-- The keys. -/
abbrev K : FVec Ideal S8x8192x192 .f32 := m ((c : Thread nD τ).loc main_arg1)
/-- The values. -/
abbrev W : FVec Ideal S8x8192x128 .f32 := m ((c : Thread nD τ).loc main_arg2)

/-- The scale in base two, as the host takes it. -/
abbrev unit : FVec Ideal S_ .f32 := Host.divf (constant S_ .f32 0x3D93CD3A#32) (Host.log (constant S_ .f32 0x40000000#32))

theorem unit_eq (z : S_.Idx) : unit z = ((scale / Real.log 2 : ℝ) : EReal) := by
  show Ideal.div (Ideal.ofBits .f32 0x3D93CD3A#32) (Ideal.log (Ideal.ofBits .f32 0x40000000#32)) = _
  rw [Consts.attn_scale, Consts.two, log_two, Ideal.div_coe log_two_ne, ← EReal.coe_mul, scale, mul_one_div]

/-- Where each window's block stands at point `t`. -/
theorem idx : ∀ t : Fin cfg0.N, win0_0.index t = ![t.val / 16, t.val % 16, 0] ∧ win0_1.index t = ![t.val / 16, 0, 0]
    ∧ win0_2.index t = ![t.val / 16, 0, 0, 0] ∧ win0_3.index t = ![t.val % 16, t.val / 16]
    ∧ win0_4.index t = ![t.val / 16, t.val % 16 / 8, 0, t.val % 8] :=
  (by decide +kernel : ∀ t : Fin grid0.N, _)

theorem lt128 (t : Fin cfg0.N) : t.val < 128 := t.isLt.trans_eq (by decide)

/-- The head of a point. -/
def head (t : Fin cfg0.N) : Fin 8 := ⟨t.val / 16, by have := lt128 t; omega⟩

/-- The query that stands at row `x` of a point's tile. -/
def query (t : Fin cfg0.N) (x : Fin 512) : Fin 8192 := ⟨t.val % 16 * 512 + x.val, by omega⟩

variable (q k : Fin 8 → Fin 8192 → Fin 192 → ℝ)

/-- The output: every head's weighted means of the values, the heads side by side. -/
def outAll : FVec Ideal S8192x1024 .f32 := fun y =>
  let h : Fin 8 := ⟨(y 1).val / 128, by have : (y 1).val < 1024 := (y 1).isLt; omega⟩
  ∑ j, (weight (q h) (k h) (y 0) j : EReal) * W m c (ix3 h j ⟨(y 1).val % 128, by omega⟩)

/-- The saved statistics, half by half: the logarithms in base two of the softmax denominators. -/
def lseAll : FVec Ideal S8x2x1x4096 .f32 := fun y =>
  ((Real.log (total (q (y 0)) (k (y 0)) (row (y 1) (y 3))) * (1 / Real.log 2) : ℝ) : EReal)

theorem outAll_apply (i : Fin 8192) (h : Fin 8) (e : Fin 128) :
    outAll m c q k (ix2 i (col h e)) = ∑ j, (weight (q h) (k h) i j : EReal) * W m c (ix3 h j e) := by
  have eh : (⟨(col h e).val / 128, by have := (col h e).isLt; omega⟩ : Fin 8) = h := Fin.ext (by simp only [col]; omega)
  have ee : (⟨(col h e).val % 128, by omega⟩ : Fin 128) = e := Fin.ext (by simp only [col]; omega)
  refine Eq.trans ?_ (congrArg₂ (fun (h : Fin 8) (e : Fin 128) => ∑ j, (weight (q h) (k h) i j : EReal) * W m c (ix3 h j e)) eh ee)
  rfl

variable (hq : ∀ h i d, Q m c (ix3 h i d) = (q h i d : EReal)) (hk : ∀ h i d, K m c (ix3 h i d) = (k h i d : EReal))

include hq in
theorem block_q (t : Fin cfg0.N) (x : Fin 512) (d : Fin 192) :
    (iblk m c 0 t : Vec Ideal S1x512x192 .bf16) (ix3 0 x d) = ((q (head t) (query t x) d * (scale / Real.log 2) : ℝ) : EReal) := by
  have e : (((cfg0.win 0).blk t).view.emb (ix3 0 x d) : S8x8192x192.Idx) = ix3 (head t) (query t x) d := by
    blk_ext [idx t, head, query]
  blk_simp [iblk, V]
  entry_read
  rw [e]
  show Q m c (ix3 (head t) (query t x) d) * unit _ = _
  rw [unit_eq, hq, ← EReal.coe_mul]

include hk in
theorem block_k (t : Fin cfg0.N) (j : Fin 8192) (d : Fin 192) :
    (iblk m c 1 t : Vec Ideal S1x8192x192 .bf16) (ix3 0 j d) = (k (head t) j d : EReal) := by
  rw [← hk]
  have e : (((cfg0.win 1).blk t).view.emb (ix3 0 j d) : S8x8192x192.Idx) = ix3 (head t) j d := by
    blk_ext [idx t, head]
  blk_simp [iblk, V]
  entry_read
  rw [e]
  pointwise! []

theorem block_v (t : Fin cfg0.N) (e : Fin 128) (j : Fin 8192) :
    (iblk m c 2 t : Vec Ideal S1x1x128x8192 .bf16) (ix4 0 0 e j) = W m c (ix3 (head t) j e) := by
  have e : (((cfg0.win 2).blk t).view.emb (ix4 0 0 e j) : S8x1x128x8192.Idx) = ix4 (head t) 0 e j := by
    blk_ext [idx t, head]
  blk_simp [iblk, V]
  entry_read
  rw [e]
  pointwise! []

/-- What a point leaves of the output's block. -/
theorem out3_eq (x0 : Vec Ideal S1x512x192 .bf16) (x1 : Vec Ideal S1x8192x192 .bf16) (x2 : Vec Ideal S1x1x128x8192 .bf16) :
    out0_3 x0 x1 x2 = k0_pay8 x0 x1 x2 := by
  unfold out0_3
  frame_out

/-- What a point leaves of the statistics' block. -/
theorem out4_eq (x0 : Vec Ideal S1x512x192 .bf16) (x1 : Vec Ideal S1x8192x192 .bf16) (x2 : Vec Ideal S1x1x128x8192 .bf16) :
    out0_4 x0 x1 x2 = k0_pay1 (k0_pay4 x0 x1) (k0_pay9 x0 x1) (Named.named κ "inv_ln2" 0x3FB8AA3B#32) := by
  unfold out0_4
  frame_out

include hq hk in
theorem final_out : (dats m 0 c).arrAt 3 cfg0.N = outAll m c q k := by
  refine (dats m 0 c).arrAt_eq_of_covers 3 _ (by decide +kernel) fun t _ y => ?_
  obtain ⟨x, e, rfl⟩ : ∃ (x : Fin 512) (e : Fin 128), y = ix2 x e := ⟨y 0, y 1, eq_ix2 y⟩
  have at_ : (((cfg0.win 3).blk t).view.emb (ix2 x e) : S8192x1024.Idx) = ix2 (query t x) (col (head t) e) := by
    blk_ext [idx t, head, query, col]
  blk_simp
  rw [after0_3, at_, outAll_apply, out3_eq]
  refine (Block.out_apply _ (block_q m c q hq t) (block_k m c k hk t) x e).trans ?_
  exact Finset.sum_congr rfl fun j _ => congrArg _ (block_v m c t e j)

include hq hk in
theorem final_lse : (dats m 0 c).arrAt 4 cfg0.N = lseAll q k := by
  refine (dats m 0 c).arrAt_eq_of_covers 4 _ (by decide +kernel) fun t _ y => ?_
  obtain ⟨a, b, d, x, rfl⟩ : ∃ (a b d : Fin 1) (x : Fin 512), y = ix4 a b d x := ⟨y 0, y 1, y 2, y 3, eq_ix4 y⟩
  obtain rfl : a = 0 := Subsingleton.elim _ _
  obtain rfl : b = 0 := Subsingleton.elim _ _
  obtain rfl : d = 0 := Subsingleton.elim _ _
  have at_ : (((cfg0.win 4).blk t).view.emb (ix4 0 0 0 x) : S8x2x1x4096.Idx)
      = ix4 (head t) ⟨t.val % 16 / 8, by omega⟩ 0 ⟨t.val % 8 * 512 + x.val, by omega⟩ := by
    blk_ext [idx t, head]
  have row_ : row ⟨t.val % 16 / 8, by omega⟩ ⟨t.val % 8 * 512 + x.val, by omega⟩ = query t x :=
    Fin.ext (by simp only [row, query]; omega)
  blk_simp
  rw [after0_4, at_, out4_eq]
  refine (Block.lse_apply (block_q m c q hq t) (block_k m c k hk t) x).trans ?_
  rw [← row_]
  rfl

end Cert.AttnFwdIdeal.Arrays

end
-- ==== Proof.AttnFwdRef.lean ====
/-
  The reference of the attention's forward call, read at an index where queries and keys are finite: the weighted
  means of the values, and the logarithms in base two of the softmax denominators.
-/
module

public import proofs.«01_k».proof.Proof.Gen.AttnFwdRefIdeal.Read
public import proofs.«01_k».proof.Proof.AttnMath
public import proofs.«01_k».proof.Proof.Consts
public import Idealize.ShloMosaic.Lib.Pipeline.ValueKit

@[expose] public section

set_option maxRecDepth 16384

noncomputable section

open Idealize.ShloMosaic Idealize.ShloMosaic.TcCoe Idealize.SL.Sem

namespace Cert.AttnFwdRefIdeal.Math

open Cert.AttnFwdRefIdeal Cert.AttnFwdRefIdeal.Gen Cert.AttnFwdRefIdeal.Read
open Cert.Attention

variable (x0 x1 : FVec Ideal S8x8192x192 .f32) (x2 : FVec Ideal S8x8192x128 .f32)
variable (q k : Fin 8 → Fin 8192 → Fin 192 → ℝ)
variable (hq : ∀ h i d, x0 (ix3 h i d) = (q h i d : EReal)) (hk : ∀ h i d, x1 (ix3 h i d) = (k h i d : EReal))

include hq hk in
theorem scaled_apply (h : Fin 8) (i j : Fin 8192) :
    val_main_v2 (F := Ideal) x0 x1 (ix3 h i j) = ((score (q h) (k h) i j * scale : ℝ) : EReal) := by
  pointwise [val_main_v2, val_main_v1, val_main_v0, val_main_cst]
  simp only [hq, hk, Consts.attn_scale, score, scale, EReal.coe_mul, coe_sum]

include hq hk in
/-- The greatest score of each query, which the softmax subtracts, is a real. -/
theorem top_apply : ∃ m : Fin 8 → Fin 8192 → ℝ, ∀ h i, val_main_v5 (F := Ideal) x0 x1 (ix2 h i) = (m h i : EReal) := by
  have top : ∀ h i, ∃ r : ℝ, val_main_v5 (F := Ideal) x0 x1 (ix2 h i) = (r : EReal) := fun h i => by
    obtain ⟨r, hr⟩ := reduce_max_real (val_main_v2 (F := Ideal) x0 x1) (val_main_cst_0 (F := Ideal))
      reducesTo_S8x8192x8192_S8x8192_d2 (by decide) h_S_ (ix2 h i)
      (fun y => ⟨_, (congrArg _ (eq_ix3 y)).trans (scaled_apply x0 x1 q k hq hk (y 0) (y 1) (y 2))⟩) Consts.minus_inf ⟨0, by decide⟩
    refine ⟨r, ?_⟩
    rw [val_main_v5_apply, val_main_v3, hr]
    show max (Ideal.ofBits .f32 0xFF800000#32) _ = _
    rw [Consts.minus_inf]
    exact max_eq_right bot_le
  choose m hm using top
  exact ⟨m, hm⟩

include hq hk in
theorem weight_apply (h : Fin 8) (i j : Fin 8192) :
    val_main_v13 (F := Ideal) x0 x1 (ix3 h i j) = ((weight (q h) (k h) i j : ℝ) : EReal) := by
  obtain ⟨m, hm⟩ := top_apply x0 x1 q k hq hk
  have expos : ∀ j', val_main_v9 (F := Ideal) x0 x1 (ix3 h i j')
      = ((Real.exp (score (q h) (k h) i j' * scale - m h i) : ℝ) : EReal) := fun j' => by
    pointwise [val_main_v9, val_main_v8, val_main_v7, val_main_v6]
    rw [scaled_apply x0 x1 q k hq hk, hm, ← EReal.coe_sub, Ideal.exp_coe]
  pointwise [val_main_v13, val_main_v12, val_main_v11, val_main_v10, val_main_cst_2]
  simp only [expos, ← coe_sum]
  rw [Ideal.div_coe (total_shift_ne _ _ _ _), ← EReal.coe_mul, weight_shift]

include hq hk in
/-- The output: head `h`'s weighted mean of the values, which may be any extended reals. -/
theorem out_apply (i : Fin 8192) (h : Fin 8) (e : Fin 128) :
    val_main_v22 (F := Ideal) x0 x1 x2 (ix2 i (col h e)) = ∑ j, (weight (q h) (k h) i j : EReal) * x2 (ix3 h j e) := by
  have body : val_main_v14 (F := Ideal) x0 x1 x2 (ix3 h i e) = ∑ j, (weight (q h) (k h) i j : EReal) * x2 (ix3 h j e) := by
    pointwise [val_main_v14]
    simp only [weight_apply x0 x1 q k hq hk]
  refine Eq.trans ?_ body
  rw [val_main_v22_apply, val_main_v21_apply]
  congr 1
  funext a
  fin_cases a <;> exact Fin.ext (by simp [col, ix2, ix3] <;> omega)

include hq hk in
/-- The logarithm in base two of a query's softmax denominator. -/
theorem lse_apply (h : Fin 8) (p : Fin 2) (x : Fin 4096) :
    val_main_v23 (F := Ideal) x0 x1 (ix4 h p 0 x)
      = ((Real.log (total (q h) (k h) (row p x)) * (1 / Real.log 2) : ℝ) : EReal) := by
  have expos : ∀ i j, val_main_v15 (F := Ideal) x0 x1 (ix3 h i j) = ((expo (q h) (k h) i j : ℝ) : EReal) := fun i j => by
    pointwise [val_main_v15]
    rw [scaled_apply x0 x1 q k hq hk, Ideal.exp_coe, expo]
  have body : ∀ i, val_main_v20 (F := Ideal) x0 x1 (ix2 h i)
      = ((Real.log (total (q h) (k h) i) * (1 / Real.log 2) : ℝ) : EReal) := fun i => by
    pointwise [val_main_v20, val_main_v19, val_main_v18, val_main_v17, val_main_v16, val_main_cst_3, val_main_cst_4]
    simp only [expos, ← coe_sum]
    rw [Consts.two, log_two, Ideal.div_coe log_two_ne]
    change Ideal.log ((total (q h) (k h) i : ℝ) : EReal) * _ = _
    rw [Ideal.log_coe, if_neg (not_le.2 (total_pos _ _ _)), ← EReal.coe_mul]
  rw [← body]
  pointwise! [val_main_v23, row]

end Cert.AttnFwdRefIdeal.Math

end
-- ==== Proof.AttnFwdPair.lean ====
/-
  The attention's forward call: for finite queries and keys kernel and reference end with the same two arrays.
-/
module

public import proofs.«01_k».proof.Defs
public import proofs.«01_k».proof.Proof.AttnFwdArray
public import proofs.«01_k».proof.Proof.AttnFwdRef
public import proofs.«01_k».proof.Proof.Gen.AttnFwd.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.AttnFwd

open Cert.AttnFwdIdeal.Arrays Cert.Attention

/-- The side condition of the precondition's printed text. -/
theorem scores_facts : Cert.Pre_bounded_scores.Facts := ⟨by decide⟩

variable [Cert.Pre_bounded_scores.Facts]

/-- Where the precondition holds queries and keys are real. -/
theorem reals {m : (ℓ : Loc AttnFwdIdeal.nD AttnFwdIdeal.τ AttnFwdIdeal.sig) → Buf (Elt Ideal) ℓ}
    (h : Cert.Pre_AttnFwdIdeal_bounded_scores m) (c : Dev AttnFwdIdeal.nD) :
    ∃ q k : Fin 8 → Fin 8192 → Fin 192 → ℝ,
      (∀ h i d, Q m c (ix3 h i d) = (q h i d : EReal)) ∧ ∀ h i d, K m c (ix3 h i d) = (k h i d : EReal) := by
  obtain ⟨h0, h1⟩ := h c
  choose q hq using fun h i d => Consts.real_of_abs_lt (x := Q m c (ix3 h i d)) (congrFun h0 (ix3 h i d))
  choose k hk using fun h i d => Consts.real_of_abs_lt (x := K m c (ix3 h i d)) (congrFun h1 (ix3 h i d))
  exact ⟨q, k, hq, hk⟩

/-- The output that the reference computes. -/
theorem ref_out (m : (ℓ : Loc AttnFwdIdeal.nD AttnFwdIdeal.τ AttnFwdIdeal.sig) → Buf (Elt Ideal) ℓ) (c : Dev AttnFwdIdeal.nD)
    (x0 x1 : FVec Ideal AttnFwdRefIdeal.S8x8192x192 .f32) (x2 : FVec Ideal AttnFwdRefIdeal.S8x8192x128 .f32)
    (q k : Fin 8 → Fin 8192 → Fin 192 → ℝ)
    (hq : ∀ h i d, x0 (ix3 h i d) = (q h i d : EReal)) (hk : ∀ h i d, x1 (ix3 h i d) = (k h i d : EReal)) (hv : x2 = W m c) :
    AttnFwdRefIdeal.Read.val_main_v22 (F := Ideal) x0 x1 x2 = outAll m c q k := by
  funext y
  obtain ⟨i, h, e, rfl⟩ : ∃ (i : Fin 8192) (h : Fin 8) (e : Fin 128), y = ix2 i (col h e) :=
    ⟨y 0, ⟨(y 1).val / 128, by have : (y 1).val < 1024 := (y 1).isLt; omega⟩, ⟨(y 1).val % 128, by omega⟩,
      (eq_ix2 y).trans (congrArg (ix2 (y 0)) (Fin.ext (by simp only [col]; omega)))⟩
  rw [AttnFwdRefIdeal.Math.out_apply x0 x1 x2 q k hq hk, outAll_apply, hv]

/-- The statistics that the reference computes. -/
theorem ref_lse (x0 x1 : FVec Ideal AttnFwdRefIdeal.S8x8192x192 .f32) (q k : Fin 8 → Fin 8192 → Fin 192 → ℝ)
    (hq : ∀ h i d, x0 (ix3 h i d) = (q h i d : EReal)) (hk : ∀ h i d, x1 (ix3 h i d) = (k h i d : EReal)) :
    AttnFwdRefIdeal.Read.val_main_v23 (F := Ideal) x0 x1 = lseAll q k := by
  funext y
  obtain ⟨h, p, z, x, rfl⟩ : ∃ (h : Fin 8) (p : Fin 2) (z : Fin 1) (x : Fin 4096), y = ix4 h p z x :=
    ⟨y 0, y 1, y 2, y 3, eq_ix4 y⟩
  obtain rfl : z = 0 := Subsingleton.elim _ _
  exact AttnFwdRefIdeal.Math.lse_apply x0 x1 q k hq hk h p x

set_option maxHeartbeats 1600000 in
/-- Both programs end with the weighted means of the values and the denominators' logarithms. -/
theorem equal : Cert.algebraic_AttnFwdIdeal_AttnFwdRefIdeal_pre_bounded_scores := by
  pair_intro
  · run_from Cert.AttnFwdIdeal.Value.run_blocks m g
  · refine θ_run_mono (Cert.AttnFwdRefIdeal.Value.run (F := Ideal) m' g') fun r h c => ?_
    obtain ⟨q, k, hq, hk⟩ := reals hpre c
    obtain ⟨a0, a1, a2⟩ := hagree c
    have hq' := fun h i e => (congrFun a0 (ix3 h i e)).trans (hq h i e)
    have hk' := fun h i e => (congrFun a1 (ix3 h i e)).trans (hk h i e)
    refine ⟨(h c).1.trans ?_, (h c).2.1.trans ?_, (h c).2.2⟩
    · exact (AttnFwdRefIdeal.Read.val_main_v22_eq _ _ _).trans
        ((ref_out m c _ _ _ q k hq' hk' a2).trans (final_out m c q k hq hk).symm)
    · exact (AttnFwdRefIdeal.Read.val_main_v23_eq _ _).trans
        ((ref_lse _ _ q k hq' hk').trans (final_lse m c q k hq hk).symm)

omit [Cert.Pre_bounded_scores.Facts] in
/-- The reference ends, with its arguments unchanged. -/
theorem frame_ref : Cert.quiescent_AttnFwdRefIdeal := fun m g _ =>
  (θ_run Cert.AttnFwdRefIdeal.defs _ _).mono (fun r h => ⟨fun c => (h c).2.2, sem_eq_zero_of_no_sems (by decide) r.2⟩)
    (Cert.AttnFwdRefIdeal.Value.run (F := Ideal) m g)

/-- The kernel's frame under the precondition. -/
theorem frame_ideal_bounded : Cert.quiescent_AttnFwdIdeal_pre_bounded_scores := fun m ρ _ => Cert.AttnFwdIdeal.Gen.frame m ρ

/-- The reference's frame under the precondition. -/
theorem frame_ref_bounded : Cert.quiescent_AttnFwdRefIdeal_pre_bounded_scores := fun m ρ _ => frame_ref m ρ trivial

end Cert.Proof.AttnFwd

end
-- ==== Proof.lean ====
/-
  The claims of `Cert.Claim`, assembled: for every pair of programs the frames of the kernel, of its
  idealization and of the reference, the idealization's faithfulness, and the equality of the results.
-/
module

public import proofs.«01_k».proof.Defs
public import proofs.«01_k».proof.Proof.Gen.NormBack
public import proofs.«01_k».proof.Proof.Gen.NormBack.Skeleton
public import proofs.«01_k».proof.Proof.Gen.NormBack.Launch
public import proofs.«01_k».proof.Proof.Gen.NormBack.Points
public import proofs.«01_k».proof.Proof.Gen.NormBack.Frame
public import proofs.«01_k».proof.Proof.Gen.NormBackIdeal
public import proofs.«01_k».proof.Proof.Gen.NormBackIdeal.Skeleton
public import proofs.«01_k».proof.Proof.Gen.NormBackIdeal.Launch
public import proofs.«01_k».proof.Proof.Gen.NormBackIdeal.Points
public import proofs.«01_k».proof.Proof.Gen.NormBackIdeal.Frame
public import proofs.«01_k».proof.Proof.Gen.NormBackIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.NormPair
public import proofs.«01_k».proof.Proof.Gen.GateBack
public import proofs.«01_k».proof.Proof.Gen.GateBack.Skeleton
public import proofs.«01_k».proof.Proof.Gen.GateBack.Launch
public import proofs.«01_k».proof.Proof.Gen.GateBack.Points
public import proofs.«01_k».proof.Proof.Gen.GateBack.Frame
public import proofs.«01_k».proof.Proof.Gen.GateBackIdeal
public import proofs.«01_k».proof.Proof.Gen.GateBackIdeal.Skeleton
public import proofs.«01_k».proof.Proof.Gen.GateBackIdeal.Launch
public import proofs.«01_k».proof.Proof.Gen.GateBackIdeal.Points
public import proofs.«01_k».proof.Proof.Gen.GateBackIdeal.Frame
public import proofs.«01_k».proof.Proof.Gen.GateBackIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.GatePair
public import proofs.«01_k».proof.Proof.Gen.LossBack
public import proofs.«01_k».proof.Proof.Gen.LossBack.Skeleton
public import proofs.«01_k».proof.Proof.Gen.LossBack.Launch
public import proofs.«01_k».proof.Proof.Gen.LossBack.Points
public import proofs.«01_k».proof.Proof.Gen.LossBack.Frame
public import proofs.«01_k».proof.Proof.Gen.LossBackIdeal
public import proofs.«01_k».proof.Proof.Gen.LossBackIdeal.Skeleton
public import proofs.«01_k».proof.Proof.Gen.LossBackIdeal.Launch
public import proofs.«01_k».proof.Proof.Gen.LossBackIdeal.Points
public import proofs.«01_k».proof.Proof.Gen.LossBackIdeal.Frame
public import proofs.«01_k».proof.Proof.Gen.LossBackIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.LossPair
public import proofs.«01_k».proof.Proof.Gen.AttnBack
public import proofs.«01_k».proof.Proof.Gen.AttnBack.Skeleton
public import proofs.«01_k».proof.Proof.Gen.AttnBack.Launch
public import proofs.«01_k».proof.Proof.Gen.AttnBack.Points
public import proofs.«01_k».proof.Proof.Gen.AttnBackIdeal
public import proofs.«01_k».proof.Proof.Gen.AttnBackIdeal.Skeleton
public import proofs.«01_k».proof.Proof.Gen.AttnBackIdeal.Launch
public import proofs.«01_k».proof.Proof.Gen.AttnBackIdeal.Points
public import proofs.«01_k».proof.Proof.Gen.AttnBackIdeal.Loops
public import proofs.«01_k».proof.Proof.AttnRuns
public import proofs.«01_k».proof.Proof.Gen.AttnRefIdeal
public import proofs.«01_k».proof.Proof.Gen.AttnRefIdeal.Run
public import proofs.«01_k».proof.Proof.Gen.AttnRefIdeal.Read
public import proofs.«01_k».proof.Proof.AttnPair
public import proofs.«01_k».proof.Proof.Gen.CgateBack
public import proofs.«01_k».proof.Proof.Gen.CgateBack.Skeleton
public import proofs.«01_k».proof.Proof.Gen.CgateBack.Launch
public import proofs.«01_k».proof.Proof.Gen.CgateBack.Points
public import proofs.«01_k».proof.Proof.Gen.CgateBack.Frame
public import proofs.«01_k».proof.Proof.Gen.CgateBackIdeal
public import proofs.«01_k».proof.Proof.Gen.CgateBackIdeal.Skeleton
public import proofs.«01_k».proof.Proof.Gen.CgateBackIdeal.Launch
public import proofs.«01_k».proof.Proof.Gen.CgateBackIdeal.Points
public import proofs.«01_k».proof.Proof.Gen.CgateBackIdeal.Frame
public import proofs.«01_k».proof.Proof.Gen.CgateBackIdeal.Value
public import proofs.«01_k».proof.Proof.Gen.CgateRefIdeal
public import proofs.«01_k».proof.Proof.Gen.CgateRefIdeal.Run
public import proofs.«01_k».proof.Proof.Gen.CgateRefIdeal.Read
public import proofs.«01_k».proof.Proof.CgatePair
public import proofs.«01_k».proof.Proof.Gen.SguBack
public import proofs.«01_k».proof.Proof.Gen.SguBack.Skeleton
public import proofs.«01_k».proof.Proof.Gen.SguBack.Launch
public import proofs.«01_k».proof.Proof.Gen.SguBack.Points
public import proofs.«01_k».proof.Proof.Gen.SguBack.Frame
public import proofs.«01_k».proof.Proof.Gen.SguBackIdeal
public import proofs.«01_k».proof.Proof.Gen.SguBackIdeal.Skeleton
public import proofs.«01_k».proof.Proof.Gen.SguBackIdeal.Launch
public import proofs.«01_k».proof.Proof.Gen.SguBackIdeal.Points
public import proofs.«01_k».proof.Proof.Gen.SguBackIdeal.Frame
public import proofs.«01_k».proof.Proof.Gen.SguBackIdeal.Value
public import proofs.«01_k».proof.Proof.Gen.SguRefIdeal
public import proofs.«01_k».proof.Proof.Gen.SguRefIdeal.Run
public import proofs.«01_k».proof.Proof.Gen.SguRefIdeal.Read
public import proofs.«01_k».proof.Proof.SguPair
public import proofs.«01_k».proof.Proof.Gen.ConvBack
public import proofs.«01_k».proof.Proof.Gen.ConvBack.Skeleton
public import proofs.«01_k».proof.Proof.Gen.ConvBack.Launch
public import proofs.«01_k».proof.Proof.Gen.ConvBack.Points
public import proofs.«01_k».proof.Proof.Gen.ConvBack.Frame
public import proofs.«01_k».proof.Proof.Gen.ConvBackIdeal
public import proofs.«01_k».proof.Proof.Gen.ConvBackIdeal.Skeleton
public import proofs.«01_k».proof.Proof.Gen.ConvBackIdeal.Launch
public import proofs.«01_k».proof.Proof.Gen.ConvBackIdeal.Points
public import proofs.«01_k».proof.Proof.Gen.ConvBackIdeal.Frame
public import proofs.«01_k».proof.Proof.Gen.ConvBackIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.ConvPair
public import proofs.«01_k».proof.Proof.Gen.MlaBack
public import proofs.«01_k».proof.Proof.Gen.MlaBack.Skeleton
public import proofs.«01_k».proof.Proof.Gen.MlaBack.Launch
public import proofs.«01_k».proof.Proof.Gen.MlaBack.Points
public import proofs.«01_k».proof.Proof.Gen.MlaBack.Frame
public import proofs.«01_k».proof.Proof.Gen.MlaBackIdeal
public import proofs.«01_k».proof.Proof.Gen.MlaBackIdeal.Skeleton
public import proofs.«01_k».proof.Proof.Gen.MlaBackIdeal.Launch
public import proofs.«01_k».proof.Proof.Gen.MlaBackIdeal.Points
public import proofs.«01_k».proof.Proof.Gen.MlaBackIdeal.Frame
public import proofs.«01_k».proof.Proof.Gen.MlaBackIdeal.Value
public import proofs.«01_k».proof.Proof.Gen.MlaRefIdeal
public import proofs.«01_k».proof.Proof.Gen.MlaRefIdeal.Run
public import proofs.«01_k».proof.Proof.Gen.MlaRefIdeal.Read
public import proofs.«01_k».proof.Proof.MlaPair
public import proofs.«01_k».proof.Proof.Gen.PleFwd
public import proofs.«01_k».proof.Proof.Gen.PleFwd.Skeleton
public import proofs.«01_k».proof.Proof.Gen.PleFwd.Launch
public import proofs.«01_k».proof.Proof.Gen.PleFwd.Points
public import proofs.«01_k».proof.Proof.Gen.PleFwd.Frame
public import proofs.«01_k».proof.Proof.Gen.PleFwdIdeal
public import proofs.«01_k».proof.Proof.Gen.PleFwdIdeal.Skeleton
public import proofs.«01_k».proof.Proof.Gen.PleFwdIdeal.Launch
public import proofs.«01_k».proof.Proof.Gen.PleFwdIdeal.Points
public import proofs.«01_k».proof.Proof.Gen.PleFwdIdeal.Frame
public import proofs.«01_k».proof.Proof.Gen.PleFwdIdeal.Value
public import proofs.«01_k».proof.Proof.Gen.PleFwdRefIdeal
public import proofs.«01_k».proof.Proof.Gen.PleFwdRefIdeal.Run
public import proofs.«01_k».proof.Proof.Gen.PleFwdRefIdeal.Read
public import proofs.«01_k».proof.Proof.PleFwdPair
public import proofs.«01_k».proof.Proof.Gen.CgateFwd
public import proofs.«01_k».proof.Proof.Gen.CgateFwd.Skeleton
public import proofs.«01_k».proof.Proof.Gen.CgateFwd.Launch
public import proofs.«01_k».proof.Proof.Gen.CgateFwd.Points
public import proofs.«01_k».proof.Proof.Gen.CgateFwd.Frame
public import proofs.«01_k».proof.Proof.Gen.CgateFwdIdeal
public import proofs.«01_k».proof.Proof.Gen.CgateFwdIdeal.Skeleton
public import proofs.«01_k».proof.Proof.Gen.CgateFwdIdeal.Launch
public import proofs.«01_k».proof.Proof.Gen.CgateFwdIdeal.Points
public import proofs.«01_k».proof.Proof.Gen.CgateFwdIdeal.Frame
public import proofs.«01_k».proof.Proof.Gen.CgateFwdIdeal.Value
public import proofs.«01_k».proof.Proof.Gen.CgateFwdRefIdeal
public import proofs.«01_k».proof.Proof.Gen.CgateFwdRefIdeal.Run
public import proofs.«01_k».proof.Proof.Gen.CgateFwdRefIdeal.Read
public import proofs.«01_k».proof.Proof.CgateFwdPair
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.AttnFwdPair
public import Idealize.ShloMosaic.Adequacy
public import Idealize.ShloMosaic.Init

@[expose] public section

noncomputable section

namespace Cert.Proof

open Idealize.ShloMosaic Idealize.SL.Sem

theorem claim : Cert.Claim := ⟨Cert.NormBack.Gen.facts,
  Cert.NormBackIdeal.Gen.facts,
  Cert.NormRefIdeal.Gen.facts,
  Cert.GateBack.Gen.facts,
  Cert.GateBackIdeal.Gen.facts,
  Cert.GateRefIdeal.Gen.facts,
  Cert.LossBack.Gen.facts,
  Cert.LossBackIdeal.Gen.facts,
  Cert.LossRefIdeal.Gen.facts,
  Cert.AttnBack.Gen.facts,
  Cert.AttnBackIdeal.Gen.facts,
  Cert.AttnRefIdeal.Gen.facts,
  Cert.CgateBack.Gen.facts,
  Cert.CgateBackIdeal.Gen.facts,
  Cert.CgateRefIdeal.Gen.facts,
  Cert.SguBack.Gen.facts,
  Cert.SguBackIdeal.Gen.facts,
  Cert.SguRefIdeal.Gen.facts,
  Cert.ConvBack.Gen.facts,
  Cert.ConvBackIdeal.Gen.facts,
  Cert.ConvRefIdeal.Gen.facts,
  Cert.MlaBack.Gen.facts,
  Cert.MlaBackIdeal.Gen.facts,
  Cert.MlaRefIdeal.Gen.facts,
  Cert.PleFwd.Gen.facts,
  Cert.PleFwdIdeal.Gen.facts,
  Cert.PleFwdRefIdeal.Gen.facts,
  Cert.CgateFwd.Gen.facts,
  Cert.CgateFwdIdeal.Gen.facts,
  Cert.CgateFwdRefIdeal.Gen.facts,
  Cert.AttnFwd.Gen.facts,
  Cert.AttnFwdIdeal.Gen.facts,
  Cert.AttnFwdRefIdeal.Gen.facts,
  Attn.bounded_facts,
  AttnFwd.scores_facts,
  Conv.written_facts, by
  exact ⟨fun m ρ _ => Cert.NormBack.Gen.frame m ρ,
    fun m ρ _ => Cert.NormBackIdeal.Gen.frame m ρ,
    Norm.frame_ref,
    fun m ρ _ => Cert.GateBack.Gen.frame m ρ,
    fun m ρ _ => Cert.GateBackIdeal.Gen.frame m ρ,
    Gate.frame_ref,
    fun m ρ _ => Cert.LossBack.Gen.frame m ρ,
    fun m ρ _ => Cert.LossBackIdeal.Gen.frame m ρ,
    Loss.frame_ref,
    Attn.frame,
    Attn.frame_ideal,
    @Attn.frame_ideal_bounded Attn.bounded_facts,
    Attn.frame_ref,
    @Attn.frame_ref_bounded Attn.bounded_facts,
    fun m ρ _ => Cert.CgateBack.Gen.frame m ρ,
    fun m ρ _ => Cert.CgateBackIdeal.Gen.frame m ρ,
    Cgate.frame_ref,
    fun m ρ _ => Cert.SguBack.Gen.frame m ρ,
    fun m ρ _ => Cert.SguBackIdeal.Gen.frame m ρ,
    Sgu.frame_ref,
    fun m ρ _ => Cert.ConvBack.Gen.frame m ρ,
    fun m ρ _ => Cert.ConvBackIdeal.Gen.frame m ρ,
    Conv.frame_ref,
    fun m ρ _ => Cert.MlaBack.Gen.frame m ρ,
    fun m ρ _ => Cert.MlaBackIdeal.Gen.frame m ρ,
    Mla.frame_ref,
    fun m ρ _ => Cert.PleFwd.Gen.frame m ρ,
    fun m ρ _ => Cert.PleFwdIdeal.Gen.frame m ρ,
    PleFwd.frame_ref,
    fun m ρ _ => Cert.CgateFwd.Gen.frame m ρ,
    fun m ρ _ => Cert.CgateFwdIdeal.Gen.frame m ρ,
    CgateFwd.frame_ref,
    fun m ρ _ => Cert.AttnFwd.Gen.frame m ρ,
    fun m ρ _ => Cert.AttnFwdIdeal.Gen.frame m ρ,
    @AttnFwd.frame_ideal_bounded AttnFwd.scores_facts,
    AttnFwd.frame_ref,
    @AttnFwd.frame_ref_bounded AttnFwd.scores_facts,
    trivial,
    Norm.equal,
    trivial,
    Gate.equal,
    trivial,
    Loss.equal,
    IdealRules.named_const.statement Cert.AttnBackIdeal.κ "ln2" .f32 0x3F317218#32 ((Real.log 2 : ℝ) : EReal) rfl,
    @Attn.equal Attn.bounded_facts,
    trivial,
    Cgate.equal,
    trivial,
    Sgu.equal,
    trivial,
    Conv.equal,
    trivial,
    Mla.equal,
    trivial,
    PleFwd.equal,
    trivial,
    CgateFwd.equal,
    IdealRules.named_const.statement Cert.AttnFwdIdeal.κ "inv_ln2" .f32 0x3FB8AA3B#32 (((Real.log 2)⁻¹ : ℝ) : EReal) rfl,
    @AttnFwd.equal AttnFwd.scores_facts⟩⟩

end Cert.Proof

end
